-- ==== Defs.lean ====
def Pre_Kd4 (m : (ℓ : Loc Cert.Kd4.nD Cert.Kd4.τ Cert.Kd4.sig) → Buf (Elt Bits) ℓ) : Prop :=
  True

def Pre_Kd4Ideal (m : (ℓ : Loc Cert.Kd4Ideal.nD Cert.Kd4Ideal.τ Cert.Kd4Ideal.sig) → Buf (Elt Ideal) ℓ) : Prop :=
  True

def Pre_RefKd4Ideal (m : (ℓ : Loc Cert.RefKd4Ideal.nD Cert.RefKd4Ideal.τ Cert.RefKd4Ideal.sig) → Buf (Elt Ideal) ℓ) : Prop :=
  True

def Pre_Scan4 (m : (ℓ : Loc Cert.Scan4.nD Cert.Scan4.τ Cert.Scan4.sig) → Buf (Elt Bits) ℓ) : Prop :=
  True

def Pre_Scan4Ideal (m : (ℓ : Loc Cert.Scan4Ideal.nD Cert.Scan4Ideal.τ Cert.Scan4Ideal.sig) → Buf (Elt Ideal) ℓ) : Prop :=
  True

def Pre_RefScan4Ideal (m : (ℓ : Loc Cert.RefScan4Ideal.nD Cert.RefScan4Ideal.τ Cert.RefScan4Ideal.sig) → Buf (Elt Ideal) ℓ) : Prop :=
  True

def Pre_Sel4 (m : (ℓ : Loc Cert.Sel4.nD Cert.Sel4.τ Cert.Sel4.sig) → Buf (Elt Bits) ℓ) : Prop :=
  True

def Pre_Sel4Ideal (m : (ℓ : Loc Cert.Sel4Ideal.nD Cert.Sel4Ideal.τ Cert.Sel4Ideal.sig) → Buf (Elt Ideal) ℓ) : Prop :=
  True

def Pre_RefSel4Ideal (m : (ℓ : Loc Cert.RefSel4Ideal.nD Cert.RefSel4Ideal.τ Cert.RefSel4Ideal.sig) → Buf (Elt Ideal) ℓ) : Prop :=
  True

def Pre_Kd3 (m : (ℓ : Loc Cert.Kd3.nD Cert.Kd3.τ Cert.Kd3.sig) → Buf (Elt Bits) ℓ) : Prop :=
  True

def Pre_Kd3Ideal (m : (ℓ : Loc Cert.Kd3Ideal.nD Cert.Kd3Ideal.τ Cert.Kd3Ideal.sig) → Buf (Elt Ideal) ℓ) : Prop :=
  True

def Pre_RefKd3Ideal (m : (ℓ : Loc Cert.RefKd3Ideal.nD Cert.RefKd3Ideal.τ Cert.RefKd3Ideal.sig) → Buf (Elt Ideal) ℓ) : Prop :=
  True

def Pre_Scan3 (m : (ℓ : Loc Cert.Scan3.nD Cert.Scan3.τ Cert.Scan3.sig) → Buf (Elt Bits) ℓ) : Prop :=
  True

def Pre_Scan3Ideal (m : (ℓ : Loc Cert.Scan3Ideal.nD Cert.Scan3Ideal.τ Cert.Scan3Ideal.sig) → Buf (Elt Ideal) ℓ) : Prop :=
  True

def Pre_RefScan3Ideal (m : (ℓ : Loc Cert.RefScan3Ideal.nD Cert.RefScan3Ideal.τ Cert.RefScan3Ideal.sig) → Buf (Elt Ideal) ℓ) : Prop :=
  True

def Pre_Sel3 (m : (ℓ : Loc Cert.Sel3.nD Cert.Sel3.τ Cert.Sel3.sig) → Buf (Elt Bits) ℓ) : Prop :=
  True

def Pre_Sel3Ideal (m : (ℓ : Loc Cert.Sel3Ideal.nD Cert.Sel3Ideal.τ Cert.Sel3Ideal.sig) → Buf (Elt Ideal) ℓ) : Prop :=
  True

def Pre_RefSel3Ideal (m : (ℓ : Loc Cert.RefSel3Ideal.nD Cert.RefSel3Ideal.τ Cert.RefSel3Ideal.sig) → Buf (Elt Ideal) ℓ) : Prop :=
  True

def Pre_Kd2 (m : (ℓ : Loc Cert.Kd2.nD Cert.Kd2.τ Cert.Kd2.sig) → Buf (Elt Bits) ℓ) : Prop :=
  True

def Pre_Kd2Ideal (m : (ℓ : Loc Cert.Kd2Ideal.nD Cert.Kd2Ideal.τ Cert.Kd2Ideal.sig) → Buf (Elt Ideal) ℓ) : Prop :=
  True

def Pre_RefKd2Ideal (m : (ℓ : Loc Cert.RefKd2Ideal.nD Cert.RefKd2Ideal.τ Cert.RefKd2Ideal.sig) → Buf (Elt Ideal) ℓ) : Prop :=
  True

def Pre_Scan2 (m : (ℓ : Loc Cert.Scan2.nD Cert.Scan2.τ Cert.Scan2.sig) → Buf (Elt Bits) ℓ) : Prop :=
  True

def Pre_Scan2Ideal (m : (ℓ : Loc Cert.Scan2Ideal.nD Cert.Scan2Ideal.τ Cert.Scan2Ideal.sig) → Buf (Elt Ideal) ℓ) : Prop :=
  True

def Pre_RefScan2Ideal (m : (ℓ : Loc Cert.RefScan2Ideal.nD Cert.RefScan2Ideal.τ Cert.RefScan2Ideal.sig) → Buf (Elt Ideal) ℓ) : Prop :=
  True

def Pre_Sel2 (m : (ℓ : Loc Cert.Sel2.nD Cert.Sel2.τ Cert.Sel2.sig) → Buf (Elt Bits) ℓ) : Prop :=
  True

def Pre_Sel2Ideal (m : (ℓ : Loc Cert.Sel2Ideal.nD Cert.Sel2Ideal.τ Cert.Sel2Ideal.sig) → Buf (Elt Ideal) ℓ) : Prop :=
  True

def Pre_RefSel2Ideal (m : (ℓ : Loc Cert.RefSel2Ideal.nD Cert.RefSel2Ideal.τ Cert.RefSel2Ideal.sig) → Buf (Elt Ideal) ℓ) : Prop :=
  True

def Pre_Kd1 (m : (ℓ : Loc Cert.Kd1.nD Cert.Kd1.τ Cert.Kd1.sig) → Buf (Elt Bits) ℓ) : Prop :=
  True

def Pre_Kd1Ideal (m : (ℓ : Loc Cert.Kd1Ideal.nD Cert.Kd1Ideal.τ Cert.Kd1Ideal.sig) → Buf (Elt Ideal) ℓ) : Prop :=
  True

def Pre_RefKd1Ideal (m : (ℓ : Loc Cert.RefKd1Ideal.nD Cert.RefKd1Ideal.τ Cert.RefKd1Ideal.sig) → Buf (Elt Ideal) ℓ) : Prop :=
  True

def Pre_Scan1 (m : (ℓ : Loc Cert.Scan1.nD Cert.Scan1.τ Cert.Scan1.sig) → Buf (Elt Bits) ℓ) : Prop :=
  True

def Pre_Scan1Ideal (m : (ℓ : Loc Cert.Scan1Ideal.nD Cert.Scan1Ideal.τ Cert.Scan1Ideal.sig) → Buf (Elt Ideal) ℓ) : Prop :=
  True

def Pre_RefScan1Ideal (m : (ℓ : Loc Cert.RefScan1Ideal.nD Cert.RefScan1Ideal.τ Cert.RefScan1Ideal.sig) → Buf (Elt Ideal) ℓ) : Prop :=
  True

def Pre_Sel1 (m : (ℓ : Loc Cert.Sel1.nD Cert.Sel1.τ Cert.Sel1.sig) → Buf (Elt Bits) ℓ) : Prop :=
  True

def Pre_Sel1Ideal (m : (ℓ : Loc Cert.Sel1Ideal.nD Cert.Sel1Ideal.τ Cert.Sel1Ideal.sig) → Buf (Elt Ideal) ℓ) : Prop :=
  True

def Pre_RefSel1Ideal (m : (ℓ : Loc Cert.RefSel1Ideal.nD Cert.RefSel1Ideal.τ Cert.RefSel1Ideal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_RefAttnIdeal (m : (ℓ : Loc Cert.RefAttnIdeal.nD Cert.RefAttnIdeal.τ Cert.RefAttnIdeal.sig) → Buf (Elt Ideal) ℓ) : Prop :=
  True

def quiescent_Kd4 [hKd4 : Cert.Kd4.Facts] : Prop :=
  ∀ (m : (ℓ : Loc Cert.Kd4.nD Cert.Kd4.τ Cert.Kd4.sig) → Buf (Elt Bits) ℓ) (g : Dev Cert.Kd4.nD → PrngReg), Pre_Kd4 m →
    θ_run (Cert.Kd4.defs (F := Bits)) (onTc (τ := Cert.Kd4.τ) (Cert.Kd4.main (F := Bits))) ⟨m, fun _ => 0, g⟩ (fun r => (∀ c : Dev Cert.Kd4.nD,
      r.2.mem ((c.tc : Thread Cert.Kd4.nD Cert.Kd4.τ).loc Cert.Kd4.main_arg0) = m ((c.tc : Thread Cert.Kd4.nD Cert.Kd4.τ).loc Cert.Kd4.main_arg0)
      ∧ r.2.mem ((c.tc : Thread Cert.Kd4.nD Cert.Kd4.τ).loc Cert.Kd4.main_arg1) = m ((c.tc : Thread Cert.Kd4.nD Cert.Kd4.τ).loc Cert.Kd4.main_arg1)
      ∧ r.2.mem ((c.tc : Thread Cert.Kd4.nD Cert.Kd4.τ).loc Cert.Kd4.main_arg2) = m ((c.tc : Thread Cert.Kd4.nD Cert.Kd4.τ).loc Cert.Kd4.main_arg2)
      ∧ r.2.mem ((c.tc : Thread Cert.Kd4.nD Cert.Kd4.τ).loc Cert.Kd4.main_arg3) = m ((c.tc : Thread Cert.Kd4.nD Cert.Kd4.τ).loc Cert.Kd4.main_arg3)
      ∧ r.2.mem ((c.tc : Thread Cert.Kd4.nD Cert.Kd4.τ).loc Cert.Kd4.main_arg4) = m ((c.tc : Thread Cert.Kd4.nD Cert.Kd4.τ).loc Cert.Kd4.main_arg4))
      ∧ r.2.sem = fun _ => 0)

def quiescent_Kd4Ideal [hKd4Ideal : Cert.Kd4Ideal.Facts] : Prop :=
  ∀ (m : (ℓ : Loc Cert.Kd4Ideal.nD Cert.Kd4Ideal.τ Cert.Kd4Ideal.sig) → Buf (Elt Ideal) ℓ) (g : Dev Cert.Kd4Ideal.nD → PrngReg), Pre_Kd4Ideal m →
    θ_run (Cert.Kd4Ideal.defs (F := Ideal)) (onTc (τ := Cert.Kd4Ideal.τ) (Cert.Kd4Ideal.main (F := Ideal))) ⟨m, fun _ => 0, g⟩ (fun r => (∀ c : Dev Cert.Kd4Ideal.nD,
      r.2.mem ((c.tc : Thread Cert.Kd4Ideal.nD Cert.Kd4Ideal.τ).loc Cert.Kd4Ideal.main_arg0) = m ((c.tc : Thread Cert.Kd4Ideal.nD Cert.Kd4Ideal.τ).loc Cert.Kd4Ideal.main_arg0)
      ∧ r.2.mem ((c.tc : Thread Cert.Kd4Ideal.nD Cert.Kd4Ideal.τ).loc Cert.Kd4Ideal.main_arg1) = m ((c.tc : Thread Cert.Kd4Ideal.nD Cert.Kd4Ideal.τ).loc Cert.Kd4Ideal.main_arg1)
      ∧ r.2.mem ((c.tc : Thread Cert.Kd4Ideal.nD Cert.Kd4Ideal.τ).loc Cert.Kd4Ideal.main_arg2) = m ((c.tc : Thread Cert.Kd4Ideal.nD Cert.Kd4Ideal.τ).loc Cert.Kd4Ideal.main_arg2)
      ∧ r.2.mem ((c.tc : Thread Cert.Kd4Ideal.nD Cert.Kd4Ideal.τ).loc Cert.Kd4Ideal.main_arg3) = m ((c.tc : Thread Cert.Kd4Ideal.nD Cert.Kd4Ideal.τ).loc Cert.Kd4Ideal.main_arg3)
      ∧ r.2.mem ((c.tc : Thread Cert.Kd4Ideal.nD Cert.Kd4Ideal.τ).loc Cert.Kd4Ideal.main_arg4) = m ((c.tc : Thread Cert.Kd4Ideal.nD Cert.Kd4Ideal.τ).loc Cert.Kd4Ideal.main_arg4))
      ∧ r.2.sem = fun _ => 0)

def quiescent_RefKd4Ideal [hRefKd4Ideal : Cert.RefKd4Ideal.Facts] : Prop :=
  ∀ (m : (ℓ : Loc Cert.RefKd4Ideal.nD Cert.RefKd4Ideal.τ Cert.RefKd4Ideal.sig) → Buf (Elt Ideal) ℓ) (g : Dev Cert.RefKd4Ideal.nD → PrngReg), Pre_RefKd4Ideal m →
    θ_run (Cert.RefKd4Ideal.defs (F := Ideal)) (onTc (τ := Cert.RefKd4Ideal.τ) (Cert.RefKd4Ideal.main (F := Ideal))) ⟨m, fun _ => 0, g⟩ (fun r => (∀ c : Dev Cert.RefKd4Ideal.nD,
      r.2.mem ((c.tc : Thread Cert.RefKd4Ideal.nD Cert.RefKd4Ideal.τ).loc Cert.RefKd4Ideal.main_arg0) = m ((c.tc : Thread Cert.RefKd4Ideal.nD Cert.RefKd4Ideal.τ).loc Cert.RefKd4Ideal.main_arg0)
      ∧ r.2.mem ((c.tc : Thread Cert.RefKd4Ideal.nD Cert.RefKd4Ideal.τ).loc Cert.RefKd4Ideal.main_arg1) = m ((c.tc : Thread Cert.RefKd4Ideal.nD Cert.RefKd4Ideal.τ).loc Cert.RefKd4Ideal.main_arg1)
      ∧ r.2.mem ((c.tc : Thread Cert.RefKd4Ideal.nD Cert.RefKd4Ideal.τ).loc Cert.RefKd4Ideal.main_arg2) = m ((c.tc : Thread Cert.RefKd4Ideal.nD Cert.RefKd4Ideal.τ).loc Cert.RefKd4Ideal.main_arg2)
      ∧ r.2.mem ((c.tc : Thread Cert.RefKd4Ideal.nD Cert.RefKd4Ideal.τ).loc Cert.RefKd4Ideal.main_arg3) = m ((c.tc : Thread Cert.RefKd4Ideal.nD Cert.RefKd4Ideal.τ).loc Cert.RefKd4Ideal.main_arg3)
      ∧ r.2.mem ((c.tc : Thread Cert.RefKd4Ideal.nD Cert.RefKd4Ideal.τ).loc Cert.RefKd4Ideal.main_arg4) = m ((c.tc : Thread Cert.RefKd4Ideal.nD Cert.RefKd4Ideal.τ).loc Cert.RefKd4Ideal.main_arg4))
      ∧ r.2.sem = fun _ => 0)

def quiescent_Scan4 [hScan4 : Cert.Scan4.Facts] : Prop :=
  ∀ (m : (ℓ : Loc Cert.Scan4.nD Cert.Scan4.τ Cert.Scan4.sig) → Buf (Elt Bits) ℓ) (g : Dev Cert.Scan4.nD → PrngReg), Pre_Scan4 m →
    θ_run (Cert.Scan4.defs (F := Bits)) (onTc (τ := Cert.Scan4.τ) (Cert.Scan4.main (F := Bits))) ⟨m, fun _ => 0, g⟩ (fun r => (∀ c : Dev Cert.Scan4.nD,
      r.2.mem ((c.tc : Thread Cert.Scan4.nD Cert.Scan4.τ).loc Cert.Scan4.main_arg0) = m ((c.tc : Thread Cert.Scan4.nD Cert.Scan4.τ).loc Cert.Scan4.main_arg0)
      ∧ r.2.mem ((c.tc : Thread Cert.Scan4.nD Cert.Scan4.τ).loc Cert.Scan4.main_arg1) = m ((c.tc : Thread Cert.Scan4.nD Cert.Scan4.τ).loc Cert.Scan4.main_arg1)
      ∧ r.2.mem ((c.tc : Thread Cert.Scan4.nD Cert.Scan4.τ).loc Cert.Scan4.main_arg2) = m ((c.tc : Thread Cert.Scan4.nD Cert.Scan4.τ).loc Cert.Scan4.main_arg2)
      ∧ r.2.mem ((c.tc : Thread Cert.Scan4.nD Cert.Scan4.τ).loc Cert.Scan4.main_arg3) = m ((c.tc : Thread Cert.Scan4.nD Cert.Scan4.τ).loc Cert.Scan4.main_arg3))
      ∧ r.2.sem = fun _ => 0)

def quiescent_Scan4Ideal [hScan4Ideal : Cert.Scan4Ideal.Facts] : Prop :=
  ∀ (m : (ℓ : Loc Cert.Scan4Ideal.nD Cert.Scan4Ideal.τ Cert.Scan4Ideal.sig) → Buf (Elt Ideal) ℓ) (g : Dev Cert.Scan4Ideal.nD → PrngReg), Pre_Scan4Ideal m →
    θ_run (Cert.Scan4Ideal.defs (F := Ideal)) (onTc (τ := Cert.Scan4Ideal.τ) (Cert.Scan4Ideal.main (F := Ideal))) ⟨m, fun _ => 0, g⟩ (fun r => (∀ c : Dev Cert.Scan4Ideal.nD,
      r.2.mem ((c.tc : Thread Cert.Scan4Ideal.nD Cert.Scan4Ideal.τ).loc Cert.Scan4Ideal.main_arg0) = m ((c.tc : Thread Cert.Scan4Ideal.nD Cert.Scan4Ideal.τ).loc Cert.Scan4Ideal.main_arg0)
      ∧ r.2.mem ((c.tc : Thread Cert.Scan4Ideal.nD Cert.Scan4Ideal.τ).loc Cert.Scan4Ideal.main_arg1) = m ((c.tc : Thread Cert.Scan4Ideal.nD Cert.Scan4Ideal.τ).loc Cert.Scan4Ideal.main_arg1)
      ∧ r.2.mem ((c.tc : Thread Cert.Scan4Ideal.nD Cert.Scan4Ideal.τ).loc Cert.Scan4Ideal.main_arg2) = m ((c.tc : Thread Cert.Scan4Ideal.nD Cert.Scan4Ideal.τ).loc Cert.Scan4Ideal.main_arg2)
      ∧ r.2.mem ((c.tc : Thread Cert.Scan4Ideal.nD Cert.Scan4Ideal.τ).loc Cert.Scan4Ideal.main_arg3) = m ((c.tc : Thread Cert.Scan4Ideal.nD Cert.Scan4Ideal.τ).loc Cert.Scan4Ideal.main_arg3))
      ∧ r.2.sem = fun _ => 0)

def quiescent_RefScan4Ideal [hRefScan4Ideal : Cert.RefScan4Ideal.Facts] : Prop :=
  ∀ (m : (ℓ : Loc Cert.RefScan4Ideal.nD Cert.RefScan4Ideal.τ Cert.RefScan4Ideal.sig) → Buf (Elt Ideal) ℓ) (g : Dev Cert.RefScan4Ideal.nD → PrngReg), Pre_RefScan4Ideal m →
    θ_run (Cert.RefScan4Ideal.defs (F := Ideal)) (onTc (τ := Cert.RefScan4Ideal.τ) (Cert.RefScan4Ideal.main (F := Ideal))) ⟨m, fun _ => 0, g⟩ (fun r => (∀ c : Dev Cert.RefScan4Ideal.nD,
      r.2.mem ((c.tc : Thread Cert.RefScan4Ideal.nD Cert.RefScan4Ideal.τ).loc Cert.RefScan4Ideal.main_arg0) = m ((c.tc : Thread Cert.RefScan4Ideal.nD Cert.RefScan4Ideal.τ).loc Cert.RefScan4Ideal.main_arg0)
      ∧ r.2.mem ((c.tc : Thread Cert.RefScan4Ideal.nD Cert.RefScan4Ideal.τ).loc Cert.RefScan4Ideal.main_arg1) = m ((c.tc : Thread Cert.RefScan4Ideal.nD Cert.RefScan4Ideal.τ).loc Cert.RefScan4Ideal.main_arg1)
      ∧ r.2.mem ((c.tc : Thread Cert.RefScan4Ideal.nD Cert.RefScan4Ideal.τ).loc Cert.RefScan4Ideal.main_arg2) = m ((c.tc : Thread Cert.RefScan4Ideal.nD Cert.RefScan4Ideal.τ).loc Cert.RefScan4Ideal.main_arg2)
      ∧ r.2.mem ((c.tc : Thread Cert.RefScan4Ideal.nD Cert.RefScan4Ideal.τ).loc Cert.RefScan4Ideal.main_arg3) = m ((c.tc : Thread Cert.RefScan4Ideal.nD Cert.RefScan4Ideal.τ).loc Cert.RefScan4Ideal.main_arg3))
      ∧ r.2.sem = fun _ => 0)

def quiescent_Sel4 [hSel4 : Cert.Sel4.Facts] : Prop :=
  ∀ (m : (ℓ : Loc Cert.Sel4.nD Cert.Sel4.τ Cert.Sel4.sig) → Buf (Elt Bits) ℓ) (g : Dev Cert.Sel4.nD → PrngReg), Pre_Sel4 m →
    θ_run (Cert.Sel4.defs (F := Bits)) (onTc (τ := Cert.Sel4.τ) (Cert.Sel4.main (F := Bits))) ⟨m, fun _ => 0, g⟩ (fun r => (∀ c : Dev Cert.Sel4.nD,
      r.2.mem ((c.tc : Thread Cert.Sel4.nD Cert.Sel4.τ).loc Cert.Sel4.main_arg0) = m ((c.tc : Thread Cert.Sel4.nD Cert.Sel4.τ).loc Cert.Sel4.main_arg0)
      ∧ r.2.mem ((c.tc : Thread Cert.Sel4.nD Cert.Sel4.τ).loc Cert.Sel4.main_arg1) = m ((c.tc : Thread Cert.Sel4.nD Cert.Sel4.τ).loc Cert.Sel4.main_arg1)
      ∧ r.2.mem ((c.tc : Thread Cert.Sel4.nD Cert.Sel4.τ).loc Cert.Sel4.main_arg2) = m ((c.tc : Thread Cert.Sel4.nD Cert.Sel4.τ).loc Cert.Sel4.main_arg2))
      ∧ r.2.sem = fun _ => 0)

def quiescent_Sel4Ideal [hSel4Ideal : Cert.Sel4Ideal.Facts] : Prop :=
  ∀ (m : (ℓ : Loc Cert.Sel4Ideal.nD Cert.Sel4Ideal.τ Cert.Sel4Ideal.sig) → Buf (Elt Ideal) ℓ) (g : Dev Cert.Sel4Ideal.nD → PrngReg), Pre_Sel4Ideal m →
    θ_run (Cert.Sel4Ideal.defs (F := Ideal)) (onTc (τ := Cert.Sel4Ideal.τ) (Cert.Sel4Ideal.main (F := Ideal))) ⟨m, fun _ => 0, g⟩ (fun r => (∀ c : Dev Cert.Sel4Ideal.nD,
      r.2.mem ((c.tc : Thread Cert.Sel4Ideal.nD Cert.Sel4Ideal.τ).loc Cert.Sel4Ideal.main_arg0) = m ((c.tc : Thread Cert.Sel4Ideal.nD Cert.Sel4Ideal.τ).loc Cert.Sel4Ideal.main_arg0)
      ∧ r.2.mem ((c.tc : Thread Cert.Sel4Ideal.nD Cert.Sel4Ideal.τ).loc Cert.Sel4Ideal.main_arg1) = m ((c.tc : Thread Cert.Sel4Ideal.nD Cert.Sel4Ideal.τ).loc Cert.Sel4Ideal.main_arg1)
      ∧ r.2.mem ((c.tc : Thread Cert.Sel4Ideal.nD Cert.Sel4Ideal.τ).loc Cert.Sel4Ideal.main_arg2) = m ((c.tc : Thread Cert.Sel4Ideal.nD Cert.Sel4Ideal.τ).loc Cert.Sel4Ideal.main_arg2))
      ∧ r.2.sem = fun _ => 0)

def quiescent_RefSel4Ideal [hRefSel4Ideal : Cert.RefSel4Ideal.Facts] : Prop :=
  ∀ (m : (ℓ : Loc Cert.RefSel4Ideal.nD Cert.RefSel4Ideal.τ Cert.RefSel4Ideal.sig) → Buf (Elt Ideal) ℓ) (g : Dev Cert.RefSel4Ideal.nD → PrngReg), Pre_RefSel4Ideal m →
    θ_run (Cert.RefSel4Ideal.defs (F := Ideal)) (onTc (τ := Cert.RefSel4Ideal.τ) (Cert.RefSel4Ideal.main (F := Ideal))) ⟨m, fun _ => 0, g⟩ (fun r => (∀ c : Dev Cert.RefSel4Ideal.nD,
      r.2.mem ((c.tc : Thread Cert.RefSel4Ideal.nD Cert.RefSel4Ideal.τ).loc Cert.RefSel4Ideal.main_arg0) = m ((c.tc : Thread Cert.RefSel4Ideal.nD Cert.RefSel4Ideal.τ).loc Cert.RefSel4Ideal.main_arg0)
      ∧ r.2.mem ((c.tc : Thread Cert.RefSel4Ideal.nD Cert.RefSel4Ideal.τ).loc Cert.RefSel4Ideal.main_arg1) = m ((c.tc : Thread Cert.RefSel4Ideal.nD Cert.RefSel4Ideal.τ).loc Cert.RefSel4Ideal.main_arg1)
      ∧ r.2.mem ((c.tc : Thread Cert.RefSel4Ideal.nD Cert.RefSel4Ideal.τ).loc Cert.RefSel4Ideal.main_arg2) = m ((c.tc : Thread Cert.RefSel4Ideal.nD Cert.RefSel4Ideal.τ).loc Cert.RefSel4Ideal.main_arg2))
      ∧ r.2.sem = fun _ => 0)

def quiescent_Kd3 [hKd3 : Cert.Kd3.Facts] : Prop :=
  ∀ (m : (ℓ : Loc Cert.Kd3.nD Cert.Kd3.τ Cert.Kd3.sig) → Buf (Elt Bits) ℓ) (g : Dev Cert.Kd3.nD → PrngReg), Pre_Kd3 m →
    θ_run (Cert.Kd3.defs (F := Bits)) (onTc (τ := Cert.Kd3.τ) (Cert.Kd3.main (F := Bits))) ⟨m, fun _ => 0, g⟩ (fun r => (∀ c : Dev Cert.Kd3.nD,
      r.2.mem ((c.tc : Thread Cert.Kd3.nD Cert.Kd3.τ).loc Cert.Kd3.main_arg0) = m ((c.tc : Thread Cert.Kd3.nD Cert.Kd3.τ).loc Cert.Kd3.main_arg0)
      ∧ r.2.mem ((c.tc : Thread Cert.Kd3.nD Cert.Kd3.τ).loc Cert.Kd3.main_arg1) = m ((c.tc : Thread Cert.Kd3.nD Cert.Kd3.τ).loc Cert.Kd3.main_arg1)
      ∧ r.2.mem ((c.tc : Thread Cert.Kd3.nD Cert.Kd3.τ).loc Cert.Kd3.main_arg2) = m ((c.tc : Thread Cert.Kd3.nD Cert.Kd3.τ).loc Cert.Kd3.main_arg2)
      ∧ r.2.mem ((c.tc : Thread Cert.Kd3.nD Cert.Kd3.τ).loc Cert.Kd3.main_arg3) = m ((c.tc : Thread Cert.Kd3.nD Cert.Kd3.τ).loc Cert.Kd3.main_arg3)
      ∧ r.2.mem ((c.tc : Thread Cert.Kd3.nD Cert.Kd3.τ).loc Cert.Kd3.main_arg4) = m ((c.tc : Thread Cert.Kd3.nD Cert.Kd3.τ).loc Cert.Kd3.main_arg4))
      ∧ r.2.sem = fun _ => 0)

def quiescent_Kd3Ideal [hKd3Ideal : Cert.Kd3Ideal.Facts] : Prop :=
  ∀ (m : (ℓ : Loc Cert.Kd3Ideal.nD Cert.Kd3Ideal.τ Cert.Kd3Ideal.sig) → Buf (Elt Ideal) ℓ) (g : Dev Cert.Kd3Ideal.nD → PrngReg), Pre_Kd3Ideal m →
    θ_run (Cert.Kd3Ideal.defs (F := Ideal)) (onTc (τ := Cert.Kd3Ideal.τ) (Cert.Kd3Ideal.main (F := Ideal))) ⟨m, fun _ => 0, g⟩ (fun r => (∀ c : Dev Cert.Kd3Ideal.nD,
      r.2.mem ((c.tc : Thread Cert.Kd3Ideal.nD Cert.Kd3Ideal.τ).loc Cert.Kd3Ideal.main_arg0) = m ((c.tc : Thread Cert.Kd3Ideal.nD Cert.Kd3Ideal.τ).loc Cert.Kd3Ideal.main_arg0)
      ∧ r.2.mem ((c.tc : Thread Cert.Kd3Ideal.nD Cert.Kd3Ideal.τ).loc Cert.Kd3Ideal.main_arg1) = m ((c.tc : Thread Cert.Kd3Ideal.nD Cert.Kd3Ideal.τ).loc Cert.Kd3Ideal.main_arg1)
      ∧ r.2.mem ((c.tc : Thread Cert.Kd3Ideal.nD Cert.Kd3Ideal.τ).loc Cert.Kd3Ideal.main_arg2) = m ((c.tc : Thread Cert.Kd3Ideal.nD Cert.Kd3Ideal.τ).loc Cert.Kd3Ideal.main_arg2)
      ∧ r.2.mem ((c.tc : Thread Cert.Kd3Ideal.nD Cert.Kd3Ideal.τ).loc Cert.Kd3Ideal.main_arg3) = m ((c.tc : Thread Cert.Kd3Ideal.nD Cert.Kd3Ideal.τ).loc Cert.Kd3Ideal.main_arg3)
      ∧ r.2.mem ((c.tc : Thread Cert.Kd3Ideal.nD Cert.Kd3Ideal.τ).loc Cert.Kd3Ideal.main_arg4) = m ((c.tc : Thread Cert.Kd3Ideal.nD Cert.Kd3Ideal.τ).loc Cert.Kd3Ideal.main_arg4))
      ∧ r.2.sem = fun _ => 0)

def quiescent_RefKd3Ideal [hRefKd3Ideal : Cert.RefKd3Ideal.Facts] : Prop :=
  ∀ (m : (ℓ : Loc Cert.RefKd3Ideal.nD Cert.RefKd3Ideal.τ Cert.RefKd3Ideal.sig) → Buf (Elt Ideal) ℓ) (g : Dev Cert.RefKd3Ideal.nD → PrngReg), Pre_RefKd3Ideal m →
    θ_run (Cert.RefKd3Ideal.defs (F := Ideal)) (onTc (τ := Cert.RefKd3Ideal.τ) (Cert.RefKd3Ideal.main (F := Ideal))) ⟨m, fun _ => 0, g⟩ (fun r => (∀ c : Dev Cert.RefKd3Ideal.nD,
      r.2.mem ((c.tc : Thread Cert.RefKd3Ideal.nD Cert.RefKd3Ideal.τ).loc Cert.RefKd3Ideal.main_arg0) = m ((c.tc : Thread Cert.RefKd3Ideal.nD Cert.RefKd3Ideal.τ).loc Cert.RefKd3Ideal.main_arg0)
      ∧ r.2.mem ((c.tc : Thread Cert.RefKd3Ideal.nD Cert.RefKd3Ideal.τ).loc Cert.RefKd3Ideal.main_arg1) = m ((c.tc : Thread Cert.RefKd3Ideal.nD Cert.RefKd3Ideal.τ).loc Cert.RefKd3Ideal.main_arg1)
      ∧ r.2.mem ((c.tc : Thread Cert.RefKd3Ideal.nD Cert.RefKd3Ideal.τ).loc Cert.RefKd3Ideal.main_arg2) = m ((c.tc : Thread Cert.RefKd3Ideal.nD Cert.RefKd3Ideal.τ).loc Cert.RefKd3Ideal.main_arg2)
      ∧ r.2.mem ((c.tc : Thread Cert.RefKd3Ideal.nD Cert.RefKd3Ideal.τ).loc Cert.RefKd3Ideal.main_arg3) = m ((c.tc : Thread Cert.RefKd3Ideal.nD Cert.RefKd3Ideal.τ).loc Cert.RefKd3Ideal.main_arg3)
      ∧ r.2.mem ((c.tc : Thread Cert.RefKd3Ideal.nD Cert.RefKd3Ideal.τ).loc Cert.RefKd3Ideal.main_arg4) = m ((c.tc : Thread Cert.RefKd3Ideal.nD Cert.RefKd3Ideal.τ).loc Cert.RefKd3Ideal.main_arg4))
      ∧ r.2.sem = fun _ => 0)

def quiescent_Scan3 [hScan3 : Cert.Scan3.Facts] : Prop :=
  ∀ (m : (ℓ : Loc Cert.Scan3.nD Cert.Scan3.τ Cert.Scan3.sig) → Buf (Elt Bits) ℓ) (g : Dev Cert.Scan3.nD → PrngReg), Pre_Scan3 m →
    θ_run (Cert.Scan3.defs (F := Bits)) (onTc (τ := Cert.Scan3.τ) (Cert.Scan3.main (F := Bits))) ⟨m, fun _ => 0, g⟩ (fun r => (∀ c : Dev Cert.Scan3.nD,
      r.2.mem ((c.tc : Thread Cert.Scan3.nD Cert.Scan3.τ).loc Cert.Scan3.main_arg0) = m ((c.tc : Thread Cert.Scan3.nD Cert.Scan3.τ).loc Cert.Scan3.main_arg0)
      ∧ r.2.mem ((c.tc : Thread Cert.Scan3.nD Cert.Scan3.τ).loc Cert.Scan3.main_arg1) = m ((c.tc : Thread Cert.Scan3.nD Cert.Scan3.τ).loc Cert.Scan3.main_arg1)
      ∧ r.2.mem ((c.tc : Thread Cert.Scan3.nD Cert.Scan3.τ).loc Cert.Scan3.main_arg2) = m ((c.tc : Thread Cert.Scan3.nD Cert.Scan3.τ).loc Cert.Scan3.main_arg2)
      ∧ r.2.mem ((c.tc : Thread Cert.Scan3.nD Cert.Scan3.τ).loc Cert.Scan3.main_arg3) = m ((c.tc : Thread Cert.Scan3.nD Cert.Scan3.τ).loc Cert.Scan3.main_arg3))
      ∧ r.2.sem = fun _ => 0)

def quiescent_Scan3Ideal [hScan3Ideal : Cert.Scan3Ideal.Facts] : Prop :=
  ∀ (m : (ℓ : Loc Cert.Scan3Ideal.nD Cert.Scan3Ideal.τ Cert.Scan3Ideal.sig) → Buf (Elt Ideal) ℓ) (g : Dev Cert.Scan3Ideal.nD → PrngReg), Pre_Scan3Ideal m →
    θ_run (Cert.Scan3Ideal.defs (F := Ideal)) (onTc (τ := Cert.Scan3Ideal.τ) (Cert.Scan3Ideal.main (F := Ideal))) ⟨m, fun _ => 0, g⟩ (fun r => (∀ c : Dev Cert.Scan3Ideal.nD,
      r.2.mem ((c.tc : Thread Cert.Scan3Ideal.nD Cert.Scan3Ideal.τ).loc Cert.Scan3Ideal.main_arg0) = m ((c.tc : Thread Cert.Scan3Ideal.nD Cert.Scan3Ideal.τ).loc Cert.Scan3Ideal.main_arg0)
      ∧ r.2.mem ((c.tc : Thread Cert.Scan3Ideal.nD Cert.Scan3Ideal.τ).loc Cert.Scan3Ideal.main_arg1) = m ((c.tc : Thread Cert.Scan3Ideal.nD Cert.Scan3Ideal.τ).loc Cert.Scan3Ideal.main_arg1)
      ∧ r.2.mem ((c.tc : Thread Cert.Scan3Ideal.nD Cert.Scan3Ideal.τ).loc Cert.Scan3Ideal.main_arg2) = m ((c.tc : Thread Cert.Scan3Ideal.nD Cert.Scan3Ideal.τ).loc Cert.Scan3Ideal.main_arg2)
      ∧ r.2.mem ((c.tc : Thread Cert.Scan3Ideal.nD Cert.Scan3Ideal.τ).loc Cert.Scan3Ideal.main_arg3) = m ((c.tc : Thread Cert.Scan3Ideal.nD Cert.Scan3Ideal.τ).loc Cert.Scan3Ideal.main_arg3))
      ∧ r.2.sem = fun _ => 0)

def quiescent_RefScan3Ideal [hRefScan3Ideal : Cert.RefScan3Ideal.Facts] : Prop :=
  ∀ (m : (ℓ : Loc Cert.RefScan3Ideal.nD Cert.RefScan3Ideal.τ Cert.RefScan3Ideal.sig) → Buf (Elt Ideal) ℓ) (g : Dev Cert.RefScan3Ideal.nD → PrngReg), Pre_RefScan3Ideal m →
    θ_run (Cert.RefScan3Ideal.defs (F := Ideal)) (onTc (τ := Cert.RefScan3Ideal.τ) (Cert.RefScan3Ideal.main (F := Ideal))) ⟨m, fun _ => 0, g⟩ (fun r => (∀ c : Dev Cert.RefScan3Ideal.nD,
      r.2.mem ((c.tc : Thread Cert.RefScan3Ideal.nD Cert.RefScan3Ideal.τ).loc Cert.RefScan3Ideal.main_arg0) = m ((c.tc : Thread Cert.RefScan3Ideal.nD Cert.RefScan3Ideal.τ).loc Cert.RefScan3Ideal.main_arg0)
      ∧ r.2.mem ((c.tc : Thread Cert.RefScan3Ideal.nD Cert.RefScan3Ideal.τ).loc Cert.RefScan3Ideal.main_arg1) = m ((c.tc : Thread Cert.RefScan3Ideal.nD Cert.RefScan3Ideal.τ).loc Cert.RefScan3Ideal.main_arg1)
      ∧ r.2.mem ((c.tc : Thread Cert.RefScan3Ideal.nD Cert.RefScan3Ideal.τ).loc Cert.RefScan3Ideal.main_arg2) = m ((c.tc : Thread Cert.RefScan3Ideal.nD Cert.RefScan3Ideal.τ).loc Cert.RefScan3Ideal.main_arg2)
      ∧ r.2.mem ((c.tc : Thread Cert.RefScan3Ideal.nD Cert.RefScan3Ideal.τ).loc Cert.RefScan3Ideal.main_arg3) = m ((c.tc : Thread Cert.RefScan3Ideal.nD Cert.RefScan3Ideal.τ).loc Cert.RefScan3Ideal.main_arg3))
      ∧ r.2.sem = fun _ => 0)

def quiescent_Sel3 [hSel3 : Cert.Sel3.Facts] : Prop :=
  ∀ (m : (ℓ : Loc Cert.Sel3.nD Cert.Sel3.τ Cert.Sel3.sig) → Buf (Elt Bits) ℓ) (g : Dev Cert.Sel3.nD → PrngReg), Pre_Sel3 m →
    θ_run (Cert.Sel3.defs (F := Bits)) (onTc (τ := Cert.Sel3.τ) (Cert.Sel3.main (F := Bits))) ⟨m, fun _ => 0, g⟩ (fun r => (∀ c : Dev Cert.Sel3.nD,
      r.2.mem ((c.tc : Thread Cert.Sel3.nD Cert.Sel3.τ).loc Cert.Sel3.main_arg0) = m ((c.tc : Thread Cert.Sel3.nD Cert.Sel3.τ).loc Cert.Sel3.main_arg0)
      ∧ r.2.mem ((c.tc : Thread Cert.Sel3.nD Cert.Sel3.τ).loc Cert.Sel3.main_arg1) = m ((c.tc : Thread Cert.Sel3.nD Cert.Sel3.τ).loc Cert.Sel3.main_arg1)
      ∧ r.2.mem ((c.tc : Thread Cert.Sel3.nD Cert.Sel3.τ).loc Cert.Sel3.main_arg2) = m ((c.tc : Thread Cert.Sel3.nD Cert.Sel3.τ).loc Cert.Sel3.main_arg2))
      ∧ r.2.sem = fun _ => 0)

def quiescent_Sel3Ideal [hSel3Ideal : Cert.Sel3Ideal.Facts] : Prop :=
  ∀ (m : (ℓ : Loc Cert.Sel3Ideal.nD Cert.Sel3Ideal.τ Cert.Sel3Ideal.sig) → Buf (Elt Ideal) ℓ) (g : Dev Cert.Sel3Ideal.nD → PrngReg), Pre_Sel3Ideal m →
    θ_run (Cert.Sel3Ideal.defs (F := Ideal)) (onTc (τ := Cert.Sel3Ideal.τ) (Cert.Sel3Ideal.main (F := Ideal))) ⟨m, fun _ => 0, g⟩ (fun r => (∀ c : Dev Cert.Sel3Ideal.nD,
      r.2.mem ((c.tc : Thread Cert.Sel3Ideal.nD Cert.Sel3Ideal.τ).loc Cert.Sel3Ideal.main_arg0) = m ((c.tc : Thread Cert.Sel3Ideal.nD Cert.Sel3Ideal.τ).loc Cert.Sel3Ideal.main_arg0)
      ∧ r.2.mem ((c.tc : Thread Cert.Sel3Ideal.nD Cert.Sel3Ideal.τ).loc Cert.Sel3Ideal.main_arg1) = m ((c.tc : Thread Cert.Sel3Ideal.nD Cert.Sel3Ideal.τ).loc Cert.Sel3Ideal.main_arg1)
      ∧ r.2.mem ((c.tc : Thread Cert.Sel3Ideal.nD Cert.Sel3Ideal.τ).loc Cert.Sel3Ideal.main_arg2) = m ((c.tc : Thread Cert.Sel3Ideal.nD Cert.Sel3Ideal.τ).loc Cert.Sel3Ideal.main_arg2))
      ∧ r.2.sem = fun _ => 0)

def quiescent_RefSel3Ideal [hRefSel3Ideal : Cert.RefSel3Ideal.Facts] : Prop :=
  ∀ (m : (ℓ : Loc Cert.RefSel3Ideal.nD Cert.RefSel3Ideal.τ Cert.RefSel3Ideal.sig) → Buf (Elt Ideal) ℓ) (g : Dev Cert.RefSel3Ideal.nD → PrngReg), Pre_RefSel3Ideal m →
    θ_run (Cert.RefSel3Ideal.defs (F := Ideal)) (onTc (τ := Cert.RefSel3Ideal.τ) (Cert.RefSel3Ideal.main (F := Ideal))) ⟨m, fun _ => 0, g⟩ (fun r => (∀ c : Dev Cert.RefSel3Ideal.nD,
      r.2.mem ((c.tc : Thread Cert.RefSel3Ideal.nD Cert.RefSel3Ideal.τ).loc Cert.RefSel3Ideal.main_arg0) = m ((c.tc : Thread Cert.RefSel3Ideal.nD Cert.RefSel3Ideal.τ).loc Cert.RefSel3Ideal.main_arg0)
      ∧ r.2.mem ((c.tc : Thread Cert.RefSel3Ideal.nD Cert.RefSel3Ideal.τ).loc Cert.RefSel3Ideal.main_arg1) = m ((c.tc : Thread Cert.RefSel3Ideal.nD Cert.RefSel3Ideal.τ).loc Cert.RefSel3Ideal.main_arg1)
      ∧ r.2.mem ((c.tc : Thread Cert.RefSel3Ideal.nD Cert.RefSel3Ideal.τ).loc Cert.RefSel3Ideal.main_arg2) = m ((c.tc : Thread Cert.RefSel3Ideal.nD Cert.RefSel3Ideal.τ).loc Cert.RefSel3Ideal.main_arg2))
      ∧ r.2.sem = fun _ => 0)

def quiescent_Kd2 [hKd2 : Cert.Kd2.Facts] : Prop :=
  ∀ (m : (ℓ : Loc Cert.Kd2.nD Cert.Kd2.τ Cert.Kd2.sig) → Buf (Elt Bits) ℓ) (g : Dev Cert.Kd2.nD → PrngReg), Pre_Kd2 m →
    θ_run (Cert.Kd2.defs (F := Bits)) (onTc (τ := Cert.Kd2.τ) (Cert.Kd2.main (F := Bits))) ⟨m, fun _ => 0, g⟩ (fun r => (∀ c : Dev Cert.Kd2.nD,
      r.2.mem ((c.tc : Thread Cert.Kd2.nD Cert.Kd2.τ).loc Cert.Kd2.main_arg0) = m ((c.tc : Thread Cert.Kd2.nD Cert.Kd2.τ).loc Cert.Kd2.main_arg0)
      ∧ r.2.mem ((c.tc : Thread Cert.Kd2.nD Cert.Kd2.τ).loc Cert.Kd2.main_arg1) = m ((c.tc : Thread Cert.Kd2.nD Cert.Kd2.τ).loc Cert.Kd2.main_arg1)
      ∧ r.2.mem ((c.tc : Thread Cert.Kd2.nD Cert.Kd2.τ).loc Cert.Kd2.main_arg2) = m ((c.tc : Thread Cert.Kd2.nD Cert.Kd2.τ).loc Cert.Kd2.main_arg2)
      ∧ r.2.mem ((c.tc : Thread Cert.Kd2.nD Cert.Kd2.τ).loc Cert.Kd2.main_arg3) = m ((c.tc : Thread Cert.Kd2.nD Cert.Kd2.τ).loc Cert.Kd2.main_arg3)
      ∧ r.2.mem ((c.tc : Thread Cert.Kd2.nD Cert.Kd2.τ).loc Cert.Kd2.main_arg4) = m ((c.tc : Thread Cert.Kd2.nD Cert.Kd2.τ).loc Cert.Kd2.main_arg4))
      ∧ r.2.sem = fun _ => 0)

def quiescent_Kd2Ideal [hKd2Ideal : Cert.Kd2Ideal.Facts] : Prop :=
  ∀ (m : (ℓ : Loc Cert.Kd2Ideal.nD Cert.Kd2Ideal.τ Cert.Kd2Ideal.sig) → Buf (Elt Ideal) ℓ) (g : Dev Cert.Kd2Ideal.nD → PrngReg), Pre_Kd2Ideal m →
    θ_run (Cert.Kd2Ideal.defs (F := Ideal)) (onTc (τ := Cert.Kd2Ideal.τ) (Cert.Kd2Ideal.main (F := Ideal))) ⟨m, fun _ => 0, g⟩ (fun r => (∀ c : Dev Cert.Kd2Ideal.nD,
      r.2.mem ((c.tc : Thread Cert.Kd2Ideal.nD Cert.Kd2Ideal.τ).loc Cert.Kd2Ideal.main_arg0) = m ((c.tc : Thread Cert.Kd2Ideal.nD Cert.Kd2Ideal.τ).loc Cert.Kd2Ideal.main_arg0)
      ∧ r.2.mem ((c.tc : Thread Cert.Kd2Ideal.nD Cert.Kd2Ideal.τ).loc Cert.Kd2Ideal.main_arg1) = m ((c.tc : Thread Cert.Kd2Ideal.nD Cert.Kd2Ideal.τ).loc Cert.Kd2Ideal.main_arg1)
      ∧ r.2.mem ((c.tc : Thread Cert.Kd2Ideal.nD Cert.Kd2Ideal.τ).loc Cert.Kd2Ideal.main_arg2) = m ((c.tc : Thread Cert.Kd2Ideal.nD Cert.Kd2Ideal.τ).loc Cert.Kd2Ideal.main_arg2)
      ∧ r.2.mem ((c.tc : Thread Cert.Kd2Ideal.nD Cert.Kd2Ideal.τ).loc Cert.Kd2Ideal.main_arg3) = m ((c.tc : Thread Cert.Kd2Ideal.nD Cert.Kd2Ideal.τ).loc Cert.Kd2Ideal.main_arg3)
      ∧ r.2.mem ((c.tc : Thread Cert.Kd2Ideal.nD Cert.Kd2Ideal.τ).loc Cert.Kd2Ideal.main_arg4) = m ((c.tc : Thread Cert.Kd2Ideal.nD Cert.Kd2Ideal.τ).loc Cert.Kd2Ideal.main_arg4))
      ∧ r.2.sem = fun _ => 0)

def quiescent_RefKd2Ideal [hRefKd2Ideal : Cert.RefKd2Ideal.Facts] : Prop :=
  ∀ (m : (ℓ : Loc Cert.RefKd2Ideal.nD Cert.RefKd2Ideal.τ Cert.RefKd2Ideal.sig) → Buf (Elt Ideal) ℓ) (g : Dev Cert.RefKd2Ideal.nD → PrngReg), Pre_RefKd2Ideal m →
    θ_run (Cert.RefKd2Ideal.defs (F := Ideal)) (onTc (τ := Cert.RefKd2Ideal.τ) (Cert.RefKd2Ideal.main (F := Ideal))) ⟨m, fun _ => 0, g⟩ (fun r => (∀ c : Dev Cert.RefKd2Ideal.nD,
      r.2.mem ((c.tc : Thread Cert.RefKd2Ideal.nD Cert.RefKd2Ideal.τ).loc Cert.RefKd2Ideal.main_arg0) = m ((c.tc : Thread Cert.RefKd2Ideal.nD Cert.RefKd2Ideal.τ).loc Cert.RefKd2Ideal.main_arg0)
      ∧ r.2.mem ((c.tc : Thread Cert.RefKd2Ideal.nD Cert.RefKd2Ideal.τ).loc Cert.RefKd2Ideal.main_arg1) = m ((c.tc : Thread Cert.RefKd2Ideal.nD Cert.RefKd2Ideal.τ).loc Cert.RefKd2Ideal.main_arg1)
      ∧ r.2.mem ((c.tc : Thread Cert.RefKd2Ideal.nD Cert.RefKd2Ideal.τ).loc Cert.RefKd2Ideal.main_arg2) = m ((c.tc : Thread Cert.RefKd2Ideal.nD Cert.RefKd2Ideal.τ).loc Cert.RefKd2Ideal.main_arg2)
      ∧ r.2.mem ((c.tc : Thread Cert.RefKd2Ideal.nD Cert.RefKd2Ideal.τ).loc Cert.RefKd2Ideal.main_arg3) = m ((c.tc : Thread Cert.RefKd2Ideal.nD Cert.RefKd2Ideal.τ).loc Cert.RefKd2Ideal.main_arg3)
      ∧ r.2.mem ((c.tc : Thread Cert.RefKd2Ideal.nD Cert.RefKd2Ideal.τ).loc Cert.RefKd2Ideal.main_arg4) = m ((c.tc : Thread Cert.RefKd2Ideal.nD Cert.RefKd2Ideal.τ).loc Cert.RefKd2Ideal.main_arg4))
      ∧ r.2.sem = fun _ => 0)

def quiescent_Scan2 [hScan2 : Cert.Scan2.Facts] : Prop :=
  ∀ (m : (ℓ : Loc Cert.Scan2.nD Cert.Scan2.τ Cert.Scan2.sig) → Buf (Elt Bits) ℓ) (g : Dev Cert.Scan2.nD → PrngReg), Pre_Scan2 m →
    θ_run (Cert.Scan2.defs (F := Bits)) (onTc (τ := Cert.Scan2.τ) (Cert.Scan2.main (F := Bits))) ⟨m, fun _ => 0, g⟩ (fun r => (∀ c : Dev Cert.Scan2.nD,
      r.2.mem ((c.tc : Thread Cert.Scan2.nD Cert.Scan2.τ).loc Cert.Scan2.main_arg0) = m ((c.tc : Thread Cert.Scan2.nD Cert.Scan2.τ).loc Cert.Scan2.main_arg0)
      ∧ r.2.mem ((c.tc : Thread Cert.Scan2.nD Cert.Scan2.τ).loc Cert.Scan2.main_arg1) = m ((c.tc : Thread Cert.Scan2.nD Cert.Scan2.τ).loc Cert.Scan2.main_arg1)
      ∧ r.2.mem ((c.tc : Thread Cert.Scan2.nD Cert.Scan2.τ).loc Cert.Scan2.main_arg2) = m ((c.tc : Thread Cert.Scan2.nD Cert.Scan2.τ).loc Cert.Scan2.main_arg2)
      ∧ r.2.mem ((c.tc : Thread Cert.Scan2.nD Cert.Scan2.τ).loc Cert.Scan2.main_arg3) = m ((c.tc : Thread Cert.Scan2.nD Cert.Scan2.τ).loc Cert.Scan2.main_arg3))
      ∧ r.2.sem = fun _ => 0)

def quiescent_Scan2Ideal [hScan2Ideal : Cert.Scan2Ideal.Facts] : Prop :=
  ∀ (m : (ℓ : Loc Cert.Scan2Ideal.nD Cert.Scan2Ideal.τ Cert.Scan2Ideal.sig) → Buf (Elt Ideal) ℓ) (g : Dev Cert.Scan2Ideal.nD → PrngReg), Pre_Scan2Ideal m →
    θ_run (Cert.Scan2Ideal.defs (F := Ideal)) (onTc (τ := Cert.Scan2Ideal.τ) (Cert.Scan2Ideal.main (F := Ideal))) ⟨m, fun _ => 0, g⟩ (fun r => (∀ c : Dev Cert.Scan2Ideal.nD,
      r.2.mem ((c.tc : Thread Cert.Scan2Ideal.nD Cert.Scan2Ideal.τ).loc Cert.Scan2Ideal.main_arg0) = m ((c.tc : Thread Cert.Scan2Ideal.nD Cert.Scan2Ideal.τ).loc Cert.Scan2Ideal.main_arg0)
      ∧ r.2.mem ((c.tc : Thread Cert.Scan2Ideal.nD Cert.Scan2Ideal.τ).loc Cert.Scan2Ideal.main_arg1) = m ((c.tc : Thread Cert.Scan2Ideal.nD Cert.Scan2Ideal.τ).loc Cert.Scan2Ideal.main_arg1)
      ∧ r.2.mem ((c.tc : Thread Cert.Scan2Ideal.nD Cert.Scan2Ideal.τ).loc Cert.Scan2Ideal.main_arg2) = m ((c.tc : Thread Cert.Scan2Ideal.nD Cert.Scan2Ideal.τ).loc Cert.Scan2Ideal.main_arg2)
      ∧ r.2.mem ((c.tc : Thread Cert.Scan2Ideal.nD Cert.Scan2Ideal.τ).loc Cert.Scan2Ideal.main_arg3) = m ((c.tc : Thread Cert.Scan2Ideal.nD Cert.Scan2Ideal.τ).loc Cert.Scan2Ideal.main_arg3))
      ∧ r.2.sem = fun _ => 0)

def quiescent_RefScan2Ideal [hRefScan2Ideal : Cert.RefScan2Ideal.Facts] : Prop :=
  ∀ (m : (ℓ : Loc Cert.RefScan2Ideal.nD Cert.RefScan2Ideal.τ Cert.RefScan2Ideal.sig) → Buf (Elt Ideal) ℓ) (g : Dev Cert.RefScan2Ideal.nD → PrngReg), Pre_RefScan2Ideal m →
    θ_run (Cert.RefScan2Ideal.defs (F := Ideal)) (onTc (τ := Cert.RefScan2Ideal.τ) (Cert.RefScan2Ideal.main (F := Ideal))) ⟨m, fun _ => 0, g⟩ (fun r => (∀ c : Dev Cert.RefScan2Ideal.nD,
      r.2.mem ((c.tc : Thread Cert.RefScan2Ideal.nD Cert.RefScan2Ideal.τ).loc Cert.RefScan2Ideal.main_arg0) = m ((c.tc : Thread Cert.RefScan2Ideal.nD Cert.RefScan2Ideal.τ).loc Cert.RefScan2Ideal.main_arg0)
      ∧ r.2.mem ((c.tc : Thread Cert.RefScan2Ideal.nD Cert.RefScan2Ideal.τ).loc Cert.RefScan2Ideal.main_arg1) = m ((c.tc : Thread Cert.RefScan2Ideal.nD Cert.RefScan2Ideal.τ).loc Cert.RefScan2Ideal.main_arg1)
      ∧ r.2.mem ((c.tc : Thread Cert.RefScan2Ideal.nD Cert.RefScan2Ideal.τ).loc Cert.RefScan2Ideal.main_arg2) = m ((c.tc : Thread Cert.RefScan2Ideal.nD Cert.RefScan2Ideal.τ).loc Cert.RefScan2Ideal.main_arg2)
      ∧ r.2.mem ((c.tc : Thread Cert.RefScan2Ideal.nD Cert.RefScan2Ideal.τ).loc Cert.RefScan2Ideal.main_arg3) = m ((c.tc : Thread Cert.RefScan2Ideal.nD Cert.RefScan2Ideal.τ).loc Cert.RefScan2Ideal.main_arg3))
      ∧ r.2.sem = fun _ => 0)

def quiescent_Sel2 [hSel2 : Cert.Sel2.Facts] : Prop :=
  ∀ (m : (ℓ : Loc Cert.Sel2.nD Cert.Sel2.τ Cert.Sel2.sig) → Buf (Elt Bits) ℓ) (g : Dev Cert.Sel2.nD → PrngReg), Pre_Sel2 m →
    θ_run (Cert.Sel2.defs (F := Bits)) (onTc (τ := Cert.Sel2.τ) (Cert.Sel2.main (F := Bits))) ⟨m, fun _ => 0, g⟩ (fun r => (∀ c : Dev Cert.Sel2.nD,
      r.2.mem ((c.tc : Thread Cert.Sel2.nD Cert.Sel2.τ).loc Cert.Sel2.main_arg0) = m ((c.tc : Thread Cert.Sel2.nD Cert.Sel2.τ).loc Cert.Sel2.main_arg0)
      ∧ r.2.mem ((c.tc : Thread Cert.Sel2.nD Cert.Sel2.τ).loc Cert.Sel2.main_arg1) = m ((c.tc : Thread Cert.Sel2.nD Cert.Sel2.τ).loc Cert.Sel2.main_arg1)
      ∧ r.2.mem ((c.tc : Thread Cert.Sel2.nD Cert.Sel2.τ).loc Cert.Sel2.main_arg2) = m ((c.tc : Thread Cert.Sel2.nD Cert.Sel2.τ).loc Cert.Sel2.main_arg2))
      ∧ r.2.sem = fun _ => 0)

def quiescent_Sel2Ideal [hSel2Ideal : Cert.Sel2Ideal.Facts] : Prop :=
  ∀ (m : (ℓ : Loc Cert.Sel2Ideal.nD Cert.Sel2Ideal.τ Cert.Sel2Ideal.sig) → Buf (Elt Ideal) ℓ) (g : Dev Cert.Sel2Ideal.nD → PrngReg), Pre_Sel2Ideal m →
    θ_run (Cert.Sel2Ideal.defs (F := Ideal)) (onTc (τ := Cert.Sel2Ideal.τ) (Cert.Sel2Ideal.main (F := Ideal))) ⟨m, fun _ => 0, g⟩ (fun r => (∀ c : Dev Cert.Sel2Ideal.nD,
      r.2.mem ((c.tc : Thread Cert.Sel2Ideal.nD Cert.Sel2Ideal.τ).loc Cert.Sel2Ideal.main_arg0) = m ((c.tc : Thread Cert.Sel2Ideal.nD Cert.Sel2Ideal.τ).loc Cert.Sel2Ideal.main_arg0)
      ∧ r.2.mem ((c.tc : Thread Cert.Sel2Ideal.nD Cert.Sel2Ideal.τ).loc Cert.Sel2Ideal.main_arg1) = m ((c.tc : Thread Cert.Sel2Ideal.nD Cert.Sel2Ideal.τ).loc Cert.Sel2Ideal.main_arg1)
      ∧ r.2.mem ((c.tc : Thread Cert.Sel2Ideal.nD Cert.Sel2Ideal.τ).loc Cert.Sel2Ideal.main_arg2) = m ((c.tc : Thread Cert.Sel2Ideal.nD Cert.Sel2Ideal.τ).loc Cert.Sel2Ideal.main_arg2))
      ∧ r.2.sem = fun _ => 0)

def quiescent_RefSel2Ideal [hRefSel2Ideal : Cert.RefSel2Ideal.Facts] : Prop :=
  ∀ (m : (ℓ : Loc Cert.RefSel2Ideal.nD Cert.RefSel2Ideal.τ Cert.RefSel2Ideal.sig) → Buf (Elt Ideal) ℓ) (g : Dev Cert.RefSel2Ideal.nD → PrngReg), Pre_RefSel2Ideal m →
    θ_run (Cert.RefSel2Ideal.defs (F := Ideal)) (onTc (τ := Cert.RefSel2Ideal.τ) (Cert.RefSel2Ideal.main (F := Ideal))) ⟨m, fun _ => 0, g⟩ (fun r => (∀ c : Dev Cert.RefSel2Ideal.nD,
      r.2.mem ((c.tc : Thread Cert.RefSel2Ideal.nD Cert.RefSel2Ideal.τ).loc Cert.RefSel2Ideal.main_arg0) = m ((c.tc : Thread Cert.RefSel2Ideal.nD Cert.RefSel2Ideal.τ).loc Cert.RefSel2Ideal.main_arg0)
      ∧ r.2.mem ((c.tc : Thread Cert.RefSel2Ideal.nD Cert.RefSel2Ideal.τ).loc Cert.RefSel2Ideal.main_arg1) = m ((c.tc : Thread Cert.RefSel2Ideal.nD Cert.RefSel2Ideal.τ).loc Cert.RefSel2Ideal.main_arg1)
      ∧ r.2.mem ((c.tc : Thread Cert.RefSel2Ideal.nD Cert.RefSel2Ideal.τ).loc Cert.RefSel2Ideal.main_arg2) = m ((c.tc : Thread Cert.RefSel2Ideal.nD Cert.RefSel2Ideal.τ).loc Cert.RefSel2Ideal.main_arg2))
      ∧ r.2.sem = fun _ => 0)

def quiescent_Kd1 [hKd1 : Cert.Kd1.Facts] : Prop :=
  ∀ (m : (ℓ : Loc Cert.Kd1.nD Cert.Kd1.τ Cert.Kd1.sig) → Buf (Elt Bits) ℓ) (g : Dev Cert.Kd1.nD → PrngReg), Pre_Kd1 m →
    θ_run (Cert.Kd1.defs (F := Bits)) (onTc (τ := Cert.Kd1.τ) (Cert.Kd1.main (F := Bits))) ⟨m, fun _ => 0, g⟩ (fun r => (∀ c : Dev Cert.Kd1.nD,
      r.2.mem ((c.tc : Thread Cert.Kd1.nD Cert.Kd1.τ).loc Cert.Kd1.main_arg0) = m ((c.tc : Thread Cert.Kd1.nD Cert.Kd1.τ).loc Cert.Kd1.main_arg0)
      ∧ r.2.mem ((c.tc : Thread Cert.Kd1.nD Cert.Kd1.τ).loc Cert.Kd1.main_arg1) = m ((c.tc : Thread Cert.Kd1.nD Cert.Kd1.τ).loc Cert.Kd1.main_arg1)
      ∧ r.2.mem ((c.tc : Thread Cert.Kd1.nD Cert.Kd1.τ).loc Cert.Kd1.main_arg2) = m ((c.tc : Thread Cert.Kd1.nD Cert.Kd1.τ).loc Cert.Kd1.main_arg2)
      ∧ r.2.mem ((c.tc : Thread Cert.Kd1.nD Cert.Kd1.τ).loc Cert.Kd1.main_arg3) = m ((c.tc : Thread Cert.Kd1.nD Cert.Kd1.τ).loc Cert.Kd1.main_arg3)
      ∧ r.2.mem ((c.tc : Thread Cert.Kd1.nD Cert.Kd1.τ).loc Cert.Kd1.main_arg4) = m ((c.tc : Thread Cert.Kd1.nD Cert.Kd1.τ).loc Cert.Kd1.main_arg4))
      ∧ r.2.sem = fun _ => 0)

def quiescent_Kd1Ideal [hKd1Ideal : Cert.Kd1Ideal.Facts] : Prop :=
  ∀ (m : (ℓ : Loc Cert.Kd1Ideal.nD Cert.Kd1Ideal.τ Cert.Kd1Ideal.sig) → Buf (Elt Ideal) ℓ) (g : Dev Cert.Kd1Ideal.nD → PrngReg), Pre_Kd1Ideal m →
    θ_run (Cert.Kd1Ideal.defs (F := Ideal)) (onTc (τ := Cert.Kd1Ideal.τ) (Cert.Kd1Ideal.main (F := Ideal))) ⟨m, fun _ => 0, g⟩ (fun r => (∀ c : Dev Cert.Kd1Ideal.nD,
      r.2.mem ((c.tc : Thread Cert.Kd1Ideal.nD Cert.Kd1Ideal.τ).loc Cert.Kd1Ideal.main_arg0) = m ((c.tc : Thread Cert.Kd1Ideal.nD Cert.Kd1Ideal.τ).loc Cert.Kd1Ideal.main_arg0)
      ∧ r.2.mem ((c.tc : Thread Cert.Kd1Ideal.nD Cert.Kd1Ideal.τ).loc Cert.Kd1Ideal.main_arg1) = m ((c.tc : Thread Cert.Kd1Ideal.nD Cert.Kd1Ideal.τ).loc Cert.Kd1Ideal.main_arg1)
      ∧ r.2.mem ((c.tc : Thread Cert.Kd1Ideal.nD Cert.Kd1Ideal.τ).loc Cert.Kd1Ideal.main_arg2) = m ((c.tc : Thread Cert.Kd1Ideal.nD Cert.Kd1Ideal.τ).loc Cert.Kd1Ideal.main_arg2)
      ∧ r.2.mem ((c.tc : Thread Cert.Kd1Ideal.nD Cert.Kd1Ideal.τ).loc Cert.Kd1Ideal.main_arg3) = m ((c.tc : Thread Cert.Kd1Ideal.nD Cert.Kd1Ideal.τ).loc Cert.Kd1Ideal.main_arg3)
      ∧ r.2.mem ((c.tc : Thread Cert.Kd1Ideal.nD Cert.Kd1Ideal.τ).loc Cert.Kd1Ideal.main_arg4) = m ((c.tc : Thread Cert.Kd1Ideal.nD Cert.Kd1Ideal.τ).loc Cert.Kd1Ideal.main_arg4))
      ∧ r.2.sem = fun _ => 0)

def quiescent_RefKd1Ideal [hRefKd1Ideal : Cert.RefKd1Ideal.Facts] : Prop :=
  ∀ (m : (ℓ : Loc Cert.RefKd1Ideal.nD Cert.RefKd1Ideal.τ Cert.RefKd1Ideal.sig) → Buf (Elt Ideal) ℓ) (g : Dev Cert.RefKd1Ideal.nD → PrngReg), Pre_RefKd1Ideal m →
    θ_run (Cert.RefKd1Ideal.defs (F := Ideal)) (onTc (τ := Cert.RefKd1Ideal.τ) (Cert.RefKd1Ideal.main (F := Ideal))) ⟨m, fun _ => 0, g⟩ (fun r => (∀ c : Dev Cert.RefKd1Ideal.nD,
      r.2.mem ((c.tc : Thread Cert.RefKd1Ideal.nD Cert.RefKd1Ideal.τ).loc Cert.RefKd1Ideal.main_arg0) = m ((c.tc : Thread Cert.RefKd1Ideal.nD Cert.RefKd1Ideal.τ).loc Cert.RefKd1Ideal.main_arg0)
      ∧ r.2.mem ((c.tc : Thread Cert.RefKd1Ideal.nD Cert.RefKd1Ideal.τ).loc Cert.RefKd1Ideal.main_arg1) = m ((c.tc : Thread Cert.RefKd1Ideal.nD Cert.RefKd1Ideal.τ).loc Cert.RefKd1Ideal.main_arg1)
      ∧ r.2.mem ((c.tc : Thread Cert.RefKd1Ideal.nD Cert.RefKd1Ideal.τ).loc Cert.RefKd1Ideal.main_arg2) = m ((c.tc : Thread Cert.RefKd1Ideal.nD Cert.RefKd1Ideal.τ).loc Cert.RefKd1Ideal.main_arg2)
      ∧ r.2.mem ((c.tc : Thread Cert.RefKd1Ideal.nD Cert.RefKd1Ideal.τ).loc Cert.RefKd1Ideal.main_arg3) = m ((c.tc : Thread Cert.RefKd1Ideal.nD Cert.RefKd1Ideal.τ).loc Cert.RefKd1Ideal.main_arg3)
      ∧ r.2.mem ((c.tc : Thread Cert.RefKd1Ideal.nD Cert.RefKd1Ideal.τ).loc Cert.RefKd1Ideal.main_arg4) = m ((c.tc : Thread Cert.RefKd1Ideal.nD Cert.RefKd1Ideal.τ).loc Cert.RefKd1Ideal.main_arg4))
      ∧ r.2.sem = fun _ => 0)

def quiescent_Scan1 [hScan1 : Cert.Scan1.Facts] : Prop :=
  ∀ (m : (ℓ : Loc Cert.Scan1.nD Cert.Scan1.τ Cert.Scan1.sig) → Buf (Elt Bits) ℓ) (g : Dev Cert.Scan1.nD → PrngReg), Pre_Scan1 m →
    θ_run (Cert.Scan1.defs (F := Bits)) (onTc (τ := Cert.Scan1.τ) (Cert.Scan1.main (F := Bits))) ⟨m, fun _ => 0, g⟩ (fun r => (∀ c : Dev Cert.Scan1.nD,
      r.2.mem ((c.tc : Thread Cert.Scan1.nD Cert.Scan1.τ).loc Cert.Scan1.main_arg0) = m ((c.tc : Thread Cert.Scan1.nD Cert.Scan1.τ).loc Cert.Scan1.main_arg0)
      ∧ r.2.mem ((c.tc : Thread Cert.Scan1.nD Cert.Scan1.τ).loc Cert.Scan1.main_arg1) = m ((c.tc : Thread Cert.Scan1.nD Cert.Scan1.τ).loc Cert.Scan1.main_arg1)
      ∧ r.2.mem ((c.tc : Thread Cert.Scan1.nD Cert.Scan1.τ).loc Cert.Scan1.main_arg2) = m ((c.tc : Thread Cert.Scan1.nD Cert.Scan1.τ).loc Cert.Scan1.main_arg2)
      ∧ r.2.mem ((c.tc : Thread Cert.Scan1.nD Cert.Scan1.τ).loc Cert.Scan1.main_arg3) = m ((c.tc : Thread Cert.Scan1.nD Cert.Scan1.τ).loc Cert.Scan1.main_arg3))
      ∧ r.2.sem = fun _ => 0)

def quiescent_Scan1Ideal [hScan1Ideal : Cert.Scan1Ideal.Facts] : Prop :=
  ∀ (m : (ℓ : Loc Cert.Scan1Ideal.nD Cert.Scan1Ideal.τ Cert.Scan1Ideal.sig) → Buf (Elt Ideal) ℓ) (g : Dev Cert.Scan1Ideal.nD → PrngReg), Pre_Scan1Ideal m →
    θ_run (Cert.Scan1Ideal.defs (F := Ideal)) (onTc (τ := Cert.Scan1Ideal.τ) (Cert.Scan1Ideal.main (F := Ideal))) ⟨m, fun _ => 0, g⟩ (fun r => (∀ c : Dev Cert.Scan1Ideal.nD,
      r.2.mem ((c.tc : Thread Cert.Scan1Ideal.nD Cert.Scan1Ideal.τ).loc Cert.Scan1Ideal.main_arg0) = m ((c.tc : Thread Cert.Scan1Ideal.nD Cert.Scan1Ideal.τ).loc Cert.Scan1Ideal.main_arg0)
      ∧ r.2.mem ((c.tc : Thread Cert.Scan1Ideal.nD Cert.Scan1Ideal.τ).loc Cert.Scan1Ideal.main_arg1) = m ((c.tc : Thread Cert.Scan1Ideal.nD Cert.Scan1Ideal.τ).loc Cert.Scan1Ideal.main_arg1)
      ∧ r.2.mem ((c.tc : Thread Cert.Scan1Ideal.nD Cert.Scan1Ideal.τ).loc Cert.Scan1Ideal.main_arg2) = m ((c.tc : Thread Cert.Scan1Ideal.nD Cert.Scan1Ideal.τ).loc Cert.Scan1Ideal.main_arg2)
      ∧ r.2.mem ((c.tc : Thread Cert.Scan1Ideal.nD Cert.Scan1Ideal.τ).loc Cert.Scan1Ideal.main_arg3) = m ((c.tc : Thread Cert.Scan1Ideal.nD Cert.Scan1Ideal.τ).loc Cert.Scan1Ideal.main_arg3))
      ∧ r.2.sem = fun _ => 0)

def quiescent_RefScan1Ideal [hRefScan1Ideal : Cert.RefScan1Ideal.Facts] : Prop :=
  ∀ (m : (ℓ : Loc Cert.RefScan1Ideal.nD Cert.RefScan1Ideal.τ Cert.RefScan1Ideal.sig) → Buf (Elt Ideal) ℓ) (g : Dev Cert.RefScan1Ideal.nD → PrngReg), Pre_RefScan1Ideal m →
    θ_run (Cert.RefScan1Ideal.defs (F := Ideal)) (onTc (τ := Cert.RefScan1Ideal.τ) (Cert.RefScan1Ideal.main (F := Ideal))) ⟨m, fun _ => 0, g⟩ (fun r => (∀ c : Dev Cert.RefScan1Ideal.nD,
      r.2.mem ((c.tc : Thread Cert.RefScan1Ideal.nD Cert.RefScan1Ideal.τ).loc Cert.RefScan1Ideal.main_arg0) = m ((c.tc : Thread Cert.RefScan1Ideal.nD Cert.RefScan1Ideal.τ).loc Cert.RefScan1Ideal.main_arg0)
      ∧ r.2.mem ((c.tc : Thread Cert.RefScan1Ideal.nD Cert.RefScan1Ideal.τ).loc Cert.RefScan1Ideal.main_arg1) = m ((c.tc : Thread Cert.RefScan1Ideal.nD Cert.RefScan1Ideal.τ).loc Cert.RefScan1Ideal.main_arg1)
      ∧ r.2.mem ((c.tc : Thread Cert.RefScan1Ideal.nD Cert.RefScan1Ideal.τ).loc Cert.RefScan1Ideal.main_arg2) = m ((c.tc : Thread Cert.RefScan1Ideal.nD Cert.RefScan1Ideal.τ).loc Cert.RefScan1Ideal.main_arg2)
      ∧ r.2.mem ((c.tc : Thread Cert.RefScan1Ideal.nD Cert.RefScan1Ideal.τ).loc Cert.RefScan1Ideal.main_arg3) = m ((c.tc : Thread Cert.RefScan1Ideal.nD Cert.RefScan1Ideal.τ).loc Cert.RefScan1Ideal.main_arg3))
      ∧ r.2.sem = fun _ => 0)

def quiescent_Sel1 [hSel1 : Cert.Sel1.Facts] : Prop :=
  ∀ (m : (ℓ : Loc Cert.Sel1.nD Cert.Sel1.τ Cert.Sel1.sig) → Buf (Elt Bits) ℓ) (g : Dev Cert.Sel1.nD → PrngReg), Pre_Sel1 m →
    θ_run (Cert.Sel1.defs (F := Bits)) (onTc (τ := Cert.Sel1.τ) (Cert.Sel1.main (F := Bits))) ⟨m, fun _ => 0, g⟩ (fun r => (∀ c : Dev Cert.Sel1.nD,
      r.2.mem ((c.tc : Thread Cert.Sel1.nD Cert.Sel1.τ).loc Cert.Sel1.main_arg0) = m ((c.tc : Thread Cert.Sel1.nD Cert.Sel1.τ).loc Cert.Sel1.main_arg0)
      ∧ r.2.mem ((c.tc : Thread Cert.Sel1.nD Cert.Sel1.τ).loc Cert.Sel1.main_arg1) = m ((c.tc : Thread Cert.Sel1.nD Cert.Sel1.τ).loc Cert.Sel1.main_arg1)
      ∧ r.2.mem ((c.tc : Thread Cert.Sel1.nD Cert.Sel1.τ).loc Cert.Sel1.main_arg2) = m ((c.tc : Thread Cert.Sel1.nD Cert.Sel1.τ).loc Cert.Sel1.main_arg2))
      ∧ r.2.sem = fun _ => 0)

def quiescent_Sel1Ideal [hSel1Ideal : Cert.Sel1Ideal.Facts] : Prop :=
  ∀ (m : (ℓ : Loc Cert.Sel1Ideal.nD Cert.Sel1Ideal.τ Cert.Sel1Ideal.sig) → Buf (Elt Ideal) ℓ) (g : Dev Cert.Sel1Ideal.nD → PrngReg), Pre_Sel1Ideal m →
    θ_run (Cert.Sel1Ideal.defs (F := Ideal)) (onTc (τ := Cert.Sel1Ideal.τ) (Cert.Sel1Ideal.main (F := Ideal))) ⟨m, fun _ => 0, g⟩ (fun r => (∀ c : Dev Cert.Sel1Ideal.nD,
      r.2.mem ((c.tc : Thread Cert.Sel1Ideal.nD Cert.Sel1Ideal.τ).loc Cert.Sel1Ideal.main_arg0) = m ((c.tc : Thread Cert.Sel1Ideal.nD Cert.Sel1Ideal.τ).loc Cert.Sel1Ideal.main_arg0)
      ∧ r.2.mem ((c.tc : Thread Cert.Sel1Ideal.nD Cert.Sel1Ideal.τ).loc Cert.Sel1Ideal.main_arg1) = m ((c.tc : Thread Cert.Sel1Ideal.nD Cert.Sel1Ideal.τ).loc Cert.Sel1Ideal.main_arg1)
      ∧ r.2.mem ((c.tc : Thread Cert.Sel1Ideal.nD Cert.Sel1Ideal.τ).loc Cert.Sel1Ideal.main_arg2) = m ((c.tc : Thread Cert.Sel1Ideal.nD Cert.Sel1Ideal.τ).loc Cert.Sel1Ideal.main_arg2))
      ∧ r.2.sem = fun _ => 0)

def quiescent_RefSel1Ideal [hRefSel1Ideal : Cert.RefSel1Ideal.Facts] : Prop :=
  ∀ (m : (ℓ : Loc Cert.RefSel1Ideal.nD Cert.RefSel1Ideal.τ Cert.RefSel1Ideal.sig) → Buf (Elt Ideal) ℓ) (g : Dev Cert.RefSel1Ideal.nD → PrngReg), Pre_RefSel1Ideal m →
    θ_run (Cert.RefSel1Ideal.defs (F := Ideal)) (onTc (τ := Cert.RefSel1Ideal.τ) (Cert.RefSel1Ideal.main (F := Ideal))) ⟨m, fun _ => 0, g⟩ (fun r => (∀ c : Dev Cert.RefSel1Ideal.nD,
      r.2.mem ((c.tc : Thread Cert.RefSel1Ideal.nD Cert.RefSel1Ideal.τ).loc Cert.RefSel1Ideal.main_arg0) = m ((c.tc : Thread Cert.RefSel1Ideal.nD Cert.RefSel1Ideal.τ).loc Cert.RefSel1Ideal.main_arg0)
      ∧ r.2.mem ((c.tc : Thread Cert.RefSel1Ideal.nD Cert.RefSel1Ideal.τ).loc Cert.RefSel1Ideal.main_arg1) = m ((c.tc : Thread Cert.RefSel1Ideal.nD Cert.RefSel1Ideal.τ).loc Cert.RefSel1Ideal.main_arg1)
      ∧ r.2.mem ((c.tc : Thread Cert.RefSel1Ideal.nD Cert.RefSel1Ideal.τ).loc Cert.RefSel1Ideal.main_arg2) = m ((c.tc : Thread Cert.RefSel1Ideal.nD Cert.RefSel1Ideal.τ).loc Cert.RefSel1Ideal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2))
      ∧ r.2.sem = fun _ => 0)

def preserves_Kd4_Kd4Ideal : Prop :=
  True

def algebraic_Kd4Ideal_RefKd4Ideal [hKd4Ideal : Cert.Kd4Ideal.Facts] [hRefKd4Ideal : Cert.RefKd4Ideal.Facts] : Prop :=
  ∀ (m : (ℓ : Loc Cert.Kd4Ideal.nD Cert.Kd4Ideal.τ Cert.Kd4Ideal.sig) → Buf (Elt Ideal) ℓ) (g : Dev Cert.Kd4Ideal.nD → PrngReg)
    (m' : (ℓ : Loc Cert.RefKd4Ideal.nD Cert.RefKd4Ideal.τ Cert.RefKd4Ideal.sig) → Buf (Elt Ideal) ℓ) (g' : Dev Cert.RefKd4Ideal.nD → PrngReg), Pre_Kd4Ideal m →
    (∀ c : Dev Cert.Kd4Ideal.nD,
      m' ((c.tc : Thread Cert.RefKd4Ideal.nD Cert.RefKd4Ideal.τ).loc Cert.RefKd4Ideal.main_arg0) = m ((c.tc : Thread Cert.Kd4Ideal.nD Cert.Kd4Ideal.τ).loc Cert.Kd4Ideal.main_arg0)
      ∧ m' ((c.tc : Thread Cert.RefKd4Ideal.nD Cert.RefKd4Ideal.τ).loc Cert.RefKd4Ideal.main_arg1) = m ((c.tc : Thread Cert.Kd4Ideal.nD Cert.Kd4Ideal.τ).loc Cert.Kd4Ideal.main_arg1)
      ∧ m' ((c.tc : Thread Cert.RefKd4Ideal.nD Cert.RefKd4Ideal.τ).loc Cert.RefKd4Ideal.main_arg2) = m ((c.tc : Thread Cert.Kd4Ideal.nD Cert.Kd4Ideal.τ).loc Cert.Kd4Ideal.main_arg2)
      ∧ m' ((c.tc : Thread Cert.RefKd4Ideal.nD Cert.RefKd4Ideal.τ).loc Cert.RefKd4Ideal.main_arg3) = m ((c.tc : Thread Cert.Kd4Ideal.nD Cert.Kd4Ideal.τ).loc Cert.Kd4Ideal.main_arg3)
      ∧ m' ((c.tc : Thread Cert.RefKd4Ideal.nD Cert.RefKd4Ideal.τ).loc Cert.RefKd4Ideal.main_arg4) = m ((c.tc : Thread Cert.Kd4Ideal.nD Cert.Kd4Ideal.τ).loc Cert.Kd4Ideal.main_arg4)) →
    ∃ (v0 : (c : Dev Cert.Kd4Ideal.nD) → Buf (Elt Ideal) ((c.tc : Thread Cert.Kd4Ideal.nD Cert.Kd4Ideal.τ).loc Cert.Kd4Ideal.main_v0_0)) (v1 : (c : Dev Cert.Kd4Ideal.nD) → Buf (Elt Ideal) ((c.tc : Thread Cert.Kd4Ideal.nD Cert.Kd4Ideal.τ).loc Cert.Kd4Ideal.main_v0_1)) (v2 : (c : Dev Cert.Kd4Ideal.nD) → Buf (Elt Ideal) ((c.tc : Thread Cert.Kd4Ideal.nD Cert.Kd4Ideal.τ).loc Cert.Kd4Ideal.main_v0_2)),
      θ_run (Cert.Kd4Ideal.defs (F := Ideal)) (onTc (τ := Cert.Kd4Ideal.τ) (Cert.Kd4Ideal.main (F := Ideal))) ⟨m, fun _ => 0, g⟩ (fun r => ∀ c : Dev Cert.Kd4Ideal.nD,
          r.2.mem ((c.tc : Thread Cert.Kd4Ideal.nD Cert.Kd4Ideal.τ).loc Cert.Kd4Ideal.main_v0_0) = v0 c
          ∧ r.2.mem ((c.tc : Thread Cert.Kd4Ideal.nD Cert.Kd4Ideal.τ).loc Cert.Kd4Ideal.main_v0_1) = v1 c
          ∧ r.2.mem ((c.tc : Thread Cert.Kd4Ideal.nD Cert.Kd4Ideal.τ).loc Cert.Kd4Ideal.main_v0_2) = v2 c
          ∧ r.2.mem ((c.tc : Thread Cert.Kd4Ideal.nD Cert.Kd4Ideal.τ).loc Cert.Kd4Ideal.main_arg0) = m ((c.tc : Thread Cert.Kd4Ideal.nD Cert.Kd4Ideal.τ).loc Cert.Kd4Ideal.main_arg0)
          ∧ r.2.mem ((c.tc : Thread Cert.Kd4Ideal.nD Cert.Kd4Ideal.τ).loc Cert.Kd4Ideal.main_arg1) = m ((c.tc : Thread Cert.Kd4Ideal.nD Cert.Kd4Ideal.τ).loc Cert.Kd4Ideal.main_arg1)
          ∧ r.2.mem ((c.tc : Thread Cert.Kd4Ideal.nD Cert.Kd4Ideal.τ).loc Cert.Kd4Ideal.main_arg2) = m ((c.tc : Thread Cert.Kd4Ideal.nD Cert.Kd4Ideal.τ).loc Cert.Kd4Ideal.main_arg2)
          ∧ r.2.mem ((c.tc : Thread Cert.Kd4Ideal.nD Cert.Kd4Ideal.τ).loc Cert.Kd4Ideal.main_arg3) = m ((c.tc : Thread Cert.Kd4Ideal.nD Cert.Kd4Ideal.τ).loc Cert.Kd4Ideal.main_arg3)
          ∧ r.2.mem ((c.tc : Thread Cert.Kd4Ideal.nD Cert.Kd4Ideal.τ).loc Cert.Kd4Ideal.main_arg4) = m ((c.tc : Thread Cert.Kd4Ideal.nD Cert.Kd4Ideal.τ).loc Cert.Kd4Ideal.main_arg4))
      ∧ θ_run (Cert.RefKd4Ideal.defs (F := Ideal)) (onTc (τ := Cert.RefKd4Ideal.τ) (Cert.RefKd4Ideal.main (F := Ideal))) ⟨m', fun _ => 0, g'⟩ (fun r => ∀ c : Dev Cert.RefKd4Ideal.nD,
          r.2.mem ((c.tc : Thread Cert.RefKd4Ideal.nD Cert.RefKd4Ideal.τ).loc Cert.RefKd4Ideal.main_v17) = v0 c
          ∧ r.2.mem ((c.tc : Thread Cert.RefKd4Ideal.nD Cert.RefKd4Ideal.τ).loc Cert.RefKd4Ideal.main_v19) = v1 c
          ∧ r.2.mem ((c.tc : Thread Cert.RefKd4Ideal.nD Cert.RefKd4Ideal.τ).loc Cert.RefKd4Ideal.main_v24) = v2 c
          ∧ r.2.mem ((c.tc : Thread Cert.RefKd4Ideal.nD Cert.RefKd4Ideal.τ).loc Cert.RefKd4Ideal.main_arg0) = m' ((c.tc : Thread Cert.RefKd4Ideal.nD Cert.RefKd4Ideal.τ).loc Cert.RefKd4Ideal.main_arg0)
          ∧ r.2.mem ((c.tc : Thread Cert.RefKd4Ideal.nD Cert.RefKd4Ideal.τ).loc Cert.RefKd4Ideal.main_arg1) = m' ((c.tc : Thread Cert.RefKd4Ideal.nD Cert.RefKd4Ideal.τ).loc Cert.RefKd4Ideal.main_arg1)
          ∧ r.2.mem ((c.tc : Thread Cert.RefKd4Ideal.nD Cert.RefKd4Ideal.τ).loc Cert.RefKd4Ideal.main_arg2) = m' ((c.tc : Thread Cert.RefKd4Ideal.nD Cert.RefKd4Ideal.τ).loc Cert.RefKd4Ideal.main_arg2)
          ∧ r.2.mem ((c.tc : Thread Cert.RefKd4Ideal.nD Cert.RefKd4Ideal.τ).loc Cert.RefKd4Ideal.main_arg3) = m' ((c.tc : Thread Cert.RefKd4Ideal.nD Cert.RefKd4Ideal.τ).loc Cert.RefKd4Ideal.main_arg3)
          ∧ r.2.mem ((c.tc : Thread Cert.RefKd4Ideal.nD Cert.RefKd4Ideal.τ).loc Cert.RefKd4Ideal.main_arg4) = m' ((c.tc : Thread Cert.RefKd4Ideal.nD Cert.RefKd4Ideal.τ).loc Cert.RefKd4Ideal.main_arg4))

def preserves_Scan4_Scan4Ideal : Prop :=
  True

def algebraic_Scan4Ideal_RefScan4Ideal [hScan4Ideal : Cert.Scan4Ideal.Facts] [hRefScan4Ideal : Cert.RefScan4Ideal.Facts] : Prop :=
  ∀ (m : (ℓ : Loc Cert.Scan4Ideal.nD Cert.Scan4Ideal.τ Cert.Scan4Ideal.sig) → Buf (Elt Ideal) ℓ) (g : Dev Cert.Scan4Ideal.nD → PrngReg)
    (m' : (ℓ : Loc Cert.RefScan4Ideal.nD Cert.RefScan4Ideal.τ Cert.RefScan4Ideal.sig) → Buf (Elt Ideal) ℓ) (g' : Dev Cert.RefScan4Ideal.nD → PrngReg), Pre_Scan4Ideal m →
    (∀ c : Dev Cert.Scan4Ideal.nD,
      m' ((c.tc : Thread Cert.RefScan4Ideal.nD Cert.RefScan4Ideal.τ).loc Cert.RefScan4Ideal.main_arg0) = m ((c.tc : Thread Cert.Scan4Ideal.nD Cert.Scan4Ideal.τ).loc Cert.Scan4Ideal.main_arg0)
      ∧ m' ((c.tc : Thread Cert.RefScan4Ideal.nD Cert.RefScan4Ideal.τ).loc Cert.RefScan4Ideal.main_arg1) = m ((c.tc : Thread Cert.Scan4Ideal.nD Cert.Scan4Ideal.τ).loc Cert.Scan4Ideal.main_arg1)
      ∧ m' ((c.tc : Thread Cert.RefScan4Ideal.nD Cert.RefScan4Ideal.τ).loc Cert.RefScan4Ideal.main_arg2) = m ((c.tc : Thread Cert.Scan4Ideal.nD Cert.Scan4Ideal.τ).loc Cert.Scan4Ideal.main_arg2)
      ∧ m' ((c.tc : Thread Cert.RefScan4Ideal.nD Cert.RefScan4Ideal.τ).loc Cert.RefScan4Ideal.main_arg3) = m ((c.tc : Thread Cert.Scan4Ideal.nD Cert.Scan4Ideal.τ).loc Cert.Scan4Ideal.main_arg3)) →
    ∃ (v0 : (c : Dev Cert.Scan4Ideal.nD) → Buf (Elt Ideal) ((c.tc : Thread Cert.Scan4Ideal.nD Cert.Scan4Ideal.τ).loc Cert.Scan4Ideal.main_v2)),
      θ_run (Cert.Scan4Ideal.defs (F := Ideal)) (onTc (τ := Cert.Scan4Ideal.τ) (Cert.Scan4Ideal.main (F := Ideal))) ⟨m, fun _ => 0, g⟩ (fun r => ∀ c : Dev Cert.Scan4Ideal.nD,
          r.2.mem ((c.tc : Thread Cert.Scan4Ideal.nD Cert.Scan4Ideal.τ).loc Cert.Scan4Ideal.main_v2) = v0 c
          ∧ r.2.mem ((c.tc : Thread Cert.Scan4Ideal.nD Cert.Scan4Ideal.τ).loc Cert.Scan4Ideal.main_arg0) = m ((c.tc : Thread Cert.Scan4Ideal.nD Cert.Scan4Ideal.τ).loc Cert.Scan4Ideal.main_arg0)
          ∧ r.2.mem ((c.tc : Thread Cert.Scan4Ideal.nD Cert.Scan4Ideal.τ).loc Cert.Scan4Ideal.main_arg1) = m ((c.tc : Thread Cert.Scan4Ideal.nD Cert.Scan4Ideal.τ).loc Cert.Scan4Ideal.main_arg1)
          ∧ r.2.mem ((c.tc : Thread Cert.Scan4Ideal.nD Cert.Scan4Ideal.τ).loc Cert.Scan4Ideal.main_arg2) = m ((c.tc : Thread Cert.Scan4Ideal.nD Cert.Scan4Ideal.τ).loc Cert.Scan4Ideal.main_arg2)
          ∧ r.2.mem ((c.tc : Thread Cert.Scan4Ideal.nD Cert.Scan4Ideal.τ).loc Cert.Scan4Ideal.main_arg3) = m ((c.tc : Thread Cert.Scan4Ideal.nD Cert.Scan4Ideal.τ).loc Cert.Scan4Ideal.main_arg3))
      ∧ θ_run (Cert.RefScan4Ideal.defs (F := Ideal)) (onTc (τ := Cert.RefScan4Ideal.τ) (Cert.RefScan4Ideal.main (F := Ideal))) ⟨m', fun _ => 0, g'⟩ (fun r => ∀ c : Dev Cert.RefScan4Ideal.nD,
          r.2.mem ((c.tc : Thread Cert.RefScan4Ideal.nD Cert.RefScan4Ideal.τ).loc Cert.RefScan4Ideal.main_v8) = v0 c
          ∧ r.2.mem ((c.tc : Thread Cert.RefScan4Ideal.nD Cert.RefScan4Ideal.τ).loc Cert.RefScan4Ideal.main_arg0) = m' ((c.tc : Thread Cert.RefScan4Ideal.nD Cert.RefScan4Ideal.τ).loc Cert.RefScan4Ideal.main_arg0)
          ∧ r.2.mem ((c.tc : Thread Cert.RefScan4Ideal.nD Cert.RefScan4Ideal.τ).loc Cert.RefScan4Ideal.main_arg1) = m' ((c.tc : Thread Cert.RefScan4Ideal.nD Cert.RefScan4Ideal.τ).loc Cert.RefScan4Ideal.main_arg1)
          ∧ r.2.mem ((c.tc : Thread Cert.RefScan4Ideal.nD Cert.RefScan4Ideal.τ).loc Cert.RefScan4Ideal.main_arg2) = m' ((c.tc : Thread Cert.RefScan4Ideal.nD Cert.RefScan4Ideal.τ).loc Cert.RefScan4Ideal.main_arg2)
          ∧ r.2.mem ((c.tc : Thread Cert.RefScan4Ideal.nD Cert.RefScan4Ideal.τ).loc Cert.RefScan4Ideal.main_arg3) = m' ((c.tc : Thread Cert.RefScan4Ideal.nD Cert.RefScan4Ideal.τ).loc Cert.RefScan4Ideal.main_arg3))

def preserves_Sel4_Sel4Ideal : Prop :=
  True

def algebraic_Sel4Ideal_RefSel4Ideal [hSel4Ideal : Cert.Sel4Ideal.Facts] [hRefSel4Ideal : Cert.RefSel4Ideal.Facts] : Prop :=
  ∀ (m : (ℓ : Loc Cert.Sel4Ideal.nD Cert.Sel4Ideal.τ Cert.Sel4Ideal.sig) → Buf (Elt Ideal) ℓ) (g : Dev Cert.Sel4Ideal.nD → PrngReg)
    (m' : (ℓ : Loc Cert.RefSel4Ideal.nD Cert.RefSel4Ideal.τ Cert.RefSel4Ideal.sig) → Buf (Elt Ideal) ℓ) (g' : Dev Cert.RefSel4Ideal.nD → PrngReg), Pre_Sel4Ideal m →
    (∀ c : Dev Cert.Sel4Ideal.nD,
      m' ((c.tc : Thread Cert.RefSel4Ideal.nD Cert.RefSel4Ideal.τ).loc Cert.RefSel4Ideal.main_arg0) = m ((c.tc : Thread Cert.Sel4Ideal.nD Cert.Sel4Ideal.τ).loc Cert.Sel4Ideal.main_arg0)
      ∧ m' ((c.tc : Thread Cert.RefSel4Ideal.nD Cert.RefSel4Ideal.τ).loc Cert.RefSel4Ideal.main_arg1) = m ((c.tc : Thread Cert.Sel4Ideal.nD Cert.Sel4Ideal.τ).loc Cert.Sel4Ideal.main_arg1)
      ∧ m' ((c.tc : Thread Cert.RefSel4Ideal.nD Cert.RefSel4Ideal.τ).loc Cert.RefSel4Ideal.main_arg2) = m ((c.tc : Thread Cert.Sel4Ideal.nD Cert.Sel4Ideal.τ).loc Cert.Sel4Ideal.main_arg2)) →
    ∃ (v0 : (c : Dev Cert.Sel4Ideal.nD) → Buf (Elt Ideal) ((c.tc : Thread Cert.Sel4Ideal.nD Cert.Sel4Ideal.τ).loc Cert.Sel4Ideal.main_v0_0)) (v1 : (c : Dev Cert.Sel4Ideal.nD) → Buf (Elt Ideal) ((c.tc : Thread Cert.Sel4Ideal.nD Cert.Sel4Ideal.τ).loc Cert.Sel4Ideal.main_v0_1)),
      θ_run (Cert.Sel4Ideal.defs (F := Ideal)) (onTc (τ := Cert.Sel4Ideal.τ) (Cert.Sel4Ideal.main (F := Ideal))) ⟨m, fun _ => 0, g⟩ (fun r => ∀ c : Dev Cert.Sel4Ideal.nD,
          r.2.mem ((c.tc : Thread Cert.Sel4Ideal.nD Cert.Sel4Ideal.τ).loc Cert.Sel4Ideal.main_v0_0) = v0 c
          ∧ r.2.mem ((c.tc : Thread Cert.Sel4Ideal.nD Cert.Sel4Ideal.τ).loc Cert.Sel4Ideal.main_v0_1) = v1 c
          ∧ r.2.mem ((c.tc : Thread Cert.Sel4Ideal.nD Cert.Sel4Ideal.τ).loc Cert.Sel4Ideal.main_arg0) = m ((c.tc : Thread Cert.Sel4Ideal.nD Cert.Sel4Ideal.τ).loc Cert.Sel4Ideal.main_arg0)
          ∧ r.2.mem ((c.tc : Thread Cert.Sel4Ideal.nD Cert.Sel4Ideal.τ).loc Cert.Sel4Ideal.main_arg1) = m ((c.tc : Thread Cert.Sel4Ideal.nD Cert.Sel4Ideal.τ).loc Cert.Sel4Ideal.main_arg1)
          ∧ r.2.mem ((c.tc : Thread Cert.Sel4Ideal.nD Cert.Sel4Ideal.τ).loc Cert.Sel4Ideal.main_arg2) = m ((c.tc : Thread Cert.Sel4Ideal.nD Cert.Sel4Ideal.τ).loc Cert.Sel4Ideal.main_arg2))
      ∧ θ_run (Cert.RefSel4Ideal.defs (F := Ideal)) (onTc (τ := Cert.RefSel4Ideal.τ) (Cert.RefSel4Ideal.main (F := Ideal))) ⟨m', fun _ => 0, g'⟩ (fun r => ∀ c : Dev Cert.RefSel4Ideal.nD,
          r.2.mem ((c.tc : Thread Cert.RefSel4Ideal.nD Cert.RefSel4Ideal.τ).loc Cert.RefSel4Ideal.main_v18) = v0 c
          ∧ r.2.mem ((c.tc : Thread Cert.RefSel4Ideal.nD Cert.RefSel4Ideal.τ).loc Cert.RefSel4Ideal.main_v19) = v1 c
          ∧ r.2.mem ((c.tc : Thread Cert.RefSel4Ideal.nD Cert.RefSel4Ideal.τ).loc Cert.RefSel4Ideal.main_arg0) = m' ((c.tc : Thread Cert.RefSel4Ideal.nD Cert.RefSel4Ideal.τ).loc Cert.RefSel4Ideal.main_arg0)
          ∧ r.2.mem ((c.tc : Thread Cert.RefSel4Ideal.nD Cert.RefSel4Ideal.τ).loc Cert.RefSel4Ideal.main_arg1) = m' ((c.tc : Thread Cert.RefSel4Ideal.nD Cert.RefSel4Ideal.τ).loc Cert.RefSel4Ideal.main_arg1)
          ∧ r.2.mem ((c.tc : Thread Cert.RefSel4Ideal.nD Cert.RefSel4Ideal.τ).loc Cert.RefSel4Ideal.main_arg2) = m' ((c.tc : Thread Cert.RefSel4Ideal.nD Cert.RefSel4Ideal.τ).loc Cert.RefSel4Ideal.main_arg2))

def preserves_Kd3_Kd3Ideal : Prop :=
  True

def algebraic_Kd3Ideal_RefKd3Ideal [hKd3Ideal : Cert.Kd3Ideal.Facts] [hRefKd3Ideal : Cert.RefKd3Ideal.Facts] : Prop :=
  ∀ (m : (ℓ : Loc Cert.Kd3Ideal.nD Cert.Kd3Ideal.τ Cert.Kd3Ideal.sig) → Buf (Elt Ideal) ℓ) (g : Dev Cert.Kd3Ideal.nD → PrngReg)
    (m' : (ℓ : Loc Cert.RefKd3Ideal.nD Cert.RefKd3Ideal.τ Cert.RefKd3Ideal.sig) → Buf (Elt Ideal) ℓ) (g' : Dev Cert.RefKd3Ideal.nD → PrngReg), Pre_Kd3Ideal m →
    (∀ c : Dev Cert.Kd3Ideal.nD,
      m' ((c.tc : Thread Cert.RefKd3Ideal.nD Cert.RefKd3Ideal.τ).loc Cert.RefKd3Ideal.main_arg0) = m ((c.tc : Thread Cert.Kd3Ideal.nD Cert.Kd3Ideal.τ).loc Cert.Kd3Ideal.main_arg0)
      ∧ m' ((c.tc : Thread Cert.RefKd3Ideal.nD Cert.RefKd3Ideal.τ).loc Cert.RefKd3Ideal.main_arg1) = m ((c.tc : Thread Cert.Kd3Ideal.nD Cert.Kd3Ideal.τ).loc Cert.Kd3Ideal.main_arg1)
      ∧ m' ((c.tc : Thread Cert.RefKd3Ideal.nD Cert.RefKd3Ideal.τ).loc Cert.RefKd3Ideal.main_arg2) = m ((c.tc : Thread Cert.Kd3Ideal.nD Cert.Kd3Ideal.τ).loc Cert.Kd3Ideal.main_arg2)
      ∧ m' ((c.tc : Thread Cert.RefKd3Ideal.nD Cert.RefKd3Ideal.τ).loc Cert.RefKd3Ideal.main_arg3) = m ((c.tc : Thread Cert.Kd3Ideal.nD Cert.Kd3Ideal.τ).loc Cert.Kd3Ideal.main_arg3)
      ∧ m' ((c.tc : Thread Cert.RefKd3Ideal.nD Cert.RefKd3Ideal.τ).loc Cert.RefKd3Ideal.main_arg4) = m ((c.tc : Thread Cert.Kd3Ideal.nD Cert.Kd3Ideal.τ).loc Cert.Kd3Ideal.main_arg4)) →
    ∃ (v0 : (c : Dev Cert.Kd3Ideal.nD) → Buf (Elt Ideal) ((c.tc : Thread Cert.Kd3Ideal.nD Cert.Kd3Ideal.τ).loc Cert.Kd3Ideal.main_v0_0)) (v1 : (c : Dev Cert.Kd3Ideal.nD) → Buf (Elt Ideal) ((c.tc : Thread Cert.Kd3Ideal.nD Cert.Kd3Ideal.τ).loc Cert.Kd3Ideal.main_v0_1)) (v2 : (c : Dev Cert.Kd3Ideal.nD) → Buf (Elt Ideal) ((c.tc : Thread Cert.Kd3Ideal.nD Cert.Kd3Ideal.τ).loc Cert.Kd3Ideal.main_v0_2)),
      θ_run (Cert.Kd3Ideal.defs (F := Ideal)) (onTc (τ := Cert.Kd3Ideal.τ) (Cert.Kd3Ideal.main (F := Ideal))) ⟨m, fun _ => 0, g⟩ (fun r => ∀ c : Dev Cert.Kd3Ideal.nD,
          r.2.mem ((c.tc : Thread Cert.Kd3Ideal.nD Cert.Kd3Ideal.τ).loc Cert.Kd3Ideal.main_v0_0) = v0 c
          ∧ r.2.mem ((c.tc : Thread Cert.Kd3Ideal.nD Cert.Kd3Ideal.τ).loc Cert.Kd3Ideal.main_v0_1) = v1 c
          ∧ r.2.mem ((c.tc : Thread Cert.Kd3Ideal.nD Cert.Kd3Ideal.τ).loc Cert.Kd3Ideal.main_v0_2) = v2 c
          ∧ r.2.mem ((c.tc : Thread Cert.Kd3Ideal.nD Cert.Kd3Ideal.τ).loc Cert.Kd3Ideal.main_arg0) = m ((c.tc : Thread Cert.Kd3Ideal.nD Cert.Kd3Ideal.τ).loc Cert.Kd3Ideal.main_arg0)
          ∧ r.2.mem ((c.tc : Thread Cert.Kd3Ideal.nD Cert.Kd3Ideal.τ).loc Cert.Kd3Ideal.main_arg1) = m ((c.tc : Thread Cert.Kd3Ideal.nD Cert.Kd3Ideal.τ).loc Cert.Kd3Ideal.main_arg1)
          ∧ r.2.mem ((c.tc : Thread Cert.Kd3Ideal.nD Cert.Kd3Ideal.τ).loc Cert.Kd3Ideal.main_arg2) = m ((c.tc : Thread Cert.Kd3Ideal.nD Cert.Kd3Ideal.τ).loc Cert.Kd3Ideal.main_arg2)
          ∧ r.2.mem ((c.tc : Thread Cert.Kd3Ideal.nD Cert.Kd3Ideal.τ).loc Cert.Kd3Ideal.main_arg3) = m ((c.tc : Thread Cert.Kd3Ideal.nD Cert.Kd3Ideal.τ).loc Cert.Kd3Ideal.main_arg3)
          ∧ r.2.mem ((c.tc : Thread Cert.Kd3Ideal.nD Cert.Kd3Ideal.τ).loc Cert.Kd3Ideal.main_arg4) = m ((c.tc : Thread Cert.Kd3Ideal.nD Cert.Kd3Ideal.τ).loc Cert.Kd3Ideal.main_arg4))
      ∧ θ_run (Cert.RefKd3Ideal.defs (F := Ideal)) (onTc (τ := Cert.RefKd3Ideal.τ) (Cert.RefKd3Ideal.main (F := Ideal))) ⟨m', fun _ => 0, g'⟩ (fun r => ∀ c : Dev Cert.RefKd3Ideal.nD,
          r.2.mem ((c.tc : Thread Cert.RefKd3Ideal.nD Cert.RefKd3Ideal.τ).loc Cert.RefKd3Ideal.main_v17) = v0 c
          ∧ r.2.mem ((c.tc : Thread Cert.RefKd3Ideal.nD Cert.RefKd3Ideal.τ).loc Cert.RefKd3Ideal.main_v19) = v1 c
          ∧ r.2.mem ((c.tc : Thread Cert.RefKd3Ideal.nD Cert.RefKd3Ideal.τ).loc Cert.RefKd3Ideal.main_v24) = v2 c
          ∧ r.2.mem ((c.tc : Thread Cert.RefKd3Ideal.nD Cert.RefKd3Ideal.τ).loc Cert.RefKd3Ideal.main_arg0) = m' ((c.tc : Thread Cert.RefKd3Ideal.nD Cert.RefKd3Ideal.τ).loc Cert.RefKd3Ideal.main_arg0)
          ∧ r.2.mem ((c.tc : Thread Cert.RefKd3Ideal.nD Cert.RefKd3Ideal.τ).loc Cert.RefKd3Ideal.main_arg1) = m' ((c.tc : Thread Cert.RefKd3Ideal.nD Cert.RefKd3Ideal.τ).loc Cert.RefKd3Ideal.main_arg1)
          ∧ r.2.mem ((c.tc : Thread Cert.RefKd3Ideal.nD Cert.RefKd3Ideal.τ).loc Cert.RefKd3Ideal.main_arg2) = m' ((c.tc : Thread Cert.RefKd3Ideal.nD Cert.RefKd3Ideal.τ).loc Cert.RefKd3Ideal.main_arg2)
          ∧ r.2.mem ((c.tc : Thread Cert.RefKd3Ideal.nD Cert.RefKd3Ideal.τ).loc Cert.RefKd3Ideal.main_arg3) = m' ((c.tc : Thread Cert.RefKd3Ideal.nD Cert.RefKd3Ideal.τ).loc Cert.RefKd3Ideal.main_arg3)
          ∧ r.2.mem ((c.tc : Thread Cert.RefKd3Ideal.nD Cert.RefKd3Ideal.τ).loc Cert.RefKd3Ideal.main_arg4) = m' ((c.tc : Thread Cert.RefKd3Ideal.nD Cert.RefKd3Ideal.τ).loc Cert.RefKd3Ideal.main_arg4))

def preserves_Scan3_Scan3Ideal : Prop :=
  True

def algebraic_Scan3Ideal_RefScan3Ideal [hScan3Ideal : Cert.Scan3Ideal.Facts] [hRefScan3Ideal : Cert.RefScan3Ideal.Facts] : Prop :=
  ∀ (m : (ℓ : Loc Cert.Scan3Ideal.nD Cert.Scan3Ideal.τ Cert.Scan3Ideal.sig) → Buf (Elt Ideal) ℓ) (g : Dev Cert.Scan3Ideal.nD → PrngReg)
    (m' : (ℓ : Loc Cert.RefScan3Ideal.nD Cert.RefScan3Ideal.τ Cert.RefScan3Ideal.sig) → Buf (Elt Ideal) ℓ) (g' : Dev Cert.RefScan3Ideal.nD → PrngReg), Pre_Scan3Ideal m →
    (∀ c : Dev Cert.Scan3Ideal.nD,
      m' ((c.tc : Thread Cert.RefScan3Ideal.nD Cert.RefScan3Ideal.τ).loc Cert.RefScan3Ideal.main_arg0) = m ((c.tc : Thread Cert.Scan3Ideal.nD Cert.Scan3Ideal.τ).loc Cert.Scan3Ideal.main_arg0)
      ∧ m' ((c.tc : Thread Cert.RefScan3Ideal.nD Cert.RefScan3Ideal.τ).loc Cert.RefScan3Ideal.main_arg1) = m ((c.tc : Thread Cert.Scan3Ideal.nD Cert.Scan3Ideal.τ).loc Cert.Scan3Ideal.main_arg1)
      ∧ m' ((c.tc : Thread Cert.RefScan3Ideal.nD Cert.RefScan3Ideal.τ).loc Cert.RefScan3Ideal.main_arg2) = m ((c.tc : Thread Cert.Scan3Ideal.nD Cert.Scan3Ideal.τ).loc Cert.Scan3Ideal.main_arg2)
      ∧ m' ((c.tc : Thread Cert.RefScan3Ideal.nD Cert.RefScan3Ideal.τ).loc Cert.RefScan3Ideal.main_arg3) = m ((c.tc : Thread Cert.Scan3Ideal.nD Cert.Scan3Ideal.τ).loc Cert.Scan3Ideal.main_arg3)) →
    ∃ (v0 : (c : Dev Cert.Scan3Ideal.nD) → Buf (Elt Ideal) ((c.tc : Thread Cert.Scan3Ideal.nD Cert.Scan3Ideal.τ).loc Cert.Scan3Ideal.main_v2)),
      θ_run (Cert.Scan3Ideal.defs (F := Ideal)) (onTc (τ := Cert.Scan3Ideal.τ) (Cert.Scan3Ideal.main (F := Ideal))) ⟨m, fun _ => 0, g⟩ (fun r => ∀ c : Dev Cert.Scan3Ideal.nD,
          r.2.mem ((c.tc : Thread Cert.Scan3Ideal.nD Cert.Scan3Ideal.τ).loc Cert.Scan3Ideal.main_v2) = v0 c
          ∧ r.2.mem ((c.tc : Thread Cert.Scan3Ideal.nD Cert.Scan3Ideal.τ).loc Cert.Scan3Ideal.main_arg0) = m ((c.tc : Thread Cert.Scan3Ideal.nD Cert.Scan3Ideal.τ).loc Cert.Scan3Ideal.main_arg0)
          ∧ r.2.mem ((c.tc : Thread Cert.Scan3Ideal.nD Cert.Scan3Ideal.τ).loc Cert.Scan3Ideal.main_arg1) = m ((c.tc : Thread Cert.Scan3Ideal.nD Cert.Scan3Ideal.τ).loc Cert.Scan3Ideal.main_arg1)
          ∧ r.2.mem ((c.tc : Thread Cert.Scan3Ideal.nD Cert.Scan3Ideal.τ).loc Cert.Scan3Ideal.main_arg2) = m ((c.tc : Thread Cert.Scan3Ideal.nD Cert.Scan3Ideal.τ).loc Cert.Scan3Ideal.main_arg2)
          ∧ r.2.mem ((c.tc : Thread Cert.Scan3Ideal.nD Cert.Scan3Ideal.τ).loc Cert.Scan3Ideal.main_arg3) = m ((c.tc : Thread Cert.Scan3Ideal.nD Cert.Scan3Ideal.τ).loc Cert.Scan3Ideal.main_arg3))
      ∧ θ_run (Cert.RefScan3Ideal.defs (F := Ideal)) (onTc (τ := Cert.RefScan3Ideal.τ) (Cert.RefScan3Ideal.main (F := Ideal))) ⟨m', fun _ => 0, g'⟩ (fun r => ∀ c : Dev Cert.RefScan3Ideal.nD,
          r.2.mem ((c.tc : Thread Cert.RefScan3Ideal.nD Cert.RefScan3Ideal.τ).loc Cert.RefScan3Ideal.main_v8) = v0 c
          ∧ r.2.mem ((c.tc : Thread Cert.RefScan3Ideal.nD Cert.RefScan3Ideal.τ).loc Cert.RefScan3Ideal.main_arg0) = m' ((c.tc : Thread Cert.RefScan3Ideal.nD Cert.RefScan3Ideal.τ).loc Cert.RefScan3Ideal.main_arg0)
          ∧ r.2.mem ((c.tc : Thread Cert.RefScan3Ideal.nD Cert.RefScan3Ideal.τ).loc Cert.RefScan3Ideal.main_arg1) = m' ((c.tc : Thread Cert.RefScan3Ideal.nD Cert.RefScan3Ideal.τ).loc Cert.RefScan3Ideal.main_arg1)
          ∧ r.2.mem ((c.tc : Thread Cert.RefScan3Ideal.nD Cert.RefScan3Ideal.τ).loc Cert.RefScan3Ideal.main_arg2) = m' ((c.tc : Thread Cert.RefScan3Ideal.nD Cert.RefScan3Ideal.τ).loc Cert.RefScan3Ideal.main_arg2)
          ∧ r.2.mem ((c.tc : Thread Cert.RefScan3Ideal.nD Cert.RefScan3Ideal.τ).loc Cert.RefScan3Ideal.main_arg3) = m' ((c.tc : Thread Cert.RefScan3Ideal.nD Cert.RefScan3Ideal.τ).loc Cert.RefScan3Ideal.main_arg3))

def preserves_Sel3_Sel3Ideal : Prop :=
  True

def algebraic_Sel3Ideal_RefSel3Ideal [hSel3Ideal : Cert.Sel3Ideal.Facts] [hRefSel3Ideal : Cert.RefSel3Ideal.Facts] : Prop :=
  ∀ (m : (ℓ : Loc Cert.Sel3Ideal.nD Cert.Sel3Ideal.τ Cert.Sel3Ideal.sig) → Buf (Elt Ideal) ℓ) (g : Dev Cert.Sel3Ideal.nD → PrngReg)
    (m' : (ℓ : Loc Cert.RefSel3Ideal.nD Cert.RefSel3Ideal.τ Cert.RefSel3Ideal.sig) → Buf (Elt Ideal) ℓ) (g' : Dev Cert.RefSel3Ideal.nD → PrngReg), Pre_Sel3Ideal m →
    (∀ c : Dev Cert.Sel3Ideal.nD,
      m' ((c.tc : Thread Cert.RefSel3Ideal.nD Cert.RefSel3Ideal.τ).loc Cert.RefSel3Ideal.main_arg0) = m ((c.tc : Thread Cert.Sel3Ideal.nD Cert.Sel3Ideal.τ).loc Cert.Sel3Ideal.main_arg0)
      ∧ m' ((c.tc : Thread Cert.RefSel3Ideal.nD Cert.RefSel3Ideal.τ).loc Cert.RefSel3Ideal.main_arg1) = m ((c.tc : Thread Cert.Sel3Ideal.nD Cert.Sel3Ideal.τ).loc Cert.Sel3Ideal.main_arg1)
      ∧ m' ((c.tc : Thread Cert.RefSel3Ideal.nD Cert.RefSel3Ideal.τ).loc Cert.RefSel3Ideal.main_arg2) = m ((c.tc : Thread Cert.Sel3Ideal.nD Cert.Sel3Ideal.τ).loc Cert.Sel3Ideal.main_arg2)) →
    ∃ (v0 : (c : Dev Cert.Sel3Ideal.nD) → Buf (Elt Ideal) ((c.tc : Thread Cert.Sel3Ideal.nD Cert.Sel3Ideal.τ).loc Cert.Sel3Ideal.main_v0_0)) (v1 : (c : Dev Cert.Sel3Ideal.nD) → Buf (Elt Ideal) ((c.tc : Thread Cert.Sel3Ideal.nD Cert.Sel3Ideal.τ).loc Cert.Sel3Ideal.main_v0_1)),
      θ_run (Cert.Sel3Ideal.defs (F := Ideal)) (onTc (τ := Cert.Sel3Ideal.τ) (Cert.Sel3Ideal.main (F := Ideal))) ⟨m, fun _ => 0, g⟩ (fun r => ∀ c : Dev Cert.Sel3Ideal.nD,
          r.2.mem ((c.tc : Thread Cert.Sel3Ideal.nD Cert.Sel3Ideal.τ).loc Cert.Sel3Ideal.main_v0_0) = v0 c
          ∧ r.2.mem ((c.tc : Thread Cert.Sel3Ideal.nD Cert.Sel3Ideal.τ).loc Cert.Sel3Ideal.main_v0_1) = v1 c
          ∧ r.2.mem ((c.tc : Thread Cert.Sel3Ideal.nD Cert.Sel3Ideal.τ).loc Cert.Sel3Ideal.main_arg0) = m ((c.tc : Thread Cert.Sel3Ideal.nD Cert.Sel3Ideal.τ).loc Cert.Sel3Ideal.main_arg0)
          ∧ r.2.mem ((c.tc : Thread Cert.Sel3Ideal.nD Cert.Sel3Ideal.τ).loc Cert.Sel3Ideal.main_arg1) = m ((c.tc : Thread Cert.Sel3Ideal.nD Cert.Sel3Ideal.τ).loc Cert.Sel3Ideal.main_arg1)
          ∧ r.2.mem ((c.tc : Thread Cert.Sel3Ideal.nD Cert.Sel3Ideal.τ).loc Cert.Sel3Ideal.main_arg2) = m ((c.tc : Thread Cert.Sel3Ideal.nD Cert.Sel3Ideal.τ).loc Cert.Sel3Ideal.main_arg2))
      ∧ θ_run (Cert.RefSel3Ideal.defs (F := Ideal)) (onTc (τ := Cert.RefSel3Ideal.τ) (Cert.RefSel3Ideal.main (F := Ideal))) ⟨m', fun _ => 0, g'⟩ (fun r => ∀ c : Dev Cert.RefSel3Ideal.nD,
          r.2.mem ((c.tc : Thread Cert.RefSel3Ideal.nD Cert.RefSel3Ideal.τ).loc Cert.RefSel3Ideal.main_v18) = v0 c
          ∧ r.2.mem ((c.tc : Thread Cert.RefSel3Ideal.nD Cert.RefSel3Ideal.τ).loc Cert.RefSel3Ideal.main_v19) = v1 c
          ∧ r.2.mem ((c.tc : Thread Cert.RefSel3Ideal.nD Cert.RefSel3Ideal.τ).loc Cert.RefSel3Ideal.main_arg0) = m' ((c.tc : Thread Cert.RefSel3Ideal.nD Cert.RefSel3Ideal.τ).loc Cert.RefSel3Ideal.main_arg0)
          ∧ r.2.mem ((c.tc : Thread Cert.RefSel3Ideal.nD Cert.RefSel3Ideal.τ).loc Cert.RefSel3Ideal.main_arg1) = m' ((c.tc : Thread Cert.RefSel3Ideal.nD Cert.RefSel3Ideal.τ).loc Cert.RefSel3Ideal.main_arg1)
          ∧ r.2.mem ((c.tc : Thread Cert.RefSel3Ideal.nD Cert.RefSel3Ideal.τ).loc Cert.RefSel3Ideal.main_arg2) = m' ((c.tc : Thread Cert.RefSel3Ideal.nD Cert.RefSel3Ideal.τ).loc Cert.RefSel3Ideal.main_arg2))

def preserves_Kd2_Kd2Ideal : Prop :=
  True

def algebraic_Kd2Ideal_RefKd2Ideal [hKd2Ideal : Cert.Kd2Ideal.Facts] [hRefKd2Ideal : Cert.RefKd2Ideal.Facts] : Prop :=
  ∀ (m : (ℓ : Loc Cert.Kd2Ideal.nD Cert.Kd2Ideal.τ Cert.Kd2Ideal.sig) → Buf (Elt Ideal) ℓ) (g : Dev Cert.Kd2Ideal.nD → PrngReg)
    (m' : (ℓ : Loc Cert.RefKd2Ideal.nD Cert.RefKd2Ideal.τ Cert.RefKd2Ideal.sig) → Buf (Elt Ideal) ℓ) (g' : Dev Cert.RefKd2Ideal.nD → PrngReg), Pre_Kd2Ideal m →
    (∀ c : Dev Cert.Kd2Ideal.nD,
      m' ((c.tc : Thread Cert.RefKd2Ideal.nD Cert.RefKd2Ideal.τ).loc Cert.RefKd2Ideal.main_arg0) = m ((c.tc : Thread Cert.Kd2Ideal.nD Cert.Kd2Ideal.τ).loc Cert.Kd2Ideal.main_arg0)
      ∧ m' ((c.tc : Thread Cert.RefKd2Ideal.nD Cert.RefKd2Ideal.τ).loc Cert.RefKd2Ideal.main_arg1) = m ((c.tc : Thread Cert.Kd2Ideal.nD Cert.Kd2Ideal.τ).loc Cert.Kd2Ideal.main_arg1)
      ∧ m' ((c.tc : Thread Cert.RefKd2Ideal.nD Cert.RefKd2Ideal.τ).loc Cert.RefKd2Ideal.main_arg2) = m ((c.tc : Thread Cert.Kd2Ideal.nD Cert.Kd2Ideal.τ).loc Cert.Kd2Ideal.main_arg2)
      ∧ m' ((c.tc : Thread Cert.RefKd2Ideal.nD Cert.RefKd2Ideal.τ).loc Cert.RefKd2Ideal.main_arg3) = m ((c.tc : Thread Cert.Kd2Ideal.nD Cert.Kd2Ideal.τ).loc Cert.Kd2Ideal.main_arg3)
      ∧ m' ((c.tc : Thread Cert.RefKd2Ideal.nD Cert.RefKd2Ideal.τ).loc Cert.RefKd2Ideal.main_arg4) = m ((c.tc : Thread Cert.Kd2Ideal.nD Cert.Kd2Ideal.τ).loc Cert.Kd2Ideal.main_arg4)) →
    ∃ (v0 : (c : Dev Cert.Kd2Ideal.nD) → Buf (Elt Ideal) ((c.tc : Thread Cert.Kd2Ideal.nD Cert.Kd2Ideal.τ).loc Cert.Kd2Ideal.main_v0_0)) (v1 : (c : Dev Cert.Kd2Ideal.nD) → Buf (Elt Ideal) ((c.tc : Thread Cert.Kd2Ideal.nD Cert.Kd2Ideal.τ).loc Cert.Kd2Ideal.main_v0_1)) (v2 : (c : Dev Cert.Kd2Ideal.nD) → Buf (Elt Ideal) ((c.tc : Thread Cert.Kd2Ideal.nD Cert.Kd2Ideal.τ).loc Cert.Kd2Ideal.main_v0_2)),
      θ_run (Cert.Kd2Ideal.defs (F := Ideal)) (onTc (τ := Cert.Kd2Ideal.τ) (Cert.Kd2Ideal.main (F := Ideal))) ⟨m, fun _ => 0, g⟩ (fun r => ∀ c : Dev Cert.Kd2Ideal.nD,
          r.2.mem ((c.tc : Thread Cert.Kd2Ideal.nD Cert.Kd2Ideal.τ).loc Cert.Kd2Ideal.main_v0_0) = v0 c
          ∧ r.2.mem ((c.tc : Thread Cert.Kd2Ideal.nD Cert.Kd2Ideal.τ).loc Cert.Kd2Ideal.main_v0_1) = v1 c
          ∧ r.2.mem ((c.tc : Thread Cert.Kd2Ideal.nD Cert.Kd2Ideal.τ).loc Cert.Kd2Ideal.main_v0_2) = v2 c
          ∧ r.2.mem ((c.tc : Thread Cert.Kd2Ideal.nD Cert.Kd2Ideal.τ).loc Cert.Kd2Ideal.main_arg0) = m ((c.tc : Thread Cert.Kd2Ideal.nD Cert.Kd2Ideal.τ).loc Cert.Kd2Ideal.main_arg0)
          ∧ r.2.mem ((c.tc : Thread Cert.Kd2Ideal.nD Cert.Kd2Ideal.τ).loc Cert.Kd2Ideal.main_arg1) = m ((c.tc : Thread Cert.Kd2Ideal.nD Cert.Kd2Ideal.τ).loc Cert.Kd2Ideal.main_arg1)
          ∧ r.2.mem ((c.tc : Thread Cert.Kd2Ideal.nD Cert.Kd2Ideal.τ).loc Cert.Kd2Ideal.main_arg2) = m ((c.tc : Thread Cert.Kd2Ideal.nD Cert.Kd2Ideal.τ).loc Cert.Kd2Ideal.main_arg2)
          ∧ r.2.mem ((c.tc : Thread Cert.Kd2Ideal.nD Cert.Kd2Ideal.τ).loc Cert.Kd2Ideal.main_arg3) = m ((c.tc : Thread Cert.Kd2Ideal.nD Cert.Kd2Ideal.τ).loc Cert.Kd2Ideal.main_arg3)
          ∧ r.2.mem ((c.tc : Thread Cert.Kd2Ideal.nD Cert.Kd2Ideal.τ).loc Cert.Kd2Ideal.main_arg4) = m ((c.tc : Thread Cert.Kd2Ideal.nD Cert.Kd2Ideal.τ).loc Cert.Kd2Ideal.main_arg4))
      ∧ θ_run (Cert.RefKd2Ideal.defs (F := Ideal)) (onTc (τ := Cert.RefKd2Ideal.τ) (Cert.RefKd2Ideal.main (F := Ideal))) ⟨m', fun _ => 0, g'⟩ (fun r => ∀ c : Dev Cert.RefKd2Ideal.nD,
          r.2.mem ((c.tc : Thread Cert.RefKd2Ideal.nD Cert.RefKd2Ideal.τ).loc Cert.RefKd2Ideal.main_v17) = v0 c
          ∧ r.2.mem ((c.tc : Thread Cert.RefKd2Ideal.nD Cert.RefKd2Ideal.τ).loc Cert.RefKd2Ideal.main_v19) = v1 c
          ∧ r.2.mem ((c.tc : Thread Cert.RefKd2Ideal.nD Cert.RefKd2Ideal.τ).loc Cert.RefKd2Ideal.main_v24) = v2 c
          ∧ r.2.mem ((c.tc : Thread Cert.RefKd2Ideal.nD Cert.RefKd2Ideal.τ).loc Cert.RefKd2Ideal.main_arg0) = m' ((c.tc : Thread Cert.RefKd2Ideal.nD Cert.RefKd2Ideal.τ).loc Cert.RefKd2Ideal.main_arg0)
          ∧ r.2.mem ((c.tc : Thread Cert.RefKd2Ideal.nD Cert.RefKd2Ideal.τ).loc Cert.RefKd2Ideal.main_arg1) = m' ((c.tc : Thread Cert.RefKd2Ideal.nD Cert.RefKd2Ideal.τ).loc Cert.RefKd2Ideal.main_arg1)
          ∧ r.2.mem ((c.tc : Thread Cert.RefKd2Ideal.nD Cert.RefKd2Ideal.τ).loc Cert.RefKd2Ideal.main_arg2) = m' ((c.tc : Thread Cert.RefKd2Ideal.nD Cert.RefKd2Ideal.τ).loc Cert.RefKd2Ideal.main_arg2)
          ∧ r.2.mem ((c.tc : Thread Cert.RefKd2Ideal.nD Cert.RefKd2Ideal.τ).loc Cert.RefKd2Ideal.main_arg3) = m' ((c.tc : Thread Cert.RefKd2Ideal.nD Cert.RefKd2Ideal.τ).loc Cert.RefKd2Ideal.main_arg3)
          ∧ r.2.mem ((c.tc : Thread Cert.RefKd2Ideal.nD Cert.RefKd2Ideal.τ).loc Cert.RefKd2Ideal.main_arg4) = m' ((c.tc : Thread Cert.RefKd2Ideal.nD Cert.RefKd2Ideal.τ).loc Cert.RefKd2Ideal.main_arg4))

def preserves_Scan2_Scan2Ideal : Prop :=
  True

def algebraic_Scan2Ideal_RefScan2Ideal [hScan2Ideal : Cert.Scan2Ideal.Facts] [hRefScan2Ideal : Cert.RefScan2Ideal.Facts] : Prop :=
  ∀ (m : (ℓ : Loc Cert.Scan2Ideal.nD Cert.Scan2Ideal.τ Cert.Scan2Ideal.sig) → Buf (Elt Ideal) ℓ) (g : Dev Cert.Scan2Ideal.nD → PrngReg)
    (m' : (ℓ : Loc Cert.RefScan2Ideal.nD Cert.RefScan2Ideal.τ Cert.RefScan2Ideal.sig) → Buf (Elt Ideal) ℓ) (g' : Dev Cert.RefScan2Ideal.nD → PrngReg), Pre_Scan2Ideal m →
    (∀ c : Dev Cert.Scan2Ideal.nD,
      m' ((c.tc : Thread Cert.RefScan2Ideal.nD Cert.RefScan2Ideal.τ).loc Cert.RefScan2Ideal.main_arg0) = m ((c.tc : Thread Cert.Scan2Ideal.nD Cert.Scan2Ideal.τ).loc Cert.Scan2Ideal.main_arg0)
      ∧ m' ((c.tc : Thread Cert.RefScan2Ideal.nD Cert.RefScan2Ideal.τ).loc Cert.RefScan2Ideal.main_arg1) = m ((c.tc : Thread Cert.Scan2Ideal.nD Cert.Scan2Ideal.τ).loc Cert.Scan2Ideal.main_arg1)
      ∧ m' ((c.tc : Thread Cert.RefScan2Ideal.nD Cert.RefScan2Ideal.τ).loc Cert.RefScan2Ideal.main_arg2) = m ((c.tc : Thread Cert.Scan2Ideal.nD Cert.Scan2Ideal.τ).loc Cert.Scan2Ideal.main_arg2)
      ∧ m' ((c.tc : Thread Cert.RefScan2Ideal.nD Cert.RefScan2Ideal.τ).loc Cert.RefScan2Ideal.main_arg3) = m ((c.tc : Thread Cert.Scan2Ideal.nD Cert.Scan2Ideal.τ).loc Cert.Scan2Ideal.main_arg3)) →
    ∃ (v0 : (c : Dev Cert.Scan2Ideal.nD) → Buf (Elt Ideal) ((c.tc : Thread Cert.Scan2Ideal.nD Cert.Scan2Ideal.τ).loc Cert.Scan2Ideal.main_v2)),
      θ_run (Cert.Scan2Ideal.defs (F := Ideal)) (onTc (τ := Cert.Scan2Ideal.τ) (Cert.Scan2Ideal.main (F := Ideal))) ⟨m, fun _ => 0, g⟩ (fun r => ∀ c : Dev Cert.Scan2Ideal.nD,
          r.2.mem ((c.tc : Thread Cert.Scan2Ideal.nD Cert.Scan2Ideal.τ).loc Cert.Scan2Ideal.main_v2) = v0 c
          ∧ r.2.mem ((c.tc : Thread Cert.Scan2Ideal.nD Cert.Scan2Ideal.τ).loc Cert.Scan2Ideal.main_arg0) = m ((c.tc : Thread Cert.Scan2Ideal.nD Cert.Scan2Ideal.τ).loc Cert.Scan2Ideal.main_arg0)
          ∧ r.2.mem ((c.tc : Thread Cert.Scan2Ideal.nD Cert.Scan2Ideal.τ).loc Cert.Scan2Ideal.main_arg1) = m ((c.tc : Thread Cert.Scan2Ideal.nD Cert.Scan2Ideal.τ).loc Cert.Scan2Ideal.main_arg1)
          ∧ r.2.mem ((c.tc : Thread Cert.Scan2Ideal.nD Cert.Scan2Ideal.τ).loc Cert.Scan2Ideal.main_arg2) = m ((c.tc : Thread Cert.Scan2Ideal.nD Cert.Scan2Ideal.τ).loc Cert.Scan2Ideal.main_arg2)
          ∧ r.2.mem ((c.tc : Thread Cert.Scan2Ideal.nD Cert.Scan2Ideal.τ).loc Cert.Scan2Ideal.main_arg3) = m ((c.tc : Thread Cert.Scan2Ideal.nD Cert.Scan2Ideal.τ).loc Cert.Scan2Ideal.main_arg3))
      ∧ θ_run (Cert.RefScan2Ideal.defs (F := Ideal)) (onTc (τ := Cert.RefScan2Ideal.τ) (Cert.RefScan2Ideal.main (F := Ideal))) ⟨m', fun _ => 0, g'⟩ (fun r => ∀ c : Dev Cert.RefScan2Ideal.nD,
          r.2.mem ((c.tc : Thread Cert.RefScan2Ideal.nD Cert.RefScan2Ideal.τ).loc Cert.RefScan2Ideal.main_v8) = v0 c
          ∧ r.2.mem ((c.tc : Thread Cert.RefScan2Ideal.nD Cert.RefScan2Ideal.τ).loc Cert.RefScan2Ideal.main_arg0) = m' ((c.tc : Thread Cert.RefScan2Ideal.nD Cert.RefScan2Ideal.τ).loc Cert.RefScan2Ideal.main_arg0)
          ∧ r.2.mem ((c.tc : Thread Cert.RefScan2Ideal.nD Cert.RefScan2Ideal.τ).loc Cert.RefScan2Ideal.main_arg1) = m' ((c.tc : Thread Cert.RefScan2Ideal.nD Cert.RefScan2Ideal.τ).loc Cert.RefScan2Ideal.main_arg1)
          ∧ r.2.mem ((c.tc : Thread Cert.RefScan2Ideal.nD Cert.RefScan2Ideal.τ).loc Cert.RefScan2Ideal.main_arg2) = m' ((c.tc : Thread Cert.RefScan2Ideal.nD Cert.RefScan2Ideal.τ).loc Cert.RefScan2Ideal.main_arg2)
          ∧ r.2.mem ((c.tc : Thread Cert.RefScan2Ideal.nD Cert.RefScan2Ideal.τ).loc Cert.RefScan2Ideal.main_arg3) = m' ((c.tc : Thread Cert.RefScan2Ideal.nD Cert.RefScan2Ideal.τ).loc Cert.RefScan2Ideal.main_arg3))

def preserves_Sel2_Sel2Ideal : Prop :=
  True

def algebraic_Sel2Ideal_RefSel2Ideal [hSel2Ideal : Cert.Sel2Ideal.Facts] [hRefSel2Ideal : Cert.RefSel2Ideal.Facts] : Prop :=
  ∀ (m : (ℓ : Loc Cert.Sel2Ideal.nD Cert.Sel2Ideal.τ Cert.Sel2Ideal.sig) → Buf (Elt Ideal) ℓ) (g : Dev Cert.Sel2Ideal.nD → PrngReg)
    (m' : (ℓ : Loc Cert.RefSel2Ideal.nD Cert.RefSel2Ideal.τ Cert.RefSel2Ideal.sig) → Buf (Elt Ideal) ℓ) (g' : Dev Cert.RefSel2Ideal.nD → PrngReg), Pre_Sel2Ideal m →
    (∀ c : Dev Cert.Sel2Ideal.nD,
      m' ((c.tc : Thread Cert.RefSel2Ideal.nD Cert.RefSel2Ideal.τ).loc Cert.RefSel2Ideal.main_arg0) = m ((c.tc : Thread Cert.Sel2Ideal.nD Cert.Sel2Ideal.τ).loc Cert.Sel2Ideal.main_arg0)
      ∧ m' ((c.tc : Thread Cert.RefSel2Ideal.nD Cert.RefSel2Ideal.τ).loc Cert.RefSel2Ideal.main_arg1) = m ((c.tc : Thread Cert.Sel2Ideal.nD Cert.Sel2Ideal.τ).loc Cert.Sel2Ideal.main_arg1)
      ∧ m' ((c.tc : Thread Cert.RefSel2Ideal.nD Cert.RefSel2Ideal.τ).loc Cert.RefSel2Ideal.main_arg2) = m ((c.tc : Thread Cert.Sel2Ideal.nD Cert.Sel2Ideal.τ).loc Cert.Sel2Ideal.main_arg2)) →
    ∃ (v0 : (c : Dev Cert.Sel2Ideal.nD) → Buf (Elt Ideal) ((c.tc : Thread Cert.Sel2Ideal.nD Cert.Sel2Ideal.τ).loc Cert.Sel2Ideal.main_v0_0)) (v1 : (c : Dev Cert.Sel2Ideal.nD) → Buf (Elt Ideal) ((c.tc : Thread Cert.Sel2Ideal.nD Cert.Sel2Ideal.τ).loc Cert.Sel2Ideal.main_v0_1)),
      θ_run (Cert.Sel2Ideal.defs (F := Ideal)) (onTc (τ := Cert.Sel2Ideal.τ) (Cert.Sel2Ideal.main (F := Ideal))) ⟨m, fun _ => 0, g⟩ (fun r => ∀ c : Dev Cert.Sel2Ideal.nD,
          r.2.mem ((c.tc : Thread Cert.Sel2Ideal.nD Cert.Sel2Ideal.τ).loc Cert.Sel2Ideal.main_v0_0) = v0 c
          ∧ r.2.mem ((c.tc : Thread Cert.Sel2Ideal.nD Cert.Sel2Ideal.τ).loc Cert.Sel2Ideal.main_v0_1) = v1 c
          ∧ r.2.mem ((c.tc : Thread Cert.Sel2Ideal.nD Cert.Sel2Ideal.τ).loc Cert.Sel2Ideal.main_arg0) = m ((c.tc : Thread Cert.Sel2Ideal.nD Cert.Sel2Ideal.τ).loc Cert.Sel2Ideal.main_arg0)
          ∧ r.2.mem ((c.tc : Thread Cert.Sel2Ideal.nD Cert.Sel2Ideal.τ).loc Cert.Sel2Ideal.main_arg1) = m ((c.tc : Thread Cert.Sel2Ideal.nD Cert.Sel2Ideal.τ).loc Cert.Sel2Ideal.main_arg1)
          ∧ r.2.mem ((c.tc : Thread Cert.Sel2Ideal.nD Cert.Sel2Ideal.τ).loc Cert.Sel2Ideal.main_arg2) = m ((c.tc : Thread Cert.Sel2Ideal.nD Cert.Sel2Ideal.τ).loc Cert.Sel2Ideal.main_arg2))
      ∧ θ_run (Cert.RefSel2Ideal.defs (F := Ideal)) (onTc (τ := Cert.RefSel2Ideal.τ) (Cert.RefSel2Ideal.main (F := Ideal))) ⟨m', fun _ => 0, g'⟩ (fun r => ∀ c : Dev Cert.RefSel2Ideal.nD,
          r.2.mem ((c.tc : Thread Cert.RefSel2Ideal.nD Cert.RefSel2Ideal.τ).loc Cert.RefSel2Ideal.main_v18) = v0 c
          ∧ r.2.mem ((c.tc : Thread Cert.RefSel2Ideal.nD Cert.RefSel2Ideal.τ).loc Cert.RefSel2Ideal.main_v19) = v1 c
          ∧ r.2.mem ((c.tc : Thread Cert.RefSel2Ideal.nD Cert.RefSel2Ideal.τ).loc Cert.RefSel2Ideal.main_arg0) = m' ((c.tc : Thread Cert.RefSel2Ideal.nD Cert.RefSel2Ideal.τ).loc Cert.RefSel2Ideal.main_arg0)
          ∧ r.2.mem ((c.tc : Thread Cert.RefSel2Ideal.nD Cert.RefSel2Ideal.τ).loc Cert.RefSel2Ideal.main_arg1) = m' ((c.tc : Thread Cert.RefSel2Ideal.nD Cert.RefSel2Ideal.τ).loc Cert.RefSel2Ideal.main_arg1)
          ∧ r.2.mem ((c.tc : Thread Cert.RefSel2Ideal.nD Cert.RefSel2Ideal.τ).loc Cert.RefSel2Ideal.main_arg2) = m' ((c.tc : Thread Cert.RefSel2Ideal.nD Cert.RefSel2Ideal.τ).loc Cert.RefSel2Ideal.main_arg2))

def preserves_Kd1_Kd1Ideal : Prop :=
  True

def algebraic_Kd1Ideal_RefKd1Ideal [hKd1Ideal : Cert.Kd1Ideal.Facts] [hRefKd1Ideal : Cert.RefKd1Ideal.Facts] : Prop :=
  ∀ (m : (ℓ : Loc Cert.Kd1Ideal.nD Cert.Kd1Ideal.τ Cert.Kd1Ideal.sig) → Buf (Elt Ideal) ℓ) (g : Dev Cert.Kd1Ideal.nD → PrngReg)
    (m' : (ℓ : Loc Cert.RefKd1Ideal.nD Cert.RefKd1Ideal.τ Cert.RefKd1Ideal.sig) → Buf (Elt Ideal) ℓ) (g' : Dev Cert.RefKd1Ideal.nD → PrngReg), Pre_Kd1Ideal m →
    (∀ c : Dev Cert.Kd1Ideal.nD,
      m' ((c.tc : Thread Cert.RefKd1Ideal.nD Cert.RefKd1Ideal.τ).loc Cert.RefKd1Ideal.main_arg0) = m ((c.tc : Thread Cert.Kd1Ideal.nD Cert.Kd1Ideal.τ).loc Cert.Kd1Ideal.main_arg0)
      ∧ m' ((c.tc : Thread Cert.RefKd1Ideal.nD Cert.RefKd1Ideal.τ).loc Cert.RefKd1Ideal.main_arg1) = m ((c.tc : Thread Cert.Kd1Ideal.nD Cert.Kd1Ideal.τ).loc Cert.Kd1Ideal.main_arg1)
      ∧ m' ((c.tc : Thread Cert.RefKd1Ideal.nD Cert.RefKd1Ideal.τ).loc Cert.RefKd1Ideal.main_arg2) = m ((c.tc : Thread Cert.Kd1Ideal.nD Cert.Kd1Ideal.τ).loc Cert.Kd1Ideal.main_arg2)
      ∧ m' ((c.tc : Thread Cert.RefKd1Ideal.nD Cert.RefKd1Ideal.τ).loc Cert.RefKd1Ideal.main_arg3) = m ((c.tc : Thread Cert.Kd1Ideal.nD Cert.Kd1Ideal.τ).loc Cert.Kd1Ideal.main_arg3)
      ∧ m' ((c.tc : Thread Cert.RefKd1Ideal.nD Cert.RefKd1Ideal.τ).loc Cert.RefKd1Ideal.main_arg4) = m ((c.tc : Thread Cert.Kd1Ideal.nD Cert.Kd1Ideal.τ).loc Cert.Kd1Ideal.main_arg4)) →
    ∃ (v0 : (c : Dev Cert.Kd1Ideal.nD) → Buf (Elt Ideal) ((c.tc : Thread Cert.Kd1Ideal.nD Cert.Kd1Ideal.τ).loc Cert.Kd1Ideal.main_v0_0)) (v1 : (c : Dev Cert.Kd1Ideal.nD) → Buf (Elt Ideal) ((c.tc : Thread Cert.Kd1Ideal.nD Cert.Kd1Ideal.τ).loc Cert.Kd1Ideal.main_v0_1)) (v2 : (c : Dev Cert.Kd1Ideal.nD) → Buf (Elt Ideal) ((c.tc : Thread Cert.Kd1Ideal.nD Cert.Kd1Ideal.τ).loc Cert.Kd1Ideal.main_v0_2)),
      θ_run (Cert.Kd1Ideal.defs (F := Ideal)) (onTc (τ := Cert.Kd1Ideal.τ) (Cert.Kd1Ideal.main (F := Ideal))) ⟨m, fun _ => 0, g⟩ (fun r => ∀ c : Dev Cert.Kd1Ideal.nD,
          r.2.mem ((c.tc : Thread Cert.Kd1Ideal.nD Cert.Kd1Ideal.τ).loc Cert.Kd1Ideal.main_v0_0) = v0 c
          ∧ r.2.mem ((c.tc : Thread Cert.Kd1Ideal.nD Cert.Kd1Ideal.τ).loc Cert.Kd1Ideal.main_v0_1) = v1 c
          ∧ r.2.mem ((c.tc : Thread Cert.Kd1Ideal.nD Cert.Kd1Ideal.τ).loc Cert.Kd1Ideal.main_v0_2) = v2 c
          ∧ r.2.mem ((c.tc : Thread Cert.Kd1Ideal.nD Cert.Kd1Ideal.τ).loc Cert.Kd1Ideal.main_arg0) = m ((c.tc : Thread Cert.Kd1Ideal.nD Cert.Kd1Ideal.τ).loc Cert.Kd1Ideal.main_arg0)
          ∧ r.2.mem ((c.tc : Thread Cert.Kd1Ideal.nD Cert.Kd1Ideal.τ).loc Cert.Kd1Ideal.main_arg1) = m ((c.tc : Thread Cert.Kd1Ideal.nD Cert.Kd1Ideal.τ).loc Cert.Kd1Ideal.main_arg1)
          ∧ r.2.mem ((c.tc : Thread Cert.Kd1Ideal.nD Cert.Kd1Ideal.τ).loc Cert.Kd1Ideal.main_arg2) = m ((c.tc : Thread Cert.Kd1Ideal.nD Cert.Kd1Ideal.τ).loc Cert.Kd1Ideal.main_arg2)
          ∧ r.2.mem ((c.tc : Thread Cert.Kd1Ideal.nD Cert.Kd1Ideal.τ).loc Cert.Kd1Ideal.main_arg3) = m ((c.tc : Thread Cert.Kd1Ideal.nD Cert.Kd1Ideal.τ).loc Cert.Kd1Ideal.main_arg3)
          ∧ r.2.mem ((c.tc : Thread Cert.Kd1Ideal.nD Cert.Kd1Ideal.τ).loc Cert.Kd1Ideal.main_arg4) = m ((c.tc : Thread Cert.Kd1Ideal.nD Cert.Kd1Ideal.τ).loc Cert.Kd1Ideal.main_arg4))
      ∧ θ_run (Cert.RefKd1Ideal.defs (F := Ideal)) (onTc (τ := Cert.RefKd1Ideal.τ) (Cert.RefKd1Ideal.main (F := Ideal))) ⟨m', fun _ => 0, g'⟩ (fun r => ∀ c : Dev Cert.RefKd1Ideal.nD,
          r.2.mem ((c.tc : Thread Cert.RefKd1Ideal.nD Cert.RefKd1Ideal.τ).loc Cert.RefKd1Ideal.main_v17) = v0 c
          ∧ r.2.mem ((c.tc : Thread Cert.RefKd1Ideal.nD Cert.RefKd1Ideal.τ).loc Cert.RefKd1Ideal.main_v19) = v1 c
          ∧ r.2.mem ((c.tc : Thread Cert.RefKd1Ideal.nD Cert.RefKd1Ideal.τ).loc Cert.RefKd1Ideal.main_v24) = v2 c
          ∧ r.2.mem ((c.tc : Thread Cert.RefKd1Ideal.nD Cert.RefKd1Ideal.τ).loc Cert.RefKd1Ideal.main_arg0) = m' ((c.tc : Thread Cert.RefKd1Ideal.nD Cert.RefKd1Ideal.τ).loc Cert.RefKd1Ideal.main_arg0)
          ∧ r.2.mem ((c.tc : Thread Cert.RefKd1Ideal.nD Cert.RefKd1Ideal.τ).loc Cert.RefKd1Ideal.main_arg1) = m' ((c.tc : Thread Cert.RefKd1Ideal.nD Cert.RefKd1Ideal.τ).loc Cert.RefKd1Ideal.main_arg1)
          ∧ r.2.mem ((c.tc : Thread Cert.RefKd1Ideal.nD Cert.RefKd1Ideal.τ).loc Cert.RefKd1Ideal.main_arg2) = m' ((c.tc : Thread Cert.RefKd1Ideal.nD Cert.RefKd1Ideal.τ).loc Cert.RefKd1Ideal.main_arg2)
          ∧ r.2.mem ((c.tc : Thread Cert.RefKd1Ideal.nD Cert.RefKd1Ideal.τ).loc Cert.RefKd1Ideal.main_arg3) = m' ((c.tc : Thread Cert.RefKd1Ideal.nD Cert.RefKd1Ideal.τ).loc Cert.RefKd1Ideal.main_arg3)
          ∧ r.2.mem ((c.tc : Thread Cert.RefKd1Ideal.nD Cert.RefKd1Ideal.τ).loc Cert.RefKd1Ideal.main_arg4) = m' ((c.tc : Thread Cert.RefKd1Ideal.nD Cert.RefKd1Ideal.τ).loc Cert.RefKd1Ideal.main_arg4))

def preserves_Scan1_Scan1Ideal : Prop :=
  True

def algebraic_Scan1Ideal_RefScan1Ideal [hScan1Ideal : Cert.Scan1Ideal.Facts] [hRefScan1Ideal : Cert.RefScan1Ideal.Facts] : Prop :=
  ∀ (m : (ℓ : Loc Cert.Scan1Ideal.nD Cert.Scan1Ideal.τ Cert.Scan1Ideal.sig) → Buf (Elt Ideal) ℓ) (g : Dev Cert.Scan1Ideal.nD → PrngReg)
    (m' : (ℓ : Loc Cert.RefScan1Ideal.nD Cert.RefScan1Ideal.τ Cert.RefScan1Ideal.sig) → Buf (Elt Ideal) ℓ) (g' : Dev Cert.RefScan1Ideal.nD → PrngReg), Pre_Scan1Ideal m →
    (∀ c : Dev Cert.Scan1Ideal.nD,
      m' ((c.tc : Thread Cert.RefScan1Ideal.nD Cert.RefScan1Ideal.τ).loc Cert.RefScan1Ideal.main_arg0) = m ((c.tc : Thread Cert.Scan1Ideal.nD Cert.Scan1Ideal.τ).loc Cert.Scan1Ideal.main_arg0)
      ∧ m' ((c.tc : Thread Cert.RefScan1Ideal.nD Cert.RefScan1Ideal.τ).loc Cert.RefScan1Ideal.main_arg1) = m ((c.tc : Thread Cert.Scan1Ideal.nD Cert.Scan1Ideal.τ).loc Cert.Scan1Ideal.main_arg1)
      ∧ m' ((c.tc : Thread Cert.RefScan1Ideal.nD Cert.RefScan1Ideal.τ).loc Cert.RefScan1Ideal.main_arg2) = m ((c.tc : Thread Cert.Scan1Ideal.nD Cert.Scan1Ideal.τ).loc Cert.Scan1Ideal.main_arg2)
      ∧ m' ((c.tc : Thread Cert.RefScan1Ideal.nD Cert.RefScan1Ideal.τ).loc Cert.RefScan1Ideal.main_arg3) = m ((c.tc : Thread Cert.Scan1Ideal.nD Cert.Scan1Ideal.τ).loc Cert.Scan1Ideal.main_arg3)) →
    ∃ (v0 : (c : Dev Cert.Scan1Ideal.nD) → Buf (Elt Ideal) ((c.tc : Thread Cert.Scan1Ideal.nD Cert.Scan1Ideal.τ).loc Cert.Scan1Ideal.main_v2)),
      θ_run (Cert.Scan1Ideal.defs (F := Ideal)) (onTc (τ := Cert.Scan1Ideal.τ) (Cert.Scan1Ideal.main (F := Ideal))) ⟨m, fun _ => 0, g⟩ (fun r => ∀ c : Dev Cert.Scan1Ideal.nD,
          r.2.mem ((c.tc : Thread Cert.Scan1Ideal.nD Cert.Scan1Ideal.τ).loc Cert.Scan1Ideal.main_v2) = v0 c
          ∧ r.2.mem ((c.tc : Thread Cert.Scan1Ideal.nD Cert.Scan1Ideal.τ).loc Cert.Scan1Ideal.main_arg0) = m ((c.tc : Thread Cert.Scan1Ideal.nD Cert.Scan1Ideal.τ).loc Cert.Scan1Ideal.main_arg0)
          ∧ r.2.mem ((c.tc : Thread Cert.Scan1Ideal.nD Cert.Scan1Ideal.τ).loc Cert.Scan1Ideal.main_arg1) = m ((c.tc : Thread Cert.Scan1Ideal.nD Cert.Scan1Ideal.τ).loc Cert.Scan1Ideal.main_arg1)
          ∧ r.2.mem ((c.tc : Thread Cert.Scan1Ideal.nD Cert.Scan1Ideal.τ).loc Cert.Scan1Ideal.main_arg2) = m ((c.tc : Thread Cert.Scan1Ideal.nD Cert.Scan1Ideal.τ).loc Cert.Scan1Ideal.main_arg2)
          ∧ r.2.mem ((c.tc : Thread Cert.Scan1Ideal.nD Cert.Scan1Ideal.τ).loc Cert.Scan1Ideal.main_arg3) = m ((c.tc : Thread Cert.Scan1Ideal.nD Cert.Scan1Ideal.τ).loc Cert.Scan1Ideal.main_arg3))
      ∧ θ_run (Cert.RefScan1Ideal.defs (F := Ideal)) (onTc (τ := Cert.RefScan1Ideal.τ) (Cert.RefScan1Ideal.main (F := Ideal))) ⟨m', fun _ => 0, g'⟩ (fun r => ∀ c : Dev Cert.RefScan1Ideal.nD,
          r.2.mem ((c.tc : Thread Cert.RefScan1Ideal.nD Cert.RefScan1Ideal.τ).loc Cert.RefScan1Ideal.main_v8) = v0 c
          ∧ r.2.mem ((c.tc : Thread Cert.RefScan1Ideal.nD Cert.RefScan1Ideal.τ).loc Cert.RefScan1Ideal.main_arg0) = m' ((c.tc : Thread Cert.RefScan1Ideal.nD Cert.RefScan1Ideal.τ).loc Cert.RefScan1Ideal.main_arg0)
          ∧ r.2.mem ((c.tc : Thread Cert.RefScan1Ideal.nD Cert.RefScan1Ideal.τ).loc Cert.RefScan1Ideal.main_arg1) = m' ((c.tc : Thread Cert.RefScan1Ideal.nD Cert.RefScan1Ideal.τ).loc Cert.RefScan1Ideal.main_arg1)
          ∧ r.2.mem ((c.tc : Thread Cert.RefScan1Ideal.nD Cert.RefScan1Ideal.τ).loc Cert.RefScan1Ideal.main_arg2) = m' ((c.tc : Thread Cert.RefScan1Ideal.nD Cert.RefScan1Ideal.τ).loc Cert.RefScan1Ideal.main_arg2)
          ∧ r.2.mem ((c.tc : Thread Cert.RefScan1Ideal.nD Cert.RefScan1Ideal.τ).loc Cert.RefScan1Ideal.main_arg3) = m' ((c.tc : Thread Cert.RefScan1Ideal.nD Cert.RefScan1Ideal.τ).loc Cert.RefScan1Ideal.main_arg3))

def preserves_Sel1_Sel1Ideal : Prop :=
  True

def algebraic_Sel1Ideal_RefSel1Ideal [hSel1Ideal : Cert.Sel1Ideal.Facts] [hRefSel1Ideal : Cert.RefSel1Ideal.Facts] : Prop :=
  ∀ (m : (ℓ : Loc Cert.Sel1Ideal.nD Cert.Sel1Ideal.τ Cert.Sel1Ideal.sig) → Buf (Elt Ideal) ℓ) (g : Dev Cert.Sel1Ideal.nD → PrngReg)
    (m' : (ℓ : Loc Cert.RefSel1Ideal.nD Cert.RefSel1Ideal.τ Cert.RefSel1Ideal.sig) → Buf (Elt Ideal) ℓ) (g' : Dev Cert.RefSel1Ideal.nD → PrngReg), Pre_Sel1Ideal m →
    (∀ c : Dev Cert.Sel1Ideal.nD,
      m' ((c.tc : Thread Cert.RefSel1Ideal.nD Cert.RefSel1Ideal.τ).loc Cert.RefSel1Ideal.main_arg0) = m ((c.tc : Thread Cert.Sel1Ideal.nD Cert.Sel1Ideal.τ).loc Cert.Sel1Ideal.main_arg0)
      ∧ m' ((c.tc : Thread Cert.RefSel1Ideal.nD Cert.RefSel1Ideal.τ).loc Cert.RefSel1Ideal.main_arg1) = m ((c.tc : Thread Cert.Sel1Ideal.nD Cert.Sel1Ideal.τ).loc Cert.Sel1Ideal.main_arg1)
      ∧ m' ((c.tc : Thread Cert.RefSel1Ideal.nD Cert.RefSel1Ideal.τ).loc Cert.RefSel1Ideal.main_arg2) = m ((c.tc : Thread Cert.Sel1Ideal.nD Cert.Sel1Ideal.τ).loc Cert.Sel1Ideal.main_arg2)) →
    ∃ (v0 : (c : Dev Cert.Sel1Ideal.nD) → Buf (Elt Ideal) ((c.tc : Thread Cert.Sel1Ideal.nD Cert.Sel1Ideal.τ).loc Cert.Sel1Ideal.main_v0_0)) (v1 : (c : Dev Cert.Sel1Ideal.nD) → Buf (Elt Ideal) ((c.tc : Thread Cert.Sel1Ideal.nD Cert.Sel1Ideal.τ).loc Cert.Sel1Ideal.main_v0_1)),
      θ_run (Cert.Sel1Ideal.defs (F := Ideal)) (onTc (τ := Cert.Sel1Ideal.τ) (Cert.Sel1Ideal.main (F := Ideal))) ⟨m, fun _ => 0, g⟩ (fun r => ∀ c : Dev Cert.Sel1Ideal.nD,
          r.2.mem ((c.tc : Thread Cert.Sel1Ideal.nD Cert.Sel1Ideal.τ).loc Cert.Sel1Ideal.main_v0_0) = v0 c
          ∧ r.2.mem ((c.tc : Thread Cert.Sel1Ideal.nD Cert.Sel1Ideal.τ).loc Cert.Sel1Ideal.main_v0_1) = v1 c
          ∧ r.2.mem ((c.tc : Thread Cert.Sel1Ideal.nD Cert.Sel1Ideal.τ).loc Cert.Sel1Ideal.main_arg0) = m ((c.tc : Thread Cert.Sel1Ideal.nD Cert.Sel1Ideal.τ).loc Cert.Sel1Ideal.main_arg0)
          ∧ r.2.mem ((c.tc : Thread Cert.Sel1Ideal.nD Cert.Sel1Ideal.τ).loc Cert.Sel1Ideal.main_arg1) = m ((c.tc : Thread Cert.Sel1Ideal.nD Cert.Sel1Ideal.τ).loc Cert.Sel1Ideal.main_arg1)
          ∧ r.2.mem ((c.tc : Thread Cert.Sel1Ideal.nD Cert.Sel1Ideal.τ).loc Cert.Sel1Ideal.main_arg2) = m ((c.tc : Thread Cert.Sel1Ideal.nD Cert.Sel1Ideal.τ).loc Cert.Sel1Ideal.main_arg2))
      ∧ θ_run (Cert.RefSel1Ideal.defs (F := Ideal)) (onTc (τ := Cert.RefSel1Ideal.τ) (Cert.RefSel1Ideal.main (F := Ideal))) ⟨m', fun _ => 0, g'⟩ (fun r => ∀ c : Dev Cert.RefSel1Ideal.nD,
          r.2.mem ((c.tc : Thread Cert.RefSel1Ideal.nD Cert.RefSel1Ideal.τ).loc Cert.RefSel1Ideal.main_v18) = v0 c
          ∧ r.2.mem ((c.tc : Thread Cert.RefSel1Ideal.nD Cert.RefSel1Ideal.τ).loc Cert.RefSel1Ideal.main_v19) = v1 c
          ∧ r.2.mem ((c.tc : Thread Cert.RefSel1Ideal.nD Cert.RefSel1Ideal.τ).loc Cert.RefSel1Ideal.main_arg0) = m' ((c.tc : Thread Cert.RefSel1Ideal.nD Cert.RefSel1Ideal.τ).loc Cert.RefSel1Ideal.main_arg0)
          ∧ r.2.mem ((c.tc : Thread Cert.RefSel1Ideal.nD Cert.RefSel1Ideal.τ).loc Cert.RefSel1Ideal.main_arg1) = m' ((c.tc : Thread Cert.RefSel1Ideal.nD Cert.RefSel1Ideal.τ).loc Cert.RefSel1Ideal.main_arg1)
          ∧ r.2.mem ((c.tc : Thread Cert.RefSel1Ideal.nD Cert.RefSel1Ideal.τ).loc Cert.RefSel1Ideal.main_arg2) = m' ((c.tc : Thread Cert.RefSel1Ideal.nD Cert.RefSel1Ideal.τ).loc Cert.RefSel1Ideal.main_arg2))

def preserves_Attn_AttnIdeal : Prop :=
  IdealRules.named_const.Statement Cert.AttnIdeal.κ "st" .f32 0x3EB504F3#32 (((Real.sqrt 8)⁻¹ : ℝ) : EReal)

def algebraic_AttnIdeal_RefAttnIdeal [hAttnIdeal : Cert.AttnIdeal.Facts] [hRefAttnIdeal : Cert.RefAttnIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v20) = v0 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2))

def Claim : Prop :=
  ∃ (hKd4 : Cert.Kd4.Facts) (hKd4Ideal : Cert.Kd4Ideal.Facts) (hRefKd4Ideal : Cert.RefKd4Ideal.Facts) (hScan4 : Cert.Scan4.Facts) (hScan4Ideal : Cert.Scan4Ideal.Facts) (hRefScan4Ideal : Cert.RefScan4Ideal.Facts) (hSel4 : Cert.Sel4.Facts) (hSel4Ideal : Cert.Sel4Ideal.Facts) (hRefSel4Ideal : Cert.RefSel4Ideal.Facts) (hKd3 : Cert.Kd3.Facts) (hKd3Ideal : Cert.Kd3Ideal.Facts) (hRefKd3Ideal : Cert.RefKd3Ideal.Facts) (hScan3 : Cert.Scan3.Facts) (hScan3Ideal : Cert.Scan3Ideal.Facts) (hRefScan3Ideal : Cert.RefScan3Ideal.Facts) (hSel3 : Cert.Sel3.Facts) (hSel3Ideal : Cert.Sel3Ideal.Facts) (hRefSel3Ideal : Cert.RefSel3Ideal.Facts) (hKd2 : Cert.Kd2.Facts) (hKd2Ideal : Cert.Kd2Ideal.Facts) (hRefKd2Ideal : Cert.RefKd2Ideal.Facts) (hScan2 : Cert.Scan2.Facts) (hScan2Ideal : Cert.Scan2Ideal.Facts) (hRefScan2Ideal : Cert.RefScan2Ideal.Facts) (hSel2 : Cert.Sel2.Facts) (hSel2Ideal : Cert.Sel2Ideal.Facts) (hRefSel2Ideal : Cert.RefSel2Ideal.Facts) (hKd1 : Cert.Kd1.Facts) (hKd1Ideal : Cert.Kd1Ideal.Facts) (hRefKd1Ideal : Cert.RefKd1Ideal.Facts) (hScan1 : Cert.Scan1.Facts) (hScan1Ideal : Cert.Scan1Ideal.Facts) (hRefScan1Ideal : Cert.RefScan1Ideal.Facts) (hSel1 : Cert.Sel1.Facts) (hSel1Ideal : Cert.Sel1Ideal.Facts) (hRefSel1Ideal : Cert.RefSel1Ideal.Facts) (hAttn : Cert.Attn.Facts) (hAttnIdeal : Cert.AttnIdeal.Facts) (hRefAttnIdeal : Cert.RefAttnIdeal.Facts),
    quiescent_Kd4 (hKd4 := hKd4)
    ∧ quiescent_Kd4Ideal (hKd4Ideal := hKd4Ideal)
    ∧ quiescent_RefKd4Ideal (hRefKd4Ideal := hRefKd4Ideal)
    ∧ quiescent_Scan4 (hScan4 := hScan4)
    ∧ quiescent_Scan4Ideal (hScan4Ideal := hScan4Ideal)
    ∧ quiescent_RefScan4Ideal (hRefScan4Ideal := hRefScan4Ideal)
    ∧ quiescent_Sel4 (hSel4 := hSel4)
    ∧ quiescent_Sel4Ideal (hSel4Ideal := hSel4Ideal)
    ∧ quiescent_RefSel4Ideal (hRefSel4Ideal := hRefSel4Ideal)
    ∧ quiescent_Kd3 (hKd3 := hKd3)
    ∧ quiescent_Kd3Ideal (hKd3Ideal := hKd3Ideal)
    ∧ quiescent_RefKd3Ideal (hRefKd3Ideal := hRefKd3Ideal)
    ∧ quiescent_Scan3 (hScan3 := hScan3)
    ∧ quiescent_Scan3Ideal (hScan3Ideal := hScan3Ideal)
    ∧ quiescent_RefScan3Ideal (hRefScan3Ideal := hRefScan3Ideal)
    ∧ quiescent_Sel3 (hSel3 := hSel3)
    ∧ quiescent_Sel3Ideal (hSel3Ideal := hSel3Ideal)
    ∧ quiescent_RefSel3Ideal (hRefSel3Ideal := hRefSel3Ideal)
    ∧ quiescent_Kd2 (hKd2 := hKd2)
    ∧ quiescent_Kd2Ideal (hKd2Ideal := hKd2Ideal)
    ∧ quiescent_RefKd2Ideal (hRefKd2Ideal := hRefKd2Ideal)
    ∧ quiescent_Scan2 (hScan2 := hScan2)
    ∧ quiescent_Scan2Ideal (hScan2Ideal := hScan2Ideal)
    ∧ quiescent_RefScan2Ideal (hRefScan2Ideal := hRefScan2Ideal)
    ∧ quiescent_Sel2 (hSel2 := hSel2)
    ∧ quiescent_Sel2Ideal (hSel2Ideal := hSel2Ideal)
    ∧ quiescent_RefSel2Ideal (hRefSel2Ideal := hRefSel2Ideal)
    ∧ quiescent_Kd1 (hKd1 := hKd1)
    ∧ quiescent_Kd1Ideal (hKd1Ideal := hKd1Ideal)
    ∧ quiescent_RefKd1Ideal (hRefKd1Ideal := hRefKd1Ideal)
    ∧ quiescent_Scan1 (hScan1 := hScan1)
    ∧ quiescent_Scan1Ideal (hScan1Ideal := hScan1Ideal)
    ∧ quiescent_RefScan1Ideal (hRefScan1Ideal := hRefScan1Ideal)
    ∧ quiescent_Sel1 (hSel1 := hSel1)
    ∧ quiescent_Sel1Ideal (hSel1Ideal := hSel1Ideal)
    ∧ quiescent_RefSel1Ideal (hRefSel1Ideal := hRefSel1Ideal)
    ∧ quiescent_Attn (hAttn := hAttn)
    ∧ quiescent_AttnIdeal (hAttnIdeal := hAttnIdeal)
    ∧ quiescent_RefAttnIdeal (hRefAttnIdeal := hRefAttnIdeal)
    ∧ preserves_Kd4_Kd4Ideal
    ∧ algebraic_Kd4Ideal_RefKd4Ideal (hKd4Ideal := hKd4Ideal) (hRefKd4Ideal := hRefKd4Ideal)
    ∧ preserves_Scan4_Scan4Ideal
    ∧ algebraic_Scan4Ideal_RefScan4Ideal (hScan4Ideal := hScan4Ideal) (hRefScan4Ideal := hRefScan4Ideal)
    ∧ preserves_Sel4_Sel4Ideal
    ∧ algebraic_Sel4Ideal_RefSel4Ideal (hSel4Ideal := hSel4Ideal) (hRefSel4Ideal := hRefSel4Ideal)
    ∧ preserves_Kd3_Kd3Ideal
    ∧ algebraic_Kd3Ideal_RefKd3Ideal (hKd3Ideal := hKd3Ideal) (hRefKd3Ideal := hRefKd3Ideal)
    ∧ preserves_Scan3_Scan3Ideal
    ∧ algebraic_Scan3Ideal_RefScan3Ideal (hScan3Ideal := hScan3Ideal) (hRefScan3Ideal := hRefScan3Ideal)
    ∧ preserves_Sel3_Sel3Ideal
    ∧ algebraic_Sel3Ideal_RefSel3Ideal (hSel3Ideal := hSel3Ideal) (hRefSel3Ideal := hRefSel3Ideal)
    ∧ preserves_Kd2_Kd2Ideal
    ∧ algebraic_Kd2Ideal_RefKd2Ideal (hKd2Ideal := hKd2Ideal) (hRefKd2Ideal := hRefKd2Ideal)
    ∧ preserves_Scan2_Scan2Ideal
    ∧ algebraic_Scan2Ideal_RefScan2Ideal (hScan2Ideal := hScan2Ideal) (hRefScan2Ideal := hRefScan2Ideal)
    ∧ preserves_Sel2_Sel2Ideal
    ∧ algebraic_Sel2Ideal_RefSel2Ideal (hSel2Ideal := hSel2Ideal) (hRefSel2Ideal := hRefSel2Ideal)
    ∧ preserves_Kd1_Kd1Ideal
    ∧ algebraic_Kd1Ideal_RefKd1Ideal (hKd1Ideal := hKd1Ideal) (hRefKd1Ideal := hRefKd1Ideal)
    ∧ preserves_Scan1_Scan1Ideal
    ∧ algebraic_Scan1Ideal_RefScan1Ideal (hScan1Ideal := hScan1Ideal) (hRefScan1Ideal := hRefScan1Ideal)
    ∧ preserves_Sel1_Sel1Ideal
    ∧ algebraic_Sel1Ideal_RefSel1Ideal (hSel1Ideal := hSel1Ideal) (hRefSel1Ideal := hRefSel1Ideal)
    ∧ preserves_Attn_AttnIdeal
    ∧ algebraic_AttnIdeal_RefAttnIdeal (hAttnIdeal := hAttnIdeal) (hRefAttnIdeal := hRefAttnIdeal)
-- ==== Kd4.lean ====
abbrev S32x256x64 : Shape := ⟨3, ![32, 256, 64]⟩
abbrev S32x1x128 : Shape := ⟨3, ![32, 1, 128]⟩
abbrev S32x1x1 : Shape := ⟨3, ![32, 1, 1]⟩
abbrev S32x1x128x128 : Shape := ⟨4, ![32, 1, 128, 128]⟩
abbrev S1x256x64 : Shape := ⟨3, ![1, 256, 64]⟩
abbrev S1x1x128 : Shape := ⟨3, ![1, 1, 128]⟩
abbrev S1x1x1 : Shape := ⟨3, ![1, 1, 1]⟩
abbrev S1x1x128x128 : Shape := ⟨4, ![1, 1, 128, 128]⟩
abbrev S2x256x128 : Shape := ⟨3, ![2, 256, 128]⟩
abbrev S256x128 : Shape := ⟨2, ![256, 128]⟩
abbrev S1x128 : Shape := ⟨2, ![1, 128]⟩
abbrev S256x64 : Shape := ⟨2, ![256, 64]⟩
abbrev S256x256 : Shape := ⟨2, ![256, 256]⟩
abbrev S1x256x128 : Shape := ⟨3, ![1, 256, 128]⟩
abbrev S1x128x128 : Shape := ⟨3, ![1, 128, 128]⟩
abbrev S128x128 : Shape := ⟨2, ![128, 128]⟩
abbrev S128x256 : Shape := ⟨2, ![128, 256]⟩
abbrev S128 : Shape := ⟨1, ![128]⟩
abbrev S1x1 : Shape := ⟨2, ![1, 1]⟩
abbrev S1x127 : Shape := ⟨2, ![1, 127]⟩
abbrev S1x2 : Shape := ⟨2, ![1, 2]⟩
abbrev S1x126 : Shape := ⟨2, ![1, 126]⟩
abbrev S1x4 : Shape := ⟨2, ![1, 4]⟩
abbrev S1x124 : Shape := ⟨2, ![1, 124]⟩
abbrev S1x8 : Shape := ⟨2, ![1, 8]⟩
abbrev S1x120 : Shape := ⟨2, ![1, 120]⟩
abbrev S1x16 : Shape := ⟨2, ![1, 16]⟩
abbrev S1x112 : Shape := ⟨2, ![1, 112]⟩
abbrev S1x32 : Shape := ⟨2, ![1, 32]⟩
abbrev S1x96 : Shape := ⟨2, ![1, 96]⟩
abbrev S1x64 : Shape := ⟨2, ![1, 64]⟩

abbrev nBuf : Space → Nat
  | .hbm => 8
  | .vmem => 18
  | .smem => 0
  | _ => 0

abbrev bufTy : (tb : Table) → Fin (tcTables nBuf tb) → BufTy
  | .hbm, ⟨0, _⟩ => ⟨S32x256x64, .f32⟩
  | .hbm, ⟨1, _⟩ => ⟨S32x256x64, .f32⟩
  | .hbm, ⟨2, _⟩ => ⟨S32x1x128, .f32⟩
  | .hbm, ⟨3, _⟩ => ⟨S32x1x1, .f32⟩
  | .hbm, ⟨4, _⟩ => ⟨S32x1x1, .f32⟩
  | .hbm, ⟨5, _⟩ => ⟨S32x1x128x128, .f32⟩
  | .hbm, ⟨6, _⟩ => ⟨S32x1x128, .f32⟩
  | .hbm, ⟨7, _⟩ => ⟨S32x1x128, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x1x128, .f32⟩
  | .local _ .vmem, ⟨5, _⟩ => ⟨S1x1x128, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S2x256x128, .f32⟩
  | .local _ .vmem, ⟨17, _⟩ => ⟨S256x128, .f32⟩
  | _, _ => ⟨S32x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kd4Ideal.lean ====
abbrev S32x256x64 : Shape := ⟨3, ![32, 256, 64]⟩
abbrev S32x1x128 : Shape := ⟨3, ![32, 1, 128]⟩
abbrev S32x1x1 : Shape := ⟨3, ![32, 1, 1]⟩
abbrev S32x1x128x128 : Shape := ⟨4, ![32, 1, 128, 128]⟩
abbrev S1x256x64 : Shape := ⟨3, ![1, 256, 64]⟩
abbrev S1x1x128 : Shape := ⟨3, ![1, 1, 128]⟩
abbrev S1x1x1 : Shape := ⟨3, ![1, 1, 1]⟩
abbrev S1x1x128x128 : Shape := ⟨4, ![1, 1, 128, 128]⟩
abbrev S2x256x128 : Shape := ⟨3, ![2, 256, 128]⟩
abbrev S256x128 : Shape := ⟨2, ![256, 128]⟩
abbrev S1x128 : Shape := ⟨2, ![1, 128]⟩
abbrev S256x64 : Shape := ⟨2, ![256, 64]⟩
abbrev S256x256 : Shape := ⟨2, ![256, 256]⟩
abbrev S1x256x128 : Shape := ⟨3, ![1, 256, 128]⟩
abbrev S1x128x128 : Shape := ⟨3, ![1, 128, 128]⟩
abbrev S128x128 : Shape := ⟨2, ![128, 128]⟩
abbrev S128x256 : Shape := ⟨2, ![128, 256]⟩
abbrev S128 : Shape := ⟨1, ![128]⟩
abbrev S1x1 : Shape := ⟨2, ![1, 1]⟩
abbrev S1x127 : Shape := ⟨2, ![1, 127]⟩
abbrev S1x2 : Shape := ⟨2, ![1, 2]⟩
abbrev S1x126 : Shape := ⟨2, ![1, 126]⟩
abbrev S1x4 : Shape := ⟨2, ![1, 4]⟩
abbrev S1x124 : Shape := ⟨2, ![1, 124]⟩
abbrev S1x8 : Shape := ⟨2, ![1, 8]⟩
abbrev S1x120 : Shape := ⟨2, ![1, 120]⟩
abbrev S1x16 : Shape := ⟨2, ![1, 16]⟩
abbrev S1x112 : Shape := ⟨2, ![1, 112]⟩
abbrev S1x32 : Shape := ⟨2, ![1, 32]⟩
abbrev S1x96 : Shape := ⟨2, ![1, 96]⟩
abbrev S1x64 : Shape := ⟨2, ![1, 64]⟩

abbrev nBuf : Space → Nat
  | .hbm => 8
  | .vmem => 18
  | .smem => 0
  | _ => 0

abbrev bufTy : (tb : Table) → Fin (tcTables nBuf tb) → BufTy
  | .hbm, ⟨0, _⟩ => ⟨S32x256x64, .f32⟩
  | .hbm, ⟨1, _⟩ => ⟨S32x256x64, .f32⟩
  | .hbm, ⟨2, _⟩ => ⟨S32x1x128, .f32⟩
  | .hbm, ⟨3, _⟩ => ⟨S32x1x1, .f32⟩
  | .hbm, ⟨4, _⟩ => ⟨S32x1x1, .f32⟩
  | .hbm, ⟨5, _⟩ => ⟨S32x1x128x128, .f32⟩
  | .hbm, ⟨6, _⟩ => ⟨S32x1x128, .f32⟩
  | .hbm, ⟨7, _⟩ => ⟨S32x1x128, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x1x128, .f32⟩
  | .local _ .vmem, ⟨5, _⟩ => ⟨S1x1x128, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S2x256x128, .f32⟩
  | .local _ .vmem, ⟨17, _⟩ => ⟨S256x128, .f32⟩
  | _, _ => ⟨S32x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefKd4Ideal.lean ====
abbrev S32x256x64 : Shape := ⟨3, ![32, 256, 64]⟩
abbrev S32x1x128 : Shape := ⟨3, ![32, 1, 128]⟩
abbrev S32x1x1 : Shape := ⟨3, ![32, 1, 1]⟩
abbrev S32x1x256x64 : Shape := ⟨4, ![32, 1, 256, 64]⟩
abbrev S32x1x1x1 : Shape := ⟨4, ![32, 1, 1, 1]⟩
abbrev S32x1x256x256 : Shape := ⟨4, ![32, 1, 256, 256]⟩
abbrev S32x1x256x128 : Shape := ⟨4, ![32, 1, 256, 128]⟩
abbrev S32x1x128x128 : Shape := ⟨4, ![32, 1, 128, 128]⟩
abbrev S32x1x1x128 : Shape := ⟨4, ![32, 1, 1, 128]⟩
abbrev S128 : Shape := ⟨1, ![128]⟩
abbrev S_ : Shape := ⟨0, ![]⟩
abbrev S128x1 : Shape := ⟨2, ![128, 1]⟩
abbrev S128x2 : Shape := ⟨2, ![128, 2]⟩

abbrev nBuf : Space → Nat
  | .hbm => 51
  | .vmem => 0
  | .smem => 0
  | _ => 0

abbrev bufTy : (tb : Table) → Fin (tcTables nBuf tb) → BufTy
  | .hbm, ⟨0, _⟩ => ⟨S32x256x64, .f32⟩
  | .hbm, ⟨1, _⟩ => ⟨S32x256x64, .f32⟩
  | .hbm, ⟨2, _⟩ => ⟨S32x1x128, .f32⟩
  | .hbm, ⟨3, _⟩ => ⟨S32x1x1, .f32⟩
  | .hbm, ⟨4, _⟩ => ⟨S32x1x1, .f32⟩
  | .hbm, ⟨5, _⟩ => ⟨S32x1x256x64, .f32⟩
  | .hbm, ⟨6, _⟩ => ⟨S32x1x256x64, .f32⟩
  | .hbm, ⟨7, _⟩ => ⟨S32x1x1x1, .f32⟩
  | .hbm, ⟨8, _⟩ => ⟨S32x1x1x1, .f32⟩
  | .hbm, ⟨9, _⟩ => ⟨S32x1x256x256, .f32⟩
  | .hbm, ⟨10, _⟩ => ⟨S32x1x256x256, .f32⟩
  | .hbm, ⟨11, _⟩ => ⟨S32x1x256x256, .f32⟩
  | .hbm, ⟨12, _⟩ => ⟨S32x1x256x256, .f32⟩
  | .hbm, ⟨13, _⟩ => ⟨S32x1x256x256, .f32⟩
  | .hbm, ⟨14, _⟩ => ⟨S32x1x256x256, .f32⟩
  | .hbm, ⟨15, _⟩ => ⟨S32x1x256x256, .f32⟩
  | .hbm, ⟨16, _⟩ => ⟨S32x1x256x256, .f32⟩
  | .hbm, ⟨17, _⟩ => ⟨S32x1x256x128, .f32⟩
  | .hbm, ⟨18, _⟩ => ⟨S32x1x256x128, .f32⟩
  | .hbm, ⟨19, _⟩ => ⟨S32x1x256x128, .f32⟩
  | .hbm, ⟨20, _⟩ => ⟨S32x1x128x128, .f32⟩
  | .hbm, ⟨21, _⟩ => ⟨S32x1x128x128, .f32⟩
  | .hbm, ⟨22, _⟩ => ⟨S32x1x128x128, .f32⟩
  | .hbm, ⟨23, _⟩ => ⟨S32x1x1x128, .f32⟩
  | .hbm, ⟨24, _⟩ => ⟨S32x1x128, .f32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S128, .i32⟩
  | .hbm, ⟨41, _⟩ => ⟨S128x1, .i32⟩
  | .hbm, ⟨42, _⟩ => ⟨S128x1, .i32⟩
  | .hbm, ⟨43, _⟩ => ⟨S128x2, .i32⟩
  | .hbm, ⟨44, _⟩ => ⟨S32x1x128, .f32⟩
  | .hbm, ⟨45, _⟩ => ⟨S32x1x128, .f32⟩
  | .hbm, ⟨46, _⟩ => ⟨S32x1x128, .f32⟩
  | .hbm, ⟨47, _⟩ => ⟨S_, .f32⟩
  | .hbm, ⟨48, _⟩ => ⟨S_, .f32⟩
  | .hbm, ⟨49, _⟩ => ⟨S32x1x128, .f32⟩
  | .hbm, ⟨50, _⟩ => ⟨S32x1x128, .f32⟩
  | _, _ => ⟨S32x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_c_1 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call1_cst : Ref sig .tc := ⟨.hbm, 47, rfl⟩
abbrev main_call1_v0 : Ref sig .tc := ⟨.hbm, 48, rfl⟩
abbrev main_v23 : Ref sig .tc := ⟨.hbm, 49, rfl⟩
abbrev main_v24 : Ref sig .tc := ⟨.hbm, 50, rfl⟩

abbrev nD : Nat := 1
abbrev τ : Topo := Topo.v7x

variable {F : FTy → Type} [FloatOps F]
-- ==== Scan4.lean ====
abbrev S32x1x128x128 : Shape := ⟨4, ![32, 1, 128, 128]⟩
abbrev S32x1x128 : Shape := ⟨3, ![32, 1, 128]⟩
abbrev S1 : Shape := ⟨1, ![1]⟩
abbrev S1x1x1 : Shape := ⟨3, ![1, 1, 1]⟩
abbrev S32x128 : Shape := ⟨2, ![32, 128]⟩
abbrev S32 : Shape := ⟨1, ![32]⟩
abbrev S32x1 : Shape := ⟨2, ![32, 1]⟩
abbrev S32x1x1x128 : Shape := ⟨4, ![32, 1, 1, 128]⟩

abbrev nBuf : Space → Nat
  | .hbm => 7
  | .vmem => 5
  | .smem => 0
  | _ => 0

abbrev bufTy : (tb : Table) → Fin (tcTables nBuf tb) → BufTy
  | .hbm, ⟨0, _⟩ => ⟨S32x1x128x128, .f32⟩
  | .hbm, ⟨1, _⟩ => ⟨S32x1x128, .f32⟩
  | .hbm, ⟨2, _⟩ => ⟨S32x1x128, .f32⟩
  | .hbm, ⟨3, _⟩ => ⟨S1, .i1⟩
  | .hbm, ⟨4, _⟩ => ⟨S1, .f32⟩
  | .hbm, ⟨5, _⟩ => ⟨S1x1x1, .f32⟩
  | .hbm, ⟨6, _⟩ => ⟨S32x1x128, .f32⟩
  | .local _ .vmem, ⟨0, _⟩ => ⟨S32x1x128x128, .f32⟩
  | .local _ .vmem, ⟨1, _⟩ => ⟨S32x1x128, .f32⟩
  | .local _ .vmem, ⟨2, _⟩ => ⟨S32x1x128, .f32⟩
  | .local _ .vmem, ⟨3, _⟩ => ⟨S1x1x1, .f32⟩
  | .local _ .vmem, ⟨4, _⟩ => ⟨S32x1x128, .f32⟩
  | _, _ => ⟨S32x1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c1_i32 : BitVec 32 := 1#32
  let c127_i32 : BitVec 32 := 127#32
  let v12 : BitVec 32 := Scalar.addi c1_i32 c127_i32
  let c1_i32_8 : BitVec 32 := 1#32
  ⟨c1_i32, v12, c1_i32_8⟩
def k0_off1 (k0_t1 : Fin k0_t1_loop.trips) : Fin 4 → Nat :=
  let c0_17 : Index := 0#32
  let c0_18 : Index := 0#32
  let c1_i32 : BitVec 32 := 1#32
  let c1_i32_8 : BitVec 32 := 1#32
  let arg6 : BitVec 32 := Scf.iv c1_i32 c1_i32_8 k0_t1
  let v39 : Index := Scalar.indexCast arg6
  let c0_19 : Index := 0#32
  ![0, 0, v39.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x1x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Scan4Ideal.lean ====
abbrev S32x1x128x128 : Shape := ⟨4, ![32, 1, 128, 128]⟩
abbrev S32x1x128 : Shape := ⟨3, ![32, 1, 128]⟩
abbrev S1 : Shape := ⟨1, ![1]⟩
abbrev S1x1x1 : Shape := ⟨3, ![1, 1, 1]⟩
abbrev S32x128 : Shape := ⟨2, ![32, 128]⟩
abbrev S32 : Shape := ⟨1, ![32]⟩
abbrev S32x1 : Shape := ⟨2, ![32, 1]⟩
abbrev S32x1x1x128 : Shape := ⟨4, ![32, 1, 1, 128]⟩

abbrev nBuf : Space → Nat
  | .hbm => 7
  | .vmem => 5
  | .smem => 0
  | _ => 0

abbrev bufTy : (tb : Table) → Fin (tcTables nBuf tb) → BufTy
  | .hbm, ⟨0, _⟩ => ⟨S32x1x128x128, .f32⟩
  | .hbm, ⟨1, _⟩ => ⟨S32x1x128, .f32⟩
  | .hbm, ⟨2, _⟩ => ⟨S32x1x128, .f32⟩
  | .hbm, ⟨3, _⟩ => ⟨S1, .i1⟩
  | .hbm, ⟨4, _⟩ => ⟨S1, .f32⟩
  | .hbm, ⟨5, _⟩ => ⟨S1x1x1, .f32⟩
  | .hbm, ⟨6, _⟩ => ⟨S32x1x128, .f32⟩
  | .local _ .vmem, ⟨0, _⟩ => ⟨S32x1x128x128, .f32⟩
  | .local _ .vmem, ⟨1, _⟩ => ⟨S32x1x128, .f32⟩
  | .local _ .vmem, ⟨2, _⟩ => ⟨S32x1x128, .f32⟩
  | .local _ .vmem, ⟨3, _⟩ => ⟨S1x1x1, .f32⟩
  | .local _ .vmem, ⟨4, _⟩ => ⟨S32x1x128, .f32⟩
  | _, _ => ⟨S32x1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c1_i32 : BitVec 32 := 1#32
  let c127_i32 : BitVec 32 := 127#32
  let v12 : BitVec 32 := Scalar.addi c1_i32 c127_i32
  let c1_i32_8 : BitVec 32 := 1#32
  ⟨c1_i32, v12, c1_i32_8⟩
def k0_off1 (k0_t1 : Fin k0_t1_loop.trips) : Fin 4 → Nat :=
  let c0_17 : Index := 0#32
  let c0_18 : Index := 0#32
  let c1_i32 : BitVec 32 := 1#32
  let c1_i32_8 : BitVec 32 := 1#32
  let arg6 : BitVec 32 := Scf.iv c1_i32 c1_i32_8 k0_t1
  let v39 : Index := Scalar.indexCast arg6
  let c0_19 : Index := 0#32
  ![0, 0, v39.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x1x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefScan4Ideal.lean ====
abbrev S32x1x128x128 : Shape := ⟨4, ![32, 1, 128, 128]⟩
abbrev S32x1x128 : Shape := ⟨3, ![32, 1, 128]⟩
abbrev S1 : Shape := ⟨1, ![1]⟩
abbrev S_ : Shape := ⟨0, ![]⟩
abbrev S127 : Shape := ⟨1, ![127]⟩
abbrev S32x1x1 : Shape := ⟨3, ![32, 1, 1]⟩
abbrev S32x1 : Shape := ⟨2, ![32, 1]⟩
abbrev S32x1x1x128 : Shape := ⟨4, ![32, 1, 1, 128]⟩
abbrev S1x1x1 : Shape := ⟨3, ![1, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S32x1x128x128, .f32⟩
  | .hbm, ⟨1, _⟩ => ⟨S32x1x128, .f32⟩
  | .hbm, ⟨2, _⟩ => ⟨S32x1x128, .f32⟩
  | .hbm, ⟨3, _⟩ => ⟨S1, .i1⟩
  | .hbm, ⟨4, _⟩ => ⟨S_, .i1⟩
  | .hbm, ⟨5, _⟩ => ⟨S32x1x128, .i1⟩
  | .hbm, ⟨6, _⟩ => ⟨S127, .i32⟩
  | .hbm, ⟨7, _⟩ => ⟨S_, .i32⟩
  | .hbm, ⟨8, _⟩ => ⟨S127, .i32⟩
  | .hbm, ⟨9, _⟩ => ⟨S127, .i32⟩
  | .hbm, ⟨10, _⟩ => ⟨S_, .i32⟩
  | .hbm, ⟨11, _⟩ => ⟨S127, .i32⟩
  | .hbm, ⟨12, _⟩ => ⟨S32x1x128, .f32⟩
  | .hbm, ⟨13, _⟩ => ⟨S32x1x128x128, .f32⟩
  | .hbm, ⟨14, _⟩ => ⟨S_, .i32⟩
  | .hbm, ⟨15, _⟩ => ⟨S32x1x128, .f32⟩
  | .hbm, ⟨16, _⟩ => ⟨S32x1x128, .i1⟩
  | .hbm, ⟨17, _⟩ => ⟨S_, .i32⟩
  | .hbm, ⟨18, _⟩ => ⟨S_, .i1⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S32x1x1, .f32⟩
  | .hbm, ⟨43, _⟩ => ⟨S32x1, .f32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S32x1x1, .f32⟩
  | .hbm, ⟨66, _⟩ => ⟨S32x1, .f32⟩
  | .hbm, ⟨67, _⟩ => ⟨S32x1, .i1⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1, .i32⟩
  | .hbm, ⟨74, _⟩ => ⟨S32x1x128, .i1⟩
  | .hbm, ⟨75, _⟩ => ⟨S32x1x1, .i1⟩
  | .hbm, ⟨76, _⟩ => ⟨S32x1x1, .f32⟩
  | .hbm, ⟨77, _⟩ => ⟨S_, .f32⟩
  | .hbm, ⟨78, _⟩ => ⟨S32x1x1, .f32⟩
  | .hbm, ⟨79, _⟩ => ⟨S32x1x1, .f32⟩
  | .hbm, ⟨80, _⟩ => ⟨S_, .f32⟩
  | .hbm, ⟨81, _⟩ => ⟨S32x1x1, .f32⟩
  | .hbm, ⟨82, _⟩ => ⟨S32x1x1, .f32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i1⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S32x1x1x128, .f32⟩
  | .hbm, ⟨113, _⟩ => ⟨S32x1x128, .f32⟩
  | .hbm, ⟨114, _⟩ => ⟨S32x1x128, .f32⟩
  | .hbm, ⟨115, _⟩ => ⟨S32x1x128, .f32⟩
  | .hbm, ⟨116, _⟩ => ⟨S32x1x128, .f32⟩
  | .hbm, ⟨117, _⟩ => ⟨S_, .i32⟩
  | .hbm, ⟨118, _⟩ => ⟨S_, .i32⟩
  | .hbm, ⟨119, _⟩ => ⟨S1x1x1, .i1⟩
  | .hbm, ⟨120, _⟩ => ⟨S32x1x128, .i1⟩
  | .hbm, ⟨121, _⟩ => ⟨S32x1x128, .i1⟩
  | .hbm, ⟨122, _⟩ => ⟨S32x1x128, .f32⟩
  | _, _ => ⟨S32x1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_while0c_c_7 : Ref sig .tc := ⟨.hbm, 17, rfl⟩
abbrev main_while0c_v9 : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_c_7 : Ref sig .tc := ⟨.hbm, 21, rfl⟩
abbrev main_while0b_c_8 : Ref sig .tc := ⟨.hbm, 22, rfl⟩
abbrev main_while0b_v10 : Ref sig .tc := ⟨.hbm, 23, rfl⟩
abbrev main_while0b_c_9 : Ref sig .tc := ⟨.hbm, 24, rfl⟩
abbrev main_while0b_c_10 : Ref sig .tc := ⟨.hbm, 25, rfl⟩
abbrev main_while0b_v11 : Ref sig .tc := ⟨.hbm, 26, rfl⟩
abbrev main_while0b_c_11 : Ref sig .tc := ⟨.hbm, 27, rfl⟩
abbrev main_while0b_v12 : Ref sig .tc := ⟨.hbm, 28, rfl⟩
abbrev main_while0b_c_12 : Ref sig .tc := ⟨.hbm, 29, rfl⟩
abbrev main_while0b_c_13 : Ref sig .tc := ⟨.hbm, 30, rfl⟩
abbrev main_while0b_v13 : Ref sig .tc := ⟨.hbm, 31, rfl⟩
abbrev main_while0b_c_14 : Ref sig .tc := ⟨.hbm, 32, rfl⟩
abbrev main_while0b_c_15 : Ref sig .tc := ⟨.hbm, 33, rfl⟩
abbrev main_while0b_v14 : Ref sig .tc := ⟨.hbm, 34, rfl⟩
abbrev main_while0b_c_16 : Ref sig .tc := ⟨.hbm, 35, rfl⟩
abbrev main_while0b_v15 : Ref sig .tc := ⟨.hbm, 36, rfl⟩
abbrev main_while0b_c_17 : Ref sig .tc := ⟨.hbm, 37, rfl⟩
abbrev main_while0b_v16 : Ref sig .tc := ⟨.hbm, 38, rfl⟩
abbrev main_while0b_c_18 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_c_19 : Ref sig .tc := ⟨.hbm, 44, rfl⟩
abbrev main_while0b_c_20 : Ref sig .tc := ⟨.hbm, 45, rfl⟩
abbrev main_while0b_v21 : Ref sig .tc := ⟨.hbm, 46, rfl⟩
abbrev main_while0b_c_21 : Ref sig .tc := ⟨.hbm, 47, rfl⟩
abbrev main_while0b_c_22 : Ref sig .tc := ⟨.hbm, 48, rfl⟩
abbrev main_while0b_v22 : Ref sig .tc := ⟨.hbm, 49, rfl⟩
abbrev main_while0b_c_23 : Ref sig .tc := ⟨.hbm, 50, rfl⟩
abbrev main_while0b_v23 : Ref sig .tc := ⟨.hbm, 51, rfl⟩
abbrev main_while0b_c_24 : Ref sig .tc := ⟨.hbm, 52, rfl⟩
abbrev main_while0b_c_25 : Ref sig .tc := ⟨.hbm, 53, rfl⟩
abbrev main_while0b_v24 : Ref sig .tc := ⟨.hbm, 54, rfl⟩
abbrev main_while0b_c_26 : Ref sig .tc := ⟨.hbm, 55, rfl⟩
abbrev main_while0b_c_27 : Ref sig .tc := ⟨.hbm, 56, rfl⟩
abbrev main_while0b_v25 : Ref sig .tc := ⟨.hbm, 57, rfl⟩
abbrev main_while0b_c_28 : Ref sig .tc := ⟨.hbm, 58, rfl⟩
abbrev main_while0b_v26 : Ref sig .tc := ⟨.hbm, 59, rfl⟩
abbrev main_while0b_c_29 : Ref sig .tc := ⟨.hbm, 60, rfl⟩
abbrev main_while0b_v27 : Ref sig .tc := ⟨.hbm, 61, rfl⟩
abbrev main_while0b_c_30 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_c_31 : Ref sig .tc := ⟨.hbm, 68, rfl⟩
abbrev main_while0b_v33 : Ref sig .tc := ⟨.hbm, 69, rfl⟩
abbrev main_while0b_c_32 : Ref sig .tc := ⟨.hbm, 70, rfl⟩
abbrev main_while0b_v34 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_cst : Ref sig .tc := ⟨.hbm, 77, rfl⟩
abbrev main_while0b_v40 : Ref sig .tc := ⟨.hbm, 78, rfl⟩
abbrev main_while0b_v41 : Ref sig .tc := ⟨.hbm, 79, rfl⟩
abbrev main_while0b_cst_33 : Ref sig .tc := ⟨.hbm, 80, rfl⟩
abbrev main_while0b_v42 : Ref sig .tc := ⟨.hbm, 81, rfl⟩
abbrev main_while0b_v43 : Ref sig .tc := ⟨.hbm, 82, rfl⟩
abbrev main_while0b_c_34 : Ref sig .tc := ⟨.hbm, 83, rfl⟩
abbrev main_while0b_c_35 : Ref sig .tc := ⟨.hbm, 84, rfl⟩
abbrev main_while0b_v44 : Ref sig .tc := ⟨.hbm, 85, rfl⟩
abbrev main_while0b_c_36 : Ref sig .tc := ⟨.hbm, 86, rfl⟩
abbrev main_while0b_c_37 : Ref sig .tc := ⟨.hbm, 87, rfl⟩
abbrev main_while0b_v45 : Ref sig .tc := ⟨.hbm, 88, rfl⟩
abbrev main_while0b_c_38 : Ref sig .tc := ⟨.hbm, 89, rfl⟩
abbrev main_while0b_v46 : Ref sig .tc := ⟨.hbm, 90, rfl⟩
abbrev main_while0b_c_39 : Ref sig .tc := ⟨.hbm, 91, rfl⟩
abbrev main_while0b_c_40 : Ref sig .tc := ⟨.hbm, 92, rfl⟩
abbrev main_while0b_v47 : Ref sig .tc := ⟨.hbm, 93, rfl⟩
abbrev main_while0b_c_41 : Ref sig .tc := ⟨.hbm, 94, rfl⟩
abbrev main_while0b_c_42 : Ref sig .tc := ⟨.hbm, 95, rfl⟩
abbrev main_while0b_v48 : Ref sig .tc := ⟨.hbm, 96, rfl⟩
abbrev main_while0b_c_43 : Ref sig .tc := ⟨.hbm, 97, rfl⟩
abbrev main_while0b_v49 : Ref sig .tc := ⟨.hbm, 98, rfl⟩
abbrev main_while0b_c_44 : Ref sig .tc := ⟨.hbm, 99, rfl⟩
abbrev main_while0b_v50 : Ref sig .tc := ⟨.hbm, 100, rfl⟩
abbrev main_while0b_c_45 : Ref sig .tc := ⟨.hbm, 101, rfl⟩
abbrev main_while0b_v51 : Ref sig .tc := ⟨.hbm, 102, rfl⟩
abbrev main_while0b_v52 : Ref sig .tc := ⟨.hbm, 103, rfl⟩
abbrev main_while0b_c_46 : Ref sig .tc := ⟨.hbm, 104, rfl⟩
abbrev main_while0b_c_47 : Ref sig .tc := ⟨.hbm, 105, rfl⟩
abbrev main_while0b_v53 : Ref sig .tc := ⟨.hbm, 106, rfl⟩
abbrev main_while0b_c_48 : Ref sig .tc := ⟨.hbm, 107, rfl⟩
abbrev main_while0b_c_49 : Ref sig .tc := ⟨.hbm, 108, rfl⟩
abbrev main_while0b_v54 : Ref sig .tc := ⟨.hbm, 109, rfl⟩
abbrev main_while0b_c_50 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_c_51 : Ref sig .tc := ⟨.hbm, 117, rfl⟩
abbrev main_while0b_v61 : Ref sig .tc := ⟨.hbm, 118, rfl⟩
abbrev main_v5 : Ref sig .tc := ⟨.hbm, 119, rfl⟩
abbrev main_v6 : Ref sig .tc := ⟨.hbm, 120, rfl⟩
abbrev main_v7 : Ref sig .tc := ⟨.hbm, 121, rfl⟩
abbrev main_v8 : Ref sig .tc := ⟨.hbm, 122, rfl⟩

abbrev nD : Nat := 1
abbrev τ : Topo := Topo.v7x

variable {F : FTy → Type} [FloatOps F]

abbrev main_while0_count : Scf.Loop 32 := ⟨0#32, 127#32, 1#32⟩
-- ==== Sel4.lean ====
abbrev S32x256x64 : Shape := ⟨3, ![32, 256, 64]⟩
abbrev S32x1x128 : Shape := ⟨3, ![32, 1, 128]⟩
abbrev S32x128x64 : Shape := ⟨3, ![32, 128, 64]⟩
abbrev S1x256x64 : Shape := ⟨3, ![1, 256, 64]⟩
abbrev S1x1x128 : Shape := ⟨3, ![1, 1, 128]⟩
abbrev S1x128x64 : Shape := ⟨3, ![1, 128, 64]⟩
abbrev S1x128 : Shape := ⟨2, ![1, 128]⟩
abbrev S128x1 : Shape := ⟨2, ![128, 1]⟩
abbrev S128x64 : Shape := ⟨2, ![128, 64]⟩

abbrev nBuf : Space → Nat
  | .hbm => 5
  | .vmem => 10
  | .smem => 0
  | _ => 0

abbrev bufTy : (tb : Table) → Fin (tcTables nBuf tb) → BufTy
  | .hbm, ⟨0, _⟩ => ⟨S32x256x64, .f32⟩
  | .hbm, ⟨1, _⟩ => ⟨S32x256x64, .f32⟩
  | .hbm, ⟨2, _⟩ => ⟨S32x1x128, .f32⟩
  | .hbm, ⟨3, _⟩ => ⟨S32x128x64, .f32⟩
  | .hbm, ⟨4, _⟩ => ⟨S32x128x64, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x1x128, .f32⟩
  | .local _ .vmem, ⟨5, _⟩ => ⟨S1x1x128, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | _, _ => ⟨S32x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Sel4Ideal.lean ====
abbrev S32x256x64 : Shape := ⟨3, ![32, 256, 64]⟩
abbrev S32x1x128 : Shape := ⟨3, ![32, 1, 128]⟩
abbrev S32x128x64 : Shape := ⟨3, ![32, 128, 64]⟩
abbrev S1x256x64 : Shape := ⟨3, ![1, 256, 64]⟩
abbrev S1x1x128 : Shape := ⟨3, ![1, 1, 128]⟩
abbrev S1x128x64 : Shape := ⟨3, ![1, 128, 64]⟩
abbrev S1x128 : Shape := ⟨2, ![1, 128]⟩
abbrev S128x1 : Shape := ⟨2, ![128, 1]⟩
abbrev S128x64 : Shape := ⟨2, ![128, 64]⟩

abbrev nBuf : Space → Nat
  | .hbm => 5
  | .vmem => 10
  | .smem => 0
  | _ => 0

abbrev bufTy : (tb : Table) → Fin (tcTables nBuf tb) → BufTy
  | .hbm, ⟨0, _⟩ => ⟨S32x256x64, .f32⟩
  | .hbm, ⟨1, _⟩ => ⟨S32x256x64, .f32⟩
  | .hbm, ⟨2, _⟩ => ⟨S32x1x128, .f32⟩
  | .hbm, ⟨3, _⟩ => ⟨S32x128x64, .f32⟩
  | .hbm, ⟨4, _⟩ => ⟨S32x128x64, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x1x128, .f32⟩
  | .local _ .vmem, ⟨5, _⟩ => ⟨S1x1x128, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | _, _ => ⟨S32x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefSel4Ideal.lean ====
abbrev S32x256x64 : Shape := ⟨3, ![32, 256, 64]⟩
abbrev S32x1x128 : Shape := ⟨3, ![32, 1, 128]⟩
abbrev S32x1x256x64 : Shape := ⟨4, ![32, 1, 256, 64]⟩
abbrev S_ : Shape := ⟨0, ![]⟩
abbrev S128 : Shape := ⟨1, ![128]⟩
abbrev S1x1x128 : Shape := ⟨3, ![1, 1, 128]⟩
abbrev S32x1x128x1 : Shape := ⟨4, ![32, 1, 128, 1]⟩
abbrev S32x1x128x64 : Shape := ⟨4, ![32, 1, 128, 64]⟩
abbrev S32x128x64x1 : Shape := ⟨4, ![32, 128, 64, 1]⟩
abbrev S1 : Shape := ⟨1, ![1]⟩
abbrev S1x1x1x1 : Shape := ⟨4, ![1, 1, 1, 1]⟩
abbrev S32x128x64 : Shape := ⟨3, ![32, 128, 64]⟩

abbrev nBuf : Space → Nat
  | .hbm => 70
  | .vmem => 0
  | .smem => 0
  | _ => 0

abbrev bufTy : (tb : Table) → Fin (tcTables nBuf tb) → BufTy
  | .hbm, ⟨0, _⟩ => ⟨S32x256x64, .f32⟩
  | .hbm, ⟨1, _⟩ => ⟨S32x256x64, .f32⟩
  | .hbm, ⟨2, _⟩ => ⟨S32x1x128, .f32⟩
  | .hbm, ⟨3, _⟩ => ⟨S32x1x256x64, .f32⟩
  | .hbm, ⟨4, _⟩ => ⟨S32x1x256x64, .f32⟩
  | .hbm, ⟨5, _⟩ => ⟨S_, .f32⟩
  | .hbm, ⟨6, _⟩ => ⟨S32x1x128, .f32⟩
  | .hbm, ⟨7, _⟩ => ⟨S32x1x128, .i1⟩
  | .hbm, ⟨8, _⟩ => ⟨S32x1x128, .i32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S1x1x128, .i32⟩
  | .hbm, ⟨17, _⟩ => ⟨S32x1x128, .i32⟩
  | .hbm, ⟨18, _⟩ => ⟨S32x1x128, .i32⟩
  | .hbm, ⟨19, _⟩ => ⟨S32x1x128x1, .i32⟩
  | .hbm, ⟨20, _⟩ => ⟨S32x1x128x64, .i32⟩
  | .hbm, ⟨21, _⟩ => ⟨S_, .i32⟩
  | .hbm, ⟨22, _⟩ => ⟨S32x1x128x64, .i32⟩
  | .hbm, ⟨23, _⟩ => ⟨S32x1x128x64, .i1⟩
  | .hbm, ⟨24, _⟩ => ⟨S_, .i32⟩
  | .hbm, ⟨25, _⟩ => ⟨S32x1x128x64, .i32⟩
  | .hbm, ⟨26, _⟩ => ⟨S32x1x128x64, .i32⟩
  | .hbm, ⟨27, _⟩ => ⟨S32x1x128x64, .i32⟩
  | .hbm, ⟨28, _⟩ => ⟨S32x128x64x1, .i32⟩
  | .hbm, ⟨29, _⟩ => ⟨S1, .i32⟩
  | .hbm, ⟨30, _⟩ => ⟨S_, .i32⟩
  | .hbm, ⟨31, _⟩ => ⟨S32x128x64x1, .i32⟩
  | .hbm, ⟨32, _⟩ => ⟨S32x128x64x1, .i1⟩
  | .hbm, ⟨33, _⟩ => ⟨S1x1x1x1, .i32⟩
  | .hbm, ⟨34, _⟩ => ⟨S32x128x64x1, .i32⟩
  | .hbm, ⟨35, _⟩ => ⟨S32x128x64x1, .i1⟩
  | .hbm, ⟨36, _⟩ => ⟨S32x128x64x1, .i1⟩
  | .hbm, ⟨37, _⟩ => ⟨S_, .i1⟩
  | .hbm, ⟨38, _⟩ => ⟨S32x128x64, .i1⟩
  | .hbm, ⟨39, _⟩ => ⟨S32x1x128x64, .f32⟩
  | .hbm, ⟨40, _⟩ => ⟨S32x1x128x64, .i1⟩
  | .hbm, ⟨41, _⟩ => ⟨S_, .f32⟩
  | .hbm, ⟨42, _⟩ => ⟨S32x1x128x64, .f32⟩
  | .hbm, ⟨43, _⟩ => ⟨S32x1x128x64, .f32⟩
  | .hbm, ⟨44, _⟩ => ⟨S32x1x128x64, .i32⟩
  | .hbm, ⟨45, _⟩ => ⟨S_, .i32⟩
  | .hbm, ⟨46, _⟩ => ⟨S32x1x128x64, .i32⟩
  | .hbm, ⟨47, _⟩ => ⟨S32x1x128x64, .i1⟩
  | .hbm, ⟨48, _⟩ => ⟨S_, .i32⟩
  | .hbm, ⟨49, _⟩ => ⟨S32x1x128x64, .i32⟩
  | .hbm, ⟨50, _⟩ => ⟨S32x1x128x64, .i32⟩
  | .hbm, ⟨51, _⟩ => ⟨S32x1x128x64, .i32⟩
  | .hbm, ⟨52, _⟩ => ⟨S32x128x64x1, .i32⟩
  | .hbm, ⟨53, _⟩ => ⟨S1, .i32⟩
  | .hbm, ⟨54, _⟩ => ⟨S_, .i32⟩
  | .hbm, ⟨55, _⟩ => ⟨S32x128x64x1, .i32⟩
  | .hbm, ⟨56, _⟩ => ⟨S32x128x64x1, .i1⟩
  | .hbm, ⟨57, _⟩ => ⟨S1x1x1x1, .i32⟩
  | .hbm, ⟨58, _⟩ => ⟨S32x128x64x1, .i32⟩
  | .hbm, ⟨59, _⟩ => ⟨S32x128x64x1, .i1⟩
  | .hbm, ⟨60, _⟩ => ⟨S32x128x64x1, .i1⟩
  | .hbm, ⟨61, _⟩ => ⟨S_, .i1⟩
  | .hbm, ⟨62, _⟩ => ⟨S32x128x64, .i1⟩
  | .hbm, ⟨63, _⟩ => ⟨S32x1x128x64, .f32⟩
  | .hbm, ⟨64, _⟩ => ⟨S32x1x128x64, .i1⟩
  | .hbm, ⟨65, _⟩ => ⟨S_, .f32⟩
  | .hbm, ⟨66, _⟩ => ⟨S32x1x128x64, .f32⟩
  | .hbm, ⟨67, _⟩ => ⟨S32x1x128x64, .f32⟩
  | .hbm, ⟨68, _⟩ => ⟨S32x128x64, .f32⟩
  | .hbm, ⟨69, _⟩ => ⟨S32x128x64, .f32⟩
  | _, _ => ⟨S32x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v15 : Ref sig .tc := ⟨.hbm, 43, rfl⟩
abbrev main_v16 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩

abbrev nD : Nat := 1
abbrev τ : Topo := Topo.v7x

variable {F : FTy → Type} [FloatOps F]
-- ==== Kd3.lean ====
abbrev S32x512x64 : Shape := ⟨3, ![32, 512, 64]⟩
abbrev S32x4x64 : Shape := ⟨3, ![32, 4, 64]⟩
abbrev S32x1x1 : Shape := ⟨3, ![32, 1, 1]⟩
abbrev S32x4x64x64 : Shape := ⟨4, ![32, 4, 64, 64]⟩
abbrev S1x512x64 : Shape := ⟨3, ![1, 512, 64]⟩
abbrev S1x4x64 : Shape := ⟨3, ![1, 4, 64]⟩
abbrev S1x1x1 : Shape := ⟨3, ![1, 1, 1]⟩
abbrev S1x4x64x64 : Shape := ⟨4, ![1, 4, 64, 64]⟩
abbrev S1x128x128 : Shape := ⟨3, ![1, 128, 128]⟩
abbrev S128x128 : Shape := ⟨2, ![128, 128]⟩
abbrev S4x64 : Shape := ⟨2, ![4, 64]⟩
abbrev S64x64 : Shape := ⟨2, ![64, 64]⟩
abbrev S1x128x64 : Shape := ⟨3, ![1, 128, 64]⟩
abbrev S128x64 : Shape := ⟨2, ![128, 64]⟩
abbrev S1x64x128 : Shape := ⟨3, ![1, 64, 128]⟩
abbrev S64x128 : Shape := ⟨2, ![64, 128]⟩
abbrev S64 : Shape := ⟨1, ![64]⟩
abbrev S1x64 : Shape := ⟨2, ![1, 64]⟩
abbrev S1x64x64 : Shape := ⟨3, ![1, 64, 64]⟩
abbrev S1x1x64x64 : Shape := ⟨4, ![1, 1, 64, 64]⟩
abbrev S4x1 : Shape := ⟨2, ![4, 1]⟩
abbrev S4x63 : Shape := ⟨2, ![4, 63]⟩
abbrev S4x2 : Shape := ⟨2, ![4, 2]⟩
abbrev S4x62 : Shape := ⟨2, ![4, 62]⟩
abbrev S4x4 : Shape := ⟨2, ![4, 4]⟩
abbrev S4x60 : Shape := ⟨2, ![4, 60]⟩
abbrev S4x8 : Shape := ⟨2, ![4, 8]⟩
abbrev S4x56 : Shape := ⟨2, ![4, 56]⟩
abbrev S4x16 : Shape := ⟨2, ![4, 16]⟩
abbrev S4x48 : Shape := ⟨2, ![4, 48]⟩
abbrev S4x32 : Shape := ⟨2, ![4, 32]⟩

abbrev nBuf : Space → Nat
  | .hbm => 8
  | .vmem => 18
  | .smem => 0
  | _ => 0

abbrev bufTy : (tb : Table) → Fin (tcTables nBuf tb) → BufTy
  | .hbm, ⟨0, _⟩ => ⟨S32x512x64, .f32⟩
  | .hbm, ⟨1, _⟩ => ⟨S32x512x64, .f32⟩
  | .hbm, ⟨2, _⟩ => ⟨S32x4x64, .f32⟩
  | .hbm, ⟨3, _⟩ => ⟨S32x1x1, .f32⟩
  | .hbm, ⟨4, _⟩ => ⟨S32x1x1, .f32⟩
  | .hbm, ⟨5, _⟩ => ⟨S32x4x64x64, .f32⟩
  | .hbm, ⟨6, _⟩ => ⟨S32x4x64, .f32⟩
  | .hbm, ⟨7, _⟩ => ⟨S32x4x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x4x64, .f32⟩
  | .local _ .vmem, ⟨5, _⟩ => ⟨S1x4x64, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x4x64x64, .f32⟩
  | .local _ .vmem, ⟨11, _⟩ => ⟨S1x4x64x64, .f32⟩
  | .local _ .vmem, ⟨12, _⟩ => ⟨S1x4x64, .f32⟩
  | .local _ .vmem, ⟨13, _⟩ => ⟨S1x4x64, .f32⟩
  | .local _ .vmem, ⟨14, _⟩ => ⟨S1x4x64, .f32⟩
  | .local _ .vmem, ⟨15, _⟩ => ⟨S1x4x64, .f32⟩
  | .local _ .vmem, ⟨16, _⟩ => ⟨S1x128x128, .f32⟩
  | .local _ .vmem, ⟨17, _⟩ => ⟨S128x128, .f32⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kd3Ideal.lean ====
abbrev S32x512x64 : Shape := ⟨3, ![32, 512, 64]⟩
abbrev S32x4x64 : Shape := ⟨3, ![32, 4, 64]⟩
abbrev S32x1x1 : Shape := ⟨3, ![32, 1, 1]⟩
abbrev S32x4x64x64 : Shape := ⟨4, ![32, 4, 64, 64]⟩
abbrev S1x512x64 : Shape := ⟨3, ![1, 512, 64]⟩
abbrev S1x4x64 : Shape := ⟨3, ![1, 4, 64]⟩
abbrev S1x1x1 : Shape := ⟨3, ![1, 1, 1]⟩
abbrev S1x4x64x64 : Shape := ⟨4, ![1, 4, 64, 64]⟩
abbrev S1x128x128 : Shape := ⟨3, ![1, 128, 128]⟩
abbrev S128x128 : Shape := ⟨2, ![128, 128]⟩
abbrev S4x64 : Shape := ⟨2, ![4, 64]⟩
abbrev S64x64 : Shape := ⟨2, ![64, 64]⟩
abbrev S1x128x64 : Shape := ⟨3, ![1, 128, 64]⟩
abbrev S128x64 : Shape := ⟨2, ![128, 64]⟩
abbrev S1x64x128 : Shape := ⟨3, ![1, 64, 128]⟩
abbrev S64x128 : Shape := ⟨2, ![64, 128]⟩
abbrev S64 : Shape := ⟨1, ![64]⟩
abbrev S1x64 : Shape := ⟨2, ![1, 64]⟩
abbrev S1x64x64 : Shape := ⟨3, ![1, 64, 64]⟩
abbrev S1x1x64x64 : Shape := ⟨4, ![1, 1, 64, 64]⟩
abbrev S4x1 : Shape := ⟨2, ![4, 1]⟩
abbrev S4x63 : Shape := ⟨2, ![4, 63]⟩
abbrev S4x2 : Shape := ⟨2, ![4, 2]⟩
abbrev S4x62 : Shape := ⟨2, ![4, 62]⟩
abbrev S4x4 : Shape := ⟨2, ![4, 4]⟩
abbrev S4x60 : Shape := ⟨2, ![4, 60]⟩
abbrev S4x8 : Shape := ⟨2, ![4, 8]⟩
abbrev S4x56 : Shape := ⟨2, ![4, 56]⟩
abbrev S4x16 : Shape := ⟨2, ![4, 16]⟩
abbrev S4x48 : Shape := ⟨2, ![4, 48]⟩
abbrev S4x32 : Shape := ⟨2, ![4, 32]⟩

abbrev nBuf : Space → Nat
  | .hbm => 8
  | .vmem => 18
  | .smem => 0
  | _ => 0

abbrev bufTy : (tb : Table) → Fin (tcTables nBuf tb) → BufTy
  | .hbm, ⟨0, _⟩ => ⟨S32x512x64, .f32⟩
  | .hbm, ⟨1, _⟩ => ⟨S32x512x64, .f32⟩
  | .hbm, ⟨2, _⟩ => ⟨S32x4x64, .f32⟩
  | .hbm, ⟨3, _⟩ => ⟨S32x1x1, .f32⟩
  | .hbm, ⟨4, _⟩ => ⟨S32x1x1, .f32⟩
  | .hbm, ⟨5, _⟩ => ⟨S32x4x64x64, .f32⟩
  | .hbm, ⟨6, _⟩ => ⟨S32x4x64, .f32⟩
  | .hbm, ⟨7, _⟩ => ⟨S32x4x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x4x64, .f32⟩
  | .local _ .vmem, ⟨5, _⟩ => ⟨S1x4x64, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x4x64x64, .f32⟩
  | .local _ .vmem, ⟨11, _⟩ => ⟨S1x4x64x64, .f32⟩
  | .local _ .vmem, ⟨12, _⟩ => ⟨S1x4x64, .f32⟩
  | .local _ .vmem, ⟨13, _⟩ => ⟨S1x4x64, .f32⟩
  | .local _ .vmem, ⟨14, _⟩ => ⟨S1x4x64, .f32⟩
  | .local _ .vmem, ⟨15, _⟩ => ⟨S1x4x64, .f32⟩
  | .local _ .vmem, ⟨16, _⟩ => ⟨S1x128x128, .f32⟩
  | .local _ .vmem, ⟨17, _⟩ => ⟨S128x128, .f32⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefKd3Ideal.lean ====
abbrev S32x512x64 : Shape := ⟨3, ![32, 512, 64]⟩
abbrev S32x4x64 : Shape := ⟨3, ![32, 4, 64]⟩
abbrev S32x1x1 : Shape := ⟨3, ![32, 1, 1]⟩
abbrev S32x4x128x64 : Shape := ⟨4, ![32, 4, 128, 64]⟩
abbrev S32x1x1x1 : Shape := ⟨4, ![32, 1, 1, 1]⟩
abbrev S32x4x128x128 : Shape := ⟨4, ![32, 4, 128, 128]⟩
abbrev S32x4x64x64 : Shape := ⟨4, ![32, 4, 64, 64]⟩
abbrev S32x4x1x64 : Shape := ⟨4, ![32, 4, 1, 64]⟩
abbrev S64 : Shape := ⟨1, ![64]⟩
abbrev S_ : Shape := ⟨0, ![]⟩
abbrev S64x1 : Shape := ⟨2, ![64, 1]⟩
abbrev S64x2 : Shape := ⟨2, ![64, 2]⟩

abbrev nBuf : Space → Nat
  | .hbm => 51
  | .vmem => 0
  | .smem => 0
  | _ => 0

abbrev bufTy : (tb : Table) → Fin (tcTables nBuf tb) → BufTy
  | .hbm, ⟨0, _⟩ => ⟨S32x512x64, .f32⟩
  | .hbm, ⟨1, _⟩ => ⟨S32x512x64, .f32⟩
  | .hbm, ⟨2, _⟩ => ⟨S32x4x64, .f32⟩
  | .hbm, ⟨3, _⟩ => ⟨S32x1x1, .f32⟩
  | .hbm, ⟨4, _⟩ => ⟨S32x1x1, .f32⟩
  | .hbm, ⟨5, _⟩ => ⟨S32x4x128x64, .f32⟩
  | .hbm, ⟨6, _⟩ => ⟨S32x4x128x64, .f32⟩
  | .hbm, ⟨7, _⟩ => ⟨S32x1x1x1, .f32⟩
  | .hbm, ⟨8, _⟩ => ⟨S32x1x1x1, .f32⟩
  | .hbm, ⟨9, _⟩ => ⟨S32x4x128x128, .f32⟩
  | .hbm, ⟨10, _⟩ => ⟨S32x4x128x128, .f32⟩
  | .hbm, ⟨11, _⟩ => ⟨S32x4x128x128, .f32⟩
  | .hbm, ⟨12, _⟩ => ⟨S32x4x128x128, .f32⟩
  | .hbm, ⟨13, _⟩ => ⟨S32x4x128x128, .f32⟩
  | .hbm, ⟨14, _⟩ => ⟨S32x4x128x128, .f32⟩
  | .hbm, ⟨15, _⟩ => ⟨S32x4x128x128, .f32⟩
  | .hbm, ⟨16, _⟩ => ⟨S32x4x128x128, .f32⟩
  | .hbm, ⟨17, _⟩ => ⟨S32x4x128x64, .f32⟩
  | .hbm, ⟨18, _⟩ => ⟨S32x4x128x64, .f32⟩
  | .hbm, ⟨19, _⟩ => ⟨S32x4x128x64, .f32⟩
  | .hbm, ⟨20, _⟩ => ⟨S32x4x64x64, .f32⟩
  | .hbm, ⟨21, _⟩ => ⟨S32x4x64x64, .f32⟩
  | .hbm, ⟨22, _⟩ => ⟨S32x4x64x64, .f32⟩
  | .hbm, ⟨23, _⟩ => ⟨S32x4x1x64, .f32⟩
  | .hbm, ⟨24, _⟩ => ⟨S32x4x64, .f32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S64, .i32⟩
  | .hbm, ⟨34, _⟩ => ⟨S_, .i32⟩
  | .hbm, ⟨35, _⟩ => ⟨S64, .i32⟩
  | .hbm, ⟨36, _⟩ => ⟨S64, .i1⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S64x1, .i32⟩
  | .hbm, ⟨42, _⟩ => ⟨S64x1, .i32⟩
  | .hbm, ⟨43, _⟩ => ⟨S64x2, .i32⟩
  | .hbm, ⟨44, _⟩ => ⟨S32x4x64, .f32⟩
  | .hbm, ⟨45, _⟩ => ⟨S32x4x64, .f32⟩
  | .hbm, ⟨46, _⟩ => ⟨S32x4x64, .f32⟩
  | .hbm, ⟨47, _⟩ => ⟨S_, .f32⟩
  | .hbm, ⟨48, _⟩ => ⟨S_, .f32⟩
  | .hbm, ⟨49, _⟩ => ⟨S32x4x64, .f32⟩
  | .hbm, ⟨50, _⟩ => ⟨S32x4x64, .f32⟩
  | _, _ => ⟨S32x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_c_1 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call1_cst : Ref sig .tc := ⟨.hbm, 47, rfl⟩
abbrev main_call1_v0 : Ref sig .tc := ⟨.hbm, 48, rfl⟩
abbrev main_v23 : Ref sig .tc := ⟨.hbm, 49, rfl⟩
abbrev main_v24 : Ref sig .tc := ⟨.hbm, 50, rfl⟩

abbrev nD : Nat := 1
abbrev τ : Topo := Topo.v7x

variable {F : FTy → Type} [FloatOps F]
-- ==== Scan3.lean ====
abbrev S32x4x64x64 : Shape := ⟨4, ![32, 4, 64, 64]⟩
abbrev S32x4x64 : Shape := ⟨3, ![32, 4, 64]⟩
abbrev S1 : Shape := ⟨1, ![1]⟩
abbrev S1x1x1 : Shape := ⟨3, ![1, 1, 1]⟩
abbrev S128x64 : Shape := ⟨2, ![128, 64]⟩
abbrev S128 : Shape := ⟨1, ![128]⟩
abbrev S128x1 : Shape := ⟨2, ![128, 1]⟩
abbrev S32x4x1x64 : Shape := ⟨4, ![32, 4, 1, 64]⟩

abbrev nBuf : Space → Nat
  | .hbm => 7
  | .vmem => 5
  | .smem => 0
  | _ => 0

abbrev bufTy : (tb : Table) → Fin (tcTables nBuf tb) → BufTy
  | .hbm, ⟨0, _⟩ => ⟨S32x4x64x64, .f32⟩
  | .hbm, ⟨1, _⟩ => ⟨S32x4x64, .f32⟩
  | .hbm, ⟨2, _⟩ => ⟨S32x4x64, .f32⟩
  | .hbm, ⟨3, _⟩ => ⟨S1, .i1⟩
  | .hbm, ⟨4, _⟩ => ⟨S1, .f32⟩
  | .hbm, ⟨5, _⟩ => ⟨S1x1x1, .f32⟩
  | .hbm, ⟨6, _⟩ => ⟨S32x4x64, .f32⟩
  | .local _ .vmem, ⟨0, _⟩ => ⟨S32x4x64x64, .f32⟩
  | .local _ .vmem, ⟨1, _⟩ => ⟨S32x4x64, .f32⟩
  | .local _ .vmem, ⟨2, _⟩ => ⟨S32x4x64, .f32⟩
  | .local _ .vmem, ⟨3, _⟩ => ⟨S1x1x1, .f32⟩
  | .local _ .vmem, ⟨4, _⟩ => ⟨S32x4x64, .f32⟩
  | _, _ => ⟨S32x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c1_i32 : BitVec 32 := 1#32
  let c63_i32 : BitVec 32 := 63#32
  let v12 : BitVec 32 := Scalar.addi c1_i32 c63_i32
  let c1_i32_8 : BitVec 32 := 1#32
  ⟨c1_i32, v12, c1_i32_8⟩
def k0_off1 (k0_t1 : Fin k0_t1_loop.trips) : Fin 4 → Nat :=
  let c0_17 : Index := 0#32
  let c0_18 : Index := 0#32
  let c1_i32 : BitVec 32 := 1#32
  let c1_i32_8 : BitVec 32 := 1#32
  let arg6 : BitVec 32 := Scf.iv c1_i32 c1_i32_8 k0_t1
  let v39 : Index := Scalar.indexCast arg6
  let c0_19 : Index := 0#32
  ![0, 0, v39.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x4x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Scan3Ideal.lean ====
abbrev S32x4x64x64 : Shape := ⟨4, ![32, 4, 64, 64]⟩
abbrev S32x4x64 : Shape := ⟨3, ![32, 4, 64]⟩
abbrev S1 : Shape := ⟨1, ![1]⟩
abbrev S1x1x1 : Shape := ⟨3, ![1, 1, 1]⟩
abbrev S128x64 : Shape := ⟨2, ![128, 64]⟩
abbrev S128 : Shape := ⟨1, ![128]⟩
abbrev S128x1 : Shape := ⟨2, ![128, 1]⟩
abbrev S32x4x1x64 : Shape := ⟨4, ![32, 4, 1, 64]⟩

abbrev nBuf : Space → Nat
  | .hbm => 7
  | .vmem => 5
  | .smem => 0
  | _ => 0

abbrev bufTy : (tb : Table) → Fin (tcTables nBuf tb) → BufTy
  | .hbm, ⟨0, _⟩ => ⟨S32x4x64x64, .f32⟩
  | .hbm, ⟨1, _⟩ => ⟨S32x4x64, .f32⟩
  | .hbm, ⟨2, _⟩ => ⟨S32x4x64, .f32⟩
  | .hbm, ⟨3, _⟩ => ⟨S1, .i1⟩
  | .hbm, ⟨4, _⟩ => ⟨S1, .f32⟩
  | .hbm, ⟨5, _⟩ => ⟨S1x1x1, .f32⟩
  | .hbm, ⟨6, _⟩ => ⟨S32x4x64, .f32⟩
  | .local _ .vmem, ⟨0, _⟩ => ⟨S32x4x64x64, .f32⟩
  | .local _ .vmem, ⟨1, _⟩ => ⟨S32x4x64, .f32⟩
  | .local _ .vmem, ⟨2, _⟩ => ⟨S32x4x64, .f32⟩
  | .local _ .vmem, ⟨3, _⟩ => ⟨S1x1x1, .f32⟩
  | .local _ .vmem, ⟨4, _⟩ => ⟨S32x4x64, .f32⟩
  | _, _ => ⟨S32x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c1_i32 : BitVec 32 := 1#32
  let c63_i32 : BitVec 32 := 63#32
  let v12 : BitVec 32 := Scalar.addi c1_i32 c63_i32
  let c1_i32_8 : BitVec 32 := 1#32
  ⟨c1_i32, v12, c1_i32_8⟩
def k0_off1 (k0_t1 : Fin k0_t1_loop.trips) : Fin 4 → Nat :=
  let c0_17 : Index := 0#32
  let c0_18 : Index := 0#32
  let c1_i32 : BitVec 32 := 1#32
  let c1_i32_8 : BitVec 32 := 1#32
  let arg6 : BitVec 32 := Scf.iv c1_i32 c1_i32_8 k0_t1
  let v39 : Index := Scalar.indexCast arg6
  let c0_19 : Index := 0#32
  ![0, 0, v39.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x4x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefScan3Ideal.lean ====
abbrev S32x4x64x64 : Shape := ⟨4, ![32, 4, 64, 64]⟩
abbrev S32x4x64 : Shape := ⟨3, ![32, 4, 64]⟩
abbrev S1 : Shape := ⟨1, ![1]⟩
abbrev S_ : Shape := ⟨0, ![]⟩
abbrev S63 : Shape := ⟨1, ![63]⟩
abbrev S32x4x1 : Shape := ⟨3, ![32, 4, 1]⟩
abbrev S32x4 : Shape := ⟨2, ![32, 4]⟩
abbrev S32x4x1x64 : Shape := ⟨4, ![32, 4, 1, 64]⟩
abbrev S1x1x1 : Shape := ⟨3, ![1, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S32x4x64x64, .f32⟩
  | .hbm, ⟨1, _⟩ => ⟨S32x4x64, .f32⟩
  | .hbm, ⟨2, _⟩ => ⟨S32x4x64, .f32⟩
  | .hbm, ⟨3, _⟩ => ⟨S1, .i1⟩
  | .hbm, ⟨4, _⟩ => ⟨S_, .i1⟩
  | .hbm, ⟨5, _⟩ => ⟨S32x4x64, .i1⟩
  | .hbm, ⟨6, _⟩ => ⟨S63, .i32⟩
  | .hbm, ⟨7, _⟩ => ⟨S_, .i32⟩
  | .hbm, ⟨8, _⟩ => ⟨S63, .i32⟩
  | .hbm, ⟨9, _⟩ => ⟨S63, .i32⟩
  | .hbm, ⟨10, _⟩ => ⟨S_, .i32⟩
  | .hbm, ⟨11, _⟩ => ⟨S63, .i32⟩
  | .hbm, ⟨12, _⟩ => ⟨S32x4x64, .f32⟩
  | .hbm, ⟨13, _⟩ => ⟨S32x4x64x64, .f32⟩
  | .hbm, ⟨14, _⟩ => ⟨S_, .i32⟩
  | .hbm, ⟨15, _⟩ => ⟨S32x4x64, .f32⟩
  | .hbm, ⟨16, _⟩ => ⟨S32x4x64, .i1⟩
  | .hbm, ⟨17, _⟩ => ⟨S_, .i32⟩
  | .hbm, ⟨18, _⟩ => ⟨S_, .i1⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S32x4x1, .f32⟩
  | .hbm, ⟨43, _⟩ => ⟨S32x4, .f32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S32x4x1, .f32⟩
  | .hbm, ⟨66, _⟩ => ⟨S32x4, .f32⟩
  | .hbm, ⟨67, _⟩ => ⟨S32x4, .i1⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1, .i32⟩
  | .hbm, ⟨74, _⟩ => ⟨S32x4x64, .i1⟩
  | .hbm, ⟨75, _⟩ => ⟨S32x4x1, .i1⟩
  | .hbm, ⟨76, _⟩ => ⟨S32x4x1, .f32⟩
  | .hbm, ⟨77, _⟩ => ⟨S_, .f32⟩
  | .hbm, ⟨78, _⟩ => ⟨S32x4x1, .f32⟩
  | .hbm, ⟨79, _⟩ => ⟨S32x4x1, .f32⟩
  | .hbm, ⟨80, _⟩ => ⟨S_, .f32⟩
  | .hbm, ⟨81, _⟩ => ⟨S32x4x1, .f32⟩
  | .hbm, ⟨82, _⟩ => ⟨S32x4x1, .f32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i1⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S32x4x1x64, .f32⟩
  | .hbm, ⟨113, _⟩ => ⟨S32x4x64, .f32⟩
  | .hbm, ⟨114, _⟩ => ⟨S32x4x64, .f32⟩
  | .hbm, ⟨115, _⟩ => ⟨S32x4x64, .f32⟩
  | .hbm, ⟨116, _⟩ => ⟨S32x4x64, .f32⟩
  | .hbm, ⟨117, _⟩ => ⟨S_, .i32⟩
  | .hbm, ⟨118, _⟩ => ⟨S_, .i32⟩
  | .hbm, ⟨119, _⟩ => ⟨S1x1x1, .i1⟩
  | .hbm, ⟨120, _⟩ => ⟨S32x4x64, .i1⟩
  | .hbm, ⟨121, _⟩ => ⟨S32x4x64, .i1⟩
  | .hbm, ⟨122, _⟩ => ⟨S32x4x64, .f32⟩
  | _, _ => ⟨S32x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_while0c_c_7 : Ref sig .tc := ⟨.hbm, 17, rfl⟩
abbrev main_while0c_v9 : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_c_7 : Ref sig .tc := ⟨.hbm, 21, rfl⟩
abbrev main_while0b_c_8 : Ref sig .tc := ⟨.hbm, 22, rfl⟩
abbrev main_while0b_v10 : Ref sig .tc := ⟨.hbm, 23, rfl⟩
abbrev main_while0b_c_9 : Ref sig .tc := ⟨.hbm, 24, rfl⟩
abbrev main_while0b_c_10 : Ref sig .tc := ⟨.hbm, 25, rfl⟩
abbrev main_while0b_v11 : Ref sig .tc := ⟨.hbm, 26, rfl⟩
abbrev main_while0b_c_11 : Ref sig .tc := ⟨.hbm, 27, rfl⟩
abbrev main_while0b_v12 : Ref sig .tc := ⟨.hbm, 28, rfl⟩
abbrev main_while0b_c_12 : Ref sig .tc := ⟨.hbm, 29, rfl⟩
abbrev main_while0b_c_13 : Ref sig .tc := ⟨.hbm, 30, rfl⟩
abbrev main_while0b_v13 : Ref sig .tc := ⟨.hbm, 31, rfl⟩
abbrev main_while0b_c_14 : Ref sig .tc := ⟨.hbm, 32, rfl⟩
abbrev main_while0b_c_15 : Ref sig .tc := ⟨.hbm, 33, rfl⟩
abbrev main_while0b_v14 : Ref sig .tc := ⟨.hbm, 34, rfl⟩
abbrev main_while0b_c_16 : Ref sig .tc := ⟨.hbm, 35, rfl⟩
abbrev main_while0b_v15 : Ref sig .tc := ⟨.hbm, 36, rfl⟩
abbrev main_while0b_c_17 : Ref sig .tc := ⟨.hbm, 37, rfl⟩
abbrev main_while0b_v16 : Ref sig .tc := ⟨.hbm, 38, rfl⟩
abbrev main_while0b_c_18 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_c_19 : Ref sig .tc := ⟨.hbm, 44, rfl⟩
abbrev main_while0b_c_20 : Ref sig .tc := ⟨.hbm, 45, rfl⟩
abbrev main_while0b_v21 : Ref sig .tc := ⟨.hbm, 46, rfl⟩
abbrev main_while0b_c_21 : Ref sig .tc := ⟨.hbm, 47, rfl⟩
abbrev main_while0b_c_22 : Ref sig .tc := ⟨.hbm, 48, rfl⟩
abbrev main_while0b_v22 : Ref sig .tc := ⟨.hbm, 49, rfl⟩
abbrev main_while0b_c_23 : Ref sig .tc := ⟨.hbm, 50, rfl⟩
abbrev main_while0b_v23 : Ref sig .tc := ⟨.hbm, 51, rfl⟩
abbrev main_while0b_c_24 : Ref sig .tc := ⟨.hbm, 52, rfl⟩
abbrev main_while0b_c_25 : Ref sig .tc := ⟨.hbm, 53, rfl⟩
abbrev main_while0b_v24 : Ref sig .tc := ⟨.hbm, 54, rfl⟩
abbrev main_while0b_c_26 : Ref sig .tc := ⟨.hbm, 55, rfl⟩
abbrev main_while0b_c_27 : Ref sig .tc := ⟨.hbm, 56, rfl⟩
abbrev main_while0b_v25 : Ref sig .tc := ⟨.hbm, 57, rfl⟩
abbrev main_while0b_c_28 : Ref sig .tc := ⟨.hbm, 58, rfl⟩
abbrev main_while0b_v26 : Ref sig .tc := ⟨.hbm, 59, rfl⟩
abbrev main_while0b_c_29 : Ref sig .tc := ⟨.hbm, 60, rfl⟩
abbrev main_while0b_v27 : Ref sig .tc := ⟨.hbm, 61, rfl⟩
abbrev main_while0b_c_30 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_c_31 : Ref sig .tc := ⟨.hbm, 68, rfl⟩
abbrev main_while0b_v33 : Ref sig .tc := ⟨.hbm, 69, rfl⟩
abbrev main_while0b_c_32 : Ref sig .tc := ⟨.hbm, 70, rfl⟩
abbrev main_while0b_v34 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_cst : Ref sig .tc := ⟨.hbm, 77, rfl⟩
abbrev main_while0b_v40 : Ref sig .tc := ⟨.hbm, 78, rfl⟩
abbrev main_while0b_v41 : Ref sig .tc := ⟨.hbm, 79, rfl⟩
abbrev main_while0b_cst_33 : Ref sig .tc := ⟨.hbm, 80, rfl⟩
abbrev main_while0b_v42 : Ref sig .tc := ⟨.hbm, 81, rfl⟩
abbrev main_while0b_v43 : Ref sig .tc := ⟨.hbm, 82, rfl⟩
abbrev main_while0b_c_34 : Ref sig .tc := ⟨.hbm, 83, rfl⟩
abbrev main_while0b_c_35 : Ref sig .tc := ⟨.hbm, 84, rfl⟩
abbrev main_while0b_v44 : Ref sig .tc := ⟨.hbm, 85, rfl⟩
abbrev main_while0b_c_36 : Ref sig .tc := ⟨.hbm, 86, rfl⟩
abbrev main_while0b_c_37 : Ref sig .tc := ⟨.hbm, 87, rfl⟩
abbrev main_while0b_v45 : Ref sig .tc := ⟨.hbm, 88, rfl⟩
abbrev main_while0b_c_38 : Ref sig .tc := ⟨.hbm, 89, rfl⟩
abbrev main_while0b_v46 : Ref sig .tc := ⟨.hbm, 90, rfl⟩
abbrev main_while0b_c_39 : Ref sig .tc := ⟨.hbm, 91, rfl⟩
abbrev main_while0b_c_40 : Ref sig .tc := ⟨.hbm, 92, rfl⟩
abbrev main_while0b_v47 : Ref sig .tc := ⟨.hbm, 93, rfl⟩
abbrev main_while0b_c_41 : Ref sig .tc := ⟨.hbm, 94, rfl⟩
abbrev main_while0b_c_42 : Ref sig .tc := ⟨.hbm, 95, rfl⟩
abbrev main_while0b_v48 : Ref sig .tc := ⟨.hbm, 96, rfl⟩
abbrev main_while0b_c_43 : Ref sig .tc := ⟨.hbm, 97, rfl⟩
abbrev main_while0b_v49 : Ref sig .tc := ⟨.hbm, 98, rfl⟩
abbrev main_while0b_c_44 : Ref sig .tc := ⟨.hbm, 99, rfl⟩
abbrev main_while0b_v50 : Ref sig .tc := ⟨.hbm, 100, rfl⟩
abbrev main_while0b_c_45 : Ref sig .tc := ⟨.hbm, 101, rfl⟩
abbrev main_while0b_v51 : Ref sig .tc := ⟨.hbm, 102, rfl⟩
abbrev main_while0b_v52 : Ref sig .tc := ⟨.hbm, 103, rfl⟩
abbrev main_while0b_c_46 : Ref sig .tc := ⟨.hbm, 104, rfl⟩
abbrev main_while0b_c_47 : Ref sig .tc := ⟨.hbm, 105, rfl⟩
abbrev main_while0b_v53 : Ref sig .tc := ⟨.hbm, 106, rfl⟩
abbrev main_while0b_c_48 : Ref sig .tc := ⟨.hbm, 107, rfl⟩
abbrev main_while0b_c_49 : Ref sig .tc := ⟨.hbm, 108, rfl⟩
abbrev main_while0b_v54 : Ref sig .tc := ⟨.hbm, 109, rfl⟩
abbrev main_while0b_c_50 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_c_51 : Ref sig .tc := ⟨.hbm, 117, rfl⟩
abbrev main_while0b_v61 : Ref sig .tc := ⟨.hbm, 118, rfl⟩
abbrev main_v5 : Ref sig .tc := ⟨.hbm, 119, rfl⟩
abbrev main_v6 : Ref sig .tc := ⟨.hbm, 120, rfl⟩
abbrev main_v7 : Ref sig .tc := ⟨.hbm, 121, rfl⟩
abbrev main_v8 : Ref sig .tc := ⟨.hbm, 122, rfl⟩

abbrev nD : Nat := 1
abbrev τ : Topo := Topo.v7x

variable {F : FTy → Type} [FloatOps F]

abbrev main_while0_count : Scf.Loop 32 := ⟨0#32, 63#32, 1#32⟩
-- ==== Sel3.lean ====
abbrev S32x512x64 : Shape := ⟨3, ![32, 512, 64]⟩
abbrev S32x4x64 : Shape := ⟨3, ![32, 4, 64]⟩
abbrev S32x256x64 : Shape := ⟨3, ![32, 256, 64]⟩
abbrev S1x512x64 : Shape := ⟨3, ![1, 512, 64]⟩
abbrev S1x4x64 : Shape := ⟨3, ![1, 4, 64]⟩
abbrev S1x256x64 : Shape := ⟨3, ![1, 256, 64]⟩
abbrev S1x1x64 : Shape := ⟨3, ![1, 1, 64]⟩
abbrev S1x64 : Shape := ⟨2, ![1, 64]⟩
abbrev S64x1 : Shape := ⟨2, ![64, 1]⟩
abbrev S1x64x64 : Shape := ⟨3, ![1, 64, 64]⟩
abbrev S64x64 : Shape := ⟨2, ![64, 64]⟩

abbrev nBuf : Space → Nat
  | .hbm => 5
  | .vmem => 10
  | .smem => 0
  | _ => 0

abbrev bufTy : (tb : Table) → Fin (tcTables nBuf tb) → BufTy
  | .hbm, ⟨0, _⟩ => ⟨S32x512x64, .f32⟩
  | .hbm, ⟨1, _⟩ => ⟨S32x512x64, .f32⟩
  | .hbm, ⟨2, _⟩ => ⟨S32x4x64, .f32⟩
  | .hbm, ⟨3, _⟩ => ⟨S32x256x64, .f32⟩
  | .hbm, ⟨4, _⟩ => ⟨S32x256x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x4x64, .f32⟩
  | .local _ .vmem, ⟨5, _⟩ => ⟨S1x4x64, .f32⟩
  | .local _ .vmem, ⟨6, _⟩ => ⟨S1x256x64, .f32⟩
  | .local _ .vmem, ⟨7, _⟩ => ⟨S1x256x64, .f32⟩
  | .local _ .vmem, ⟨8, _⟩ => ⟨S1x256x64, .f32⟩
  | .local _ .vmem, ⟨9, _⟩ => ⟨S1x256x64, .f32⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Sel3Ideal.lean ====
abbrev S32x512x64 : Shape := ⟨3, ![32, 512, 64]⟩
abbrev S32x4x64 : Shape := ⟨3, ![32, 4, 64]⟩
abbrev S32x256x64 : Shape := ⟨3, ![32, 256, 64]⟩
abbrev S1x512x64 : Shape := ⟨3, ![1, 512, 64]⟩
abbrev S1x4x64 : Shape := ⟨3, ![1, 4, 64]⟩
abbrev S1x256x64 : Shape := ⟨3, ![1, 256, 64]⟩
abbrev S1x1x64 : Shape := ⟨3, ![1, 1, 64]⟩
abbrev S1x64 : Shape := ⟨2, ![1, 64]⟩
abbrev S64x1 : Shape := ⟨2, ![64, 1]⟩
abbrev S1x64x64 : Shape := ⟨3, ![1, 64, 64]⟩
abbrev S64x64 : Shape := ⟨2, ![64, 64]⟩

abbrev nBuf : Space → Nat
  | .hbm => 5
  | .vmem => 10
  | .smem => 0
  | _ => 0

abbrev bufTy : (tb : Table) → Fin (tcTables nBuf tb) → BufTy
  | .hbm, ⟨0, _⟩ => ⟨S32x512x64, .f32⟩
  | .hbm, ⟨1, _⟩ => ⟨S32x512x64, .f32⟩
  | .hbm, ⟨2, _⟩ => ⟨S32x4x64, .f32⟩
  | .hbm, ⟨3, _⟩ => ⟨S32x256x64, .f32⟩
  | .hbm, ⟨4, _⟩ => ⟨S32x256x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x4x64, .f32⟩
  | .local _ .vmem, ⟨5, _⟩ => ⟨S1x4x64, .f32⟩
  | .local _ .vmem, ⟨6, _⟩ => ⟨S1x256x64, .f32⟩
  | .local _ .vmem, ⟨7, _⟩ => ⟨S1x256x64, .f32⟩
  | .local _ .vmem, ⟨8, _⟩ => ⟨S1x256x64, .f32⟩
  | .local _ .vmem, ⟨9, _⟩ => ⟨S1x256x64, .f32⟩
  | _, _ => ⟨S32x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefSel3Ideal.lean ====
abbrev S32x512x64 : Shape := ⟨3, ![32, 512, 64]⟩
abbrev S32x4x64 : Shape := ⟨3, ![32, 4, 64]⟩
abbrev S32x4x128x64 : Shape := ⟨4, ![32, 4, 128, 64]⟩
abbrev S_ : Shape := ⟨0, ![]⟩
abbrev S64 : Shape := ⟨1, ![64]⟩
abbrev S1x1x64 : Shape := ⟨3, ![1, 1, 64]⟩
abbrev S32x4x64x1 : Shape := ⟨4, ![32, 4, 64, 1]⟩
abbrev S32x4x64x64 : Shape := ⟨4, ![32, 4, 64, 64]⟩
abbrev S32x4x64x64x1 : Shape := ⟨5, ![32, 4, 64, 64, 1]⟩
abbrev S1 : Shape := ⟨1, ![1]⟩
abbrev S1x1x1x1x1 : Shape := ⟨5, ![1, 1, 1, 1, 1]⟩
abbrev S32x256x64 : Shape := ⟨3, ![32, 256, 64]⟩

abbrev nBuf : Space → Nat
  | .hbm => 68
  | .vmem => 0
  | .smem => 0
  | _ => 0

abbrev bufTy : (tb : Table) → Fin (tcTables nBuf tb) → BufTy
  | .hbm, ⟨0, _⟩ => ⟨S32x512x64, .f32⟩
  | .hbm, ⟨1, _⟩ => ⟨S32x512x64, .f32⟩
  | .hbm, ⟨2, _⟩ => ⟨S32x4x64, .f32⟩
  | .hbm, ⟨3, _⟩ => ⟨S32x4x128x64, .f32⟩
  | .hbm, ⟨4, _⟩ => ⟨S32x4x128x64, .f32⟩
  | .hbm, ⟨5, _⟩ => ⟨S_, .f32⟩
  | .hbm, ⟨6, _⟩ => ⟨S32x4x64, .f32⟩
  | .hbm, ⟨7, _⟩ => ⟨S32x4x64, .i1⟩
  | .hbm, ⟨8, _⟩ => ⟨S32x4x64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S1x1x64, .i32⟩
  | .hbm, ⟨17, _⟩ => ⟨S32x4x64, .i32⟩
  | .hbm, ⟨18, _⟩ => ⟨S32x4x64, .i32⟩
  | .hbm, ⟨19, _⟩ => ⟨S32x4x64x1, .i32⟩
  | .hbm, ⟨20, _⟩ => ⟨S32x4x64x64, .i32⟩
  | .hbm, ⟨21, _⟩ => ⟨S_, .i32⟩
  | .hbm, ⟨22, _⟩ => ⟨S32x4x64x64, .i32⟩
  | .hbm, ⟨23, _⟩ => ⟨S32x4x64x64, .i1⟩
  | .hbm, ⟨24, _⟩ => ⟨S_, .i32⟩
  | .hbm, ⟨25, _⟩ => ⟨S32x4x64x64, .i32⟩
  | .hbm, ⟨26, _⟩ => ⟨S32x4x64x64, .i32⟩
  | .hbm, ⟨27, _⟩ => ⟨S32x4x64x64, .i32⟩
  | .hbm, ⟨28, _⟩ => ⟨S32x4x64x64x1, .i32⟩
  | .hbm, ⟨29, _⟩ => ⟨S1, .i32⟩
  | .hbm, ⟨30, _⟩ => ⟨S_, .i32⟩
  | .hbm, ⟨31, _⟩ => ⟨S32x4x64x64x1, .i32⟩
  | .hbm, ⟨32, _⟩ => ⟨S32x4x64x64x1, .i1⟩
  | .hbm, ⟨33, _⟩ => ⟨S1x1x1x1x1, .i32⟩
  | .hbm, ⟨34, _⟩ => ⟨S32x4x64x64x1, .i32⟩
  | .hbm, ⟨35, _⟩ => ⟨S32x4x64x64x1, .i1⟩
  | .hbm, ⟨36, _⟩ => ⟨S32x4x64x64x1, .i1⟩
  | .hbm, ⟨37, _⟩ => ⟨S_, .i1⟩
  | .hbm, ⟨38, _⟩ => ⟨S32x4x64x64, .i1⟩
  | .hbm, ⟨39, _⟩ => ⟨S32x4x64x64, .f32⟩
  | .hbm, ⟨40, _⟩ => ⟨S_, .f32⟩
  | .hbm, ⟨41, _⟩ => ⟨S32x4x64x64, .f32⟩
  | .hbm, ⟨42, _⟩ => ⟨S32x4x64x64, .f32⟩
  | .hbm, ⟨43, _⟩ => ⟨S32x4x64x64, .i32⟩
  | .hbm, ⟨44, _⟩ => ⟨S_, .i32⟩
  | .hbm, ⟨45, _⟩ => ⟨S32x4x64x64, .i32⟩
  | .hbm, ⟨46, _⟩ => ⟨S32x4x64x64, .i1⟩
  | .hbm, ⟨47, _⟩ => ⟨S_, .i32⟩
  | .hbm, ⟨48, _⟩ => ⟨S32x4x64x64, .i32⟩
  | .hbm, ⟨49, _⟩ => ⟨S32x4x64x64, .i32⟩
  | .hbm, ⟨50, _⟩ => ⟨S32x4x64x64, .i32⟩
  | .hbm, ⟨51, _⟩ => ⟨S32x4x64x64x1, .i32⟩
  | .hbm, ⟨52, _⟩ => ⟨S1, .i32⟩
  | .hbm, ⟨53, _⟩ => ⟨S_, .i32⟩
  | .hbm, ⟨54, _⟩ => ⟨S32x4x64x64x1, .i32⟩
  | .hbm, ⟨55, _⟩ => ⟨S32x4x64x64x1, .i1⟩
  | .hbm, ⟨56, _⟩ => ⟨S1x1x1x1x1, .i32⟩
  | .hbm, ⟨57, _⟩ => ⟨S32x4x64x64x1, .i32⟩
  | .hbm, ⟨58, _⟩ => ⟨S32x4x64x64x1, .i1⟩
  | .hbm, ⟨59, _⟩ => ⟨S32x4x64x64x1, .i1⟩
  | .hbm, ⟨60, _⟩ => ⟨S_, .i1⟩
  | .hbm, ⟨61, _⟩ => ⟨S32x4x64x64, .i1⟩
  | .hbm, ⟨62, _⟩ => ⟨S32x4x64x64, .f32⟩
  | .hbm, ⟨63, _⟩ => ⟨S_, .f32⟩
  | .hbm, ⟨64, _⟩ => ⟨S32x4x64x64, .f32⟩
  | .hbm, ⟨65, _⟩ => ⟨S32x4x64x64, .f32⟩
  | .hbm, ⟨66, _⟩ => ⟨S32x256x64, .f32⟩
  | .hbm, ⟨67, _⟩ => ⟨S32x256x64, .f32⟩
  | _, _ => ⟨S32x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩

abbrev nD : Nat := 1
abbrev τ : Topo := Topo.v7x

variable {F : FTy → Type} [FloatOps F]
-- ==== Kd2.lean ====
abbrev S32x1024x64 : Shape := ⟨3, ![32, 1024, 64]⟩
abbrev S32x16x32 : Shape := ⟨3, ![32, 16, 32]⟩
abbrev S32x1x1 : Shape := ⟨3, ![32, 1, 1]⟩
abbrev S32x16x32x32 : Shape := ⟨4, ![32, 16, 32, 32]⟩
abbrev S1x1024x64 : Shape := ⟨3, ![1, 1024, 64]⟩
abbrev S1x16x32 : Shape := ⟨3, ![1, 16, 32]⟩
abbrev S1x1x1 : Shape := ⟨3, ![1, 1, 1]⟩
abbrev S1x16x32x32 : Shape := ⟨4, ![1, 16, 32, 32]⟩
abbrev S1x128x128 : Shape := ⟨3, ![1, 128, 128]⟩
abbrev S128x128 : Shape := ⟨2, ![128, 128]⟩
abbrev S16x32 : Shape := ⟨2, ![16, 32]⟩
abbrev S64x64 : Shape := ⟨2, ![64, 64]⟩
abbrev S1x128x64 : Shape := ⟨3, ![1, 128, 64]⟩
abbrev S128x64 : Shape := ⟨2, ![128, 64]⟩
abbrev S1x64x128 : Shape := ⟨3, ![1, 64, 128]⟩
abbrev S64x128 : Shape := ⟨2, ![64, 128]⟩
abbrev S64 : Shape := ⟨1, ![64]⟩
abbrev S1x64 : Shape := ⟨2, ![1, 64]⟩
abbrev S32x32 : Shape := ⟨2, ![32, 32]⟩
abbrev S1x32x32 : Shape := ⟨3, ![1, 32, 32]⟩
abbrev S1x32 : Shape := ⟨2, ![1, 32]⟩
abbrev S2x32x32 : Shape := ⟨3, ![2, 32, 32]⟩
abbrev S1x2x32x32 : Shape := ⟨4, ![1, 2, 32, 32]⟩
abbrev S16x1 : Shape := ⟨2, ![16, 1]⟩
abbrev S16x31 : Shape := ⟨2, ![16, 31]⟩
abbrev S16x2 : Shape := ⟨2, ![16, 2]⟩
abbrev S16x30 : Shape := ⟨2, ![16, 30]⟩
abbrev S16x4 : Shape := ⟨2, ![16, 4]⟩
abbrev S16x28 : Shape := ⟨2, ![16, 28]⟩
abbrev S16x8 : Shape := ⟨2, ![16, 8]⟩
abbrev S16x24 : Shape := ⟨2, ![16, 24]⟩
abbrev S16x16 : Shape := ⟨2, ![16, 16]⟩

abbrev nBuf : Space → Nat
  | .hbm => 8
  | .vmem => 18
  | .smem => 0
  | _ => 0

abbrev bufTy : (tb : Table) → Fin (tcTables nBuf tb) → BufTy
  | .hbm, ⟨0, _⟩ => ⟨S32x1024x64, .f32⟩
  | .hbm, ⟨1, _⟩ => ⟨S32x1024x64, .f32⟩
  | .hbm, ⟨2, _⟩ => ⟨S32x16x32, .f32⟩
  | .hbm, ⟨3, _⟩ => ⟨S32x1x1, .f32⟩
  | .hbm, ⟨4, _⟩ => ⟨S32x1x1, .f32⟩
  | .hbm, ⟨5, _⟩ => ⟨S32x16x32x32, .f32⟩
  | .hbm, ⟨6, _⟩ => ⟨S32x16x32, .f32⟩
  | .hbm, ⟨7, _⟩ => ⟨S32x16x32, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x16x32, .f32⟩
  | .local _ .vmem, ⟨5, _⟩ => ⟨S1x16x32, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x16x32x32, .f32⟩
  | .local _ .vmem, ⟨11, _⟩ => ⟨S1x16x32x32, .f32⟩
  | .local _ .vmem, ⟨12, _⟩ => ⟨S1x16x32, .f32⟩
  | .local _ .vmem, ⟨13, _⟩ => ⟨S1x16x32, .f32⟩
  | .local _ .vmem, ⟨14, _⟩ => ⟨S1x16x32, .f32⟩
  | .local _ .vmem, ⟨15, _⟩ => ⟨S1x16x32, .f32⟩
  | .local _ .vmem, ⟨16, _⟩ => ⟨S1x128x128, .f32⟩
  | .local _ .vmem, ⟨17, _⟩ => ⟨S128x128, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kd2Ideal.lean ====
abbrev S32x1024x64 : Shape := ⟨3, ![32, 1024, 64]⟩
abbrev S32x16x32 : Shape := ⟨3, ![32, 16, 32]⟩
abbrev S32x1x1 : Shape := ⟨3, ![32, 1, 1]⟩
abbrev S32x16x32x32 : Shape := ⟨4, ![32, 16, 32, 32]⟩
abbrev S1x1024x64 : Shape := ⟨3, ![1, 1024, 64]⟩
abbrev S1x16x32 : Shape := ⟨3, ![1, 16, 32]⟩
abbrev S1x1x1 : Shape := ⟨3, ![1, 1, 1]⟩
abbrev S1x16x32x32 : Shape := ⟨4, ![1, 16, 32, 32]⟩
abbrev S1x128x128 : Shape := ⟨3, ![1, 128, 128]⟩
abbrev S128x128 : Shape := ⟨2, ![128, 128]⟩
abbrev S16x32 : Shape := ⟨2, ![16, 32]⟩
abbrev S64x64 : Shape := ⟨2, ![64, 64]⟩
abbrev S1x128x64 : Shape := ⟨3, ![1, 128, 64]⟩
abbrev S128x64 : Shape := ⟨2, ![128, 64]⟩
abbrev S1x64x128 : Shape := ⟨3, ![1, 64, 128]⟩
abbrev S64x128 : Shape := ⟨2, ![64, 128]⟩
abbrev S64 : Shape := ⟨1, ![64]⟩
abbrev S1x64 : Shape := ⟨2, ![1, 64]⟩
abbrev S32x32 : Shape := ⟨2, ![32, 32]⟩
abbrev S1x32x32 : Shape := ⟨3, ![1, 32, 32]⟩
abbrev S1x32 : Shape := ⟨2, ![1, 32]⟩
abbrev S2x32x32 : Shape := ⟨3, ![2, 32, 32]⟩
abbrev S1x2x32x32 : Shape := ⟨4, ![1, 2, 32, 32]⟩
abbrev S16x1 : Shape := ⟨2, ![16, 1]⟩
abbrev S16x31 : Shape := ⟨2, ![16, 31]⟩
abbrev S16x2 : Shape := ⟨2, ![16, 2]⟩
abbrev S16x30 : Shape := ⟨2, ![16, 30]⟩
abbrev S16x4 : Shape := ⟨2, ![16, 4]⟩
abbrev S16x28 : Shape := ⟨2, ![16, 28]⟩
abbrev S16x8 : Shape := ⟨2, ![16, 8]⟩
abbrev S16x24 : Shape := ⟨2, ![16, 24]⟩
abbrev S16x16 : Shape := ⟨2, ![16, 16]⟩

abbrev nBuf : Space → Nat
  | .hbm => 8
  | .vmem => 18
  | .smem => 0
  | _ => 0

abbrev bufTy : (tb : Table) → Fin (tcTables nBuf tb) → BufTy
  | .hbm, ⟨0, _⟩ => ⟨S32x1024x64, .f32⟩
  | .hbm, ⟨1, _⟩ => ⟨S32x1024x64, .f32⟩
  | .hbm, ⟨2, _⟩ => ⟨S32x16x32, .f32⟩
  | .hbm, ⟨3, _⟩ => ⟨S32x1x1, .f32⟩
  | .hbm, ⟨4, _⟩ => ⟨S32x1x1, .f32⟩
  | .hbm, ⟨5, _⟩ => ⟨S32x16x32x32, .f32⟩
  | .hbm, ⟨6, _⟩ => ⟨S32x16x32, .f32⟩
  | .hbm, ⟨7, _⟩ => ⟨S32x16x32, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x16x32, .f32⟩
  | .local _ .vmem, ⟨5, _⟩ => ⟨S1x16x32, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x16x32x32, .f32⟩
  | .local _ .vmem, ⟨11, _⟩ => ⟨S1x16x32x32, .f32⟩
  | .local _ .vmem, ⟨12, _⟩ => ⟨S1x16x32, .f32⟩
  | .local _ .vmem, ⟨13, _⟩ => ⟨S1x16x32, .f32⟩
  | .local _ .vmem, ⟨14, _⟩ => ⟨S1x16x32, .f32⟩
  | .local _ .vmem, ⟨15, _⟩ => ⟨S1x16x32, .f32⟩
  | .local _ .vmem, ⟨16, _⟩ => ⟨S1x128x128, .f32⟩
  | .local _ .vmem, ⟨17, _⟩ => ⟨S128x128, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefKd2Ideal.lean ====
abbrev S32x1024x64 : Shape := ⟨3, ![32, 1024, 64]⟩
abbrev S32x16x32 : Shape := ⟨3, ![32, 16, 32]⟩
abbrev S32x1x1 : Shape := ⟨3, ![32, 1, 1]⟩
abbrev S32x16x64x64 : Shape := ⟨4, ![32, 16, 64, 64]⟩
abbrev S32x1x1x1 : Shape := ⟨4, ![32, 1, 1, 1]⟩
abbrev S32x16x64x32 : Shape := ⟨4, ![32, 16, 64, 32]⟩
abbrev S32x16x32x32 : Shape := ⟨4, ![32, 16, 32, 32]⟩
abbrev S32x16x1x32 : Shape := ⟨4, ![32, 16, 1, 32]⟩
abbrev S32 : Shape := ⟨1, ![32]⟩
abbrev S_ : Shape := ⟨0, ![]⟩
abbrev S32x1 : Shape := ⟨2, ![32, 1]⟩
abbrev S32x2 : Shape := ⟨2, ![32, 2]⟩

abbrev nBuf : Space → Nat
  | .hbm => 51
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x1024x64, .f32⟩
  | .hbm, ⟨2, _⟩ => ⟨S32x16x32, .f32⟩
  | .hbm, ⟨3, _⟩ => ⟨S32x1x1, .f32⟩
  | .hbm, ⟨4, _⟩ => ⟨S32x1x1, .f32⟩
  | .hbm, ⟨5, _⟩ => ⟨S32x16x64x64, .f32⟩
  | .hbm, ⟨6, _⟩ => ⟨S32x16x64x64, .f32⟩
  | .hbm, ⟨7, _⟩ => ⟨S32x1x1x1, .f32⟩
  | .hbm, ⟨8, _⟩ => ⟨S32x1x1x1, .f32⟩
  | .hbm, ⟨9, _⟩ => ⟨S32x16x64x64, .f32⟩
  | .hbm, ⟨10, _⟩ => ⟨S32x16x64x64, .f32⟩
  | .hbm, ⟨11, _⟩ => ⟨S32x16x64x64, .f32⟩
  | .hbm, ⟨12, _⟩ => ⟨S32x16x64x64, .f32⟩
  | .hbm, ⟨13, _⟩ => ⟨S32x16x64x64, .f32⟩
  | .hbm, ⟨14, _⟩ => ⟨S32x16x64x64, .f32⟩
  | .hbm, ⟨15, _⟩ => ⟨S32x16x64x64, .f32⟩
  | .hbm, ⟨16, _⟩ => ⟨S32x16x64x64, .f32⟩
  | .hbm, ⟨17, _⟩ => ⟨S32x16x64x32, .f32⟩
  | .hbm, ⟨18, _⟩ => ⟨S32x16x64x32, .f32⟩
  | .hbm, ⟨19, _⟩ => ⟨S32x16x64x32, .f32⟩
  | .hbm, ⟨20, _⟩ => ⟨S32x16x32x32, .f32⟩
  | .hbm, ⟨21, _⟩ => ⟨S32x16x32x32, .f32⟩
  | .hbm, ⟨22, _⟩ => ⟨S32x16x32x32, .f32⟩
  | .hbm, ⟨23, _⟩ => ⟨S32x16x1x32, .f32⟩
  | .hbm, ⟨24, _⟩ => ⟨S32x16x32, .f32⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i1⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i1⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S32x1, .i32⟩
  | .hbm, ⟨42, _⟩ => ⟨S32x1, .i32⟩
  | .hbm, ⟨43, _⟩ => ⟨S32x2, .i32⟩
  | .hbm, ⟨44, _⟩ => ⟨S32x16x32, .f32⟩
  | .hbm, ⟨45, _⟩ => ⟨S32x16x32, .f32⟩
  | .hbm, ⟨46, _⟩ => ⟨S32x16x32, .f32⟩
  | .hbm, ⟨47, _⟩ => ⟨S_, .f32⟩
  | .hbm, ⟨48, _⟩ => ⟨S_, .f32⟩
  | .hbm, ⟨49, _⟩ => ⟨S32x16x32, .f32⟩
  | .hbm, ⟨50, _⟩ => ⟨S32x16x32, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_c_1 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call1_cst : Ref sig .tc := ⟨.hbm, 47, rfl⟩
abbrev main_call1_v0 : Ref sig .tc := ⟨.hbm, 48, rfl⟩
abbrev main_v23 : Ref sig .tc := ⟨.hbm, 49, rfl⟩
abbrev main_v24 : Ref sig .tc := ⟨.hbm, 50, rfl⟩

abbrev nD : Nat := 1
abbrev τ : Topo := Topo.v7x

variable {F : FTy → Type} [FloatOps F]
-- ==== Scan2.lean ====
abbrev S32x16x32x32 : Shape := ⟨4, ![32, 16, 32, 32]⟩
abbrev S32x16x32 : Shape := ⟨3, ![32, 16, 32]⟩
abbrev S1 : Shape := ⟨1, ![1]⟩
abbrev S1x1x1 : Shape := ⟨3, ![1, 1, 1]⟩
abbrev S512x32 : Shape := ⟨2, ![512, 32]⟩
abbrev S512 : Shape := ⟨1, ![512]⟩
abbrev S512x1 : Shape := ⟨2, ![512, 1]⟩
abbrev S32x16x1x32 : Shape := ⟨4, ![32, 16, 1, 32]⟩

abbrev nBuf : Space → Nat
  | .hbm => 7
  | .vmem => 5
  | .smem => 0
  | _ => 0

abbrev bufTy : (tb : Table) → Fin (tcTables nBuf tb) → BufTy
  | .hbm, ⟨0, _⟩ => ⟨S32x16x32x32, .f32⟩
  | .hbm, ⟨1, _⟩ => ⟨S32x16x32, .f32⟩
  | .hbm, ⟨2, _⟩ => ⟨S32x16x32, .f32⟩
  | .hbm, ⟨3, _⟩ => ⟨S1, .i1⟩
  | .hbm, ⟨4, _⟩ => ⟨S1, .f32⟩
  | .hbm, ⟨5, _⟩ => ⟨S1x1x1, .f32⟩
  | .hbm, ⟨6, _⟩ => ⟨S32x16x32, .f32⟩
  | .local _ .vmem, ⟨0, _⟩ => ⟨S32x16x32x32, .f32⟩
  | .local _ .vmem, ⟨1, _⟩ => ⟨S32x16x32, .f32⟩
  | .local _ .vmem, ⟨2, _⟩ => ⟨S32x16x32, .f32⟩
  | .local _ .vmem, ⟨3, _⟩ => ⟨S1x1x1, .f32⟩
  | .local _ .vmem, ⟨4, _⟩ => ⟨S32x16x32, .f32⟩
  | _, _ => ⟨S32x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c1_i32 : BitVec 32 := 1#32
  let c31_i32 : BitVec 32 := 31#32
  let v12 : BitVec 32 := Scalar.addi c1_i32 c31_i32
  let c1_i32_8 : BitVec 32 := 1#32
  ⟨c1_i32, v12, c1_i32_8⟩
def k0_off1 (k0_t1 : Fin k0_t1_loop.trips) : Fin 4 → Nat :=
  let c0_17 : Index := 0#32
  let c0_18 : Index := 0#32
  let c1_i32 : BitVec 32 := 1#32
  let c1_i32_8 : BitVec 32 := 1#32
  let arg6 : BitVec 32 := Scf.iv c1_i32 c1_i32_8 k0_t1
  let v39 : Index := Scalar.indexCast arg6
  let c0_19 : Index := 0#32
  ![0, 0, v39.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x16x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Scan2Ideal.lean ====
abbrev S32x16x32x32 : Shape := ⟨4, ![32, 16, 32, 32]⟩
abbrev S32x16x32 : Shape := ⟨3, ![32, 16, 32]⟩
abbrev S1 : Shape := ⟨1, ![1]⟩
abbrev S1x1x1 : Shape := ⟨3, ![1, 1, 1]⟩
abbrev S512x32 : Shape := ⟨2, ![512, 32]⟩
abbrev S512 : Shape := ⟨1, ![512]⟩
abbrev S512x1 : Shape := ⟨2, ![512, 1]⟩
abbrev S32x16x1x32 : Shape := ⟨4, ![32, 16, 1, 32]⟩

abbrev nBuf : Space → Nat
  | .hbm => 7
  | .vmem => 5
  | .smem => 0
  | _ => 0

abbrev bufTy : (tb : Table) → Fin (tcTables nBuf tb) → BufTy
  | .hbm, ⟨0, _⟩ => ⟨S32x16x32x32, .f32⟩
  | .hbm, ⟨1, _⟩ => ⟨S32x16x32, .f32⟩
  | .hbm, ⟨2, _⟩ => ⟨S32x16x32, .f32⟩
  | .hbm, ⟨3, _⟩ => ⟨S1, .i1⟩
  | .hbm, ⟨4, _⟩ => ⟨S1, .f32⟩
  | .hbm, ⟨5, _⟩ => ⟨S1x1x1, .f32⟩
  | .hbm, ⟨6, _⟩ => ⟨S32x16x32, .f32⟩
  | .local _ .vmem, ⟨0, _⟩ => ⟨S32x16x32x32, .f32⟩
  | .local _ .vmem, ⟨1, _⟩ => ⟨S32x16x32, .f32⟩
  | .local _ .vmem, ⟨2, _⟩ => ⟨S32x16x32, .f32⟩
  | .local _ .vmem, ⟨3, _⟩ => ⟨S1x1x1, .f32⟩
  | .local _ .vmem, ⟨4, _⟩ => ⟨S32x16x32, .f32⟩
  | _, _ => ⟨S32x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c1_i32 : BitVec 32 := 1#32
  let c31_i32 : BitVec 32 := 31#32
  let v12 : BitVec 32 := Scalar.addi c1_i32 c31_i32
  let c1_i32_8 : BitVec 32 := 1#32
  ⟨c1_i32, v12, c1_i32_8⟩
def k0_off1 (k0_t1 : Fin k0_t1_loop.trips) : Fin 4 → Nat :=
  let c0_17 : Index := 0#32
  let c0_18 : Index := 0#32
  let c1_i32 : BitVec 32 := 1#32
  let c1_i32_8 : BitVec 32 := 1#32
  let arg6 : BitVec 32 := Scf.iv c1_i32 c1_i32_8 k0_t1
  let v39 : Index := Scalar.indexCast arg6
  let c0_19 : Index := 0#32
  ![0, 0, v39.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x16x32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefScan2Ideal.lean ====
abbrev S32x16x32x32 : Shape := ⟨4, ![32, 16, 32, 32]⟩
abbrev S32x16x32 : Shape := ⟨3, ![32, 16, 32]⟩
abbrev S1 : Shape := ⟨1, ![1]⟩
abbrev S_ : Shape := ⟨0, ![]⟩
abbrev S31 : Shape := ⟨1, ![31]⟩
abbrev S32x16x1 : Shape := ⟨3, ![32, 16, 1]⟩
abbrev S32x16 : Shape := ⟨2, ![32, 16]⟩
abbrev S32x16x1x32 : Shape := ⟨4, ![32, 16, 1, 32]⟩
abbrev S1x1x1 : Shape := ⟨3, ![1, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S32x16x32x32, .f32⟩
  | .hbm, ⟨1, _⟩ => ⟨S32x16x32, .f32⟩
  | .hbm, ⟨2, _⟩ => ⟨S32x16x32, .f32⟩
  | .hbm, ⟨3, _⟩ => ⟨S1, .i1⟩
  | .hbm, ⟨4, _⟩ => ⟨S_, .i1⟩
  | .hbm, ⟨5, _⟩ => ⟨S32x16x32, .i1⟩
  | .hbm, ⟨6, _⟩ => ⟨S31, .i32⟩
  | .hbm, ⟨7, _⟩ => ⟨S_, .i32⟩
  | .hbm, ⟨8, _⟩ => ⟨S31, .i32⟩
  | .hbm, ⟨9, _⟩ => ⟨S31, .i32⟩
  | .hbm, ⟨10, _⟩ => ⟨S_, .i32⟩
  | .hbm, ⟨11, _⟩ => ⟨S31, .i32⟩
  | .hbm, ⟨12, _⟩ => ⟨S32x16x32, .f32⟩
  | .hbm, ⟨13, _⟩ => ⟨S32x16x32x32, .f32⟩
  | .hbm, ⟨14, _⟩ => ⟨S_, .i32⟩
  | .hbm, ⟨15, _⟩ => ⟨S32x16x32, .f32⟩
  | .hbm, ⟨16, _⟩ => ⟨S32x16x32, .i1⟩
  | .hbm, ⟨17, _⟩ => ⟨S_, .i32⟩
  | .hbm, ⟨18, _⟩ => ⟨S_, .i1⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S32x16x1, .f32⟩
  | .hbm, ⟨43, _⟩ => ⟨S32x16, .f32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S32x16x1, .f32⟩
  | .hbm, ⟨66, _⟩ => ⟨S32x16, .f32⟩
  | .hbm, ⟨67, _⟩ => ⟨S32x16, .i1⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1, .i32⟩
  | .hbm, ⟨74, _⟩ => ⟨S32x16x32, .i1⟩
  | .hbm, ⟨75, _⟩ => ⟨S32x16x1, .i1⟩
  | .hbm, ⟨76, _⟩ => ⟨S32x16x1, .f32⟩
  | .hbm, ⟨77, _⟩ => ⟨S_, .f32⟩
  | .hbm, ⟨78, _⟩ => ⟨S32x16x1, .f32⟩
  | .hbm, ⟨79, _⟩ => ⟨S32x16x1, .f32⟩
  | .hbm, ⟨80, _⟩ => ⟨S_, .f32⟩
  | .hbm, ⟨81, _⟩ => ⟨S32x16x1, .f32⟩
  | .hbm, ⟨82, _⟩ => ⟨S32x16x1, .f32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i1⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S32x16x1x32, .f32⟩
  | .hbm, ⟨113, _⟩ => ⟨S32x16x32, .f32⟩
  | .hbm, ⟨114, _⟩ => ⟨S32x16x32, .f32⟩
  | .hbm, ⟨115, _⟩ => ⟨S32x16x32, .f32⟩
  | .hbm, ⟨116, _⟩ => ⟨S32x16x32, .f32⟩
  | .hbm, ⟨117, _⟩ => ⟨S_, .i32⟩
  | .hbm, ⟨118, _⟩ => ⟨S_, .i32⟩
  | .hbm, ⟨119, _⟩ => ⟨S1x1x1, .i1⟩
  | .hbm, ⟨120, _⟩ => ⟨S32x16x32, .i1⟩
  | .hbm, ⟨121, _⟩ => ⟨S32x16x32, .i1⟩
  | .hbm, ⟨122, _⟩ => ⟨S32x16x32, .f32⟩
  | _, _ => ⟨S32x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_while0c_c_7 : Ref sig .tc := ⟨.hbm, 17, rfl⟩
abbrev main_while0c_v9 : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_c_7 : Ref sig .tc := ⟨.hbm, 21, rfl⟩
abbrev main_while0b_c_8 : Ref sig .tc := ⟨.hbm, 22, rfl⟩
abbrev main_while0b_v10 : Ref sig .tc := ⟨.hbm, 23, rfl⟩
abbrev main_while0b_c_9 : Ref sig .tc := ⟨.hbm, 24, rfl⟩
abbrev main_while0b_c_10 : Ref sig .tc := ⟨.hbm, 25, rfl⟩
abbrev main_while0b_v11 : Ref sig .tc := ⟨.hbm, 26, rfl⟩
abbrev main_while0b_c_11 : Ref sig .tc := ⟨.hbm, 27, rfl⟩
abbrev main_while0b_v12 : Ref sig .tc := ⟨.hbm, 28, rfl⟩
abbrev main_while0b_c_12 : Ref sig .tc := ⟨.hbm, 29, rfl⟩
abbrev main_while0b_c_13 : Ref sig .tc := ⟨.hbm, 30, rfl⟩
abbrev main_while0b_v13 : Ref sig .tc := ⟨.hbm, 31, rfl⟩
abbrev main_while0b_c_14 : Ref sig .tc := ⟨.hbm, 32, rfl⟩
abbrev main_while0b_c_15 : Ref sig .tc := ⟨.hbm, 33, rfl⟩
abbrev main_while0b_v14 : Ref sig .tc := ⟨.hbm, 34, rfl⟩
abbrev main_while0b_c_16 : Ref sig .tc := ⟨.hbm, 35, rfl⟩
abbrev main_while0b_v15 : Ref sig .tc := ⟨.hbm, 36, rfl⟩
abbrev main_while0b_c_17 : Ref sig .tc := ⟨.hbm, 37, rfl⟩
abbrev main_while0b_v16 : Ref sig .tc := ⟨.hbm, 38, rfl⟩
abbrev main_while0b_c_18 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_c_19 : Ref sig .tc := ⟨.hbm, 44, rfl⟩
abbrev main_while0b_c_20 : Ref sig .tc := ⟨.hbm, 45, rfl⟩
abbrev main_while0b_v21 : Ref sig .tc := ⟨.hbm, 46, rfl⟩
abbrev main_while0b_c_21 : Ref sig .tc := ⟨.hbm, 47, rfl⟩
abbrev main_while0b_c_22 : Ref sig .tc := ⟨.hbm, 48, rfl⟩
abbrev main_while0b_v22 : Ref sig .tc := ⟨.hbm, 49, rfl⟩
abbrev main_while0b_c_23 : Ref sig .tc := ⟨.hbm, 50, rfl⟩
abbrev main_while0b_v23 : Ref sig .tc := ⟨.hbm, 51, rfl⟩
abbrev main_while0b_c_24 : Ref sig .tc := ⟨.hbm, 52, rfl⟩
abbrev main_while0b_c_25 : Ref sig .tc := ⟨.hbm, 53, rfl⟩
abbrev main_while0b_v24 : Ref sig .tc := ⟨.hbm, 54, rfl⟩
abbrev main_while0b_c_26 : Ref sig .tc := ⟨.hbm, 55, rfl⟩
abbrev main_while0b_c_27 : Ref sig .tc := ⟨.hbm, 56, rfl⟩
abbrev main_while0b_v25 : Ref sig .tc := ⟨.hbm, 57, rfl⟩
abbrev main_while0b_c_28 : Ref sig .tc := ⟨.hbm, 58, rfl⟩
abbrev main_while0b_v26 : Ref sig .tc := ⟨.hbm, 59, rfl⟩
abbrev main_while0b_c_29 : Ref sig .tc := ⟨.hbm, 60, rfl⟩
abbrev main_while0b_v27 : Ref sig .tc := ⟨.hbm, 61, rfl⟩
abbrev main_while0b_c_30 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_c_31 : Ref sig .tc := ⟨.hbm, 68, rfl⟩
abbrev main_while0b_v33 : Ref sig .tc := ⟨.hbm, 69, rfl⟩
abbrev main_while0b_c_32 : Ref sig .tc := ⟨.hbm, 70, rfl⟩
abbrev main_while0b_v34 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_cst : Ref sig .tc := ⟨.hbm, 77, rfl⟩
abbrev main_while0b_v40 : Ref sig .tc := ⟨.hbm, 78, rfl⟩
abbrev main_while0b_v41 : Ref sig .tc := ⟨.hbm, 79, rfl⟩
abbrev main_while0b_cst_33 : Ref sig .tc := ⟨.hbm, 80, rfl⟩
abbrev main_while0b_v42 : Ref sig .tc := ⟨.hbm, 81, rfl⟩
abbrev main_while0b_v43 : Ref sig .tc := ⟨.hbm, 82, rfl⟩
abbrev main_while0b_c_34 : Ref sig .tc := ⟨.hbm, 83, rfl⟩
abbrev main_while0b_c_35 : Ref sig .tc := ⟨.hbm, 84, rfl⟩
abbrev main_while0b_v44 : Ref sig .tc := ⟨.hbm, 85, rfl⟩
abbrev main_while0b_c_36 : Ref sig .tc := ⟨.hbm, 86, rfl⟩
abbrev main_while0b_c_37 : Ref sig .tc := ⟨.hbm, 87, rfl⟩
abbrev main_while0b_v45 : Ref sig .tc := ⟨.hbm, 88, rfl⟩
abbrev main_while0b_c_38 : Ref sig .tc := ⟨.hbm, 89, rfl⟩
abbrev main_while0b_v46 : Ref sig .tc := ⟨.hbm, 90, rfl⟩
abbrev main_while0b_c_39 : Ref sig .tc := ⟨.hbm, 91, rfl⟩
abbrev main_while0b_c_40 : Ref sig .tc := ⟨.hbm, 92, rfl⟩
abbrev main_while0b_v47 : Ref sig .tc := ⟨.hbm, 93, rfl⟩
abbrev main_while0b_c_41 : Ref sig .tc := ⟨.hbm, 94, rfl⟩
abbrev main_while0b_c_42 : Ref sig .tc := ⟨.hbm, 95, rfl⟩
abbrev main_while0b_v48 : Ref sig .tc := ⟨.hbm, 96, rfl⟩
abbrev main_while0b_c_43 : Ref sig .tc := ⟨.hbm, 97, rfl⟩
abbrev main_while0b_v49 : Ref sig .tc := ⟨.hbm, 98, rfl⟩
abbrev main_while0b_c_44 : Ref sig .tc := ⟨.hbm, 99, rfl⟩
abbrev main_while0b_v50 : Ref sig .tc := ⟨.hbm, 100, rfl⟩
abbrev main_while0b_c_45 : Ref sig .tc := ⟨.hbm, 101, rfl⟩
abbrev main_while0b_v51 : Ref sig .tc := ⟨.hbm, 102, rfl⟩
abbrev main_while0b_v52 : Ref sig .tc := ⟨.hbm, 103, rfl⟩
abbrev main_while0b_c_46 : Ref sig .tc := ⟨.hbm, 104, rfl⟩
abbrev main_while0b_c_47 : Ref sig .tc := ⟨.hbm, 105, rfl⟩
abbrev main_while0b_v53 : Ref sig .tc := ⟨.hbm, 106, rfl⟩
abbrev main_while0b_c_48 : Ref sig .tc := ⟨.hbm, 107, rfl⟩
abbrev main_while0b_c_49 : Ref sig .tc := ⟨.hbm, 108, rfl⟩
abbrev main_while0b_v54 : Ref sig .tc := ⟨.hbm, 109, rfl⟩
abbrev main_while0b_c_50 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_c_51 : Ref sig .tc := ⟨.hbm, 117, rfl⟩
abbrev main_while0b_v61 : Ref sig .tc := ⟨.hbm, 118, rfl⟩
abbrev main_v5 : Ref sig .tc := ⟨.hbm, 119, rfl⟩
abbrev main_v6 : Ref sig .tc := ⟨.hbm, 120, rfl⟩
abbrev main_v7 : Ref sig .tc := ⟨.hbm, 121, rfl⟩
abbrev main_v8 : Ref sig .tc := ⟨.hbm, 122, rfl⟩

abbrev nD : Nat := 1
abbrev τ : Topo := Topo.v7x

variable {F : FTy → Type} [FloatOps F]

abbrev main_while0_count : Scf.Loop 32 := ⟨0#32, 31#32, 1#32⟩
-- ==== Sel2.lean ====
abbrev S32x1024x64 : Shape := ⟨3, ![32, 1024, 64]⟩
abbrev S32x16x32 : Shape := ⟨3, ![32, 16, 32]⟩
abbrev S32x512x64 : Shape := ⟨3, ![32, 512, 64]⟩
abbrev S1x1024x64 : Shape := ⟨3, ![1, 1024, 64]⟩
abbrev S1x16x32 : Shape := ⟨3, ![1, 16, 32]⟩
abbrev S1x512x64 : Shape := ⟨3, ![1, 512, 64]⟩
abbrev S1x1x32 : Shape := ⟨3, ![1, 1, 32]⟩
abbrev S1x32 : Shape := ⟨2, ![1, 32]⟩
abbrev S32x1 : Shape := ⟨2, ![32, 1]⟩
abbrev S1x32x64 : Shape := ⟨3, ![1, 32, 64]⟩
abbrev S32x64 : Shape := ⟨2, ![32, 64]⟩

abbrev nBuf : Space → Nat
  | .hbm => 5
  | .vmem => 10
  | .smem => 0
  | _ => 0

abbrev bufTy : (tb : Table) → Fin (tcTables nBuf tb) → BufTy
  | .hbm, ⟨0, _⟩ => ⟨S32x1024x64, .f32⟩
  | .hbm, ⟨1, _⟩ => ⟨S32x1024x64, .f32⟩
  | .hbm, ⟨2, _⟩ => ⟨S32x16x32, .f32⟩
  | .hbm, ⟨3, _⟩ => ⟨S32x512x64, .f32⟩
  | .hbm, ⟨4, _⟩ => ⟨S32x512x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x16x32, .f32⟩
  | .local _ .vmem, ⟨5, _⟩ => ⟨S1x16x32, .f32⟩
  | .local _ .vmem, ⟨6, _⟩ => ⟨S1x512x64, .f32⟩
  | .local _ .vmem, ⟨7, _⟩ => ⟨S1x512x64, .f32⟩
  | .local _ .vmem, ⟨8, _⟩ => ⟨S1x512x64, .f32⟩
  | .local _ .vmem, ⟨9, _⟩ => ⟨S1x512x64, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Sel2Ideal.lean ====
abbrev S32x1024x64 : Shape := ⟨3, ![32, 1024, 64]⟩
abbrev S32x16x32 : Shape := ⟨3, ![32, 16, 32]⟩
abbrev S32x512x64 : Shape := ⟨3, ![32, 512, 64]⟩
abbrev S1x1024x64 : Shape := ⟨3, ![1, 1024, 64]⟩
abbrev S1x16x32 : Shape := ⟨3, ![1, 16, 32]⟩
abbrev S1x512x64 : Shape := ⟨3, ![1, 512, 64]⟩
abbrev S1x1x32 : Shape := ⟨3, ![1, 1, 32]⟩
abbrev S1x32 : Shape := ⟨2, ![1, 32]⟩
abbrev S32x1 : Shape := ⟨2, ![32, 1]⟩
abbrev S1x32x64 : Shape := ⟨3, ![1, 32, 64]⟩
abbrev S32x64 : Shape := ⟨2, ![32, 64]⟩

abbrev nBuf : Space → Nat
  | .hbm => 5
  | .vmem => 10
  | .smem => 0
  | _ => 0

abbrev bufTy : (tb : Table) → Fin (tcTables nBuf tb) → BufTy
  | .hbm, ⟨0, _⟩ => ⟨S32x1024x64, .f32⟩
  | .hbm, ⟨1, _⟩ => ⟨S32x1024x64, .f32⟩
  | .hbm, ⟨2, _⟩ => ⟨S32x16x32, .f32⟩
  | .hbm, ⟨3, _⟩ => ⟨S32x512x64, .f32⟩
  | .hbm, ⟨4, _⟩ => ⟨S32x512x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x16x32, .f32⟩
  | .local _ .vmem, ⟨5, _⟩ => ⟨S1x16x32, .f32⟩
  | .local _ .vmem, ⟨6, _⟩ => ⟨S1x512x64, .f32⟩
  | .local _ .vmem, ⟨7, _⟩ => ⟨S1x512x64, .f32⟩
  | .local _ .vmem, ⟨8, _⟩ => ⟨S1x512x64, .f32⟩
  | .local _ .vmem, ⟨9, _⟩ => ⟨S1x512x64, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefSel2Ideal.lean ====
abbrev S32x1024x64 : Shape := ⟨3, ![32, 1024, 64]⟩
abbrev S32x16x32 : Shape := ⟨3, ![32, 16, 32]⟩
abbrev S32x16x64x64 : Shape := ⟨4, ![32, 16, 64, 64]⟩
abbrev S_ : Shape := ⟨0, ![]⟩
abbrev S32 : Shape := ⟨1, ![32]⟩
abbrev S1x1x32 : Shape := ⟨3, ![1, 1, 32]⟩
abbrev S32x16x32x1 : Shape := ⟨4, ![32, 16, 32, 1]⟩
abbrev S32x16x32x64 : Shape := ⟨4, ![32, 16, 32, 64]⟩
abbrev S32x16x32x64x1 : Shape := ⟨5, ![32, 16, 32, 64, 1]⟩
abbrev S1 : Shape := ⟨1, ![1]⟩
abbrev S1x1x1x1x1 : Shape := ⟨5, ![1, 1, 1, 1, 1]⟩
abbrev S32x512x64 : Shape := ⟨3, ![32, 512, 64]⟩

abbrev nBuf : Space → Nat
  | .hbm => 68
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x1024x64, .f32⟩
  | .hbm, ⟨2, _⟩ => ⟨S32x16x32, .f32⟩
  | .hbm, ⟨3, _⟩ => ⟨S32x16x64x64, .f32⟩
  | .hbm, ⟨4, _⟩ => ⟨S32x16x64x64, .f32⟩
  | .hbm, ⟨5, _⟩ => ⟨S_, .f32⟩
  | .hbm, ⟨6, _⟩ => ⟨S32x16x32, .f32⟩
  | .hbm, ⟨7, _⟩ => ⟨S32x16x32, .i1⟩
  | .hbm, ⟨8, _⟩ => ⟨S32x16x32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S1x1x32, .i32⟩
  | .hbm, ⟨17, _⟩ => ⟨S32x16x32, .i32⟩
  | .hbm, ⟨18, _⟩ => ⟨S32x16x32, .i32⟩
  | .hbm, ⟨19, _⟩ => ⟨S32x16x32x1, .i32⟩
  | .hbm, ⟨20, _⟩ => ⟨S32x16x32x64, .i32⟩
  | .hbm, ⟨21, _⟩ => ⟨S_, .i32⟩
  | .hbm, ⟨22, _⟩ => ⟨S32x16x32x64, .i32⟩
  | .hbm, ⟨23, _⟩ => ⟨S32x16x32x64, .i1⟩
  | .hbm, ⟨24, _⟩ => ⟨S_, .i32⟩
  | .hbm, ⟨25, _⟩ => ⟨S32x16x32x64, .i32⟩
  | .hbm, ⟨26, _⟩ => ⟨S32x16x32x64, .i32⟩
  | .hbm, ⟨27, _⟩ => ⟨S32x16x32x64, .i32⟩
  | .hbm, ⟨28, _⟩ => ⟨S32x16x32x64x1, .i32⟩
  | .hbm, ⟨29, _⟩ => ⟨S1, .i32⟩
  | .hbm, ⟨30, _⟩ => ⟨S_, .i32⟩
  | .hbm, ⟨31, _⟩ => ⟨S32x16x32x64x1, .i32⟩
  | .hbm, ⟨32, _⟩ => ⟨S32x16x32x64x1, .i1⟩
  | .hbm, ⟨33, _⟩ => ⟨S1x1x1x1x1, .i32⟩
  | .hbm, ⟨34, _⟩ => ⟨S32x16x32x64x1, .i32⟩
  | .hbm, ⟨35, _⟩ => ⟨S32x16x32x64x1, .i1⟩
  | .hbm, ⟨36, _⟩ => ⟨S32x16x32x64x1, .i1⟩
  | .hbm, ⟨37, _⟩ => ⟨S_, .i1⟩
  | .hbm, ⟨38, _⟩ => ⟨S32x16x32x64, .i1⟩
  | .hbm, ⟨39, _⟩ => ⟨S32x16x32x64, .f32⟩
  | .hbm, ⟨40, _⟩ => ⟨S_, .f32⟩
  | .hbm, ⟨41, _⟩ => ⟨S32x16x32x64, .f32⟩
  | .hbm, ⟨42, _⟩ => ⟨S32x16x32x64, .f32⟩
  | .hbm, ⟨43, _⟩ => ⟨S32x16x32x64, .i32⟩
  | .hbm, ⟨44, _⟩ => ⟨S_, .i32⟩
  | .hbm, ⟨45, _⟩ => ⟨S32x16x32x64, .i32⟩
  | .hbm, ⟨46, _⟩ => ⟨S32x16x32x64, .i1⟩
  | .hbm, ⟨47, _⟩ => ⟨S_, .i32⟩
  | .hbm, ⟨48, _⟩ => ⟨S32x16x32x64, .i32⟩
  | .hbm, ⟨49, _⟩ => ⟨S32x16x32x64, .i32⟩
  | .hbm, ⟨50, _⟩ => ⟨S32x16x32x64, .i32⟩
  | .hbm, ⟨51, _⟩ => ⟨S32x16x32x64x1, .i32⟩
  | .hbm, ⟨52, _⟩ => ⟨S1, .i32⟩
  | .hbm, ⟨53, _⟩ => ⟨S_, .i32⟩
  | .hbm, ⟨54, _⟩ => ⟨S32x16x32x64x1, .i32⟩
  | .hbm, ⟨55, _⟩ => ⟨S32x16x32x64x1, .i1⟩
  | .hbm, ⟨56, _⟩ => ⟨S1x1x1x1x1, .i32⟩
  | .hbm, ⟨57, _⟩ => ⟨S32x16x32x64x1, .i32⟩
  | .hbm, ⟨58, _⟩ => ⟨S32x16x32x64x1, .i1⟩
  | .hbm, ⟨59, _⟩ => ⟨S32x16x32x64x1, .i1⟩
  | .hbm, ⟨60, _⟩ => ⟨S_, .i1⟩
  | .hbm, ⟨61, _⟩ => ⟨S32x16x32x64, .i1⟩
  | .hbm, ⟨62, _⟩ => ⟨S32x16x32x64, .f32⟩
  | .hbm, ⟨63, _⟩ => ⟨S_, .f32⟩
  | .hbm, ⟨64, _⟩ => ⟨S32x16x32x64, .f32⟩
  | .hbm, ⟨65, _⟩ => ⟨S32x16x32x64, .f32⟩
  | .hbm, ⟨66, _⟩ => ⟨S32x512x64, .f32⟩
  | .hbm, ⟨67, _⟩ => ⟨S32x512x64, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩

abbrev nD : Nat := 1
abbrev τ : Topo := Topo.v7x

variable {F : FTy → Type} [FloatOps F]
-- ==== Kd1.lean ====
abbrev S32x2048x64 : Shape := ⟨3, ![32, 2048, 64]⟩
abbrev S32x64x16 : Shape := ⟨3, ![32, 64, 16]⟩
abbrev S32x1x1 : Shape := ⟨3, ![32, 1, 1]⟩
abbrev S32x64x16x16 : Shape := ⟨4, ![32, 64, 16, 16]⟩
abbrev S1x2048x64 : Shape := ⟨3, ![1, 2048, 64]⟩
abbrev S1x64x16 : Shape := ⟨3, ![1, 64, 16]⟩
abbrev S1x1x1 : Shape := ⟨3, ![1, 1, 1]⟩
abbrev S1x64x16x16 : Shape := ⟨4, ![1, 64, 16, 16]⟩
abbrev S1x128x128 : Shape := ⟨3, ![1, 128, 128]⟩
abbrev S128x128 : Shape := ⟨2, ![128, 128]⟩
abbrev S64x16 : Shape := ⟨2, ![64, 16]⟩
abbrev S64x64 : Shape := ⟨2, ![64, 64]⟩
abbrev S1x128x64 : Shape := ⟨3, ![1, 128, 64]⟩
abbrev S128x64 : Shape := ⟨2, ![128, 64]⟩
abbrev S1x64x128 : Shape := ⟨3, ![1, 64, 128]⟩
abbrev S64x128 : Shape := ⟨2, ![64, 128]⟩
abbrev S64 : Shape := ⟨1, ![64]⟩
abbrev S1x64 : Shape := ⟨2, ![1, 64]⟩
abbrev S16x16 : Shape := ⟨2, ![16, 16]⟩
abbrev S1x16x16 : Shape := ⟨3, ![1, 16, 16]⟩
abbrev S1x16 : Shape := ⟨2, ![1, 16]⟩
abbrev S4x16x16 : Shape := ⟨3, ![4, 16, 16]⟩
abbrev S1x4x16x16 : Shape := ⟨4, ![1, 4, 16, 16]⟩
abbrev S64x1 : Shape := ⟨2, ![64, 1]⟩
abbrev S64x15 : Shape := ⟨2, ![64, 15]⟩
abbrev S64x2 : Shape := ⟨2, ![64, 2]⟩
abbrev S64x14 : Shape := ⟨2, ![64, 14]⟩
abbrev S64x4 : Shape := ⟨2, ![64, 4]⟩
abbrev S64x12 : Shape := ⟨2, ![64, 12]⟩
abbrev S64x8 : Shape := ⟨2, ![64, 8]⟩

abbrev nBuf : Space → Nat
  | .hbm => 8
  | .vmem => 18
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x64x16, .f32⟩
  | .hbm, ⟨3, _⟩ => ⟨S32x1x1, .f32⟩
  | .hbm, ⟨4, _⟩ => ⟨S32x1x1, .f32⟩
  | .hbm, ⟨5, _⟩ => ⟨S32x64x16x16, .f32⟩
  | .hbm, ⟨6, _⟩ => ⟨S32x64x16, .f32⟩
  | .hbm, ⟨7, _⟩ => ⟨S32x64x16, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x64x16, .f32⟩
  | .local _ .vmem, ⟨5, _⟩ => ⟨S1x64x16, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x64x16x16, .f32⟩
  | .local _ .vmem, ⟨11, _⟩ => ⟨S1x64x16x16, .f32⟩
  | .local _ .vmem, ⟨12, _⟩ => ⟨S1x64x16, .f32⟩
  | .local _ .vmem, ⟨13, _⟩ => ⟨S1x64x16, .f32⟩
  | .local _ .vmem, ⟨14, _⟩ => ⟨S1x64x16, .f32⟩
  | .local _ .vmem, ⟨15, _⟩ => ⟨S1x64x16, .f32⟩
  | .local _ .vmem, ⟨16, _⟩ => ⟨S1x128x128, .f32⟩
  | .local _ .vmem, ⟨17, _⟩ => ⟨S128x128, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefKd1Ideal.lean ====
abbrev S32x2048x64 : Shape := ⟨3, ![32, 2048, 64]⟩
abbrev S32x64x16 : Shape := ⟨3, ![32, 64, 16]⟩
abbrev S32x1x1 : Shape := ⟨3, ![32, 1, 1]⟩
abbrev S32x64x32x64 : Shape := ⟨4, ![32, 64, 32, 64]⟩
abbrev S32x1x1x1 : Shape := ⟨4, ![32, 1, 1, 1]⟩
abbrev S32x64x32x32 : Shape := ⟨4, ![32, 64, 32, 32]⟩
abbrev S32x64x32x16 : Shape := ⟨4, ![32, 64, 32, 16]⟩
abbrev S32x64x16x16 : Shape := ⟨4, ![32, 64, 16, 16]⟩
abbrev S32x64x1x16 : Shape := ⟨4, ![32, 64, 1, 16]⟩
abbrev S16 : Shape := ⟨1, ![16]⟩
abbrev S_ : Shape := ⟨0, ![]⟩
abbrev S16x1 : Shape := ⟨2, ![16, 1]⟩
abbrev S16x2 : Shape := ⟨2, ![16, 2]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x64x16, .f32⟩
  | .hbm, ⟨3, _⟩ => ⟨S32x1x1, .f32⟩
  | .hbm, ⟨4, _⟩ => ⟨S32x1x1, .f32⟩
  | .hbm, ⟨5, _⟩ => ⟨S32x64x32x64, .f32⟩
  | .hbm, ⟨6, _⟩ => ⟨S32x64x32x64, .f32⟩
  | .hbm, ⟨7, _⟩ => ⟨S32x1x1x1, .f32⟩
  | .hbm, ⟨8, _⟩ => ⟨S32x1x1x1, .f32⟩
  | .hbm, ⟨9, _⟩ => ⟨S32x64x32x32, .f32⟩
  | .hbm, ⟨10, _⟩ => ⟨S32x64x32x32, .f32⟩
  | .hbm, ⟨11, _⟩ => ⟨S32x64x32x32, .f32⟩
  | .hbm, ⟨12, _⟩ => ⟨S32x64x32x32, .f32⟩
  | .hbm, ⟨13, _⟩ => ⟨S32x64x32x32, .f32⟩
  | .hbm, ⟨14, _⟩ => ⟨S32x64x32x32, .f32⟩
  | .hbm, ⟨15, _⟩ => ⟨S32x64x32x32, .f32⟩
  | .hbm, ⟨16, _⟩ => ⟨S32x64x32x32, .f32⟩
  | .hbm, ⟨17, _⟩ => ⟨S32x64x32x16, .f32⟩
  | .hbm, ⟨18, _⟩ => ⟨S32x64x32x16, .f32⟩
  | .hbm, ⟨19, _⟩ => ⟨S32x64x32x16, .f32⟩
  | .hbm, ⟨20, _⟩ => ⟨S32x64x16x16, .f32⟩
  | .hbm, ⟨21, _⟩ => ⟨S32x64x16x16, .f32⟩
  | .hbm, ⟨22, _⟩ => ⟨S32x64x16x16, .f32⟩
  | .hbm, ⟨23, _⟩ => ⟨S32x64x1x16, .f32⟩
  | .hbm, ⟨24, _⟩ => ⟨S32x64x16, .f32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S16, .i32⟩
  | .hbm, ⟨36, _⟩ => ⟨S16, .i1⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S16x1, .i32⟩
  | .hbm, ⟨42, _⟩ => ⟨S16x1, .i32⟩
  | .hbm, ⟨43, _⟩ => ⟨S16x2, .i32⟩
  | .hbm, ⟨44, _⟩ => ⟨S32x64x16, .f32⟩
  | .hbm, ⟨45, _⟩ => ⟨S32x64x16, .f32⟩
  | .hbm, ⟨46, _⟩ => ⟨S32x64x16, .f32⟩
  | .hbm, ⟨47, _⟩ => ⟨S_, .f32⟩
  | .hbm, ⟨48, _⟩ => ⟨S_, .f32⟩
  | .hbm, ⟨49, _⟩ => ⟨S32x64x16, .f32⟩
  | .hbm, ⟨50, _⟩ => ⟨S32x64x16, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_c_1 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call1_cst : Ref sig .tc := ⟨.hbm, 47, rfl⟩
abbrev main_call1_v0 : Ref sig .tc := ⟨.hbm, 48, rfl⟩
abbrev main_v23 : Ref sig .tc := ⟨.hbm, 49, rfl⟩
abbrev main_v24 : Ref sig .tc := ⟨.hbm, 50, rfl⟩

abbrev nD : Nat := 1
abbrev τ : Topo := Topo.v7x

variable {F : FTy → Type} [FloatOps F]
-- ==== Scan1.lean ====
abbrev S32x64x16x16 : Shape := ⟨4, ![32, 64, 16, 16]⟩
abbrev S32x64x16 : Shape := ⟨3, ![32, 64, 16]⟩
abbrev S1 : Shape := ⟨1, ![1]⟩
abbrev S1x1x1 : Shape := ⟨3, ![1, 1, 1]⟩
abbrev S2048x16 : Shape := ⟨2, ![2048, 16]⟩
abbrev S2048 : Shape := ⟨1, ![2048]⟩
abbrev S2048x1 : Shape := ⟨2, ![2048, 1]⟩
abbrev S32x64x1x16 : Shape := ⟨4, ![32, 64, 1, 16]⟩

abbrev nBuf : Space → Nat
  | .hbm => 7
  | .vmem => 5
  | .smem => 0
  | _ => 0

abbrev bufTy : (tb : Table) → Fin (tcTables nBuf tb) → BufTy
  | .hbm, ⟨0, _⟩ => ⟨S32x64x16x16, .f32⟩
  | .hbm, ⟨1, _⟩ => ⟨S32x64x16, .f32⟩
  | .hbm, ⟨2, _⟩ => ⟨S32x64x16, .f32⟩
  | .hbm, ⟨3, _⟩ => ⟨S1, .i1⟩
  | .hbm, ⟨4, _⟩ => ⟨S1, .f32⟩
  | .hbm, ⟨5, _⟩ => ⟨S1x1x1, .f32⟩
  | .hbm, ⟨6, _⟩ => ⟨S32x64x16, .f32⟩
  | .local _ .vmem, ⟨0, _⟩ => ⟨S32x64x16x16, .f32⟩
  | .local _ .vmem, ⟨1, _⟩ => ⟨S32x64x16, .f32⟩
  | .local _ .vmem, ⟨2, _⟩ => ⟨S32x64x16, .f32⟩
  | .local _ .vmem, ⟨3, _⟩ => ⟨S1x1x1, .f32⟩
  | .local _ .vmem, ⟨4, _⟩ => ⟨S32x64x16, .f32⟩
  | _, _ => ⟨S32x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c1_i32 : BitVec 32 := 1#32
  let c15_i32 : BitVec 32 := 15#32
  let v12 : BitVec 32 := Scalar.addi c1_i32 c15_i32
  let c1_i32_8 : BitVec 32 := 1#32
  ⟨c1_i32, v12, c1_i32_8⟩
def k0_off1 (k0_t1 : Fin k0_t1_loop.trips) : Fin 4 → Nat :=
  let c0_17 : Index := 0#32
  let c0_18 : Index := 0#32
  let c1_i32 : BitVec 32 := 1#32
  let c1_i32_8 : BitVec 32 := 1#32
  let arg6 : BitVec 32 := Scf.iv c1_i32 c1_i32_8 k0_t1
  let v39 : Index := Scalar.indexCast arg6
  let c0_19 : Index := 0#32
  ![0, 0, v39.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x64x16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefScan1Ideal.lean ====
abbrev S32x64x16x16 : Shape := ⟨4, ![32, 64, 16, 16]⟩
abbrev S32x64x16 : Shape := ⟨3, ![32, 64, 16]⟩
abbrev S1 : Shape := ⟨1, ![1]⟩
abbrev S_ : Shape := ⟨0, ![]⟩
abbrev S15 : Shape := ⟨1, ![15]⟩
abbrev S32x64x1 : Shape := ⟨3, ![32, 64, 1]⟩
abbrev S32x64 : Shape := ⟨2, ![32, 64]⟩
abbrev S32x64x1x16 : Shape := ⟨4, ![32, 64, 1, 16]⟩
abbrev S1x1x1 : Shape := ⟨3, ![1, 1, 1]⟩

abbrev nBuf : Space → Nat
  | .hbm => 123
  | .vmem => 0
  | .smem => 0
  | _ => 0

abbrev bufTy : (tb : Table) → Fin (tcTables nBuf tb) → BufTy
  | .hbm, ⟨0, _⟩ => ⟨S32x64x16x16, .f32⟩
  | .hbm, ⟨1, _⟩ => ⟨S32x64x16, .f32⟩
  | .hbm, ⟨2, _⟩ => ⟨S32x64x16, .f32⟩
  | .hbm, ⟨3, _⟩ => ⟨S1, .i1⟩
  | .hbm, ⟨4, _⟩ => ⟨S_, .i1⟩
  | .hbm, ⟨5, _⟩ => ⟨S32x64x16, .i1⟩
  | .hbm, ⟨6, _⟩ => ⟨S15, .i32⟩
  | .hbm, ⟨7, _⟩ => ⟨S_, .i32⟩
  | .hbm, ⟨8, _⟩ => ⟨S15, .i32⟩
  | .hbm, ⟨9, _⟩ => ⟨S15, .i32⟩
  | .hbm, ⟨10, _⟩ => ⟨S_, .i32⟩
  | .hbm, ⟨11, _⟩ => ⟨S15, .i32⟩
  | .hbm, ⟨12, _⟩ => ⟨S32x64x16, .f32⟩
  | .hbm, ⟨13, _⟩ => ⟨S32x64x16x16, .f32⟩
  | .hbm, ⟨14, _⟩ => ⟨S_, .i32⟩
  | .hbm, ⟨15, _⟩ => ⟨S32x64x16, .f32⟩
  | .hbm, ⟨16, _⟩ => ⟨S32x64x16, .i1⟩
  | .hbm, ⟨17, _⟩ => ⟨S_, .i32⟩
  | .hbm, ⟨18, _⟩ => ⟨S_, .i1⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S32x64x1, .f32⟩
  | .hbm, ⟨43, _⟩ => ⟨S32x64, .f32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S32x64x1, .f32⟩
  | .hbm, ⟨66, _⟩ => ⟨S32x64, .f32⟩
  | .hbm, ⟨67, _⟩ => ⟨S32x64, .i1⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1, .i32⟩
  | .hbm, ⟨74, _⟩ => ⟨S32x64x16, .i1⟩
  | .hbm, ⟨75, _⟩ => ⟨S32x64x1, .i1⟩
  | .hbm, ⟨76, _⟩ => ⟨S32x64x1, .f32⟩
  | .hbm, ⟨77, _⟩ => ⟨S_, .f32⟩
  | .hbm, ⟨78, _⟩ => ⟨S32x64x1, .f32⟩
  | .hbm, ⟨79, _⟩ => ⟨S32x64x1, .f32⟩
  | .hbm, ⟨80, _⟩ => ⟨S_, .f32⟩
  | .hbm, ⟨81, _⟩ => ⟨S32x64x1, .f32⟩
  | .hbm, ⟨82, _⟩ => ⟨S32x64x1, .f32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i1⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S32x64x1x16, .f32⟩
  | .hbm, ⟨113, _⟩ => ⟨S32x64x16, .f32⟩
  | .hbm, ⟨114, _⟩ => ⟨S32x64x16, .f32⟩
  | .hbm, ⟨115, _⟩ => ⟨S32x64x16, .f32⟩
  | .hbm, ⟨116, _⟩ => ⟨S32x64x16, .f32⟩
  | .hbm, ⟨117, _⟩ => ⟨S_, .i32⟩
  | .hbm, ⟨118, _⟩ => ⟨S_, .i32⟩
  | .hbm, ⟨119, _⟩ => ⟨S1x1x1, .i1⟩
  | .hbm, ⟨120, _⟩ => ⟨S32x64x16, .i1⟩
  | .hbm, ⟨121, _⟩ => ⟨S32x64x16, .i1⟩
  | .hbm, ⟨122, _⟩ => ⟨S32x64x16, .f32⟩
  | _, _ => ⟨S32x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_while0c_c_7 : Ref sig .tc := ⟨.hbm, 17, rfl⟩
abbrev main_while0c_v9 : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_c_7 : Ref sig .tc := ⟨.hbm, 21, rfl⟩
abbrev main_while0b_c_8 : Ref sig .tc := ⟨.hbm, 22, rfl⟩
abbrev main_while0b_v10 : Ref sig .tc := ⟨.hbm, 23, rfl⟩
abbrev main_while0b_c_9 : Ref sig .tc := ⟨.hbm, 24, rfl⟩
abbrev main_while0b_c_10 : Ref sig .tc := ⟨.hbm, 25, rfl⟩
abbrev main_while0b_v11 : Ref sig .tc := ⟨.hbm, 26, rfl⟩
abbrev main_while0b_c_11 : Ref sig .tc := ⟨.hbm, 27, rfl⟩
abbrev main_while0b_v12 : Ref sig .tc := ⟨.hbm, 28, rfl⟩
abbrev main_while0b_c_12 : Ref sig .tc := ⟨.hbm, 29, rfl⟩
abbrev main_while0b_c_13 : Ref sig .tc := ⟨.hbm, 30, rfl⟩
abbrev main_while0b_v13 : Ref sig .tc := ⟨.hbm, 31, rfl⟩
abbrev main_while0b_c_14 : Ref sig .tc := ⟨.hbm, 32, rfl⟩
abbrev main_while0b_c_15 : Ref sig .tc := ⟨.hbm, 33, rfl⟩
abbrev main_while0b_v14 : Ref sig .tc := ⟨.hbm, 34, rfl⟩
abbrev main_while0b_c_16 : Ref sig .tc := ⟨.hbm, 35, rfl⟩
abbrev main_while0b_v15 : Ref sig .tc := ⟨.hbm, 36, rfl⟩
abbrev main_while0b_c_17 : Ref sig .tc := ⟨.hbm, 37, rfl⟩
abbrev main_while0b_v16 : Ref sig .tc := ⟨.hbm, 38, rfl⟩
abbrev main_while0b_c_18 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_c_19 : Ref sig .tc := ⟨.hbm, 44, rfl⟩
abbrev main_while0b_c_20 : Ref sig .tc := ⟨.hbm, 45, rfl⟩
abbrev main_while0b_v21 : Ref sig .tc := ⟨.hbm, 46, rfl⟩
abbrev main_while0b_c_21 : Ref sig .tc := ⟨.hbm, 47, rfl⟩
abbrev main_while0b_c_22 : Ref sig .tc := ⟨.hbm, 48, rfl⟩
abbrev main_while0b_v22 : Ref sig .tc := ⟨.hbm, 49, rfl⟩
abbrev main_while0b_c_23 : Ref sig .tc := ⟨.hbm, 50, rfl⟩
abbrev main_while0b_v23 : Ref sig .tc := ⟨.hbm, 51, rfl⟩
abbrev main_while0b_c_24 : Ref sig .tc := ⟨.hbm, 52, rfl⟩
abbrev main_while0b_c_25 : Ref sig .tc := ⟨.hbm, 53, rfl⟩
abbrev main_while0b_v24 : Ref sig .tc := ⟨.hbm, 54, rfl⟩
abbrev main_while0b_c_26 : Ref sig .tc := ⟨.hbm, 55, rfl⟩
abbrev main_while0b_c_27 : Ref sig .tc := ⟨.hbm, 56, rfl⟩
abbrev main_while0b_v25 : Ref sig .tc := ⟨.hbm, 57, rfl⟩
abbrev main_while0b_c_28 : Ref sig .tc := ⟨.hbm, 58, rfl⟩
abbrev main_while0b_v26 : Ref sig .tc := ⟨.hbm, 59, rfl⟩
abbrev main_while0b_c_29 : Ref sig .tc := ⟨.hbm, 60, rfl⟩
abbrev main_while0b_v27 : Ref sig .tc := ⟨.hbm, 61, rfl⟩
abbrev main_while0b_c_30 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_c_31 : Ref sig .tc := ⟨.hbm, 68, rfl⟩
abbrev main_while0b_v33 : Ref sig .tc := ⟨.hbm, 69, rfl⟩
abbrev main_while0b_c_32 : Ref sig .tc := ⟨.hbm, 70, rfl⟩
abbrev main_while0b_v34 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_cst : Ref sig .tc := ⟨.hbm, 77, rfl⟩
abbrev main_while0b_v40 : Ref sig .tc := ⟨.hbm, 78, rfl⟩
abbrev main_while0b_v41 : Ref sig .tc := ⟨.hbm, 79, rfl⟩
abbrev main_while0b_cst_33 : Ref sig .tc := ⟨.hbm, 80, rfl⟩
abbrev main_while0b_v42 : Ref sig .tc := ⟨.hbm, 81, rfl⟩
abbrev main_while0b_v43 : Ref sig .tc := ⟨.hbm, 82, rfl⟩
abbrev main_while0b_c_34 : Ref sig .tc := ⟨.hbm, 83, rfl⟩
abbrev main_while0b_c_35 : Ref sig .tc := ⟨.hbm, 84, rfl⟩
abbrev main_while0b_v44 : Ref sig .tc := ⟨.hbm, 85, rfl⟩
abbrev main_while0b_c_36 : Ref sig .tc := ⟨.hbm, 86, rfl⟩
abbrev main_while0b_c_37 : Ref sig .tc := ⟨.hbm, 87, rfl⟩
abbrev main_while0b_v45 : Ref sig .tc := ⟨.hbm, 88, rfl⟩
abbrev main_while0b_c_38 : Ref sig .tc := ⟨.hbm, 89, rfl⟩
abbrev main_while0b_v46 : Ref sig .tc := ⟨.hbm, 90, rfl⟩
abbrev main_while0b_c_39 : Ref sig .tc := ⟨.hbm, 91, rfl⟩
abbrev main_while0b_c_40 : Ref sig .tc := ⟨.hbm, 92, rfl⟩
abbrev main_while0b_v47 : Ref sig .tc := ⟨.hbm, 93, rfl⟩
abbrev main_while0b_c_41 : Ref sig .tc := ⟨.hbm, 94, rfl⟩
abbrev main_while0b_c_42 : Ref sig .tc := ⟨.hbm, 95, rfl⟩
abbrev main_while0b_v48 : Ref sig .tc := ⟨.hbm, 96, rfl⟩
abbrev main_while0b_c_43 : Ref sig .tc := ⟨.hbm, 97, rfl⟩
abbrev main_while0b_v49 : Ref sig .tc := ⟨.hbm, 98, rfl⟩
abbrev main_while0b_c_44 : Ref sig .tc := ⟨.hbm, 99, rfl⟩
abbrev main_while0b_v50 : Ref sig .tc := ⟨.hbm, 100, rfl⟩
abbrev main_while0b_c_45 : Ref sig .tc := ⟨.hbm, 101, rfl⟩
abbrev main_while0b_v51 : Ref sig .tc := ⟨.hbm, 102, rfl⟩
abbrev main_while0b_v52 : Ref sig .tc := ⟨.hbm, 103, rfl⟩
abbrev main_while0b_c_46 : Ref sig .tc := ⟨.hbm, 104, rfl⟩
abbrev main_while0b_c_47 : Ref sig .tc := ⟨.hbm, 105, rfl⟩
abbrev main_while0b_v53 : Ref sig .tc := ⟨.hbm, 106, rfl⟩
abbrev main_while0b_c_48 : Ref sig .tc := ⟨.hbm, 107, rfl⟩
abbrev main_while0b_c_49 : Ref sig .tc := ⟨.hbm, 108, rfl⟩
abbrev main_while0b_v54 : Ref sig .tc := ⟨.hbm, 109, rfl⟩
abbrev main_while0b_c_50 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_c_51 : Ref sig .tc := ⟨.hbm, 117, rfl⟩
abbrev main_while0b_v61 : Ref sig .tc := ⟨.hbm, 118, rfl⟩
abbrev main_v5 : Ref sig .tc := ⟨.hbm, 119, rfl⟩
abbrev main_v6 : Ref sig .tc := ⟨.hbm, 120, rfl⟩
abbrev main_v7 : Ref sig .tc := ⟨.hbm, 121, rfl⟩
abbrev main_v8 : Ref sig .tc := ⟨.hbm, 122, rfl⟩

abbrev nD : Nat := 1
abbrev τ : Topo := Topo.v7x

variable {F : FTy → Type} [FloatOps F]

abbrev main_while0_count : Scf.Loop 32 := ⟨0#32, 15#32, 1#32⟩
-- ==== Sel1.lean ====
abbrev S32x2048x64 : Shape := ⟨3, ![32, 2048, 64]⟩
abbrev S32x64x16 : Shape := ⟨3, ![32, 64, 16]⟩
abbrev S32x1024x64 : Shape := ⟨3, ![32, 1024, 64]⟩
abbrev S1x2048x64 : Shape := ⟨3, ![1, 2048, 64]⟩
abbrev S1x64x16 : Shape := ⟨3, ![1, 64, 16]⟩
abbrev S1x1024x64 : Shape := ⟨3, ![1, 1024, 64]⟩
abbrev S1x64x1 : Shape := ⟨3, ![1, 64, 1]⟩
abbrev S64x1 : Shape := ⟨2, ![64, 1]⟩
abbrev S1x64x64 : Shape := ⟨3, ![1, 64, 64]⟩
abbrev S64x64 : Shape := ⟨2, ![64, 64]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x64x16, .f32⟩
  | .hbm, ⟨3, _⟩ => ⟨S32x1024x64, .f32⟩
  | .hbm, ⟨4, _⟩ => ⟨S32x1024x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x64x16, .f32⟩
  | .local _ .vmem, ⟨5, _⟩ => ⟨S1x64x16, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefSel1Ideal.lean ====
abbrev S32x2048x64 : Shape := ⟨3, ![32, 2048, 64]⟩
abbrev S32x64x16 : Shape := ⟨3, ![32, 64, 16]⟩
abbrev S32x64x32x64 : Shape := ⟨4, ![32, 64, 32, 64]⟩
abbrev S_ : Shape := ⟨0, ![]⟩
abbrev S16 : Shape := ⟨1, ![16]⟩
abbrev S1x1x16 : Shape := ⟨3, ![1, 1, 16]⟩
abbrev S32x64x16x1 : Shape := ⟨4, ![32, 64, 16, 1]⟩
abbrev S32x64x16x64 : Shape := ⟨4, ![32, 64, 16, 64]⟩
abbrev S32x64x16x64x1 : Shape := ⟨5, ![32, 64, 16, 64, 1]⟩
abbrev S1 : Shape := ⟨1, ![1]⟩
abbrev S1x1x1x1x1 : Shape := ⟨5, ![1, 1, 1, 1, 1]⟩
abbrev S32x1024x64 : Shape := ⟨3, ![32, 1024, 64]⟩

abbrev nBuf : Space → Nat
  | .hbm => 68
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x64x16, .f32⟩
  | .hbm, ⟨3, _⟩ => ⟨S32x64x32x64, .f32⟩
  | .hbm, ⟨4, _⟩ => ⟨S32x64x32x64, .f32⟩
  | .hbm, ⟨5, _⟩ => ⟨S_, .f32⟩
  | .hbm, ⟨6, _⟩ => ⟨S32x64x16, .f32⟩
  | .hbm, ⟨7, _⟩ => ⟨S32x64x16, .i1⟩
  | .hbm, ⟨8, _⟩ => ⟨S32x64x16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S1x1x16, .i32⟩
  | .hbm, ⟨17, _⟩ => ⟨S32x64x16, .i32⟩
  | .hbm, ⟨18, _⟩ => ⟨S32x64x16, .i32⟩
  | .hbm, ⟨19, _⟩ => ⟨S32x64x16x1, .i32⟩
  | .hbm, ⟨20, _⟩ => ⟨S32x64x16x64, .i32⟩
  | .hbm, ⟨21, _⟩ => ⟨S_, .i32⟩
  | .hbm, ⟨22, _⟩ => ⟨S32x64x16x64, .i32⟩
  | .hbm, ⟨23, _⟩ => ⟨S32x64x16x64, .i1⟩
  | .hbm, ⟨24, _⟩ => ⟨S_, .i32⟩
  | .hbm, ⟨25, _⟩ => ⟨S32x64x16x64, .i32⟩
  | .hbm, ⟨26, _⟩ => ⟨S32x64x16x64, .i32⟩
  | .hbm, ⟨27, _⟩ => ⟨S32x64x16x64, .i32⟩
  | .hbm, ⟨28, _⟩ => ⟨S32x64x16x64x1, .i32⟩
  | .hbm, ⟨29, _⟩ => ⟨S1, .i32⟩
  | .hbm, ⟨30, _⟩ => ⟨S_, .i32⟩
  | .hbm, ⟨31, _⟩ => ⟨S32x64x16x64x1, .i32⟩
  | .hbm, ⟨32, _⟩ => ⟨S32x64x16x64x1, .i1⟩
  | .hbm, ⟨33, _⟩ => ⟨S1x1x1x1x1, .i32⟩
  | .hbm, ⟨34, _⟩ => ⟨S32x64x16x64x1, .i32⟩
  | .hbm, ⟨35, _⟩ => ⟨S32x64x16x64x1, .i1⟩
  | .hbm, ⟨36, _⟩ => ⟨S32x64x16x64x1, .i1⟩
  | .hbm, ⟨37, _⟩ => ⟨S_, .i1⟩
  | .hbm, ⟨38, _⟩ => ⟨S32x64x16x64, .i1⟩
  | .hbm, ⟨39, _⟩ => ⟨S32x64x16x64, .f32⟩
  | .hbm, ⟨40, _⟩ => ⟨S_, .f32⟩
  | .hbm, ⟨41, _⟩ => ⟨S32x64x16x64, .f32⟩
  | .hbm, ⟨42, _⟩ => ⟨S32x64x16x64, .f32⟩
  | .hbm, ⟨43, _⟩ => ⟨S32x64x16x64, .i32⟩
  | .hbm, ⟨44, _⟩ => ⟨S_, .i32⟩
  | .hbm, ⟨45, _⟩ => ⟨S32x64x16x64, .i32⟩
  | .hbm, ⟨46, _⟩ => ⟨S32x64x16x64, .i1⟩
  | .hbm, ⟨47, _⟩ => ⟨S_, .i32⟩
  | .hbm, ⟨48, _⟩ => ⟨S32x64x16x64, .i32⟩
  | .hbm, ⟨49, _⟩ => ⟨S32x64x16x64, .i32⟩
  | .hbm, ⟨50, _⟩ => ⟨S32x64x16x64, .i32⟩
  | .hbm, ⟨51, _⟩ => ⟨S32x64x16x64x1, .i32⟩
  | .hbm, ⟨52, _⟩ => ⟨S1, .i32⟩
  | .hbm, ⟨53, _⟩ => ⟨S_, .i32⟩
  | .hbm, ⟨54, _⟩ => ⟨S32x64x16x64x1, .i32⟩
  | .hbm, ⟨55, _⟩ => ⟨S32x64x16x64x1, .i1⟩
  | .hbm, ⟨56, _⟩ => ⟨S1x1x1x1x1, .i32⟩
  | .hbm, ⟨57, _⟩ => ⟨S32x64x16x64x1, .i32⟩
  | .hbm, ⟨58, _⟩ => ⟨S32x64x16x64x1, .i1⟩
  | .hbm, ⟨59, _⟩ => ⟨S32x64x16x64x1, .i1⟩
  | .hbm, ⟨60, _⟩ => ⟨S_, .i1⟩
  | .hbm, ⟨61, _⟩ => ⟨S32x64x16x64, .i1⟩
  | .hbm, ⟨62, _⟩ => ⟨S32x64x16x64, .f32⟩
  | .hbm, ⟨63, _⟩ => ⟨S_, .f32⟩
  | .hbm, ⟨64, _⟩ => ⟨S32x64x16x64, .f32⟩
  | .hbm, ⟨65, _⟩ => ⟨S32x64x16x64, .f32⟩
  | .hbm, ⟨66, _⟩ => ⟨S32x1024x64, .f32⟩
  | .hbm, ⟨67, _⟩ => ⟨S32x1024x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩

abbrev nD : Nat := 1
abbrev τ : Topo := Topo.v7x

variable {F : FTy → Type} [FloatOps F]
-- ==== Attn.lean ====
abbrev S2x4096x16x64 : Shape := ⟨4, ![2, 4096, 16, 64]⟩
abbrev S2x16x128x64 : Shape := ⟨4, ![2, 16, 128, 64]⟩
abbrev S1x1024x16x64 : Shape := ⟨4, ![1, 1024, 16, 64]⟩
abbrev S1x16x128x64 : Shape := ⟨4, ![1, 16, 128, 64]⟩
abbrev S1x1024x1x64 : Shape := ⟨4, ![1, 1024, 1, 64]⟩
abbrev S1024x64 : Shape := ⟨2, ![1024, 64]⟩
abbrev S1x1x128x64 : Shape := ⟨4, ![1, 1, 128, 64]⟩
abbrev S128x64 : Shape := ⟨2, ![128, 64]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x16x64, .f32⟩
  | .hbm, ⟨1, _⟩ => ⟨S2x16x128x64, .f32⟩
  | .hbm, ⟨2, _⟩ => ⟨S2x16x128x64, .f32⟩
  | .hbm, ⟨3, _⟩ => ⟨S2x4096x16x64, .f32⟩
  | .local _ .vmem, ⟨0, _⟩ => ⟨S1x1024x16x64, .f32⟩
  | .local _ .vmem, ⟨1, _⟩ => ⟨S1x1024x16x64, .f32⟩
  | .local _ .vmem, ⟨2, _⟩ => ⟨S1x16x128x64, .f32⟩
  | .local _ .vmem, ⟨3, _⟩ => ⟨S1x16x128x64, .f32⟩
  | .local _ .vmem, ⟨4, _⟩ => ⟨S1x16x128x64, .f32⟩
  | .local _ .vmem, ⟨5, _⟩ => ⟨S1x16x128x64, .f32⟩
  | .local _ .vmem, ⟨6, _⟩ => ⟨S1x1024x16x64, .f32⟩
  | .local _ .vmem, ⟨7, _⟩ => ⟨S1x1024x16x64, .f32⟩
  | _, _ => ⟨S2x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnIdeal.lean ====
variable {F : FTy → Type} [FloatOps F] [Named F]
def κ : String → Option EReal := fun
  | "st" => some (((Real.sqrt 8)⁻¹ : ℝ) : EReal)
  | _ => none
-- ==== RefAttnIdeal.lean ====
abbrev S2x4096x16x64 : Shape := ⟨4, ![2, 4096, 16, 64]⟩
abbrev S2x16x128x64 : Shape := ⟨4, ![2, 16, 128, 64]⟩
abbrev S_ : Shape := ⟨0, ![]⟩
abbrev S2x128x16x64 : Shape := ⟨4, ![2, 128, 16, 64]⟩
abbrev S2x16x4096x128 : Shape := ⟨4, ![2, 16, 4096, 128]⟩
abbrev S2x16x4096 : Shape := ⟨3, ![2, 16, 4096]⟩
abbrev S2x16x4096x1 : Shape := ⟨4, ![2, 16, 4096, 1]⟩
abbrev S2x16x64x4096 : Shape := ⟨4, ![2, 16, 64, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x16x64, .f32⟩
  | .hbm, ⟨1, _⟩ => ⟨S2x16x128x64, .f32⟩
  | .hbm, ⟨2, _⟩ => ⟨S2x16x128x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x4096x16x64, .f32⟩
  | .hbm, ⟨9, _⟩ => ⟨S2x4096x16x64, .f32⟩
  | .hbm, ⟨10, _⟩ => ⟨S2x128x16x64, .f32⟩
  | .hbm, ⟨11, _⟩ => ⟨S2x128x16x64, .f32⟩
  | .hbm, ⟨12, _⟩ => ⟨S2x16x4096x128, .f32⟩
  | .hbm, ⟨13, _⟩ => ⟨S_, .f32⟩
  | .hbm, ⟨14, _⟩ => ⟨S2x16x4096, .f32⟩
  | .hbm, ⟨15, _⟩ => ⟨S_, .f32⟩
  | .hbm, ⟨16, _⟩ => ⟨S2x16x4096, .f32⟩
  | .hbm, ⟨17, _⟩ => ⟨S2x16x4096, .f32⟩
  | .hbm, ⟨18, _⟩ => ⟨S2x16x4096x1, .f32⟩
  | .hbm, ⟨19, _⟩ => ⟨S2x16x4096x128, .f32⟩
  | .hbm, ⟨20, _⟩ => ⟨S2x16x4096x128, .f32⟩
  | .hbm, ⟨21, _⟩ => ⟨S2x16x4096x128, .f32⟩
  | .hbm, ⟨22, _⟩ => ⟨S_, .f32⟩
  | .hbm, ⟨23, _⟩ => ⟨S2x16x4096, .f32⟩
  | .hbm, ⟨24, _⟩ => ⟨S2x16x4096x1, .f32⟩
  | .hbm, ⟨25, _⟩ => ⟨S2x16x4096x128, .f32⟩
  | .hbm, ⟨26, _⟩ => ⟨S2x16x4096x128, .f32⟩
  | .hbm, ⟨27, _⟩ => ⟨S2x16x64x4096, .f32⟩
  | .hbm, ⟨28, _⟩ => ⟨S2x4096x16x64, .f32⟩
  | _, _ => ⟨S2x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Common.lean ====
/- Facts that the compression rounds share: the double difference of a symmetric matrix, the diagonal read off by an
   indicator sum, and the running maximum, computed by doubling on one side and by a window on the other. -/
module

public import Idealize.ShloMosaic.Lib.Pointwise

@[expose] public section

noncomputable section

namespace Cert.Rounds

open Idealize.ShloMosaic

/-! ## The kernel matrix and its double difference -/

/-- Entry `(p, q)` of the kernel matrix of the rows `k` (keys) and `v` (values). -/
def kmat {n : Nat} (k v : Fin n → Fin 64 → EReal) (sh bs : EReal) (p q : Fin n) : EReal :=
  ((∑ e, v p e * v q e) + bs) * Ideal.exp ((∑ e, k p e * k q e) - sh)

theorem kmat_symm {n : Nat} (k v : Fin n → Fin 64 → EReal) (sh bs : EReal) (p q : Fin n) :
    kmat k v sh bs p q = kmat k v sh bs q p := by
  unfold kmat
  rw [Finset.sum_congr rfl fun e _ => mul_comm (v p e) (v q e), Finset.sum_congr rfl fun e _ => mul_comm (k p e) (k q e)]

/-- The double difference at the pairs of rows `p, p + 1` and of columns `q, q + 1`: the columns first, then the rows. -/
def dd {n : Nat} (K : Fin n → Fin n → EReal) (p q : Nat) (hp : p + 1 < n) (hq : q + 1 < n) : EReal :=
  (K ⟨p, by omega⟩ ⟨q, by omega⟩ - K ⟨p, by omega⟩ ⟨q + 1, hq⟩) - (K ⟨p + 1, hp⟩ ⟨q, by omega⟩ - K ⟨p + 1, hp⟩ ⟨q + 1, hq⟩)

/-- For a symmetric matrix, differencing the rows first and then (after a transposition) the rows again gives the same. -/
theorem dd_symm {n : Nat} (K : Fin n → Fin n → EReal) (hK : ∀ p q, K p q = K q p) (p q : Nat) (hp : p + 1 < n) (hq : q + 1 < n) :
    (K ⟨q, by omega⟩ ⟨p, by omega⟩ - K ⟨q + 1, hq⟩ ⟨p, by omega⟩) - (K ⟨q, by omega⟩ ⟨p + 1, hp⟩ - K ⟨q + 1, hq⟩ ⟨p + 1, hp⟩)
      = dd K p q hp hq := by
  unfold dd
  rw [hK ⟨q, _⟩ ⟨p, _⟩, hK ⟨q + 1, _⟩ ⟨p, _⟩, hK ⟨q, _⟩ ⟨p + 1, _⟩, hK ⟨q + 1, _⟩ ⟨p + 1, _⟩]

theorem dd_congr {n : Nat} (K : Fin n → Fin n → EReal) {p q p' q' : Nat} (hp : p + 1 < n) (hq : q + 1 < n) (hp' : p' + 1 < n) (hq' : q' + 1 < n)
    (ep : p = p') (eq : q = q') : dd K p q hp hq = dd K p' q' hp' hq' := by subst ep eq; rfl

/-- The indicator of equal indices below `2 ^ 32`, as a float. -/
theorem sum_indicator {n : Nat} (hn : n < 2 ^ 32) (f : Fin n → EReal) (j : Fin n) :
    (∑ k : Fin n, f k * FloatOps.sitofp (F := Ideal) .f32
      ((IntOp.cmpi .eq (BitVec.ofNat 32 k.val) (BitVec.ofNat 32 j.val)).setWidth 32)) = f j := by
  rw [Finset.sum_eq_single j]
  · have : IntOp.cmpi .eq (BitVec.ofNat 32 j.val) (BitVec.ofNat 32 j.val) = 1#1 := by simp [IntOp.cmpi]
    rw [this]
    show f j * (((1#1 : BitVec 1).setWidth 32).toInt : ℝ) = f j
    have h1 : ((1#1 : BitVec 1).setWidth 32).toInt = 1 := by decide
    rw [h1]
    simp
  · intro k _ hk
    have hne : BitVec.ofNat 32 k.val ≠ BitVec.ofNat 32 j.val := by
      intro h
      have h' := congrArg BitVec.toNat h
      simp only [BitVec.toNat_ofNat] at h'
      have hk' := k.isLt
      have hj' := j.isLt
      rw [Nat.mod_eq_of_lt (by omega), Nat.mod_eq_of_lt (by omega)] at h'
      exact hk (Fin.ext h')
    have : IntOp.cmpi .eq (BitVec.ofNat 32 k.val) (BitVec.ofNat 32 j.val) = 0#1 := by
      show BitVec.ofBool (BitVec.ofNat 32 k.val == BitVec.ofNat 32 j.val) = 0#1
      rw [beq_eq_false_iff_ne.mpr hne]
      rfl
    rw [this]
    show f k * (((0#1 : BitVec 1).setWidth 32).toInt : ℝ) = 0
    have h1 : ((0#1 : BitVec 1).setWidth 32).toInt = 0 := by decide
    rw [h1]
    simp
  · intro h
    exact absurd (Finset.mem_univ j) h

/-! ## The running maximum -/

/-- The maximum of `f` over the indices up to and including `j`. -/
def runMax {m : Nat} (f : Fin m → EReal) (j : Fin m) : EReal := (Finset.univ.filter (· ≤ j)).sup f

theorem runMax_le {m : Nat} (f : Fin m → EReal) (j : Fin m) (z : EReal) : runMax f j ≤ z ↔ ∀ i, i ≤ j → f i ≤ z := by
  unfold runMax
  rw [Finset.sup_le_iff]
  simp

/-- Every entry `(a, j)` of `x` is the maximum of row `a` of `f` over the last `w` indices up to `j`. -/
def Win {A m : Nat} (f : Fin A → Fin m → EReal) (w : Nat) (x : FVec Ideal ⟨2, ![A, m]⟩ .f32) : Prop :=
  ∀ (a : Fin A) (j : Fin m) (z : EReal), x (ix2 a j) ≤ z ↔ ∀ i : Fin m, i.val ≤ j.val → j.val < i.val + w → f a i ≤ z

theorem win_one {A m : Nat} (x : FVec Ideal ⟨2, ![A, m]⟩ .f32) : Win (fun a j => x (ix2 a j)) 1 x := by
  intro a j z
  constructor
  · intro h i h1 h2
    have : i = j := Fin.ext (by omega)
    subst this
    exact h
  · intro h
    exact h j (Nat.le_refl _) (by omega)

theorem ofBits_ninf_f32 : Ideal.ofBits .f32 0xFF800000#32 = ⊥ := by simp [Ideal.ofBits, Ideal.ieee]

/-- One doubling step: the maximum with the row shifted by the window's width, `-∞` shifted in. -/
theorem win_step {A m : Nat} {f : Fin A → Fin m → EReal} {w : Nat} {x : FVec Ideal ⟨2, ![A, m]⟩ .f32} (s t : Nat) (hx : Win f w x)
    (hs : s = w) (hst : s + t = m) (c : EReal) (hc : c = ⊥)
    (h1 : (⟨2, ![A, m]⟩ : Shape).Slices ![0, 0] ⟨2, ![A, t]⟩)
    (h2 : Shape.Concatenates [⟨2, ![A, s]⟩, ⟨2, ![A, t]⟩] ⟨2, ![A, m]⟩ 1) :
    Win f (w + w) (maximumf x (concatenate (α := EReal) ⟨2, ![A, m]⟩ 1 [⟨⟨2, ![A, s]⟩, broadcast ⟨2, ![A, s]⟩ c⟩,
      ⟨⟨2, ![A, t]⟩, extractStridedSlice ⟨2, ![A, t]⟩ ![0, 0] x h1⟩] h2)) := by
  subst hs hst hc
  intro a j z
  have hj := j.isLt
  show max _ _ ≤ z ↔ _
  rw [max_le_iff, hx a j z]
  by_cases h : j.val < s
  · rw [concatenate_pair_apply_left (α := EReal) 1 _ _ h2 (ix2 a j) rfl (ix2 a ⟨j.val, h⟩) (fun b => by
      match b with
      | ⟨0, _⟩ => rfl
      | ⟨1, _⟩ => rfl)]
    rw [show broadcast ⟨2, ![A, s]⟩ (⊥ : EReal) (ix2 a ⟨j.val, h⟩) = ⊥ from rfl]
    constructor
    · rintro ⟨h0, -⟩ i hi _
      exact h0 i hi (by omega)
    · intro h0
      exact ⟨fun i hi hij => h0 i hi (by omega), bot_le⟩
  · rw [concatenate_pair_apply_right (α := EReal) 1 _ _ h2 (ix2 a j) rfl rfl (ix2 a ⟨j.val - s, by omega⟩) (fun b hb => by
      match b with
      | ⟨0, _⟩ => rfl
      | ⟨1, _⟩ => exact absurd rfl hb) (by show j.val - s + s = j.val; omega)]
    have e : extractStridedSlice ⟨2, ![A, t]⟩ ![0, 0] x h1 (ix2 a ⟨j.val - s, by omega⟩) = x (ix2 a ⟨j.val - s, by omega⟩) := by
      unfold extractStridedSlice
      refine congrArg x (funext fun b => Fin.ext ?_)
      match b with
      | ⟨0, _⟩ => exact Nat.zero_add _
      | ⟨1, _⟩ => exact Nat.zero_add _
    rw [e, hx a _ z]
    constructor
    · rintro ⟨h0, h1⟩ i hi hij
      by_cases hc : j.val < i.val + s
      · exact h0 i hi hc
      · exact h1 i (by show i.val ≤ j.val - s; omega) (by show j.val - s < i.val + s; omega)
    · intro h0
      exact ⟨fun i hi hij => h0 i hi (by omega), fun i hi hij => by
        have hi' : i.val ≤ j.val - s := hi
        have hij' : j.val - s < i.val + s := hij
        exact h0 i (by omega) (by omega)⟩

theorem win_full {A m : Nat} {f : Fin A → Fin m → EReal} {w : Nat} {x : FVec Ideal ⟨2, ![A, m]⟩ .f32} (hx : Win f w x) (hw : m ≤ w)
    (a : Fin A) (j : Fin m) : x (ix2 a j) = runMax (f a) j := by
  refine eq_of_forall_ge_iff fun z => ?_
  rw [hx a j z, runMax_le]
  exact ⟨fun h i hi => h i hi (by have := j.isLt; omega), fun h i hi _ => h i hi⟩

theorem foldl_max_le {ι : Type} (l : List ι) (f : ι → EReal) (v z : EReal) :
    l.foldl (fun r n => max r (f n)) v ≤ z ↔ v ≤ z ∧ ∀ n ∈ l, f n ≤ z := by
  induction l generalizing v with
  | nil => simp
  | cons b l ih =>
    rw [List.foldl_cons, ih, max_le_iff]
    simp [and_assoc]

/-- The window maximum of a row, as the host spells a running maximum. -/
theorem reduceWindow_max {G A m l : Nat} (hl : l + 1 = m) (x : FVec Ideal ⟨3, ![G, A, m]⟩ .f32) (init : FVec Ideal ⟨0, ![]⟩ .f32) (hi : ∀ i, init i = ⊥)
    (h : (⟨3, ![G, A, m]⟩ : Shape).ReduceWindows (![1, 1, m] : Fin 3 → Nat) ![1, 1, 1] ![0, 0, l] ![0, 0, 0] ⟨3, ![G, A, m]⟩)
    (hu : 0 < (⟨0, ![]⟩ : Shape).numel) (g : Fin G) (a : Fin A) (j : Fin m) :
    Host.reduceWindow (FloatOps.maximumf (F := Ideal) (φ := .f32)) ![1, 1, m] ![1, 1, 1] ![0, 0, l] ![0, 0, 0] x init h hu (ix3 g a j)
      = runMax (fun i => x (ix3 g a i)) j := by
  refine eq_of_forall_ge_iff fun z => ?_
  unfold Host.reduceWindow
  simp only [Ideal.maximumf_def]
  rw [foldl_max_le, runMax_le, hi]
  have hj := j.isLt
  constructor
  · rintro ⟨-, h0⟩ i hij
    have hij' : i.val ≤ j.val := hij
    have h1 := h0 ((⟨3, ![1, 1, m]⟩ : Shape).rowMajor (ix3 (0 : Fin 1) (0 : Fin 1) (⟨l - (j.val - i.val), by omega⟩ : Fin m))) (List.mem_finRange _)
    simp only [Equiv.symm_apply_apply] at h1
    rw [dif_pos (fun b => by
      match b with
      | ⟨0, _⟩ => exact ⟨Nat.zero_le _, by show g.val * 1 + 0 - 0 < G; have := g.isLt; omega⟩
      | ⟨1, _⟩ => exact ⟨Nat.zero_le _, by show a.val * 1 + 0 - 0 < A; have := a.isLt; omega⟩
      | ⟨2, _⟩ => exact ⟨by show l ≤ j.val * 1 + (l - (j.val - i.val)); omega, by show j.val * 1 + (l - (j.val - i.val)) - l < m; omega⟩)] at h1
    refine le_of_eq_of_le (congrArg x (funext fun b => Fin.ext ?_)) h1
    match b with
    | ⟨0, _⟩ => show g.val = g.val * 1 + 0 - 0; omega
    | ⟨1, _⟩ => show a.val = a.val * 1 + 0 - 0; omega
    | ⟨2, _⟩ => show i.val = j.val * 1 + (l - (j.val - i.val)) - l; omega
  · intro h0
    refine ⟨bot_le, fun n _ => ?_⟩
    obtain ⟨y, rfl⟩ : ∃ y, n = (⟨3, ![1, 1, m]⟩ : Shape).rowMajor y := ⟨_, (Equiv.apply_symm_apply _ _).symm⟩
    simp only [Equiv.symm_apply_apply]
    split
    · next hin =>
      have h2 : l ≤ j.val * 1 + (y 2).val ∧ j.val * 1 + (y 2).val - l < m := hin 2
      have hy : (y 2).val < m := (y 2).isLt
      have hy0 : (y 0).val < 1 := (y 0).isLt
      have hy1 : (y 1).val < 1 := (y 1).isLt
      refine le_of_eq_of_le (congrArg x (funext fun b => Fin.ext ?_)) (h0 ⟨j.val * 1 + (y 2).val - l, h2.2⟩ (by show j.val * 1 + (y 2).val - l ≤ j.val; omega))
      match b with
      | ⟨0, _⟩ => show g.val * 1 + (y 0).val - 0 = g.val; omega
      | ⟨1, _⟩ => show a.val * 1 + (y 1).val - 0 = a.val; omega
      | ⟨2, _⟩ => rfl
    · exact bot_le

/-! ## What one round's kernel-difference call computes -/

section
variable {S A m : Nat} (X0 X1 : FVec Ideal ⟨3, ![32, S, 64]⟩ .f32) (X2 : FVec Ideal ⟨3, ![32, A, m]⟩ .f32) (X3 X4 : FVec Ideal ⟨3, ![32, 1, 1]⟩ .f32)

/-- The kernel matrix of one batch and head. -/
def sKm (g : Fin 32) : Fin S → Fin S → EReal :=
  kmat (fun p e => X0 (ix3 g p e)) (fun p e => X1 (ix3 g p e)) (X3 (ix3 g 0 0)) (X4 (ix3 g 0 0))

theorem pair_lt {a i : Nat} (hS : A * (2 * m) = S) (ha : a < A) (hi : i < m) : a * (2 * m) + 2 * i + 1 < S := by
  have h := Nat.mul_le_mul_right (2 * m) (show a + 1 ≤ A from ha)
  rw [Nat.add_mul] at h
  omega

/-- The double differences of a batch and head, bucket by bucket. -/
def sKdAt (hS : A * (2 * m) = S) (g : Fin 32) (a : Fin A) (i j : Fin m) : EReal :=
  dd (sKm X0 X1 X3 X4 g) (a.val * (2 * m) + 2 * i.val) (a.val * (2 * m) + 2 * j.val) (pair_lt hS a.isLt i.isLt) (pair_lt hS a.isLt j.isLt)

/-- The square root of their diagonal. -/
def sRt (hS : A * (2 * m) = S) (g : Fin 32) (a : Fin A) (j : Fin m) : EReal := Ideal.sqrt (sKdAt X0 X1 X3 X4 hS g a j j)

def sKd (hS : A * (2 * m) = S) : FVec Ideal ⟨4, ![32, A, m, m]⟩ .f32 := fun y => sKdAt X0 X1 X3 X4 hS (y 0) (y 1) (y 2) (y 3)
def sC0 (hS : A * (2 * m) = S) (hm : 0 < m) : FVec Ideal ⟨3, ![32, A, m]⟩ .f32 := fun y => sKdAt X0 X1 X3 X4 hS (y 0) (y 1) ⟨0, hm⟩ (y 2)
def sU (hS : A * (2 * m) = S) : FVec Ideal ⟨3, ![32, A, m]⟩ .f32 := fun y =>
  X2 (ix3 (y 0) (y 1) (y 2)) * sRt X0 X1 X3 X4 hS (y 0) (y 1) (y 2) * runMax (sRt X0 X1 X3 X4 hS (y 0) (y 1)) (y 2)
end

/-! ## What one round's selection computes -/

/-- The rows that the swaps pick: of every pair of rows the odd one where the swap exceeds one half, else the even one. -/
def sSel {S A m n : Nat} (hS : 2 * n = S) (hn : A * m = n) (X : FVec Ideal ⟨3, ![32, S, 64]⟩ .f32) (sw : FVec Ideal ⟨3, ![32, A, m]⟩ .f32) :
    FVec Ideal ⟨3, ![32, n, 64]⟩ .f32 := fun y =>
  have h1 : (y 1).val < n := (y 1).isLt
  have hm : 0 < m := Nat.pos_of_ne_zero fun h => by subst h; omega
  if Ideal.ofBits .f32 0x3F000000#32 < sw (ix3 (y 0) ⟨(y 1).val / m, Nat.div_lt_of_lt_mul (by rw [Nat.mul_comm]; omega)⟩ ⟨(y 1).val % m, Nat.mod_lt _ hm⟩) then
    X (ix3 (y 0) ⟨2 * (y 1).val + 1, by omega⟩ (y 2)) else X (ix3 (y 0) ⟨2 * (y 1).val, by omega⟩ (y 2))

/-- The same at a bucket and a row of it. -/
theorem sSel_apply {S A m n : Nat} (hS : 2 * n = S) (hn : A * m = n) (X : FVec Ideal ⟨3, ![32, S, 64]⟩ .f32) (sw : FVec Ideal ⟨3, ![32, A, m]⟩ .f32)
    (g : Fin 32) (p : Fin n) (e : Fin 64) (a : Fin A) (j : Fin m) (hp : p.val = a.val * m + j.val) :
    sSel hS hn X sw (ix3 g p e) = if Ideal.ofBits .f32 0x3F000000#32 < sw (ix3 g a j) then
      X (ix3 g ⟨2 * p.val + 1, by have := p.isLt; omega⟩ e) else X (ix3 g ⟨2 * p.val, by have := p.isLt; omega⟩ e) := by
  have hm : 0 < m := Nat.lt_of_le_of_lt (Nat.zero_le _) j.isLt
  have e1 : p.val / m = a.val := by rw [hp, Nat.mul_comm, Nat.mul_add_div hm, Nat.div_eq_of_lt j.isLt, Nat.add_zero]
  have e2 : p.val % m = j.val := by rw [hp, Nat.mul_comm, Nat.mul_add_mod, Nat.mod_eq_of_lt j.isLt]
  have e3 : (ix3 g ⟨p.val / m, e1 ▸ a.isLt⟩ ⟨p.val % m, Nat.mod_lt _ hm⟩ : (⟨3, ![32, A, m]⟩ : Shape).Idx) = ix3 g a j :=
    congrArg₂ (fun x y => ix3 g x y) (Fin.ext e1) (Fin.ext e2)
  rw [← e3]
  rfl

end Cert.Rounds
-- ==== Proof.Kd4Pay.lean ====
/- The last round's kernel-difference call, one grid point: what its three output blocks hold, entry by entry. -/
module

public import proofs.«01_k».proof.Proof.Common
public import proofs.«01_k».proof.Proof.Gen.Kd4Ideal.Value
public import Idealize.ShloMosaic.Lib.Pointwise

@[expose] public section

noncomputable section

namespace Cert.Kd4Value

open Idealize.ShloMosaic Idealize.ShloMosaic.TcCoe Idealize.SL.Sem Cert.Rounds Cert.Kd4Ideal Cert.Kd4Ideal.Gen

/-! ## The scratch buffers and the loads of every second row -/

section
variable (x0 x1 : Vec Ideal S1x256x64 .f32) (x3 x4 : Vec Ideal S1x1x1 .f32)

/-- The kernel matrix as the two column halves of the first scratch. -/
def scr : Vec Ideal S2x256x128 .f32 :=
  View.canon [⟨Rect.unit ![1, 0, 0] ![1, 256, 128] inb_S2x256x128_S1x256x128_1_0_0, k0_pay6 x3 x4 x0 x1⟩,
    ⟨Rect.unit ![0, 0, 0] ![1, 256, 128] inb_S2x256x128_S1x256x128_0_0_0, k0_pay5 x3 x4 x0 x1⟩]

def ld00 : Vec Ideal S1x128x128 .f32 := fun j =>
  scr x0 x1 x3 x4 ((⟨![0, 0, 0], ![1, 128, 128], ![1, 2, 1], inb_S2x256x128_S1x128x128_0_0_0_s_1_2_1⟩ : LoadRect S2x256x128).idx j)
def ld01 : Vec Ideal S1x128x128 .f32 := fun j =>
  scr x0 x1 x3 x4 ((⟨![0, 1, 0], ![1, 128, 128], ![1, 2, 1], inb_S2x256x128_S1x128x128_0_1_0_s_1_2_1⟩ : LoadRect S2x256x128).idx j)
def ld10 : Vec Ideal S1x128x128 .f32 := fun j =>
  scr x0 x1 x3 x4 ((⟨![1, 0, 0], ![1, 128, 128], ![1, 2, 1], inb_S2x256x128_S1x128x128_1_0_0_s_1_2_1⟩ : LoadRect S2x256x128).idx j)
def ld11 : Vec Ideal S1x128x128 .f32 := fun j =>
  scr x0 x1 x3 x4 ((⟨![1, 1, 0], ![1, 128, 128], ![1, 2, 1], inb_S2x256x128_S1x128x128_1_1_0_s_1_2_1⟩ : LoadRect S2x256x128).idx j)

/-- The differenced rows, transposed: the second scratch. -/
def scr1 : Vec Ideal S256x128 .f32 :=
  k0_pay8 (k0_pay7 (ld00 x0 x1 x3 x4)) (ld01 x0 x1 x3 x4) (ld10 x0 x1 x3 x4) (ld11 x0 x1 x3 x4)

def even : Vec Ideal S128x128 .f32 := fun j =>
  scr1 x0 x1 x3 x4 ((⟨![0, 0], ![128, 128], ![2, 1], inb_S256x128_S128x128_0_0_s_2_1⟩ : LoadRect S256x128).idx j)
def odd : Vec Ideal S128x128 .f32 := fun j =>
  scr1 x0 x1 x3 x4 ((⟨![1, 0], ![128, 128], ![2, 1], inb_S256x128_S128x128_1_0_s_2_1⟩ : LoadRect S256x128).idx j)

/-- The rows of the two operands and the two scalars, as functions. -/
abbrev km (p q : Fin 256) : EReal := kmat (fun p e => x0 (ix3 0 p e)) (fun p e => x1 (ix3 0 p e)) (x3 (ix3 0 0 0)) (x4 (ix3 0 0 0)) p q

theorem pay4_apply (p q : Fin 256) : k0_pay4 (F := Ideal) x3 x4 x0 x1 (ix2 p q) = km x0 x1 x3 x4 p q := by
  pointwise [k0_pay4, kmat]

theorem pay5_apply (p : Fin 256) (q : Fin 128) : k0_pay5 (F := Ideal) x3 x4 x0 x1 (ix3 0 p q) = km x0 x1 x3 x4 p ⟨q.val, by omega⟩ := by
  rw [← pay4_apply]
  pointwise [k0_pay5]

theorem pay6_apply (p : Fin 256) (q : Fin 128) : k0_pay6 (F := Ideal) x3 x4 x0 x1 (ix3 0 p q) = km x0 x1 x3 x4 p ⟨128 + q.val, by omega⟩ := by
  rw [← pay4_apply]
  pointwise [k0_pay6]

theorem scr_zero (p : Fin 256) (q : Fin 128) : scr x0 x1 x3 x4 (ix3 0 p q) = km x0 x1 x3 x4 p ⟨q.val, by omega⟩ := by
  unfold scr
  rw [View.canon_cons_of_not_mem _ _ (by
    rw [Rect.mem_set_unit]
    intro h
    exact absurd (h 0).1 (by show ¬ (1 ≤ 0); omega))]
  have e : (ix3 0 p q : S2x256x128.Idx) = (Rect.unit ![0, 0, 0] ![1, 256, 128] inb_S2x256x128_S1x256x128_0_0_0).emb (ix3 0 p q) := by
    funext a
    apply Fin.ext
    match a with
    | ⟨0, _⟩ => rfl
    | ⟨1, _⟩ => show p.val = 0 + 1 * p.val; omega
    | ⟨2, _⟩ => show q.val = 0 + 1 * q.val; omega
  rw [e, View.canon_cons_emb]
  exact pay5_apply x0 x1 x3 x4 p q

theorem scr_one (p : Fin 256) (q : Fin 128) : scr x0 x1 x3 x4 (ix3 1 p q) = km x0 x1 x3 x4 p ⟨128 + q.val, by omega⟩ := by
  unfold scr
  have e : (ix3 1 p q : S2x256x128.Idx) = (Rect.unit ![1, 0, 0] ![1, 256, 128] inb_S2x256x128_S1x256x128_1_0_0).emb (ix3 0 p q) := by
    funext a
    apply Fin.ext
    match a with
    | ⟨0, _⟩ => rfl
    | ⟨1, _⟩ => show p.val = 0 + 1 * p.val; omega
    | ⟨2, _⟩ => show q.val = 0 + 1 * q.val; omega
  rw [e, View.canon_cons_emb]
  exact pay6_apply x0 x1 x3 x4 p q

theorem idx3 {off : Fin 3 → Nat} (h) (j : S1x128x128.Idx) (a : Fin 2) (b : Fin 2) (hoff : off = ![a.val, b.val, 0]) :
    (⟨off, ![1, 128, 128], ![1, 2, 1], h⟩ : LoadRect S2x256x128).idx j
      = ix3 a ⟨2 * (j 1).val + b.val, by have : (j 1).val < 128 := (j 1).isLt; omega⟩ ⟨(j 2).val, (j 2).isLt⟩ := by
  subst hoff
  have h0 : (j 0).val < 1 := (j 0).isLt
  funext d
  apply Fin.ext
  match d with
  | ⟨0, _⟩ => show a.val + 1 * (j 0).val = a.val; omega
  | ⟨1, _⟩ => show b.val + 2 * (j 1).val = 2 * (j 1).val + b.val; omega
  | ⟨2, _⟩ => show 0 + 1 * (j 2).val = (j 2).val; omega

theorem ld00_apply (i q : Fin 128) : ld00 x0 x1 x3 x4 (ix3 0 i q) = km x0 x1 x3 x4 ⟨2 * i.val, by omega⟩ ⟨q.val, by omega⟩ :=
  (congrArg (scr x0 x1 x3 x4) (idx3 _ (ix3 0 i q) 0 0 rfl)).trans (scr_zero x0 x1 x3 x4 _ _)
theorem ld01_apply (i q : Fin 128) : ld01 x0 x1 x3 x4 (ix3 0 i q) = km x0 x1 x3 x4 ⟨2 * i.val + 1, by omega⟩ ⟨q.val, by omega⟩ :=
  (congrArg (scr x0 x1 x3 x4) (idx3 _ (ix3 0 i q) 0 1 rfl)).trans (scr_zero x0 x1 x3 x4 _ _)
theorem ld10_apply (i q : Fin 128) : ld10 x0 x1 x3 x4 (ix3 0 i q) = km x0 x1 x3 x4 ⟨2 * i.val, by omega⟩ ⟨128 + q.val, by omega⟩ :=
  (congrArg (scr x0 x1 x3 x4) (idx3 _ (ix3 0 i q) 1 0 rfl)).trans (scr_one x0 x1 x3 x4 _ _)
theorem ld11_apply (i q : Fin 128) : ld11 x0 x1 x3 x4 (ix3 0 i q) = km x0 x1 x3 x4 ⟨2 * i.val + 1, by omega⟩ ⟨128 + q.val, by omega⟩ :=
  (congrArg (scr x0 x1 x3 x4) (idx3 _ (ix3 0 i q) 1 1 rfl)).trans (scr_one x0 x1 x3 x4 _ _)

theorem scr1_apply (q : Fin 256) (i : Fin 128) : scr1 x0 x1 x3 x4 (ix2 q i)
    = km x0 x1 x3 x4 ⟨2 * i.val, by omega⟩ q - km x0 x1 x3 x4 ⟨2 * i.val + 1, by omega⟩ q := by
  unfold scr1
  pointwise [k0_pay8, k0_pay7]
  split
  · next h =>
    exact congrArg₂ (fun a b : EReal => a - b) (ld00_apply x0 x1 x3 x4 i ⟨q.val, h⟩) (ld01_apply x0 x1 x3 x4 i ⟨q.val, h⟩)
  · next h =>
    have hq : (⟨128 + (q.val - 128), by omega⟩ : Fin 256) = q := Fin.ext (by show 128 + (q.val - 128) = q.val; omega)
    refine (congrArg₂ (fun a b : EReal => a - b) (ld10_apply x0 x1 x3 x4 i ⟨q.val - 128, by omega⟩) (ld11_apply x0 x1 x3 x4 i ⟨q.val - 128, by omega⟩)).trans ?_
    show km x0 x1 x3 x4 _ ⟨128 + (q.val - 128), _⟩ - km x0 x1 x3 x4 _ ⟨128 + (q.val - 128), _⟩ = _
    rw [hq]

theorem even_apply (i j : Fin 128) : even x0 x1 x3 x4 (ix2 i j)
    = km x0 x1 x3 x4 ⟨2 * j.val, by omega⟩ ⟨2 * i.val, by omega⟩ - km x0 x1 x3 x4 ⟨2 * j.val + 1, by omega⟩ ⟨2 * i.val, by omega⟩ := by
  unfold even
  have e : (⟨![0, 0], ![128, 128], ![2, 1], inb_S256x128_S128x128_0_0_s_2_1⟩ : LoadRect S256x128).idx (ix2 i j) = ix2 ⟨2 * i.val, by omega⟩ j := by
    funext d
    apply Fin.ext
    match d with
    | ⟨0, _⟩ => show 0 + 2 * i.val = 2 * i.val; omega
    | ⟨1, _⟩ => show 0 + 1 * j.val = j.val; omega
  rw [e, scr1_apply]

theorem odd_apply (i j : Fin 128) : odd x0 x1 x3 x4 (ix2 i j)
    = km x0 x1 x3 x4 ⟨2 * j.val, by omega⟩ ⟨2 * i.val + 1, by omega⟩ - km x0 x1 x3 x4 ⟨2 * j.val + 1, by omega⟩ ⟨2 * i.val + 1, by omega⟩ := by
  unfold odd
  have e : (⟨![1, 0], ![128, 128], ![2, 1], inb_S256x128_S128x128_1_0_s_2_1⟩ : LoadRect S256x128).idx (ix2 i j) = ix2 ⟨2 * i.val + 1, by omega⟩ j := by
    funext d
    apply Fin.ext
    match d with
    | ⟨0, _⟩ => show 1 + 2 * i.val = 2 * i.val + 1; omega
    | ⟨1, _⟩ => show 0 + 1 * j.val = j.val; omega
  rw [e, scr1_apply]

/-- The double difference as the call computes it is the reference's. -/
theorem kd_apply (i j : Fin 128) : even x0 x1 x3 x4 (ix2 i j) - odd x0 x1 x3 x4 (ix2 i j)
    = dd (km x0 x1 x3 x4) (2 * i.val) (2 * j.val) (by omega) (by omega) := by
  rw [even_apply, odd_apply]
  exact dd_symm (km x0 x1 x3 x4) (kmat_symm _ _ _ _) _ _ _ _

/-! ## The three results of a point -/

theorem pay10_apply (i j : Fin 128) : k0_pay10 (even x0 x1 x3 x4) (odd x0 x1 x3 x4) (ix4 0 0 i j)
    = dd (km x0 x1 x3 x4) (2 * i.val) (2 * j.val) (by omega) (by omega) := by
  rw [← kd_apply]
  pointwise [k0_pay10, k0_pay9]

theorem pay1_apply (j : Fin 128) : k0_pay1 (k0_pay11 (even x0 x1 x3 x4) (odd x0 x1 x3 x4)) (ix3 0 0 j)
    = dd (km x0 x1 x3 x4) 0 (2 * j.val) (by omega) (by omega) := by
  refine Eq.trans ?_ (kd_apply x0 x1 x3 x4 0 j)
  pointwise [k0_pay1, k0_pay11, k0_pay9]

/-- The square root of the diagonal. -/
def rt (j : Fin 128) : EReal := Ideal.sqrt (dd (km x0 x1 x3 x4) (2 * j.val) (2 * j.val) (by omega) (by omega))

theorem pay12_apply (j : Fin 128) : k0_pay12 (even x0 x1 x3 x4) (odd x0 x1 x3 x4) (ix2 0 j) = rt x0 x1 x3 x4 j := by
  unfold rt
  rw [← kd_apply]
  pointwise [k0_pay12, k0_pay9]
  exact congrArg Ideal.sqrt (sum_indicator (by omega) (fun k => even x0 x1 x3 x4 (ix2 k j) - odd x0 x1 x3 x4 (ix2 k j)) j)

theorem pay2_apply (x2 : Vec Ideal S1x1x128 .f32) (j : Fin 128) :
    k0_pay2 (k0_pay3 x2) (k0_pay12 (even x0 x1 x3 x4) (odd x0 x1 x3 x4)) (k0_pay13 (even x0 x1 x3 x4) (odd x0 x1 x3 x4))
      (Scalar.ofBits .f32 0xFF800000#32) (ix3 0 0 j)
      = x2 (ix3 0 0 j) * rt x0 x1 x3 x4 j * runMax (rt x0 x1 x3 x4) j := by
  have hb : Scalar.ofBits (F := Ideal) .f32 0xFF800000#32 = ⊥ := ofBits_ninf_f32
  have w1 := win_one (A := 1) (m := 128) (k0_pay12 (even x0 x1 x3 x4) (odd x0 x1 x3 x4))
  have w2 := win_step 1 127 w1 rfl rfl _ hb slices_S1x128_o0_0_S1x127 concatenates_S1x1_S1x127_S1x128_d1
  have w4 := win_step 2 126 w2 rfl rfl _ hb slices_S1x128_o0_0_S1x126 concatenates_S1x2_S1x126_S1x128_d1
  have w8 := win_step 4 124 w4 rfl rfl _ hb slices_S1x128_o0_0_S1x124 concatenates_S1x4_S1x124_S1x128_d1
  have w16 := win_step 8 120 w8 rfl rfl _ hb slices_S1x128_o0_0_S1x120 concatenates_S1x8_S1x120_S1x128_d1
  have w32 := win_step 16 112 w16 rfl rfl _ hb slices_S1x128_o0_0_S1x112 concatenates_S1x16_S1x112_S1x128_d1
  have w64 := win_step 32 96 w32 rfl rfl _ hb slices_S1x128_o0_0_S1x96 concatenates_S1x32_S1x96_S1x128_d1
  have w128 := win_step 64 64 w64 rfl rfl _ hb slices_S1x128_o0_0_S1x64 concatenates_S1x64_S1x64_S1x128_d1
  have e := win_full w128 (by omega) 0 j
  have er : (fun j : Fin 128 => k0_pay12 (even x0 x1 x3 x4) (odd x0 x1 x3 x4) (ix2 0 j)) = rt x0 x1 x3 x4 := funext (pay12_apply x0 x1 x3 x4)
  rw [er] at e
  rw [← e, ← pay12_apply]
  have e2 : x2 (ix3 0 0 j) = k0_pay3 x2 (ix2 0 j) := by pointwise [k0_pay3]
  rw [e2]
  unfold k0_pay2
  rw [shapeCast_apply _ _ (ix3 0 0 j : S1x1x128.Idx) (ix2 0 j : S1x128.Idx) (by
    rw [Shape.rowMajor_val_two, Shape.rowMajor_val_three]; rfl)]
  rfl

end

/-! ## The blocks the run leaves -/

variable (m : (ℓ : Loc nD τ sig) → Buf (Elt Ideal) ℓ) (c : Dev nD)

theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

theorem outs_eq (t : Fin cfg0.N) : outsAt0 m c t =
    (let ev := even (iblk m c 0 t) (iblk m c 1 t) (iblk m c 3 t) (iblk m c 4 t)
     let od := odd (iblk m c 0 t) (iblk m c 1 t) (iblk m c 3 t) (iblk m c 4 t)
     (k0_pay10 ev od, k0_pay1 (k0_pay11 ev od),
      k0_pay2 (k0_pay3 (iblk m c 2 t)) (k0_pay12 ev od) (k0_pay13 ev od) (Scalar.ofBits .f32 0xFF800000#32))) := by
  unfold outsAt0 out0_A_5 out0_A_6 out0_A_7
  dsimp only
  rw [View.read_writes_junk_eq_canon, View.read_writes_junk_eq_canon, View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, View.readCov_eq_canon',
    View.ld_unit_zero (S := S1x1x1) hz3, View.ld_unit_zero (S := S1x256x64) hz3, View.ld_unit_zero (S := S1x1x128) hz3,
    View.canon_unit_zero (S := S1x1x128x128) hz4, View.canon_unit_zero (S := S1x1x128) hz3, View.canon_unit_zero (S := S256x128) hz2]
  rfl

end Cert.Kd4Value
-- ==== Proof.Kd4Ref.lean ====
module

public import proofs.«01_k».proof.Proof.Common
public import proofs.«01_k».proof.Proof.Gen.RefKd4Ideal.Read
public import Idealize.ShloMosaic.Lib.Pointwise

@[expose] public section

noncomputable section

namespace Cert.Kd4Value

open Idealize.ShloMosaic Idealize.ShloMosaic.TcCoe Idealize.SL.Sem Cert.Rounds Cert.RefKd4Ideal Cert.RefKd4Ideal.Value Cert.RefKd4Ideal.Read

theorem gather_diag (g : Fin 32) (a : Fin 1) (i : Fin 128) (x : FVec Ideal S32x1x128x128 .f32) (k : IVec S128x2 32)
    (h0 : k (ix2 i 0) = BitVec.ofNat 32 i.val) (h1 : k (ix2 i 1) = BitVec.ofNat 32 i.val) :
    Host.gather gather_S32x1x128x128_S128x2_S32x1x128_01_23_n_n_23_1_32111 x k (ix3 g a i) = x (ix4 g a i i) := by
  have hi : (BitVec.ofNat 32 i.val).toInt.toNat = i.val := by
    have := i.isLt
    rw [BitVec.toInt_eq_toNat_of_lt (by simp; omega)]; simp; omega
  refine congrArg x (funext fun q => Fin.ext ?_)
  match q with
  | ⟨0, _⟩ => show 0 + 0 + g.val = g.val; omega
  | ⟨1, _⟩ => show 0 + 0 + a.val = a.val; omega
  | ⟨2, _⟩ =>
    show min (k _).toInt.toNat (128 - 1) + 0 + 0 = i.val
    have : k ((gather_S32x1x128x128_S128x2_S32x1x128_01_23_n_n_23_1_32111).siIdx (ix3 g a i) (⟨0, by decide⟩)) = BitVec.ofNat 32 i.val := by
      refine Eq.trans (congrArg k (funext fun b => ?_)) h0
      match b with
      | ⟨0, _⟩ => rfl
      | ⟨1, _⟩ => rfl
    rw [show ∀ y, min y (128 - 1) + 0 + 0 = min y 127 from fun _ => rfl]
    refine Eq.trans (congrArg (fun z : BitVec 32 => min z.toInt.toNat 127) this) ?_
    simp only [hi]; have := i.isLt; omega
  | ⟨3, _⟩ =>
    show min (k _).toInt.toNat (128 - 1) + 0 + 0 = i.val
    have : k ((gather_S32x1x128x128_S128x2_S32x1x128_01_23_n_n_23_1_32111).siIdx (ix3 g a i) (⟨1, by decide⟩)) = BitVec.ofNat 32 i.val := by
      refine Eq.trans (congrArg k (funext fun b => ?_)) h1
      match b with
      | ⟨0, _⟩ => rfl
      | ⟨1, _⟩ => rfl
    refine Eq.trans (congrArg (fun z : BitVec 32 => min z.toInt.toNat 127) this) ?_
    simp only [hi]; have := i.isLt; omega

theorem idx0 (i : Fin 128) : val_main_call0_v14 (F := Ideal) (ix2 i 0) = BitVec.ofNat 32 i.val := by
  unfold val_main_call0_v14
  pointwise [val_main_call0_v12, val_main_call0_v6, val_main_call0_v5, val_main_call0_v3, val_main_call0_v2, val_main_call0_v4, val_main_call0_c, val_main_call0_c_0, val_main_call0_v0]
  revert i; decide +kernel

theorem idx1 (i : Fin 128) : val_main_call0_v14 (F := Ideal) (ix2 i 1) = BitVec.ofNat 32 i.val := by
  unfold val_main_call0_v14
  pointwise [val_main_call0_v13, val_main_call0_v11, val_main_call0_v10, val_main_call0_v8, val_main_call0_v7, val_main_call0_v9, val_main_call0_c_1, val_main_call0_c_2, val_main_call0_v1]
  revert i; decide +kernel

variable (x0 x1 : (⟨S32x256x64, .f32⟩ : BufTy).Contents (Elt Ideal)) (x2 : (⟨S32x1x128, .f32⟩ : BufTy).Contents (Elt Ideal)) (x3 x4 : (⟨S32x1x1, .f32⟩ : BufTy).Contents (Elt Ideal))
    (g : Fin 32) (a : Fin 1)

theorem v11 (i j : Fin 256) : val_main_v11 x0 x1 x3 x4 (ix4 g a i j) = sKm x0 x1 x3 x4 g i j := by
  unfold val_main_v11 val_main_v10 val_main_v9 val_main_v8 val_main_v7 val_main_v6 val_main_v5 val_main_v4 val_main_v3 val_main_v2 val_main_v1 val_main_v0
  pointwise [sKm, kmat]

theorem v17 (i j : Fin 128) : val_main_v17 x0 x1 x3 x4 (ix4 g a i j) = sKdAt x0 x1 x3 x4 rfl g a i j := by
  unfold val_main_v17 val_main_v16 val_main_v15 val_main_v14 val_main_v13 val_main_v12
  pointwise [sKdAt, dd]
  refine congrArg₂ _ (congrArg₂ _ ((v11 ..).trans ?_) ((v11 ..).trans ?_)) (congrArg₂ _ ((v11 ..).trans ?_) ((v11 ..).trans ?_)) <;>
    exact congrArg₂ _ (Fin.ext (by have := a.isLt; first | omega | (dsimp only; omega))) (Fin.ext (by have := a.isLt; first | omega | (dsimp only; omega)))

theorem v20 (i : Fin 128) : val_main_v20 x0 x1 x3 x4 (ix3 g a i) = sKdAt x0 x1 x3 x4 rfl g a i i :=
  (gather_diag g a i _ _ (idx0 i) (idx1 i)).trans (v17 ..)

theorem v21 (i : Fin 128) : val_main_v21 x0 x1 x3 x4 (ix3 g a i) = sRt x0 x1 x3 x4 rfl g a i :=
  congrArg Ideal.sqrt (v20 ..)

theorem v24 (j : Fin 128) : val_main_v24 x0 x1 x2 x3 x4 (ix3 g a j) = sU x0 x1 x2 x3 x4 rfl (ix3 g a j) := by
  pointwise [val_main_v24, val_main_v22, sU]
  refine congrArg₂ _ (congrArg₂ _ rfl (v21 ..)) ?_
  refine (reduceWindow_max (l := 127) (m := 128) (by decide) _ _ (fun i => ofBits_ninf_f32) _ _ _ _ _).trans ?_
  · exact congrArg (fun f => runMax f j) (funext fun i => v21 ..)

theorem v19 (j : Fin 128) : val_main_v19 x0 x1 x3 x4 (ix3 g a j) = sC0 x0 x1 x3 x4 rfl (by decide) (ix3 g a j) := by
  unfold val_main_v19 val_main_v18
  pointwise [sC0]
  obtain rfl : a = 0 := Subsingleton.elim _ _
  exact v17 x0 x1 x3 x4 g 0 0 j

theorem v17_eq : val_main_v17 x0 x1 x3 x4 = sKd x0 x1 x3 x4 rfl := by
  funext y
  rw [eq_ix4 y]
  exact v17 ..

theorem v19_eq : val_main_v19 x0 x1 x3 x4 = sC0 x0 x1 x3 x4 rfl (by decide) := by
  funext y
  rw [eq_ix3 y]
  exact v19 ..

theorem v24_eq : val_main_v24 x0 x1 x2 x3 x4 = sU x0 x1 x2 x3 x4 rfl := by
  funext y
  rw [eq_ix3 y]
  exact v24 ..

end Cert.Kd4Value
-- ==== Proof.Kd4Value.lean ====
module

public import proofs.«01_k».proof.Proof.Kd4Pay
public import proofs.«01_k».proof.Proof.Kd4Ref
public import proofs.«01_k».proof.Defs
public import proofs.«01_k».proof.Proof.Gen.Kd4Ideal.Value
public import Idealize.ShloMosaic.Lib.Pipeline.ValueKit

@[expose] public section

noncomputable section

namespace Cert.Kd4Value

open Idealize.ShloMosaic Idealize.ShloMosaic.TcCoe Idealize.SL.Sem Cert.Rounds Cert.Kd4Ideal Cert.Kd4Ideal.Gen Cert.Kd4Ideal.Value

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, 0] := (by decide +kernel : ∀ t : Fin grid0.N, _)
theorem e5 : ∀ t : Fin cfg0.N, win0_5.index t = ![(grid0.coords t 0).val, 0, 0, 0] := (by decide +kernel : ∀ t : Fin grid0.N, _)
theorem e6 : ∀ t : Fin cfg0.N, win0_6.index t = ![(grid0.coords t 0).val, 0, 0] := (by decide +kernel : ∀ t : Fin grid0.N, _)
theorem e7 : ∀ t : Fin cfg0.N, win0_7.index t = ![(grid0.coords t 0).val, 0, 0] := (by decide +kernel : ∀ t : Fin grid0.N, _)

variable (m : (ℓ : Loc nD τ sig) → Buf (Elt Ideal) ℓ) (c : Dev nD)

theorem blk0 (t : Fin cfg0.N) (p : Fin 256) (e : Fin 64) :
    iblk m c 0 t (ix3 0 p e) = (m (c.tc.loc main_arg0)) (ix3 (grid0.coords t 0) p e) := by
  blk_simp [iblk, V, e0 t]
  refine congrArg _ (funext fun q => Fin.ext ?_)
  match q with
  | ⟨0, _⟩ => blk_simp [e0 t]; rfl
  | ⟨1, _⟩ => blk_simp [e0 t]
  | ⟨2, _⟩ => blk_simp [e0 t]

theorem blk1 (t : Fin cfg0.N) (p : Fin 256) (e : Fin 64) :
    iblk m c 1 t (ix3 0 p e) = (m (c.tc.loc main_arg1)) (ix3 (grid0.coords t 0) p e) := by
  blk_simp [iblk, V, e1 t]
  refine congrArg _ (funext fun q => Fin.ext ?_)
  match q with
  | ⟨0, _⟩ => blk_simp [e1 t]; rfl
  | ⟨1, _⟩ => blk_simp [e1 t]
  | ⟨2, _⟩ => blk_simp [e1 t]

theorem blk2 (t : Fin cfg0.N) (p : Fin 1) (e : Fin 128) :
    iblk m c 2 t (ix3 0 p e) = (m (c.tc.loc main_arg2)) (ix3 (grid0.coords t 0) p e) := by
  blk_simp [iblk, V, e2 t]
  refine congrArg _ (funext fun q => Fin.ext ?_)
  match q with
  | ⟨0, _⟩ => blk_simp [e2 t]; rfl
  | ⟨1, _⟩ => blk_simp [e2 t]
  | ⟨2, _⟩ => blk_simp [e2 t]

theorem blk3 (t : Fin cfg0.N) (p : Fin 1) (e : Fin 1) :
    iblk m c 3 t (ix3 0 p e) = (m (c.tc.loc main_arg3)) (ix3 (grid0.coords t 0) p e) := by
  blk_simp [iblk, V, e3 t]
  refine congrArg _ (funext fun q => Fin.ext ?_)
  match q with
  | ⟨0, _⟩ => blk_simp [e3 t]; rfl
  | ⟨1, _⟩ => blk_simp [e3 t]
  | ⟨2, _⟩ => blk_simp [e3 t]

theorem blk4 (t : Fin cfg0.N) (p : Fin 1) (e : Fin 1) :
    iblk m c 4 t (ix3 0 p e) = (m (c.tc.loc main_arg4)) (ix3 (grid0.coords t 0) p e) := by
  blk_simp [iblk, V, e4 t]
  refine congrArg _ (funext fun q => Fin.ext ?_)
  match q with
  | ⟨0, _⟩ => blk_simp [e4 t]; rfl
  | ⟨1, _⟩ => blk_simp [e4 t]
  | ⟨2, _⟩ => blk_simp [e4 t]

theorem km_blk (t : Fin cfg0.N) : km (iblk m c 0 t) (iblk m c 1 t) (iblk m c 3 t) (iblk m c 4 t) =
    sKm (m (c.tc.loc main_arg0)) (m (c.tc.loc main_arg1)) (m (c.tc.loc main_arg3)) (m (c.tc.loc main_arg4)) (grid0.coords t 0) := by
  unfold km sKm
  rw [blk3, blk4]
  exact congrArg₂ (fun k v => kmat k v _ _) (funext fun p => funext fun e => blk0 m c t p e) (funext fun p => funext fun e => blk1 m c t p e)

theorem kd_blk (t : Fin cfg0.N) (a : Fin 1) (i j : Fin 128) (hp hq) :
    dd (km (iblk m c 0 t) (iblk m c 1 t) (iblk m c 3 t) (iblk m c 4 t)) (2 * i.val) (2 * j.val) hp hq =
      sKdAt (m (c.tc.loc main_arg0)) (m (c.tc.loc main_arg1)) (m (c.tc.loc main_arg3)) (m (c.tc.loc main_arg4)) rfl (grid0.coords t 0) a i j := by
  rw [km_blk]
  have := a.isLt
  exact dd_congr _ _ _ _ _ (by omega) (by omega)

theorem emb5 (t : Fin cfg0.N) (i j : Fin 128) : (win0_5.blk t).view.emb (ix4 0 0 i j) = ix4 (grid0.coords t 0) 0 i j := by
  refine funext fun q => Fin.ext ?_
  match q with
  | ⟨0, _⟩ => blk_simp [e5 t]; rfl
  | ⟨1, _⟩ => blk_simp [e5 t]
  | ⟨2, _⟩ => blk_simp [e5 t]
  | ⟨3, _⟩ => blk_simp [e5 t]

theorem emb6 (t : Fin cfg0.N) (j : Fin 128) : (win0_6.blk t).view.emb (ix3 0 0 j) = ix3 (grid0.coords t 0) 0 j := by
  refine funext fun q => Fin.ext ?_
  match q with
  | ⟨0, _⟩ => blk_simp [e6 t]; rfl
  | ⟨1, _⟩ => blk_simp [e6 t]
  | ⟨2, _⟩ => blk_simp [e6 t]

theorem emb7 (t : Fin cfg0.N) (j : Fin 128) : (win0_7.blk t).view.emb (ix3 0 0 j) = ix3 (grid0.coords t 0) 0 j := by
  refine funext fun q => Fin.ext ?_
  match q with
  | ⟨0, _⟩ => blk_simp [e7 t]; rfl
  | ⟨1, _⟩ => blk_simp [e7 t]
  | ⟨2, _⟩ => blk_simp [e7 t]

theorem final5 : (dats m 0 c).arrAt 5 cfg0.N = sKd (m (c.tc.loc main_arg0)) (m (c.tc.loc main_arg1)) (m (c.tc.loc main_arg3)) (m (c.tc.loc main_arg4)) rfl := by
  refine (dats m 0 c).arrAt_eq_of_covers 5 _ (by decide +kernel) fun t hf y => ?_
  blk_simp [e5 t]
  refine (congrFun ((after0_5 m c t).trans (congrArg Prod.fst (outs_eq m c t))) y).trans ?_
  revert y
  refine fun (y : (⟨4, ![1, 1, 128, 128]⟩ : Shape).Idx) => ?_
  obtain ⟨a, b, i, j, rfl⟩ : ∃ (a b : Fin 1) (i j : Fin 128), y = ix4 a b i j := ⟨_, _, _, _, eq_ix4 y⟩
  obtain rfl : a = 0 := Subsingleton.elim _ _
  obtain rfl : b = 0 := Subsingleton.elim _ _
  exact (pay10_apply ..).trans ((kd_blk m c t 0 i j _ _).trans (congrArg (sKd (m (c.tc.loc main_arg0)) (m (c.tc.loc main_arg1)) (m (c.tc.loc main_arg3)) (m (c.tc.loc main_arg4)) rfl) (emb5 t i j)).symm)

theorem final6 : (dats m 0 c).arrAt 6 cfg0.N = sC0 (m (c.tc.loc main_arg0)) (m (c.tc.loc main_arg1)) (m (c.tc.loc main_arg3)) (m (c.tc.loc main_arg4)) rfl (by decide) := by
  refine (dats m 0 c).arrAt_eq_of_covers 6 _ (by decide +kernel) fun t hf y => ?_
  blk_simp [e6 t]
  refine (congrFun ((after0_6 m c t).trans (congrArg (fun z => z.2.1) (outs_eq m c t))) y).trans ?_
  revert y
  refine fun (y : (⟨3, ![1, 1, 128]⟩ : Shape).Idx) => ?_
  obtain ⟨a, b, j, rfl⟩ : ∃ (a b : Fin 1) (j : Fin 128), y = ix3 a b j := ⟨_, _, _, eq_ix3 y⟩
  obtain rfl : a = 0 := Subsingleton.elim _ _
  obtain rfl : b = 0 := Subsingleton.elim _ _
  exact (pay1_apply ..).trans ((kd_blk m c t 0 0 j (by decide) _).trans (congrArg (sC0 (m (c.tc.loc main_arg0)) (m (c.tc.loc main_arg1)) (m (c.tc.loc main_arg3)) (m (c.tc.loc main_arg4)) rfl (by decide)) (emb6 t j)).symm)

theorem rt_blk (t : Fin cfg0.N) (j : Fin 128) : rt (iblk m c 0 t) (iblk m c 1 t) (iblk m c 3 t) (iblk m c 4 t) j =
    sRt (A := 1) (m (c.tc.loc main_arg0)) (m (c.tc.loc main_arg1)) (m (c.tc.loc main_arg3)) (m (c.tc.loc main_arg4)) rfl (grid0.coords t 0) 0 j :=
  congrArg Ideal.sqrt (kd_blk m c t 0 j j _ _)

theorem final7 : (dats m 0 c).arrAt 7 cfg0.N = sU (m (c.tc.loc main_arg0)) (m (c.tc.loc main_arg1)) (m (c.tc.loc main_arg2)) (m (c.tc.loc main_arg3)) (m (c.tc.loc main_arg4)) rfl := by
  refine (dats m 0 c).arrAt_eq_of_covers 7 _ (by decide +kernel) fun t hf y => ?_
  blk_simp [e7 t]
  refine (congrFun ((after0_7 m c t).trans (congrArg (fun z => z.2.2) (outs_eq m c t))) y).trans ?_
  revert y
  refine fun (y : (⟨3, ![1, 1, 128]⟩ : Shape).Idx) => ?_
  obtain ⟨a, b, j, rfl⟩ : ∃ (a b : Fin 1) (j : Fin 128), y = ix3 a b j := ⟨_, _, _, eq_ix3 y⟩
  obtain rfl : a = 0 := Subsingleton.elim _ _
  obtain rfl : b = 0 := Subsingleton.elim _ _
  refine (pay2_apply ..).trans (Eq.trans ?_ (congrArg (sU (m (c.tc.loc main_arg0)) (m (c.tc.loc main_arg1)) (m (c.tc.loc main_arg2)) (m (c.tc.loc main_arg3)) (m (c.tc.loc main_arg4)) rfl) (emb7 t j)).symm)
  exact congrArg₂ (· * ·) (congrArg₂ (· * ·) (blk2 m c t 0 j) (rt_blk m c t j)) (congrArg (fun f => runMax f j) (funext fun i => rt_blk m c t i))

theorem algebraic : Cert.algebraic_Kd4Ideal_RefKd4Ideal (hKd4Ideal := Cert.Kd4Ideal.Gen.facts) (hRefKd4Ideal := Cert.RefKd4Ideal.Gen.facts) := by
  intro m g m' g' _ hm
  refine ⟨_, _, _, run_blocks m g, ?_⟩
  refine (θ_run _ _ _).mono (fun r h c => ?_) (Cert.RefKd4Ideal.Value.run m' g')
  obtain ⟨h17, h19, h24, hk⟩ := h c
  obtain ⟨a0, a1, a2, a3, a4⟩ := hm c
  refine ⟨h17.trans ?_, h19.trans ?_, h24.trans ?_, hk⟩
  · rw [Cert.RefKd4Ideal.Read.val_main_v17_eq, v17_eq, final5, a0, a1, a3, a4]
  · rw [Cert.RefKd4Ideal.Read.val_main_v19_eq, v19_eq, final6, a0, a1, a3, a4]
  · rw [Cert.RefKd4Ideal.Read.val_main_v24_eq, v24_eq, final7, a0, a1, a2, a3, a4]

end Cert.Kd4Value
-- ==== Proof.ScanSpec.lean ====
/- What a round's scan computes: row by row, the running cumulative differences and the swap bits they decide. -/
module

public import proofs.«01_k».proof.Proof.Common

@[expose] public section

noncomputable section

namespace Cert.Rounds

open Idealize.ShloMosaic

/-- A bit as a float. -/
def bitF (b : BitVec 1) : EReal := FloatOps.uitofp (F := Ideal) .f32 b

theorem bitF_zero : bitF 0#1 = 0 := by
  show (((0#1 : BitVec 1).toNat : ℝ) : EReal) = 0
  simp

theorem bitF_one : bitF 1#1 = 1 := by
  show (((1#1 : BitVec 1).toNat : ℝ) : EReal) = 1
  simp

theorem bit_cases (b : BitVec 1) : b = 0#1 ∨ b = 1#1 := by
  revert b
  decide

/-- A bit widened to a word and converted as a signed integer is the bit as a float. -/
theorem sitofp_bit (b : BitVec 1) : FloatOps.sitofp (F := Ideal) .f32 (b.setWidth 32) = bitF b := by
  rcases bit_cases b with rfl | rfl
  · rw [bitF_zero]
    show ((((0#1 : BitVec 1).setWidth 32).toInt : ℝ) : EReal) = 0
    rw [show ((0#1 : BitVec 1).setWidth 32).toInt = 0 by decide]
    simp
  · rw [bitF_one]
    show ((((1#1 : BitVec 1).setWidth 32).toInt : ℝ) : EReal) = 1
    rw [show ((1#1 : BitVec 1).setWidth 32).toInt = 1 by decide]
    simp

theorem neg_one_le : (-1 : EReal) ≤ 1 := by
  rw [← EReal.coe_one, ← EReal.coe_neg, EReal.coe_le_coe_iff]
  norm_num

/-- The absolute difference of two bits is their exclusive or. -/
theorem abs_sub_bit (a b : BitVec 1) : FloatOps.absf (F := Ideal) (φ := .f32) (bitF a - bitF b) = bitF (a ^^^ b) := by
  have h0 : FloatOps.absf (F := Ideal) (φ := .f32) ((0 : EReal)) = 0 := by
    show max (0 : EReal) (-0) = 0
    simp
  have h1 : FloatOps.absf (F := Ideal) (φ := .f32) ((1 : EReal)) = 1 := by
    show max (1 : EReal) (-1) = 1
    exact max_eq_left neg_one_le
  have h2 : FloatOps.absf (F := Ideal) (φ := .f32) ((-1 : EReal)) = 1 := by
    show max (-1 : EReal) (- -1) = 1
    rw [neg_neg]
    exact max_eq_right neg_one_le
  have e1 : (1 : EReal) - 1 = 0 := by
    rw [← EReal.coe_one, ← EReal.coe_sub, sub_self]
    rfl
  rcases bit_cases a with rfl | rfl <;> rcases bit_cases b with rfl | rfl
  · rw [bitF_zero, show (0#1 ^^^ 0#1 : BitVec 1) = 0#1 by decide, bitF_zero, sub_zero, h0]
  · rw [bitF_zero, bitF_one, show (0#1 ^^^ 1#1 : BitVec 1) = 1#1 by decide, bitF_one, zero_sub, h2]
  · rw [bitF_zero, bitF_one, show (1#1 ^^^ 0#1 : BitVec 1) = 1#1 by decide, bitF_one, sub_zero, h1]
  · rw [bitF_one, show (1#1 ^^^ 1#1 : BitVec 1) = 0#1 by decide, bitF_zero, e1, h0]

/-- The indicator of equal indices below `2 ^ 32`, as a float. -/
theorem ind_eq {p q : Nat} (hp : p < 2 ^ 32) (hq : q < 2 ^ 32) :
    FloatOps.sitofp (F := Ideal) .f32 ((IntOp.cmpi .eq (BitVec.ofNat 32 p) (BitVec.ofNat 32 q)).setWidth 32) = if p = q then 1 else 0 := by
  rw [sitofp_bit]
  by_cases h : p = q
  · subst h
    rw [show IntOp.cmpi .eq (BitVec.ofNat 32 p) (BitVec.ofNat 32 p) = 1#1 by simp [IntOp.cmpi], bitF_one, if_pos rfl]
  · have hne : BitVec.ofNat 32 p ≠ BitVec.ofNat 32 q := by
      intro h'
      have h'' := congrArg BitVec.toNat h'
      simp only [BitVec.toNat_ofNat] at h''
      rw [Nat.mod_eq_of_lt (by omega), Nat.mod_eq_of_lt (by omega)] at h''
      exact h h''
    have : IntOp.cmpi .eq (BitVec.ofNat 32 p) (BitVec.ofNat 32 q) = 0#1 := by
      show BitVec.ofBool (BitVec.ofNat 32 p == BitVec.ofNat 32 q) = 0#1
      rw [beq_eq_false_iff_ne.mpr hne]
      rfl
    rw [this, bitF_zero, if_neg h]

/-- The word that a loop from one counts: the trip's number and one. -/
theorem iv_one (k : Nat) : Scf.iv 1#32 1#32 k = BitVec.ofNat 32 (k + 1) := by
  unfold Scf.iv
  apply BitVec.eq_of_toNat_eq
  simp [Nat.add_comm]

/-! ## One row -/

section
variable {m : Nat} (K : Fin m → Fin m → EReal) (c0 u : Fin m → EReal)

/-- The swap bit of pair `i`: whether its threshold is at most its cumulative difference. -/
def scBit (u x : Fin m → EReal) (i : Fin m) : BitVec 1 := BitVec.ofBool (decide (u i ≤ x i))

/-- One step: the row `i` of the differences added, or taken away where the pair is swapped. -/
def scStep (x : Fin m → EReal) (i : Fin m) (j : Fin m) : EReal :=
  x j + (1 - Ideal.ofBits .f32 0x40000000#32 * bitF (scBit u x i)) * K i j

/-- The cumulative differences after the first `k` pairs past the zeroth. -/
def scCsd : Nat → Fin m → EReal
  | 0 => c0
  | k + 1 => if h : k + 1 < m then scStep K u (scCsd k) ⟨k + 1, h⟩ else scCsd k

theorem scCsd_succ (k : Nat) (h : k + 1 < m) : scCsd K c0 u (k + 1) = scStep K u (scCsd K c0 u k) ⟨k + 1, h⟩ := dif_pos h

/-- The swap bit of pair `j`: none for the zeroth. -/
def scSwap (j : Fin m) : BitVec 1 := if j.val = 0 then 0#1 else scBit u (scCsd K c0 u (j.val - 1)) j
end

/-- The swap bits of every batch, head and bucket, turned round where the flip says so, as floats. -/
def sScan {A m : Nat} (K : FVec Ideal ⟨4, ![32, A, m, m]⟩ .f32) (c0 u : FVec Ideal ⟨3, ![32, A, m]⟩ .f32) (fl : BitVec 1) : FVec Ideal ⟨3, ![32, A, m]⟩ .f32 := fun y =>
  bitF (scSwap (m := m) (fun i j => K (ix4 (y 0) (y 1) i j)) (fun j => c0 (ix3 (y 0) (y 1) j)) (fun j => u (ix3 (y 0) (y 1) j)) (y 2) ^^^ fl)

/-! ## One entry of a row, sliced out at a computed position -/

theorem slice1 {α : Type} {n i : Nat} (X : (⟨1, ![n]⟩ : Shape).Idx → α) (start : Fin 1 → Int) (s0 : start 0 = i) (hi : i < n)
    (h : (⟨1, ![n]⟩ : Shape).Slices (fun _ => 0) ⟨1, ![1]⟩) : Host.dynamicSlice ⟨1, ![1]⟩ X start h (ix1 0) = X (ix1 ⟨i, hi⟩) := by
  rw [Host.dynamicSlice_apply]
  refine congrArg X (funext fun q => Fin.ext ?_)
  match q with
  | ⟨0, _⟩ =>
    show Host.clampedStart _ _ h.1 start 0 + 0 = i
    rw [Host.clampedStart_of_le h.1 start 0 i s0 (by show i + 1 ≤ n; omega)]
    rfl

theorem slice3 {α : Type} {G A m i : Nat} (X : (⟨3, ![G, A, m]⟩ : Shape).Idx → α) (start : Fin 3 → Int) (s0 : start 0 = 0) (s1 : start 1 = 0) (s2 : start 2 = i)
    (hi : i < m) (h : (⟨3, ![G, A, m]⟩ : Shape).Slices (fun _ => 0) ⟨3, ![G, A, 1]⟩) (g : Fin G) (a : Fin A) :
    Host.dynamicSlice ⟨3, ![G, A, 1]⟩ X start h (ix3 g a 0) = X (ix3 g a ⟨i, hi⟩) := by
  rw [Host.dynamicSlice_apply]
  refine congrArg X (funext fun q => Fin.ext ?_)
  match q with
  | ⟨0, _⟩ =>
    show Host.clampedStart _ _ h.1 start 0 + g.val = g.val
    rw [Host.clampedStart_of_le h.1 start 0 0 s0 (by show 0 + G ≤ G; omega), Nat.zero_add]
  | ⟨1, _⟩ =>
    show Host.clampedStart _ _ h.1 start 1 + a.val = a.val
    rw [Host.clampedStart_of_le h.1 start 1 0 s1 (by show 0 + A ≤ A; omega), Nat.zero_add]
  | ⟨2, _⟩ =>
    show Host.clampedStart _ _ h.1 start 2 + 0 = i
    rw [Host.clampedStart_of_le h.1 start 2 i s2 (by show i + 1 ≤ m; omega)]
    rfl

theorem slice4 {α : Type} {G A m p i : Nat} (X : (⟨4, ![G, A, m, p]⟩ : Shape).Idx → α) (start : Fin 4 → Int) (s0 : start 0 = 0) (s1 : start 1 = 0) (s2 : start 2 = i)
    (s3 : start 3 = 0) (hi : i < m) (h : (⟨4, ![G, A, m, p]⟩ : Shape).Slices (fun _ => 0) ⟨4, ![G, A, 1, p]⟩) (g : Fin G) (a : Fin A) (j : Fin p) :
    Host.dynamicSlice ⟨4, ![G, A, 1, p]⟩ X start h (ix4 g a 0 j) = X (ix4 g a ⟨i, hi⟩ j) := by
  rw [Host.dynamicSlice_apply]
  refine congrArg X (funext fun q => Fin.ext ?_)
  match q with
  | ⟨0, _⟩ =>
    show Host.clampedStart _ _ h.1 start 0 + g.val = g.val
    rw [Host.clampedStart_of_le h.1 start 0 0 s0 (by show 0 + G ≤ G; omega), Nat.zero_add]
  | ⟨1, _⟩ =>
    show Host.clampedStart _ _ h.1 start 1 + a.val = a.val
    rw [Host.clampedStart_of_le h.1 start 1 0 s1 (by show 0 + A ≤ A; omega), Nat.zero_add]
  | ⟨2, _⟩ =>
    show Host.clampedStart _ _ h.1 start 2 + 0 = i
    rw [Host.clampedStart_of_le h.1 start 2 i s2 (by show i + 1 ≤ m; omega)]
    rfl
  | ⟨3, _⟩ =>
    show Host.clampedStart _ _ h.1 start 3 + j.val = j.val
    rw [Host.clampedStart_of_le h.1 start 3 0 s3 (by show 0 + p ≤ p; omega), Nat.zero_add]

/-- A small number, as a word read signed. -/
theorem toInt_small (i : Nat) (h : i < 2 ^ 31) : (BitVec.ofNat 32 i).toInt = i := by
  rw [BitVec.toInt_eq_toNat_of_lt (by rw [BitVec.toNat_ofNat, Nat.mod_eq_of_lt (by omega)]; omega), BitVec.toNat_ofNat, Nat.mod_eq_of_lt (by omega)]

/-- A small number is not below zero as a word read signed. -/
theorem slt_small (i : Nat) (h : i < 2 ^ 31) : IntOp.cmpi .slt (BitVec.ofNat 32 i) 0#32 = 0#1 := by
  show BitVec.ofBool ((BitVec.ofNat 32 i).slt 0#32) = 0#1
  have : (BitVec.ofNat 32 i).slt 0#32 = false := by
    rw [BitVec.slt, toInt_small i h]
    simp
  rw [this]
  rfl

end Cert.Rounds
-- ==== Proof.Scan4Pay.lean ====
module

public import proofs.«01_k».proof.Proof.ScanSpec
public import proofs.«01_k».proof.Proof.Gen.Scan4Ideal.Value
public import Idealize.ShloMosaic.Lib.Pipeline.ValueKit
public import Idealize.ShloMosaic.Lib.WholeRead

@[expose] public section

noncomputable section

namespace Cert.Scan4Value

open Idealize.ShloMosaic Idealize.ShloMosaic.TcCoe Idealize.SL.Sem Cert.Rounds Cert.Scan4Ideal Cert.Scan4Ideal.Gen Cert.Scan4Ideal.Value

theorem trips_eq : k0_t1_loop.trips = 127 := by decide +kernel

theorem trip_lt (t : Fin k0_t1_loop.trips) : t.val + 1 < 128 := by
  have h := Nat.lt_of_lt_of_eq t.isLt trips_eq
  omega

/-- The pair that trip `t` decides. -/
def pr (t : Fin k0_t1_loop.trips) : Fin 128 := ⟨t.val + 1, trip_lt t⟩

/-- The bit that trip `t` decides for row `n`. -/
theorem pay5_apply (v4 : Vec Ideal S32x1x128 .f32) (t : Fin k0_t1_loop.trips) (x : FVec Ideal S32x128 .f32) (n : Fin 32) :
    k0_pay5 v4 t x (ix2 n 0) = bitF (scBit (fun j => v4 (ix3 n 0 j)) (fun j => x (ix2 n j)) (pr t)) := by
  have h1 := sum_indicator (n := 128) (by norm_num) (fun j => v4 (ix3 n 0 j)) (pr t)
  have h2 := sum_indicator (n := 128) (by norm_num) (fun j => x (ix2 n j)) (pr t)
  pointwise [k0_pay5, k0_pay4]
  rw [iv_one, sitofp_bit]
  refine congrArg bitF (congrArg BitVec.ofBool (decide_eq_decide.mpr ?_))
  exact iff_of_eq (congrArg₂ (· ≤ ·) h1 h2)

theorem pay7_apply (v4 : Vec Ideal S32x1x128 .f32) (t : Fin k0_t1_loop.trips) (x : FVec Ideal S32x128 .f32) (w : Vec Ideal S32x1x1x128 .f32)
    (K : Fin 128 → Fin 128 → EReal) (n : Fin 32) (hw : ∀ j, w (ix4 n 0 0 j) = K (pr t) j) (j : Fin 128) :
    k0_pay7 v4 t x w (ix2 n j) = scStep K (fun j => v4 (ix3 n 0 j)) (fun j => x (ix2 n j)) (pr t) j := by
  have h5 := pay5_apply v4 t x n
  have hj := hw j
  pointwise [k0_pay7]
  rw [h5, hj]
  rfl

theorem pay6_apply (v0 : Vec Ideal S1x1x1 .f32) (fl : BitVec 1) (h0 : v0 (ix3 0 0 0) = bitF fl) (v4 : Vec Ideal S32x1x128 .f32) (t : Fin k0_t1_loop.trips)
    (x s : FVec Ideal S32x128 .f32) (n : Fin 32) (j : Fin 128) :
    k0_pay6 v0 v4 t x s (ix2 n j) = s (ix2 n j) + bitF (scBit (fun j => v4 (ix3 n 0 j)) (fun j => x (ix2 n j)) (pr t) ^^^ fl) * if j.val = t.val + 1 then 1 else 0 := by
  have h5 := pay5_apply v4 t x n
  have hi := ind_eq (p := j.val) (q := t.val + 1) (by have := j.isLt; omega) (by have := trip_lt t; omega)
  pointwise [k0_pay6, k0_pay4, k0_pay1]
  rw [h5, h0, iv_one, hi, abs_sub_bit]

theorem pay3_apply (v0 : Vec Ideal S1x1x1 .f32) (fl : BitVec 1) (h0 : v0 (ix3 0 0 0) = bitF fl) (n : Fin 32) (j : Fin 128) :
    k0_pay3 v0 (ix2 n j) = if j.val = 0 then bitF fl else 0 := by
  pointwise [k0_pay3, k0_pay1]
  rw [h0]
  by_cases h : j.val = 0
  · rw [h, if_pos rfl]
    rfl
  · rw [if_neg h]
    have hne : (BitVec.ofNat 32 j.val == 0#32) = false := by
      refine beq_eq_false_iff_ne.mpr fun e => h ?_
      have e' := congrArg BitVec.toNat e
      simp only [BitVec.toNat_ofNat] at e'
      rwa [Nat.mod_eq_of_lt (by have := j.isLt; omega)] at e'
    show Scalar.select (BitVec.ofBool (BitVec.ofNat 32 j.val == 0#32)) _ _ = _
    rw [hne]
    rfl

theorem pay2_apply (v2 : Vec Ideal S32x1x128 .f32) (n : Fin 32) (j : Fin 128) : k0_pay2 v2 (ix2 n j) = v2 (ix3 n 0 j) := by
  pointwise [k0_pay2]

theorem pay8_apply (x : FVec Ideal S32x128 .f32) (n : Fin 32) (j : Fin 128) : k0_pay8 x (ix3 n 0 j) = x (ix2 n j) := by
  pointwise [k0_pay8]

/-! ## The loop -/

section
variable (c : Dev nD) (bd : Option Variants.none.V) (i : grid0.Coords) (arg1 : Memref sig .tc .vmem S32x1x128x128 .f32) (harg1 : arg1.IsWhole)
  (arg2 : Memref sig .tc .vmem S32x1x128 .f32) (harg2 : arg2.IsWhole) (arg3 : Memref sig .tc .vmem S32x1x128 .f32) (harg3 : arg3.IsWhole)
  (arg4 : Memref sig .tc .vmem S1x1x1 .f32) (harg4 : arg4.IsWhole) (arg5 : Memref sig .tc .vmem S32x1x128 .f32) (harg5 : arg5.IsWhole)
  (x0 : Vec Ideal S32x1x128x128 .f32) (v0 : Vec Ideal S1x1x1 .f32) (v2 v4 : Vec Ideal S32x1x128 .f32)

/-- What a trip loads: one row of every batch and head's differences. -/
def row (x0 : Vec Ideal S32x1x128x128 .f32) (t : Fin k0_t1_loop.trips) : Vec Ideal S32x1x1x128 .f32 := fun y =>
  x0 ((Rect.unit (s := S32x1x128x128) (k0_off1 t) S32x1x1x128.size (k0_off1_inb t)).toLoadRect.idx y)

theorem row_apply (t : Fin k0_t1_loop.trips) (n : Fin 32) (j : Fin 128) : row x0 t (ix4 n 0 0 j) = x0 (ix4 n 0 (pr t) j) := by
  refine congrArg x0 (funext fun q => Fin.ext ?_)
  have := trip_lt t
  have e : (Scf.iv 1#32 1#32 t.val).toNat = t.val + 1 := by
    rw [iv_one, BitVec.toNat_ofNat, Nat.mod_eq_of_lt (by omega)]
  match q with
  | ⟨0, _⟩ => show 0 + 1 * n.val = n.val; omega
  | ⟨1, _⟩ => rfl
  | ⟨2, _⟩ =>
    show k0_off1 t 2 + 1 * 0 = t.val + 1
    unfold k0_off1
    dsimp
    exact e
  | ⟨3, _⟩ => show 0 + 1 * j.val = j.val; omega

theorem trip_eq (t : Fin k0_t1_loop.trips) (acc : FVec Ideal S32x128 .f32 × FVec Ideal S32x128 .f32) :
    tripR_k0_t1 Variants.none c bd i arg1 harg1 arg2 harg2 arg3 harg3 arg4 harg4 arg5 harg5 v0 v4 (harg1.unread x0) t acc
      = (k0_pay7 v4 t acc.1 (row x0 t), k0_pay6 v0 v4 t acc.1 acc.2) := by
  unfold tripR_k0_t1 trip_k0_t1
  dsimp only
  sl_unfold_words
  exact congrArg₂ Prod.mk (congrArg (k0_pay7 v4 t acc.1) (funext fun x => Memref.IsWhole.readAt_unread harg1 x0 _ x)) rfl

/-- The carried values before trip `k`: the cumulative differences, and the bits decided so far. -/
theorem st_spec (fl : BitVec 1) (h0 : v0 (ix3 0 0 0) = bitF fl) (k : Nat) (hk : k ≤ 127) (n : Fin 32) (j : Fin 128) :
    (st_k0_t1 Variants.none c bd i arg1 harg1 arg2 harg2 arg3 harg3 arg4 harg4 arg5 harg5 v0 v4 (harg1.unread x0) (k0_pay2 v2, k0_pay3 v0) k).1 (ix2 n j)
        = scCsd (fun a b => x0 (ix4 n 0 a b)) (fun b => v2 (ix3 n 0 b)) (fun b => v4 (ix3 n 0 b)) k j
    ∧ (st_k0_t1 Variants.none c bd i arg1 harg1 arg2 harg2 arg3 harg3 arg4 harg4 arg5 harg5 v0 v4 (harg1.unread x0) (k0_pay2 v2, k0_pay3 v0) k).2 (ix2 n j)
        = if j.val ≤ k then bitF (scSwap (fun a b => x0 (ix4 n 0 a b)) (fun b => v2 (ix3 n 0 b)) (fun b => v4 (ix3 n 0 b)) j ^^^ fl) else 0 := by
  induction k generalizing j with
  | zero =>
    rw [st_k0_t1_zero]
    refine ⟨pay2_apply v2 n j, (pay3_apply v0 fl h0 n j).trans ?_⟩
    by_cases h : j.val = 0
    · rw [if_pos h, if_pos (by omega), scSwap, if_pos h]
      simp
    · rw [if_neg h, if_neg (by omega)]
  | succ k ih =>
    have ih := ih (by omega)
    let t : Fin k0_t1_loop.trips := ⟨k, by rw [trips_eq]; omega⟩
    have e := st_k0_t1_succ Variants.none c bd i arg1 harg1 arg2 harg2 arg3 harg3 arg4 harg4 arg5 harg5 v0 v4 (harg1.unread x0) (k0_pay2 v2, k0_pay3 v0) t
    rw [trip_eq] at e
    rw [show k + 1 = t.val + 1 from rfl, e]
    have hx := funext fun b => (ih b).1
    constructor
    · rw [scCsd_succ _ _ _ _ (trip_lt t), ← hx]
      exact pay7_apply v4 t _ (row x0 t) (fun a b => x0 (ix4 n 0 a b)) n (fun j => row_apply x0 t n j) j
    · refine (pay6_apply v0 fl h0 v4 t _ _ n j).trans ?_
      rw [(ih j).2, hx]
      by_cases h : j.val = t.val + 1
      · have hj : j = pr t := Fin.ext h
        rw [if_pos h, if_pos (Nat.le_of_eq h), if_neg (show ¬ j.val ≤ k from by have : t.val = k := rfl; omega), zero_add, mul_one, scSwap, if_neg (by omega), ← hj, h]
        rfl
      · rw [if_neg h, mul_zero, add_zero]
        by_cases h' : j.val ≤ k
        · rw [if_pos h', if_pos (show j.val ≤ k + 1 by omega)]
        · rw [if_neg h', if_neg (show ¬ j.val ≤ k + 1 from by have : t.val = k := rfl; omega)]

end

end Cert.Scan4Value
-- ==== Proof.ScanSet.lean ====
/- A scatter of bits into one column, as the reference's scans do it. -/
module

public import proofs.«01_k».proof.Proof.ScanSpec
public import Idealize.ShloMosaic.Lib.Routing.OpsSet

@[expose] public section

noncomputable section

namespace Cert.Rounds

open Idealize.ShloMosaic Idealize.ShloMosaic.StableHlo

variable {A m : Nat} (d : ScatterDims ⟨3, ![32, A, m]⟩ ⟨1, ![1]⟩ ⟨2, ![32, A]⟩) (idx : IVec ⟨1, ![1]⟩ 32) (i : Fin m)
  (w0 : ∀ (g : Fin 32) (a : Fin A), d.window (ix2 g a) 0 = g.val) (w1 : ∀ (g : Fin 32) (a : Fin A), d.window (ix2 g a) 1 = a.val) (w2 : ∀ (g : Fin 32) (a : Fin A), d.window (ix2 g a) 2 = 0)
  (t0 : ∀ (g : Fin 32) (a : Fin A), d.start (ix2 g a) idx 0 = 0) (t1 : ∀ (g : Fin 32) (a : Fin A), d.start (ix2 g a) idx 1 = 0) (t2 : ∀ (g : Fin 32) (a : Fin A), d.start (ix2 g a) idx 2 = i.val)

include w0 w1 w2 t0 t1 t2 in
/-- Where an update lands. -/
theorem lands (g g' : Fin 32) (a a' : Fin A) (j : Fin m) :
    d.resultIdx? (ix2 g' a') idx = some (ix3 g a j) ↔ g' = g ∧ a' = a ∧ j = i := by
  unfold ScatterDims.resultIdx?
  rw [dif_pos fun q => by
    match q with
    | ⟨0, _⟩ =>
      show 0 ≤ d.start (ix2 g' a') idx 0 + d.window (ix2 g' a') 0
        ∧ d.start (ix2 g' a') idx 0 + d.window (ix2 g' a') 0 < ((32 : Nat) : Int)
      rw [t0, w0]
      have := g'.isLt
      omega
    | ⟨1, _⟩ =>
      show 0 ≤ d.start (ix2 g' a') idx 1 + d.window (ix2 g' a') 1
        ∧ d.start (ix2 g' a') idx 1 + d.window (ix2 g' a') 1 < ((A : Nat) : Int)
      rw [t1, w1]
      have := a'.isLt
      omega
    | ⟨2, _⟩ =>
      show 0 ≤ d.start (ix2 g' a') idx 2 + d.window (ix2 g' a') 2
        ∧ d.start (ix2 g' a') idx 2 + d.window (ix2 g' a') 2 < ((m : Nat) : Int)
      rw [t2, w2]
      have := i.isLt
      omega, Option.some.injEq]
  constructor
  · intro h
    have h0 : (d.start (ix2 g' a') idx 0 + d.window (ix2 g' a') 0).toNat = g.val := congrArg Fin.val (congrFun h 0)
    have h1 : (d.start (ix2 g' a') idx 1 + d.window (ix2 g' a') 1).toNat = a.val := congrArg Fin.val (congrFun h 1)
    have h2 : (d.start (ix2 g' a') idx 2 + d.window (ix2 g' a') 2).toNat = j.val := congrArg Fin.val (congrFun h 2)
    rw [t0, w0] at h0
    rw [t1, w1] at h1
    rw [t2, w2] at h2
    exact ⟨Fin.ext (by omega), Fin.ext (by omega), Fin.ext (by omega)⟩
  · rintro ⟨rfl, rfl, rfl⟩
    refine funext fun q => Fin.ext ?_
    match q with
    | ⟨0, _⟩ =>
      show (d.start (ix2 g' a') idx 0 + d.window (ix2 g' a') 0).toNat = g'.val
      rw [t0, w0]
      omega
    | ⟨1, _⟩ =>
      show (d.start (ix2 g' a') idx 1 + d.window (ix2 g' a') 1).toNat = a'.val
      rw [t1, w1]
      omega
    | ⟨2, _⟩ =>
      show (d.start (ix2 g' a') idx 2 + d.window (ix2 g' a') 2).toNat = j.val
      rw [t2, w2]
      omega

include w0 w1 w2 t0 t1 t2 in
/-- A scatter into column `i`. -/
theorem scatter_col (X : IVec ⟨3, ![32, A, m]⟩ 1) (b : IVec ⟨2, ![32, A]⟩ 1) (g : Fin 32) (a : Fin A) (j : Fin m) :
    Host.scatter d (fun _ b => b) X idx b (ix3 g a j) = if j = i then b (ix2 g a) else X (ix3 g a j) := by
  have hl : ∀ q, d.resultIdx? q idx = some (ix3 g a j) → q = ix2 g a ∧ j = i := fun q hq => by
    obtain ⟨g', a', rfl⟩ : ∃ (g' : Fin 32) (a' : Fin A), q = ix2 g' a' := ⟨_, _, eq_ix2 q⟩
    obtain ⟨rfl, rfl, h⟩ := (lands d idx i w0 w1 w2 t0 t1 t2 g g' a a' j).1 hq
    exact ⟨rfl, h⟩
  by_cases h : j = i
  · rw [if_pos h]
    exact Routing.scatter_set_hit _ _ _ _ _ _ (fun q hq => by rw [(hl q hq).1]) (ix2 g a) ((lands d idx i w0 w1 w2 t0 t1 t2 g g a a j).2 ⟨rfl, rfl, h⟩)
  · rw [if_neg h]
    exact Routing.scatter_set_miss _ _ _ _ _ fun q hq => h (hl q hq).2

end Cert.Rounds
-- ==== Proof.Scan4Ref.lean ====
module

public import proofs.«01_k».proof.Proof.ScanSet
public import proofs.«01_k».proof.Proof.Gen.RefScan4Ideal.Run

@[expose] public section

noncomputable section

namespace Cert.Scan4Value

open Idealize.ShloMosaic Idealize.ShloMosaic.TcCoe Idealize.SL.Sem Idealize.ShloMosaic.StableHlo Cert.Rounds Cert.RefScan4Ideal Cert.RefScan4Ideal.Gen Cert.RefScan4Ideal.Value

/-! ## The operations, on arrays of plain types -/

theorem word_of (X : IVec S127 32) (start : Fin 1 → Int) (k : Nat) (hk : k + 1 < 128) (s0 : start 0 = k) (hX : ∀ y, X y = BitVec.ofNat 32 ((y 0).val + 1)) :
    shapeCast S_ (Host.dynamicSlice S1 X start sliceFits_S127_S1) shapeCasts_S1_S_ = fun _ => BitVec.ofNat 32 (k + 1) := by
  refine funext fun y => ?_
  obtain rfl : y = ix0 := Subsingleton.elim _ _
  have h : Host.dynamicSlice S1 X start sliceFits_S127_S1 (ix1 0) = _ := slice1 X start s0 (show k < 127 by omega) sliceFits_S127_S1
  rw [hX] at h
  generalize Host.dynamicSlice S1 X start sliceFits_S127_S1 = X' at h ⊢
  pointwise []
  exact h

theorem bit_of (U C : FVec Ideal S32x1x128 .f32) (start : Fin 3 → Int) (i : Fin 128) (s0 : start 0 = 0) (s1 : start 1 = 0) (s2 : start 2 = i.val) (g : Fin 32) (a : Fin 1) :
    cmpf .ole (shapeCast S32x1 (Host.dynamicSlice S32x1x1 U start sliceFits_S32x1x128_S32x1x1) shapeCasts_S32x1x1_S32x1)
      (shapeCast S32x1 (Host.dynamicSlice S32x1x1 C start sliceFits_S32x1x128_S32x1x1) shapeCasts_S32x1x1_S32x1) (ix2 g a)
      = scBit (fun j => U (ix3 g a j)) (fun j => C (ix3 g a j)) i := by
  have hU : Host.dynamicSlice S32x1x1 U start sliceFits_S32x1x128_S32x1x1 (ix3 g a 0) = _ := slice3 U start s0 s1 s2 i.isLt sliceFits_S32x1x128_S32x1x1 g a
  have hC : Host.dynamicSlice S32x1x1 C start sliceFits_S32x1x128_S32x1x1 (ix3 g a 0) = _ := slice3 C start s0 s1 s2 i.isLt sliceFits_S32x1x128_S32x1x1 g a
  generalize Host.dynamicSlice S32x1x1 U start sliceFits_S32x1x128_S32x1x1 = U' at hU ⊢
  generalize Host.dynamicSlice S32x1x1 C start sliceFits_S32x1x128_S32x1x1 = C' at hC ⊢
  obtain rfl : a = 0 := Subsingleton.elim _ _
  pointwise []
  rw [hU, hC]
  rfl

theorem csd_of (K : FVec Ideal S32x1x128x128 .f32) (C : FVec Ideal S32x1x128 .f32) (b : IVec S32x1 1) (start : Fin 4 → Int) (i : Fin 128)
    (s0 : start 0 = 0) (s1 : start 1 = 0) (s2 : start 2 = i.val) (s3 : start 3 = 0) (u : Fin 128 → EReal) (g : Fin 32) (a : Fin 1) (j : Fin 128)
    (hb : b (ix2 g a) = scBit u (fun j => C (ix3 g a j)) i) :
    addf C (mulf (broadcastInDim S32x1x128 ![0, 1, 2] bcast_S32x1x1_S32x1x128_0_1_2 (subf (broadcastInDim S32x1x1 ![] bcast_S_S32x1x1 (constant S_ .f32 0x3F800000#32))
        (mulf (broadcastInDim S32x1x1 ![] bcast_S_S32x1x1 (constant S_ .f32 0x40000000#32)) (uitofp .f32 (broadcastInDim S32x1x1 ![0, 1] bcast_S32x1_S32x1x1_0_1 b)))))
      (shapeCast S32x1x128 (Host.dynamicSlice S32x1x1x128 K start sliceFits_S32x1x128x128_S32x1x1x128) shapeCasts_S32x1x1x128_S32x1x128)) (ix3 g a j)
      = scStep (fun p q => K (ix4 g a p q)) u (fun j => C (ix3 g a j)) i j := by
  have hK : Host.dynamicSlice S32x1x1x128 K start sliceFits_S32x1x128x128_S32x1x1x128 (ix4 g a 0 j) = _ := slice4 K start s0 s1 s2 s3 i.isLt sliceFits_S32x1x128x128_S32x1x1x128 g a j
  generalize Host.dynamicSlice S32x1x1x128 K start sliceFits_S32x1x128x128_S32x1x1x128 = K' at hK ⊢
  obtain rfl : a = 0 := Subsingleton.elim _ _
  pointwise []
  rw [hb, hK]
  rfl

theorem swaps_of (X : IVec S32x1x128 1) (idx : IVec S1 32) (b : IVec S32x1 1) (i : Fin 128) (hi : (idx (ix1 0)).toInt = (i.val : Int)) (g : Fin 32) (a : Fin 1) (j : Fin 128) :
    Host.scatter scatter_S32x1x128_S1_S32x1_01_2_2_0 (fun _ b => b) X idx b (ix3 g a j) = if j = i then b (ix2 g a) else X (ix3 g a j) :=
  scatter_col scatter_S32x1x128_S1_S32x1_01_2_2_0 idx i (fun _ _ => rfl) (fun _ _ => rfl) (fun _ _ => rfl) (fun _ _ => rfl) (fun _ _ => rfl)
    (fun _ _ => hi ▸ congrArg (fun y => (idx y).toInt) (funext fun q => match q with | ⟨0, _⟩ => Subsingleton.elim (α := Fin 1) _ _)) X b g a j

/-! ## One step -/

section
variable (W : Valuation τ sig (Elt Ideal)) (k : Nat) (hk : k + 1 < 128)
  (h3 : W (Proc.devRef .tc main_v4_3) = fun _ => BitVec.ofNat 32 k)
  (h0 : W (Proc.devRef .tc main_v4_0) = fun y => BitVec.ofNat 32 ((y 0).val + 1))

include hk h3 h0 in
/-- The pair that the trip decides. -/
theorem word : res_main_while0b_v9 W = fun _ => BitVec.ofNat 32 (k + 1) := by
  unfold res_main_while0b_v9
  refine word_of (W (Proc.devRef .tc main_v4_0)) _ k hk ?_ (fun y => congrFun h0 y)
  show ((W (Proc.devRef .tc main_v4_3)) (Shape.Idx.first h_S_)).toInt = k
  rw [h3]
  exact toInt_small k (by omega)

include hk h3 h0 in
theorem wordOk : (select (cmpi .slt (res_main_while0b_v9 W) (constantI S_ 32 0#32)) (addi (res_main_while0b_v9 W) (constantI S_ 32 128#32)) (res_main_while0b_v9 W)) = fun _ => BitVec.ofNat 32 (k + 1) := by
  rw [word W k hk h3 h0]
  refine funext fun y => ?_
  show Scalar.select (IntOp.cmpi .slt (BitVec.ofNat 32 (k + 1)) 0#32) _ _ = _
  rw [slt_small (k + 1) (by omega)]
  rfl

include hk h3 h0 in
theorem bit (g : Fin 32) (a : Fin 1) :
    res_main_while0b_v32 W (ix2 g a) = scBit (fun j => W (Proc.devRef .tc main_v4_1) (ix3 g a j)) (fun j => W (Proc.devRef .tc main_v4_4) (ix3 g a j)) ⟨k + 1, hk⟩ := by
  unfold res_main_while0b_v32
  rw [wordOk W k hk h3 h0]
  exact bit_of (W (Proc.devRef .tc main_v4_1)) (W (Proc.devRef .tc main_v4_4)) _ ⟨k + 1, hk⟩ rfl rfl (toInt_small (k + 1) (by omega)) g a

include hk h3 h0 in
theorem csd (g : Fin 32) (a : Fin 1) (j : Fin 128) :
    step_main_v4_4 W (ix3 g a j) = scStep (fun p q => W (Proc.devRef .tc main_v4_2) (ix4 g a p q)) (fun j => W (Proc.devRef .tc main_v4_1) (ix3 g a j)) (fun j => W (Proc.devRef .tc main_v4_4) (ix3 g a j)) ⟨k + 1, hk⟩ j := by
  unfold step_main_v4_4
  rw [wordOk W k hk h3 h0]
  exact csd_of (W (Proc.devRef .tc main_v4_2)) (W (Proc.devRef .tc main_v4_4)) (res_main_while0b_v32 W) _ ⟨k + 1, hk⟩ rfl rfl (toInt_small (k + 1) (by omega)) rfl
    (fun j => W (Proc.devRef .tc main_v4_1) (ix3 g a j)) g a j (bit W k hk h3 h0 g a)

include hk h3 h0 in
theorem swaps (g : Fin 32) (a : Fin 1) (j : Fin 128) :
    step_main_v4_5 W (ix3 g a j) = if j = ⟨k + 1, hk⟩ then res_main_while0b_v32 W (ix2 g a) else W (Proc.devRef .tc main_v4_5) (ix3 g a j) := by
  unfold step_main_v4_5
  rw [wordOk W k hk h3 h0]
  exact swaps_of (W (Proc.devRef .tc main_v4_5)) _ (res_main_while0b_v32 W) ⟨k + 1, hk⟩ (toInt_small (k + 1) (by omega)) g a j

end

/-! ## The loop -/

section
variable (m : (ℓ : Loc nD τ sig) → Buf (Elt Ideal) ℓ) (c : Dev nD)

theorem entry0 : entryContents preI m c (Proc.devRef .tc main_v4_0) = fun y => BitVec.ofNat 32 ((y 0).val + 1) := by
  simp only [entryContents, afterL_cons, afterL_nil]
  after_reads_simp
  refine funext fun (y : (⟨1, ![127]⟩ : Shape).Idx) => ?_
  show 1#32 + BitVec.ofNat 32 (y 0).val = _
  apply BitVec.eq_of_toNat_eq
  simp [Nat.add_comm]

theorem entry1 : entryContents preI m c (Proc.devRef .tc main_v4_1) = m (c.tc.loc main_arg2) := by
  simp only [entryContents, afterL_cons, afterL_nil]
  after_reads_simp
  rfl

theorem entry2 : entryContents preI m c (Proc.devRef .tc main_v4_2) = m (c.tc.loc main_arg0) := by
  simp only [entryContents, afterL_cons, afterL_nil]
  after_reads_simp
  rfl

theorem entry4 : entryContents preI m c (Proc.devRef .tc main_v4_4) = m (c.tc.loc main_arg1) := by
  simp only [entryContents, afterL_cons, afterL_nil]
  after_reads_simp
  rfl

theorem entry5 : entryContents preI m c (Proc.devRef .tc main_v4_5) = fun _ => 0#1 := by
  simp only [entryContents, afterL_cons, afterL_nil]
  after_reads_simp
  rfl

abbrev At (k : Nat) : Valuation τ sig (Elt Ideal) := STEP^[k] (entryContents preI m c)

theorem at_succ (k : Nat) : At m c (k + 1) = STEP (At m c k) := Function.iterate_succ_apply' _ _ _

theorem at0 (k : Nat) : At m c k (Proc.devRef .tc main_v4_0) = fun y => BitVec.ofNat 32 ((y 0).val + 1) := by
  induction k with
  | zero => exact entry0 m c
  | succ k ih => rw [at_succ, STEP_main_v4_0, ih]

theorem at1 (k : Nat) : At m c k (Proc.devRef .tc main_v4_1) = m (c.tc.loc main_arg2) := by
  induction k with
  | zero => exact entry1 m c
  | succ k ih => rw [at_succ, STEP_main_v4_1, ih]

theorem at2 (k : Nat) : At m c k (Proc.devRef .tc main_v4_2) = m (c.tc.loc main_arg0) := by
  induction k with
  | zero => exact entry2 m c
  | succ k ih => rw [at_succ, STEP_main_v4_2, ih]

theorem at3 (k : Nat) : At m c k (Proc.devRef .tc main_v4_3) = fun _ => BitVec.ofNat 32 k := by
  induction k with
  | zero => exact ctr_entry m c
  | succ k ih =>
    rw [at_succ, STEP_main_v4_3]
    unfold step_main_v4_3
    rw [ih]
    refine funext fun y => ?_
    show BitVec.ofNat 32 k + 1#32 = _
    apply BitVec.eq_of_toNat_eq
    simp

theorem at45 (k : Nat) (hk : k < 128) (g : Fin 32) (a : Fin 1) (j : Fin 128) :
    At m c k (Proc.devRef .tc main_v4_4) (ix3 g a j)
        = scCsd (fun p q => m (c.tc.loc main_arg0) (ix4 g a p q)) (fun q => m (c.tc.loc main_arg1) (ix3 g a q)) (fun q => m (c.tc.loc main_arg2) (ix3 g a q)) k j
    ∧ At m c k (Proc.devRef .tc main_v4_5) (ix3 g a j)
        = if j.val ≤ k then scSwap (fun p q => m (c.tc.loc main_arg0) (ix4 g a p q)) (fun q => m (c.tc.loc main_arg1) (ix3 g a q)) (fun q => m (c.tc.loc main_arg2) (ix3 g a q)) j else 0#1 := by
  induction k generalizing j with
  | zero =>
    refine ⟨congrFun (entry4 m c) _, (congrFun (entry5 m c) _).trans ?_⟩
    by_cases h : j.val = 0
    · rw [if_pos (by omega), scSwap, if_pos h]
    · rw [if_neg (by omega)]
  | succ k ih =>
    have ih := ih (by omega)
    have hx := funext fun q => (ih q).1
    constructor
    · rw [at_succ, STEP_main_v4_4, csd _ k hk (at3 m c k) (at0 m c k), hx, at1, at2, scCsd_succ _ _ _ _ hk]
    · rw [at_succ, STEP_main_v4_5, swaps _ k hk (at3 m c k) (at0 m c k), bit _ k hk (at3 m c k) (at0 m c k), hx, at1, (ih j).2]
      by_cases h : j = ⟨k + 1, hk⟩
      · subst h
        rw [if_pos rfl, if_pos (Nat.le_refl _), scSwap, if_neg (by simp)]
        rfl
      · have h' : j.val ≠ k + 1 := fun e => h (Fin.ext e)
        rw [if_neg h]
        by_cases h'' : j.val ≤ k
        · rw [if_pos h'', if_pos (by omega)]
        · rw [if_neg h'', if_neg (by omega)]

theorem out_of (X : IVec S32x1x128 1) (fl : IVec S1 1) (g : Fin 32) (a : Fin 1) (j : Fin 128) :
    uitofp (F := Ideal) .f32 (xori X (broadcastInDim S32x1x128 ![0, 1, 2] bcast_S1x1x1_S32x1x128_0_1_2 (broadcastInDim S1x1x1 ![2] bcast_S1_S1x1x1_2 fl))) (ix3 g a j)
      = bitF (X (ix3 g a j) ^^^ fl (ix1 0)) := by
  obtain rfl : a = 0 := Subsingleton.elim _ _
  pointwise []
  rfl

theorem out_eq : out_main_v8 (At m c 127) = sScan (A := 1) (m := 128) (m (c.tc.loc main_arg0)) (m (c.tc.loc main_arg1)) (m (c.tc.loc main_arg2)) ((m (c.tc.loc main_arg3)) (ix1 0)) := by
  unfold out_main_v8
  rw [show At m c 127 (Proc.devRef .tc main_arg3) = _ from iter_main_arg3 m c 127]
  refine funext fun (y : (⟨3, ![32, 1, 128]⟩ : Shape).Idx) => ?_
  obtain ⟨g, a, j, rfl⟩ : ∃ (g : Fin 32) (a : Fin 1) (j : Fin 128), y = ix3 g a j := ⟨_, _, _, eq_ix3 y⟩
  refine (out_of _ _ g a j).trans ?_
  rw [(at45 m c 127 (by omega) g a j).2, if_pos (by have := j.isLt; omega)]
  rfl

end

end Cert.Scan4Value
-- ==== Proof.Scan4Value.lean ====
module

public import proofs.«01_k».proof.Proof.Scan4Pay
public import proofs.«01_k».proof.Proof.Scan4Ref
public import proofs.«01_k».proof.Defs
public import Idealize.ShloMosaic.Lib.StableHlo.ReadAt

@[expose] public section

noncomputable section

namespace Cert.Scan4Value

open Idealize.ShloMosaic Idealize.ShloMosaic.TcCoe Idealize.SL.Sem Cert.Rounds Cert.Scan4Ideal Cert.Scan4Ideal.Gen Cert.Scan4Ideal.Value

theorem hz3 : (![0, 0, 0] : Fin 3 → Nat) = fun _ => 0 := by decide

theorem e0 : ∀ t : Fin cfg0.N, win0_0.index t = ![0, 0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)

variable (m : (ℓ : Loc nD τ sig) → Buf (Elt Ideal) ℓ) (c : Dev nD)

theorem blk0 (t : Fin cfg0.N) (n : Fin 32) (a : Fin 1) (p q : Fin 128) :
    iblk m c 0 t (ix4 n a p q) = (m (c.tc.loc main_arg0)) (ix4 n a p q) := by
  blk_simp [iblk, V_main_arg0, e0 t]
  refine congrArg _ (funext fun q => Fin.ext ?_)
  match q with
  | ⟨0, _⟩ => blk_simp [e0 t]
  | ⟨1, _⟩ => blk_simp [e0 t]
  | ⟨2, _⟩ => blk_simp [e0 t]
  | ⟨3, _⟩ => blk_simp [e0 t]

theorem blk1 (t : Fin cfg0.N) (n : Fin 32) (a : Fin 1) (p : Fin 128) :
    iblk m c 1 t (ix3 n a p) = (m (c.tc.loc main_arg1)) (ix3 n a p) := by
  blk_simp [iblk, V_main_arg1, e1 t]
  refine congrArg _ (funext fun q => Fin.ext ?_)
  match q with
  | ⟨0, _⟩ => blk_simp [e1 t]
  | ⟨1, _⟩ => blk_simp [e1 t]
  | ⟨2, _⟩ => blk_simp [e1 t]

theorem blk2 (t : Fin cfg0.N) (n : Fin 32) (a : Fin 1) (p : Fin 128) :
    iblk m c 2 t (ix3 n a p) = (m (c.tc.loc main_arg2)) (ix3 n a p) := by
  blk_simp [iblk, V_main_arg2, e2 t]
  refine congrArg _ (funext fun q => Fin.ext ?_)
  match q with
  | ⟨0, _⟩ => blk_simp [e2 t]
  | ⟨1, _⟩ => blk_simp [e2 t]
  | ⟨2, _⟩ => blk_simp [e2 t]

theorem blk3 (t : Fin cfg0.N) : iblk m c 3 t (ix3 0 0 0) = bitF ((m (c.tc.loc main_arg3)) (ix1 0)) := by
  have hv : V m c main_v1 = fun _ => bitF ((m (c.tc.loc main_arg3)) (ix1 0)) := by
    show StableHlo.after hostOps0 (fun b => m (c, b)) (Proc.tc.devRef main_v1) = _
    refine funext fun (y : (⟨3, ![1, 1, 1]⟩ : Shape).Idx) => ?_
    obtain ⟨a, b, d, rfl⟩ : ∃ (a b d : Fin 1), y = ix3 a b d := ⟨_, _, _, eq_ix3 y⟩
    obtain rfl : a = 0 := Subsingleton.elim _ _
    obtain rfl : b = 0 := Subsingleton.elim _ _
    obtain rfl : d = 0 := Subsingleton.elim _ _
    after_reads_at
    rfl
  exact congrFun hv _

theorem outs_eq (t : Fin cfg0.N) : outsAt0 m c t = k0_pay8 (st_k0_t1 Variants.none c none (grid0.coords t) (ms0_0 t) (hs0_0 t) (ms0_1 t) (hs0_1 t) (ms0_2 t) (hs0_2 t) (ms0_3 t) (hs0_3 t) (ms0_4 t) (hs0_4 t)
    (iblk m c 3 t) (iblk m c 2 t) ((hs0_0 t).unread (iblk m c 0 t)) (k0_pay2 (iblk m c 1 t), k0_pay3 (iblk m c 3 t)) 127).2 := by
  unfold outsAt0 out0_A_4
  dsimp only
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, View.readCov_eq_canon',
    View.ld_unit_zero (S := S32x1x128) hz3, View.ld_unit_zero (S := S1x1x1) hz3, View.canon_unit_zero (S := S32x1x128) hz3]
  rw [show Scf.trips 1#32 (Scalar.addi 1#32 127#32) 1#32 = 127 from trips_eq]

theorem emb4 (t : Fin cfg0.N) (n : Fin 32) (a : Fin 1) (e : Fin 128) : (win0_4.blk t).view.emb (ix3 n a e) = ix3 n a e := by
  refine funext fun q => Fin.ext ?_
  match q with
  | ⟨0, _⟩ => blk_simp [e4 t]
  | ⟨1, _⟩ => blk_simp [e4 t]
  | ⟨2, _⟩ => blk_simp [e4 t]

theorem final4 : (dats m 0 c).arrAt 4 cfg0.N = sScan (A := 1) (m := 128) (m (c.tc.loc main_arg0)) (m (c.tc.loc main_arg1)) (m (c.tc.loc main_arg2)) ((m (c.tc.loc main_arg3)) (ix1 0)) := by
  refine (dats m 0 c).arrAt_eq_of_covers 4 _ (by decide +kernel) fun t hf y => ?_
  blk_simp [e4 t]
  refine (congrFun ((after0_4 m c t).trans (outs_eq m c t)) y).trans ?_
  revert y
  refine fun (y : (⟨3, ![32, 1, 128]⟩ : Shape).Idx) => ?_
  obtain ⟨n, a, j, rfl⟩ : ∃ (n : Fin 32) (a : Fin 1) (j : Fin 128), y = ix3 n a j := ⟨_, _, _, eq_ix3 y⟩
  obtain rfl : a = 0 := Subsingleton.elim _ _
  refine (pay8_apply ..).trans ?_
  refine Eq.trans ?_ (congrArg (sScan (A := 1) (m := 128) (m (c.tc.loc main_arg0)) (m (c.tc.loc main_arg1)) (m (c.tc.loc main_arg2)) ((m (c.tc.loc main_arg3)) (ix1 0))) (emb4 t n 0 j)).symm
  rw [(st_spec c none _ _ _ _ _ _ _ _ _ _ _ _ _ _ _ _ (blk3 m c t) 127 (Nat.le_refl _) n j).2, if_pos (by have := j.isLt; omega)]
  simp only [blk0, blk1, blk2]
  rfl

theorem algebraic : Cert.algebraic_Scan4Ideal_RefScan4Ideal (hScan4Ideal := Cert.Scan4Ideal.Gen.facts) (hRefScan4Ideal := Cert.RefScan4Ideal.Gen.facts) := by
  intro m g m' g' _ hm
  refine ⟨_, run_blocks m g, ?_⟩
  refine (θ_run _ _ _).mono (fun r h c => ?_) (Cert.RefScan4Ideal.Value.run m' g')
  obtain ⟨h8, hk⟩ := h c
  obtain ⟨a0, a1, a2, a3⟩ := hm c
  refine ⟨h8.trans ?_, hk⟩
  rw [out_eq, final4, a0, a1, a2, a3]

end Cert.Scan4Value
-- ==== Proof.Sel4Ref.lean ====
module

public import proofs.«01_k».proof.Proof.Common
public import proofs.«01_k».proof.Proof.Gen.RefSel4Ideal.Read
public import Idealize.ShloMosaic.Lib.Pointwise

@[expose] public section

noncomputable section

namespace Cert.Sel4Value

open Idealize.ShloMosaic Idealize.ShloMosaic.TcCoe Idealize.SL.Sem Cert.Rounds Cert.RefSel4Ideal Cert.RefSel4Ideal.Value Cert.RefSel4Ideal.Read

variable (x0 x1 : (⟨S32x256x64, .f32⟩ : BufTy).Contents (Elt Ideal)) (x2 : (⟨S32x1x128, .f32⟩ : BufTy).Contents (Elt Ideal))
    (g : Fin 32) (a : Fin 1) (j : Fin 128) (e : Fin 64)

theorem word_eq : ∀ (b : Bool) (j : Fin 128), (fun w => Scalar.select (IntOp.cmpi CmpIPredicate.slt w 0#32) (IntOp.addi w 256#32) w)
    (IntOp.addi (BitVec.setWidth 32 (BitVec.ofBool b)) (IntOp.addi 0#32 (IntOp.muli 2#32 (BitVec.ofNat 32 j.val)))) = BitVec.ofNat 32 (2 * j.val + b.toNat) := by
  decide +kernel

theorem word_ok : ∀ (b : Bool) (j : Fin 128), IntOp.andi 1#1 (IntOp.andi (IntOp.cmpi CmpIPredicate.sge (BitVec.ofNat 32 (2 * j.val + b.toNat)) 0#32)
    (IntOp.cmpi CmpIPredicate.sle (BitVec.ofNat 32 (2 * j.val + b.toNat)) 255#32)) = 1#1 := by decide +kernel

theorem word_nat : ∀ (b : Bool) (j : Fin 128), min (BitVec.ofNat 32 (2 * j.val + b.toNat)).toInt.toNat 255 = 2 * j.val + b.toNat := by decide +kernel

theorem gather_row (x : FVec Ideal S32x1x256x64 .f32) (k : IVec S32x128x64x1 32) (b : Bool) (h : k (ix4 g j e 0) = BitVec.ofNat 32 (2 * j.val + b.toNat)) :
    Host.gather gather_S32x1x256x64_S32x128x64x1_S32x1x128x64_1_2_03_02_2_3_1111 x k (ix4 g a j e)
      = x (ix4 g a ⟨2 * j.val + b.toNat, by have := b.toNat_le; omega⟩ e) := by
  refine congrArg x (funext fun q => Fin.ext ?_)
  match q with
  | ⟨0, _⟩ => show 0 + g.val + 0 = g.val; omega
  | ⟨1, _⟩ => show 0 + 0 + a.val = a.val; omega
  | ⟨2, _⟩ =>
    show min (k _).toInt.toNat (256 - 1) + 0 + 0 = 2 * j.val + b.toNat
    have : k ((gather_S32x1x256x64_S32x128x64x1_S32x1x128x64_1_2_03_02_2_3_1111).siIdx (ix4 g a j e) (⟨0, by decide⟩)) = BitVec.ofNat 32 (2 * j.val + b.toNat) := by
      refine Eq.trans (congrArg k (funext fun q => ?_)) h
      match q with
      | ⟨0, _⟩ => rfl
      | ⟨1, _⟩ => rfl
      | ⟨2, _⟩ => rfl
      | ⟨3, _⟩ => rfl
    exact (congrArg (fun z : BitVec 32 => min z.toInt.toNat 255) this).trans (word_nat b j)
  | ⟨3, _⟩ => show 0 + e.val + 0 = e.val; omega

/-- The comparison that picks the row. -/
abbrev bit : Bool := decide (Ideal.ofBits FTy.f32 0x3F000000#32 < x2 (ix3 g a j))

theorem v13 (k : Fin 1) : val_main_v13 x2 (ix4 g 0 j k) = IntOp.addi (BitVec.setWidth 32 (BitVec.ofBool (bit x2 g 0 j))) (IntOp.addi 0#32 (IntOp.muli 2#32 (BitVec.ofNat 32 j.val))) := by
  pointwise [val_main_v13, val_main_v12, val_main_v11, val_main_v10, val_main_v9, val_main_v8, val_main_v7, val_main_v6, val_main_v5, val_main_v4, val_main_v3, val_main_v2, val_main_c, val_main_c_0, val_main_cst]

theorem call0_v5 : val_main_call0_v5 x2 (ix4 g j e 0) = BitVec.ofNat 32 (2 * j.val + (bit x2 g 0 j).toNat) := by
  rw [← word_eq, ← v13 x2 g j 0]
  pointwise [val_main_call0_v5, val_main_call0_v4, val_main_call0_v3, val_main_call0_v2, val_main_call0_v1, val_main_call0_v0, val_main_call0_c_0, val_main_call0_c, val_main_v14]

theorem call0_v12 : val_main_call0_v12 x2 (ix3 g j e) = 1#1 := by
  pointwise [val_main_call0_v12, val_main_call0_v11, val_main_call0_v10, val_main_call0_v9, val_main_call0_v8, val_main_call0_v7, val_main_call0_v6, val_main_call0_c_1, val_main_call0_c_2, val_main_call0_c_3]
  rw [Finset.univ_unique, Finset.fold_singleton]
  refine (Std.Commutative.comm (op := IntOp.andi (w := 1)) _ _).trans (Eq.trans ?_ (word_ok (bit x2 g 0 j) j))
  rw [← call0_v5 x2 g j e]
  rfl

theorem call0_v13 : val_main_call0_v13 x0 x2 (ix4 g 0 j e) = x0 (ix3 g ⟨2 * j.val + (bit x2 g 0 j).toNat, by have := (bit x2 g 0 j).toNat_le; omega⟩ e) := by
  refine (gather_row g 0 j e _ _ _ (call0_v5 x2 g j e)).trans ?_
  pointwise [val_main_v0]

theorem v18 (p : Fin 128) : val_main_v18 x0 x2 (ix3 g p e) = sSel (A := 1) (m := 128) rfl rfl x0 x2 (ix3 g p e) := by
  refine Eq.trans ?_ (sSel_apply (A := 1) (m := 128) rfl rfl x0 x2 g p e 0 p (by simp)).symm
  pointwise [val_main_v18, val_main_v15, val_main_call0_v14]
  rw [call0_v12, call0_v13]
  unfold bit
  split <;> rename_i h <;> simp [h] <;> rfl

theorem v18_eq : val_main_v18 x0 x2 = sSel (A := 1) (m := 128) rfl rfl x0 x2 := by
  funext y
  rw [eq_ix3 y]
  exact v18 ..

theorem call1_v5 : val_main_call1_v5 x2 (ix4 g j e 0) = BitVec.ofNat 32 (2 * j.val + (bit x2 g 0 j).toNat) := by
  rw [← word_eq, ← v13 x2 g j 0]
  pointwise [val_main_call1_v5, val_main_call1_v4, val_main_call1_v3, val_main_call1_v2, val_main_call1_v1, val_main_call1_v0, val_main_call1_c_0, val_main_call1_c, val_main_v16]

theorem call1_v12 : val_main_call1_v12 x2 (ix3 g j e) = 1#1 := by
  pointwise [val_main_call1_v12, val_main_call1_v11, val_main_call1_v10, val_main_call1_v9, val_main_call1_v8, val_main_call1_v7, val_main_call1_v6, val_main_call1_c_1, val_main_call1_c_2, val_main_call1_c_3]
  rw [Finset.univ_unique, Finset.fold_singleton]
  refine (Std.Commutative.comm (op := IntOp.andi (w := 1)) _ _).trans (Eq.trans ?_ (word_ok (bit x2 g 0 j) j))
  rw [← call1_v5 x2 g j e]
  rfl

theorem call1_v13 : val_main_call1_v13 x1 x2 (ix4 g 0 j e) = x1 (ix3 g ⟨2 * j.val + (bit x2 g 0 j).toNat, by have := (bit x2 g 0 j).toNat_le; omega⟩ e) := by
  refine (gather_row g 0 j e _ _ _ (call1_v5 x2 g j e)).trans ?_
  pointwise [val_main_v1]

theorem v19 (p : Fin 128) : val_main_v19 x1 x2 (ix3 g p e) = sSel (A := 1) (m := 128) rfl rfl x1 x2 (ix3 g p e) := by
  refine Eq.trans ?_ (sSel_apply (A := 1) (m := 128) rfl rfl x1 x2 g p e 0 p (by simp)).symm
  pointwise [val_main_v19, val_main_v17, val_main_call1_v14]
  rw [call1_v12, call1_v13]
  unfold bit
  split <;> rename_i h <;> simp [h] <;> rfl

theorem v19_eq : val_main_v19 x1 x2 = sSel (A := 1) (m := 128) rfl rfl x1 x2 := by
  funext y
  rw [eq_ix3 y]
  exact v19 ..

end Cert.Sel4Value
-- ==== Proof.Sel4Value.lean ====
module

public import proofs.«01_k».proof.Proof.Sel4Ref
public import proofs.«01_k».proof.Proof.Gen.Sel4Ideal.Value
public import proofs.«01_k».proof.Defs
public import Idealize.ShloMosaic.Lib.Pipeline.ValueKit
public import Idealize.ShloMosaic.Lib.WholeRead

@[expose] public section

noncomputable section

namespace Cert.Sel4Value

open Idealize.ShloMosaic Idealize.ShloMosaic.TcCoe Idealize.SL.Sem Cert.Rounds Cert.Sel4Ideal Cert.Sel4Ideal.Gen Cert.Sel4Ideal.Value

theorem hz3 : (![0, 0, 0] : Fin 3 → Nat) = fun _ => 0 := by decide

/-! ## The loads of every second row -/

def even (x : Vec Ideal S1x256x64 .f32) : Vec Ideal S1x128x64 .f32 := fun j =>
  x ((⟨![0, 0, 0], ![1, 128, 64], ![1, 2, 1], inb_S1x256x64_S1x128x64_0_0_0_s_1_2_1⟩ : LoadRect S1x256x64).idx j)
def odd (x : Vec Ideal S1x256x64 .f32) : Vec Ideal S1x128x64 .f32 := fun j =>
  x ((⟨![0, 1, 0], ![1, 128, 64], ![1, 2, 1], inb_S1x256x64_S1x128x64_0_1_0_s_1_2_1⟩ : LoadRect S1x256x64).idx j)

theorem even_apply (x : Vec Ideal S1x256x64 .f32) (j : Fin 128) (e : Fin 64) : even x (ix3 0 j e) = x (ix3 0 ⟨2 * j.val, by omega⟩ e) := by
  refine congrArg x (funext fun q => Fin.ext ?_)
  match q with
  | ⟨0, _⟩ => rfl
  | ⟨1, _⟩ => show 0 + 2 * j.val = 2 * j.val; omega
  | ⟨2, _⟩ => show 0 + 1 * e.val = e.val; omega

theorem odd_apply (x : Vec Ideal S1x256x64 .f32) (j : Fin 128) (e : Fin 64) : odd x (ix3 0 j e) = x (ix3 0 ⟨2 * j.val + 1, by omega⟩ e) := by
  refine congrArg x (funext fun q => Fin.ext ?_)
  match q with
  | ⟨0, _⟩ => rfl
  | ⟨1, _⟩ => show 1 + 2 * j.val = 2 * j.val + 1; omega
  | ⟨2, _⟩ => show 0 + 1 * e.val = e.val; omega

theorem pay1_apply (f : Vec Ideal S1x1x128 .f32) (x : Vec Ideal S1x256x64 .f32) (j : Fin 128) (e : Fin 64) :
    k0_pay1 f (even x) (odd x) (ix3 0 j e) = if Ideal.ofBits .f32 0x3F000000#32 < f (ix3 0 0 j) then x (ix3 0 ⟨2 * j.val + 1, by omega⟩ e) else x (ix3 0 ⟨2 * j.val, by omega⟩ e) := by
  rw [← even_apply x, ← odd_apply x]
  pointwise [k0_pay1]

/-! ## The blocks and the arrays -/

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, 0] := (by decide +kernel : ∀ t : Fin grid0.N, _)

variable (m : (ℓ : Loc nD τ sig) → Buf (Elt Ideal) ℓ) (c : Dev nD)

theorem outs_eq (t : Fin cfg0.N) : outsAt0 m c t = (k0_pay1 (iblk m c 2 t) (even (iblk m c 0 t)) (odd (iblk m c 0 t)), k0_pay1 (iblk m c 2 t) (even (iblk m c 1 t)) (odd (iblk m c 1 t))) := by
  unfold outsAt0 out0_A_3 out0_A_4
  dsimp only
  rw [View.read_writes_junk_eq_canon, View.read_writes_junk_eq_canon]
  unfold kernelRun0_A
  dsimp only
  sl_unfold_words
  simp only [View.readAt_eq_ld, (hs0_0 t).read_unread, (hs0_1 t).read_unread, (hs0_2 t).read_unread, View.readCov_eq_canon',
    View.ld_unit_zero (S := S1x1x128) hz3, View.canon_unit_zero (S := S1x128x64) hz3]
  exact congrArg₂ Prod.mk
    (congrArg₂ (k0_pay1 _) (funext fun x => Memref.IsWhole.readAt_unread (hs0_0 t) (iblk m c 0 t) _ x) (funext fun x => Memref.IsWhole.readAt_unread (hs0_0 t) (iblk m c 0 t) _ x))
    (congrArg₂ (k0_pay1 _) (funext fun x => Memref.IsWhole.readAt_unread (hs0_1 t) (iblk m c 1 t) _ x) (funext fun x => Memref.IsWhole.readAt_unread (hs0_1 t) (iblk m c 1 t) _ x))

theorem blk0 (t : Fin cfg0.N) (p : Fin 256) (e : Fin 64) :
    iblk m c 0 t (ix3 0 p e) = (m (c.tc.loc main_arg0)) (ix3 (grid0.coords t 0) p e) := by
  blk_simp [iblk, V, e0 t]
  refine congrArg _ (funext fun q => Fin.ext ?_)
  match q with
  | ⟨0, _⟩ => blk_simp [e0 t]; rfl
  | ⟨1, _⟩ => blk_simp [e0 t]
  | ⟨2, _⟩ => blk_simp [e0 t]

theorem blk1 (t : Fin cfg0.N) (p : Fin 256) (e : Fin 64) :
    iblk m c 1 t (ix3 0 p e) = (m (c.tc.loc main_arg1)) (ix3 (grid0.coords t 0) p e) := by
  blk_simp [iblk, V, e1 t]
  refine congrArg _ (funext fun q => Fin.ext ?_)
  match q with
  | ⟨0, _⟩ => blk_simp [e1 t]; rfl
  | ⟨1, _⟩ => blk_simp [e1 t]
  | ⟨2, _⟩ => blk_simp [e1 t]

theorem blk2 (t : Fin cfg0.N) (p : Fin 1) (e : Fin 128) :
    iblk m c 2 t (ix3 0 p e) = (m (c.tc.loc main_arg2)) (ix3 (grid0.coords t 0) p e) := by
  blk_simp [iblk, V, e2 t]
  refine congrArg _ (funext fun q => Fin.ext ?_)
  match q with
  | ⟨0, _⟩ => blk_simp [e2 t]; rfl
  | ⟨1, _⟩ => blk_simp [e2 t]
  | ⟨2, _⟩ => blk_simp [e2 t]

theorem emb3 (t : Fin cfg0.N) (j : Fin 128) (e : Fin 64) : (win0_3.blk t).view.emb (ix3 0 j e) = ix3 (grid0.coords t 0) j e := by
  refine funext fun q => Fin.ext ?_
  match q with
  | ⟨0, _⟩ => blk_simp [e3 t]; rfl
  | ⟨1, _⟩ => blk_simp [e3 t]
  | ⟨2, _⟩ => blk_simp [e3 t]

theorem final3 : (dats m 0 c).arrAt 3 cfg0.N = sSel (A := 1) (m := 128) rfl rfl (m (c.tc.loc main_arg0)) (m (c.tc.loc main_arg2)) := by
  refine (dats m 0 c).arrAt_eq_of_covers 3 _ (by decide +kernel) fun t hf y => ?_
  blk_simp [e3 t]
  refine (congrFun ((after0_3 m c t).trans (congrArg Prod.fst (outs_eq m c t))) y).trans ?_
  revert y
  refine fun (y : (⟨3, ![1, 128, 64]⟩ : Shape).Idx) => ?_
  obtain ⟨a, j, e, rfl⟩ : ∃ (a : Fin 1) (j : Fin 128) (e : Fin 64), y = ix3 a j e := ⟨_, _, _, eq_ix3 y⟩
  obtain rfl : a = 0 := Subsingleton.elim _ _
  refine (pay1_apply ..).trans (Eq.trans ?_ (congrArg (sSel (A := 1) (m := 128) rfl rfl (m (c.tc.loc main_arg0)) (m (c.tc.loc main_arg2))) (emb3 t j e)).symm)
  refine Eq.trans ?_ (sSel_apply (A := 1) (m := 128) rfl rfl (m (c.tc.loc main_arg0)) (m (c.tc.loc main_arg2)) (grid0.coords t 0) j e 0 j (by simp)).symm
  rw [blk2, blk0, blk0]

theorem emb4 (t : Fin cfg0.N) (j : Fin 128) (e : Fin 64) : (win0_4.blk t).view.emb (ix3 0 j e) = ix3 (grid0.coords t 0) j e := by
  refine funext fun q => Fin.ext ?_
  match q with
  | ⟨0, _⟩ => blk_simp [e4 t]; rfl
  | ⟨1, _⟩ => blk_simp [e4 t]
  | ⟨2, _⟩ => blk_simp [e4 t]

theorem final4 : (dats m 0 c).arrAt 4 cfg0.N = sSel (A := 1) (m := 128) rfl rfl (m (c.tc.loc main_arg1)) (m (c.tc.loc main_arg2)) := by
  refine (dats m 0 c).arrAt_eq_of_covers 4 _ (by decide +kernel) fun t hf y => ?_
  blk_simp [e4 t]
  refine (congrFun ((after0_4 m c t).trans (congrArg Prod.snd (outs_eq m c t))) y).trans ?_
  revert y
  refine fun (y : (⟨3, ![1, 128, 64]⟩ : Shape).Idx) => ?_
  obtain ⟨a, j, e, rfl⟩ : ∃ (a : Fin 1) (j : Fin 128) (e : Fin 64), y = ix3 a j e := ⟨_, _, _, eq_ix3 y⟩
  obtain rfl : a = 0 := Subsingleton.elim _ _
  refine (pay1_apply ..).trans (Eq.trans ?_ (congrArg (sSel (A := 1) (m := 128) rfl rfl (m (c.tc.loc main_arg1)) (m (c.tc.loc main_arg2))) (emb4 t j e)).symm)
  refine Eq.trans ?_ (sSel_apply (A := 1) (m := 128) rfl rfl (m (c.tc.loc main_arg1)) (m (c.tc.loc main_arg2)) (grid0.coords t 0) j e 0 j (by simp)).symm
  rw [blk2, blk1, blk1]

theorem algebraic : Cert.algebraic_Sel4Ideal_RefSel4Ideal (hSel4Ideal := Cert.Sel4Ideal.Gen.facts) (hRefSel4Ideal := Cert.RefSel4Ideal.Gen.facts) := by
  intro m g m' g' _ hm
  refine ⟨_, _, run_blocks m g, ?_⟩
  refine (θ_run _ _ _).mono (fun r h c => ?_) (Cert.RefSel4Ideal.Value.run m' g')
  obtain ⟨h18, h19, hk⟩ := h c
  obtain ⟨a0, a1, a2⟩ := hm c
  refine ⟨h18.trans ?_, h19.trans ?_, hk⟩
  · rw [Cert.RefSel4Ideal.Read.val_main_v18_eq, v18_eq, final3, a0, a2]
  · rw [Cert.RefSel4Ideal.Read.val_main_v19_eq, v19_eq, final4, a1, a2]

end Cert.Sel4Value
-- ==== Proof.KdChunk.lean ====
/- The kernel-difference calls with buckets of at most 128 rows, one chunk of 128 rows: the second scratch is written in its
   first 64 columns only, and the difference of its even and odd rows is read in those columns only. -/
module

public import proofs.«01_k».proof.Proof.Common
public import Idealize.ShloMosaic.Lib.Claim
public import Idealize.ShloMosaic.Lib.WritesUnit
public import Idealize.ShloMosaic.Lib.Pipeline.FrameBody
public import Idealize.ShloMosaic.Lib.Pipeline.ValueKit

@[expose] public section

noncomputable section

namespace Cert.Rounds

open Idealize.ShloMosaic Idealize.ShloMosaic.TcCoe

variable {F : FTy → Type} [FloatOps F]

/-- The difference of each even row and the odd row after it. -/
def dif (p : FVec F ⟨2, ![128, 64]⟩ .f32) : FVec F ⟨2, ![64, 64]⟩ .f32 := fun y =>
  FloatOps.subf (p (ix2 ⟨2 * (y 0).val, by have : (y 0).val < 64 := (y 0).isLt; omega⟩ (y 1)))
    (p (ix2 ⟨2 * (y 0).val + 1, by have : (y 0).val < 64 := (y 0).isLt; omega⟩ (y 1)))

theorem slices_cut : (⟨2, ![64, 128]⟩ : Shape).Slices ![0, 0] ⟨2, ![64, 64]⟩ := by decide

/-- The first 64 columns of a difference. -/
def cut (a b : FVec F ⟨2, ![64, 128]⟩ .f32) : FVec F ⟨2, ![64, 64]⟩ .f32 :=
  extractStridedSlice ⟨2, ![64, 64]⟩ ![0, 0] (subf a b) slices_cut

theorem readAt_half {sig : RefSig} {κ : Kind} {sp : Space} (v : View sig κ sp ⟨2, ![128, 128]⟩ .f32) (f : v.ty.Contents (Elt F)) (o : Nat) (ho : o < 2)
    (h : ∀ a, _) (hp : ∀ a, _) (p : FVec F ⟨2, ![128, 64]⟩ .f32) (L : List (View.Piece (Elt F) ⟨2, ![128, 128]⟩ .f32)) (i j : Fin 64) :
    v.readAt (Elt F) (⟨![o, 0], ![64, 128], ![2, 1], h⟩ : LoadRect ⟨2, ![128, 128]⟩)
      (v.writes (Elt F) f ((⟨Rect.unit ![0, 0] ![128, 64] hp, p⟩ : View.Piece (Elt F) ⟨2, ![128, 128]⟩ .f32) :: L)) (ix2 i ⟨j.val, by omega⟩)
      = p (ix2 ⟨2 * i.val + o, by omega⟩ j) := by
  rw [View.readAt_apply]
  refine View.read_writes_cons_unit_of_mem v f hp p L _ (ix2 ⟨2 * i.val + o, by omega⟩ j) rfl fun a => ?_
  match a with
  | ⟨0, _⟩ => show o + 2 * i.val = 0 + (2 * i.val + o); omega
  | ⟨1, _⟩ => show 0 + 1 * j.val = 0 + j.val; omega

theorem cut_readAt {sig : RefSig} {κ : Kind} {sp : Space} (v : View sig κ sp ⟨2, ![128, 128]⟩ .f32) (f : v.ty.Contents (Elt F))
    (h h') (hp) (p : FVec F ⟨2, ![128, 64]⟩ .f32) (L : List (View.Piece (Elt F) ⟨2, ![128, 128]⟩ .f32)) :
    cut (v.readAt (Elt F) (⟨![0, 0], ![64, 128], ![2, 1], h⟩ : LoadRect ⟨2, ![128, 128]⟩)
      (v.writes (Elt F) f ((⟨Rect.unit ![0, 0] ![128, 64] hp, p⟩ : View.Piece (Elt F) ⟨2, ![128, 128]⟩ .f32) :: L)))
      (v.readAt (Elt F) (⟨![1, 0], ![64, 128], ![2, 1], h'⟩ : LoadRect ⟨2, ![128, 128]⟩)
      (v.writes (Elt F) f ((⟨Rect.unit ![0, 0] ![128, 64] hp, p⟩ : View.Piece (Elt F) ⟨2, ![128, 128]⟩ .f32) :: L)))
      = dif p := by
  funext y
  obtain ⟨i, j, rfl⟩ : ∃ (i j : Fin 64), y = ix2 i j := ⟨_, _, eq_ix2 y⟩
  have e : ∀ (a b : FVec F ⟨2, ![64, 128]⟩ .f32), cut a b (ix2 i j) = FloatOps.subf (a (ix2 i ⟨j.val, by omega⟩)) (b (ix2 i ⟨j.val, by omega⟩)) := by
    intro a b
    unfold cut
    pointwise []
  rw [e, readAt_half v f 0 (by omega), readAt_half v f 1 (by omega)]
  rfl

end Cert.Rounds
-- ==== Proof.Kd3IdealRun.lean ====
module

public import proofs.«01_k».proof.Proof.Gen.Kd3Ideal.Frame
public import proofs.«01_k».proof.Proof.Gen.Kd3Ideal.Skeleton
public import Idealize.ShloMosaic.Lib.Claim

@[expose] public section

set_option maxRecDepth 16384

noncomputable section

namespace Cert.Kd3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x64 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1x128x128 .f32 := Memref.whole cc0_scratch0
abbrev scM0_1 : Memref sig .tc .vmem S128x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The pieces the body stores into each output, and the body's triple, the second scratch starting at contents `d1`. -/
noncomputable def kernelRun0_A (c : Dev nD) (i : grid0.Coords) (arg1 : Memref sig .tc .vmem S1x512x64 .f32) (harg1 : arg1.IsWhole) (arg2 : Memref sig .tc .vmem S1x512x64 .f32) (harg2 : arg2.IsWhole) (arg3 : Memref sig .tc .vmem S1x4x64 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4x64x64 .f32) (harg6 : arg6.IsWhole) (arg7 : Memref sig .tc .vmem S1x4x64 .f32) (harg7 : arg7.IsWhole) (arg8 : Memref sig .tc .vmem S1x4x64 .f32) (harg8 : arg8.IsWhole) (arg9 : Memref sig .tc .vmem S1x128x128 .f32) (harg9 : arg9.IsWhole) (arg10 : Memref sig .tc .vmem S128x128 .f32) (harg10 : arg10.IsWhole)
    (x0 x1 : Vec F S1x512x64 .f32) (x2 : Vec F S1x4x64 .f32) (x3 x4 : Vec F S1x1x1 .f32) (d1 : Vec F S128x128 .f32) :
    Σ' (L5 : List (View.Piece (Elt F) S1x4x64x64 .f32)), Σ' (L6 : List (View.Piece (Elt F) S1x4x64 .f32)), Σ' (L7 : List (View.Piece (Elt F) S1x4x64 .f32)), Σ' (LT0 : List (View.Piece (Elt F) S1x128x128 .f32)), { LT1 : List (View.Piece (Elt F) S128x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0__kd_body i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kd_body_eq_skeleton]; unfold cc0__kd_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kd3Ideal.Gen
-- ==== Proof.Kd3IdealPieces.lean ====
module

public import proofs.«01_k».proof.Proof.Kd3IdealRun
public import proofs.«01_k».proof.Proof.KdChunk
public import Idealize.ShloMosaic.Lib.Claim

@[expose] public section

set_option maxRecDepth 16384

noncomputable section

namespace Cert.Kd3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rounds (dif)
open Idealize.ShloMosaic.Pipeline (Dat Cfg Window BodyObligation cellOf)

variable {F : FTy → Type} [FloatOps F]

variable (m : (ℓ : Loc nD τ sig) → Buf (Elt F) ℓ) (ρ : Dev nD → PrngReg)

/-! ## One chunk of 128 rows -/

/-- A chunk's kernel matrix, -/
def kmV (v0 v2 : Vec F S1x1x1 .f32) (k v : Vec F S1x128x64 .f32) : FVec F S1x128x128 .f32 :=
  (shapeCast S1x128x128 (mulf (addf (matmul dot_S128x64_S128x64_S128x128_1_1_0_0_n_n none (shapeCast S128x64 v shapeCasts_S1x128x64_S128x64) (shapeCast S128x64 v shapeCasts_S1x128x64_S128x64) (constant S128x128 .f32 0x00000000#32))
      (broadcast S128x128 (extractAt ![0, 0, 0] v2 inpos_S1x1x1_p0_0_0)))
    (exp (subf (matmul dot_S128x64_S128x64_S128x128_1_1_0_0_n_n none (shapeCast S128x64 k shapeCasts_S1x128x64_S128x64) (shapeCast S128x64 k shapeCasts_S1x128x64_S128x64) (constant S128x128 .f32 0x00000000#32))
      (broadcast S128x128 (extractAt ![0, 0, 0] v0 inpos_S1x1x1_p0_0_0))))) shapeCasts_S128x128_S1x128x128)
/-- its row differences, transposed, -/
def trV (km : FVec F S1x128x128 .f32) : FVec F S128x64 .f32 :=
  (shapeCast S128x64 (transpose S128x64 [1, 0] (subf (shapeCast S64x128 (fun j => km ((⟨![0, 0, 0], ![1, 64, 128], ![1, 2, 1], inb_S1x128x128_S1x64x128_0_0_0_s_1_2_1⟩ : LoadRect S1x128x128).idx j)) shapeCasts_S1x64x128_S64x128) (shapeCast S64x128 (fun j => km ((⟨![0, 1, 0], ![1, 64, 128], ![1, 2, 1], inb_S1x128x128_S1x64x128_0_1_0_s_1_2_1⟩ : LoadRect S1x128x128).idx j)) shapeCasts_S1x64x128_S64x128)) transposes_S64x128_p1_0_S128x64) shapeCasts_S128x64_S128x64)
/-- and its double difference. -/
def chunk (v0 v2 : Vec F S1x1x1 .f32) (k v : Vec F S1x128x64 .f32) : FVec F S64x64 .f32 := dif (trV (kmV v0 v2 k v))

/-! ## Buckets -/

theorem inb_rk (c : Fin 4) : ∀ a, (![0, 128 * c.val, 0] : Fin 3 → Nat) a + S1x128x64.size a ≤ S1x512x64.size a := by
  revert c; decide
/-- The rows of chunk `c`. -/
def rk (x : Vec F S1x512x64 .f32) (c : Fin 4) : Vec F S1x128x64 .f32 :=
  View.ld x (Rect.unit (s := S1x512x64) ![0, 128 * c.val, 0] ![1, 128, 64] (inb_rk c))
def rows (f : Fin 4 → FVec F S1x64 .f32) : FVec F S4x64 .f32 :=
  concatenate S4x64 0 (List.ofFn fun a : Fin 4 => ⟨S1x64, f a⟩)
    ((List.map_ofFn ..).symm ▸ (by decide : Shape.Concatenates (List.ofFn fun _ : Fin 4 => S1x64) S4x64 0))
theorem sl_top (a : Fin 4) : S64x64.Slices ![64 * (a.val % 1), 64 * (a.val % 1)] S1x64 := by revert a; decide
/-- The first row of bucket `a`'s block in its chunk. -/
def top (a : Fin 4) (x : FVec F S64x64 .f32) : FVec F S1x64 .f32 :=
  extractStridedSlice S1x64 ![64 * (a.val % 1), 64 * (a.val % 1)] x (sl_top a)
def eye : FVec F S64x64 .f32 := sitofp .f32 (extui 32 (cmpi .eq (iota .tc S64x64 32 [0] iota_S64x64_d0_w32) (iota .tc S64x64 32 [1] iota_S64x64_d1_w32)) natLt_1_32)
def dg (x : FVec F S64x64 .f32) : FVec F S1x64 .f32 :=
  shapeCast S1x64 (multiReduction .add [0] S64 (mulf x eye) 0x00000000#32 reduces_S64x64_S64 (.inl rfl) rfl) shapeCasts_S64_S1x64
/-- The diagonal of bucket `a`'s block. -/
def diag (a : Fin 4) (x : FVec F S64x64 .f32) : FVec F S1x64 .f32 := dg x
/-- The blocks of a chunk. -/
def put (x : FVec F S64x64 .f32) : FVec F S1x1x64x64 .f32 :=
  shapeCast S1x1x64x64 (shapeCast S1x64x64 x shapeCasts_S64x64_S1x64x64) shapeCasts_S1x64x64_S1x1x64x64
def wide1 (x : FVec F S4x64 .f32) : FVec F S4x64 .f32 :=
  maximumf x (concatenate S4x64 1 [⟨S4x1, broadcast S4x1 (Scalar.ofBits .f32 0xFF800000#32)⟩, ⟨S4x63, extractStridedSlice S4x63 ![0, 0] x (by decide)⟩] (show Shape.Concatenates [S4x1, S4x63] S4x64 1 by decide))
def wide2 (x : FVec F S4x64 .f32) : FVec F S4x64 .f32 :=
  maximumf x (concatenate S4x64 1 [⟨S4x2, broadcast S4x2 (Scalar.ofBits .f32 0xFF800000#32)⟩, ⟨S4x62, extractStridedSlice S4x62 ![0, 0] x (by decide)⟩] (show Shape.Concatenates [S4x2, S4x62] S4x64 1 by decide))
def wide4 (x : FVec F S4x64 .f32) : FVec F S4x64 .f32 :=
  maximumf x (concatenate S4x64 1 [⟨S4x4, broadcast S4x4 (Scalar.ofBits .f32 0xFF800000#32)⟩, ⟨S4x60, extractStridedSlice S4x60 ![0, 0] x (by decide)⟩] (show Shape.Concatenates [S4x4, S4x60] S4x64 1 by decide))
def wide8 (x : FVec F S4x64 .f32) : FVec F S4x64 .f32 :=
  maximumf x (concatenate S4x64 1 [⟨S4x8, broadcast S4x8 (Scalar.ofBits .f32 0xFF800000#32)⟩, ⟨S4x56, extractStridedSlice S4x56 ![0, 0] x (by decide)⟩] (show Shape.Concatenates [S4x8, S4x56] S4x64 1 by decide))
def wide16 (x : FVec F S4x64 .f32) : FVec F S4x64 .f32 :=
  maximumf x (concatenate S4x64 1 [⟨S4x16, broadcast S4x16 (Scalar.ofBits .f32 0xFF800000#32)⟩, ⟨S4x48, extractStridedSlice S4x48 ![0, 0] x (by decide)⟩] (show Shape.Concatenates [S4x16, S4x48] S4x64 1 by decide))
def wide32 (x : FVec F S4x64 .f32) : FVec F S4x64 .f32 :=
  maximumf x (concatenate S4x64 1 [⟨S4x32, broadcast S4x32 (Scalar.ofBits .f32 0xFF800000#32)⟩, ⟨S4x32, extractStridedSlice S4x32 ![0, 0] x (by decide)⟩] (show Shape.Concatenates [S4x32, S4x32] S4x64 1 by decide))
/-- The proposals, from the square roots of the diagonals. -/
def prop (u : Vec F S1x4x64 .f32) (x : FVec F S4x64 .f32) : FVec F S1x4x64 .f32 :=
  shapeCast S1x4x64 (mulf (mulf (shapeCast S4x64 u shapeCasts_S1x4x64_S4x64) x) (wide32 (wide16 (wide8 (wide4 (wide2 (wide1 x))))))) shapeCasts_S4x64_S1x4x64

theorem hz3 : (![0, 0, 0] : Fin 3 → Nat) = fun _ => 0 := by decide

section
variable (x0 x1 : Vec F S1x512x64 .f32) (x2 : Vec F S1x4x64 .f32) (x3 x4 : Vec F S1x1x1 .f32)

/-- The double difference of chunk `c`. -/
def ck (c : Fin 4) : FVec F S64x64 .f32 := chunk x3 x4 (rk x0 c) (rk x1 c)
/-- The chunk of bucket `a`. -/
def ofB (a : Fin 4) : Fin 4 := ⟨a.val / 1, by have := a.isLt; omega⟩
theorem inb_pc (c : Fin 4) : ∀ a, (![0, 1 * c.val, 0, 0] : Fin 4 → Nat) a + S1x1x64x64.size a ≤ S1x4x64x64.size a := by
  revert c; decide
def piece (c : Fin 4) : View.Piece (Elt F) S1x4x64x64 .f32 :=
  ⟨Rect.unit ![0, 1 * c.val, 0, 0] ![1, 1, 64, 64] (inb_pc c), put (ck x0 x1 x3 x4 c)⟩
/-- The pieces of the first output: the blocks of each chunk, last first. -/
def P5 : List (View.Piece (Elt F) S1x4x64x64 .f32) := List.ofFn fun n : Fin 4 => piece x0 x1 x3 x4 n.rev
/-- What the second output holds, -/
def O6 : Vec F S1x4x64 .f32 := shapeCast S1x4x64 (rows fun a => top a (ck x0 x1 x3 x4 (ofB a))) shapeCasts_S4x64_S1x4x64
/-- the square roots of the diagonals, -/
def roots : FVec F S4x64 .f32 := sqrt (rows fun a => diag a (ck x0 x1 x3 x4 (ofB a)))
/-- and what the third output holds. -/
def O7 : Vec F S1x4x64 .f32 := prop x2 (roots x0 x1 x3 x4)
end

theorem k0_pay10_eq (a b : Vec F S64x128 .f32) : k0_pay10 a b = Cert.Rounds.cut a b := rfl
theorem k0_pay17_eq (a b : Vec F S64x128 .f32) : k0_pay17 a b = Cert.Rounds.cut a b := rfl
theorem k0_pay24_eq (a b : Vec F S64x128 .f32) : k0_pay24 a b = Cert.Rounds.cut a b := rfl
theorem k0_pay32_eq (a b : Vec F S64x128 .f32) : k0_pay32 a b = Cert.Rounds.cut a b := rfl
def catR (a0 a1 : FVec F S1x64 .f32) (a2 a3 : FVec F S1x64 .f32) : FVec F S4x64 .f32 := concatenate S4x64 0 (⟨S1x64, a0⟩ :: ⟨S1x64, a1⟩ :: ⟨S1x64, a2⟩ :: ⟨S1x64, a3⟩ :: []) (show Shape.Concatenates (S1x64 :: S1x64 :: S1x64 :: S1x64 :: []) S4x64 0 by decide)
theorem catR_eq (a0 a1 : FVec F S1x64 .f32) (a2 a3 : FVec F S1x64 .f32) (h) : concatenate S4x64 0 (⟨S1x64, a0⟩ :: ⟨S1x64, a1⟩ :: ⟨S1x64, a2⟩ :: ⟨S1x64, a3⟩ :: []) h = catR a0 a1 a2 a3 := rfl
def catW1 (a0 : FVec F S4x1 .f32) (a1 : FVec F S4x63 .f32) : FVec F S4x64 .f32 := concatenate S4x64 1 (⟨S4x1, a0⟩ :: ⟨S4x63, a1⟩ :: []) (show Shape.Concatenates (S4x1 :: S4x63 :: []) S4x64 1 by decide)
theorem catW1_eq (a0 : FVec F S4x1 .f32) (a1 : FVec F S4x63 .f32) (h) : concatenate S4x64 1 (⟨S4x1, a0⟩ :: ⟨S4x63, a1⟩ :: []) h = catW1 a0 a1 := rfl
def catW2 (a0 : FVec F S4x2 .f32) (a1 : FVec F S4x62 .f32) : FVec F S4x64 .f32 := concatenate S4x64 1 (⟨S4x2, a0⟩ :: ⟨S4x62, a1⟩ :: []) (show Shape.Concatenates (S4x2 :: S4x62 :: []) S4x64 1 by decide)
theorem catW2_eq (a0 : FVec F S4x2 .f32) (a1 : FVec F S4x62 .f32) (h) : concatenate S4x64 1 (⟨S4x2, a0⟩ :: ⟨S4x62, a1⟩ :: []) h = catW2 a0 a1 := rfl
def catW4 (a0 : FVec F S4x4 .f32) (a1 : FVec F S4x60 .f32) : FVec F S4x64 .f32 := concatenate S4x64 1 (⟨S4x4, a0⟩ :: ⟨S4x60, a1⟩ :: []) (show Shape.Concatenates (S4x4 :: S4x60 :: []) S4x64 1 by decide)
theorem catW4_eq (a0 : FVec F S4x4 .f32) (a1 : FVec F S4x60 .f32) (h) : concatenate S4x64 1 (⟨S4x4, a0⟩ :: ⟨S4x60, a1⟩ :: []) h = catW4 a0 a1 := rfl
def catW8 (a0 : FVec F S4x8 .f32) (a1 : FVec F S4x56 .f32) : FVec F S4x64 .f32 := concatenate S4x64 1 (⟨S4x8, a0⟩ :: ⟨S4x56, a1⟩ :: []) (show Shape.Concatenates (S4x8 :: S4x56 :: []) S4x64 1 by decide)
theorem catW8_eq (a0 : FVec F S4x8 .f32) (a1 : FVec F S4x56 .f32) (h) : concatenate S4x64 1 (⟨S4x8, a0⟩ :: ⟨S4x56, a1⟩ :: []) h = catW8 a0 a1 := rfl
def catW16 (a0 : FVec F S4x16 .f32) (a1 : FVec F S4x48 .f32) : FVec F S4x64 .f32 := concatenate S4x64 1 (⟨S4x16, a0⟩ :: ⟨S4x48, a1⟩ :: []) (show Shape.Concatenates (S4x16 :: S4x48 :: []) S4x64 1 by decide)
theorem catW16_eq (a0 : FVec F S4x16 .f32) (a1 : FVec F S4x48 .f32) (h) : concatenate S4x64 1 (⟨S4x16, a0⟩ :: ⟨S4x48, a1⟩ :: []) h = catW16 a0 a1 := rfl
def catW32 (a0 a1 : FVec F S4x32 .f32) : FVec F S4x64 .f32 := concatenate S4x64 1 (⟨S4x32, a0⟩ :: ⟨S4x32, a1⟩ :: []) (show Shape.Concatenates (S4x32 :: S4x32 :: []) S4x64 1 by decide)
theorem catW32_eq (a0 a1 : FVec F S4x32 .f32) (h) : concatenate S4x64 1 (⟨S4x32, a0⟩ :: ⟨S4x32, a1⟩ :: []) h = catW32 a0 a1 := rfl

set_option maxHeartbeats 16000000 in
/-- The pieces do not depend on what the second scratch held before. -/
theorem run_eq  (c : Dev nD) (i : grid0.Coords) (arg1 : Memref sig .tc .vmem S1x512x64 .f32) (harg1 : arg1.IsWhole) (arg2 : Memref sig .tc .vmem S1x512x64 .f32) (harg2 : arg2.IsWhole) (arg3 : Memref sig .tc .vmem S1x4x64 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4x64x64 .f32) (harg6 : arg6.IsWhole) (arg7 : Memref sig .tc .vmem S1x4x64 .f32) (harg7 : arg7.IsWhole) (arg8 : Memref sig .tc .vmem S1x4x64 .f32) (harg8 : arg8.IsWhole) (arg9 : Memref sig .tc .vmem S1x128x128 .f32) (harg9 : arg9.IsWhole) (arg10 : Memref sig .tc .vmem S128x128 .f32) (harg10 : arg10.IsWhole)
    (x0 x1 : Vec F S1x512x64 .f32) (x2 : Vec F S1x4x64 .f32) (x3 x4 : Vec F S1x1x1 .f32) (d1 : Vec F S128x128 .f32) :
    (kernelRun0_A c i arg1 harg1 arg2 harg2 arg3 harg3 arg4 harg4 arg5 harg5 arg6 harg6 arg7 harg7 arg8 harg8 arg9 harg9 arg10 harg10 x0 x1 x2 x3 x4 d1).1 = P5 x0 x1 x3 x4
    ∧ (kernelRun0_A c i arg1 harg1 arg2 harg2 arg3 harg3 arg4 harg4 arg5 harg5 arg6 harg6 arg7 harg7 arg8 harg8 arg9 harg9 arg10 harg10 x0 x1 x2 x3 x4 d1).2.1 = [⟨Rect.unit ![0, 0, 0] ![1, 4, 64] inb_S1x4x64_S1x4x64_0_0_0, O6 x0 x1 x3 x4⟩]
    ∧ (kernelRun0_A c i arg1 harg1 arg2 harg2 arg3 harg3 arg4 harg4 arg5 harg5 arg6 harg6 arg7 harg7 arg8 harg8 arg9 harg9 arg10 harg10 x0 x1 x2 x3 x4 d1).2.2.1 = [⟨Rect.unit ![0, 0, 0] ![1, 4, 64] inb_S1x4x64_S1x4x64_0_0_0, O7 x0 x1 x2 x3 x4⟩] := by
  unfold kernelRun0_A
  dsimp only
  sl_unfold_words
  simp only [View.readAt_eq_ld, harg1.read_unread, harg2.read_unread, harg3.read_unread, harg4.read_unread, harg5.read_unread, View.readCov_eq_canon',
    View.ld_unit_zero (S := S1x1x1) hz3, View.ld_unit_zero (S := S1x4x64) hz3, View.canon_cons_unit_zero (S := S1x128x128) hz3]
  dsimp only [k0_pay1, k0_pay2, k0_pay3, k0_pay4, k0_pay5, k0_pay6, k0_pay9, k0_pay11, k0_pay12, k0_pay13, k0_pay15, k0_pay18, k0_pay19, k0_pay20, k0_pay22, k0_pay25, k0_pay26, k0_pay27, k0_pay30, k0_pay33, k0_pay34, k0_pay35, k0_pay36, k0_pay37, k0_pay38]
  simp only [catR_eq, catW1_eq, catW2_eq, catW4_eq, catW8_eq, catW16_eq, catW32_eq]
  simp only [k0_pay10_eq, k0_pay17_eq, k0_pay24_eq, k0_pay32_eq]
  simp only [Cert.Rounds.cut_readAt]
  exact ⟨rfl, rfl, rfl⟩

end Cert.Kd3Ideal.Gen
-- ==== Proof.Kd3IdealFrame.lean ====
module

public import proofs.«01_k».proof.Proof.Kd3IdealPieces
public import Idealize.ShloMosaic.Lib.VecWindow
public import Idealize.ShloMosaic.Lib.Claim

@[expose] public section

set_option maxRecDepth 16384

noncomputable section

namespace Cert.Kd3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem cover5 (x0 x1 : Vec F S1x512x64 .f32) (x3 x4 : Vec F S1x1x1 .f32) (y : S1x4x64x64.Idx) : ∃ pc ∈ P5 x0 x1 x3 x4, y ∈ pc.1.set := by
  have h1 : (y 1).val < 4 := (y 1).isLt
  refine ⟨piece x0 x1 x3 x4 ⟨(y 1).val / 1, by omega⟩, ?_, ?_⟩
  · unfold P5
    rw [List.mem_ofFn]
    exact ⟨(⟨(y 1).val / 1, by omega⟩ : Fin 4).rev, by rw [Fin.rev_rev]⟩
  · unfold piece
    rw [Rect.mem_set_unit]
    intro a
    match a with
    | ⟨0, _⟩ => have : (y 0).val < 1 := (y 0).isLt; exact ⟨Nat.zero_le _, by show (y 0).val < 0 + 1; omega⟩
    | ⟨1, _⟩ => exact ⟨by show 1 * ((y 1).val / 1) ≤ (y 1).val; omega, by show (y 1).val < 1 * ((y 1).val / 1) + 1; omega⟩
    | ⟨2, _⟩ => have : (y 2).val < 64 := (y 2).isLt; exact ⟨Nat.zero_le _, by show (y 2).val < 0 + 64; omega⟩
    | ⟨3, _⟩ => have : (y 3).val < 64 := (y 3).isLt; exact ⟨Nat.zero_le _, by show (y 3).val < 0 + 64; omega⟩

section
variable (c : Dev nD) (i : grid0.Coords) (arg1 : Memref sig .tc .vmem S1x512x64 .f32) (harg1 : arg1.IsWhole) (arg2 : Memref sig .tc .vmem S1x512x64 .f32) (harg2 : arg2.IsWhole) (arg3 : Memref sig .tc .vmem S1x4x64 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x4x64x64 .f32) (harg6 : arg6.IsWhole) (arg7 : Memref sig .tc .vmem S1x4x64 .f32) (harg7 : arg7.IsWhole) (arg8 : Memref sig .tc .vmem S1x4x64 .f32) (harg8 : arg8.IsWhole) (arg9 : Memref sig .tc .vmem S1x128x128 .f32) (harg9 : arg9.IsWhole) (arg10 : Memref sig .tc .vmem S128x128 .f32) (harg10 : arg10.IsWhole)
  (x0 x1 : Vec F S1x512x64 .f32) (x2 : Vec F S1x4x64 .f32) (x3 x4 : Vec F S1x1x1 .f32) (d1 : Vec F S128x128 .f32)

theorem fin5 (f) : arg6.view.read (Elt F) (arg6.view.writes (Elt F) f (kernelRun0_A c i arg1 harg1 arg2 harg2 arg3 harg3 arg4 harg4 arg5 harg5 arg6 harg6 arg7 harg7 arg8 harg8 arg9 harg9 arg10 harg10 x0 x1 x2 x3 x4 d1).1) = View.canon (P5 x0 x1 x3 x4) := by
  rw [(run_eq ..).1]
  exact funext fun y => View.read_writes_apply_eq_canon _ _ y _ (cover5 x0 x1 x3 x4 y)

theorem fin6 (f) : arg7.view.read (Elt F) (arg7.view.writes (Elt F) f (kernelRun0_A c i arg1 harg1 arg2 harg2 arg3 harg3 arg4 harg4 arg5 harg5 arg6 harg6 arg7 harg7 arg8 harg8 arg9 harg9 arg10 harg10 x0 x1 x2 x3 x4 d1).2.1) = O6 x0 x1 x3 x4 := by
  rw [(run_eq ..).2.1]
  exact View.read_writes_full (s := S1x4x64) _ _ _ _ _

theorem fin7 (f) : arg8.view.read (Elt F) (arg8.view.writes (Elt F) f (kernelRun0_A c i arg1 harg1 arg2 harg2 arg3 harg3 arg4 harg4 arg5 harg5 arg6 harg6 arg7 harg7 arg8 harg8 arg9 harg9 arg10 harg10 x0 x1 x2 x3 x4 d1).2.2.1) = O7 x0 x1 x2 x3 x4 := by
  rw [(run_eq ..).2.2]
  exact View.read_writes_full (s := S1x4x64) _ _ _ _ _
end

/-- What the outputs hold after the body at point `t`. -/
def outsAt0 (c : Dev nD) (t : Fin cfg0.N) : Vec F S1x4x64x64 .f32 × Vec F S1x4x64 .f32 × Vec F S1x4x64 .f32 :=
  (View.canon (P5 (iblk m c 0 t) (iblk m c 1 t) (iblk m c 3 t) (iblk m c 4 t)), O6 (iblk m c 0 t) (iblk m c 1 t) (iblk m c 3 t) (iblk m c 4 t),
    O7 (iblk m c 0 t) (iblk m c 1 t) (iblk m c 2 t) (iblk m c 3 t) (iblk m c 4 t))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0; dsimp only
  iintro ⟨⟨⟨HS0, ⟨%d1, HS1⟩⟩, Hg⟩, Ho, ⟨%d0, H0⟩, ⟨%d2, H1⟩, ⟨%d3, H2⟩, ⟨%d4, H3⟩, ⟨%d5, H4⟩, ⟨%d6, H5⟩, ⟨%d7, H6⟩, ⟨%d8, H7⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) d1).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, ⟨%e5, H5⟩, ⟨%e6, H6⟩, ⟨%e7, H7⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact fin5 ..
  isplitl [H6]
  · unfold owns; iexists _; isplitr
    swap; · iexact H6
    ipureintro; exact fin6 ..
  unfold owns; iexists _; isplitr
  swap; · iexact H7
  ipureintro; exact fin7 ..

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The run, with each output array named. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      (h c).1 6,
      (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Kd3Ideal.Gen
-- ==== Proof.Kd3Pay.lean ====
/- A compression round's kernel-difference call, one grid point: what its three output blocks hold, entry by entry. -/
module

public import proofs.«01_k».proof.Proof.Common
public import proofs.«01_k».proof.Proof.Kd3IdealPieces
public import Idealize.ShloMosaic.Lib.Pointwise
public import Idealize.ShloMosaic.Lib.Pipeline.Value

@[expose] public section

noncomputable section

namespace Cert.Kd3Value

open Idealize.ShloMosaic Idealize.ShloMosaic.TcCoe Idealize.SL.Sem Cert.Rounds Cert.Kd3Ideal Cert.Kd3Ideal.Gen

/-! ## One chunk -/

theorem kmV_apply (x3 x4 : Vec Ideal S1x1x1 .f32) (k v : Vec Ideal S1x128x64 .f32) (p q : Fin 128) : kmV (F := Ideal) x3 x4 k v (ix3 0 p q)
    = kmat (fun p e => k (ix3 0 p e)) (fun p e => v (ix3 0 p e)) (x3 (ix3 0 0 0)) (x4 (ix3 0 0 0)) p q := by
  pointwise [kmV, kmat]

theorem trV_apply (K : FVec Ideal S1x128x128 .f32) (q : Fin 128) (i : Fin 64) :
    trV K (ix2 q i) = K (ix3 0 ⟨2 * i.val, by omega⟩ q) - K (ix3 0 ⟨2 * i.val + 1, by omega⟩ q) := by
  unfold trV
  pointwise []
  exact congrArg₂ (fun a b : EReal => a - b) rfl (congrArg K (congrArg (fun p => ix3 0 p q) (Fin.ext (Nat.add_comm 1 (2 * i.val)))))

theorem chunk_apply (x3 x4 : Vec Ideal S1x1x1 .f32) (k v : Vec Ideal S1x128x64 .f32) (i j : Fin 64) : chunk x3 x4 k v (ix2 i j)
    = dd (kmat (fun p e => k (ix3 0 p e)) (fun p e => v (ix3 0 p e)) (x3 (ix3 0 0 0)) (x4 (ix3 0 0 0))) (2 * i.val) (2 * j.val) (by omega) (by omega) := by
  rw [← dd_symm _ (kmat_symm _ _ _ _)]
  show trV (kmV x3 x4 k v) (ix2 ⟨2 * i.val, _⟩ j) - trV (kmV x3 x4 k v) (ix2 ⟨2 * i.val + 1, _⟩ j) = _
  rw [trV_apply, trV_apply, kmV_apply, kmV_apply, kmV_apply, kmV_apply]

theorem rk_apply (x : Vec Ideal S1x512x64 .f32) (c : Fin 4) (p : Fin 128) (e : Fin 64) :
    rk x c (ix3 0 p e) = x (ix3 0 ⟨128 * c.val + p.val, by omega⟩ e) := by
  unfold rk
  refine congrArg x (funext fun q => Fin.ext ?_)
  match q with
  | ⟨0, _⟩ => rfl
  | ⟨1, _⟩ => show 128 * c.val + 1 * p.val = 128 * c.val + p.val; omega
  | ⟨2, _⟩ => show 0 + 1 * e.val = e.val; omega

/-! ## Buckets -/

theorem rows_apply (f : Fin 4 → FVec Ideal S1x64 .f32) (a : Fin 4) (j : Fin 64) : rows f (ix2 a j) = f a (ix2 0 j) := by
  unfold rows
  refine concatenate_ofFn_unit_apply (t := S4x64) (s₁ := S1x64) 0 _ _ rfl rfl (ix2 a j) a rfl (ix2 0 j) fun q hq => ?_
  match q with
  | ⟨0, _⟩ => exact absurd rfl hq
  | ⟨1, _⟩ => rfl

theorem top_apply (a : Fin 4) (x : FVec Ideal S64x64 .f32) (j : Fin 64) :
    top a x (ix2 0 j) = x (ix2 ⟨64 * (a.val % 1) + 0, by omega⟩ ⟨64 * (a.val % 1) + j.val, by omega⟩) := by
  unfold top extractStridedSlice
  refine congrArg x (funext fun q => Fin.ext ?_)
  match q with
  | ⟨0, _⟩ => rfl
  | ⟨1, _⟩ => rfl

theorem dg_apply (x : FVec Ideal S64x64 .f32) (j : Fin 64) : dg x (ix2 0 j) = x (ix2 j j) := by
  pointwise [dg, eye]
  exact sum_indicator (by omega) (fun k => x (ix2 k j)) j

theorem diag_apply (a : Fin 4) (x : FVec Ideal S64x64 .f32) (j : Fin 64) :
    diag a x (ix2 0 j) = x (ix2 ⟨64 * (a.val % 1) + j.val, by omega⟩ ⟨64 * (a.val % 1) + j.val, by omega⟩) := by
  unfold diag
  rw [dg_apply]
  have e : j = ⟨64 * (a.val % 1) + j.val, by omega⟩ := Fin.ext (by show j.val = 64 * (a.val % 1) + j.val; omega)
  exact congrArg₂ (fun p q => x (ix2 p q)) e e

theorem put_apply (x : FVec Ideal S64x64 .f32) (n : Fin 1) (i j : Fin 64) :
    put x (ix4 0 n i j) = x (ix2 ⟨64 * n.val + i.val, by omega⟩ ⟨64 * n.val + j.val, by omega⟩) := by
  obtain rfl : n = 0 := Subsingleton.elim _ _
  unfold put
  pointwise []

section
variable (x0 x1 : Vec Ideal S1x512x64 .f32) (x2 : Vec Ideal S1x4x64 .f32) (x3 x4 : Vec Ideal S1x1x1 .f32)

/-- The rows of the two operands and the two scalars, as functions. -/
abbrev km (p q : Fin 512) : EReal := kmat (fun p e => x0 (ix3 0 p e)) (fun p e => x1 (ix3 0 p e)) (x3 (ix3 0 0 0)) (x4 (ix3 0 0 0)) p q

theorem ck_apply (c : Fin 4) (i j : Fin 64) : ck x0 x1 x3 x4 c (ix2 i j)
    = dd (km x0 x1 x3 x4) (128 * c.val + 2 * i.val) (128 * c.val + 2 * j.val) (by omega) (by omega) := by
  unfold ck
  rw [chunk_apply]
  unfold dd km kmat
  simp only [rk_apply]
  rfl

/-- Bucket `a`'s entry of the double difference. -/
def kdA (a : Fin 4) (i j : Fin 64) : EReal := dd (km x0 x1 x3 x4) (a.val * 128 + 2 * i.val) (a.val * 128 + 2 * j.val) (by omega) (by omega)

theorem blk_eq (a : Fin 4) (i j : Fin 64) : ck x0 x1 x3 x4 (ofB a) (ix2 ⟨64 * (a.val % 1) + i.val, by omega⟩ ⟨64 * (a.val % 1) + j.val, by omega⟩)
    = kdA x0 x1 x3 x4 a i j := by
  rw [ck_apply]
  refine dd_congr _ _ _ _ _ ?_ ?_
  · show 128 * (a.val / 1) + 2 * (64 * (a.val % 1) + i.val) = a.val * 128 + 2 * i.val; omega
  · show 128 * (a.val / 1) + 2 * (64 * (a.val % 1) + j.val) = a.val * 128 + 2 * j.val; omega

/-- The first output, entry by entry. -/
def G5 : Vec Ideal S1x4x64x64 .f32 := fun y => kdA x0 x1 x3 x4 (y 1) (y 2) (y 3)

theorem P5_apply (a : Fin 4) (i j : Fin 64) : View.canon (P5 x0 x1 x3 x4) (ix4 0 a i j) = kdA x0 x1 x3 x4 a i j := by
  refine View.canon_apply_of_pieces (G5 x0 x1 x3 x4) _ ?_ _ ?_
  · intro p hp
    unfold P5 at hp
    rw [List.mem_ofFn] at hp
    obtain ⟨n, rfl⟩ := hp
    refine fun (y : (⟨4, ![1, 1, 64, 64]⟩ : Shape).Idx) => ?_
    obtain ⟨z, b, i, j, rfl⟩ : ∃ (z : Fin 1) (b : Fin 1) (i j : Fin 64), y = ix4 z b i j := ⟨_, _, _, _, eq_ix4 y⟩
    obtain rfl : z = 0 := Subsingleton.elim _ _
    refine (put_apply (ck x0 x1 x3 x4 n.rev) b i j).trans ((ck_apply ..).trans (dd_congr _ _ _ _ _ ?_ ?_))
    · show 128 * n.rev.val + 2 * (64 * b.val + i.val) = (1 * n.rev.val + 1 * b.val) * 128 + 2 * (0 + 1 * i.val); omega
    · show 128 * n.rev.val + 2 * (64 * b.val + j.val) = (1 * n.rev.val + 1 * b.val) * 128 + 2 * (0 + 1 * j.val); omega
  · refine ⟨Gen.piece x0 x1 x3 x4 (ofB a), ?_, ?_⟩
    · unfold P5
      rw [List.mem_ofFn]
      exact ⟨(ofB a).rev, by rw [Fin.rev_rev]⟩
    · unfold Gen.piece
      rw [Rect.mem_set_unit]
      intro q
      match q with
      | ⟨0, _⟩ => exact ⟨Nat.zero_le _, by show 0 < 0 + 1; omega⟩
      | ⟨1, _⟩ => exact ⟨by show 1 * (a.val / 1) ≤ a.val; omega, by show a.val < 1 * (a.val / 1) + 1; omega⟩
      | ⟨2, _⟩ => exact ⟨Nat.zero_le _, by show i.val < 0 + 64; omega⟩
      | ⟨3, _⟩ => exact ⟨Nat.zero_le _, by show j.val < 0 + 64; omega⟩

theorem O6_apply (a : Fin 4) (j : Fin 64) : O6 x0 x1 x3 x4 (ix3 0 a j) = kdA x0 x1 x3 x4 a 0 j := by
  unfold O6
  rw [shapeCast_apply _ _ (ix3 0 a j : S1x4x64.Idx) (ix2 a j : S4x64.Idx) (by
    rw [Shape.rowMajor_val_two, Shape.rowMajor_val_three]; show _ = (0 * _ + _) * _ + _; rw [Nat.zero_mul, Nat.zero_add]; rfl), rows_apply, top_apply]
  exact blk_eq x0 x1 x3 x4 a 0 j

/-- The square root of the diagonal. -/
def rt (a : Fin 4) (j : Fin 64) : EReal := Ideal.sqrt (kdA x0 x1 x3 x4 a j j)

theorem roots_apply (a : Fin 4) (j : Fin 64) : roots x0 x1 x3 x4 (ix2 a j) = rt x0 x1 x3 x4 a j := by
  refine congrArg Ideal.sqrt ((rows_apply ..).trans ((diag_apply ..).trans ?_))
  exact blk_eq x0 x1 x3 x4 a j j

theorem O7_apply (a : Fin 4) (j : Fin 64) : O7 x0 x1 x2 x3 x4 (ix3 0 a j)
    = x2 (ix3 0 a j) * rt x0 x1 x3 x4 a j * runMax (rt x0 x1 x3 x4 a) j := by
  have hb : Scalar.ofBits (F := Ideal) .f32 0xFF800000#32 = ⊥ := ofBits_ninf_f32
  have w1 := win_one (A := 4) (m := 64) (roots x0 x1 x3 x4)
  have w2 : Win (fun (a : Fin 4) (j : Fin 64) => roots x0 x1 x3 x4 (ix2 a j)) 2 (wide1 (roots x0 x1 x3 x4)) :=
    win_step 1 63 w1 rfl rfl _ hb (by decide) (show Shape.Concatenates [S4x1, S4x63] S4x64 1 by decide)
  have w4 : Win (fun (a : Fin 4) (j : Fin 64) => roots x0 x1 x3 x4 (ix2 a j)) 4 (wide2 (wide1 (roots x0 x1 x3 x4))) :=
    win_step 2 62 w2 rfl rfl _ hb (by decide) (show Shape.Concatenates [S4x2, S4x62] S4x64 1 by decide)
  have w8 : Win (fun (a : Fin 4) (j : Fin 64) => roots x0 x1 x3 x4 (ix2 a j)) 8 (wide4 (wide2 (wide1 (roots x0 x1 x3 x4)))) :=
    win_step 4 60 w4 rfl rfl _ hb (by decide) (show Shape.Concatenates [S4x4, S4x60] S4x64 1 by decide)
  have w16 : Win (fun (a : Fin 4) (j : Fin 64) => roots x0 x1 x3 x4 (ix2 a j)) 16 (wide8 (wide4 (wide2 (wide1 (roots x0 x1 x3 x4))))) :=
    win_step 8 56 w8 rfl rfl _ hb (by decide) (show Shape.Concatenates [S4x8, S4x56] S4x64 1 by decide)
  have w32 : Win (fun (a : Fin 4) (j : Fin 64) => roots x0 x1 x3 x4 (ix2 a j)) 32 (wide16 (wide8 (wide4 (wide2 (wide1 (roots x0 x1 x3 x4)))))) :=
    win_step 16 48 w16 rfl rfl _ hb (by decide) (show Shape.Concatenates [S4x16, S4x48] S4x64 1 by decide)
  have w64 : Win (fun (a : Fin 4) (j : Fin 64) => roots x0 x1 x3 x4 (ix2 a j)) 64 (wide32 (wide16 (wide8 (wide4 (wide2 (wide1 (roots x0 x1 x3 x4))))))) :=
    win_step 32 32 w32 rfl rfl _ hb (by decide) (show Shape.Concatenates [S4x32, S4x32] S4x64 1 by decide)
  have e := win_full w64 (by omega) a j
  have er : (fun j : Fin 64 => roots x0 x1 x3 x4 (ix2 a j)) = rt x0 x1 x3 x4 a := funext (roots_apply x0 x1 x3 x4 a)
  rw [er] at e
  rw [← e, ← roots_apply]
  unfold O7 prop
  rw [shapeCast_apply _ _ (ix3 0 a j : S1x4x64.Idx) (ix2 a j : S4x64.Idx) (by
    rw [Shape.rowMajor_val_two, Shape.rowMajor_val_three]; show _ = (0 * _ + _) * _ + _; rw [Nat.zero_mul, Nat.zero_add]; rfl)]
  refine congrArg₂ (fun a b : EReal => a * b) (congrArg₂ (fun a b : EReal => a * b) ?_ rfl) rfl
  exact shapeCast_apply _ _ (ix2 a j : S4x64.Idx) (ix3 0 a j : S1x4x64.Idx) (by
    rw [Shape.rowMajor_val_two, Shape.rowMajor_val_three]; show (0 * _ + _) * _ + _ = _; rw [Nat.zero_mul, Nat.zero_add]; rfl)

end

end Cert.Kd3Value
-- ==== Proof.Kd3Ref.lean ====
module

public import proofs.«01_k».proof.Proof.Common
public import proofs.«01_k».proof.Proof.Gen.RefKd3Ideal.Read
public import Idealize.ShloMosaic.Lib.Pointwise

@[expose] public section

noncomputable section

namespace Cert.Kd3Value

open Idealize.ShloMosaic Idealize.ShloMosaic.TcCoe Idealize.SL.Sem Cert.Rounds Cert.RefKd3Ideal Cert.RefKd3Ideal.Value Cert.RefKd3Ideal.Read

theorem gather_diag (g : Fin 32) (a : Fin 4) (i : Fin 64) (x : FVec Ideal S32x4x64x64 .f32) (k : IVec S64x2 32)
    (h0 : k (ix2 i 0) = BitVec.ofNat 32 i.val) (h1 : k (ix2 i 1) = BitVec.ofNat 32 i.val) :
    Host.gather gather_S32x4x64x64_S64x2_S32x4x64_01_23_n_n_23_1_32411 x k (ix3 g a i) = x (ix4 g a i i) := by
  have hi : (BitVec.ofNat 32 i.val).toInt.toNat = i.val := by
    have := i.isLt
    rw [BitVec.toInt_eq_toNat_of_lt (by simp; omega)]; simp; omega
  refine congrArg x (funext fun q => Fin.ext ?_)
  match q with
  | ⟨0, _⟩ => show 0 + 0 + g.val = g.val; omega
  | ⟨1, _⟩ => show 0 + 0 + a.val = a.val; omega
  | ⟨2, _⟩ =>
    show min (k _).toInt.toNat (64 - 1) + 0 + 0 = i.val
    have : k ((gather_S32x4x64x64_S64x2_S32x4x64_01_23_n_n_23_1_32411).siIdx (ix3 g a i) (⟨0, by decide⟩)) = BitVec.ofNat 32 i.val := by
      refine Eq.trans (congrArg k (funext fun b => ?_)) h0
      match b with
      | ⟨0, _⟩ => rfl
      | ⟨1, _⟩ => rfl
    rw [show ∀ y, min y (64 - 1) + 0 + 0 = min y 63 from fun _ => rfl]
    refine Eq.trans (congrArg (fun z : BitVec 32 => min z.toInt.toNat 63) this) ?_
    simp only [hi]; have := i.isLt; omega
  | ⟨3, _⟩ =>
    show min (k _).toInt.toNat (64 - 1) + 0 + 0 = i.val
    have : k ((gather_S32x4x64x64_S64x2_S32x4x64_01_23_n_n_23_1_32411).siIdx (ix3 g a i) (⟨1, by decide⟩)) = BitVec.ofNat 32 i.val := by
      refine Eq.trans (congrArg k (funext fun b => ?_)) h1
      match b with
      | ⟨0, _⟩ => rfl
      | ⟨1, _⟩ => rfl
    refine Eq.trans (congrArg (fun z : BitVec 32 => min z.toInt.toNat 63) this) ?_
    simp only [hi]; have := i.isLt; omega

theorem idx0 (i : Fin 64) : val_main_call0_v14 (F := Ideal) (ix2 i 0) = BitVec.ofNat 32 i.val := by
  unfold val_main_call0_v14
  pointwise [val_main_call0_v12, val_main_call0_v6, val_main_call0_v5, val_main_call0_v3, val_main_call0_v2, val_main_call0_v4, val_main_call0_c, val_main_call0_c_0, val_main_call0_v0]
  revert i; decide +kernel

theorem idx1 (i : Fin 64) : val_main_call0_v14 (F := Ideal) (ix2 i 1) = BitVec.ofNat 32 i.val := by
  unfold val_main_call0_v14
  pointwise [val_main_call0_v13, val_main_call0_v11, val_main_call0_v10, val_main_call0_v8, val_main_call0_v7, val_main_call0_v9, val_main_call0_c_1, val_main_call0_c_2, val_main_call0_v1]
  revert i; decide +kernel

variable (x0 x1 : (⟨S32x512x64, .f32⟩ : BufTy).Contents (Elt Ideal)) (x2 : (⟨S32x4x64, .f32⟩ : BufTy).Contents (Elt Ideal)) (x3 x4 : (⟨S32x1x1, .f32⟩ : BufTy).Contents (Elt Ideal))
    (g : Fin 32) (a : Fin 4)

theorem v11 (i j : Fin 128) : val_main_v11 x0 x1 x3 x4 (ix4 g a i j)
    = sKm x0 x1 x3 x4 g ⟨a.val * 128 + i.val, by omega⟩ ⟨a.val * 128 + j.val, by omega⟩ := by
  unfold val_main_v11 val_main_v10 val_main_v9 val_main_v8 val_main_v7 val_main_v6 val_main_v5 val_main_v4 val_main_v3 val_main_v2 val_main_v1 val_main_v0
  pointwise [sKm, kmat]

theorem v17 (i j : Fin 64) : val_main_v17 x0 x1 x3 x4 (ix4 g a i j) = sKdAt x0 x1 x3 x4 rfl g a i j := by
  unfold val_main_v17 val_main_v16 val_main_v15 val_main_v14 val_main_v13 val_main_v12
  pointwise [sKdAt, dd]
  refine congrArg₂ _ (congrArg₂ _ ((v11 ..).trans ?_) ((v11 ..).trans ?_)) (congrArg₂ _ ((v11 ..).trans ?_) ((v11 ..).trans ?_)) <;>
    exact congrArg₂ _ (Fin.ext (by first | rfl | omega | (dsimp only; omega))) (Fin.ext (by first | rfl | omega | (dsimp only; omega)))

theorem v20 (i : Fin 64) : val_main_v20 x0 x1 x3 x4 (ix3 g a i) = sKdAt x0 x1 x3 x4 rfl g a i i :=
  (gather_diag g a i _ _ (idx0 i) (idx1 i)).trans (v17 ..)

theorem v21 (i : Fin 64) : val_main_v21 x0 x1 x3 x4 (ix3 g a i) = sRt x0 x1 x3 x4 rfl g a i :=
  congrArg Ideal.sqrt (v20 ..)

theorem v24 (j : Fin 64) : val_main_v24 x0 x1 x2 x3 x4 (ix3 g a j) = sU x0 x1 x2 x3 x4 rfl (ix3 g a j) := by
  pointwise [val_main_v24, val_main_v22, sU]
  refine congrArg₂ _ (congrArg₂ _ rfl (v21 ..)) ?_
  refine (reduceWindow_max (l := 63) (m := 64) (by decide) _ _ (fun i => ofBits_ninf_f32) _ _ _ _ _).trans ?_
  · exact congrArg (fun f => runMax f j) (funext fun i => v21 ..)

theorem v19 (j : Fin 64) : val_main_v19 x0 x1 x3 x4 (ix3 g a j) = sC0 x0 x1 x3 x4 rfl (by decide) (ix3 g a j) := by
  unfold val_main_v19 val_main_v18
  pointwise [sC0]
  exact v17 x0 x1 x3 x4 g a 0 j

theorem v17_eq : val_main_v17 x0 x1 x3 x4 = sKd x0 x1 x3 x4 rfl := by
  funext y
  rw [eq_ix4 y]
  exact v17 ..

theorem v19_eq : val_main_v19 x0 x1 x3 x4 = sC0 x0 x1 x3 x4 rfl (by decide) := by
  funext y
  rw [eq_ix3 y]
  exact v19 ..

theorem v24_eq : val_main_v24 x0 x1 x2 x3 x4 = sU x0 x1 x2 x3 x4 rfl := by
  funext y
  rw [eq_ix3 y]
  exact v24 ..

end Cert.Kd3Value
-- ==== Proof.Kd3Value.lean ====
module

public import proofs.«01_k».proof.Proof.Kd3Pay
public import proofs.«01_k».proof.Proof.Kd3Ref
public import proofs.«01_k».proof.Defs
public import proofs.«01_k».proof.Proof.Kd3IdealFrame
public import Idealize.ShloMosaic.Lib.Pipeline.ValueKit

@[expose] public section

noncomputable section

namespace Cert.Kd3Value

open Idealize.ShloMosaic Idealize.ShloMosaic.TcCoe Idealize.SL.Sem Cert.Rounds Cert.Kd3Ideal Cert.Kd3Ideal.Gen

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, 0] := (by decide +kernel : ∀ t : Fin grid0.N, _)
theorem e5 : ∀ t : Fin cfg0.N, win0_5.index t = ![(grid0.coords t 0).val, 0, 0, 0] := (by decide +kernel : ∀ t : Fin grid0.N, _)
theorem e6 : ∀ t : Fin cfg0.N, win0_6.index t = ![(grid0.coords t 0).val, 0, 0] := (by decide +kernel : ∀ t : Fin grid0.N, _)
theorem e7 : ∀ t : Fin cfg0.N, win0_7.index t = ![(grid0.coords t 0).val, 0, 0] := (by decide +kernel : ∀ t : Fin grid0.N, _)

variable (m : (ℓ : Loc nD τ sig) → Buf (Elt Ideal) ℓ) (c : Dev nD)

theorem blk0 (t : Fin cfg0.N) (p : Fin 512) (e : Fin 64) :
    iblk m c 0 t (ix3 0 p e) = (m (c.tc.loc main_arg0)) (ix3 (grid0.coords t 0) p e) := by
  blk_simp [iblk, V, e0 t]
  refine congrArg _ (funext fun q => Fin.ext ?_)
  match q with
  | ⟨0, _⟩ => blk_simp [e0 t]; rfl
  | ⟨1, _⟩ => blk_simp [e0 t]
  | ⟨2, _⟩ => blk_simp [e0 t]

theorem blk1 (t : Fin cfg0.N) (p : Fin 512) (e : Fin 64) :
    iblk m c 1 t (ix3 0 p e) = (m (c.tc.loc main_arg1)) (ix3 (grid0.coords t 0) p e) := by
  blk_simp [iblk, V, e1 t]
  refine congrArg _ (funext fun q => Fin.ext ?_)
  match q with
  | ⟨0, _⟩ => blk_simp [e1 t]; rfl
  | ⟨1, _⟩ => blk_simp [e1 t]
  | ⟨2, _⟩ => blk_simp [e1 t]

theorem blk2 (t : Fin cfg0.N) (p : Fin 4) (e : Fin 64) :
    iblk m c 2 t (ix3 0 p e) = (m (c.tc.loc main_arg2)) (ix3 (grid0.coords t 0) p e) := by
  blk_simp [iblk, V, e2 t]
  refine congrArg _ (funext fun q => Fin.ext ?_)
  match q with
  | ⟨0, _⟩ => blk_simp [e2 t]; rfl
  | ⟨1, _⟩ => blk_simp [e2 t]
  | ⟨2, _⟩ => blk_simp [e2 t]

theorem blk3 (t : Fin cfg0.N) (p : Fin 1) (e : Fin 1) :
    iblk m c 3 t (ix3 0 p e) = (m (c.tc.loc main_arg3)) (ix3 (grid0.coords t 0) p e) := by
  blk_simp [iblk, V, e3 t]
  refine congrArg _ (funext fun q => Fin.ext ?_)
  match q with
  | ⟨0, _⟩ => blk_simp [e3 t]; rfl
  | ⟨1, _⟩ => blk_simp [e3 t]
  | ⟨2, _⟩ => blk_simp [e3 t]

theorem blk4 (t : Fin cfg0.N) (p : Fin 1) (e : Fin 1) :
    iblk m c 4 t (ix3 0 p e) = (m (c.tc.loc main_arg4)) (ix3 (grid0.coords t 0) p e) := by
  blk_simp [iblk, V, e4 t]
  refine congrArg _ (funext fun q => Fin.ext ?_)
  match q with
  | ⟨0, _⟩ => blk_simp [e4 t]; rfl
  | ⟨1, _⟩ => blk_simp [e4 t]
  | ⟨2, _⟩ => blk_simp [e4 t]

theorem km_blk (t : Fin cfg0.N) : km (iblk m c 0 t) (iblk m c 1 t) (iblk m c 3 t) (iblk m c 4 t) =
    sKm (m (c.tc.loc main_arg0)) (m (c.tc.loc main_arg1)) (m (c.tc.loc main_arg3)) (m (c.tc.loc main_arg4)) (grid0.coords t 0) := by
  unfold km sKm
  rw [blk3, blk4]
  exact congrArg₂ (fun k v => kmat k v _ _) (funext fun p => funext fun e => blk0 m c t p e) (funext fun p => funext fun e => blk1 m c t p e)

theorem kd_blk (t : Fin cfg0.N) (a : Fin 4) (i j : Fin 64) : kdA (iblk m c 0 t) (iblk m c 1 t) (iblk m c 3 t) (iblk m c 4 t) a i j =
      sKdAt (m (c.tc.loc main_arg0)) (m (c.tc.loc main_arg1)) (m (c.tc.loc main_arg3)) (m (c.tc.loc main_arg4)) (by decide) (grid0.coords t 0) a i j := by
  unfold kdA sKdAt
  rw [km_blk]

theorem emb5 (t : Fin cfg0.N) (a : Fin 4) (i j : Fin 64) : (win0_5.blk t).view.emb (ix4 0 a i j) = ix4 (grid0.coords t 0) a i j := by
  refine funext fun q => Fin.ext ?_
  match q with
  | ⟨0, _⟩ => blk_simp [e5 t]; rfl
  | ⟨1, _⟩ => blk_simp [e5 t]
  | ⟨2, _⟩ => blk_simp [e5 t]
  | ⟨3, _⟩ => blk_simp [e5 t]

theorem emb6 (t : Fin cfg0.N) (a : Fin 4) (j : Fin 64) : (win0_6.blk t).view.emb (ix3 0 a j) = ix3 (grid0.coords t 0) a j := by
  refine funext fun q => Fin.ext ?_
  match q with
  | ⟨0, _⟩ => blk_simp [e6 t]; rfl
  | ⟨1, _⟩ => blk_simp [e6 t]
  | ⟨2, _⟩ => blk_simp [e6 t]

theorem emb7 (t : Fin cfg0.N) (a : Fin 4) (j : Fin 64) : (win0_7.blk t).view.emb (ix3 0 a j) = ix3 (grid0.coords t 0) a j := by
  refine funext fun q => Fin.ext ?_
  match q with
  | ⟨0, _⟩ => blk_simp [e7 t]; rfl
  | ⟨1, _⟩ => blk_simp [e7 t]
  | ⟨2, _⟩ => blk_simp [e7 t]

set_option maxHeartbeats 4000000 in
theorem final5 : (dats m 0 c).arrAt 5 cfg0.N = sKd (m (c.tc.loc main_arg0)) (m (c.tc.loc main_arg1)) (m (c.tc.loc main_arg3)) (m (c.tc.loc main_arg4)) (by decide) := by
  refine (dats m 0 c).arrAt_eq_of_covers 5 _ (by decide +kernel) fun t hf y => ?_
  blk_simp [e5 t]
  refine (congrFun (after0_5 m c t) y).trans ?_
  revert y
  refine fun (y : (⟨4, ![1, 4, 64, 64]⟩ : Shape).Idx) => ?_
  obtain ⟨z, a, i, j, rfl⟩ : ∃ (z : Fin 1) (a : Fin 4) (i j : Fin 64), y = ix4 z a i j := ⟨_, _, _, _, eq_ix4 y⟩
  obtain rfl : z = 0 := Subsingleton.elim _ _
  exact (P5_apply ..).trans ((kd_blk m c t a i j).trans (congrArg (sKd (m (c.tc.loc main_arg0)) (m (c.tc.loc main_arg1)) (m (c.tc.loc main_arg3)) (m (c.tc.loc main_arg4)) (by decide)) (emb5 t a i j)).symm)

theorem final6 : (dats m 0 c).arrAt 6 cfg0.N = sC0 (m (c.tc.loc main_arg0)) (m (c.tc.loc main_arg1)) (m (c.tc.loc main_arg3)) (m (c.tc.loc main_arg4)) (by decide) (by decide) := by
  refine (dats m 0 c).arrAt_eq_of_covers 6 _ (by decide +kernel) fun t hf y => ?_
  blk_simp [e6 t]
  refine (congrFun (after0_6 m c t) y).trans ?_
  revert y
  refine fun (y : (⟨3, ![1, 4, 64]⟩ : Shape).Idx) => ?_
  obtain ⟨z, a, j, rfl⟩ : ∃ (z : Fin 1) (a : Fin 4) (j : Fin 64), y = ix3 z a j := ⟨_, _, _, eq_ix3 y⟩
  obtain rfl : z = 0 := Subsingleton.elim _ _
  exact (O6_apply ..).trans ((kd_blk m c t a 0 j).trans (congrArg (sC0 (m (c.tc.loc main_arg0)) (m (c.tc.loc main_arg1)) (m (c.tc.loc main_arg3)) (m (c.tc.loc main_arg4)) (by decide) (by decide)) (emb6 t a j)).symm)

theorem rt_blk (t : Fin cfg0.N) (a : Fin 4) (j : Fin 64) : rt (iblk m c 0 t) (iblk m c 1 t) (iblk m c 3 t) (iblk m c 4 t) a j =
    sRt (m (c.tc.loc main_arg0)) (m (c.tc.loc main_arg1)) (m (c.tc.loc main_arg3)) (m (c.tc.loc main_arg4)) (by decide) (grid0.coords t 0) a j :=
  congrArg Ideal.sqrt (kd_blk m c t a j j)

theorem final7 : (dats m 0 c).arrAt 7 cfg0.N = sU (m (c.tc.loc main_arg0)) (m (c.tc.loc main_arg1)) (m (c.tc.loc main_arg2)) (m (c.tc.loc main_arg3)) (m (c.tc.loc main_arg4)) (by decide) := by
  refine (dats m 0 c).arrAt_eq_of_covers 7 _ (by decide +kernel) fun t hf y => ?_
  blk_simp [e7 t]
  refine (congrFun (after0_7 m c t) y).trans ?_
  revert y
  refine fun (y : (⟨3, ![1, 4, 64]⟩ : Shape).Idx) => ?_
  obtain ⟨z, a, j, rfl⟩ : ∃ (z : Fin 1) (a : Fin 4) (j : Fin 64), y = ix3 z a j := ⟨_, _, _, eq_ix3 y⟩
  obtain rfl : z = 0 := Subsingleton.elim _ _
  refine (O7_apply ..).trans (Eq.trans ?_ (congrArg (sU (m (c.tc.loc main_arg0)) (m (c.tc.loc main_arg1)) (m (c.tc.loc main_arg2)) (m (c.tc.loc main_arg3)) (m (c.tc.loc main_arg4)) (by decide)) (emb7 t a j)).symm)
  exact congrArg₂ (· * ·) (congrArg₂ (· * ·) (blk2 m c t a j) (rt_blk m c t a j)) (congrArg (fun f => runMax f j) (funext fun i => rt_blk m c t a i))

theorem algebraic : Cert.algebraic_Kd3Ideal_RefKd3Ideal (hKd3Ideal := Cert.Kd3Ideal.Gen.facts) (hRefKd3Ideal := Cert.RefKd3Ideal.Gen.facts) := by
  intro m g m' g' _ hm
  refine ⟨_, _, _, run_blocks m g, ?_⟩
  refine (θ_run _ _ _).mono (fun r h c => ?_) (Cert.RefKd3Ideal.Value.run m' g')
  obtain ⟨h17, h19, h24, hk⟩ := h c
  obtain ⟨a0, a1, a2, a3, a4⟩ := hm c
  refine ⟨h17.trans ?_, h19.trans ?_, h24.trans ?_, hk⟩
  · rw [Cert.RefKd3Ideal.Read.val_main_v17_eq, v17_eq, final5, a0, a1, a3, a4]
  · rw [Cert.RefKd3Ideal.Read.val_main_v19_eq, v19_eq, final6, a0, a1, a3, a4]
  · rw [Cert.RefKd3Ideal.Read.val_main_v24_eq, v24_eq, final7, a0, a1, a2, a3, a4]

end Cert.Kd3Value
-- ==== Proof.Scan3Pay.lean ====
module

public import proofs.«01_k».proof.Proof.ScanSpec
public import proofs.«01_k».proof.Proof.Gen.Scan3Ideal.Value
public import Idealize.ShloMosaic.Lib.Pipeline.ValueKit
public import Idealize.ShloMosaic.Lib.WholeRead

@[expose] public section

noncomputable section

namespace Cert.Scan3Value

open Idealize.ShloMosaic Idealize.ShloMosaic.TcCoe Idealize.SL.Sem Cert.Rounds Cert.Scan3Ideal Cert.Scan3Ideal.Gen Cert.Scan3Ideal.Value

theorem trips_eq : k0_t1_loop.trips = 63 := by decide +kernel

theorem trip_lt (t : Fin k0_t1_loop.trips) : t.val + 1 < 64 := by
  have h := Nat.lt_of_lt_of_eq t.isLt trips_eq
  omega

/-- The pair that trip `t` decides. -/
def pr (t : Fin k0_t1_loop.trips) : Fin 64 := ⟨t.val + 1, trip_lt t⟩

/-- The row of a bucket of a batch and head, among all of them. -/
def rowN (g : Fin 32) (a : Fin 4) : Fin 128 := ⟨g.val * 4 + a.val, by have := g.isLt; have := a.isLt; omega⟩

theorem cast_rows (v : Vec Ideal S32x4x64 .f32) (g : Fin 32) (a : Fin 4) (j : Fin 64) :
    shapeCast S128x64 v shapeCasts_S32x4x64_S128x64 (ix2 (rowN g a) j) = v (ix3 g a j) :=
  shapeCast_apply v shapeCasts_S32x4x64_S128x64 (ix2 (rowN g a) j) (ix3 g a j) (by
    rw [Shape.rowMajor_val_two, Shape.rowMajor_val_three]
    rfl)

theorem cast_slab (w : Vec Ideal S32x4x1x64 .f32) (g : Fin 32) (a : Fin 4) (j : Fin 64) :
    shapeCast S128x64 w shapeCasts_S32x4x1x64_S128x64 (ix2 (rowN g a) j) = w (ix4 g a 0 j) :=
  shapeCast_apply w shapeCasts_S32x4x1x64_S128x64 (ix2 (rowN g a) j) (ix4 g a 0 j) (by
    rw [Shape.rowMajor_val_two, Shape.rowMajor_val_four]
    show ((g.val * 4 + a.val) * 1 + 0) * 64 + j.val = (g.val * 4 + a.val) * 64 + j.val
    omega)

/-- The bit that trip `t` decides for row `n`. -/
theorem pay5_row (v4 : Vec Ideal S32x4x64 .f32) (t : Fin k0_t1_loop.trips) (x : FVec Ideal S128x64 .f32) (n : Fin 128) :
    k0_pay5 v4 t x (ix2 n 0) = bitF (scBit (fun j => shapeCast S128x64 v4 shapeCasts_S32x4x64_S128x64 (ix2 n j)) (fun j => x (ix2 n j)) (pr t)) := by
  have h1 := sum_indicator (n := 64) (by norm_num) (fun j => shapeCast S128x64 v4 shapeCasts_S32x4x64_S128x64 (ix2 n j)) (pr t)
  have h2 := sum_indicator (n := 64) (by norm_num) (fun j => x (ix2 n j)) (pr t)
  unfold k0_pay5
  generalize shapeCast S128x64 v4 shapeCasts_S32x4x64_S128x64 = U at h1 ⊢
  pointwise [k0_pay4]
  rw [iv_one, sitofp_bit]
  refine congrArg bitF (congrArg BitVec.ofBool (decide_eq_decide.mpr ?_))
  exact iff_of_eq (congrArg₂ (· ≤ ·) h1 h2)

theorem pay5_apply (v4 : Vec Ideal S32x4x64 .f32) (t : Fin k0_t1_loop.trips) (x : FVec Ideal S128x64 .f32) (g : Fin 32) (a : Fin 4) :
    k0_pay5 v4 t x (ix2 (rowN g a) 0) = bitF (scBit (fun j => v4 (ix3 g a j)) (fun j => x (ix2 (rowN g a) j)) (pr t)) := by
  rw [pay5_row, funext fun j => cast_rows v4 g a j]

theorem pay7_apply (v4 : Vec Ideal S32x4x64 .f32) (t : Fin k0_t1_loop.trips) (x : FVec Ideal S128x64 .f32) (w : Vec Ideal S32x4x1x64 .f32)
    (K : Fin 64 → Fin 64 → EReal) (g : Fin 32) (a : Fin 4) (hw : ∀ j, w (ix4 g a 0 j) = K (pr t) j) (j : Fin 64) :
    k0_pay7 v4 t x w (ix2 (rowN g a) j) = scStep K (fun j => v4 (ix3 g a j)) (fun j => x (ix2 (rowN g a) j)) (pr t) j := by
  have h5 := pay5_apply v4 t x g a
  have hj := (cast_slab w g a j).trans (hw j)
  generalize rowN g a = n at h5 hj ⊢
  unfold k0_pay7
  generalize shapeCast S128x64 w shapeCasts_S32x4x1x64_S128x64 = W at hj ⊢
  pointwise []
  rw [h5, hj]
  rfl

theorem pay6_apply (v0 : Vec Ideal S1x1x1 .f32) (fl : BitVec 1) (h0 : v0 (ix3 0 0 0) = bitF fl) (v4 : Vec Ideal S32x4x64 .f32) (t : Fin k0_t1_loop.trips)
    (x s : FVec Ideal S128x64 .f32) (g : Fin 32) (a : Fin 4) (j : Fin 64) :
    k0_pay6 v0 v4 t x s (ix2 (rowN g a) j) = s (ix2 (rowN g a) j) + bitF (scBit (fun j => v4 (ix3 g a j)) (fun j => x (ix2 (rowN g a) j)) (pr t) ^^^ fl) * if j.val = t.val + 1 then 1 else 0 := by
  have h5 := pay5_apply v4 t x g a
  have hi := ind_eq (p := j.val) (q := t.val + 1) (by have := j.isLt; omega) (by have := trip_lt t; omega)
  generalize rowN g a = n at h5 ⊢
  pointwise [k0_pay6, k0_pay4, k0_pay1]
  rw [h5, h0, iv_one, hi, abs_sub_bit]

theorem pay3_apply (v0 : Vec Ideal S1x1x1 .f32) (fl : BitVec 1) (h0 : v0 (ix3 0 0 0) = bitF fl) (n : Fin 128) (j : Fin 64) :
    k0_pay3 v0 (ix2 n j) = if j.val = 0 then bitF fl else 0 := by
  pointwise [k0_pay3, k0_pay1]
  rw [h0]
  by_cases h : j.val = 0
  · rw [h, if_pos rfl]
    rfl
  · rw [if_neg h]
    have hne : (BitVec.ofNat 32 j.val == 0#32) = false := by
      refine beq_eq_false_iff_ne.mpr fun e => h ?_
      have e' := congrArg BitVec.toNat e
      simp only [BitVec.toNat_ofNat] at e'
      rwa [Nat.mod_eq_of_lt (by have := j.isLt; omega)] at e'
    show Scalar.select (BitVec.ofBool (BitVec.ofNat 32 j.val == 0#32)) _ _ = _
    rw [hne]
    rfl

theorem pay2_apply (v2 : Vec Ideal S32x4x64 .f32) (g : Fin 32) (a : Fin 4) (j : Fin 64) : k0_pay2 v2 (ix2 (rowN g a) j) = v2 (ix3 g a j) := cast_rows v2 g a j

theorem pay8_apply (x : FVec Ideal S128x64 .f32) (g : Fin 32) (a : Fin 4) (j : Fin 64) : k0_pay8 x (ix3 g a j) = x (ix2 (rowN g a) j) :=
  shapeCast_apply x shapeCasts_S128x64_S32x4x64 (ix3 g a j) (ix2 (rowN g a) j) (by
    rw [Shape.rowMajor_val_two, Shape.rowMajor_val_three]
    rfl)

/-! ## The loop -/

section
variable (c : Dev nD) (bd : Option Variants.none.V) (i : grid0.Coords) (arg1 : Memref sig .tc .vmem S32x4x64x64 .f32) (harg1 : arg1.IsWhole)
  (arg2 : Memref sig .tc .vmem S32x4x64 .f32) (harg2 : arg2.IsWhole) (arg3 : Memref sig .tc .vmem S32x4x64 .f32) (harg3 : arg3.IsWhole)
  (arg4 : Memref sig .tc .vmem S1x1x1 .f32) (harg4 : arg4.IsWhole) (arg5 : Memref sig .tc .vmem S32x4x64 .f32) (harg5 : arg5.IsWhole)
  (x0 : Vec Ideal S32x4x64x64 .f32) (v0 : Vec Ideal S1x1x1 .f32) (v2 v4 : Vec Ideal S32x4x64 .f32)

/-- What a trip loads: one row of every batch and head's differences. -/
def row (x0 : Vec Ideal S32x4x64x64 .f32) (t : Fin k0_t1_loop.trips) : Vec Ideal S32x4x1x64 .f32 := fun y =>
  x0 ((Rect.unit (s := S32x4x64x64) (k0_off1 t) S32x4x1x64.size (k0_off1_inb t)).toLoadRect.idx y)

theorem row_apply (t : Fin k0_t1_loop.trips) (g : Fin 32) (a : Fin 4) (j : Fin 64) : row x0 t (ix4 g a 0 j) = x0 (ix4 g a (pr t) j) := by
  refine congrArg x0 (funext fun q => Fin.ext ?_)
  have := trip_lt t
  have e : (Scf.iv 1#32 1#32 t.val).toNat = t.val + 1 := by
    rw [iv_one, BitVec.toNat_ofNat, Nat.mod_eq_of_lt (by omega)]
  match q with
  | ⟨0, _⟩ => show 0 + 1 * g.val = g.val; omega
  | ⟨1, _⟩ => show 0 + 1 * a.val = a.val; omega
  | ⟨2, _⟩ =>
    show k0_off1 t 2 + 1 * 0 = t.val + 1
    unfold k0_off1
    dsimp
    exact e
  | ⟨3, _⟩ => show 0 + 1 * j.val = j.val; omega

theorem trip_eq (t : Fin k0_t1_loop.trips) (acc : FVec Ideal S128x64 .f32 × FVec Ideal S128x64 .f32) :
    tripR_k0_t1 Variants.none c bd i arg1 harg1 arg2 harg2 arg3 harg3 arg4 harg4 arg5 harg5 v0 v4 (harg1.unread x0) t acc
      = (k0_pay7 v4 t acc.1 (row x0 t), k0_pay6 v0 v4 t acc.1 acc.2) := by
  unfold tripR_k0_t1 trip_k0_t1
  dsimp only
  sl_unfold_words
  exact congrArg₂ Prod.mk (congrArg (k0_pay7 v4 t acc.1) (funext fun x => Memref.IsWhole.readAt_unread harg1 x0 _ x)) rfl

/-- The carried values before trip `k`: the cumulative differences, and the bits decided so far. -/
theorem st_spec (fl : BitVec 1) (h0 : v0 (ix3 0 0 0) = bitF fl) (k : Nat) (hk : k ≤ 63) (g : Fin 32) (a : Fin 4) (j : Fin 64) :
    (st_k0_t1 Variants.none c bd i arg1 harg1 arg2 harg2 arg3 harg3 arg4 harg4 arg5 harg5 v0 v4 (harg1.unread x0) (k0_pay2 v2, k0_pay3 v0) k).1 (ix2 (rowN g a) j)
        = scCsd (fun p b => x0 (ix4 g a p b)) (fun b => v2 (ix3 g a b)) (fun b => v4 (ix3 g a b)) k j
    ∧ (st_k0_t1 Variants.none c bd i arg1 harg1 arg2 harg2 arg3 harg3 arg4 harg4 arg5 harg5 v0 v4 (harg1.unread x0) (k0_pay2 v2, k0_pay3 v0) k).2 (ix2 (rowN g a) j)
        = if j.val ≤ k then bitF (scSwap (fun p b => x0 (ix4 g a p b)) (fun b => v2 (ix3 g a b)) (fun b => v4 (ix3 g a b)) j ^^^ fl) else 0 := by
  induction k generalizing j with
  | zero =>
    rw [st_k0_t1_zero]
    refine ⟨pay2_apply v2 g a j, (pay3_apply v0 fl h0 (rowN g a) j).trans ?_⟩
    by_cases h : j.val = 0
    · rw [if_pos h, if_pos (by omega), scSwap, if_pos h]
      simp
    · rw [if_neg h, if_neg (by omega)]
  | succ k ih =>
    have ih := ih (by omega)
    let t : Fin k0_t1_loop.trips := ⟨k, by rw [trips_eq]; omega⟩
    have e := st_k0_t1_succ Variants.none c bd i arg1 harg1 arg2 harg2 arg3 harg3 arg4 harg4 arg5 harg5 v0 v4 (harg1.unread x0) (k0_pay2 v2, k0_pay3 v0) t
    rw [trip_eq] at e
    rw [show k + 1 = t.val + 1 from rfl, e]
    have hx := funext fun b => (ih b).1
    constructor
    · rw [scCsd_succ _ _ _ _ (trip_lt t), ← hx]
      exact pay7_apply v4 t _ (row x0 t) (fun p b => x0 (ix4 g a p b)) g a (fun j => row_apply x0 t g a j) j
    · refine (pay6_apply v0 fl h0 v4 t _ _ g a j).trans ?_
      rw [(ih j).2, hx]
      by_cases h : j.val = t.val + 1
      · have hj : j = pr t := Fin.ext h
        rw [if_pos h, if_pos (Nat.le_of_eq h), if_neg (show ¬ j.val ≤ k from by have : t.val = k := rfl; omega), zero_add, mul_one, scSwap, if_neg (by omega), ← hj, h]
        rfl
      · rw [if_neg h, mul_zero, add_zero]
        by_cases h' : j.val ≤ k
        · rw [if_pos h', if_pos (show j.val ≤ k + 1 by omega)]
        · rw [if_neg h', if_neg (show ¬ j.val ≤ k + 1 from by have : t.val = k := rfl; omega)]

end

end Cert.Scan3Value
-- ==== Proof.Scan3Ref.lean ====
module

public import proofs.«01_k».proof.Proof.ScanSet
public import proofs.«01_k».proof.Proof.Gen.RefScan3Ideal.Run

@[expose] public section

noncomputable section

namespace Cert.Scan3Value

open Idealize.ShloMosaic Idealize.ShloMosaic.TcCoe Idealize.SL.Sem Idealize.ShloMosaic.StableHlo Cert.Rounds Cert.RefScan3Ideal Cert.RefScan3Ideal.Gen Cert.RefScan3Ideal.Value

/-! ## The operations, on arrays of plain types -/

theorem word_of (X : IVec S63 32) (start : Fin 1 → Int) (k : Nat) (hk : k + 1 < 64) (s0 : start 0 = k) (hX : ∀ y, X y = BitVec.ofNat 32 ((y 0).val + 1)) :
    shapeCast S_ (Host.dynamicSlice S1 X start sliceFits_S63_S1) shapeCasts_S1_S_ = fun _ => BitVec.ofNat 32 (k + 1) := by
  refine funext fun y => ?_
  obtain rfl : y = ix0 := Subsingleton.elim _ _
  have h : Host.dynamicSlice S1 X start sliceFits_S63_S1 (ix1 0) = _ := slice1 X start s0 (show k < 63 by omega) sliceFits_S63_S1
  rw [hX] at h
  generalize Host.dynamicSlice S1 X start sliceFits_S63_S1 = X' at h ⊢
  pointwise []
  exact h

theorem cast_bit (X : FVec Ideal S32x4x1 .f32) (g : Fin 32) (a : Fin 4) : shapeCast S32x4 X shapeCasts_S32x4x1_S32x4 (ix2 g a) = X (ix3 g a 0) :=
  shapeCast_apply X shapeCasts_S32x4x1_S32x4 (ix2 g a) (ix3 g a 0) (by
    rw [Shape.rowMajor_val_two, Shape.rowMajor_val_three]
    show (g.val * 4 + a.val) * 1 + 0 = g.val * 4 + a.val
    omega)

theorem cast_row (X : FVec Ideal S32x4x1x64 .f32) (g : Fin 32) (a : Fin 4) (j : Fin 64) : shapeCast S32x4x64 X shapeCasts_S32x4x1x64_S32x4x64 (ix3 g a j) = X (ix4 g a 0 j) :=
  shapeCast_apply X shapeCasts_S32x4x1x64_S32x4x64 (ix3 g a j) (ix4 g a 0 j) (by
    rw [Shape.rowMajor_val_three, Shape.rowMajor_val_four]
    show ((g.val * 4 + a.val) * 1 + 0) * 64 + j.val = (g.val * 4 + a.val) * 64 + j.val
    omega)

theorem bit_of (U C : FVec Ideal S32x4x64 .f32) (start : Fin 3 → Int) (i : Fin 64) (s0 : start 0 = 0) (s1 : start 1 = 0) (s2 : start 2 = i.val) (g : Fin 32) (a : Fin 4) :
    cmpf .ole (shapeCast S32x4 (Host.dynamicSlice S32x4x1 U start sliceFits_S32x4x64_S32x4x1) shapeCasts_S32x4x1_S32x4)
      (shapeCast S32x4 (Host.dynamicSlice S32x4x1 C start sliceFits_S32x4x64_S32x4x1) shapeCasts_S32x4x1_S32x4) (ix2 g a)
      = scBit (fun j => U (ix3 g a j)) (fun j => C (ix3 g a j)) i := by
  have hU : Host.dynamicSlice S32x4x1 U start sliceFits_S32x4x64_S32x4x1 (ix3 g a 0) = _ := slice3 U start s0 s1 s2 i.isLt sliceFits_S32x4x64_S32x4x1 g a
  have hC : Host.dynamicSlice S32x4x1 C start sliceFits_S32x4x64_S32x4x1 (ix3 g a 0) = _ := slice3 C start s0 s1 s2 i.isLt sliceFits_S32x4x64_S32x4x1 g a
  generalize Host.dynamicSlice S32x4x1 U start sliceFits_S32x4x64_S32x4x1 = U' at hU ⊢
  generalize Host.dynamicSlice S32x4x1 C start sliceFits_S32x4x64_S32x4x1 = C' at hC ⊢
  have eU : shapeCast S32x4 U' shapeCasts_S32x4x1_S32x4 (ix2 g a) = U' (ix3 g a 0) := cast_bit U' g a
  have eC : shapeCast S32x4 C' shapeCasts_S32x4x1_S32x4 (ix2 g a) = C' (ix3 g a 0) := cast_bit C' g a
  show BitVec.ofBool (decide (shapeCast S32x4 U' shapeCasts_S32x4x1_S32x4 (ix2 g a) ≤ shapeCast S32x4 C' shapeCasts_S32x4x1_S32x4 (ix2 g a))) = _
  rw [eU, eC, hU, hC]
  rfl

theorem csd_of (K : FVec Ideal S32x4x64x64 .f32) (C : FVec Ideal S32x4x64 .f32) (b : IVec S32x4 1) (start : Fin 4 → Int) (i : Fin 64)
    (s0 : start 0 = 0) (s1 : start 1 = 0) (s2 : start 2 = i.val) (s3 : start 3 = 0) (u : Fin 64 → EReal) (g : Fin 32) (a : Fin 4) (j : Fin 64)
    (hb : b (ix2 g a) = scBit u (fun j => C (ix3 g a j)) i) :
    addf C (mulf (broadcastInDim S32x4x64 ![0, 1, 2] bcast_S32x4x1_S32x4x64_0_1_2 (subf (broadcastInDim S32x4x1 ![] bcast_S_S32x4x1 (constant S_ .f32 0x3F800000#32))
        (mulf (broadcastInDim S32x4x1 ![] bcast_S_S32x4x1 (constant S_ .f32 0x40000000#32)) (uitofp .f32 (broadcastInDim S32x4x1 ![0, 1] bcast_S32x4_S32x4x1_0_1 b)))))
      (shapeCast S32x4x64 (Host.dynamicSlice S32x4x1x64 K start sliceFits_S32x4x64x64_S32x4x1x64) shapeCasts_S32x4x1x64_S32x4x64)) (ix3 g a j)
      = scStep (fun p q => K (ix4 g a p q)) u (fun j => C (ix3 g a j)) i j := by
  have hK : Host.dynamicSlice S32x4x1x64 K start sliceFits_S32x4x64x64_S32x4x1x64 (ix4 g a 0 j) = _ := slice4 K start s0 s1 s2 s3 i.isLt sliceFits_S32x4x64x64_S32x4x1x64 g a j
  generalize Host.dynamicSlice S32x4x1x64 K start sliceFits_S32x4x64x64_S32x4x1x64 = K' at hK ⊢
  rw [← cast_row K' g a j] at hK
  generalize shapeCast S32x4x64 K' shapeCasts_S32x4x1x64_S32x4x64 = K'' at hK ⊢
  pointwise []
  rw [hb, hK]
  rfl

theorem swaps_of (X : IVec S32x4x64 1) (idx : IVec S1 32) (b : IVec S32x4 1) (i : Fin 64) (hi : (idx (ix1 0)).toInt = (i.val : Int)) (g : Fin 32) (a : Fin 4) (j : Fin 64) :
    Host.scatter scatter_S32x4x64_S1_S32x4_01_2_2_0 (fun _ b => b) X idx b (ix3 g a j) = if j = i then b (ix2 g a) else X (ix3 g a j) :=
  scatter_col scatter_S32x4x64_S1_S32x4_01_2_2_0 idx i (fun _ _ => rfl) (fun _ _ => rfl) (fun _ _ => rfl) (fun _ _ => rfl) (fun _ _ => rfl)
    (fun _ _ => hi ▸ congrArg (fun y => (idx y).toInt) (funext fun q => match q with | ⟨0, _⟩ => Subsingleton.elim (α := Fin 1) _ _)) X b g a j

/-! ## One step -/

section
variable (W : Valuation τ sig (Elt Ideal)) (k : Nat) (hk : k + 1 < 64)
  (h3 : W (Proc.devRef .tc main_v4_3) = fun _ => BitVec.ofNat 32 k)
  (h0 : W (Proc.devRef .tc main_v4_0) = fun y => BitVec.ofNat 32 ((y 0).val + 1))

include hk h3 h0 in
/-- The pair that the trip decides. -/
theorem word : res_main_while0b_v9 W = fun _ => BitVec.ofNat 32 (k + 1) := by
  unfold res_main_while0b_v9
  refine word_of (W (Proc.devRef .tc main_v4_0)) _ k hk ?_ (fun y => congrFun h0 y)
  show ((W (Proc.devRef .tc main_v4_3)) (Shape.Idx.first h_S_)).toInt = k
  rw [h3]
  exact toInt_small k (by omega)

include hk h3 h0 in
theorem wordOk : (select (cmpi .slt (res_main_while0b_v9 W) (constantI S_ 32 0#32)) (addi (res_main_while0b_v9 W) (constantI S_ 32 64#32)) (res_main_while0b_v9 W)) = fun _ => BitVec.ofNat 32 (k + 1) := by
  rw [word W k hk h3 h0]
  refine funext fun y => ?_
  show Scalar.select (IntOp.cmpi .slt (BitVec.ofNat 32 (k + 1)) 0#32) _ _ = _
  rw [slt_small (k + 1) (by omega)]
  rfl

include hk h3 h0 in
theorem bit (g : Fin 32) (a : Fin 4) :
    res_main_while0b_v32 W (ix2 g a) = scBit (fun j => W (Proc.devRef .tc main_v4_1) (ix3 g a j)) (fun j => W (Proc.devRef .tc main_v4_4) (ix3 g a j)) ⟨k + 1, hk⟩ := by
  unfold res_main_while0b_v32
  rw [wordOk W k hk h3 h0]
  exact bit_of (W (Proc.devRef .tc main_v4_1)) (W (Proc.devRef .tc main_v4_4)) _ ⟨k + 1, hk⟩ rfl rfl (toInt_small (k + 1) (by omega)) g a

include hk h3 h0 in
theorem csd (g : Fin 32) (a : Fin 4) (j : Fin 64) :
    step_main_v4_4 W (ix3 g a j) = scStep (fun p q => W (Proc.devRef .tc main_v4_2) (ix4 g a p q)) (fun j => W (Proc.devRef .tc main_v4_1) (ix3 g a j)) (fun j => W (Proc.devRef .tc main_v4_4) (ix3 g a j)) ⟨k + 1, hk⟩ j := by
  unfold step_main_v4_4
  rw [wordOk W k hk h3 h0]
  exact csd_of (W (Proc.devRef .tc main_v4_2)) (W (Proc.devRef .tc main_v4_4)) (res_main_while0b_v32 W) _ ⟨k + 1, hk⟩ rfl rfl (toInt_small (k + 1) (by omega)) rfl
    (fun j => W (Proc.devRef .tc main_v4_1) (ix3 g a j)) g a j (bit W k hk h3 h0 g a)

include hk h3 h0 in
theorem swaps (g : Fin 32) (a : Fin 4) (j : Fin 64) :
    step_main_v4_5 W (ix3 g a j) = if j = ⟨k + 1, hk⟩ then res_main_while0b_v32 W (ix2 g a) else W (Proc.devRef .tc main_v4_5) (ix3 g a j) := by
  unfold step_main_v4_5
  rw [wordOk W k hk h3 h0]
  rw [id_eq]
  exact swaps_of (W (Proc.devRef .tc main_v4_5)) _ (res_main_while0b_v32 W) ⟨k + 1, hk⟩ (toInt_small (k + 1) (by omega)) g a j

end

/-! ## The loop -/

section
variable (m : (ℓ : Loc nD τ sig) → Buf (Elt Ideal) ℓ) (c : Dev nD)

theorem entry0 : entryContents preI m c (Proc.devRef .tc main_v4_0) = fun y => BitVec.ofNat 32 ((y 0).val + 1) := by
  simp only [entryContents, afterL_cons, afterL_nil]
  after_reads_simp
  refine funext fun (y : (⟨1, ![63]⟩ : Shape).Idx) => ?_
  show 1#32 + BitVec.ofNat 32 (y 0).val = _
  apply BitVec.eq_of_toNat_eq
  simp [Nat.add_comm]

theorem entry1 : entryContents preI m c (Proc.devRef .tc main_v4_1) = m (c.tc.loc main_arg2) := by
  simp only [entryContents, afterL_cons, afterL_nil]
  after_reads_simp
  rfl

theorem entry2 : entryContents preI m c (Proc.devRef .tc main_v4_2) = m (c.tc.loc main_arg0) := by
  simp only [entryContents, afterL_cons, afterL_nil]
  after_reads_simp
  rfl

theorem entry4 : entryContents preI m c (Proc.devRef .tc main_v4_4) = m (c.tc.loc main_arg1) := by
  simp only [entryContents, afterL_cons, afterL_nil]
  after_reads_simp
  rfl

theorem entry5 : entryContents preI m c (Proc.devRef .tc main_v4_5) = fun _ => 0#1 := by
  simp only [entryContents, afterL_cons, afterL_nil]
  after_reads_simp
  rfl

abbrev At (k : Nat) : Valuation τ sig (Elt Ideal) := STEP^[k] (entryContents preI m c)

theorem at_succ (k : Nat) : At m c (k + 1) = STEP (At m c k) := Function.iterate_succ_apply' _ _ _

theorem at0 (k : Nat) : At m c k (Proc.devRef .tc main_v4_0) = fun y => BitVec.ofNat 32 ((y 0).val + 1) := by
  induction k with
  | zero => exact entry0 m c
  | succ k ih => rw [at_succ, STEP_main_v4_0, ih]

theorem at1 (k : Nat) : At m c k (Proc.devRef .tc main_v4_1) = m (c.tc.loc main_arg2) := by
  induction k with
  | zero => exact entry1 m c
  | succ k ih => rw [at_succ, STEP_main_v4_1, ih]

theorem at2 (k : Nat) : At m c k (Proc.devRef .tc main_v4_2) = m (c.tc.loc main_arg0) := by
  induction k with
  | zero => exact entry2 m c
  | succ k ih => rw [at_succ, STEP_main_v4_2, ih]

theorem at3 (k : Nat) : At m c k (Proc.devRef .tc main_v4_3) = fun _ => BitVec.ofNat 32 k := by
  induction k with
  | zero => exact ctr_entry m c
  | succ k ih =>
    rw [at_succ, STEP_main_v4_3]
    unfold step_main_v4_3
    rw [ih]
    refine funext fun y => ?_
    show BitVec.ofNat 32 k + 1#32 = _
    apply BitVec.eq_of_toNat_eq
    simp

theorem at45 (k : Nat) (hk : k < 64) (g : Fin 32) (a : Fin 4) (j : Fin 64) :
    At m c k (Proc.devRef .tc main_v4_4) (ix3 g a j)
        = scCsd (fun p q => m (c.tc.loc main_arg0) (ix4 g a p q)) (fun q => m (c.tc.loc main_arg1) (ix3 g a q)) (fun q => m (c.tc.loc main_arg2) (ix3 g a q)) k j
    ∧ At m c k (Proc.devRef .tc main_v4_5) (ix3 g a j)
        = if j.val ≤ k then scSwap (fun p q => m (c.tc.loc main_arg0) (ix4 g a p q)) (fun q => m (c.tc.loc main_arg1) (ix3 g a q)) (fun q => m (c.tc.loc main_arg2) (ix3 g a q)) j else 0#1 := by
  induction k generalizing j with
  | zero =>
    refine ⟨congrFun (entry4 m c) _, (congrFun (entry5 m c) _).trans ?_⟩
    by_cases h : j.val = 0
    · rw [if_pos (by omega), scSwap, if_pos h]
    · rw [if_neg (by omega)]
  | succ k ih =>
    have ih := ih (by omega)
    have hx := funext fun q => (ih q).1
    constructor
    · rw [at_succ, STEP_main_v4_4, csd _ k hk (at3 m c k) (at0 m c k), hx, at1, at2, scCsd_succ _ _ _ _ hk]
    · rw [at_succ, STEP_main_v4_5, swaps _ k hk (at3 m c k) (at0 m c k), bit _ k hk (at3 m c k) (at0 m c k), hx, at1, (ih j).2]
      by_cases h : j = ⟨k + 1, hk⟩
      · subst h
        rw [if_pos rfl, if_pos (Nat.le_refl _), scSwap, if_neg (by simp)]
        rfl
      · have h' : j.val ≠ k + 1 := fun e => h (Fin.ext e)
        rw [if_neg h]
        by_cases h'' : j.val ≤ k
        · rw [if_pos h'', if_pos (by omega)]
        · rw [if_neg h'', if_neg (by omega)]

theorem out_of (X : IVec S32x4x64 1) (fl : IVec S1 1) (g : Fin 32) (a : Fin 4) (j : Fin 64) :
    uitofp (F := Ideal) .f32 (xori X (broadcastInDim S32x4x64 ![0, 1, 2] bcast_S1x1x1_S32x4x64_0_1_2 (broadcastInDim S1x1x1 ![2] bcast_S1_S1x1x1_2 fl))) (ix3 g a j)
      = bitF (X (ix3 g a j) ^^^ fl (ix1 0)) := by
  pointwise []
  rfl

theorem out_eq : out_main_v8 (At m c 63) = sScan (A := 4) (m := 64) (m (c.tc.loc main_arg0)) (m (c.tc.loc main_arg1)) (m (c.tc.loc main_arg2)) ((m (c.tc.loc main_arg3)) (ix1 0)) := by
  unfold out_main_v8
  rw [show At m c 63 (Proc.devRef .tc main_arg3) = _ from iter_main_arg3 m c 63]
  refine funext fun (y : (⟨3, ![32, 4, 64]⟩ : Shape).Idx) => ?_
  obtain ⟨g, a, j, rfl⟩ : ∃ (g : Fin 32) (a : Fin 4) (j : Fin 64), y = ix3 g a j := ⟨_, _, _, eq_ix3 y⟩
  refine (out_of _ _ g a j).trans ?_
  rw [(at45 m c 63 (by omega) g a j).2, if_pos (by have := j.isLt; omega)]
  rfl

end

end Cert.Scan3Value
-- ==== Proof.Scan3Value.lean ====
module

public import proofs.«01_k».proof.Proof.Scan3Pay
public import proofs.«01_k».proof.Proof.Scan3Ref
public import proofs.«01_k».proof.Defs
public import Idealize.ShloMosaic.Lib.StableHlo.ReadAt

@[expose] public section

noncomputable section

namespace Cert.Scan3Value

open Idealize.ShloMosaic Idealize.ShloMosaic.TcCoe Idealize.SL.Sem Cert.Rounds Cert.Scan3Ideal Cert.Scan3Ideal.Gen Cert.Scan3Ideal.Value

theorem hz3 : (![0, 0, 0] : Fin 3 → Nat) = fun _ => 0 := by decide

theorem e0 : ∀ t : Fin cfg0.N, win0_0.index t = ![0, 0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)

variable (m : (ℓ : Loc nD τ sig) → Buf (Elt Ideal) ℓ) (c : Dev nD)

theorem blk0 (t : Fin cfg0.N) (n : Fin 32) (a : Fin 4) (p q : Fin 64) :
    iblk m c 0 t (ix4 n a p q) = (m (c.tc.loc main_arg0)) (ix4 n a p q) := by
  blk_simp [iblk, V_main_arg0, e0 t]
  refine congrArg _ (funext fun q => Fin.ext ?_)
  match q with
  | ⟨0, _⟩ => blk_simp [e0 t]
  | ⟨1, _⟩ => blk_simp [e0 t]
  | ⟨2, _⟩ => blk_simp [e0 t]
  | ⟨3, _⟩ => blk_simp [e0 t]

theorem blk1 (t : Fin cfg0.N) (n : Fin 32) (a : Fin 4) (p : Fin 64) :
    iblk m c 1 t (ix3 n a p) = (m (c.tc.loc main_arg1)) (ix3 n a p) := by
  blk_simp [iblk, V_main_arg1, e1 t]
  refine congrArg _ (funext fun q => Fin.ext ?_)
  match q with
  | ⟨0, _⟩ => blk_simp [e1 t]
  | ⟨1, _⟩ => blk_simp [e1 t]
  | ⟨2, _⟩ => blk_simp [e1 t]

theorem blk2 (t : Fin cfg0.N) (n : Fin 32) (a : Fin 4) (p : Fin 64) :
    iblk m c 2 t (ix3 n a p) = (m (c.tc.loc main_arg2)) (ix3 n a p) := by
  blk_simp [iblk, V_main_arg2, e2 t]
  refine congrArg _ (funext fun q => Fin.ext ?_)
  match q with
  | ⟨0, _⟩ => blk_simp [e2 t]
  | ⟨1, _⟩ => blk_simp [e2 t]
  | ⟨2, _⟩ => blk_simp [e2 t]

theorem blk3 (t : Fin cfg0.N) : iblk m c 3 t (ix3 0 0 0) = bitF ((m (c.tc.loc main_arg3)) (ix1 0)) := by
  have hv : V m c main_v1 = fun _ => bitF ((m (c.tc.loc main_arg3)) (ix1 0)) := by
    show StableHlo.after hostOps0 (fun b => m (c, b)) (Proc.tc.devRef main_v1) = _
    refine funext fun (y : (⟨3, ![1, 1, 1]⟩ : Shape).Idx) => ?_
    obtain ⟨a, b, d, rfl⟩ : ∃ (a b d : Fin 1), y = ix3 a b d := ⟨_, _, _, eq_ix3 y⟩
    obtain rfl : a = 0 := Subsingleton.elim _ _
    obtain rfl : b = 0 := Subsingleton.elim _ _
    obtain rfl : d = 0 := Subsingleton.elim _ _
    after_reads_at
    rfl
  exact congrFun hv _

theorem outs_eq (t : Fin cfg0.N) : outsAt0 m c t = k0_pay8 (st_k0_t1 Variants.none c none (grid0.coords t) (ms0_0 t) (hs0_0 t) (ms0_1 t) (hs0_1 t) (ms0_2 t) (hs0_2 t) (ms0_3 t) (hs0_3 t) (ms0_4 t) (hs0_4 t)
    (iblk m c 3 t) (iblk m c 2 t) ((hs0_0 t).unread (iblk m c 0 t)) (k0_pay2 (iblk m c 1 t), k0_pay3 (iblk m c 3 t)) 63).2 := by
  unfold outsAt0 out0_A_4
  dsimp only
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, View.readCov_eq_canon',
    View.ld_unit_zero (S := S32x4x64) hz3, View.ld_unit_zero (S := S1x1x1) hz3, View.canon_unit_zero (S := S32x4x64) hz3]
  rw [show Scf.trips 1#32 (Scalar.addi 1#32 63#32) 1#32 = 63 from trips_eq]

theorem emb4 (t : Fin cfg0.N) (n : Fin 32) (a : Fin 4) (e : Fin 64) : (win0_4.blk t).view.emb (ix3 n a e) = ix3 n a e := by
  refine funext fun q => Fin.ext ?_
  match q with
  | ⟨0, _⟩ => blk_simp [e4 t]
  | ⟨1, _⟩ => blk_simp [e4 t]
  | ⟨2, _⟩ => blk_simp [e4 t]

theorem final4 : (dats m 0 c).arrAt 4 cfg0.N = sScan (A := 4) (m := 64) (m (c.tc.loc main_arg0)) (m (c.tc.loc main_arg1)) (m (c.tc.loc main_arg2)) ((m (c.tc.loc main_arg3)) (ix1 0)) := by
  refine (dats m 0 c).arrAt_eq_of_covers 4 _ (by decide +kernel) fun t hf y => ?_
  blk_simp [e4 t]
  refine (congrFun ((after0_4 m c t).trans (outs_eq m c t)) y).trans ?_
  revert y
  refine fun (y : (⟨3, ![32, 4, 64]⟩ : Shape).Idx) => ?_
  obtain ⟨n, a, j, rfl⟩ : ∃ (n : Fin 32) (a : Fin 4) (j : Fin 64), y = ix3 n a j := ⟨_, _, _, eq_ix3 y⟩
  refine (pay8_apply ..).trans ?_
  refine Eq.trans ?_ (congrArg (sScan (A := 4) (m := 64) (m (c.tc.loc main_arg0)) (m (c.tc.loc main_arg1)) (m (c.tc.loc main_arg2)) ((m (c.tc.loc main_arg3)) (ix1 0))) (emb4 t n a j)).symm
  rw [(st_spec c none _ _ _ _ _ _ _ _ _ _ _ _ _ _ _ _ (blk3 m c t) 63 (Nat.le_refl _) n a j).2, if_pos (by have := j.isLt; omega)]
  simp only [blk0, blk1, blk2]
  rfl

theorem algebraic : Cert.algebraic_Scan3Ideal_RefScan3Ideal (hScan3Ideal := Cert.Scan3Ideal.Gen.facts) (hRefScan3Ideal := Cert.RefScan3Ideal.Gen.facts) := by
  intro m g m' g' _ hm
  refine ⟨_, run_blocks m g, ?_⟩
  refine (θ_run _ _ _).mono (fun r h c => ?_) (Cert.RefScan3Ideal.Value.run m' g')
  obtain ⟨h8, hk⟩ := h c
  obtain ⟨a0, a1, a2, a3⟩ := hm c
  refine ⟨h8.trans ?_, hk⟩
  rw [out_eq, final4, a0, a1, a2, a3]

end Cert.Scan3Value
-- ==== Proof.Sel3Ref.lean ====
module

public import proofs.«01_k».proof.Proof.Common
public import proofs.«01_k».proof.Proof.Gen.RefSel3Ideal.Read
public import Idealize.ShloMosaic.Lib.Pointwise

@[expose] public section

noncomputable section

namespace Cert.Sel3Value

open Idealize.ShloMosaic Cert.RefSel3Ideal.Facts₀ Idealize.ShloMosaic.TcCoe Idealize.SL.Sem Cert.Rounds Cert.RefSel3Ideal Cert.RefSel3Ideal.Value Cert.RefSel3Ideal.Read

variable (x0 x1 : (⟨S32x512x64, .f32⟩ : BufTy).Contents (Elt Ideal)) (x2 : (⟨S32x4x64, .f32⟩ : BufTy).Contents (Elt Ideal))
    (g : Fin 32) (a : Fin 4) (j : Fin 64) (e : Fin 64)

theorem word_eq : ∀ (b : Bool) (j : Fin 64), (fun w => Scalar.select (IntOp.cmpi CmpIPredicate.slt w 0#32) (IntOp.addi w 128#32) w)
    (IntOp.addi (BitVec.setWidth 32 (BitVec.ofBool b)) (IntOp.addi 0#32 (IntOp.muli 2#32 (BitVec.ofNat 32 j.val)))) = BitVec.ofNat 32 (2 * j.val + b.toNat) := by
  decide +kernel

theorem word_ok : ∀ (b : Bool) (j : Fin 64), IntOp.andi 1#1 (IntOp.andi (IntOp.cmpi CmpIPredicate.sge (BitVec.ofNat 32 (2 * j.val + b.toNat)) 0#32)
    (IntOp.cmpi CmpIPredicate.sle (BitVec.ofNat 32 (2 * j.val + b.toNat)) 127#32)) = 1#1 := by decide +kernel

theorem word_nat : ∀ (b : Bool) (j : Fin 64), min (BitVec.ofNat 32 (2 * j.val + b.toNat)).toInt.toNat 127 = 2 * j.val + b.toNat := by decide +kernel

theorem gather_row (x : FVec Ideal S32x4x128x64 .f32) (k : IVec S32x4x64x64x1 32) (b : Bool) (h : k (ix5 g a j e 0) = BitVec.ofNat 32 (2 * j.val + b.toNat)) :
    Host.gather gather_S32x4x128x64_S32x4x64x64x1_S32x4x64x64_n_2_013_013_2_4_1111 x k (ix4 g a j e)
      = x (ix4 g a ⟨2 * j.val + b.toNat, by have := b.toNat_le; omega⟩ e) := by
  refine congrArg x (funext fun q => Fin.ext ?_)
  match q with
  | ⟨0, _⟩ => show 0 + g.val + 0 = g.val; omega
  | ⟨1, _⟩ => show 0 + a.val + 0 = a.val; omega
  | ⟨2, _⟩ =>
    show min (k _).toInt.toNat (128 - 1) + 0 + 0 = 2 * j.val + b.toNat
    have : k ((gather_S32x4x128x64_S32x4x64x64x1_S32x4x64x64_n_2_013_013_2_4_1111).siIdx (ix4 g a j e) (⟨0, by decide⟩)) = BitVec.ofNat 32 (2 * j.val + b.toNat) := by
      refine Eq.trans (congrArg k (funext fun q => ?_)) h
      match q with
      | ⟨0, _⟩ => rfl
      | ⟨1, _⟩ => rfl
      | ⟨2, _⟩ => rfl
      | ⟨3, _⟩ => rfl
      | ⟨4, _⟩ => rfl
    exact (congrArg (fun z : BitVec 32 => min z.toInt.toNat 127) this).trans (word_nat b j)
  | ⟨3, _⟩ => show 0 + e.val + 0 = e.val; omega

theorem cast_in (x : FVec Ideal S32x512x64 .f32) (p : Fin 128) :
    shapeCast S32x4x128x64 x shapeCasts_S32x512x64_S32x4x128x64 (ix4 g a p e) = x (ix3 g ⟨a.val * 128 + p.val, by have := a.isLt; have := p.isLt; omega⟩ e) :=
  shapeCast_apply x _ (ix4 g a p e) (ix3 g ⟨a.val * 128 + p.val, by have := a.isLt; have := p.isLt; omega⟩ e) (by
    rw [Shape.rowMajor_val_three, Shape.rowMajor_val_four]
    show (g.val * 512 + (a.val * 128 + p.val)) * 64 + e.val = ((g.val * 4 + a.val) * 128 + p.val) * 64 + e.val
    omega)

theorem cast_out (x : FVec Ideal S32x4x64x64 .f32) (p : Fin 256) (hp : p.val = a.val * 64 + j.val) :
    shapeCast S32x256x64 x shapeCasts_S32x4x64x64_S32x256x64 (ix3 g p e) = x (ix4 g a j e) :=
  shapeCast_apply x _ (ix3 g p e) (ix4 g a j e) (by
    rw [Shape.rowMajor_val_three, Shape.rowMajor_val_four]
    show ((g.val * 4 + a.val) * 64 + j.val) * 64 + e.val = (g.val * 256 + p.val) * 64 + e.val
    omega)

theorem cast_word (x : IVec S32x4x64x64 32) : shapeCast S32x4x64x64x1 x shapeCasts_S32x4x64x64_S32x4x64x64x1 (ix5 g a j e 0) = x (ix4 g a j e) :=
  shapeCast_apply x _ (ix5 g a j e 0) (ix4 g a j e) (by
    rw [Shape.rowMajor_val_five, Shape.rowMajor_val_four]
    show ((g.val * 4 + a.val) * 64 + j.val) * 64 + e.val = (((g.val * 4 + a.val) * 64 + j.val) * 64 + e.val) * 1 + 0
    omega)

/-- The comparison that picks the row. -/
abbrev bit : Bool := decide (Ideal.ofBits FTy.f32 0x3F000000#32 < x2 (ix3 g a j))

theorem v13 (k : Fin 1) : val_main_v13 x2 (ix4 g a j k) = IntOp.addi (BitVec.setWidth 32 (BitVec.ofBool (bit x2 g a j))) (IntOp.addi 0#32 (IntOp.muli 2#32 (BitVec.ofNat 32 j.val))) := by
  pointwise [val_main_v13, val_main_v12, val_main_v11, val_main_v10, val_main_v9, val_main_v8, val_main_v7, val_main_v6, val_main_v5, val_main_v4, val_main_v3, val_main_v2, val_main_c, val_main_c_0, val_main_cst]

theorem call0_v5 : val_main_call0_v5 x2 (ix5 g a j e 0) = BitVec.ofNat 32 (2 * j.val + (bit x2 g a j).toNat) := by
  rw [← word_eq, ← v13 x2 g a j 0]
  refine (cast_word g a j e _).trans ?_
  pointwise [val_main_call0_v4, val_main_call0_v3, val_main_call0_v2, val_main_call0_v1, val_main_call0_v0, val_main_call0_c_0, val_main_call0_c, val_main_v14]

theorem call0_v12 : val_main_call0_v12 x2 (ix4 g a j e) = 1#1 := by
  pointwise [val_main_call0_v12, val_main_call0_v11, val_main_call0_v10, val_main_call0_v9, val_main_call0_v8, val_main_call0_v7, val_main_call0_v6, val_main_call0_c_1, val_main_call0_c_2, val_main_call0_c_3]
  rw [Finset.univ_unique, Finset.fold_singleton]
  refine (Std.Commutative.comm (op := IntOp.andi (w := 1)) _ _).trans (Eq.trans ?_ (word_ok (bit x2 g a j) j))
  rw [← call0_v5 x2 g a j e]
  rfl

theorem call0_v13 : val_main_call0_v13 x0 x2 (ix4 g a j e) = x0 (ix3 g ⟨a.val * 128 + (2 * j.val + (bit x2 g a j).toNat), by have := (bit x2 g a j).toNat_le; omega⟩ e) := by
  refine (gather_row g a j e _ _ _ (call0_v5 x2 g a j e)).trans ?_
  exact cast_in g a e x0 _

theorem v18 (p : Fin 256) (hp : p.val = a.val * 64 + j.val) : val_main_v18 x0 x2 (ix3 g p e) = sSel (A := 4) (m := 64) rfl rfl x0 x2 (ix3 g p e) := by
  refine Eq.trans ?_ (sSel_apply (A := 4) (m := 64) rfl rfl x0 x2 g p e a j hp).symm
  refine (cast_out g a j e _ p hp).trans ?_
  pointwise [val_main_v15, val_main_call0_v14]
  rw [call0_v12, call0_v13]
  unfold bit
  split <;> rename_i h <;> simp [h, hp] <;> refine congrArg x0 (congrArg (fun r => ix3 g r e) (Fin.ext ?_)) <;> (show _ = _; dsimp only; omega)

theorem v18_eq : val_main_v18 x0 x2 = sSel (A := 4) (m := 64) rfl rfl x0 x2 := by
  funext y
  rw [eq_ix3 y]
  exact v18 x0 x2 _ ⟨(y 1).val / 64, by have : (y 1).val < 256 := (y 1).isLt; omega⟩ ⟨(y 1).val % 64, by omega⟩ _ _ (by show (y 1).val = (y 1).val / 64 * 64 + (y 1).val % 64; omega)

theorem call1_v5 : val_main_call1_v5 x2 (ix5 g a j e 0) = BitVec.ofNat 32 (2 * j.val + (bit x2 g a j).toNat) := by
  rw [← word_eq, ← v13 x2 g a j 0]
  refine (cast_word g a j e _).trans ?_
  pointwise [val_main_call1_v4, val_main_call1_v3, val_main_call1_v2, val_main_call1_v1, val_main_call1_v0, val_main_call1_c_0, val_main_call1_c, val_main_v16]

theorem call1_v12 : val_main_call1_v12 x2 (ix4 g a j e) = 1#1 := by
  pointwise [val_main_call1_v12, val_main_call1_v11, val_main_call1_v10, val_main_call1_v9, val_main_call1_v8, val_main_call1_v7, val_main_call1_v6, val_main_call1_c_1, val_main_call1_c_2, val_main_call1_c_3]
  rw [Finset.univ_unique, Finset.fold_singleton]
  refine (Std.Commutative.comm (op := IntOp.andi (w := 1)) _ _).trans (Eq.trans ?_ (word_ok (bit x2 g a j) j))
  rw [← call1_v5 x2 g a j e]
  rfl

theorem call1_v13 : val_main_call1_v13 x1 x2 (ix4 g a j e) = x1 (ix3 g ⟨a.val * 128 + (2 * j.val + (bit x2 g a j).toNat), by have := (bit x2 g a j).toNat_le; omega⟩ e) := by
  refine (gather_row g a j e _ _ _ (call1_v5 x2 g a j e)).trans ?_
  exact cast_in g a e x1 _

theorem v19 (p : Fin 256) (hp : p.val = a.val * 64 + j.val) : val_main_v19 x1 x2 (ix3 g p e) = sSel (A := 4) (m := 64) rfl rfl x1 x2 (ix3 g p e) := by
  refine Eq.trans ?_ (sSel_apply (A := 4) (m := 64) rfl rfl x1 x2 g p e a j hp).symm
  refine (cast_out g a j e _ p hp).trans ?_
  pointwise [val_main_v17, val_main_call1_v14]
  rw [call1_v12, call1_v13]
  unfold bit
  split <;> rename_i h <;> simp [h, hp] <;> refine congrArg x1 (congrArg (fun r => ix3 g r e) (Fin.ext ?_)) <;> (show _ = _; dsimp only; omega)

theorem v19_eq : val_main_v19 x1 x2 = sSel (A := 4) (m := 64) rfl rfl x1 x2 := by
  funext y
  rw [eq_ix3 y]
  exact v19 x1 x2 _ ⟨(y 1).val / 64, by have : (y 1).val < 256 := (y 1).isLt; omega⟩ ⟨(y 1).val % 64, by omega⟩ _ _ (by show (y 1).val = (y 1).val / 64 * 64 + (y 1).val % 64; omega)

end Cert.Sel3Value
-- ==== Proof.Sel3Value.lean ====
module

public import proofs.«01_k».proof.Proof.Sel3Ref
public import proofs.«01_k».proof.Proof.Gen.Sel3Ideal.Value
public import proofs.«01_k».proof.Defs
public import Idealize.ShloMosaic.Lib.Pipeline.ValueKit
public import Idealize.ShloMosaic.Lib.WholeRead

@[expose] public section

noncomputable section

namespace Cert.Sel3Value

open Idealize.ShloMosaic Idealize.ShloMosaic.TcCoe Idealize.SL.Sem Cert.Rounds Cert.Sel3Ideal Cert.Sel3Ideal.Gen Cert.Sel3Ideal.Value

/-! ## One bucket's rows -/

def sel (f : Vec Ideal S1x1x64 .f32) (x y : Vec Ideal S1x64x64 .f32) : Vec Ideal S1x64x64 .f32 := k0_pay3 f x y

theorem sel_apply (f : Vec Ideal S1x1x64 .f32) (x y : Vec Ideal S1x64x64 .f32) (j : Fin 64) (e : Fin 64) :
    sel f x y (ix3 0 j e) = if Ideal.ofBits .f32 0x3F000000#32 < f (ix3 0 0 j) then y (ix3 0 j e) else x (ix3 0 j e) := by
  pointwise [sel, k0_pay3]

/-- That a load of every second row from row `d` stays inside. -/
abbrev Inb (d : Nat) : Prop := ∀ a, S1x64x64.size a = 0 ∨ (![0, d, 0] : Fin 3 → Nat) a + (![1, 2, 1] : Fin 3 → Nat) a * (S1x64x64.size a - 1) < S1x512x64.size a

/-- Every second row from row `d`. -/
def rows (d : Nat) (h : Inb d) (x : Vec Ideal S1x512x64 .f32) : Vec Ideal S1x64x64 .f32 := fun j => x ((⟨![0, d, 0], ![1, 64, 64], ![1, 2, 1], h⟩ : LoadRect S1x512x64).idx j)

theorem rows_apply (d : Nat) (h : Inb d) (x : Vec Ideal S1x512x64 .f32) (j : Fin 64) (e : Fin 64) (p : Fin 512) (hp : p.val = d + 2 * j.val) : rows d h x (ix3 0 j e) = x (ix3 0 p e) := by
  refine congrArg x (funext fun q => Fin.ext ?_)
  match q with
  | ⟨0, _⟩ => rfl
  | ⟨1, _⟩ => exact hp.symm
  | ⟨2, _⟩ => show 0 + 1 * e.val = e.val; omega

/-- The selected row of a block. -/
def G (f : Vec Ideal S1x4x64 .f32) (x : Vec Ideal S1x512x64 .f32) : Vec Ideal S1x256x64 .f32 := fun y =>
  have h1 : (y 1).val < 256 := (y 1).isLt
  if Ideal.ofBits .f32 0x3F000000#32 < f (ix3 0 (⟨(y 1).val / 64, by omega⟩ : Fin 4) (⟨(y 1).val % 64, by omega⟩ : Fin 64)) then
    x (ix3 0 (⟨2 * (y 1).val + 1, by omega⟩ : Fin 512) (y 2)) else x (ix3 0 (⟨2 * (y 1).val, by omega⟩ : Fin 512) (y 2))

theorem G_apply (f : Vec Ideal S1x4x64 .f32) (x : Vec Ideal S1x512x64 .f32) (p : Fin 256) (e : Fin 64) (a : Fin 4) (j : Fin 64) (hp : p.val = a.val * 64 + j.val) :
    G f x (ix3 0 p e) = if Ideal.ofBits .f32 0x3F000000#32 < f (ix3 0 a j) then x (ix3 0 (⟨2 * p.val + 1, by omega⟩ : Fin 512) e) else x (ix3 0 (⟨2 * p.val, by omega⟩ : Fin 512) e) := by
  have ea : (⟨p.val / 64, by omega⟩ : Fin 4) = a := Fin.ext (by show p.val / 64 = a.val; omega)
  have ej : (⟨p.val % 64, by omega⟩ : Fin 64) = j := Fin.ext (by show p.val % 64 = j.val; omega)
  have ef : f (ix3 0 (⟨p.val / 64, by omega⟩ : Fin 4) (⟨p.val % 64, by omega⟩ : Fin 64)) = f (ix3 0 a j) := congrArg₂ (fun a j => f (ix3 0 a j)) ea ej
  rw [← ef]
  rfl

theorem inb_o (a : Fin 4) : ∀ i, (![0, 64 * a.val, 0] : Fin 3 → Nat) i + S1x64x64.size i ≤ S1x256x64.size i := by
  revert a; decide
theorem inb_f (a : Fin 4) : ∀ i, (![0, a.val, 0] : Fin 3 → Nat) i + S1x1x64.size i ≤ S1x4x64.size i := by
  revert a; decide
theorem inb_d (d : Fin 2) (a : Fin 4) : Inb (128 * a.val + d.val) := by
  revert d a; unfold Inb; decide

/-- The store of bucket `a`, -/
def piece (f : Vec Ideal S1x4x64 .f32) (x : Vec Ideal S1x512x64 .f32) (a : Fin 4) : View.Piece (Elt Ideal) S1x256x64 .f32 :=
  ⟨Rect.unit ![0, 64 * a.val, 0] ![1, 64, 64] (inb_o a), sel (View.ld f (Rect.unit ![0, a.val, 0] ![1, 1, 64] (inb_f a))) (rows (128 * a.val) (inb_d 0 a) x) (rows (128 * a.val + 1) (inb_d 1 a) x)⟩

/-- and all of them, the last first. -/
def P (f : Vec Ideal S1x4x64 .f32) (x : Vec Ideal S1x512x64 .f32) : List (View.Piece (Elt Ideal) S1x256x64 .f32) := List.ofFn fun n : Fin 4 => piece f x n.rev

theorem piece_ok (f : Vec Ideal S1x4x64 .f32) (x : Vec Ideal S1x512x64 .f32) (a : Fin 4) (y : (piece f x a).1.shape.Idx) : (piece f x a).2 y = G f x ((piece f x a).1.emb y) := by
  revert y
  refine fun (y : (⟨3, ![1, 64, 64]⟩ : Shape).Idx) => ?_
  obtain ⟨z, j, e, rfl⟩ : ∃ (z : Fin 1) (j : Fin 64) (e : Fin 64), y = ix3 z j e := ⟨_, _, _, eq_ix3 y⟩
  obtain rfl : z = 0 := Subsingleton.elim _ _
  have hj := j.isLt
  have h1 : (piece f x a).1.emb (ix3 0 j e) = (ix3 0 (⟨64 * a.val + j.val, by omega⟩ : Fin 256) e : S1x256x64.Idx) := by
    refine funext fun q => Fin.ext ?_
    match q with
    | ⟨0, _⟩ => rfl
    | ⟨1, _⟩ => show 64 * a.val + 1 * j.val = 64 * a.val + j.val; omega
    | ⟨2, _⟩ => show 0 + 1 * e.val = e.val; omega
  have h2 : View.ld f (Rect.unit ![0, a.val, 0] ![1, 1, 64] (inb_f a)) (ix3 0 0 j) = f (ix3 0 a j) := by
    refine congrArg f (funext fun q => Fin.ext ?_)
    match q with
    | ⟨0, _⟩ => rfl
    | ⟨1, _⟩ => show a.val + 1 * 0 = a.val; omega
    | ⟨2, _⟩ => show 0 + 1 * j.val = j.val; omega
  rw [h1, G_apply f x ⟨64 * a.val + j.val, by omega⟩ e a j (by show 64 * a.val + j.val = a.val * 64 + j.val; omega)]
  refine (sel_apply _ _ _ j e).trans ?_
  rw [h2, rows_apply (128 * a.val + 1) (inb_d 1 a) x j e ⟨2 * (64 * a.val + j.val) + 1, by omega⟩ (by show 2 * (64 * a.val + j.val) + 1 = 128 * a.val + 1 + 2 * j.val; omega),
    rows_apply (128 * a.val) (inb_d 0 a) x j e ⟨2 * (64 * a.val + j.val), by omega⟩ (by show 2 * (64 * a.val + j.val) = 128 * a.val + 2 * j.val; omega)]

theorem cover (f : Vec Ideal S1x4x64 .f32) (x : Vec Ideal S1x512x64 .f32) (p : Fin 256) (e : Fin 64) : ∃ pc ∈ P f x, (ix3 0 p e : S1x256x64.Idx) ∈ pc.1.set := by
  refine ⟨piece f x ⟨p.val / 64, by omega⟩, ?_, ?_⟩
  · unfold P
    rw [List.mem_ofFn]
    exact ⟨(⟨p.val / 64, by omega⟩ : Fin 4).rev, by rw [Fin.rev_rev]⟩
  · unfold piece
    rw [Rect.mem_set_unit]
    intro q
    match q with
    | ⟨0, _⟩ => exact ⟨Nat.le_refl _, Nat.zero_lt_one⟩
    | ⟨1, _⟩ => exact ⟨by show 64 * (p.val / 64) ≤ p.val; omega, by show p.val < 64 * (p.val / 64) + 64; omega⟩
    | ⟨2, _⟩ => exact ⟨Nat.zero_le _, by show e.val < 0 + 64; omega⟩

theorem canon_P (f : Vec Ideal S1x4x64 .f32) (x : Vec Ideal S1x512x64 .f32) (p : Fin 256) (e : Fin 64) : View.canon (P f x) (ix3 0 p e) = G f x (ix3 0 p e) := by
  refine View.canon_apply_of_pieces (G f x) (P f x) (fun q hq => ?_) (ix3 0 p e) (cover f x p e)
  unfold P at hq
  rw [List.mem_ofFn] at hq
  obtain ⟨n, rfl⟩ := hq
  exact piece_ok f x _

/-! ## The blocks and the arrays -/

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, 0] := (by decide +kernel : ∀ t : Fin grid0.N, _)

variable (m : (ℓ : Loc nD τ sig) → Buf (Elt Ideal) ℓ) (c : Dev nD)

theorem rows0 (t : Fin cfg0.N) (d : Nat) (h : Inb d) (X : Vec Ideal S1x512x64 .f32) :
    View.readAt (Elt Ideal) (ms0_0 t).view (⟨![0, d, 0], ![1, 64, 64], ![1, 2, 1], h⟩ : LoadRect S1x512x64) ((hs0_0 t).unread X) = rows d h X :=
  funext fun x => Memref.IsWhole.readAt_unread (hs0_0 t) X _ x

theorem rows1 (t : Fin cfg0.N) (d : Nat) (h : Inb d) (X : Vec Ideal S1x512x64 .f32) :
    View.readAt (Elt Ideal) (ms0_1 t).view (⟨![0, d, 0], ![1, 64, 64], ![1, 2, 1], h⟩ : LoadRect S1x512x64) ((hs0_1 t).unread X) = rows d h X :=
  funext fun x => Memref.IsWhole.readAt_unread (hs0_1 t) X _ x

theorem outs_eq (t : Fin cfg0.N) : outsAt0 m c t = (View.canon (P (iblk m c 2 t) (iblk m c 0 t)), View.canon (P (iblk m c 2 t) (iblk m c 1 t))) := by
  unfold outsAt0 out0_A_3 out0_A_4
  dsimp only
  rw [View.read_writes_junk_eq_canon, View.read_writes_junk_eq_canon]
  unfold kernelRun0_A
  dsimp only
  sl_unfold_words
  simp only [View.readAt_eq_ld, (hs0_0 t).read_unread, (hs0_1 t).read_unread, (hs0_2 t).read_unread, View.readCov_eq_canon', rows0, rows1]
  rfl

theorem blk0 (t : Fin cfg0.N) (p : Fin 512) (e : Fin 64) :
    iblk m c 0 t (ix3 0 p e) = (m (c.tc.loc main_arg0)) (ix3 (grid0.coords t 0) p e) := by
  blk_simp [iblk, V, e0 t]
  refine congrArg _ (funext fun q => Fin.ext ?_)
  match q with
  | ⟨0, _⟩ => blk_simp [e0 t]; rfl
  | ⟨1, _⟩ => blk_simp [e0 t]
  | ⟨2, _⟩ => blk_simp [e0 t]

theorem blk1 (t : Fin cfg0.N) (p : Fin 512) (e : Fin 64) :
    iblk m c 1 t (ix3 0 p e) = (m (c.tc.loc main_arg1)) (ix3 (grid0.coords t 0) p e) := by
  blk_simp [iblk, V, e1 t]
  refine congrArg _ (funext fun q => Fin.ext ?_)
  match q with
  | ⟨0, _⟩ => blk_simp [e1 t]; rfl
  | ⟨1, _⟩ => blk_simp [e1 t]
  | ⟨2, _⟩ => blk_simp [e1 t]

theorem blk2 (t : Fin cfg0.N) (p : Fin 4) (e : Fin 64) :
    iblk m c 2 t (ix3 0 p e) = (m (c.tc.loc main_arg2)) (ix3 (grid0.coords t 0) p e) := by
  blk_simp [iblk, V, e2 t]
  refine congrArg _ (funext fun q => Fin.ext ?_)
  match q with
  | ⟨0, _⟩ => blk_simp [e2 t]; rfl
  | ⟨1, _⟩ => blk_simp [e2 t]
  | ⟨2, _⟩ => blk_simp [e2 t]

theorem emb3 (t : Fin cfg0.N) (j : Fin 256) (e : Fin 64) : (win0_3.blk t).view.emb (ix3 0 j e) = ix3 (grid0.coords t 0) j e := by
  refine funext fun q => Fin.ext ?_
  match q with
  | ⟨0, _⟩ => blk_simp [e3 t]; rfl
  | ⟨1, _⟩ => blk_simp [e3 t]
  | ⟨2, _⟩ => blk_simp [e3 t]

theorem final3 : (dats m 0 c).arrAt 3 cfg0.N = sSel (A := 4) (m := 64) rfl rfl (m (c.tc.loc main_arg0)) (m (c.tc.loc main_arg2)) := by
  refine (dats m 0 c).arrAt_eq_of_covers 3 _ (by decide +kernel) fun t hf y => ?_
  blk_simp [e3 t]
  refine (congrFun ((after0_3 m c t).trans (congrArg Prod.fst (outs_eq m c t))) y).trans ?_
  revert y
  refine fun (y : (⟨3, ![1, 256, 64]⟩ : Shape).Idx) => ?_
  obtain ⟨a, j, e, rfl⟩ : ∃ (a : Fin 1) (j : Fin 256) (e : Fin 64), y = ix3 a j e := ⟨_, _, _, eq_ix3 y⟩
  obtain rfl : a = 0 := Subsingleton.elim _ _
  have hj := j.isLt
  have hp : j.val = j.val / 64 * 64 + j.val % 64 := by omega
  refine (canon_P _ _ j e).trans ((G_apply _ _ j e ⟨j.val / 64, by omega⟩ ⟨j.val % 64, by omega⟩ hp).trans (Eq.trans ?_ (congrArg (sSel (A := 4) (m := 64) rfl rfl (m (c.tc.loc main_arg0)) (m (c.tc.loc main_arg2))) (emb3 t j e)).symm))
  refine Eq.trans ?_ (sSel_apply (A := 4) (m := 64) rfl rfl (m (c.tc.loc main_arg0)) (m (c.tc.loc main_arg2)) (grid0.coords t 0) j e ⟨j.val / 64, by omega⟩ ⟨j.val % 64, by omega⟩ hp).symm
  rw [blk2, blk0, blk0]

theorem emb4 (t : Fin cfg0.N) (j : Fin 256) (e : Fin 64) : (win0_4.blk t).view.emb (ix3 0 j e) = ix3 (grid0.coords t 0) j e := by
  refine funext fun q => Fin.ext ?_
  match q with
  | ⟨0, _⟩ => blk_simp [e4 t]; rfl
  | ⟨1, _⟩ => blk_simp [e4 t]
  | ⟨2, _⟩ => blk_simp [e4 t]

theorem final4 : (dats m 0 c).arrAt 4 cfg0.N = sSel (A := 4) (m := 64) rfl rfl (m (c.tc.loc main_arg1)) (m (c.tc.loc main_arg2)) := by
  refine (dats m 0 c).arrAt_eq_of_covers 4 _ (by decide +kernel) fun t hf y => ?_
  blk_simp [e4 t]
  refine (congrFun ((after0_4 m c t).trans (congrArg Prod.snd (outs_eq m c t))) y).trans ?_
  revert y
  refine fun (y : (⟨3, ![1, 256, 64]⟩ : Shape).Idx) => ?_
  obtain ⟨a, j, e, rfl⟩ : ∃ (a : Fin 1) (j : Fin 256) (e : Fin 64), y = ix3 a j e := ⟨_, _, _, eq_ix3 y⟩
  obtain rfl : a = 0 := Subsingleton.elim _ _
  have hj := j.isLt
  have hp : j.val = j.val / 64 * 64 + j.val % 64 := by omega
  refine (canon_P _ _ j e).trans ((G_apply _ _ j e ⟨j.val / 64, by omega⟩ ⟨j.val % 64, by omega⟩ hp).trans (Eq.trans ?_ (congrArg (sSel (A := 4) (m := 64) rfl rfl (m (c.tc.loc main_arg1)) (m (c.tc.loc main_arg2))) (emb4 t j e)).symm))
  refine Eq.trans ?_ (sSel_apply (A := 4) (m := 64) rfl rfl (m (c.tc.loc main_arg1)) (m (c.tc.loc main_arg2)) (grid0.coords t 0) j e ⟨j.val / 64, by omega⟩ ⟨j.val % 64, by omega⟩ hp).symm
  rw [blk2, blk1, blk1]

theorem algebraic : Cert.algebraic_Sel3Ideal_RefSel3Ideal (hSel3Ideal := Cert.Sel3Ideal.Gen.facts) (hRefSel3Ideal := Cert.RefSel3Ideal.Gen.facts) := by
  intro m g m' g' _ hm
  refine ⟨_, _, run_blocks m g, ?_⟩
  refine (θ_run _ _ _).mono (fun r h c => ?_) (Cert.RefSel3Ideal.Value.run m' g')
  obtain ⟨h18, h19, hk⟩ := h c
  obtain ⟨a0, a1, a2⟩ := hm c
  refine ⟨h18.trans ?_, h19.trans ?_, hk⟩
  · rw [Cert.RefSel3Ideal.Read.val_main_v18_eq, v18_eq, final3, a0, a2]
  · rw [Cert.RefSel3Ideal.Read.val_main_v19_eq, v19_eq, final4, a1, a2]

end Cert.Sel3Value
-- ==== Proof.Kd2IdealRun.lean ====
module

public import proofs.«01_k».proof.Proof.Gen.Kd2Ideal.Frame
public import proofs.«01_k».proof.Proof.Gen.Kd2Ideal.Skeleton
public import Idealize.ShloMosaic.Lib.Claim

@[expose] public section

set_option maxRecDepth 16384

noncomputable section

namespace Cert.Kd2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x32x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x32 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1x128x128 .f32 := Memref.whole cc0_scratch0
abbrev scM0_1 : Memref sig .tc .vmem S128x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The pieces the body stores into each output, and the body's triple, the second scratch starting at contents `d1`. -/
noncomputable def kernelRun0_A (c : Dev nD) (i : grid0.Coords) (arg1 : Memref sig .tc .vmem S1x1024x64 .f32) (harg1 : arg1.IsWhole) (arg2 : Memref sig .tc .vmem S1x1024x64 .f32) (harg2 : arg2.IsWhole) (arg3 : Memref sig .tc .vmem S1x16x32 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x16x32x32 .f32) (harg6 : arg6.IsWhole) (arg7 : Memref sig .tc .vmem S1x16x32 .f32) (harg7 : arg7.IsWhole) (arg8 : Memref sig .tc .vmem S1x16x32 .f32) (harg8 : arg8.IsWhole) (arg9 : Memref sig .tc .vmem S1x128x128 .f32) (harg9 : arg9.IsWhole) (arg10 : Memref sig .tc .vmem S128x128 .f32) (harg10 : arg10.IsWhole)
    (x0 x1 : Vec F S1x1024x64 .f32) (x2 : Vec F S1x16x32 .f32) (x3 x4 : Vec F S1x1x1 .f32) (d1 : Vec F S128x128 .f32) :
    Σ' (L5 : List (View.Piece (Elt F) S1x16x32x32 .f32)), Σ' (L6 : List (View.Piece (Elt F) S1x16x32 .f32)), Σ' (L7 : List (View.Piece (Elt F) S1x16x32 .f32)), Σ' (LT0 : List (View.Piece (Elt F) S1x128x128 .f32)), { LT1 : List (View.Piece (Elt F) S128x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0__kd_body i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kd_body_eq_skeleton]; unfold cc0__kd_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kd2Ideal.Gen
-- ==== Proof.Kd2IdealPieces.lean ====
module

public import proofs.«01_k».proof.Proof.Kd2IdealRun
public import proofs.«01_k».proof.Proof.KdChunk
public import Idealize.ShloMosaic.Lib.Claim

@[expose] public section

set_option maxRecDepth 16384

noncomputable section

namespace Cert.Kd2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rounds (dif)
open Idealize.ShloMosaic.Pipeline (Dat Cfg Window BodyObligation cellOf)

variable {F : FTy → Type} [FloatOps F]

variable (m : (ℓ : Loc nD τ sig) → Buf (Elt F) ℓ) (ρ : Dev nD → PrngReg)

/-! ## One chunk of 128 rows -/

/-- A chunk's kernel matrix, -/
def kmV (v0 v2 : Vec F S1x1x1 .f32) (k v : Vec F S1x128x64 .f32) : FVec F S1x128x128 .f32 :=
  (shapeCast S1x128x128 (mulf (addf (matmul dot_S128x64_S128x64_S128x128_1_1_0_0_n_n none (shapeCast S128x64 v shapeCasts_S1x128x64_S128x64) (shapeCast S128x64 v shapeCasts_S1x128x64_S128x64) (constant S128x128 .f32 0x00000000#32))
      (broadcast S128x128 (extractAt ![0, 0, 0] v2 inpos_S1x1x1_p0_0_0)))
    (exp (subf (matmul dot_S128x64_S128x64_S128x128_1_1_0_0_n_n none (shapeCast S128x64 k shapeCasts_S1x128x64_S128x64) (shapeCast S128x64 k shapeCasts_S1x128x64_S128x64) (constant S128x128 .f32 0x00000000#32))
      (broadcast S128x128 (extractAt ![0, 0, 0] v0 inpos_S1x1x1_p0_0_0))))) shapeCasts_S128x128_S1x128x128)
/-- its row differences, transposed, -/
def trV (km : FVec F S1x128x128 .f32) : FVec F S128x64 .f32 :=
  (shapeCast S128x64 (transpose S128x64 [1, 0] (subf (shapeCast S64x128 (fun j => km ((⟨![0, 0, 0], ![1, 64, 128], ![1, 2, 1], inb_S1x128x128_S1x64x128_0_0_0_s_1_2_1⟩ : LoadRect S1x128x128).idx j)) shapeCasts_S1x64x128_S64x128) (shapeCast S64x128 (fun j => km ((⟨![0, 1, 0], ![1, 64, 128], ![1, 2, 1], inb_S1x128x128_S1x64x128_0_1_0_s_1_2_1⟩ : LoadRect S1x128x128).idx j)) shapeCasts_S1x64x128_S64x128)) transposes_S64x128_p1_0_S128x64) shapeCasts_S128x64_S128x64)
/-- and its double difference. -/
def chunk (v0 v2 : Vec F S1x1x1 .f32) (k v : Vec F S1x128x64 .f32) : FVec F S64x64 .f32 := dif (trV (kmV v0 v2 k v))

/-! ## Buckets -/

theorem inb_rk (c : Fin 8) : ∀ a, (![0, 128 * c.val, 0] : Fin 3 → Nat) a + S1x128x64.size a ≤ S1x1024x64.size a := by
  revert c; decide
/-- The rows of chunk `c`. -/
def rk (x : Vec F S1x1024x64 .f32) (c : Fin 8) : Vec F S1x128x64 .f32 :=
  View.ld x (Rect.unit (s := S1x1024x64) ![0, 128 * c.val, 0] ![1, 128, 64] (inb_rk c))
def rows (f : Fin 16 → FVec F S1x32 .f32) : FVec F S16x32 .f32 :=
  concatenate S16x32 0 (List.ofFn fun a : Fin 16 => ⟨S1x32, f a⟩)
    ((List.map_ofFn ..).symm ▸ (by decide : Shape.Concatenates (List.ofFn fun _ : Fin 16 => S1x32) S16x32 0))
theorem sl_top (a : Fin 16) : S64x64.Slices ![32 * (a.val % 2), 32 * (a.val % 2)] S1x32 := by revert a; decide
/-- The first row of bucket `a`'s block in its chunk. -/
def top (a : Fin 16) (x : FVec F S64x64 .f32) : FVec F S1x32 .f32 :=
  extractStridedSlice S1x32 ![32 * (a.val % 2), 32 * (a.val % 2)] x (sl_top a)
def eye : FVec F S64x64 .f32 := sitofp .f32 (extui 32 (cmpi .eq (iota .tc S64x64 32 [0] iota_S64x64_d0_w32) (iota .tc S64x64 32 [1] iota_S64x64_d1_w32)) natLt_1_32)
def dg (x : FVec F S64x64 .f32) : FVec F S1x64 .f32 :=
  shapeCast S1x64 (multiReduction .add [0] S64 (mulf x eye) 0x00000000#32 reduces_S64x64_S64 (.inl rfl) rfl) shapeCasts_S64_S1x64
theorem sl_dg (a : Fin 16) : S1x64.Slices ![0, 32 * (a.val % 2)] S1x32 := by revert a; decide
/-- The diagonal of bucket `a`'s block. -/
def diag (a : Fin 16) (x : FVec F S64x64 .f32) : FVec F S1x32 .f32 :=
  extractStridedSlice S1x32 ![0, 32 * (a.val % 2)] (dg x) (sl_dg a)
theorem sl_blk (j : Fin 2) : S64x64.Slices ![32 * j.val, 32 * j.val] S32x32 := by revert j; decide
/-- The blocks of a chunk. -/
def put (x : FVec F S64x64 .f32) : FVec F S1x2x32x32 .f32 :=
  shapeCast S1x2x32x32 (concatenate S2x32x32 0
    (List.ofFn fun j : Fin 2 => ⟨S1x32x32, shapeCast S1x32x32 (extractStridedSlice S32x32 ![32 * j.val, 32 * j.val] x (sl_blk j)) shapeCasts_S32x32_S1x32x32⟩)
    ((List.map_ofFn ..).symm ▸ (by decide : Shape.Concatenates (List.ofFn fun _ : Fin 2 => S1x32x32) S2x32x32 0))) shapeCasts_S2x32x32_S1x2x32x32
def wide1 (x : FVec F S16x32 .f32) : FVec F S16x32 .f32 :=
  maximumf x (concatenate S16x32 1 [⟨S16x1, broadcast S16x1 (Scalar.ofBits .f32 0xFF800000#32)⟩, ⟨S16x31, extractStridedSlice S16x31 ![0, 0] x (by decide)⟩] (show Shape.Concatenates [S16x1, S16x31] S16x32 1 by decide))
def wide2 (x : FVec F S16x32 .f32) : FVec F S16x32 .f32 :=
  maximumf x (concatenate S16x32 1 [⟨S16x2, broadcast S16x2 (Scalar.ofBits .f32 0xFF800000#32)⟩, ⟨S16x30, extractStridedSlice S16x30 ![0, 0] x (by decide)⟩] (show Shape.Concatenates [S16x2, S16x30] S16x32 1 by decide))
def wide4 (x : FVec F S16x32 .f32) : FVec F S16x32 .f32 :=
  maximumf x (concatenate S16x32 1 [⟨S16x4, broadcast S16x4 (Scalar.ofBits .f32 0xFF800000#32)⟩, ⟨S16x28, extractStridedSlice S16x28 ![0, 0] x (by decide)⟩] (show Shape.Concatenates [S16x4, S16x28] S16x32 1 by decide))
def wide8 (x : FVec F S16x32 .f32) : FVec F S16x32 .f32 :=
  maximumf x (concatenate S16x32 1 [⟨S16x8, broadcast S16x8 (Scalar.ofBits .f32 0xFF800000#32)⟩, ⟨S16x24, extractStridedSlice S16x24 ![0, 0] x (by decide)⟩] (show Shape.Concatenates [S16x8, S16x24] S16x32 1 by decide))
def wide16 (x : FVec F S16x32 .f32) : FVec F S16x32 .f32 :=
  maximumf x (concatenate S16x32 1 [⟨S16x16, broadcast S16x16 (Scalar.ofBits .f32 0xFF800000#32)⟩, ⟨S16x16, extractStridedSlice S16x16 ![0, 0] x (by decide)⟩] (show Shape.Concatenates [S16x16, S16x16] S16x32 1 by decide))
/-- The proposals, from the square roots of the diagonals. -/
def prop (u : Vec F S1x16x32 .f32) (x : FVec F S16x32 .f32) : FVec F S1x16x32 .f32 :=
  shapeCast S1x16x32 (mulf (mulf (shapeCast S16x32 u shapeCasts_S1x16x32_S16x32) x) (wide16 (wide8 (wide4 (wide2 (wide1 x)))))) shapeCasts_S16x32_S1x16x32

theorem hz3 : (![0, 0, 0] : Fin 3 → Nat) = fun _ => 0 := by decide

section
variable (x0 x1 : Vec F S1x1024x64 .f32) (x2 : Vec F S1x16x32 .f32) (x3 x4 : Vec F S1x1x1 .f32)

/-- The double difference of chunk `c`. -/
def ck (c : Fin 8) : FVec F S64x64 .f32 := chunk x3 x4 (rk x0 c) (rk x1 c)
/-- The chunk of bucket `a`. -/
def ofB (a : Fin 16) : Fin 8 := ⟨a.val / 2, by have := a.isLt; omega⟩
theorem inb_pc (c : Fin 8) : ∀ a, (![0, 2 * c.val, 0, 0] : Fin 4 → Nat) a + S1x2x32x32.size a ≤ S1x16x32x32.size a := by
  revert c; decide
def piece (c : Fin 8) : View.Piece (Elt F) S1x16x32x32 .f32 :=
  ⟨Rect.unit ![0, 2 * c.val, 0, 0] ![1, 2, 32, 32] (inb_pc c), put (ck x0 x1 x3 x4 c)⟩
/-- The pieces of the first output: the blocks of each chunk, last first. -/
def P5 : List (View.Piece (Elt F) S1x16x32x32 .f32) := List.ofFn fun n : Fin 8 => piece x0 x1 x3 x4 n.rev
/-- What the second output holds, -/
def O6 : Vec F S1x16x32 .f32 := shapeCast S1x16x32 (rows fun a => top a (ck x0 x1 x3 x4 (ofB a))) shapeCasts_S16x32_S1x16x32
/-- the square roots of the diagonals, -/
def roots : FVec F S16x32 .f32 := sqrt (rows fun a => diag a (ck x0 x1 x3 x4 (ofB a)))
/-- and what the third output holds. -/
def O7 : Vec F S1x16x32 .f32 := prop x2 (roots x0 x1 x3 x4)
end

theorem k0_pay9_eq (a b : Vec F S64x128 .f32) : k0_pay9 a b = Cert.Rounds.cut a b := rfl
theorem k0_pay19_eq (a b : Vec F S64x128 .f32) : k0_pay19 a b = Cert.Rounds.cut a b := rfl
theorem k0_pay29_eq (a b : Vec F S64x128 .f32) : k0_pay29 a b = Cert.Rounds.cut a b := rfl
theorem k0_pay39_eq (a b : Vec F S64x128 .f32) : k0_pay39 a b = Cert.Rounds.cut a b := rfl
theorem k0_pay49_eq (a b : Vec F S64x128 .f32) : k0_pay49 a b = Cert.Rounds.cut a b := rfl
theorem k0_pay58_eq (a b : Vec F S64x128 .f32) : k0_pay58 a b = Cert.Rounds.cut a b := rfl
theorem k0_pay70_eq (a b : Vec F S64x128 .f32) : k0_pay70 a b = Cert.Rounds.cut a b := rfl
theorem k0_pay79_eq (a b : Vec F S64x128 .f32) : k0_pay79 a b = Cert.Rounds.cut a b := rfl
def catR (a0 a1 : FVec F S1x32 .f32) (a2 a3 : FVec F S1x32 .f32) (a4 a5 : FVec F S1x32 .f32) (a6 a7 : FVec F S1x32 .f32) (a8 a9 : FVec F S1x32 .f32) (a10 a11 : FVec F S1x32 .f32) (a12 a13 : FVec F S1x32 .f32) (a14 a15 : FVec F S1x32 .f32) : FVec F S16x32 .f32 := concatenate S16x32 0 (⟨S1x32, a0⟩ :: ⟨S1x32, a1⟩ :: ⟨S1x32, a2⟩ :: ⟨S1x32, a3⟩ :: ⟨S1x32, a4⟩ :: ⟨S1x32, a5⟩ :: ⟨S1x32, a6⟩ :: ⟨S1x32, a7⟩ :: ⟨S1x32, a8⟩ :: ⟨S1x32, a9⟩ :: ⟨S1x32, a10⟩ :: ⟨S1x32, a11⟩ :: ⟨S1x32, a12⟩ :: ⟨S1x32, a13⟩ :: ⟨S1x32, a14⟩ :: ⟨S1x32, a15⟩ :: []) (show Shape.Concatenates (S1x32 :: S1x32 :: S1x32 :: S1x32 :: S1x32 :: S1x32 :: S1x32 :: S1x32 :: S1x32 :: S1x32 :: S1x32 :: S1x32 :: S1x32 :: S1x32 :: S1x32 :: S1x32 :: []) S16x32 0 by decide)
theorem catR_eq (a0 a1 : FVec F S1x32 .f32) (a2 a3 : FVec F S1x32 .f32) (a4 a5 : FVec F S1x32 .f32) (a6 a7 : FVec F S1x32 .f32) (a8 a9 : FVec F S1x32 .f32) (a10 a11 : FVec F S1x32 .f32) (a12 a13 : FVec F S1x32 .f32) (a14 a15 : FVec F S1x32 .f32) (h) : concatenate S16x32 0 (⟨S1x32, a0⟩ :: ⟨S1x32, a1⟩ :: ⟨S1x32, a2⟩ :: ⟨S1x32, a3⟩ :: ⟨S1x32, a4⟩ :: ⟨S1x32, a5⟩ :: ⟨S1x32, a6⟩ :: ⟨S1x32, a7⟩ :: ⟨S1x32, a8⟩ :: ⟨S1x32, a9⟩ :: ⟨S1x32, a10⟩ :: ⟨S1x32, a11⟩ :: ⟨S1x32, a12⟩ :: ⟨S1x32, a13⟩ :: ⟨S1x32, a14⟩ :: ⟨S1x32, a15⟩ :: []) h = catR a0 a1 a2 a3 a4 a5 a6 a7 a8 a9 a10 a11 a12 a13 a14 a15 := rfl
def catB (a0 a1 : FVec F S1x32x32 .f32) : FVec F S2x32x32 .f32 := concatenate S2x32x32 0 (⟨S1x32x32, a0⟩ :: ⟨S1x32x32, a1⟩ :: []) (show Shape.Concatenates (S1x32x32 :: S1x32x32 :: []) S2x32x32 0 by decide)
theorem catB_eq (a0 a1 : FVec F S1x32x32 .f32) (h) : concatenate S2x32x32 0 (⟨S1x32x32, a0⟩ :: ⟨S1x32x32, a1⟩ :: []) h = catB a0 a1 := rfl
def catW1 (a0 : FVec F S16x1 .f32) (a1 : FVec F S16x31 .f32) : FVec F S16x32 .f32 := concatenate S16x32 1 (⟨S16x1, a0⟩ :: ⟨S16x31, a1⟩ :: []) (show Shape.Concatenates (S16x1 :: S16x31 :: []) S16x32 1 by decide)
theorem catW1_eq (a0 : FVec F S16x1 .f32) (a1 : FVec F S16x31 .f32) (h) : concatenate S16x32 1 (⟨S16x1, a0⟩ :: ⟨S16x31, a1⟩ :: []) h = catW1 a0 a1 := rfl
def catW2 (a0 : FVec F S16x2 .f32) (a1 : FVec F S16x30 .f32) : FVec F S16x32 .f32 := concatenate S16x32 1 (⟨S16x2, a0⟩ :: ⟨S16x30, a1⟩ :: []) (show Shape.Concatenates (S16x2 :: S16x30 :: []) S16x32 1 by decide)
theorem catW2_eq (a0 : FVec F S16x2 .f32) (a1 : FVec F S16x30 .f32) (h) : concatenate S16x32 1 (⟨S16x2, a0⟩ :: ⟨S16x30, a1⟩ :: []) h = catW2 a0 a1 := rfl
def catW4 (a0 : FVec F S16x4 .f32) (a1 : FVec F S16x28 .f32) : FVec F S16x32 .f32 := concatenate S16x32 1 (⟨S16x4, a0⟩ :: ⟨S16x28, a1⟩ :: []) (show Shape.Concatenates (S16x4 :: S16x28 :: []) S16x32 1 by decide)
theorem catW4_eq (a0 : FVec F S16x4 .f32) (a1 : FVec F S16x28 .f32) (h) : concatenate S16x32 1 (⟨S16x4, a0⟩ :: ⟨S16x28, a1⟩ :: []) h = catW4 a0 a1 := rfl
def catW8 (a0 : FVec F S16x8 .f32) (a1 : FVec F S16x24 .f32) : FVec F S16x32 .f32 := concatenate S16x32 1 (⟨S16x8, a0⟩ :: ⟨S16x24, a1⟩ :: []) (show Shape.Concatenates (S16x8 :: S16x24 :: []) S16x32 1 by decide)
theorem catW8_eq (a0 : FVec F S16x8 .f32) (a1 : FVec F S16x24 .f32) (h) : concatenate S16x32 1 (⟨S16x8, a0⟩ :: ⟨S16x24, a1⟩ :: []) h = catW8 a0 a1 := rfl
def catW16 (a0 a1 : FVec F S16x16 .f32) : FVec F S16x32 .f32 := concatenate S16x32 1 (⟨S16x16, a0⟩ :: ⟨S16x16, a1⟩ :: []) (show Shape.Concatenates (S16x16 :: S16x16 :: []) S16x32 1 by decide)
theorem catW16_eq (a0 a1 : FVec F S16x16 .f32) (h) : concatenate S16x32 1 (⟨S16x16, a0⟩ :: ⟨S16x16, a1⟩ :: []) h = catW16 a0 a1 := rfl

set_option maxHeartbeats 16000000 in
/-- The pieces do not depend on what the second scratch held before. -/
theorem run_eq  (c : Dev nD) (i : grid0.Coords) (arg1 : Memref sig .tc .vmem S1x1024x64 .f32) (harg1 : arg1.IsWhole) (arg2 : Memref sig .tc .vmem S1x1024x64 .f32) (harg2 : arg2.IsWhole) (arg3 : Memref sig .tc .vmem S1x16x32 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x16x32x32 .f32) (harg6 : arg6.IsWhole) (arg7 : Memref sig .tc .vmem S1x16x32 .f32) (harg7 : arg7.IsWhole) (arg8 : Memref sig .tc .vmem S1x16x32 .f32) (harg8 : arg8.IsWhole) (arg9 : Memref sig .tc .vmem S1x128x128 .f32) (harg9 : arg9.IsWhole) (arg10 : Memref sig .tc .vmem S128x128 .f32) (harg10 : arg10.IsWhole)
    (x0 x1 : Vec F S1x1024x64 .f32) (x2 : Vec F S1x16x32 .f32) (x3 x4 : Vec F S1x1x1 .f32) (d1 : Vec F S128x128 .f32) :
    (kernelRun0_A c i arg1 harg1 arg2 harg2 arg3 harg3 arg4 harg4 arg5 harg5 arg6 harg6 arg7 harg7 arg8 harg8 arg9 harg9 arg10 harg10 x0 x1 x2 x3 x4 d1).1 = P5 x0 x1 x3 x4
    ∧ (kernelRun0_A c i arg1 harg1 arg2 harg2 arg3 harg3 arg4 harg4 arg5 harg5 arg6 harg6 arg7 harg7 arg8 harg8 arg9 harg9 arg10 harg10 x0 x1 x2 x3 x4 d1).2.1 = [⟨Rect.unit ![0, 0, 0] ![1, 16, 32] inb_S1x16x32_S1x16x32_0_0_0, O6 x0 x1 x3 x4⟩]
    ∧ (kernelRun0_A c i arg1 harg1 arg2 harg2 arg3 harg3 arg4 harg4 arg5 harg5 arg6 harg6 arg7 harg7 arg8 harg8 arg9 harg9 arg10 harg10 x0 x1 x2 x3 x4 d1).2.2.1 = [⟨Rect.unit ![0, 0, 0] ![1, 16, 32] inb_S1x16x32_S1x16x32_0_0_0, O7 x0 x1 x2 x3 x4⟩] := by
  unfold kernelRun0_A
  dsimp only
  sl_unfold_words
  simp only [View.readAt_eq_ld, harg1.read_unread, harg2.read_unread, harg3.read_unread, harg4.read_unread, harg5.read_unread, View.readCov_eq_canon',
    View.ld_unit_zero (S := S1x1x1) hz3, View.ld_unit_zero (S := S1x16x32) hz3, View.canon_cons_unit_zero (S := S1x128x128) hz3]
  dsimp only [k0_pay1, k0_pay2, k0_pay3, k0_pay4, k0_pay5, k0_pay8, k0_pay10, k0_pay11, k0_pay12, k0_pay13, k0_pay14, k0_pay15, k0_pay17, k0_pay20, k0_pay21, k0_pay22, k0_pay23, k0_pay24, k0_pay25, k0_pay30, k0_pay31, k0_pay32, k0_pay33, k0_pay34, k0_pay35, k0_pay36, k0_pay40, k0_pay41, k0_pay42, k0_pay43, k0_pay44, k0_pay45, k0_pay48, k0_pay50, k0_pay51, k0_pay52, k0_pay53, k0_pay54, k0_pay55, k0_pay59, k0_pay60, k0_pay61, k0_pay62, k0_pay63, k0_pay64, k0_pay67, k0_pay68, k0_pay71, k0_pay72, k0_pay73, k0_pay74, k0_pay75, k0_pay76, k0_pay80, k0_pay81, k0_pay82, k0_pay83, k0_pay84, k0_pay85, k0_pay86, k0_pay87]
  simp only [catR_eq, catB_eq, catW1_eq, catW2_eq, catW4_eq, catW8_eq, catW16_eq]
  simp only [k0_pay9_eq, k0_pay19_eq, k0_pay29_eq, k0_pay39_eq, k0_pay49_eq, k0_pay58_eq, k0_pay70_eq, k0_pay79_eq]
  simp only [Cert.Rounds.cut_readAt]
  exact ⟨rfl, rfl, rfl⟩

end Cert.Kd2Ideal.Gen
-- ==== Proof.Kd2IdealFrame.lean ====
module

public import proofs.«01_k».proof.Proof.Kd2IdealPieces
public import Idealize.ShloMosaic.Lib.VecWindow
public import Idealize.ShloMosaic.Lib.Claim

@[expose] public section

set_option maxRecDepth 16384

noncomputable section

namespace Cert.Kd2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem cover5 (x0 x1 : Vec F S1x1024x64 .f32) (x3 x4 : Vec F S1x1x1 .f32) (y : S1x16x32x32.Idx) : ∃ pc ∈ P5 x0 x1 x3 x4, y ∈ pc.1.set := by
  have h1 : (y 1).val < 16 := (y 1).isLt
  refine ⟨piece x0 x1 x3 x4 ⟨(y 1).val / 2, by omega⟩, ?_, ?_⟩
  · unfold P5
    rw [List.mem_ofFn]
    exact ⟨(⟨(y 1).val / 2, by omega⟩ : Fin 8).rev, by rw [Fin.rev_rev]⟩
  · unfold piece
    rw [Rect.mem_set_unit]
    intro a
    match a with
    | ⟨0, _⟩ => have : (y 0).val < 1 := (y 0).isLt; exact ⟨Nat.zero_le _, by show (y 0).val < 0 + 1; omega⟩
    | ⟨1, _⟩ => exact ⟨by show 2 * ((y 1).val / 2) ≤ (y 1).val; omega, by show (y 1).val < 2 * ((y 1).val / 2) + 2; omega⟩
    | ⟨2, _⟩ => have : (y 2).val < 32 := (y 2).isLt; exact ⟨Nat.zero_le _, by show (y 2).val < 0 + 32; omega⟩
    | ⟨3, _⟩ => have : (y 3).val < 32 := (y 3).isLt; exact ⟨Nat.zero_le _, by show (y 3).val < 0 + 32; omega⟩

section
variable (c : Dev nD) (i : grid0.Coords) (arg1 : Memref sig .tc .vmem S1x1024x64 .f32) (harg1 : arg1.IsWhole) (arg2 : Memref sig .tc .vmem S1x1024x64 .f32) (harg2 : arg2.IsWhole) (arg3 : Memref sig .tc .vmem S1x16x32 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x16x32x32 .f32) (harg6 : arg6.IsWhole) (arg7 : Memref sig .tc .vmem S1x16x32 .f32) (harg7 : arg7.IsWhole) (arg8 : Memref sig .tc .vmem S1x16x32 .f32) (harg8 : arg8.IsWhole) (arg9 : Memref sig .tc .vmem S1x128x128 .f32) (harg9 : arg9.IsWhole) (arg10 : Memref sig .tc .vmem S128x128 .f32) (harg10 : arg10.IsWhole)
  (x0 x1 : Vec F S1x1024x64 .f32) (x2 : Vec F S1x16x32 .f32) (x3 x4 : Vec F S1x1x1 .f32) (d1 : Vec F S128x128 .f32)

theorem fin5 (f) : arg6.view.read (Elt F) (arg6.view.writes (Elt F) f (kernelRun0_A c i arg1 harg1 arg2 harg2 arg3 harg3 arg4 harg4 arg5 harg5 arg6 harg6 arg7 harg7 arg8 harg8 arg9 harg9 arg10 harg10 x0 x1 x2 x3 x4 d1).1) = View.canon (P5 x0 x1 x3 x4) := by
  rw [(run_eq ..).1]
  exact funext fun y => View.read_writes_apply_eq_canon _ _ y _ (cover5 x0 x1 x3 x4 y)

theorem fin6 (f) : arg7.view.read (Elt F) (arg7.view.writes (Elt F) f (kernelRun0_A c i arg1 harg1 arg2 harg2 arg3 harg3 arg4 harg4 arg5 harg5 arg6 harg6 arg7 harg7 arg8 harg8 arg9 harg9 arg10 harg10 x0 x1 x2 x3 x4 d1).2.1) = O6 x0 x1 x3 x4 := by
  rw [(run_eq ..).2.1]
  exact View.read_writes_full (s := S1x16x32) _ _ _ _ _

theorem fin7 (f) : arg8.view.read (Elt F) (arg8.view.writes (Elt F) f (kernelRun0_A c i arg1 harg1 arg2 harg2 arg3 harg3 arg4 harg4 arg5 harg5 arg6 harg6 arg7 harg7 arg8 harg8 arg9 harg9 arg10 harg10 x0 x1 x2 x3 x4 d1).2.2.1) = O7 x0 x1 x2 x3 x4 := by
  rw [(run_eq ..).2.2]
  exact View.read_writes_full (s := S1x16x32) _ _ _ _ _
end

/-- What the outputs hold after the body at point `t`. -/
def outsAt0 (c : Dev nD) (t : Fin cfg0.N) : Vec F S1x16x32x32 .f32 × Vec F S1x16x32 .f32 × Vec F S1x16x32 .f32 :=
  (View.canon (P5 (iblk m c 0 t) (iblk m c 1 t) (iblk m c 3 t) (iblk m c 4 t)), O6 (iblk m c 0 t) (iblk m c 1 t) (iblk m c 3 t) (iblk m c 4 t),
    O7 (iblk m c 0 t) (iblk m c 1 t) (iblk m c 2 t) (iblk m c 3 t) (iblk m c 4 t))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0; dsimp only
  iintro ⟨⟨⟨HS0, ⟨%d1, HS1⟩⟩, Hg⟩, Ho, ⟨%d0, H0⟩, ⟨%d2, H1⟩, ⟨%d3, H2⟩, ⟨%d4, H3⟩, ⟨%d5, H4⟩, ⟨%d6, H5⟩, ⟨%d7, H6⟩, ⟨%d8, H7⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) d1).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, ⟨%e5, H5⟩, ⟨%e6, H6⟩, ⟨%e7, H7⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact fin5 ..
  isplitl [H6]
  · unfold owns; iexists _; isplitr
    swap; · iexact H6
    ipureintro; exact fin6 ..
  unfold owns; iexists _; isplitr
  swap; · iexact H7
  ipureintro; exact fin7 ..

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The run, with each output array named. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      (h c).1 6,
      (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Kd2Ideal.Gen
-- ==== Proof.Kd2Pay.lean ====
/- A compression round's kernel-difference call, one grid point: what its three output blocks hold, entry by entry. -/
module

public import proofs.«01_k».proof.Proof.Common
public import proofs.«01_k».proof.Proof.Kd2IdealPieces
public import Idealize.ShloMosaic.Lib.Pointwise
public import Idealize.ShloMosaic.Lib.Pipeline.Value

@[expose] public section

noncomputable section

namespace Cert.Kd2Value

open Idealize.ShloMosaic Idealize.ShloMosaic.TcCoe Idealize.SL.Sem Cert.Rounds Cert.Kd2Ideal Cert.Kd2Ideal.Gen

/-! ## One chunk -/

theorem kmV_apply (x3 x4 : Vec Ideal S1x1x1 .f32) (k v : Vec Ideal S1x128x64 .f32) (p q : Fin 128) : kmV (F := Ideal) x3 x4 k v (ix3 0 p q)
    = kmat (fun p e => k (ix3 0 p e)) (fun p e => v (ix3 0 p e)) (x3 (ix3 0 0 0)) (x4 (ix3 0 0 0)) p q := by
  pointwise [kmV, kmat]

theorem trV_apply (K : FVec Ideal S1x128x128 .f32) (q : Fin 128) (i : Fin 64) :
    trV K (ix2 q i) = K (ix3 0 ⟨2 * i.val, by omega⟩ q) - K (ix3 0 ⟨2 * i.val + 1, by omega⟩ q) := by
  unfold trV
  pointwise []
  exact congrArg₂ (fun a b : EReal => a - b) rfl (congrArg K (congrArg (fun p => ix3 0 p q) (Fin.ext (Nat.add_comm 1 (2 * i.val)))))

theorem chunk_apply (x3 x4 : Vec Ideal S1x1x1 .f32) (k v : Vec Ideal S1x128x64 .f32) (i j : Fin 64) : chunk x3 x4 k v (ix2 i j)
    = dd (kmat (fun p e => k (ix3 0 p e)) (fun p e => v (ix3 0 p e)) (x3 (ix3 0 0 0)) (x4 (ix3 0 0 0))) (2 * i.val) (2 * j.val) (by omega) (by omega) := by
  rw [← dd_symm _ (kmat_symm _ _ _ _)]
  show trV (kmV x3 x4 k v) (ix2 ⟨2 * i.val, _⟩ j) - trV (kmV x3 x4 k v) (ix2 ⟨2 * i.val + 1, _⟩ j) = _
  rw [trV_apply, trV_apply, kmV_apply, kmV_apply, kmV_apply, kmV_apply]

theorem rk_apply (x : Vec Ideal S1x1024x64 .f32) (c : Fin 8) (p : Fin 128) (e : Fin 64) :
    rk x c (ix3 0 p e) = x (ix3 0 ⟨128 * c.val + p.val, by omega⟩ e) := by
  unfold rk
  refine congrArg x (funext fun q => Fin.ext ?_)
  match q with
  | ⟨0, _⟩ => rfl
  | ⟨1, _⟩ => show 128 * c.val + 1 * p.val = 128 * c.val + p.val; omega
  | ⟨2, _⟩ => show 0 + 1 * e.val = e.val; omega

/-! ## Buckets -/

theorem rows_apply (f : Fin 16 → FVec Ideal S1x32 .f32) (a : Fin 16) (j : Fin 32) : rows f (ix2 a j) = f a (ix2 0 j) := by
  unfold rows
  refine concatenate_ofFn_unit_apply (t := S16x32) (s₁ := S1x32) 0 _ _ rfl rfl (ix2 a j) a rfl (ix2 0 j) fun q hq => ?_
  match q with
  | ⟨0, _⟩ => exact absurd rfl hq
  | ⟨1, _⟩ => rfl

theorem top_apply (a : Fin 16) (x : FVec Ideal S64x64 .f32) (j : Fin 32) :
    top a x (ix2 0 j) = x (ix2 ⟨32 * (a.val % 2) + 0, by omega⟩ ⟨32 * (a.val % 2) + j.val, by omega⟩) := by
  unfold top extractStridedSlice
  refine congrArg x (funext fun q => Fin.ext ?_)
  match q with
  | ⟨0, _⟩ => rfl
  | ⟨1, _⟩ => rfl

theorem dg_apply (x : FVec Ideal S64x64 .f32) (j : Fin 64) : dg x (ix2 0 j) = x (ix2 j j) := by
  pointwise [dg, eye]
  exact sum_indicator (by omega) (fun k => x (ix2 k j)) j

theorem diag_apply (a : Fin 16) (x : FVec Ideal S64x64 .f32) (j : Fin 32) :
    diag a x (ix2 0 j) = x (ix2 ⟨32 * (a.val % 2) + j.val, by omega⟩ ⟨32 * (a.val % 2) + j.val, by omega⟩) := by
  unfold diag
  refine Eq.trans ?_ (dg_apply x ⟨32 * (a.val % 2) + j.val, by omega⟩)
  unfold extractStridedSlice
  refine congrArg (dg x) (funext fun q => Fin.ext ?_)
  match q with
  | ⟨0, _⟩ => rfl
  | ⟨1, _⟩ => rfl

theorem put_apply (x : FVec Ideal S64x64 .f32) (n : Fin 2) (i j : Fin 32) :
    put x (ix4 0 n i j) = x (ix2 ⟨32 * n.val + i.val, by omega⟩ ⟨32 * n.val + j.val, by omega⟩) := by
  unfold put
  rw [shapeCast_apply _ _ (ix4 0 n i j : S1x2x32x32.Idx) (ix3 n i j : S2x32x32.Idx) (by
    rw [Shape.rowMajor_val_three, Shape.rowMajor_val_four]; show _ = ((0 * _ + _) * _ + _) * _ + _; rw [Nat.zero_mul, Nat.zero_add]; rfl)]
  refine (concatenate_ofFn_unit_apply (t := S2x32x32) (s₁ := S1x32x32) 0 _ _ rfl rfl (ix3 n i j) n rfl (ix3 0 i j) fun q hq => ?_).trans ?_
  · match q with
    | ⟨0, _⟩ => exact absurd rfl hq
    | ⟨1, _⟩ => rfl
    | ⟨2, _⟩ => rfl
  · pointwise []

section
variable (x0 x1 : Vec Ideal S1x1024x64 .f32) (x2 : Vec Ideal S1x16x32 .f32) (x3 x4 : Vec Ideal S1x1x1 .f32)

/-- The rows of the two operands and the two scalars, as functions. -/
abbrev km (p q : Fin 1024) : EReal := kmat (fun p e => x0 (ix3 0 p e)) (fun p e => x1 (ix3 0 p e)) (x3 (ix3 0 0 0)) (x4 (ix3 0 0 0)) p q

theorem ck_apply (c : Fin 8) (i j : Fin 64) : ck x0 x1 x3 x4 c (ix2 i j)
    = dd (km x0 x1 x3 x4) (128 * c.val + 2 * i.val) (128 * c.val + 2 * j.val) (by omega) (by omega) := by
  unfold ck
  rw [chunk_apply]
  unfold dd km kmat
  simp only [rk_apply]
  rfl

/-- Bucket `a`'s entry of the double difference. -/
def kdA (a : Fin 16) (i j : Fin 32) : EReal := dd (km x0 x1 x3 x4) (a.val * 64 + 2 * i.val) (a.val * 64 + 2 * j.val) (by omega) (by omega)

theorem blk_eq (a : Fin 16) (i j : Fin 32) : ck x0 x1 x3 x4 (ofB a) (ix2 ⟨32 * (a.val % 2) + i.val, by omega⟩ ⟨32 * (a.val % 2) + j.val, by omega⟩)
    = kdA x0 x1 x3 x4 a i j := by
  rw [ck_apply]
  refine dd_congr _ _ _ _ _ ?_ ?_
  · show 128 * (a.val / 2) + 2 * (32 * (a.val % 2) + i.val) = a.val * 64 + 2 * i.val; omega
  · show 128 * (a.val / 2) + 2 * (32 * (a.val % 2) + j.val) = a.val * 64 + 2 * j.val; omega

/-- The first output, entry by entry. -/
def G5 : Vec Ideal S1x16x32x32 .f32 := fun y => kdA x0 x1 x3 x4 (y 1) (y 2) (y 3)

theorem P5_apply (a : Fin 16) (i j : Fin 32) : View.canon (P5 x0 x1 x3 x4) (ix4 0 a i j) = kdA x0 x1 x3 x4 a i j := by
  refine View.canon_apply_of_pieces (G5 x0 x1 x3 x4) _ ?_ _ ?_
  · intro p hp
    unfold P5 at hp
    rw [List.mem_ofFn] at hp
    obtain ⟨n, rfl⟩ := hp
    refine fun (y : (⟨4, ![1, 2, 32, 32]⟩ : Shape).Idx) => ?_
    obtain ⟨z, b, i, j, rfl⟩ : ∃ (z : Fin 1) (b : Fin 2) (i j : Fin 32), y = ix4 z b i j := ⟨_, _, _, _, eq_ix4 y⟩
    obtain rfl : z = 0 := Subsingleton.elim _ _
    refine (put_apply (ck x0 x1 x3 x4 n.rev) b i j).trans ((ck_apply ..).trans (dd_congr _ _ _ _ _ ?_ ?_))
    · show 128 * n.rev.val + 2 * (32 * b.val + i.val) = (2 * n.rev.val + 1 * b.val) * 64 + 2 * (0 + 1 * i.val); omega
    · show 128 * n.rev.val + 2 * (32 * b.val + j.val) = (2 * n.rev.val + 1 * b.val) * 64 + 2 * (0 + 1 * j.val); omega
  · refine ⟨Gen.piece x0 x1 x3 x4 (ofB a), ?_, ?_⟩
    · unfold P5
      rw [List.mem_ofFn]
      exact ⟨(ofB a).rev, by rw [Fin.rev_rev]⟩
    · unfold Gen.piece
      rw [Rect.mem_set_unit]
      intro q
      match q with
      | ⟨0, _⟩ => exact ⟨Nat.zero_le _, by show 0 < 0 + 1; omega⟩
      | ⟨1, _⟩ => exact ⟨by show 2 * (a.val / 2) ≤ a.val; omega, by show a.val < 2 * (a.val / 2) + 2; omega⟩
      | ⟨2, _⟩ => exact ⟨Nat.zero_le _, by show i.val < 0 + 32; omega⟩
      | ⟨3, _⟩ => exact ⟨Nat.zero_le _, by show j.val < 0 + 32; omega⟩

theorem O6_apply (a : Fin 16) (j : Fin 32) : O6 x0 x1 x3 x4 (ix3 0 a j) = kdA x0 x1 x3 x4 a 0 j := by
  unfold O6
  rw [shapeCast_apply _ _ (ix3 0 a j : S1x16x32.Idx) (ix2 a j : S16x32.Idx) (by
    rw [Shape.rowMajor_val_two, Shape.rowMajor_val_three]; show _ = (0 * _ + _) * _ + _; rw [Nat.zero_mul, Nat.zero_add]; rfl), rows_apply, top_apply]
  exact blk_eq x0 x1 x3 x4 a 0 j

/-- The square root of the diagonal. -/
def rt (a : Fin 16) (j : Fin 32) : EReal := Ideal.sqrt (kdA x0 x1 x3 x4 a j j)

theorem roots_apply (a : Fin 16) (j : Fin 32) : roots x0 x1 x3 x4 (ix2 a j) = rt x0 x1 x3 x4 a j := by
  refine congrArg Ideal.sqrt ((rows_apply ..).trans ((diag_apply ..).trans ?_))
  exact blk_eq x0 x1 x3 x4 a j j

theorem O7_apply (a : Fin 16) (j : Fin 32) : O7 x0 x1 x2 x3 x4 (ix3 0 a j)
    = x2 (ix3 0 a j) * rt x0 x1 x3 x4 a j * runMax (rt x0 x1 x3 x4 a) j := by
  have hb : Scalar.ofBits (F := Ideal) .f32 0xFF800000#32 = ⊥ := ofBits_ninf_f32
  have w1 := win_one (A := 16) (m := 32) (roots x0 x1 x3 x4)
  have w2 : Win (fun (a : Fin 16) (j : Fin 32) => roots x0 x1 x3 x4 (ix2 a j)) 2 (wide1 (roots x0 x1 x3 x4)) :=
    win_step 1 31 w1 rfl rfl _ hb (by decide) (show Shape.Concatenates [S16x1, S16x31] S16x32 1 by decide)
  have w4 : Win (fun (a : Fin 16) (j : Fin 32) => roots x0 x1 x3 x4 (ix2 a j)) 4 (wide2 (wide1 (roots x0 x1 x3 x4))) :=
    win_step 2 30 w2 rfl rfl _ hb (by decide) (show Shape.Concatenates [S16x2, S16x30] S16x32 1 by decide)
  have w8 : Win (fun (a : Fin 16) (j : Fin 32) => roots x0 x1 x3 x4 (ix2 a j)) 8 (wide4 (wide2 (wide1 (roots x0 x1 x3 x4)))) :=
    win_step 4 28 w4 rfl rfl _ hb (by decide) (show Shape.Concatenates [S16x4, S16x28] S16x32 1 by decide)
  have w16 : Win (fun (a : Fin 16) (j : Fin 32) => roots x0 x1 x3 x4 (ix2 a j)) 16 (wide8 (wide4 (wide2 (wide1 (roots x0 x1 x3 x4))))) :=
    win_step 8 24 w8 rfl rfl _ hb (by decide) (show Shape.Concatenates [S16x8, S16x24] S16x32 1 by decide)
  have w32 : Win (fun (a : Fin 16) (j : Fin 32) => roots x0 x1 x3 x4 (ix2 a j)) 32 (wide16 (wide8 (wide4 (wide2 (wide1 (roots x0 x1 x3 x4)))))) :=
    win_step 16 16 w16 rfl rfl _ hb (by decide) (show Shape.Concatenates [S16x16, S16x16] S16x32 1 by decide)
  have e := win_full w32 (by omega) a j
  have er : (fun j : Fin 32 => roots x0 x1 x3 x4 (ix2 a j)) = rt x0 x1 x3 x4 a := funext (roots_apply x0 x1 x3 x4 a)
  rw [er] at e
  rw [← e, ← roots_apply]
  unfold O7 prop
  rw [shapeCast_apply _ _ (ix3 0 a j : S1x16x32.Idx) (ix2 a j : S16x32.Idx) (by
    rw [Shape.rowMajor_val_two, Shape.rowMajor_val_three]; show _ = (0 * _ + _) * _ + _; rw [Nat.zero_mul, Nat.zero_add]; rfl)]
  refine congrArg₂ (fun a b : EReal => a * b) (congrArg₂ (fun a b : EReal => a * b) ?_ rfl) rfl
  exact shapeCast_apply _ _ (ix2 a j : S16x32.Idx) (ix3 0 a j : S1x16x32.Idx) (by
    rw [Shape.rowMajor_val_two, Shape.rowMajor_val_three]; show (0 * _ + _) * _ + _ = _; rw [Nat.zero_mul, Nat.zero_add]; rfl)

end

end Cert.Kd2Value
-- ==== Proof.Kd2Ref.lean ====
module

public import proofs.«01_k».proof.Proof.Common
public import proofs.«01_k».proof.Proof.Gen.RefKd2Ideal.Read
public import Idealize.ShloMosaic.Lib.Pointwise

@[expose] public section

noncomputable section

namespace Cert.Kd2Value

open Idealize.ShloMosaic Idealize.ShloMosaic.TcCoe Idealize.SL.Sem Cert.Rounds Cert.RefKd2Ideal Cert.RefKd2Ideal.Value Cert.RefKd2Ideal.Read

theorem gather_diag (g : Fin 32) (a : Fin 16) (i : Fin 32) (x : FVec Ideal S32x16x32x32 .f32) (k : IVec S32x2 32)
    (h0 : k (ix2 i 0) = BitVec.ofNat 32 i.val) (h1 : k (ix2 i 1) = BitVec.ofNat 32 i.val) :
    Host.gather gather_S32x16x32x32_S32x2_S32x16x32_01_23_n_n_23_1_321611 x k (ix3 g a i) = x (ix4 g a i i) := by
  have hi : (BitVec.ofNat 32 i.val).toInt.toNat = i.val := by
    have := i.isLt
    rw [BitVec.toInt_eq_toNat_of_lt (by simp; omega)]; simp; omega
  refine congrArg x (funext fun q => Fin.ext ?_)
  match q with
  | ⟨0, _⟩ => show 0 + 0 + g.val = g.val; omega
  | ⟨1, _⟩ => show 0 + 0 + a.val = a.val; omega
  | ⟨2, _⟩ =>
    show min (k _).toInt.toNat (32 - 1) + 0 + 0 = i.val
    have : k ((gather_S32x16x32x32_S32x2_S32x16x32_01_23_n_n_23_1_321611).siIdx (ix3 g a i) (⟨0, by decide⟩)) = BitVec.ofNat 32 i.val := by
      refine Eq.trans (congrArg k (funext fun b => ?_)) h0
      match b with
      | ⟨0, _⟩ => rfl
      | ⟨1, _⟩ => rfl
    rw [show ∀ y, min y (32 - 1) + 0 + 0 = min y 31 from fun _ => rfl]
    refine Eq.trans (congrArg (fun z : BitVec 32 => min z.toInt.toNat 31) this) ?_
    simp only [hi]; have := i.isLt; omega
  | ⟨3, _⟩ =>
    show min (k _).toInt.toNat (32 - 1) + 0 + 0 = i.val
    have : k ((gather_S32x16x32x32_S32x2_S32x16x32_01_23_n_n_23_1_321611).siIdx (ix3 g a i) (⟨1, by decide⟩)) = BitVec.ofNat 32 i.val := by
      refine Eq.trans (congrArg k (funext fun b => ?_)) h1
      match b with
      | ⟨0, _⟩ => rfl
      | ⟨1, _⟩ => rfl
    refine Eq.trans (congrArg (fun z : BitVec 32 => min z.toInt.toNat 31) this) ?_
    simp only [hi]; have := i.isLt; omega

theorem idx0 (i : Fin 32) : val_main_call0_v14 (F := Ideal) (ix2 i 0) = BitVec.ofNat 32 i.val := by
  unfold val_main_call0_v14
  pointwise [val_main_call0_v12, val_main_call0_v6, val_main_call0_v5, val_main_call0_v3, val_main_call0_v2, val_main_call0_v4, val_main_call0_c, val_main_call0_c_0, val_main_call0_v0]
  revert i; decide +kernel

theorem idx1 (i : Fin 32) : val_main_call0_v14 (F := Ideal) (ix2 i 1) = BitVec.ofNat 32 i.val := by
  unfold val_main_call0_v14
  pointwise [val_main_call0_v13, val_main_call0_v11, val_main_call0_v10, val_main_call0_v8, val_main_call0_v7, val_main_call0_v9, val_main_call0_c_1, val_main_call0_c_2, val_main_call0_v1]
  revert i; decide +kernel

variable (x0 x1 : (⟨S32x1024x64, .f32⟩ : BufTy).Contents (Elt Ideal)) (x2 : (⟨S32x16x32, .f32⟩ : BufTy).Contents (Elt Ideal)) (x3 x4 : (⟨S32x1x1, .f32⟩ : BufTy).Contents (Elt Ideal))
    (g : Fin 32) (a : Fin 16)

theorem v11 (i j : Fin 64) : val_main_v11 x0 x1 x3 x4 (ix4 g a i j)
    = sKm x0 x1 x3 x4 g ⟨a.val * 64 + i.val, by omega⟩ ⟨a.val * 64 + j.val, by omega⟩ := by
  unfold val_main_v11 val_main_v10 val_main_v9 val_main_v8 val_main_v7 val_main_v6 val_main_v5 val_main_v4 val_main_v3 val_main_v2 val_main_v1 val_main_v0
  pointwise [sKm, kmat]

theorem v17 (i j : Fin 32) : val_main_v17 x0 x1 x3 x4 (ix4 g a i j) = sKdAt x0 x1 x3 x4 rfl g a i j := by
  unfold val_main_v17 val_main_v16 val_main_v15 val_main_v14 val_main_v13 val_main_v12
  pointwise [sKdAt, dd]
  refine congrArg₂ _ (congrArg₂ _ ((v11 ..).trans ?_) ((v11 ..).trans ?_)) (congrArg₂ _ ((v11 ..).trans ?_) ((v11 ..).trans ?_)) <;>
    exact congrArg₂ _ (Fin.ext (by first | rfl | omega | (dsimp only; omega))) (Fin.ext (by first | rfl | omega | (dsimp only; omega)))

theorem v20 (i : Fin 32) : val_main_v20 x0 x1 x3 x4 (ix3 g a i) = sKdAt x0 x1 x3 x4 rfl g a i i :=
  (gather_diag g a i _ _ (idx0 i) (idx1 i)).trans (v17 ..)

theorem v21 (i : Fin 32) : val_main_v21 x0 x1 x3 x4 (ix3 g a i) = sRt x0 x1 x3 x4 rfl g a i :=
  congrArg Ideal.sqrt (v20 ..)

theorem v24 (j : Fin 32) : val_main_v24 x0 x1 x2 x3 x4 (ix3 g a j) = sU x0 x1 x2 x3 x4 rfl (ix3 g a j) := by
  pointwise [val_main_v24, val_main_v22, sU]
  refine congrArg₂ _ (congrArg₂ _ rfl (v21 ..)) ?_
  refine (reduceWindow_max (l := 31) (m := 32) (by decide) _ _ (fun i => ofBits_ninf_f32) _ _ _ _ _).trans ?_
  · exact congrArg (fun f => runMax f j) (funext fun i => v21 ..)

theorem v19 (j : Fin 32) : val_main_v19 x0 x1 x3 x4 (ix3 g a j) = sC0 x0 x1 x3 x4 rfl (by decide) (ix3 g a j) := by
  unfold val_main_v19 val_main_v18
  pointwise [sC0]
  exact v17 x0 x1 x3 x4 g a 0 j

theorem v17_eq : val_main_v17 x0 x1 x3 x4 = sKd x0 x1 x3 x4 rfl := by
  funext y
  rw [eq_ix4 y]
  exact v17 ..

theorem v19_eq : val_main_v19 x0 x1 x3 x4 = sC0 x0 x1 x3 x4 rfl (by decide) := by
  funext y
  rw [eq_ix3 y]
  exact v19 ..

theorem v24_eq : val_main_v24 x0 x1 x2 x3 x4 = sU x0 x1 x2 x3 x4 rfl := by
  funext y
  rw [eq_ix3 y]
  exact v24 ..

end Cert.Kd2Value
-- ==== Proof.Kd2Value.lean ====
module

public import proofs.«01_k».proof.Proof.Kd2Pay
public import proofs.«01_k».proof.Proof.Kd2Ref
public import proofs.«01_k».proof.Defs
public import proofs.«01_k».proof.Proof.Kd2IdealFrame
public import Idealize.ShloMosaic.Lib.Pipeline.ValueKit

@[expose] public section

noncomputable section

namespace Cert.Kd2Value

open Idealize.ShloMosaic Idealize.ShloMosaic.TcCoe Idealize.SL.Sem Cert.Rounds Cert.Kd2Ideal Cert.Kd2Ideal.Gen

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, 0] := (by decide +kernel : ∀ t : Fin grid0.N, _)
theorem e5 : ∀ t : Fin cfg0.N, win0_5.index t = ![(grid0.coords t 0).val, 0, 0, 0] := (by decide +kernel : ∀ t : Fin grid0.N, _)
theorem e6 : ∀ t : Fin cfg0.N, win0_6.index t = ![(grid0.coords t 0).val, 0, 0] := (by decide +kernel : ∀ t : Fin grid0.N, _)
theorem e7 : ∀ t : Fin cfg0.N, win0_7.index t = ![(grid0.coords t 0).val, 0, 0] := (by decide +kernel : ∀ t : Fin grid0.N, _)

variable (m : (ℓ : Loc nD τ sig) → Buf (Elt Ideal) ℓ) (c : Dev nD)

theorem blk0 (t : Fin cfg0.N) (p : Fin 1024) (e : Fin 64) :
    iblk m c 0 t (ix3 0 p e) = (m (c.tc.loc main_arg0)) (ix3 (grid0.coords t 0) p e) := by
  blk_simp [iblk, V, e0 t]
  refine congrArg _ (funext fun q => Fin.ext ?_)
  match q with
  | ⟨0, _⟩ => blk_simp [e0 t]; rfl
  | ⟨1, _⟩ => blk_simp [e0 t]
  | ⟨2, _⟩ => blk_simp [e0 t]

theorem blk1 (t : Fin cfg0.N) (p : Fin 1024) (e : Fin 64) :
    iblk m c 1 t (ix3 0 p e) = (m (c.tc.loc main_arg1)) (ix3 (grid0.coords t 0) p e) := by
  blk_simp [iblk, V, e1 t]
  refine congrArg _ (funext fun q => Fin.ext ?_)
  match q with
  | ⟨0, _⟩ => blk_simp [e1 t]; rfl
  | ⟨1, _⟩ => blk_simp [e1 t]
  | ⟨2, _⟩ => blk_simp [e1 t]

theorem blk2 (t : Fin cfg0.N) (p : Fin 16) (e : Fin 32) :
    iblk m c 2 t (ix3 0 p e) = (m (c.tc.loc main_arg2)) (ix3 (grid0.coords t 0) p e) := by
  blk_simp [iblk, V, e2 t]
  refine congrArg _ (funext fun q => Fin.ext ?_)
  match q with
  | ⟨0, _⟩ => blk_simp [e2 t]; rfl
  | ⟨1, _⟩ => blk_simp [e2 t]
  | ⟨2, _⟩ => blk_simp [e2 t]

theorem blk3 (t : Fin cfg0.N) (p : Fin 1) (e : Fin 1) :
    iblk m c 3 t (ix3 0 p e) = (m (c.tc.loc main_arg3)) (ix3 (grid0.coords t 0) p e) := by
  blk_simp [iblk, V, e3 t]
  refine congrArg _ (funext fun q => Fin.ext ?_)
  match q with
  | ⟨0, _⟩ => blk_simp [e3 t]; rfl
  | ⟨1, _⟩ => blk_simp [e3 t]
  | ⟨2, _⟩ => blk_simp [e3 t]

theorem blk4 (t : Fin cfg0.N) (p : Fin 1) (e : Fin 1) :
    iblk m c 4 t (ix3 0 p e) = (m (c.tc.loc main_arg4)) (ix3 (grid0.coords t 0) p e) := by
  blk_simp [iblk, V, e4 t]
  refine congrArg _ (funext fun q => Fin.ext ?_)
  match q with
  | ⟨0, _⟩ => blk_simp [e4 t]; rfl
  | ⟨1, _⟩ => blk_simp [e4 t]
  | ⟨2, _⟩ => blk_simp [e4 t]

theorem km_blk (t : Fin cfg0.N) : km (iblk m c 0 t) (iblk m c 1 t) (iblk m c 3 t) (iblk m c 4 t) =
    sKm (m (c.tc.loc main_arg0)) (m (c.tc.loc main_arg1)) (m (c.tc.loc main_arg3)) (m (c.tc.loc main_arg4)) (grid0.coords t 0) := by
  unfold km sKm
  rw [blk3, blk4]
  exact congrArg₂ (fun k v => kmat k v _ _) (funext fun p => funext fun e => blk0 m c t p e) (funext fun p => funext fun e => blk1 m c t p e)

theorem kd_blk (t : Fin cfg0.N) (a : Fin 16) (i j : Fin 32) : kdA (iblk m c 0 t) (iblk m c 1 t) (iblk m c 3 t) (iblk m c 4 t) a i j =
      sKdAt (m (c.tc.loc main_arg0)) (m (c.tc.loc main_arg1)) (m (c.tc.loc main_arg3)) (m (c.tc.loc main_arg4)) (by decide) (grid0.coords t 0) a i j := by
  unfold kdA sKdAt
  rw [km_blk]

theorem emb5 (t : Fin cfg0.N) (a : Fin 16) (i j : Fin 32) : (win0_5.blk t).view.emb (ix4 0 a i j) = ix4 (grid0.coords t 0) a i j := by
  refine funext fun q => Fin.ext ?_
  match q with
  | ⟨0, _⟩ => blk_simp [e5 t]; rfl
  | ⟨1, _⟩ => blk_simp [e5 t]
  | ⟨2, _⟩ => blk_simp [e5 t]
  | ⟨3, _⟩ => blk_simp [e5 t]

theorem emb6 (t : Fin cfg0.N) (a : Fin 16) (j : Fin 32) : (win0_6.blk t).view.emb (ix3 0 a j) = ix3 (grid0.coords t 0) a j := by
  refine funext fun q => Fin.ext ?_
  match q with
  | ⟨0, _⟩ => blk_simp [e6 t]; rfl
  | ⟨1, _⟩ => blk_simp [e6 t]
  | ⟨2, _⟩ => blk_simp [e6 t]

theorem emb7 (t : Fin cfg0.N) (a : Fin 16) (j : Fin 32) : (win0_7.blk t).view.emb (ix3 0 a j) = ix3 (grid0.coords t 0) a j := by
  refine funext fun q => Fin.ext ?_
  match q with
  | ⟨0, _⟩ => blk_simp [e7 t]; rfl
  | ⟨1, _⟩ => blk_simp [e7 t]
  | ⟨2, _⟩ => blk_simp [e7 t]

theorem final5 : (dats m 0 c).arrAt 5 cfg0.N = sKd (m (c.tc.loc main_arg0)) (m (c.tc.loc main_arg1)) (m (c.tc.loc main_arg3)) (m (c.tc.loc main_arg4)) (by decide) := by
  refine (dats m 0 c).arrAt_eq_of_covers 5 _ (by decide +kernel) fun t hf y => ?_
  blk_simp [e5 t]
  refine (congrFun (after0_5 m c t) y).trans ?_
  revert y
  refine fun (y : (⟨4, ![1, 16, 32, 32]⟩ : Shape).Idx) => ?_
  obtain ⟨z, a, i, j, rfl⟩ : ∃ (z : Fin 1) (a : Fin 16) (i j : Fin 32), y = ix4 z a i j := ⟨_, _, _, _, eq_ix4 y⟩
  obtain rfl : z = 0 := Subsingleton.elim _ _
  exact (P5_apply ..).trans ((kd_blk m c t a i j).trans (congrArg (sKd (m (c.tc.loc main_arg0)) (m (c.tc.loc main_arg1)) (m (c.tc.loc main_arg3)) (m (c.tc.loc main_arg4)) (by decide)) (emb5 t a i j)).symm)

theorem final6 : (dats m 0 c).arrAt 6 cfg0.N = sC0 (m (c.tc.loc main_arg0)) (m (c.tc.loc main_arg1)) (m (c.tc.loc main_arg3)) (m (c.tc.loc main_arg4)) (by decide) (by decide) := by
  refine (dats m 0 c).arrAt_eq_of_covers 6 _ (by decide +kernel) fun t hf y => ?_
  blk_simp [e6 t]
  refine (congrFun (after0_6 m c t) y).trans ?_
  revert y
  refine fun (y : (⟨3, ![1, 16, 32]⟩ : Shape).Idx) => ?_
  obtain ⟨z, a, j, rfl⟩ : ∃ (z : Fin 1) (a : Fin 16) (j : Fin 32), y = ix3 z a j := ⟨_, _, _, eq_ix3 y⟩
  obtain rfl : z = 0 := Subsingleton.elim _ _
  exact (O6_apply ..).trans ((kd_blk m c t a 0 j).trans (congrArg (sC0 (m (c.tc.loc main_arg0)) (m (c.tc.loc main_arg1)) (m (c.tc.loc main_arg3)) (m (c.tc.loc main_arg4)) (by decide) (by decide)) (emb6 t a j)).symm)

theorem rt_blk (t : Fin cfg0.N) (a : Fin 16) (j : Fin 32) : rt (iblk m c 0 t) (iblk m c 1 t) (iblk m c 3 t) (iblk m c 4 t) a j =
    sRt (m (c.tc.loc main_arg0)) (m (c.tc.loc main_arg1)) (m (c.tc.loc main_arg3)) (m (c.tc.loc main_arg4)) (by decide) (grid0.coords t 0) a j :=
  congrArg Ideal.sqrt (kd_blk m c t a j j)

theorem final7 : (dats m 0 c).arrAt 7 cfg0.N = sU (m (c.tc.loc main_arg0)) (m (c.tc.loc main_arg1)) (m (c.tc.loc main_arg2)) (m (c.tc.loc main_arg3)) (m (c.tc.loc main_arg4)) (by decide) := by
  refine (dats m 0 c).arrAt_eq_of_covers 7 _ (by decide +kernel) fun t hf y => ?_
  blk_simp [e7 t]
  refine (congrFun (after0_7 m c t) y).trans ?_
  revert y
  refine fun (y : (⟨3, ![1, 16, 32]⟩ : Shape).Idx) => ?_
  obtain ⟨z, a, j, rfl⟩ : ∃ (z : Fin 1) (a : Fin 16) (j : Fin 32), y = ix3 z a j := ⟨_, _, _, eq_ix3 y⟩
  obtain rfl : z = 0 := Subsingleton.elim _ _
  refine (O7_apply ..).trans (Eq.trans ?_ (congrArg (sU (m (c.tc.loc main_arg0)) (m (c.tc.loc main_arg1)) (m (c.tc.loc main_arg2)) (m (c.tc.loc main_arg3)) (m (c.tc.loc main_arg4)) (by decide)) (emb7 t a j)).symm)
  exact congrArg₂ (· * ·) (congrArg₂ (· * ·) (blk2 m c t a j) (rt_blk m c t a j)) (congrArg (fun f => runMax f j) (funext fun i => rt_blk m c t a i))

theorem algebraic : Cert.algebraic_Kd2Ideal_RefKd2Ideal (hKd2Ideal := Cert.Kd2Ideal.Gen.facts) (hRefKd2Ideal := Cert.RefKd2Ideal.Gen.facts) := by
  intro m g m' g' _ hm
  refine ⟨_, _, _, run_blocks m g, ?_⟩
  refine (θ_run _ _ _).mono (fun r h c => ?_) (Cert.RefKd2Ideal.Value.run m' g')
  obtain ⟨h17, h19, h24, hk⟩ := h c
  obtain ⟨a0, a1, a2, a3, a4⟩ := hm c
  refine ⟨h17.trans ?_, h19.trans ?_, h24.trans ?_, hk⟩
  · rw [Cert.RefKd2Ideal.Read.val_main_v17_eq, v17_eq, final5, a0, a1, a3, a4]
  · rw [Cert.RefKd2Ideal.Read.val_main_v19_eq, v19_eq, final6, a0, a1, a3, a4]
  · rw [Cert.RefKd2Ideal.Read.val_main_v24_eq, v24_eq, final7, a0, a1, a2, a3, a4]

end Cert.Kd2Value
-- ==== Proof.Scan2Pay.lean ====
module

public import proofs.«01_k».proof.Proof.ScanSpec
public import proofs.«01_k».proof.Proof.Gen.Scan2Ideal.Value
public import Idealize.ShloMosaic.Lib.Pipeline.ValueKit
public import Idealize.ShloMosaic.Lib.WholeRead

@[expose] public section

noncomputable section

namespace Cert.Scan2Value

open Idealize.ShloMosaic Idealize.ShloMosaic.TcCoe Idealize.SL.Sem Cert.Rounds Cert.Scan2Ideal Cert.Scan2Ideal.Gen Cert.Scan2Ideal.Value

theorem trips_eq : k0_t1_loop.trips = 31 := by decide +kernel

theorem trip_lt (t : Fin k0_t1_loop.trips) : t.val + 1 < 32 := by
  have h := Nat.lt_of_lt_of_eq t.isLt trips_eq
  omega

/-- The pair that trip `t` decides. -/
def pr (t : Fin k0_t1_loop.trips) : Fin 32 := ⟨t.val + 1, trip_lt t⟩

/-- The row of a bucket of a batch and head, among all of them. -/
def rowN (g : Fin 32) (a : Fin 16) : Fin 512 := ⟨g.val * 16 + a.val, by have := g.isLt; have := a.isLt; omega⟩

theorem cast_rows (v : Vec Ideal S32x16x32 .f32) (g : Fin 32) (a : Fin 16) (j : Fin 32) :
    shapeCast S512x32 v shapeCasts_S32x16x32_S512x32 (ix2 (rowN g a) j) = v (ix3 g a j) :=
  shapeCast_apply v shapeCasts_S32x16x32_S512x32 (ix2 (rowN g a) j) (ix3 g a j) (by
    rw [Shape.rowMajor_val_two, Shape.rowMajor_val_three]
    rfl)

theorem cast_slab (w : Vec Ideal S32x16x1x32 .f32) (g : Fin 32) (a : Fin 16) (j : Fin 32) :
    shapeCast S512x32 w shapeCasts_S32x16x1x32_S512x32 (ix2 (rowN g a) j) = w (ix4 g a 0 j) :=
  shapeCast_apply w shapeCasts_S32x16x1x32_S512x32 (ix2 (rowN g a) j) (ix4 g a 0 j) (by
    rw [Shape.rowMajor_val_two, Shape.rowMajor_val_four]
    show ((g.val * 16 + a.val) * 1 + 0) * 32 + j.val = (g.val * 16 + a.val) * 32 + j.val
    omega)

/-- The bit that trip `t` decides for row `n`. -/
theorem pay5_row (v4 : Vec Ideal S32x16x32 .f32) (t : Fin k0_t1_loop.trips) (x : FVec Ideal S512x32 .f32) (n : Fin 512) :
    k0_pay5 v4 t x (ix2 n 0) = bitF (scBit (fun j => shapeCast S512x32 v4 shapeCasts_S32x16x32_S512x32 (ix2 n j)) (fun j => x (ix2 n j)) (pr t)) := by
  have h1 := sum_indicator (n := 32) (by norm_num) (fun j => shapeCast S512x32 v4 shapeCasts_S32x16x32_S512x32 (ix2 n j)) (pr t)
  have h2 := sum_indicator (n := 32) (by norm_num) (fun j => x (ix2 n j)) (pr t)
  unfold k0_pay5
  generalize shapeCast S512x32 v4 shapeCasts_S32x16x32_S512x32 = U at h1 ⊢
  pointwise [k0_pay4]
  rw [iv_one, sitofp_bit]
  refine congrArg bitF (congrArg BitVec.ofBool (decide_eq_decide.mpr ?_))
  exact iff_of_eq (congrArg₂ (· ≤ ·) h1 h2)

theorem pay5_apply (v4 : Vec Ideal S32x16x32 .f32) (t : Fin k0_t1_loop.trips) (x : FVec Ideal S512x32 .f32) (g : Fin 32) (a : Fin 16) :
    k0_pay5 v4 t x (ix2 (rowN g a) 0) = bitF (scBit (fun j => v4 (ix3 g a j)) (fun j => x (ix2 (rowN g a) j)) (pr t)) := by
  rw [pay5_row, funext fun j => cast_rows v4 g a j]

theorem pay7_apply (v4 : Vec Ideal S32x16x32 .f32) (t : Fin k0_t1_loop.trips) (x : FVec Ideal S512x32 .f32) (w : Vec Ideal S32x16x1x32 .f32)
    (K : Fin 32 → Fin 32 → EReal) (g : Fin 32) (a : Fin 16) (hw : ∀ j, w (ix4 g a 0 j) = K (pr t) j) (j : Fin 32) :
    k0_pay7 v4 t x w (ix2 (rowN g a) j) = scStep K (fun j => v4 (ix3 g a j)) (fun j => x (ix2 (rowN g a) j)) (pr t) j := by
  have h5 := pay5_apply v4 t x g a
  have hj := (cast_slab w g a j).trans (hw j)
  generalize rowN g a = n at h5 hj ⊢
  unfold k0_pay7
  generalize shapeCast S512x32 w shapeCasts_S32x16x1x32_S512x32 = W at hj ⊢
  pointwise []
  rw [h5, hj]
  rfl

theorem pay6_apply (v0 : Vec Ideal S1x1x1 .f32) (fl : BitVec 1) (h0 : v0 (ix3 0 0 0) = bitF fl) (v4 : Vec Ideal S32x16x32 .f32) (t : Fin k0_t1_loop.trips)
    (x s : FVec Ideal S512x32 .f32) (g : Fin 32) (a : Fin 16) (j : Fin 32) :
    k0_pay6 v0 v4 t x s (ix2 (rowN g a) j) = s (ix2 (rowN g a) j) + bitF (scBit (fun j => v4 (ix3 g a j)) (fun j => x (ix2 (rowN g a) j)) (pr t) ^^^ fl) * if j.val = t.val + 1 then 1 else 0 := by
  have h5 := pay5_apply v4 t x g a
  have hi := ind_eq (p := j.val) (q := t.val + 1) (by have := j.isLt; omega) (by have := trip_lt t; omega)
  generalize rowN g a = n at h5 ⊢
  pointwise [k0_pay6, k0_pay4, k0_pay1]
  rw [h5, h0, iv_one, hi, abs_sub_bit]

theorem pay3_apply (v0 : Vec Ideal S1x1x1 .f32) (fl : BitVec 1) (h0 : v0 (ix3 0 0 0) = bitF fl) (n : Fin 512) (j : Fin 32) :
    k0_pay3 v0 (ix2 n j) = if j.val = 0 then bitF fl else 0 := by
  pointwise [k0_pay3, k0_pay1]
  rw [h0]
  by_cases h : j.val = 0
  · rw [h, if_pos rfl]
    rfl
  · rw [if_neg h]
    have hne : (BitVec.ofNat 32 j.val == 0#32) = false := by
      refine beq_eq_false_iff_ne.mpr fun e => h ?_
      have e' := congrArg BitVec.toNat e
      simp only [BitVec.toNat_ofNat] at e'
      rwa [Nat.mod_eq_of_lt (by have := j.isLt; omega)] at e'
    show Scalar.select (BitVec.ofBool (BitVec.ofNat 32 j.val == 0#32)) _ _ = _
    rw [hne]
    rfl

theorem pay2_apply (v2 : Vec Ideal S32x16x32 .f32) (g : Fin 32) (a : Fin 16) (j : Fin 32) : k0_pay2 v2 (ix2 (rowN g a) j) = v2 (ix3 g a j) := cast_rows v2 g a j

theorem pay8_apply (x : FVec Ideal S512x32 .f32) (g : Fin 32) (a : Fin 16) (j : Fin 32) : k0_pay8 x (ix3 g a j) = x (ix2 (rowN g a) j) :=
  shapeCast_apply x shapeCasts_S512x32_S32x16x32 (ix3 g a j) (ix2 (rowN g a) j) (by
    rw [Shape.rowMajor_val_two, Shape.rowMajor_val_three]
    rfl)

/-! ## The loop -/

section
variable (c : Dev nD) (bd : Option Variants.none.V) (i : grid0.Coords) (arg1 : Memref sig .tc .vmem S32x16x32x32 .f32) (harg1 : arg1.IsWhole)
  (arg2 : Memref sig .tc .vmem S32x16x32 .f32) (harg2 : arg2.IsWhole) (arg3 : Memref sig .tc .vmem S32x16x32 .f32) (harg3 : arg3.IsWhole)
  (arg4 : Memref sig .tc .vmem S1x1x1 .f32) (harg4 : arg4.IsWhole) (arg5 : Memref sig .tc .vmem S32x16x32 .f32) (harg5 : arg5.IsWhole)
  (x0 : Vec Ideal S32x16x32x32 .f32) (v0 : Vec Ideal S1x1x1 .f32) (v2 v4 : Vec Ideal S32x16x32 .f32)

/-- What a trip loads: one row of every batch and head's differences. -/
def row (x0 : Vec Ideal S32x16x32x32 .f32) (t : Fin k0_t1_loop.trips) : Vec Ideal S32x16x1x32 .f32 := fun y =>
  x0 ((Rect.unit (s := S32x16x32x32) (k0_off1 t) S32x16x1x32.size (k0_off1_inb t)).toLoadRect.idx y)

theorem row_apply (t : Fin k0_t1_loop.trips) (g : Fin 32) (a : Fin 16) (j : Fin 32) : row x0 t (ix4 g a 0 j) = x0 (ix4 g a (pr t) j) := by
  refine congrArg x0 (funext fun q => Fin.ext ?_)
  have := trip_lt t
  have e : (Scf.iv 1#32 1#32 t.val).toNat = t.val + 1 := by
    rw [iv_one, BitVec.toNat_ofNat, Nat.mod_eq_of_lt (by omega)]
  match q with
  | ⟨0, _⟩ => show 0 + 1 * g.val = g.val; omega
  | ⟨1, _⟩ => show 0 + 1 * a.val = a.val; omega
  | ⟨2, _⟩ =>
    show k0_off1 t 2 + 1 * 0 = t.val + 1
    unfold k0_off1
    dsimp
    exact e
  | ⟨3, _⟩ => show 0 + 1 * j.val = j.val; omega

theorem trip_eq (t : Fin k0_t1_loop.trips) (acc : FVec Ideal S512x32 .f32 × FVec Ideal S512x32 .f32) :
    tripR_k0_t1 Variants.none c bd i arg1 harg1 arg2 harg2 arg3 harg3 arg4 harg4 arg5 harg5 v0 v4 (harg1.unread x0) t acc
      = (k0_pay7 v4 t acc.1 (row x0 t), k0_pay6 v0 v4 t acc.1 acc.2) := by
  unfold tripR_k0_t1 trip_k0_t1
  dsimp only
  sl_unfold_words
  exact congrArg₂ Prod.mk (congrArg (k0_pay7 v4 t acc.1) (funext fun x => Memref.IsWhole.readAt_unread harg1 x0 _ x)) rfl

/-- The carried values before trip `k`: the cumulative differences, and the bits decided so far. -/
theorem st_spec (fl : BitVec 1) (h0 : v0 (ix3 0 0 0) = bitF fl) (k : Nat) (hk : k ≤ 31) (g : Fin 32) (a : Fin 16) (j : Fin 32) :
    (st_k0_t1 Variants.none c bd i arg1 harg1 arg2 harg2 arg3 harg3 arg4 harg4 arg5 harg5 v0 v4 (harg1.unread x0) (k0_pay2 v2, k0_pay3 v0) k).1 (ix2 (rowN g a) j)
        = scCsd (fun p b => x0 (ix4 g a p b)) (fun b => v2 (ix3 g a b)) (fun b => v4 (ix3 g a b)) k j
    ∧ (st_k0_t1 Variants.none c bd i arg1 harg1 arg2 harg2 arg3 harg3 arg4 harg4 arg5 harg5 v0 v4 (harg1.unread x0) (k0_pay2 v2, k0_pay3 v0) k).2 (ix2 (rowN g a) j)
        = if j.val ≤ k then bitF (scSwap (fun p b => x0 (ix4 g a p b)) (fun b => v2 (ix3 g a b)) (fun b => v4 (ix3 g a b)) j ^^^ fl) else 0 := by
  induction k generalizing j with
  | zero =>
    rw [st_k0_t1_zero]
    refine ⟨pay2_apply v2 g a j, (pay3_apply v0 fl h0 (rowN g a) j).trans ?_⟩
    by_cases h : j.val = 0
    · rw [if_pos h, if_pos (by omega), scSwap, if_pos h]
      simp
    · rw [if_neg h, if_neg (by omega)]
  | succ k ih =>
    have ih := ih (by omega)
    let t : Fin k0_t1_loop.trips := ⟨k, by rw [trips_eq]; omega⟩
    have e := st_k0_t1_succ Variants.none c bd i arg1 harg1 arg2 harg2 arg3 harg3 arg4 harg4 arg5 harg5 v0 v4 (harg1.unread x0) (k0_pay2 v2, k0_pay3 v0) t
    rw [trip_eq] at e
    rw [show k + 1 = t.val + 1 from rfl, e]
    have hx := funext fun b => (ih b).1
    constructor
    · rw [scCsd_succ _ _ _ _ (trip_lt t), ← hx]
      exact pay7_apply v4 t _ (row x0 t) (fun p b => x0 (ix4 g a p b)) g a (fun j => row_apply x0 t g a j) j
    · refine (pay6_apply v0 fl h0 v4 t _ _ g a j).trans ?_
      rw [(ih j).2, hx]
      by_cases h : j.val = t.val + 1
      · have hj : j = pr t := Fin.ext h
        rw [if_pos h, if_pos (Nat.le_of_eq h), if_neg (show ¬ j.val ≤ k from by have : t.val = k := rfl; omega), zero_add, mul_one, scSwap, if_neg (by omega), ← hj, h]
        rfl
      · rw [if_neg h, mul_zero, add_zero]
        by_cases h' : j.val ≤ k
        · rw [if_pos h', if_pos (show j.val ≤ k + 1 by omega)]
        · rw [if_neg h', if_neg (show ¬ j.val ≤ k + 1 from by have : t.val = k := rfl; omega)]

end

end Cert.Scan2Value
-- ==== Proof.Scan2Ref.lean ====
module

public import proofs.«01_k».proof.Proof.ScanSet
public import proofs.«01_k».proof.Proof.Gen.RefScan2Ideal.Run

@[expose] public section

noncomputable section

namespace Cert.Scan2Value

open Idealize.ShloMosaic Idealize.ShloMosaic.TcCoe Idealize.SL.Sem Idealize.ShloMosaic.StableHlo Cert.Rounds Cert.RefScan2Ideal Cert.RefScan2Ideal.Gen Cert.RefScan2Ideal.Value

/-! ## The operations, on arrays of plain types -/

theorem word_of (X : IVec S31 32) (start : Fin 1 → Int) (k : Nat) (hk : k + 1 < 32) (s0 : start 0 = k) (hX : ∀ y, X y = BitVec.ofNat 32 ((y 0).val + 1)) :
    shapeCast S_ (Host.dynamicSlice S1 X start sliceFits_S31_S1) shapeCasts_S1_S_ = fun _ => BitVec.ofNat 32 (k + 1) := by
  refine funext fun y => ?_
  obtain rfl : y = ix0 := Subsingleton.elim _ _
  have h : Host.dynamicSlice S1 X start sliceFits_S31_S1 (ix1 0) = _ := slice1 X start s0 (show k < 31 by omega) sliceFits_S31_S1
  rw [hX] at h
  generalize Host.dynamicSlice S1 X start sliceFits_S31_S1 = X' at h ⊢
  pointwise []
  exact h

theorem cast_bit (X : FVec Ideal S32x16x1 .f32) (g : Fin 32) (a : Fin 16) : shapeCast S32x16 X shapeCasts_S32x16x1_S32x16 (ix2 g a) = X (ix3 g a 0) :=
  shapeCast_apply X shapeCasts_S32x16x1_S32x16 (ix2 g a) (ix3 g a 0) (by
    rw [Shape.rowMajor_val_two, Shape.rowMajor_val_three]
    show (g.val * 16 + a.val) * 1 + 0 = g.val * 16 + a.val
    omega)

theorem cast_row (X : FVec Ideal S32x16x1x32 .f32) (g : Fin 32) (a : Fin 16) (j : Fin 32) : shapeCast S32x16x32 X shapeCasts_S32x16x1x32_S32x16x32 (ix3 g a j) = X (ix4 g a 0 j) :=
  shapeCast_apply X shapeCasts_S32x16x1x32_S32x16x32 (ix3 g a j) (ix4 g a 0 j) (by
    rw [Shape.rowMajor_val_three, Shape.rowMajor_val_four]
    show ((g.val * 16 + a.val) * 1 + 0) * 32 + j.val = (g.val * 16 + a.val) * 32 + j.val
    omega)

theorem bit_of (U C : FVec Ideal S32x16x32 .f32) (start : Fin 3 → Int) (i : Fin 32) (s0 : start 0 = 0) (s1 : start 1 = 0) (s2 : start 2 = i.val) (g : Fin 32) (a : Fin 16) :
    cmpf .ole (shapeCast S32x16 (Host.dynamicSlice S32x16x1 U start sliceFits_S32x16x32_S32x16x1) shapeCasts_S32x16x1_S32x16)
      (shapeCast S32x16 (Host.dynamicSlice S32x16x1 C start sliceFits_S32x16x32_S32x16x1) shapeCasts_S32x16x1_S32x16) (ix2 g a)
      = scBit (fun j => U (ix3 g a j)) (fun j => C (ix3 g a j)) i := by
  have hU : Host.dynamicSlice S32x16x1 U start sliceFits_S32x16x32_S32x16x1 (ix3 g a 0) = _ := slice3 U start s0 s1 s2 i.isLt sliceFits_S32x16x32_S32x16x1 g a
  have hC : Host.dynamicSlice S32x16x1 C start sliceFits_S32x16x32_S32x16x1 (ix3 g a 0) = _ := slice3 C start s0 s1 s2 i.isLt sliceFits_S32x16x32_S32x16x1 g a
  generalize Host.dynamicSlice S32x16x1 U start sliceFits_S32x16x32_S32x16x1 = U' at hU ⊢
  generalize Host.dynamicSlice S32x16x1 C start sliceFits_S32x16x32_S32x16x1 = C' at hC ⊢
  have eU : shapeCast S32x16 U' shapeCasts_S32x16x1_S32x16 (ix2 g a) = U' (ix3 g a 0) := cast_bit U' g a
  have eC : shapeCast S32x16 C' shapeCasts_S32x16x1_S32x16 (ix2 g a) = C' (ix3 g a 0) := cast_bit C' g a
  show BitVec.ofBool (decide (shapeCast S32x16 U' shapeCasts_S32x16x1_S32x16 (ix2 g a) ≤ shapeCast S32x16 C' shapeCasts_S32x16x1_S32x16 (ix2 g a))) = _
  rw [eU, eC, hU, hC]
  rfl

theorem csd_of (K : FVec Ideal S32x16x32x32 .f32) (C : FVec Ideal S32x16x32 .f32) (b : IVec S32x16 1) (start : Fin 4 → Int) (i : Fin 32)
    (s0 : start 0 = 0) (s1 : start 1 = 0) (s2 : start 2 = i.val) (s3 : start 3 = 0) (u : Fin 32 → EReal) (g : Fin 32) (a : Fin 16) (j : Fin 32)
    (hb : b (ix2 g a) = scBit u (fun j => C (ix3 g a j)) i) :
    addf C (mulf (broadcastInDim S32x16x32 ![0, 1, 2] bcast_S32x16x1_S32x16x32_0_1_2 (subf (broadcastInDim S32x16x1 ![] bcast_S_S32x16x1 (constant S_ .f32 0x3F800000#32))
        (mulf (broadcastInDim S32x16x1 ![] bcast_S_S32x16x1 (constant S_ .f32 0x40000000#32)) (uitofp .f32 (broadcastInDim S32x16x1 ![0, 1] bcast_S32x16_S32x16x1_0_1 b)))))
      (shapeCast S32x16x32 (Host.dynamicSlice S32x16x1x32 K start sliceFits_S32x16x32x32_S32x16x1x32) shapeCasts_S32x16x1x32_S32x16x32)) (ix3 g a j)
      = scStep (fun p q => K (ix4 g a p q)) u (fun j => C (ix3 g a j)) i j := by
  have hK : Host.dynamicSlice S32x16x1x32 K start sliceFits_S32x16x32x32_S32x16x1x32 (ix4 g a 0 j) = _ := slice4 K start s0 s1 s2 s3 i.isLt sliceFits_S32x16x32x32_S32x16x1x32 g a j
  generalize Host.dynamicSlice S32x16x1x32 K start sliceFits_S32x16x32x32_S32x16x1x32 = K' at hK ⊢
  rw [← cast_row K' g a j] at hK
  generalize shapeCast S32x16x32 K' shapeCasts_S32x16x1x32_S32x16x32 = K'' at hK ⊢
  pointwise []
  rw [hb, hK]
  rfl

theorem swaps_of (X : IVec S32x16x32 1) (idx : IVec S1 32) (b : IVec S32x16 1) (i : Fin 32) (hi : (idx (ix1 0)).toInt = (i.val : Int)) (g : Fin 32) (a : Fin 16) (j : Fin 32) :
    Host.scatter scatter_S32x16x32_S1_S32x16_01_2_2_0 (fun _ b => b) X idx b (ix3 g a j) = if j = i then b (ix2 g a) else X (ix3 g a j) :=
  scatter_col scatter_S32x16x32_S1_S32x16_01_2_2_0 idx i (fun _ _ => rfl) (fun _ _ => rfl) (fun _ _ => rfl) (fun _ _ => rfl) (fun _ _ => rfl)
    (fun _ _ => hi ▸ congrArg (fun y => (idx y).toInt) (funext fun q => match q with | ⟨0, _⟩ => Subsingleton.elim (α := Fin 1) _ _)) X b g a j

/-! ## One step -/

section
variable (W : Valuation τ sig (Elt Ideal)) (k : Nat) (hk : k + 1 < 32)
  (h3 : W (Proc.devRef .tc main_v4_3) = fun _ => BitVec.ofNat 32 k)
  (h0 : W (Proc.devRef .tc main_v4_0) = fun y => BitVec.ofNat 32 ((y 0).val + 1))

include hk h3 h0 in
/-- The pair that the trip decides. -/
theorem word : res_main_while0b_v9 W = fun _ => BitVec.ofNat 32 (k + 1) := by
  unfold res_main_while0b_v9
  refine word_of (W (Proc.devRef .tc main_v4_0)) _ k hk ?_ (fun y => congrFun h0 y)
  show ((W (Proc.devRef .tc main_v4_3)) (Shape.Idx.first h_S_)).toInt = k
  rw [h3]
  exact toInt_small k (by omega)

include hk h3 h0 in
theorem wordOk : (select (cmpi .slt (res_main_while0b_v9 W) (constantI S_ 32 0#32)) (addi (res_main_while0b_v9 W) (constantI S_ 32 32#32)) (res_main_while0b_v9 W)) = fun _ => BitVec.ofNat 32 (k + 1) := by
  rw [word W k hk h3 h0]
  refine funext fun y => ?_
  show Scalar.select (IntOp.cmpi .slt (BitVec.ofNat 32 (k + 1)) 0#32) _ _ = _
  rw [slt_small (k + 1) (by omega)]
  rfl

include hk h3 h0 in
theorem bit (g : Fin 32) (a : Fin 16) :
    res_main_while0b_v32 W (ix2 g a) = scBit (fun j => W (Proc.devRef .tc main_v4_1) (ix3 g a j)) (fun j => W (Proc.devRef .tc main_v4_4) (ix3 g a j)) ⟨k + 1, hk⟩ := by
  unfold res_main_while0b_v32
  rw [wordOk W k hk h3 h0]
  exact bit_of (W (Proc.devRef .tc main_v4_1)) (W (Proc.devRef .tc main_v4_4)) _ ⟨k + 1, hk⟩ rfl rfl (toInt_small (k + 1) (by omega)) g a

include hk h3 h0 in
theorem csd (g : Fin 32) (a : Fin 16) (j : Fin 32) :
    step_main_v4_4 W (ix3 g a j) = scStep (fun p q => W (Proc.devRef .tc main_v4_2) (ix4 g a p q)) (fun j => W (Proc.devRef .tc main_v4_1) (ix3 g a j)) (fun j => W (Proc.devRef .tc main_v4_4) (ix3 g a j)) ⟨k + 1, hk⟩ j := by
  unfold step_main_v4_4
  rw [wordOk W k hk h3 h0]
  exact csd_of (W (Proc.devRef .tc main_v4_2)) (W (Proc.devRef .tc main_v4_4)) (res_main_while0b_v32 W) _ ⟨k + 1, hk⟩ rfl rfl (toInt_small (k + 1) (by omega)) rfl
    (fun j => W (Proc.devRef .tc main_v4_1) (ix3 g a j)) g a j (bit W k hk h3 h0 g a)

include hk h3 h0 in
theorem swaps (g : Fin 32) (a : Fin 16) (j : Fin 32) :
    step_main_v4_5 W (ix3 g a j) = if j = ⟨k + 1, hk⟩ then res_main_while0b_v32 W (ix2 g a) else W (Proc.devRef .tc main_v4_5) (ix3 g a j) := by
  unfold step_main_v4_5
  rw [wordOk W k hk h3 h0]
  rw [id_eq]
  exact swaps_of (W (Proc.devRef .tc main_v4_5)) _ (res_main_while0b_v32 W) ⟨k + 1, hk⟩ (toInt_small (k + 1) (by omega)) g a j

end

/-! ## The loop -/

section
variable (m : (ℓ : Loc nD τ sig) → Buf (Elt Ideal) ℓ) (c : Dev nD)

theorem entry0 : entryContents preI m c (Proc.devRef .tc main_v4_0) = fun y => BitVec.ofNat 32 ((y 0).val + 1) := by
  simp only [entryContents, afterL_cons, afterL_nil]
  after_reads_simp
  refine funext fun (y : (⟨1, ![31]⟩ : Shape).Idx) => ?_
  show 1#32 + BitVec.ofNat 32 (y 0).val = _
  apply BitVec.eq_of_toNat_eq
  simp [Nat.add_comm]

theorem entry1 : entryContents preI m c (Proc.devRef .tc main_v4_1) = m (c.tc.loc main_arg2) := by
  simp only [entryContents, afterL_cons, afterL_nil]
  after_reads_simp
  rfl

theorem entry2 : entryContents preI m c (Proc.devRef .tc main_v4_2) = m (c.tc.loc main_arg0) := by
  simp only [entryContents, afterL_cons, afterL_nil]
  after_reads_simp
  rfl

theorem entry4 : entryContents preI m c (Proc.devRef .tc main_v4_4) = m (c.tc.loc main_arg1) := by
  simp only [entryContents, afterL_cons, afterL_nil]
  after_reads_simp
  rfl

theorem entry5 : entryContents preI m c (Proc.devRef .tc main_v4_5) = fun _ => 0#1 := by
  simp only [entryContents, afterL_cons, afterL_nil]
  after_reads_simp
  rfl

abbrev At (k : Nat) : Valuation τ sig (Elt Ideal) := STEP^[k] (entryContents preI m c)

theorem at_succ (k : Nat) : At m c (k + 1) = STEP (At m c k) := Function.iterate_succ_apply' _ _ _

theorem at0 (k : Nat) : At m c k (Proc.devRef .tc main_v4_0) = fun y => BitVec.ofNat 32 ((y 0).val + 1) := by
  induction k with
  | zero => exact entry0 m c
  | succ k ih => rw [at_succ, STEP_main_v4_0, ih]

theorem at1 (k : Nat) : At m c k (Proc.devRef .tc main_v4_1) = m (c.tc.loc main_arg2) := by
  induction k with
  | zero => exact entry1 m c
  | succ k ih => rw [at_succ, STEP_main_v4_1, ih]

theorem at2 (k : Nat) : At m c k (Proc.devRef .tc main_v4_2) = m (c.tc.loc main_arg0) := by
  induction k with
  | zero => exact entry2 m c
  | succ k ih => rw [at_succ, STEP_main_v4_2, ih]

theorem at3 (k : Nat) : At m c k (Proc.devRef .tc main_v4_3) = fun _ => BitVec.ofNat 32 k := by
  induction k with
  | zero => exact ctr_entry m c
  | succ k ih =>
    rw [at_succ, STEP_main_v4_3]
    unfold step_main_v4_3
    rw [ih]
    refine funext fun y => ?_
    show BitVec.ofNat 32 k + 1#32 = _
    apply BitVec.eq_of_toNat_eq
    simp

theorem at45 (k : Nat) (hk : k < 32) (g : Fin 32) (a : Fin 16) (j : Fin 32) :
    At m c k (Proc.devRef .tc main_v4_4) (ix3 g a j)
        = scCsd (fun p q => m (c.tc.loc main_arg0) (ix4 g a p q)) (fun q => m (c.tc.loc main_arg1) (ix3 g a q)) (fun q => m (c.tc.loc main_arg2) (ix3 g a q)) k j
    ∧ At m c k (Proc.devRef .tc main_v4_5) (ix3 g a j)
        = if j.val ≤ k then scSwap (fun p q => m (c.tc.loc main_arg0) (ix4 g a p q)) (fun q => m (c.tc.loc main_arg1) (ix3 g a q)) (fun q => m (c.tc.loc main_arg2) (ix3 g a q)) j else 0#1 := by
  induction k generalizing j with
  | zero =>
    refine ⟨congrFun (entry4 m c) _, (congrFun (entry5 m c) _).trans ?_⟩
    by_cases h : j.val = 0
    · rw [if_pos (by omega), scSwap, if_pos h]
    · rw [if_neg (by omega)]
  | succ k ih =>
    have ih := ih (by omega)
    have hx := funext fun q => (ih q).1
    constructor
    · rw [at_succ, STEP_main_v4_4, csd _ k hk (at3 m c k) (at0 m c k), hx, at1, at2, scCsd_succ _ _ _ _ hk]
    · rw [at_succ, STEP_main_v4_5, swaps _ k hk (at3 m c k) (at0 m c k), bit _ k hk (at3 m c k) (at0 m c k), hx, at1, (ih j).2]
      by_cases h : j = ⟨k + 1, hk⟩
      · subst h
        rw [if_pos rfl, if_pos (Nat.le_refl _), scSwap, if_neg (by simp)]
        rfl
      · have h' : j.val ≠ k + 1 := fun e => h (Fin.ext e)
        rw [if_neg h]
        by_cases h'' : j.val ≤ k
        · rw [if_pos h'', if_pos (by omega)]
        · rw [if_neg h'', if_neg (by omega)]

theorem out_of (X : IVec S32x16x32 1) (fl : IVec S1 1) (g : Fin 32) (a : Fin 16) (j : Fin 32) :
    uitofp (F := Ideal) .f32 (xori X (broadcastInDim S32x16x32 ![0, 1, 2] bcast_S1x1x1_S32x16x32_0_1_2 (broadcastInDim S1x1x1 ![2] bcast_S1_S1x1x1_2 fl))) (ix3 g a j)
      = bitF (X (ix3 g a j) ^^^ fl (ix1 0)) := by
  pointwise []
  rfl

theorem out_eq : out_main_v8 (At m c 31) = sScan (A := 16) (m := 32) (m (c.tc.loc main_arg0)) (m (c.tc.loc main_arg1)) (m (c.tc.loc main_arg2)) ((m (c.tc.loc main_arg3)) (ix1 0)) := by
  unfold out_main_v8
  rw [show At m c 31 (Proc.devRef .tc main_arg3) = _ from iter_main_arg3 m c 31]
  refine funext fun (y : (⟨3, ![32, 16, 32]⟩ : Shape).Idx) => ?_
  obtain ⟨g, a, j, rfl⟩ : ∃ (g : Fin 32) (a : Fin 16) (j : Fin 32), y = ix3 g a j := ⟨_, _, _, eq_ix3 y⟩
  refine (out_of _ _ g a j).trans ?_
  rw [(at45 m c 31 (by omega) g a j).2, if_pos (by have := j.isLt; omega)]
  rfl

end

end Cert.Scan2Value
-- ==== Proof.Scan2Value.lean ====
module

public import proofs.«01_k».proof.Proof.Scan2Pay
public import proofs.«01_k».proof.Proof.Scan2Ref
public import proofs.«01_k».proof.Defs
public import Idealize.ShloMosaic.Lib.StableHlo.ReadAt

@[expose] public section

noncomputable section

namespace Cert.Scan2Value

open Idealize.ShloMosaic Idealize.ShloMosaic.TcCoe Idealize.SL.Sem Cert.Rounds Cert.Scan2Ideal Cert.Scan2Ideal.Gen Cert.Scan2Ideal.Value

theorem hz3 : (![0, 0, 0] : Fin 3 → Nat) = fun _ => 0 := by decide

theorem e0 : ∀ t : Fin cfg0.N, win0_0.index t = ![0, 0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)

variable (m : (ℓ : Loc nD τ sig) → Buf (Elt Ideal) ℓ) (c : Dev nD)

theorem blk0 (t : Fin cfg0.N) (n : Fin 32) (a : Fin 16) (p q : Fin 32) :
    iblk m c 0 t (ix4 n a p q) = (m (c.tc.loc main_arg0)) (ix4 n a p q) := by
  blk_simp [iblk, V_main_arg0, e0 t]
  refine congrArg _ (funext fun q => Fin.ext ?_)
  match q with
  | ⟨0, _⟩ => blk_simp [e0 t]
  | ⟨1, _⟩ => blk_simp [e0 t]
  | ⟨2, _⟩ => blk_simp [e0 t]
  | ⟨3, _⟩ => blk_simp [e0 t]

theorem blk1 (t : Fin cfg0.N) (n : Fin 32) (a : Fin 16) (p : Fin 32) :
    iblk m c 1 t (ix3 n a p) = (m (c.tc.loc main_arg1)) (ix3 n a p) := by
  blk_simp [iblk, V_main_arg1, e1 t]
  refine congrArg _ (funext fun q => Fin.ext ?_)
  match q with
  | ⟨0, _⟩ => blk_simp [e1 t]
  | ⟨1, _⟩ => blk_simp [e1 t]
  | ⟨2, _⟩ => blk_simp [e1 t]

theorem blk2 (t : Fin cfg0.N) (n : Fin 32) (a : Fin 16) (p : Fin 32) :
    iblk m c 2 t (ix3 n a p) = (m (c.tc.loc main_arg2)) (ix3 n a p) := by
  blk_simp [iblk, V_main_arg2, e2 t]
  refine congrArg _ (funext fun q => Fin.ext ?_)
  match q with
  | ⟨0, _⟩ => blk_simp [e2 t]
  | ⟨1, _⟩ => blk_simp [e2 t]
  | ⟨2, _⟩ => blk_simp [e2 t]

theorem blk3 (t : Fin cfg0.N) : iblk m c 3 t (ix3 0 0 0) = bitF ((m (c.tc.loc main_arg3)) (ix1 0)) := by
  have hv : V m c main_v1 = fun _ => bitF ((m (c.tc.loc main_arg3)) (ix1 0)) := by
    show StableHlo.after hostOps0 (fun b => m (c, b)) (Proc.tc.devRef main_v1) = _
    refine funext fun (y : (⟨3, ![1, 1, 1]⟩ : Shape).Idx) => ?_
    obtain ⟨a, b, d, rfl⟩ : ∃ (a b d : Fin 1), y = ix3 a b d := ⟨_, _, _, eq_ix3 y⟩
    obtain rfl : a = 0 := Subsingleton.elim _ _
    obtain rfl : b = 0 := Subsingleton.elim _ _
    obtain rfl : d = 0 := Subsingleton.elim _ _
    after_reads_at
    rfl
  exact congrFun hv _

theorem outs_eq (t : Fin cfg0.N) : outsAt0 m c t = k0_pay8 (st_k0_t1 Variants.none c none (grid0.coords t) (ms0_0 t) (hs0_0 t) (ms0_1 t) (hs0_1 t) (ms0_2 t) (hs0_2 t) (ms0_3 t) (hs0_3 t) (ms0_4 t) (hs0_4 t)
    (iblk m c 3 t) (iblk m c 2 t) ((hs0_0 t).unread (iblk m c 0 t)) (k0_pay2 (iblk m c 1 t), k0_pay3 (iblk m c 3 t)) 31).2 := by
  unfold outsAt0 out0_A_4
  dsimp only
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, View.readCov_eq_canon',
    View.ld_unit_zero (S := S32x16x32) hz3, View.ld_unit_zero (S := S1x1x1) hz3, View.canon_unit_zero (S := S32x16x32) hz3]
  rw [show Scf.trips 1#32 (Scalar.addi 1#32 31#32) 1#32 = 31 from trips_eq]

theorem emb4 (t : Fin cfg0.N) (n : Fin 32) (a : Fin 16) (e : Fin 32) : (win0_4.blk t).view.emb (ix3 n a e) = ix3 n a e := by
  refine funext fun q => Fin.ext ?_
  match q with
  | ⟨0, _⟩ => blk_simp [e4 t]
  | ⟨1, _⟩ => blk_simp [e4 t]
  | ⟨2, _⟩ => blk_simp [e4 t]

theorem final4 : (dats m 0 c).arrAt 4 cfg0.N = sScan (A := 16) (m := 32) (m (c.tc.loc main_arg0)) (m (c.tc.loc main_arg1)) (m (c.tc.loc main_arg2)) ((m (c.tc.loc main_arg3)) (ix1 0)) := by
  refine (dats m 0 c).arrAt_eq_of_covers 4 _ (by decide +kernel) fun t hf y => ?_
  blk_simp [e4 t]
  refine (congrFun ((after0_4 m c t).trans (outs_eq m c t)) y).trans ?_
  revert y
  refine fun (y : (⟨3, ![32, 16, 32]⟩ : Shape).Idx) => ?_
  obtain ⟨n, a, j, rfl⟩ : ∃ (n : Fin 32) (a : Fin 16) (j : Fin 32), y = ix3 n a j := ⟨_, _, _, eq_ix3 y⟩
  refine (pay8_apply ..).trans ?_
  refine Eq.trans ?_ (congrArg (sScan (A := 16) (m := 32) (m (c.tc.loc main_arg0)) (m (c.tc.loc main_arg1)) (m (c.tc.loc main_arg2)) ((m (c.tc.loc main_arg3)) (ix1 0))) (emb4 t n a j)).symm
  rw [(st_spec c none _ _ _ _ _ _ _ _ _ _ _ _ _ _ _ _ (blk3 m c t) 31 (Nat.le_refl _) n a j).2, if_pos (by have := j.isLt; omega)]
  simp only [blk0, blk1, blk2]
  rfl

theorem algebraic : Cert.algebraic_Scan2Ideal_RefScan2Ideal (hScan2Ideal := Cert.Scan2Ideal.Gen.facts) (hRefScan2Ideal := Cert.RefScan2Ideal.Gen.facts) := by
  intro m g m' g' _ hm
  refine ⟨_, run_blocks m g, ?_⟩
  refine (θ_run _ _ _).mono (fun r h c => ?_) (Cert.RefScan2Ideal.Value.run m' g')
  obtain ⟨h8, hk⟩ := h c
  obtain ⟨a0, a1, a2, a3⟩ := hm c
  refine ⟨h8.trans ?_, hk⟩
  rw [out_eq, final4, a0, a1, a2, a3]

end Cert.Scan2Value
-- ==== Proof.Sel2Ref.lean ====
module

public import proofs.«01_k».proof.Proof.Common
public import proofs.«01_k».proof.Proof.Gen.RefSel2Ideal.Read
public import Idealize.ShloMosaic.Lib.Pointwise

@[expose] public section

noncomputable section

namespace Cert.Sel2Value

open Idealize.ShloMosaic Cert.RefSel2Ideal.Facts₀ Idealize.ShloMosaic.TcCoe Idealize.SL.Sem Cert.Rounds Cert.RefSel2Ideal Cert.RefSel2Ideal.Value Cert.RefSel2Ideal.Read

variable (x0 x1 : (⟨S32x1024x64, .f32⟩ : BufTy).Contents (Elt Ideal)) (x2 : (⟨S32x16x32, .f32⟩ : BufTy).Contents (Elt Ideal))
    (g : Fin 32) (a : Fin 16) (j : Fin 32) (e : Fin 64)

theorem word_eq : ∀ (b : Bool) (j : Fin 32), (fun w => Scalar.select (IntOp.cmpi CmpIPredicate.slt w 0#32) (IntOp.addi w 64#32) w)
    (IntOp.addi (BitVec.setWidth 32 (BitVec.ofBool b)) (IntOp.addi 0#32 (IntOp.muli 2#32 (BitVec.ofNat 32 j.val)))) = BitVec.ofNat 32 (2 * j.val + b.toNat) := by
  decide +kernel

theorem word_ok : ∀ (b : Bool) (j : Fin 32), IntOp.andi 1#1 (IntOp.andi (IntOp.cmpi CmpIPredicate.sge (BitVec.ofNat 32 (2 * j.val + b.toNat)) 0#32)
    (IntOp.cmpi CmpIPredicate.sle (BitVec.ofNat 32 (2 * j.val + b.toNat)) 63#32)) = 1#1 := by decide +kernel

theorem word_nat : ∀ (b : Bool) (j : Fin 32), min (BitVec.ofNat 32 (2 * j.val + b.toNat)).toInt.toNat 63 = 2 * j.val + b.toNat := by decide +kernel

theorem gather_row (x : FVec Ideal S32x16x64x64 .f32) (k : IVec S32x16x32x64x1 32) (b : Bool) (h : k (ix5 g a j e 0) = BitVec.ofNat 32 (2 * j.val + b.toNat)) :
    Host.gather gather_S32x16x64x64_S32x16x32x64x1_S32x16x32x64_n_2_013_013_2_4_1111 x k (ix4 g a j e)
      = x (ix4 g a ⟨2 * j.val + b.toNat, by have := b.toNat_le; omega⟩ e) := by
  refine congrArg x (funext fun q => Fin.ext ?_)
  match q with
  | ⟨0, _⟩ => show 0 + g.val + 0 = g.val; omega
  | ⟨1, _⟩ => show 0 + a.val + 0 = a.val; omega
  | ⟨2, _⟩ =>
    show min (k _).toInt.toNat (64 - 1) + 0 + 0 = 2 * j.val + b.toNat
    have : k ((gather_S32x16x64x64_S32x16x32x64x1_S32x16x32x64_n_2_013_013_2_4_1111).siIdx (ix4 g a j e) (⟨0, by decide⟩)) = BitVec.ofNat 32 (2 * j.val + b.toNat) := by
      refine Eq.trans (congrArg k (funext fun q => ?_)) h
      match q with
      | ⟨0, _⟩ => rfl
      | ⟨1, _⟩ => rfl
      | ⟨2, _⟩ => rfl
      | ⟨3, _⟩ => rfl
      | ⟨4, _⟩ => rfl
    exact (congrArg (fun z : BitVec 32 => min z.toInt.toNat 63) this).trans (word_nat b j)
  | ⟨3, _⟩ => show 0 + e.val + 0 = e.val; omega

theorem cast_in (x : FVec Ideal S32x1024x64 .f32) (p : Fin 64) :
    shapeCast S32x16x64x64 x shapeCasts_S32x1024x64_S32x16x64x64 (ix4 g a p e) = x (ix3 g ⟨a.val * 64 + p.val, by have := a.isLt; have := p.isLt; omega⟩ e) :=
  shapeCast_apply x _ (ix4 g a p e) (ix3 g ⟨a.val * 64 + p.val, by have := a.isLt; have := p.isLt; omega⟩ e) (by
    rw [Shape.rowMajor_val_three, Shape.rowMajor_val_four]
    show (g.val * 1024 + (a.val * 64 + p.val)) * 64 + e.val = ((g.val * 16 + a.val) * 64 + p.val) * 64 + e.val
    omega)

theorem cast_out (x : FVec Ideal S32x16x32x64 .f32) (p : Fin 512) (hp : p.val = a.val * 32 + j.val) :
    shapeCast S32x512x64 x shapeCasts_S32x16x32x64_S32x512x64 (ix3 g p e) = x (ix4 g a j e) :=
  shapeCast_apply x _ (ix3 g p e) (ix4 g a j e) (by
    rw [Shape.rowMajor_val_three, Shape.rowMajor_val_four]
    show ((g.val * 16 + a.val) * 32 + j.val) * 64 + e.val = (g.val * 512 + p.val) * 64 + e.val
    omega)

theorem cast_word (x : IVec S32x16x32x64 32) : shapeCast S32x16x32x64x1 x shapeCasts_S32x16x32x64_S32x16x32x64x1 (ix5 g a j e 0) = x (ix4 g a j e) :=
  shapeCast_apply x _ (ix5 g a j e 0) (ix4 g a j e) (by
    rw [Shape.rowMajor_val_five, Shape.rowMajor_val_four]
    show ((g.val * 16 + a.val) * 32 + j.val) * 64 + e.val = (((g.val * 16 + a.val) * 32 + j.val) * 64 + e.val) * 1 + 0
    omega)

/-- The comparison that picks the row. -/
abbrev bit : Bool := decide (Ideal.ofBits FTy.f32 0x3F000000#32 < x2 (ix3 g a j))

theorem v13 (k : Fin 1) : val_main_v13 x2 (ix4 g a j k) = IntOp.addi (BitVec.setWidth 32 (BitVec.ofBool (bit x2 g a j))) (IntOp.addi 0#32 (IntOp.muli 2#32 (BitVec.ofNat 32 j.val))) := by
  pointwise [val_main_v13, val_main_v12, val_main_v11, val_main_v10, val_main_v9, val_main_v8, val_main_v7, val_main_v6, val_main_v5, val_main_v4, val_main_v3, val_main_v2, val_main_c, val_main_c_0, val_main_cst]

theorem call0_v5 : val_main_call0_v5 x2 (ix5 g a j e 0) = BitVec.ofNat 32 (2 * j.val + (bit x2 g a j).toNat) := by
  rw [← word_eq, ← v13 x2 g a j 0]
  refine (cast_word g a j e _).trans ?_
  pointwise [val_main_call0_v4, val_main_call0_v3, val_main_call0_v2, val_main_call0_v1, val_main_call0_v0, val_main_call0_c_0, val_main_call0_c, val_main_v14]

theorem call0_v12 : val_main_call0_v12 x2 (ix4 g a j e) = 1#1 := by
  pointwise [val_main_call0_v12, val_main_call0_v11, val_main_call0_v10, val_main_call0_v9, val_main_call0_v8, val_main_call0_v7, val_main_call0_v6, val_main_call0_c_1, val_main_call0_c_2, val_main_call0_c_3]
  rw [Finset.univ_unique, Finset.fold_singleton]
  refine (Std.Commutative.comm (op := IntOp.andi (w := 1)) _ _).trans (Eq.trans ?_ (word_ok (bit x2 g a j) j))
  rw [← call0_v5 x2 g a j e]
  rfl

theorem call0_v13 : val_main_call0_v13 x0 x2 (ix4 g a j e) = x0 (ix3 g ⟨a.val * 64 + (2 * j.val + (bit x2 g a j).toNat), by have := (bit x2 g a j).toNat_le; omega⟩ e) := by
  refine (gather_row g a j e _ _ _ (call0_v5 x2 g a j e)).trans ?_
  exact cast_in g a e x0 _

theorem v18 (p : Fin 512) (hp : p.val = a.val * 32 + j.val) : val_main_v18 x0 x2 (ix3 g p e) = sSel (A := 16) (m := 32) rfl rfl x0 x2 (ix3 g p e) := by
  refine Eq.trans ?_ (sSel_apply (A := 16) (m := 32) rfl rfl x0 x2 g p e a j hp).symm
  refine (cast_out g a j e _ p hp).trans ?_
  pointwise [val_main_v15, val_main_call0_v14]
  rw [call0_v12, call0_v13]
  unfold bit
  split <;> rename_i h <;> simp [h, hp] <;> refine congrArg x0 (congrArg (fun r => ix3 g r e) (Fin.ext ?_)) <;> (show _ = _; dsimp only; omega)

theorem v18_eq : val_main_v18 x0 x2 = sSel (A := 16) (m := 32) rfl rfl x0 x2 := by
  funext y
  rw [eq_ix3 y]
  exact v18 x0 x2 _ ⟨(y 1).val / 32, by have : (y 1).val < 512 := (y 1).isLt; omega⟩ ⟨(y 1).val % 32, by omega⟩ _ _ (by show (y 1).val = (y 1).val / 32 * 32 + (y 1).val % 32; omega)

theorem call1_v5 : val_main_call1_v5 x2 (ix5 g a j e 0) = BitVec.ofNat 32 (2 * j.val + (bit x2 g a j).toNat) := by
  rw [← word_eq, ← v13 x2 g a j 0]
  refine (cast_word g a j e _).trans ?_
  pointwise [val_main_call1_v4, val_main_call1_v3, val_main_call1_v2, val_main_call1_v1, val_main_call1_v0, val_main_call1_c_0, val_main_call1_c, val_main_v16]

theorem call1_v12 : val_main_call1_v12 x2 (ix4 g a j e) = 1#1 := by
  pointwise [val_main_call1_v12, val_main_call1_v11, val_main_call1_v10, val_main_call1_v9, val_main_call1_v8, val_main_call1_v7, val_main_call1_v6, val_main_call1_c_1, val_main_call1_c_2, val_main_call1_c_3]
  rw [Finset.univ_unique, Finset.fold_singleton]
  refine (Std.Commutative.comm (op := IntOp.andi (w := 1)) _ _).trans (Eq.trans ?_ (word_ok (bit x2 g a j) j))
  rw [← call1_v5 x2 g a j e]
  rfl

theorem call1_v13 : val_main_call1_v13 x1 x2 (ix4 g a j e) = x1 (ix3 g ⟨a.val * 64 + (2 * j.val + (bit x2 g a j).toNat), by have := (bit x2 g a j).toNat_le; omega⟩ e) := by
  refine (gather_row g a j e _ _ _ (call1_v5 x2 g a j e)).trans ?_
  exact cast_in g a e x1 _

theorem v19 (p : Fin 512) (hp : p.val = a.val * 32 + j.val) : val_main_v19 x1 x2 (ix3 g p e) = sSel (A := 16) (m := 32) rfl rfl x1 x2 (ix3 g p e) := by
  refine Eq.trans ?_ (sSel_apply (A := 16) (m := 32) rfl rfl x1 x2 g p e a j hp).symm
  refine (cast_out g a j e _ p hp).trans ?_
  pointwise [val_main_v17, val_main_call1_v14]
  rw [call1_v12, call1_v13]
  unfold bit
  split <;> rename_i h <;> simp [h, hp] <;> refine congrArg x1 (congrArg (fun r => ix3 g r e) (Fin.ext ?_)) <;> (show _ = _; dsimp only; omega)

theorem v19_eq : val_main_v19 x1 x2 = sSel (A := 16) (m := 32) rfl rfl x1 x2 := by
  funext y
  rw [eq_ix3 y]
  exact v19 x1 x2 _ ⟨(y 1).val / 32, by have : (y 1).val < 512 := (y 1).isLt; omega⟩ ⟨(y 1).val % 32, by omega⟩ _ _ (by show (y 1).val = (y 1).val / 32 * 32 + (y 1).val % 32; omega)

end Cert.Sel2Value
-- ==== Proof.Sel2Value.lean ====
module

public import proofs.«01_k».proof.Proof.Sel2Ref
public import proofs.«01_k».proof.Proof.Gen.Sel2Ideal.Value
public import proofs.«01_k».proof.Defs
public import Idealize.ShloMosaic.Lib.Pipeline.ValueKit
public import Idealize.ShloMosaic.Lib.WholeRead

@[expose] public section

noncomputable section

namespace Cert.Sel2Value

open Idealize.ShloMosaic Idealize.ShloMosaic.TcCoe Idealize.SL.Sem Cert.Rounds Cert.Sel2Ideal Cert.Sel2Ideal.Gen Cert.Sel2Ideal.Value

/-! ## One bucket's rows -/

def sel (f : Vec Ideal S1x1x32 .f32) (x y : Vec Ideal S1x32x64 .f32) : Vec Ideal S1x32x64 .f32 := k0_pay2 f x y

theorem sel_apply (f : Vec Ideal S1x1x32 .f32) (x y : Vec Ideal S1x32x64 .f32) (j : Fin 32) (e : Fin 64) :
    sel f x y (ix3 0 j e) = if Ideal.ofBits .f32 0x3F000000#32 < f (ix3 0 0 j) then y (ix3 0 j e) else x (ix3 0 j e) := by
  pointwise [sel, k0_pay2]

/-- That a load of every second row from row `d` stays inside. -/
abbrev Inb (d : Nat) : Prop := ∀ a, S1x32x64.size a = 0 ∨ (![0, d, 0] : Fin 3 → Nat) a + (![1, 2, 1] : Fin 3 → Nat) a * (S1x32x64.size a - 1) < S1x1024x64.size a

/-- Every second row from row `d`. -/
def rows (d : Nat) (h : Inb d) (x : Vec Ideal S1x1024x64 .f32) : Vec Ideal S1x32x64 .f32 := fun j => x ((⟨![0, d, 0], ![1, 32, 64], ![1, 2, 1], h⟩ : LoadRect S1x1024x64).idx j)

theorem rows_apply (d : Nat) (h : Inb d) (x : Vec Ideal S1x1024x64 .f32) (j : Fin 32) (e : Fin 64) (p : Fin 1024) (hp : p.val = d + 2 * j.val) : rows d h x (ix3 0 j e) = x (ix3 0 p e) := by
  refine congrArg x (funext fun q => Fin.ext ?_)
  match q with
  | ⟨0, _⟩ => rfl
  | ⟨1, _⟩ => exact hp.symm
  | ⟨2, _⟩ => show 0 + 1 * e.val = e.val; omega

/-- The selected row of a block. -/
def G (f : Vec Ideal S1x16x32 .f32) (x : Vec Ideal S1x1024x64 .f32) : Vec Ideal S1x512x64 .f32 := fun y =>
  have h1 : (y 1).val < 512 := (y 1).isLt
  if Ideal.ofBits .f32 0x3F000000#32 < f (ix3 0 (⟨(y 1).val / 32, by omega⟩ : Fin 16) (⟨(y 1).val % 32, by omega⟩ : Fin 32)) then
    x (ix3 0 (⟨2 * (y 1).val + 1, by omega⟩ : Fin 1024) (y 2)) else x (ix3 0 (⟨2 * (y 1).val, by omega⟩ : Fin 1024) (y 2))

theorem G_apply (f : Vec Ideal S1x16x32 .f32) (x : Vec Ideal S1x1024x64 .f32) (p : Fin 512) (e : Fin 64) (a : Fin 16) (j : Fin 32) (hp : p.val = a.val * 32 + j.val) :
    G f x (ix3 0 p e) = if Ideal.ofBits .f32 0x3F000000#32 < f (ix3 0 a j) then x (ix3 0 (⟨2 * p.val + 1, by omega⟩ : Fin 1024) e) else x (ix3 0 (⟨2 * p.val, by omega⟩ : Fin 1024) e) := by
  have ea : (⟨p.val / 32, by omega⟩ : Fin 16) = a := Fin.ext (by show p.val / 32 = a.val; omega)
  have ej : (⟨p.val % 32, by omega⟩ : Fin 32) = j := Fin.ext (by show p.val % 32 = j.val; omega)
  have ef : f (ix3 0 (⟨p.val / 32, by omega⟩ : Fin 16) (⟨p.val % 32, by omega⟩ : Fin 32)) = f (ix3 0 a j) := congrArg₂ (fun a j => f (ix3 0 a j)) ea ej
  rw [← ef]
  rfl

theorem inb_o (a : Fin 16) : ∀ i, (![0, 32 * a.val, 0] : Fin 3 → Nat) i + S1x32x64.size i ≤ S1x512x64.size i := by
  revert a; decide
theorem inb_f (a : Fin 16) : ∀ i, (![0, a.val, 0] : Fin 3 → Nat) i + S1x1x32.size i ≤ S1x16x32.size i := by
  revert a; decide
theorem inb_d (d : Fin 2) (a : Fin 16) : Inb (64 * a.val + d.val) := by
  revert d a; unfold Inb; decide

/-- The store of bucket `a`, -/
def piece (f : Vec Ideal S1x16x32 .f32) (x : Vec Ideal S1x1024x64 .f32) (a : Fin 16) : View.Piece (Elt Ideal) S1x512x64 .f32 :=
  ⟨Rect.unit ![0, 32 * a.val, 0] ![1, 32, 64] (inb_o a), sel (View.ld f (Rect.unit ![0, a.val, 0] ![1, 1, 32] (inb_f a))) (rows (64 * a.val) (inb_d 0 a) x) (rows (64 * a.val + 1) (inb_d 1 a) x)⟩

/-- and all of them, the last first. -/
def P (f : Vec Ideal S1x16x32 .f32) (x : Vec Ideal S1x1024x64 .f32) : List (View.Piece (Elt Ideal) S1x512x64 .f32) := List.ofFn fun n : Fin 16 => piece f x n.rev

theorem piece_ok (f : Vec Ideal S1x16x32 .f32) (x : Vec Ideal S1x1024x64 .f32) (a : Fin 16) (y : (piece f x a).1.shape.Idx) : (piece f x a).2 y = G f x ((piece f x a).1.emb y) := by
  revert y
  refine fun (y : (⟨3, ![1, 32, 64]⟩ : Shape).Idx) => ?_
  obtain ⟨z, j, e, rfl⟩ : ∃ (z : Fin 1) (j : Fin 32) (e : Fin 64), y = ix3 z j e := ⟨_, _, _, eq_ix3 y⟩
  obtain rfl : z = 0 := Subsingleton.elim _ _
  have hj := j.isLt
  have h1 : (piece f x a).1.emb (ix3 0 j e) = (ix3 0 (⟨32 * a.val + j.val, by omega⟩ : Fin 512) e : S1x512x64.Idx) := by
    refine funext fun q => Fin.ext ?_
    match q with
    | ⟨0, _⟩ => rfl
    | ⟨1, _⟩ => show 32 * a.val + 1 * j.val = 32 * a.val + j.val; omega
    | ⟨2, _⟩ => show 0 + 1 * e.val = e.val; omega
  have h2 : View.ld f (Rect.unit ![0, a.val, 0] ![1, 1, 32] (inb_f a)) (ix3 0 0 j) = f (ix3 0 a j) := by
    refine congrArg f (funext fun q => Fin.ext ?_)
    match q with
    | ⟨0, _⟩ => rfl
    | ⟨1, _⟩ => show a.val + 1 * 0 = a.val; omega
    | ⟨2, _⟩ => show 0 + 1 * j.val = j.val; omega
  rw [h1, G_apply f x ⟨32 * a.val + j.val, by omega⟩ e a j (by show 32 * a.val + j.val = a.val * 32 + j.val; omega)]
  refine (sel_apply _ _ _ j e).trans ?_
  rw [h2, rows_apply (64 * a.val + 1) (inb_d 1 a) x j e ⟨2 * (32 * a.val + j.val) + 1, by omega⟩ (by show 2 * (32 * a.val + j.val) + 1 = 64 * a.val + 1 + 2 * j.val; omega),
    rows_apply (64 * a.val) (inb_d 0 a) x j e ⟨2 * (32 * a.val + j.val), by omega⟩ (by show 2 * (32 * a.val + j.val) = 64 * a.val + 2 * j.val; omega)]

theorem cover (f : Vec Ideal S1x16x32 .f32) (x : Vec Ideal S1x1024x64 .f32) (p : Fin 512) (e : Fin 64) : ∃ pc ∈ P f x, (ix3 0 p e : S1x512x64.Idx) ∈ pc.1.set := by
  refine ⟨piece f x ⟨p.val / 32, by omega⟩, ?_, ?_⟩
  · unfold P
    rw [List.mem_ofFn]
    exact ⟨(⟨p.val / 32, by omega⟩ : Fin 16).rev, by rw [Fin.rev_rev]⟩
  · unfold piece
    rw [Rect.mem_set_unit]
    intro q
    match q with
    | ⟨0, _⟩ => exact ⟨Nat.le_refl _, Nat.zero_lt_one⟩
    | ⟨1, _⟩ => exact ⟨by show 32 * (p.val / 32) ≤ p.val; omega, by show p.val < 32 * (p.val / 32) + 32; omega⟩
    | ⟨2, _⟩ => exact ⟨Nat.zero_le _, by show e.val < 0 + 64; omega⟩

theorem canon_P (f : Vec Ideal S1x16x32 .f32) (x : Vec Ideal S1x1024x64 .f32) (p : Fin 512) (e : Fin 64) : View.canon (P f x) (ix3 0 p e) = G f x (ix3 0 p e) := by
  refine View.canon_apply_of_pieces (G f x) (P f x) (fun q hq => ?_) (ix3 0 p e) (cover f x p e)
  unfold P at hq
  rw [List.mem_ofFn] at hq
  obtain ⟨n, rfl⟩ := hq
  exact piece_ok f x _

/-! ## The blocks and the arrays -/

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, 0] := (by decide +kernel : ∀ t : Fin grid0.N, _)

variable (m : (ℓ : Loc nD τ sig) → Buf (Elt Ideal) ℓ) (c : Dev nD)

theorem rows0 (t : Fin cfg0.N) (d : Nat) (h : Inb d) (X : Vec Ideal S1x1024x64 .f32) :
    View.readAt (Elt Ideal) (ms0_0 t).view (⟨![0, d, 0], ![1, 32, 64], ![1, 2, 1], h⟩ : LoadRect S1x1024x64) ((hs0_0 t).unread X) = rows d h X :=
  funext fun x => Memref.IsWhole.readAt_unread (hs0_0 t) X _ x

theorem rows1 (t : Fin cfg0.N) (d : Nat) (h : Inb d) (X : Vec Ideal S1x1024x64 .f32) :
    View.readAt (Elt Ideal) (ms0_1 t).view (⟨![0, d, 0], ![1, 32, 64], ![1, 2, 1], h⟩ : LoadRect S1x1024x64) ((hs0_1 t).unread X) = rows d h X :=
  funext fun x => Memref.IsWhole.readAt_unread (hs0_1 t) X _ x

theorem outs_eq (t : Fin cfg0.N) : outsAt0 m c t = (View.canon (P (iblk m c 2 t) (iblk m c 0 t)), View.canon (P (iblk m c 2 t) (iblk m c 1 t))) := by
  unfold outsAt0 out0_A_3 out0_A_4
  dsimp only
  rw [View.read_writes_junk_eq_canon, View.read_writes_junk_eq_canon]
  unfold kernelRun0_A
  dsimp only
  sl_unfold_words
  simp only [View.readAt_eq_ld, (hs0_0 t).read_unread, (hs0_1 t).read_unread, (hs0_2 t).read_unread, View.readCov_eq_canon', rows0, rows1]
  rfl

theorem blk0 (t : Fin cfg0.N) (p : Fin 1024) (e : Fin 64) :
    iblk m c 0 t (ix3 0 p e) = (m (c.tc.loc main_arg0)) (ix3 (grid0.coords t 0) p e) := by
  blk_simp [iblk, V, e0 t]
  refine congrArg _ (funext fun q => Fin.ext ?_)
  match q with
  | ⟨0, _⟩ => blk_simp [e0 t]; rfl
  | ⟨1, _⟩ => blk_simp [e0 t]
  | ⟨2, _⟩ => blk_simp [e0 t]

theorem blk1 (t : Fin cfg0.N) (p : Fin 1024) (e : Fin 64) :
    iblk m c 1 t (ix3 0 p e) = (m (c.tc.loc main_arg1)) (ix3 (grid0.coords t 0) p e) := by
  blk_simp [iblk, V, e1 t]
  refine congrArg _ (funext fun q => Fin.ext ?_)
  match q with
  | ⟨0, _⟩ => blk_simp [e1 t]; rfl
  | ⟨1, _⟩ => blk_simp [e1 t]
  | ⟨2, _⟩ => blk_simp [e1 t]

theorem blk2 (t : Fin cfg0.N) (p : Fin 16) (e : Fin 32) :
    iblk m c 2 t (ix3 0 p e) = (m (c.tc.loc main_arg2)) (ix3 (grid0.coords t 0) p e) := by
  blk_simp [iblk, V, e2 t]
  refine congrArg _ (funext fun q => Fin.ext ?_)
  match q with
  | ⟨0, _⟩ => blk_simp [e2 t]; rfl
  | ⟨1, _⟩ => blk_simp [e2 t]
  | ⟨2, _⟩ => blk_simp [e2 t]

theorem emb3 (t : Fin cfg0.N) (j : Fin 512) (e : Fin 64) : (win0_3.blk t).view.emb (ix3 0 j e) = ix3 (grid0.coords t 0) j e := by
  refine funext fun q => Fin.ext ?_
  match q with
  | ⟨0, _⟩ => blk_simp [e3 t]; rfl
  | ⟨1, _⟩ => blk_simp [e3 t]
  | ⟨2, _⟩ => blk_simp [e3 t]

theorem final3 : (dats m 0 c).arrAt 3 cfg0.N = sSel (A := 16) (m := 32) rfl rfl (m (c.tc.loc main_arg0)) (m (c.tc.loc main_arg2)) := by
  refine (dats m 0 c).arrAt_eq_of_covers 3 _ (by decide +kernel) fun t hf y => ?_
  blk_simp [e3 t]
  refine (congrFun ((after0_3 m c t).trans (congrArg Prod.fst (outs_eq m c t))) y).trans ?_
  revert y
  refine fun (y : (⟨3, ![1, 512, 64]⟩ : Shape).Idx) => ?_
  obtain ⟨a, j, e, rfl⟩ : ∃ (a : Fin 1) (j : Fin 512) (e : Fin 64), y = ix3 a j e := ⟨_, _, _, eq_ix3 y⟩
  obtain rfl : a = 0 := Subsingleton.elim _ _
  have hj := j.isLt
  have hp : j.val = j.val / 32 * 32 + j.val % 32 := by omega
  refine (canon_P _ _ j e).trans ((G_apply _ _ j e ⟨j.val / 32, by omega⟩ ⟨j.val % 32, by omega⟩ hp).trans (Eq.trans ?_ (congrArg (sSel (A := 16) (m := 32) rfl rfl (m (c.tc.loc main_arg0)) (m (c.tc.loc main_arg2))) (emb3 t j e)).symm))
  refine Eq.trans ?_ (sSel_apply (A := 16) (m := 32) rfl rfl (m (c.tc.loc main_arg0)) (m (c.tc.loc main_arg2)) (grid0.coords t 0) j e ⟨j.val / 32, by omega⟩ ⟨j.val % 32, by omega⟩ hp).symm
  rw [blk2, blk0, blk0]

theorem emb4 (t : Fin cfg0.N) (j : Fin 512) (e : Fin 64) : (win0_4.blk t).view.emb (ix3 0 j e) = ix3 (grid0.coords t 0) j e := by
  refine funext fun q => Fin.ext ?_
  match q with
  | ⟨0, _⟩ => blk_simp [e4 t]; rfl
  | ⟨1, _⟩ => blk_simp [e4 t]
  | ⟨2, _⟩ => blk_simp [e4 t]

theorem final4 : (dats m 0 c).arrAt 4 cfg0.N = sSel (A := 16) (m := 32) rfl rfl (m (c.tc.loc main_arg1)) (m (c.tc.loc main_arg2)) := by
  refine (dats m 0 c).arrAt_eq_of_covers 4 _ (by decide +kernel) fun t hf y => ?_
  blk_simp [e4 t]
  refine (congrFun ((after0_4 m c t).trans (congrArg Prod.snd (outs_eq m c t))) y).trans ?_
  revert y
  refine fun (y : (⟨3, ![1, 512, 64]⟩ : Shape).Idx) => ?_
  obtain ⟨a, j, e, rfl⟩ : ∃ (a : Fin 1) (j : Fin 512) (e : Fin 64), y = ix3 a j e := ⟨_, _, _, eq_ix3 y⟩
  obtain rfl : a = 0 := Subsingleton.elim _ _
  have hj := j.isLt
  have hp : j.val = j.val / 32 * 32 + j.val % 32 := by omega
  refine (canon_P _ _ j e).trans ((G_apply _ _ j e ⟨j.val / 32, by omega⟩ ⟨j.val % 32, by omega⟩ hp).trans (Eq.trans ?_ (congrArg (sSel (A := 16) (m := 32) rfl rfl (m (c.tc.loc main_arg1)) (m (c.tc.loc main_arg2))) (emb4 t j e)).symm))
  refine Eq.trans ?_ (sSel_apply (A := 16) (m := 32) rfl rfl (m (c.tc.loc main_arg1)) (m (c.tc.loc main_arg2)) (grid0.coords t 0) j e ⟨j.val / 32, by omega⟩ ⟨j.val % 32, by omega⟩ hp).symm
  rw [blk2, blk1, blk1]

theorem algebraic : Cert.algebraic_Sel2Ideal_RefSel2Ideal (hSel2Ideal := Cert.Sel2Ideal.Gen.facts) (hRefSel2Ideal := Cert.RefSel2Ideal.Gen.facts) := by
  intro m g m' g' _ hm
  refine ⟨_, _, run_blocks m g, ?_⟩
  refine (θ_run _ _ _).mono (fun r h c => ?_) (Cert.RefSel2Ideal.Value.run m' g')
  obtain ⟨h18, h19, hk⟩ := h c
  obtain ⟨a0, a1, a2⟩ := hm c
  refine ⟨h18.trans ?_, h19.trans ?_, hk⟩
  · rw [Cert.RefSel2Ideal.Read.val_main_v18_eq, v18_eq, final3, a0, a2]
  · rw [Cert.RefSel2Ideal.Read.val_main_v19_eq, v19_eq, final4, a1, a2]

end Cert.Sel2Value
-- ==== Proof.Kd1IdealRun.lean ====
module

public import proofs.«01_k».proof.Proof.Gen.Kd1Ideal.Frame
public import proofs.«01_k».proof.Proof.Gen.Kd1Ideal.Skeleton
public import Idealize.ShloMosaic.Lib.Claim

@[expose] public section

set_option maxRecDepth 16384

noncomputable section

namespace Cert.Kd1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x16x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64x16 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1x128x128 .f32 := Memref.whole cc0_scratch0
abbrev scM0_1 : Memref sig .tc .vmem S128x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The pieces the body stores into each output, and the body's triple, the second scratch starting at contents `d1`. -/
noncomputable def kernelRun0_A (c : Dev nD) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x64x16 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x64x16x16 .f32) (harg6 : arg6.IsWhole) (arg7 : Memref sig .tc .vmem S1x64x16 .f32) (harg7 : arg7.IsWhole) (arg8 : Memref sig .tc .vmem S1x64x16 .f32) (harg8 : arg8.IsWhole) (arg9 : Memref sig .tc .vmem S1x128x128 .f32) (harg9 : arg9.IsWhole) (arg10 : Memref sig .tc .vmem S128x128 .f32) (harg10 : arg10.IsWhole)
    (x0 x1 : Vec F S1x2048x64 .f32) (x2 : Vec F S1x64x16 .f32) (x3 x4 : Vec F S1x1x1 .f32) (d1 : Vec F S128x128 .f32) :
    Σ' (L5 : List (View.Piece (Elt F) S1x64x16x16 .f32)), Σ' (L6 : List (View.Piece (Elt F) S1x64x16 .f32)), Σ' (L7 : List (View.Piece (Elt F) S1x64x16 .f32)), Σ' (LT0 : List (View.Piece (Elt F) S1x128x128 .f32)), { LT1 : List (View.Piece (Elt F) S128x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0__kd_body i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kd_body_eq_skeleton]; unfold cc0__kd_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kd1Ideal.Gen
-- ==== Proof.Kd1IdealPieces.lean ====
module

public import proofs.«01_k».proof.Proof.Kd1IdealRun
public import proofs.«01_k».proof.Proof.KdChunk
public import Idealize.ShloMosaic.Lib.Claim

@[expose] public section

set_option maxRecDepth 16384

noncomputable section

namespace Cert.Kd1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rounds (dif)
open Idealize.ShloMosaic.Pipeline (Dat Cfg Window BodyObligation cellOf)

variable {F : FTy → Type} [FloatOps F]

variable (m : (ℓ : Loc nD τ sig) → Buf (Elt F) ℓ) (ρ : Dev nD → PrngReg)

/-! ## One chunk of 128 rows -/

/-- A chunk's kernel matrix, -/
def kmV (v0 v2 : Vec F S1x1x1 .f32) (k v : Vec F S1x128x64 .f32) : FVec F S1x128x128 .f32 :=
  (shapeCast S1x128x128 (mulf (addf (matmul dot_S128x64_S128x64_S128x128_1_1_0_0_n_n none (shapeCast S128x64 v shapeCasts_S1x128x64_S128x64) (shapeCast S128x64 v shapeCasts_S1x128x64_S128x64) (constant S128x128 .f32 0x00000000#32))
      (broadcast S128x128 (extractAt ![0, 0, 0] v2 inpos_S1x1x1_p0_0_0)))
    (exp (subf (matmul dot_S128x64_S128x64_S128x128_1_1_0_0_n_n none (shapeCast S128x64 k shapeCasts_S1x128x64_S128x64) (shapeCast S128x64 k shapeCasts_S1x128x64_S128x64) (constant S128x128 .f32 0x00000000#32))
      (broadcast S128x128 (extractAt ![0, 0, 0] v0 inpos_S1x1x1_p0_0_0))))) shapeCasts_S128x128_S1x128x128)
/-- its row differences, transposed, -/
def trV (km : FVec F S1x128x128 .f32) : FVec F S128x64 .f32 :=
  (shapeCast S128x64 (transpose S128x64 [1, 0] (subf (shapeCast S64x128 (fun j => km ((⟨![0, 0, 0], ![1, 64, 128], ![1, 2, 1], inb_S1x128x128_S1x64x128_0_0_0_s_1_2_1⟩ : LoadRect S1x128x128).idx j)) shapeCasts_S1x64x128_S64x128) (shapeCast S64x128 (fun j => km ((⟨![0, 1, 0], ![1, 64, 128], ![1, 2, 1], inb_S1x128x128_S1x64x128_0_1_0_s_1_2_1⟩ : LoadRect S1x128x128).idx j)) shapeCasts_S1x64x128_S64x128)) transposes_S64x128_p1_0_S128x64) shapeCasts_S128x64_S128x64)
/-- and its double difference. -/
def chunk (v0 v2 : Vec F S1x1x1 .f32) (k v : Vec F S1x128x64 .f32) : FVec F S64x64 .f32 := dif (trV (kmV v0 v2 k v))

/-! ## Buckets -/

theorem inb_rk (c : Fin 16) : ∀ a, (![0, 128 * c.val, 0] : Fin 3 → Nat) a + S1x128x64.size a ≤ S1x2048x64.size a := by
  revert c; decide
/-- The rows of chunk `c`. -/
def rk (x : Vec F S1x2048x64 .f32) (c : Fin 16) : Vec F S1x128x64 .f32 :=
  View.ld x (Rect.unit (s := S1x2048x64) ![0, 128 * c.val, 0] ![1, 128, 64] (inb_rk c))
def rows (f : Fin 64 → FVec F S1x16 .f32) : FVec F S64x16 .f32 :=
  concatenate S64x16 0 (List.ofFn fun a : Fin 64 => ⟨S1x16, f a⟩)
    ((List.map_ofFn ..).symm ▸ (by decide : Shape.Concatenates (List.ofFn fun _ : Fin 64 => S1x16) S64x16 0))
theorem sl_top (a : Fin 64) : S64x64.Slices ![16 * (a.val % 4), 16 * (a.val % 4)] S1x16 := by revert a; decide
/-- The first row of bucket `a`'s block in its chunk. -/
def top (a : Fin 64) (x : FVec F S64x64 .f32) : FVec F S1x16 .f32 :=
  extractStridedSlice S1x16 ![16 * (a.val % 4), 16 * (a.val % 4)] x (sl_top a)
def eye : FVec F S64x64 .f32 := sitofp .f32 (extui 32 (cmpi .eq (iota .tc S64x64 32 [0] iota_S64x64_d0_w32) (iota .tc S64x64 32 [1] iota_S64x64_d1_w32)) natLt_1_32)
def dg (x : FVec F S64x64 .f32) : FVec F S1x64 .f32 :=
  shapeCast S1x64 (multiReduction .add [0] S64 (mulf x eye) 0x00000000#32 reduces_S64x64_S64 (.inl rfl) rfl) shapeCasts_S64_S1x64
theorem sl_dg (a : Fin 64) : S1x64.Slices ![0, 16 * (a.val % 4)] S1x16 := by revert a; decide
/-- The diagonal of bucket `a`'s block. -/
def diag (a : Fin 64) (x : FVec F S64x64 .f32) : FVec F S1x16 .f32 :=
  extractStridedSlice S1x16 ![0, 16 * (a.val % 4)] (dg x) (sl_dg a)
theorem sl_blk (j : Fin 4) : S64x64.Slices ![16 * j.val, 16 * j.val] S16x16 := by revert j; decide
/-- The blocks of a chunk. -/
def put (x : FVec F S64x64 .f32) : FVec F S1x4x16x16 .f32 :=
  shapeCast S1x4x16x16 (concatenate S4x16x16 0
    (List.ofFn fun j : Fin 4 => ⟨S1x16x16, shapeCast S1x16x16 (extractStridedSlice S16x16 ![16 * j.val, 16 * j.val] x (sl_blk j)) shapeCasts_S16x16_S1x16x16⟩)
    ((List.map_ofFn ..).symm ▸ (by decide : Shape.Concatenates (List.ofFn fun _ : Fin 4 => S1x16x16) S4x16x16 0))) shapeCasts_S4x16x16_S1x4x16x16
def wide1 (x : FVec F S64x16 .f32) : FVec F S64x16 .f32 :=
  maximumf x (concatenate S64x16 1 [⟨S64x1, broadcast S64x1 (Scalar.ofBits .f32 0xFF800000#32)⟩, ⟨S64x15, extractStridedSlice S64x15 ![0, 0] x (by decide)⟩] (show Shape.Concatenates [S64x1, S64x15] S64x16 1 by decide))
def wide2 (x : FVec F S64x16 .f32) : FVec F S64x16 .f32 :=
  maximumf x (concatenate S64x16 1 [⟨S64x2, broadcast S64x2 (Scalar.ofBits .f32 0xFF800000#32)⟩, ⟨S64x14, extractStridedSlice S64x14 ![0, 0] x (by decide)⟩] (show Shape.Concatenates [S64x2, S64x14] S64x16 1 by decide))
def wide4 (x : FVec F S64x16 .f32) : FVec F S64x16 .f32 :=
  maximumf x (concatenate S64x16 1 [⟨S64x4, broadcast S64x4 (Scalar.ofBits .f32 0xFF800000#32)⟩, ⟨S64x12, extractStridedSlice S64x12 ![0, 0] x (by decide)⟩] (show Shape.Concatenates [S64x4, S64x12] S64x16 1 by decide))
def wide8 (x : FVec F S64x16 .f32) : FVec F S64x16 .f32 :=
  maximumf x (concatenate S64x16 1 [⟨S64x8, broadcast S64x8 (Scalar.ofBits .f32 0xFF800000#32)⟩, ⟨S64x8, extractStridedSlice S64x8 ![0, 0] x (by decide)⟩] (show Shape.Concatenates [S64x8, S64x8] S64x16 1 by decide))
/-- The proposals, from the square roots of the diagonals. -/
def prop (u : Vec F S1x64x16 .f32) (x : FVec F S64x16 .f32) : FVec F S1x64x16 .f32 :=
  shapeCast S1x64x16 (mulf (mulf (shapeCast S64x16 u shapeCasts_S1x64x16_S64x16) x) (wide8 (wide4 (wide2 (wide1 x))))) shapeCasts_S64x16_S1x64x16

theorem hz3 : (![0, 0, 0] : Fin 3 → Nat) = fun _ => 0 := by decide

section
variable (x0 x1 : Vec F S1x2048x64 .f32) (x2 : Vec F S1x64x16 .f32) (x3 x4 : Vec F S1x1x1 .f32)

/-- The double difference of chunk `c`. -/
def ck (c : Fin 16) : FVec F S64x64 .f32 := chunk x3 x4 (rk x0 c) (rk x1 c)
/-- The chunk of bucket `a`. -/
def ofB (a : Fin 64) : Fin 16 := ⟨a.val / 4, by have := a.isLt; omega⟩
theorem inb_pc (c : Fin 16) : ∀ a, (![0, 4 * c.val, 0, 0] : Fin 4 → Nat) a + S1x4x16x16.size a ≤ S1x64x16x16.size a := by
  revert c; decide
def piece (c : Fin 16) : View.Piece (Elt F) S1x64x16x16 .f32 :=
  ⟨Rect.unit ![0, 4 * c.val, 0, 0] ![1, 4, 16, 16] (inb_pc c), put (ck x0 x1 x3 x4 c)⟩
/-- The pieces of the first output: the blocks of each chunk, last first. -/
def P5 : List (View.Piece (Elt F) S1x64x16x16 .f32) := List.ofFn fun n : Fin 16 => piece x0 x1 x3 x4 n.rev
/-- What the second output holds, -/
def O6 : Vec F S1x64x16 .f32 := shapeCast S1x64x16 (rows fun a => top a (ck x0 x1 x3 x4 (ofB a))) shapeCasts_S64x16_S1x64x16
/-- the square roots of the diagonals, -/
def roots : FVec F S64x16 .f32 := sqrt (rows fun a => diag a (ck x0 x1 x3 x4 (ofB a)))
/-- and what the third output holds. -/
def O7 : Vec F S1x64x16 .f32 := prop x2 (roots x0 x1 x3 x4)
end

theorem k0_pay10_eq (a b : Vec F S64x128 .f32) : k0_pay10 a b = Cert.Rounds.cut a b := rfl
theorem k0_pay26_eq (a b : Vec F S64x128 .f32) : k0_pay26 a b = Cert.Rounds.cut a b := rfl
theorem k0_pay40_eq (a b : Vec F S64x128 .f32) : k0_pay40 a b = Cert.Rounds.cut a b := rfl
theorem k0_pay55_eq (a b : Vec F S64x128 .f32) : k0_pay55 a b = Cert.Rounds.cut a b := rfl
theorem k0_pay69_eq (a b : Vec F S64x128 .f32) : k0_pay69 a b = Cert.Rounds.cut a b := rfl
theorem k0_pay86_eq (a b : Vec F S64x128 .f32) : k0_pay86 a b = Cert.Rounds.cut a b := rfl
theorem k0_pay99_eq (a b : Vec F S64x128 .f32) : k0_pay99 a b = Cert.Rounds.cut a b := rfl
theorem k0_pay113_eq (a b : Vec F S64x128 .f32) : k0_pay113 a b = Cert.Rounds.cut a b := rfl
theorem k0_pay129_eq (a b : Vec F S64x128 .f32) : k0_pay129 a b = Cert.Rounds.cut a b := rfl
theorem k0_pay143_eq (a b : Vec F S64x128 .f32) : k0_pay143 a b = Cert.Rounds.cut a b := rfl
theorem k0_pay156_eq (a b : Vec F S64x128 .f32) : k0_pay156 a b = Cert.Rounds.cut a b := rfl
theorem k0_pay172_eq (a b : Vec F S64x128 .f32) : k0_pay172 a b = Cert.Rounds.cut a b := rfl
theorem k0_pay188_eq (a b : Vec F S64x128 .f32) : k0_pay188 a b = Cert.Rounds.cut a b := rfl
theorem k0_pay202_eq (a b : Vec F S64x128 .f32) : k0_pay202 a b = Cert.Rounds.cut a b := rfl
theorem k0_pay215_eq (a b : Vec F S64x128 .f32) : k0_pay215 a b = Cert.Rounds.cut a b := rfl
theorem k0_pay229_eq (a b : Vec F S64x128 .f32) : k0_pay229 a b = Cert.Rounds.cut a b := rfl
def catR (a0 a1 : FVec F S1x16 .f32) (a2 a3 : FVec F S1x16 .f32) (a4 a5 : FVec F S1x16 .f32) (a6 a7 : FVec F S1x16 .f32) (a8 a9 : FVec F S1x16 .f32) (a10 a11 : FVec F S1x16 .f32) (a12 a13 : FVec F S1x16 .f32) (a14 a15 : FVec F S1x16 .f32) (a16 a17 : FVec F S1x16 .f32) (a18 a19 : FVec F S1x16 .f32) (a20 a21 : FVec F S1x16 .f32) (a22 a23 : FVec F S1x16 .f32) (a24 a25 : FVec F S1x16 .f32) (a26 a27 : FVec F S1x16 .f32) (a28 a29 : FVec F S1x16 .f32) (a30 a31 : FVec F S1x16 .f32) (a32 a33 : FVec F S1x16 .f32) (a34 a35 : FVec F S1x16 .f32) (a36 a37 : FVec F S1x16 .f32) (a38 a39 : FVec F S1x16 .f32) (a40 a41 : FVec F S1x16 .f32) (a42 a43 : FVec F S1x16 .f32) (a44 a45 : FVec F S1x16 .f32) (a46 a47 : FVec F S1x16 .f32) (a48 a49 : FVec F S1x16 .f32) (a50 a51 : FVec F S1x16 .f32) (a52 a53 : FVec F S1x16 .f32) (a54 a55 : FVec F S1x16 .f32) (a56 a57 : FVec F S1x16 .f32) (a58 a59 : FVec F S1x16 .f32) (a60 a61 : FVec F S1x16 .f32) (a62 a63 : FVec F S1x16 .f32) : FVec F S64x16 .f32 := concatenate S64x16 0 (⟨S1x16, a0⟩ :: ⟨S1x16, a1⟩ :: ⟨S1x16, a2⟩ :: ⟨S1x16, a3⟩ :: ⟨S1x16, a4⟩ :: ⟨S1x16, a5⟩ :: ⟨S1x16, a6⟩ :: ⟨S1x16, a7⟩ :: ⟨S1x16, a8⟩ :: ⟨S1x16, a9⟩ :: ⟨S1x16, a10⟩ :: ⟨S1x16, a11⟩ :: ⟨S1x16, a12⟩ :: ⟨S1x16, a13⟩ :: ⟨S1x16, a14⟩ :: ⟨S1x16, a15⟩ :: ⟨S1x16, a16⟩ :: ⟨S1x16, a17⟩ :: ⟨S1x16, a18⟩ :: ⟨S1x16, a19⟩ :: ⟨S1x16, a20⟩ :: ⟨S1x16, a21⟩ :: ⟨S1x16, a22⟩ :: ⟨S1x16, a23⟩ :: ⟨S1x16, a24⟩ :: ⟨S1x16, a25⟩ :: ⟨S1x16, a26⟩ :: ⟨S1x16, a27⟩ :: ⟨S1x16, a28⟩ :: ⟨S1x16, a29⟩ :: ⟨S1x16, a30⟩ :: ⟨S1x16, a31⟩ :: ⟨S1x16, a32⟩ :: ⟨S1x16, a33⟩ :: ⟨S1x16, a34⟩ :: ⟨S1x16, a35⟩ :: ⟨S1x16, a36⟩ :: ⟨S1x16, a37⟩ :: ⟨S1x16, a38⟩ :: ⟨S1x16, a39⟩ :: ⟨S1x16, a40⟩ :: ⟨S1x16, a41⟩ :: ⟨S1x16, a42⟩ :: ⟨S1x16, a43⟩ :: ⟨S1x16, a44⟩ :: ⟨S1x16, a45⟩ :: ⟨S1x16, a46⟩ :: ⟨S1x16, a47⟩ :: ⟨S1x16, a48⟩ :: ⟨S1x16, a49⟩ :: ⟨S1x16, a50⟩ :: ⟨S1x16, a51⟩ :: ⟨S1x16, a52⟩ :: ⟨S1x16, a53⟩ :: ⟨S1x16, a54⟩ :: ⟨S1x16, a55⟩ :: ⟨S1x16, a56⟩ :: ⟨S1x16, a57⟩ :: ⟨S1x16, a58⟩ :: ⟨S1x16, a59⟩ :: ⟨S1x16, a60⟩ :: ⟨S1x16, a61⟩ :: ⟨S1x16, a62⟩ :: ⟨S1x16, a63⟩ :: []) (show Shape.Concatenates (S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: S1x16 :: []) S64x16 0 by decide)
theorem catR_eq (a0 a1 : FVec F S1x16 .f32) (a2 a3 : FVec F S1x16 .f32) (a4 a5 : FVec F S1x16 .f32) (a6 a7 : FVec F S1x16 .f32) (a8 a9 : FVec F S1x16 .f32) (a10 a11 : FVec F S1x16 .f32) (a12 a13 : FVec F S1x16 .f32) (a14 a15 : FVec F S1x16 .f32) (a16 a17 : FVec F S1x16 .f32) (a18 a19 : FVec F S1x16 .f32) (a20 a21 : FVec F S1x16 .f32) (a22 a23 : FVec F S1x16 .f32) (a24 a25 : FVec F S1x16 .f32) (a26 a27 : FVec F S1x16 .f32) (a28 a29 : FVec F S1x16 .f32) (a30 a31 : FVec F S1x16 .f32) (a32 a33 : FVec F S1x16 .f32) (a34 a35 : FVec F S1x16 .f32) (a36 a37 : FVec F S1x16 .f32) (a38 a39 : FVec F S1x16 .f32) (a40 a41 : FVec F S1x16 .f32) (a42 a43 : FVec F S1x16 .f32) (a44 a45 : FVec F S1x16 .f32) (a46 a47 : FVec F S1x16 .f32) (a48 a49 : FVec F S1x16 .f32) (a50 a51 : FVec F S1x16 .f32) (a52 a53 : FVec F S1x16 .f32) (a54 a55 : FVec F S1x16 .f32) (a56 a57 : FVec F S1x16 .f32) (a58 a59 : FVec F S1x16 .f32) (a60 a61 : FVec F S1x16 .f32) (a62 a63 : FVec F S1x16 .f32) (h) : concatenate S64x16 0 (⟨S1x16, a0⟩ :: ⟨S1x16, a1⟩ :: ⟨S1x16, a2⟩ :: ⟨S1x16, a3⟩ :: ⟨S1x16, a4⟩ :: ⟨S1x16, a5⟩ :: ⟨S1x16, a6⟩ :: ⟨S1x16, a7⟩ :: ⟨S1x16, a8⟩ :: ⟨S1x16, a9⟩ :: ⟨S1x16, a10⟩ :: ⟨S1x16, a11⟩ :: ⟨S1x16, a12⟩ :: ⟨S1x16, a13⟩ :: ⟨S1x16, a14⟩ :: ⟨S1x16, a15⟩ :: ⟨S1x16, a16⟩ :: ⟨S1x16, a17⟩ :: ⟨S1x16, a18⟩ :: ⟨S1x16, a19⟩ :: ⟨S1x16, a20⟩ :: ⟨S1x16, a21⟩ :: ⟨S1x16, a22⟩ :: ⟨S1x16, a23⟩ :: ⟨S1x16, a24⟩ :: ⟨S1x16, a25⟩ :: ⟨S1x16, a26⟩ :: ⟨S1x16, a27⟩ :: ⟨S1x16, a28⟩ :: ⟨S1x16, a29⟩ :: ⟨S1x16, a30⟩ :: ⟨S1x16, a31⟩ :: ⟨S1x16, a32⟩ :: ⟨S1x16, a33⟩ :: ⟨S1x16, a34⟩ :: ⟨S1x16, a35⟩ :: ⟨S1x16, a36⟩ :: ⟨S1x16, a37⟩ :: ⟨S1x16, a38⟩ :: ⟨S1x16, a39⟩ :: ⟨S1x16, a40⟩ :: ⟨S1x16, a41⟩ :: ⟨S1x16, a42⟩ :: ⟨S1x16, a43⟩ :: ⟨S1x16, a44⟩ :: ⟨S1x16, a45⟩ :: ⟨S1x16, a46⟩ :: ⟨S1x16, a47⟩ :: ⟨S1x16, a48⟩ :: ⟨S1x16, a49⟩ :: ⟨S1x16, a50⟩ :: ⟨S1x16, a51⟩ :: ⟨S1x16, a52⟩ :: ⟨S1x16, a53⟩ :: ⟨S1x16, a54⟩ :: ⟨S1x16, a55⟩ :: ⟨S1x16, a56⟩ :: ⟨S1x16, a57⟩ :: ⟨S1x16, a58⟩ :: ⟨S1x16, a59⟩ :: ⟨S1x16, a60⟩ :: ⟨S1x16, a61⟩ :: ⟨S1x16, a62⟩ :: ⟨S1x16, a63⟩ :: []) h = catR a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 := rfl
def catB (a0 a1 : FVec F S1x16x16 .f32) (a2 a3 : FVec F S1x16x16 .f32) : FVec F S4x16x16 .f32 := concatenate S4x16x16 0 (⟨S1x16x16, a0⟩ :: ⟨S1x16x16, a1⟩ :: ⟨S1x16x16, a2⟩ :: ⟨S1x16x16, a3⟩ :: []) (show Shape.Concatenates (S1x16x16 :: S1x16x16 :: S1x16x16 :: S1x16x16 :: []) S4x16x16 0 by decide)
theorem catB_eq (a0 a1 : FVec F S1x16x16 .f32) (a2 a3 : FVec F S1x16x16 .f32) (h) : concatenate S4x16x16 0 (⟨S1x16x16, a0⟩ :: ⟨S1x16x16, a1⟩ :: ⟨S1x16x16, a2⟩ :: ⟨S1x16x16, a3⟩ :: []) h = catB a0 a1 a2 a3 := rfl
def catW1 (a0 : FVec F S64x1 .f32) (a1 : FVec F S64x15 .f32) : FVec F S64x16 .f32 := concatenate S64x16 1 (⟨S64x1, a0⟩ :: ⟨S64x15, a1⟩ :: []) (show Shape.Concatenates (S64x1 :: S64x15 :: []) S64x16 1 by decide)
theorem catW1_eq (a0 : FVec F S64x1 .f32) (a1 : FVec F S64x15 .f32) (h) : concatenate S64x16 1 (⟨S64x1, a0⟩ :: ⟨S64x15, a1⟩ :: []) h = catW1 a0 a1 := rfl
def catW2 (a0 : FVec F S64x2 .f32) (a1 : FVec F S64x14 .f32) : FVec F S64x16 .f32 := concatenate S64x16 1 (⟨S64x2, a0⟩ :: ⟨S64x14, a1⟩ :: []) (show Shape.Concatenates (S64x2 :: S64x14 :: []) S64x16 1 by decide)
theorem catW2_eq (a0 : FVec F S64x2 .f32) (a1 : FVec F S64x14 .f32) (h) : concatenate S64x16 1 (⟨S64x2, a0⟩ :: ⟨S64x14, a1⟩ :: []) h = catW2 a0 a1 := rfl
def catW4 (a0 : FVec F S64x4 .f32) (a1 : FVec F S64x12 .f32) : FVec F S64x16 .f32 := concatenate S64x16 1 (⟨S64x4, a0⟩ :: ⟨S64x12, a1⟩ :: []) (show Shape.Concatenates (S64x4 :: S64x12 :: []) S64x16 1 by decide)
theorem catW4_eq (a0 : FVec F S64x4 .f32) (a1 : FVec F S64x12 .f32) (h) : concatenate S64x16 1 (⟨S64x4, a0⟩ :: ⟨S64x12, a1⟩ :: []) h = catW4 a0 a1 := rfl
def catW8 (a0 a1 : FVec F S64x8 .f32) : FVec F S64x16 .f32 := concatenate S64x16 1 (⟨S64x8, a0⟩ :: ⟨S64x8, a1⟩ :: []) (show Shape.Concatenates (S64x8 :: S64x8 :: []) S64x16 1 by decide)
theorem catW8_eq (a0 a1 : FVec F S64x8 .f32) (h) : concatenate S64x16 1 (⟨S64x8, a0⟩ :: ⟨S64x8, a1⟩ :: []) h = catW8 a0 a1 := rfl

set_option maxHeartbeats 16000000 in
/-- The pieces do not depend on what the second scratch held before. -/
theorem run_eq  (c : Dev nD) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x64x16 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x64x16x16 .f32) (harg6 : arg6.IsWhole) (arg7 : Memref sig .tc .vmem S1x64x16 .f32) (harg7 : arg7.IsWhole) (arg8 : Memref sig .tc .vmem S1x64x16 .f32) (harg8 : arg8.IsWhole) (arg9 : Memref sig .tc .vmem S1x128x128 .f32) (harg9 : arg9.IsWhole) (arg10 : Memref sig .tc .vmem S128x128 .f32) (harg10 : arg10.IsWhole)
    (x0 x1 : Vec F S1x2048x64 .f32) (x2 : Vec F S1x64x16 .f32) (x3 x4 : Vec F S1x1x1 .f32) (d1 : Vec F S128x128 .f32) :
    (kernelRun0_A c i arg1 harg1 arg2 harg2 arg3 harg3 arg4 harg4 arg5 harg5 arg6 harg6 arg7 harg7 arg8 harg8 arg9 harg9 arg10 harg10 x0 x1 x2 x3 x4 d1).1 = P5 x0 x1 x3 x4
    ∧ (kernelRun0_A c i arg1 harg1 arg2 harg2 arg3 harg3 arg4 harg4 arg5 harg5 arg6 harg6 arg7 harg7 arg8 harg8 arg9 harg9 arg10 harg10 x0 x1 x2 x3 x4 d1).2.1 = [⟨Rect.unit ![0, 0, 0] ![1, 64, 16] inb_S1x64x16_S1x64x16_0_0_0, O6 x0 x1 x3 x4⟩]
    ∧ (kernelRun0_A c i arg1 harg1 arg2 harg2 arg3 harg3 arg4 harg4 arg5 harg5 arg6 harg6 arg7 harg7 arg8 harg8 arg9 harg9 arg10 harg10 x0 x1 x2 x3 x4 d1).2.2.1 = [⟨Rect.unit ![0, 0, 0] ![1, 64, 16] inb_S1x64x16_S1x64x16_0_0_0, O7 x0 x1 x2 x3 x4⟩] := by
  unfold kernelRun0_A
  dsimp only
  sl_unfold_words
  simp only [View.readAt_eq_ld, harg1.read_unread, harg2.read_unread, harg3.read_unread, harg4.read_unread, harg5.read_unread, View.readCov_eq_canon',
    View.ld_unit_zero (S := S1x1x1) hz3, View.ld_unit_zero (S := S1x64x16) hz3, View.canon_cons_unit_zero (S := S1x128x128) hz3]
  dsimp only [k0_pay1, k0_pay2, k0_pay3, k0_pay4, k0_pay5, k0_pay6, k0_pay9, k0_pay11, k0_pay12, k0_pay13, k0_pay14, k0_pay15, k0_pay16, k0_pay17, k0_pay18, k0_pay19, k0_pay20, k0_pay23, k0_pay24, k0_pay27, k0_pay28, k0_pay29, k0_pay30, k0_pay31, k0_pay32, k0_pay33, k0_pay34, k0_pay35, k0_pay36, k0_pay37, k0_pay41, k0_pay42, k0_pay43, k0_pay44, k0_pay45, k0_pay46, k0_pay47, k0_pay48, k0_pay49, k0_pay50, k0_pay51, k0_pay53, k0_pay56, k0_pay57, k0_pay58, k0_pay59, k0_pay60, k0_pay61, k0_pay62, k0_pay63, k0_pay64, k0_pay65, k0_pay70, k0_pay71, k0_pay72, k0_pay73, k0_pay74, k0_pay75, k0_pay76, k0_pay77, k0_pay78, k0_pay79, k0_pay80, k0_pay81, k0_pay82, k0_pay83, k0_pay87, k0_pay88, k0_pay89, k0_pay90, k0_pay91, k0_pay92, k0_pay93, k0_pay94, k0_pay95, k0_pay96, k0_pay100, k0_pay101, k0_pay102, k0_pay103, k0_pay104, k0_pay105, k0_pay106, k0_pay107, k0_pay108, k0_pay109, k0_pay110, k0_pay114, k0_pay115, k0_pay116, k0_pay117, k0_pay118, k0_pay119, k0_pay120, k0_pay121, k0_pay122, k0_pay123, k0_pay124, k0_pay125, k0_pay128, k0_pay130, k0_pay131, k0_pay132, k0_pay133, k0_pay134, k0_pay135, k0_pay136, k0_pay137, k0_pay138, k0_pay139, k0_pay141, k0_pay144, k0_pay145, k0_pay146, k0_pay147, k0_pay148, k0_pay149, k0_pay150, k0_pay151, k0_pay152, k0_pay153, k0_pay157, k0_pay158, k0_pay159, k0_pay160, k0_pay161, k0_pay162, k0_pay163, k0_pay164, k0_pay165, k0_pay166, k0_pay167, k0_pay169, k0_pay170, k0_pay173, k0_pay174, k0_pay175, k0_pay176, k0_pay177, k0_pay178, k0_pay179, k0_pay180, k0_pay181, k0_pay182, k0_pay185, k0_pay186, k0_pay189, k0_pay190, k0_pay191, k0_pay192, k0_pay193, k0_pay194, k0_pay195, k0_pay196, k0_pay197, k0_pay198, k0_pay199, k0_pay203, k0_pay204, k0_pay205, k0_pay206, k0_pay207, k0_pay208, k0_pay209, k0_pay210, k0_pay211, k0_pay212, k0_pay216, k0_pay217, k0_pay218, k0_pay219, k0_pay220, k0_pay221, k0_pay222, k0_pay223, k0_pay224, k0_pay225, k0_pay230, k0_pay231, k0_pay232, k0_pay233, k0_pay234, k0_pay235, k0_pay236, k0_pay237, k0_pay238, k0_pay239, k0_pay240, k0_pay241, k0_pay242, k0_pay243]
  simp only [catR_eq, catB_eq, catW1_eq, catW2_eq, catW4_eq, catW8_eq]
  simp only [k0_pay10_eq, k0_pay26_eq, k0_pay40_eq, k0_pay55_eq, k0_pay69_eq, k0_pay86_eq, k0_pay99_eq, k0_pay113_eq, k0_pay129_eq, k0_pay143_eq, k0_pay156_eq, k0_pay172_eq, k0_pay188_eq, k0_pay202_eq, k0_pay215_eq, k0_pay229_eq]
  simp only [Cert.Rounds.cut_readAt]
  exact ⟨rfl, rfl, rfl⟩

end Cert.Kd1Ideal.Gen
-- ==== Proof.Kd1IdealFrame.lean ====
module

public import proofs.«01_k».proof.Proof.Kd1IdealPieces
public import Idealize.ShloMosaic.Lib.VecWindow
public import Idealize.ShloMosaic.Lib.Claim

@[expose] public section

set_option maxRecDepth 16384

noncomputable section

namespace Cert.Kd1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem cover5 (x0 x1 : Vec F S1x2048x64 .f32) (x3 x4 : Vec F S1x1x1 .f32) (y : S1x64x16x16.Idx) : ∃ pc ∈ P5 x0 x1 x3 x4, y ∈ pc.1.set := by
  have h1 : (y 1).val < 64 := (y 1).isLt
  refine ⟨piece x0 x1 x3 x4 ⟨(y 1).val / 4, by omega⟩, ?_, ?_⟩
  · unfold P5
    rw [List.mem_ofFn]
    exact ⟨(⟨(y 1).val / 4, by omega⟩ : Fin 16).rev, by rw [Fin.rev_rev]⟩
  · unfold piece
    rw [Rect.mem_set_unit]
    intro a
    match a with
    | ⟨0, _⟩ => have : (y 0).val < 1 := (y 0).isLt; exact ⟨Nat.zero_le _, by show (y 0).val < 0 + 1; omega⟩
    | ⟨1, _⟩ => exact ⟨by show 4 * ((y 1).val / 4) ≤ (y 1).val; omega, by show (y 1).val < 4 * ((y 1).val / 4) + 4; omega⟩
    | ⟨2, _⟩ => have : (y 2).val < 16 := (y 2).isLt; exact ⟨Nat.zero_le _, by show (y 2).val < 0 + 16; omega⟩
    | ⟨3, _⟩ => have : (y 3).val < 16 := (y 3).isLt; exact ⟨Nat.zero_le _, by show (y 3).val < 0 + 16; omega⟩

section
variable (c : Dev nD) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x64x16 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x64x16x16 .f32) (harg6 : arg6.IsWhole) (arg7 : Memref sig .tc .vmem S1x64x16 .f32) (harg7 : arg7.IsWhole) (arg8 : Memref sig .tc .vmem S1x64x16 .f32) (harg8 : arg8.IsWhole) (arg9 : Memref sig .tc .vmem S1x128x128 .f32) (harg9 : arg9.IsWhole) (arg10 : Memref sig .tc .vmem S128x128 .f32) (harg10 : arg10.IsWhole)
  (x0 x1 : Vec F S1x2048x64 .f32) (x2 : Vec F S1x64x16 .f32) (x3 x4 : Vec F S1x1x1 .f32) (d1 : Vec F S128x128 .f32)

theorem fin5 (f) : arg6.view.read (Elt F) (arg6.view.writes (Elt F) f (kernelRun0_A c i arg1 harg1 arg2 harg2 arg3 harg3 arg4 harg4 arg5 harg5 arg6 harg6 arg7 harg7 arg8 harg8 arg9 harg9 arg10 harg10 x0 x1 x2 x3 x4 d1).1) = View.canon (P5 x0 x1 x3 x4) := by
  rw [(run_eq ..).1]
  exact funext fun y => View.read_writes_apply_eq_canon _ _ y _ (cover5 x0 x1 x3 x4 y)

theorem fin6 (f) : arg7.view.read (Elt F) (arg7.view.writes (Elt F) f (kernelRun0_A c i arg1 harg1 arg2 harg2 arg3 harg3 arg4 harg4 arg5 harg5 arg6 harg6 arg7 harg7 arg8 harg8 arg9 harg9 arg10 harg10 x0 x1 x2 x3 x4 d1).2.1) = O6 x0 x1 x3 x4 := by
  rw [(run_eq ..).2.1]
  exact View.read_writes_full (s := S1x64x16) _ _ _ _ _

theorem fin7 (f) : arg8.view.read (Elt F) (arg8.view.writes (Elt F) f (kernelRun0_A c i arg1 harg1 arg2 harg2 arg3 harg3 arg4 harg4 arg5 harg5 arg6 harg6 arg7 harg7 arg8 harg8 arg9 harg9 arg10 harg10 x0 x1 x2 x3 x4 d1).2.2.1) = O7 x0 x1 x2 x3 x4 := by
  rw [(run_eq ..).2.2]
  exact View.read_writes_full (s := S1x64x16) _ _ _ _ _
end

/-- What the outputs hold after the body at point `t`. -/
def outsAt0 (c : Dev nD) (t : Fin cfg0.N) : Vec F S1x64x16x16 .f32 × Vec F S1x64x16 .f32 × Vec F S1x64x16 .f32 :=
  (View.canon (P5 (iblk m c 0 t) (iblk m c 1 t) (iblk m c 3 t) (iblk m c 4 t)), O6 (iblk m c 0 t) (iblk m c 1 t) (iblk m c 3 t) (iblk m c 4 t),
    O7 (iblk m c 0 t) (iblk m c 1 t) (iblk m c 2 t) (iblk m c 3 t) (iblk m c 4 t))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0; dsimp only
  iintro ⟨⟨⟨HS0, ⟨%d1, HS1⟩⟩, Hg⟩, Ho, ⟨%d0, H0⟩, ⟨%d2, H1⟩, ⟨%d3, H2⟩, ⟨%d4, H3⟩, ⟨%d5, H4⟩, ⟨%d6, H5⟩, ⟨%d7, H6⟩, ⟨%d8, H7⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) d1).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, ⟨%e5, H5⟩, ⟨%e6, H6⟩, ⟨%e7, H7⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact fin5 ..
  isplitl [H6]
  · unfold owns; iexists _; isplitr
    swap; · iexact H6
    ipureintro; exact fin6 ..
  unfold owns; iexists _; isplitr
  swap; · iexact H7
  ipureintro; exact fin7 ..

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The run, with each output array named. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      (h c).1 6,
      (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Kd1Ideal.Gen
-- ==== Proof.Kd1Pay.lean ====
/- A compression round's kernel-difference call, one grid point: what its three output blocks hold, entry by entry. -/
module

public import proofs.«01_k».proof.Proof.Common
public import proofs.«01_k».proof.Proof.Kd1IdealPieces
public import Idealize.ShloMosaic.Lib.Pointwise
public import Idealize.ShloMosaic.Lib.Pipeline.Value

@[expose] public section

noncomputable section

namespace Cert.Kd1Value

open Idealize.ShloMosaic Idealize.ShloMosaic.TcCoe Idealize.SL.Sem Cert.Rounds Cert.Kd1Ideal Cert.Kd1Ideal.Gen

/-! ## One chunk -/

theorem kmV_apply (x3 x4 : Vec Ideal S1x1x1 .f32) (k v : Vec Ideal S1x128x64 .f32) (p q : Fin 128) : kmV (F := Ideal) x3 x4 k v (ix3 0 p q)
    = kmat (fun p e => k (ix3 0 p e)) (fun p e => v (ix3 0 p e)) (x3 (ix3 0 0 0)) (x4 (ix3 0 0 0)) p q := by
  pointwise [kmV, kmat]

theorem trV_apply (K : FVec Ideal S1x128x128 .f32) (q : Fin 128) (i : Fin 64) :
    trV K (ix2 q i) = K (ix3 0 ⟨2 * i.val, by omega⟩ q) - K (ix3 0 ⟨2 * i.val + 1, by omega⟩ q) := by
  unfold trV
  pointwise []
  exact congrArg₂ (fun a b : EReal => a - b) rfl (congrArg K (congrArg (fun p => ix3 0 p q) (Fin.ext (Nat.add_comm 1 (2 * i.val)))))

theorem chunk_apply (x3 x4 : Vec Ideal S1x1x1 .f32) (k v : Vec Ideal S1x128x64 .f32) (i j : Fin 64) : chunk x3 x4 k v (ix2 i j)
    = dd (kmat (fun p e => k (ix3 0 p e)) (fun p e => v (ix3 0 p e)) (x3 (ix3 0 0 0)) (x4 (ix3 0 0 0))) (2 * i.val) (2 * j.val) (by omega) (by omega) := by
  rw [← dd_symm _ (kmat_symm _ _ _ _)]
  show trV (kmV x3 x4 k v) (ix2 ⟨2 * i.val, _⟩ j) - trV (kmV x3 x4 k v) (ix2 ⟨2 * i.val + 1, _⟩ j) = _
  rw [trV_apply, trV_apply, kmV_apply, kmV_apply, kmV_apply, kmV_apply]

theorem rk_apply (x : Vec Ideal S1x2048x64 .f32) (c : Fin 16) (p : Fin 128) (e : Fin 64) :
    rk x c (ix3 0 p e) = x (ix3 0 ⟨128 * c.val + p.val, by omega⟩ e) := by
  unfold rk
  refine congrArg x (funext fun q => Fin.ext ?_)
  match q with
  | ⟨0, _⟩ => rfl
  | ⟨1, _⟩ => show 128 * c.val + 1 * p.val = 128 * c.val + p.val; omega
  | ⟨2, _⟩ => show 0 + 1 * e.val = e.val; omega

/-! ## Buckets -/

theorem rows_apply (f : Fin 64 → FVec Ideal S1x16 .f32) (a : Fin 64) (j : Fin 16) : rows f (ix2 a j) = f a (ix2 0 j) := by
  unfold rows
  refine concatenate_ofFn_unit_apply (t := S64x16) (s₁ := S1x16) 0 _ _ rfl rfl (ix2 a j) a rfl (ix2 0 j) fun q hq => ?_
  match q with
  | ⟨0, _⟩ => exact absurd rfl hq
  | ⟨1, _⟩ => rfl

theorem top_apply (a : Fin 64) (x : FVec Ideal S64x64 .f32) (j : Fin 16) :
    top a x (ix2 0 j) = x (ix2 ⟨16 * (a.val % 4) + 0, by omega⟩ ⟨16 * (a.val % 4) + j.val, by omega⟩) := by
  unfold top extractStridedSlice
  refine congrArg x (funext fun q => Fin.ext ?_)
  match q with
  | ⟨0, _⟩ => rfl
  | ⟨1, _⟩ => rfl

theorem dg_apply (x : FVec Ideal S64x64 .f32) (j : Fin 64) : dg x (ix2 0 j) = x (ix2 j j) := by
  pointwise [dg, eye]
  exact sum_indicator (by omega) (fun k => x (ix2 k j)) j

theorem diag_apply (a : Fin 64) (x : FVec Ideal S64x64 .f32) (j : Fin 16) :
    diag a x (ix2 0 j) = x (ix2 ⟨16 * (a.val % 4) + j.val, by omega⟩ ⟨16 * (a.val % 4) + j.val, by omega⟩) := by
  unfold diag
  refine Eq.trans ?_ (dg_apply x ⟨16 * (a.val % 4) + j.val, by omega⟩)
  unfold extractStridedSlice
  refine congrArg (dg x) (funext fun q => Fin.ext ?_)
  match q with
  | ⟨0, _⟩ => rfl
  | ⟨1, _⟩ => rfl

theorem put_apply (x : FVec Ideal S64x64 .f32) (n : Fin 4) (i j : Fin 16) :
    put x (ix4 0 n i j) = x (ix2 ⟨16 * n.val + i.val, by omega⟩ ⟨16 * n.val + j.val, by omega⟩) := by
  unfold put
  rw [shapeCast_apply _ _ (ix4 0 n i j : S1x4x16x16.Idx) (ix3 n i j : S4x16x16.Idx) (by
    rw [Shape.rowMajor_val_three, Shape.rowMajor_val_four]; show _ = ((0 * _ + _) * _ + _) * _ + _; rw [Nat.zero_mul, Nat.zero_add]; rfl)]
  refine (concatenate_ofFn_unit_apply (t := S4x16x16) (s₁ := S1x16x16) 0 _ _ rfl rfl (ix3 n i j) n rfl (ix3 0 i j) fun q hq => ?_).trans ?_
  · match q with
    | ⟨0, _⟩ => exact absurd rfl hq
    | ⟨1, _⟩ => rfl
    | ⟨2, _⟩ => rfl
  · pointwise []

section
variable (x0 x1 : Vec Ideal S1x2048x64 .f32) (x2 : Vec Ideal S1x64x16 .f32) (x3 x4 : Vec Ideal S1x1x1 .f32)

/-- The rows of the two operands and the two scalars, as functions. -/
abbrev km (p q : Fin 2048) : EReal := kmat (fun p e => x0 (ix3 0 p e)) (fun p e => x1 (ix3 0 p e)) (x3 (ix3 0 0 0)) (x4 (ix3 0 0 0)) p q

theorem ck_apply (c : Fin 16) (i j : Fin 64) : ck x0 x1 x3 x4 c (ix2 i j)
    = dd (km x0 x1 x3 x4) (128 * c.val + 2 * i.val) (128 * c.val + 2 * j.val) (by omega) (by omega) := by
  unfold ck
  rw [chunk_apply]
  unfold dd km kmat
  simp only [rk_apply]
  rfl

/-- Bucket `a`'s entry of the double difference. -/
def kdA (a : Fin 64) (i j : Fin 16) : EReal := dd (km x0 x1 x3 x4) (a.val * 32 + 2 * i.val) (a.val * 32 + 2 * j.val) (by omega) (by omega)

theorem blk_eq (a : Fin 64) (i j : Fin 16) : ck x0 x1 x3 x4 (ofB a) (ix2 ⟨16 * (a.val % 4) + i.val, by omega⟩ ⟨16 * (a.val % 4) + j.val, by omega⟩)
    = kdA x0 x1 x3 x4 a i j := by
  rw [ck_apply]
  refine dd_congr _ _ _ _ _ ?_ ?_
  · show 128 * (a.val / 4) + 2 * (16 * (a.val % 4) + i.val) = a.val * 32 + 2 * i.val; omega
  · show 128 * (a.val / 4) + 2 * (16 * (a.val % 4) + j.val) = a.val * 32 + 2 * j.val; omega

/-- The first output, entry by entry. -/
def G5 : Vec Ideal S1x64x16x16 .f32 := fun y => kdA x0 x1 x3 x4 (y 1) (y 2) (y 3)

theorem P5_apply (a : Fin 64) (i j : Fin 16) : View.canon (P5 x0 x1 x3 x4) (ix4 0 a i j) = kdA x0 x1 x3 x4 a i j := by
  refine View.canon_apply_of_pieces (G5 x0 x1 x3 x4) _ ?_ _ ?_
  · intro p hp
    unfold P5 at hp
    rw [List.mem_ofFn] at hp
    obtain ⟨n, rfl⟩ := hp
    refine fun (y : (⟨4, ![1, 4, 16, 16]⟩ : Shape).Idx) => ?_
    obtain ⟨z, b, i, j, rfl⟩ : ∃ (z : Fin 1) (b : Fin 4) (i j : Fin 16), y = ix4 z b i j := ⟨_, _, _, _, eq_ix4 y⟩
    obtain rfl : z = 0 := Subsingleton.elim _ _
    refine (put_apply (ck x0 x1 x3 x4 n.rev) b i j).trans ((ck_apply ..).trans (dd_congr _ _ _ _ _ ?_ ?_))
    · show 128 * n.rev.val + 2 * (16 * b.val + i.val) = (4 * n.rev.val + 1 * b.val) * 32 + 2 * (0 + 1 * i.val); omega
    · show 128 * n.rev.val + 2 * (16 * b.val + j.val) = (4 * n.rev.val + 1 * b.val) * 32 + 2 * (0 + 1 * j.val); omega
  · refine ⟨Gen.piece x0 x1 x3 x4 (ofB a), ?_, ?_⟩
    · unfold P5
      rw [List.mem_ofFn]
      exact ⟨(ofB a).rev, by rw [Fin.rev_rev]⟩
    · unfold Gen.piece
      rw [Rect.mem_set_unit]
      intro q
      match q with
      | ⟨0, _⟩ => exact ⟨Nat.zero_le _, by show 0 < 0 + 1; omega⟩
      | ⟨1, _⟩ => exact ⟨by show 4 * (a.val / 4) ≤ a.val; omega, by show a.val < 4 * (a.val / 4) + 4; omega⟩
      | ⟨2, _⟩ => exact ⟨Nat.zero_le _, by show i.val < 0 + 16; omega⟩
      | ⟨3, _⟩ => exact ⟨Nat.zero_le _, by show j.val < 0 + 16; omega⟩

theorem O6_apply (a : Fin 64) (j : Fin 16) : O6 x0 x1 x3 x4 (ix3 0 a j) = kdA x0 x1 x3 x4 a 0 j := by
  unfold O6
  rw [shapeCast_apply _ _ (ix3 0 a j : S1x64x16.Idx) (ix2 a j : S64x16.Idx) (by
    rw [Shape.rowMajor_val_two, Shape.rowMajor_val_three]; show _ = (0 * _ + _) * _ + _; rw [Nat.zero_mul, Nat.zero_add]; rfl), rows_apply, top_apply]
  exact blk_eq x0 x1 x3 x4 a 0 j

/-- The square root of the diagonal. -/
def rt (a : Fin 64) (j : Fin 16) : EReal := Ideal.sqrt (kdA x0 x1 x3 x4 a j j)

theorem roots_apply (a : Fin 64) (j : Fin 16) : roots x0 x1 x3 x4 (ix2 a j) = rt x0 x1 x3 x4 a j := by
  refine congrArg Ideal.sqrt ((rows_apply ..).trans ((diag_apply ..).trans ?_))
  exact blk_eq x0 x1 x3 x4 a j j

theorem O7_apply (a : Fin 64) (j : Fin 16) : O7 x0 x1 x2 x3 x4 (ix3 0 a j)
    = x2 (ix3 0 a j) * rt x0 x1 x3 x4 a j * runMax (rt x0 x1 x3 x4 a) j := by
  have hb : Scalar.ofBits (F := Ideal) .f32 0xFF800000#32 = ⊥ := ofBits_ninf_f32
  have w1 := win_one (A := 64) (m := 16) (roots x0 x1 x3 x4)
  have w2 : Win (fun (a : Fin 64) (j : Fin 16) => roots x0 x1 x3 x4 (ix2 a j)) 2 (wide1 (roots x0 x1 x3 x4)) :=
    win_step 1 15 w1 rfl rfl _ hb (by decide) (show Shape.Concatenates [S64x1, S64x15] S64x16 1 by decide)
  have w4 : Win (fun (a : Fin 64) (j : Fin 16) => roots x0 x1 x3 x4 (ix2 a j)) 4 (wide2 (wide1 (roots x0 x1 x3 x4))) :=
    win_step 2 14 w2 rfl rfl _ hb (by decide) (show Shape.Concatenates [S64x2, S64x14] S64x16 1 by decide)
  have w8 : Win (fun (a : Fin 64) (j : Fin 16) => roots x0 x1 x3 x4 (ix2 a j)) 8 (wide4 (wide2 (wide1 (roots x0 x1 x3 x4)))) :=
    win_step 4 12 w4 rfl rfl _ hb (by decide) (show Shape.Concatenates [S64x4, S64x12] S64x16 1 by decide)
  have w16 : Win (fun (a : Fin 64) (j : Fin 16) => roots x0 x1 x3 x4 (ix2 a j)) 16 (wide8 (wide4 (wide2 (wide1 (roots x0 x1 x3 x4))))) :=
    win_step 8 8 w8 rfl rfl _ hb (by decide) (show Shape.Concatenates [S64x8, S64x8] S64x16 1 by decide)
  have e := win_full w16 (by omega) a j
  have er : (fun j : Fin 16 => roots x0 x1 x3 x4 (ix2 a j)) = rt x0 x1 x3 x4 a := funext (roots_apply x0 x1 x3 x4 a)
  rw [er] at e
  rw [← e, ← roots_apply]
  unfold O7 prop
  rw [shapeCast_apply _ _ (ix3 0 a j : S1x64x16.Idx) (ix2 a j : S64x16.Idx) (by
    rw [Shape.rowMajor_val_two, Shape.rowMajor_val_three]; show _ = (0 * _ + _) * _ + _; rw [Nat.zero_mul, Nat.zero_add]; rfl)]
  refine congrArg₂ (fun a b : EReal => a * b) (congrArg₂ (fun a b : EReal => a * b) ?_ rfl) rfl
  exact shapeCast_apply _ _ (ix2 a j : S64x16.Idx) (ix3 0 a j : S1x64x16.Idx) (by
    rw [Shape.rowMajor_val_two, Shape.rowMajor_val_three]; show (0 * _ + _) * _ + _ = _; rw [Nat.zero_mul, Nat.zero_add]; rfl)

end

end Cert.Kd1Value
-- ==== Proof.Kd1Ref.lean ====
module

public import proofs.«01_k».proof.Proof.Common
public import proofs.«01_k».proof.Proof.Gen.RefKd1Ideal.Read
public import Idealize.ShloMosaic.Lib.Pointwise

@[expose] public section

noncomputable section

namespace Cert.Kd1Value

open Idealize.ShloMosaic Idealize.ShloMosaic.TcCoe Idealize.SL.Sem Cert.Rounds Cert.RefKd1Ideal Cert.RefKd1Ideal.Value Cert.RefKd1Ideal.Read

theorem gather_diag (g : Fin 32) (a : Fin 64) (i : Fin 16) (x : FVec Ideal S32x64x16x16 .f32) (k : IVec S16x2 32)
    (h0 : k (ix2 i 0) = BitVec.ofNat 32 i.val) (h1 : k (ix2 i 1) = BitVec.ofNat 32 i.val) :
    Host.gather gather_S32x64x16x16_S16x2_S32x64x16_01_23_n_n_23_1_326411 x k (ix3 g a i) = x (ix4 g a i i) := by
  have hi : (BitVec.ofNat 32 i.val).toInt.toNat = i.val := by
    have := i.isLt
    rw [BitVec.toInt_eq_toNat_of_lt (by simp; omega)]; simp; omega
  refine congrArg x (funext fun q => Fin.ext ?_)
  match q with
  | ⟨0, _⟩ => show 0 + 0 + g.val = g.val; omega
  | ⟨1, _⟩ => show 0 + 0 + a.val = a.val; omega
  | ⟨2, _⟩ =>
    show min (k _).toInt.toNat (16 - 1) + 0 + 0 = i.val
    have : k ((gather_S32x64x16x16_S16x2_S32x64x16_01_23_n_n_23_1_326411).siIdx (ix3 g a i) (⟨0, by decide⟩)) = BitVec.ofNat 32 i.val := by
      refine Eq.trans (congrArg k (funext fun b => ?_)) h0
      match b with
      | ⟨0, _⟩ => rfl
      | ⟨1, _⟩ => rfl
    rw [show ∀ y, min y (16 - 1) + 0 + 0 = min y 15 from fun _ => rfl]
    refine Eq.trans (congrArg (fun z : BitVec 32 => min z.toInt.toNat 15) this) ?_
    simp only [hi]; have := i.isLt; omega
  | ⟨3, _⟩ =>
    show min (k _).toInt.toNat (16 - 1) + 0 + 0 = i.val
    have : k ((gather_S32x64x16x16_S16x2_S32x64x16_01_23_n_n_23_1_326411).siIdx (ix3 g a i) (⟨1, by decide⟩)) = BitVec.ofNat 32 i.val := by
      refine Eq.trans (congrArg k (funext fun b => ?_)) h1
      match b with
      | ⟨0, _⟩ => rfl
      | ⟨1, _⟩ => rfl
    refine Eq.trans (congrArg (fun z : BitVec 32 => min z.toInt.toNat 15) this) ?_
    simp only [hi]; have := i.isLt; omega

theorem idx0 (i : Fin 16) : val_main_call0_v14 (F := Ideal) (ix2 i 0) = BitVec.ofNat 32 i.val := by
  unfold val_main_call0_v14
  pointwise [val_main_call0_v12, val_main_call0_v6, val_main_call0_v5, val_main_call0_v3, val_main_call0_v2, val_main_call0_v4, val_main_call0_c, val_main_call0_c_0, val_main_call0_v0]
  revert i; decide +kernel

theorem idx1 (i : Fin 16) : val_main_call0_v14 (F := Ideal) (ix2 i 1) = BitVec.ofNat 32 i.val := by
  unfold val_main_call0_v14
  pointwise [val_main_call0_v13, val_main_call0_v11, val_main_call0_v10, val_main_call0_v8, val_main_call0_v7, val_main_call0_v9, val_main_call0_c_1, val_main_call0_c_2, val_main_call0_v1]
  revert i; decide +kernel

variable (x0 x1 : (⟨S32x2048x64, .f32⟩ : BufTy).Contents (Elt Ideal)) (x2 : (⟨S32x64x16, .f32⟩ : BufTy).Contents (Elt Ideal)) (x3 x4 : (⟨S32x1x1, .f32⟩ : BufTy).Contents (Elt Ideal))
    (g : Fin 32) (a : Fin 64)

theorem v11 (i j : Fin 32) : val_main_v11 x0 x1 x3 x4 (ix4 g a i j)
    = sKm x0 x1 x3 x4 g ⟨a.val * 32 + i.val, by omega⟩ ⟨a.val * 32 + j.val, by omega⟩ := by
  unfold val_main_v11 val_main_v10 val_main_v9 val_main_v8 val_main_v7 val_main_v6 val_main_v5 val_main_v4 val_main_v3 val_main_v2 val_main_v1 val_main_v0
  pointwise [sKm, kmat]

theorem v17 (i j : Fin 16) : val_main_v17 x0 x1 x3 x4 (ix4 g a i j) = sKdAt x0 x1 x3 x4 rfl g a i j := by
  unfold val_main_v17 val_main_v16 val_main_v15 val_main_v14 val_main_v13 val_main_v12
  pointwise [sKdAt, dd]
  refine congrArg₂ _ (congrArg₂ _ ((v11 ..).trans ?_) ((v11 ..).trans ?_)) (congrArg₂ _ ((v11 ..).trans ?_) ((v11 ..).trans ?_)) <;>
    exact congrArg₂ _ (Fin.ext (by first | rfl | omega | (dsimp only; omega))) (Fin.ext (by first | rfl | omega | (dsimp only; omega)))

theorem v20 (i : Fin 16) : val_main_v20 x0 x1 x3 x4 (ix3 g a i) = sKdAt x0 x1 x3 x4 rfl g a i i :=
  (gather_diag g a i _ _ (idx0 i) (idx1 i)).trans (v17 ..)

theorem v21 (i : Fin 16) : val_main_v21 x0 x1 x3 x4 (ix3 g a i) = sRt x0 x1 x3 x4 rfl g a i :=
  congrArg Ideal.sqrt (v20 ..)

theorem v24 (j : Fin 16) : val_main_v24 x0 x1 x2 x3 x4 (ix3 g a j) = sU x0 x1 x2 x3 x4 rfl (ix3 g a j) := by
  pointwise [val_main_v24, val_main_v22, sU]
  refine congrArg₂ _ (congrArg₂ _ rfl (v21 ..)) ?_
  refine (reduceWindow_max (l := 15) (m := 16) (by decide) _ _ (fun i => ofBits_ninf_f32) _ _ _ _ _).trans ?_
  · exact congrArg (fun f => runMax f j) (funext fun i => v21 ..)

theorem v19 (j : Fin 16) : val_main_v19 x0 x1 x3 x4 (ix3 g a j) = sC0 x0 x1 x3 x4 rfl (by decide) (ix3 g a j) := by
  unfold val_main_v19 val_main_v18
  pointwise [sC0]
  exact v17 x0 x1 x3 x4 g a 0 j

theorem v17_eq : val_main_v17 x0 x1 x3 x4 = sKd x0 x1 x3 x4 rfl := by
  funext y
  rw [eq_ix4 y]
  exact v17 ..

theorem v19_eq : val_main_v19 x0 x1 x3 x4 = sC0 x0 x1 x3 x4 rfl (by decide) := by
  funext y
  rw [eq_ix3 y]
  exact v19 ..

theorem v24_eq : val_main_v24 x0 x1 x2 x3 x4 = sU x0 x1 x2 x3 x4 rfl := by
  funext y
  rw [eq_ix3 y]
  exact v24 ..

end Cert.Kd1Value
-- ==== Proof.Kd1Value.lean ====
module

public import proofs.«01_k».proof.Proof.Kd1Pay
public import proofs.«01_k».proof.Proof.Kd1Ref
public import proofs.«01_k».proof.Defs
public import proofs.«01_k».proof.Proof.Kd1IdealFrame
public import Idealize.ShloMosaic.Lib.Pipeline.ValueKit

@[expose] public section

noncomputable section

namespace Cert.Kd1Value

open Idealize.ShloMosaic Idealize.ShloMosaic.TcCoe Idealize.SL.Sem Cert.Rounds Cert.Kd1Ideal Cert.Kd1Ideal.Gen

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, 0] := (by decide +kernel : ∀ t : Fin grid0.N, _)
theorem e5 : ∀ t : Fin cfg0.N, win0_5.index t = ![(grid0.coords t 0).val, 0, 0, 0] := (by decide +kernel : ∀ t : Fin grid0.N, _)
theorem e6 : ∀ t : Fin cfg0.N, win0_6.index t = ![(grid0.coords t 0).val, 0, 0] := (by decide +kernel : ∀ t : Fin grid0.N, _)
theorem e7 : ∀ t : Fin cfg0.N, win0_7.index t = ![(grid0.coords t 0).val, 0, 0] := (by decide +kernel : ∀ t : Fin grid0.N, _)

variable (m : (ℓ : Loc nD τ sig) → Buf (Elt Ideal) ℓ) (c : Dev nD)

theorem blk0 (t : Fin cfg0.N) (p : Fin 2048) (e : Fin 64) :
    iblk m c 0 t (ix3 0 p e) = (m (c.tc.loc main_arg0)) (ix3 (grid0.coords t 0) p e) := by
  blk_simp [iblk, V, e0 t]
  refine congrArg _ (funext fun q => Fin.ext ?_)
  match q with
  | ⟨0, _⟩ => blk_simp [e0 t]; rfl
  | ⟨1, _⟩ => blk_simp [e0 t]
  | ⟨2, _⟩ => blk_simp [e0 t]

theorem blk1 (t : Fin cfg0.N) (p : Fin 2048) (e : Fin 64) :
    iblk m c 1 t (ix3 0 p e) = (m (c.tc.loc main_arg1)) (ix3 (grid0.coords t 0) p e) := by
  blk_simp [iblk, V, e1 t]
  refine congrArg _ (funext fun q => Fin.ext ?_)
  match q with
  | ⟨0, _⟩ => blk_simp [e1 t]; rfl
  | ⟨1, _⟩ => blk_simp [e1 t]
  | ⟨2, _⟩ => blk_simp [e1 t]

theorem blk2 (t : Fin cfg0.N) (p : Fin 64) (e : Fin 16) :
    iblk m c 2 t (ix3 0 p e) = (m (c.tc.loc main_arg2)) (ix3 (grid0.coords t 0) p e) := by
  blk_simp [iblk, V, e2 t]
  refine congrArg _ (funext fun q => Fin.ext ?_)
  match q with
  | ⟨0, _⟩ => blk_simp [e2 t]; rfl
  | ⟨1, _⟩ => blk_simp [e2 t]
  | ⟨2, _⟩ => blk_simp [e2 t]

theorem blk3 (t : Fin cfg0.N) (p : Fin 1) (e : Fin 1) :
    iblk m c 3 t (ix3 0 p e) = (m (c.tc.loc main_arg3)) (ix3 (grid0.coords t 0) p e) := by
  blk_simp [iblk, V, e3 t]
  refine congrArg _ (funext fun q => Fin.ext ?_)
  match q with
  | ⟨0, _⟩ => blk_simp [e3 t]; rfl
  | ⟨1, _⟩ => blk_simp [e3 t]
  | ⟨2, _⟩ => blk_simp [e3 t]

theorem blk4 (t : Fin cfg0.N) (p : Fin 1) (e : Fin 1) :
    iblk m c 4 t (ix3 0 p e) = (m (c.tc.loc main_arg4)) (ix3 (grid0.coords t 0) p e) := by
  blk_simp [iblk, V, e4 t]
  refine congrArg _ (funext fun q => Fin.ext ?_)
  match q with
  | ⟨0, _⟩ => blk_simp [e4 t]; rfl
  | ⟨1, _⟩ => blk_simp [e4 t]
  | ⟨2, _⟩ => blk_simp [e4 t]

theorem km_blk (t : Fin cfg0.N) : km (iblk m c 0 t) (iblk m c 1 t) (iblk m c 3 t) (iblk m c 4 t) =
    sKm (m (c.tc.loc main_arg0)) (m (c.tc.loc main_arg1)) (m (c.tc.loc main_arg3)) (m (c.tc.loc main_arg4)) (grid0.coords t 0) := by
  unfold km sKm
  rw [blk3, blk4]
  exact congrArg₂ (fun k v => kmat k v _ _) (funext fun p => funext fun e => blk0 m c t p e) (funext fun p => funext fun e => blk1 m c t p e)

theorem kd_blk (t : Fin cfg0.N) (a : Fin 64) (i j : Fin 16) : kdA (iblk m c 0 t) (iblk m c 1 t) (iblk m c 3 t) (iblk m c 4 t) a i j =
      sKdAt (m (c.tc.loc main_arg0)) (m (c.tc.loc main_arg1)) (m (c.tc.loc main_arg3)) (m (c.tc.loc main_arg4)) (by decide) (grid0.coords t 0) a i j := by
  unfold kdA sKdAt
  rw [km_blk]

theorem emb5 (t : Fin cfg0.N) (a : Fin 64) (i j : Fin 16) : (win0_5.blk t).view.emb (ix4 0 a i j) = ix4 (grid0.coords t 0) a i j := by
  refine funext fun q => Fin.ext ?_
  match q with
  | ⟨0, _⟩ => blk_simp [e5 t]; rfl
  | ⟨1, _⟩ => blk_simp [e5 t]
  | ⟨2, _⟩ => blk_simp [e5 t]
  | ⟨3, _⟩ => blk_simp [e5 t]

theorem emb6 (t : Fin cfg0.N) (a : Fin 64) (j : Fin 16) : (win0_6.blk t).view.emb (ix3 0 a j) = ix3 (grid0.coords t 0) a j := by
  refine funext fun q => Fin.ext ?_
  match q with
  | ⟨0, _⟩ => blk_simp [e6 t]; rfl
  | ⟨1, _⟩ => blk_simp [e6 t]
  | ⟨2, _⟩ => blk_simp [e6 t]

theorem emb7 (t : Fin cfg0.N) (a : Fin 64) (j : Fin 16) : (win0_7.blk t).view.emb (ix3 0 a j) = ix3 (grid0.coords t 0) a j := by
  refine funext fun q => Fin.ext ?_
  match q with
  | ⟨0, _⟩ => blk_simp [e7 t]; rfl
  | ⟨1, _⟩ => blk_simp [e7 t]
  | ⟨2, _⟩ => blk_simp [e7 t]

theorem final5 : (dats m 0 c).arrAt 5 cfg0.N = sKd (m (c.tc.loc main_arg0)) (m (c.tc.loc main_arg1)) (m (c.tc.loc main_arg3)) (m (c.tc.loc main_arg4)) (by decide) := by
  refine (dats m 0 c).arrAt_eq_of_covers 5 _ (by decide +kernel) fun t hf y => ?_
  blk_simp [e5 t]
  refine (congrFun (after0_5 m c t) y).trans ?_
  revert y
  refine fun (y : (⟨4, ![1, 64, 16, 16]⟩ : Shape).Idx) => ?_
  obtain ⟨z, a, i, j, rfl⟩ : ∃ (z : Fin 1) (a : Fin 64) (i j : Fin 16), y = ix4 z a i j := ⟨_, _, _, _, eq_ix4 y⟩
  obtain rfl : z = 0 := Subsingleton.elim _ _
  exact (P5_apply ..).trans ((kd_blk m c t a i j).trans (congrArg (sKd (m (c.tc.loc main_arg0)) (m (c.tc.loc main_arg1)) (m (c.tc.loc main_arg3)) (m (c.tc.loc main_arg4)) (by decide)) (emb5 t a i j)).symm)

theorem final6 : (dats m 0 c).arrAt 6 cfg0.N = sC0 (m (c.tc.loc main_arg0)) (m (c.tc.loc main_arg1)) (m (c.tc.loc main_arg3)) (m (c.tc.loc main_arg4)) (by decide) (by decide) := by
  refine (dats m 0 c).arrAt_eq_of_covers 6 _ (by decide +kernel) fun t hf y => ?_
  blk_simp [e6 t]
  refine (congrFun (after0_6 m c t) y).trans ?_
  revert y
  refine fun (y : (⟨3, ![1, 64, 16]⟩ : Shape).Idx) => ?_
  obtain ⟨z, a, j, rfl⟩ : ∃ (z : Fin 1) (a : Fin 64) (j : Fin 16), y = ix3 z a j := ⟨_, _, _, eq_ix3 y⟩
  obtain rfl : z = 0 := Subsingleton.elim _ _
  exact (O6_apply ..).trans ((kd_blk m c t a 0 j).trans (congrArg (sC0 (m (c.tc.loc main_arg0)) (m (c.tc.loc main_arg1)) (m (c.tc.loc main_arg3)) (m (c.tc.loc main_arg4)) (by decide) (by decide)) (emb6 t a j)).symm)

theorem rt_blk (t : Fin cfg0.N) (a : Fin 64) (j : Fin 16) : rt (iblk m c 0 t) (iblk m c 1 t) (iblk m c 3 t) (iblk m c 4 t) a j =
    sRt (m (c.tc.loc main_arg0)) (m (c.tc.loc main_arg1)) (m (c.tc.loc main_arg3)) (m (c.tc.loc main_arg4)) (by decide) (grid0.coords t 0) a j :=
  congrArg Ideal.sqrt (kd_blk m c t a j j)

theorem final7 : (dats m 0 c).arrAt 7 cfg0.N = sU (m (c.tc.loc main_arg0)) (m (c.tc.loc main_arg1)) (m (c.tc.loc main_arg2)) (m (c.tc.loc main_arg3)) (m (c.tc.loc main_arg4)) (by decide) := by
  refine (dats m 0 c).arrAt_eq_of_covers 7 _ (by decide +kernel) fun t hf y => ?_
  blk_simp [e7 t]
  refine (congrFun (after0_7 m c t) y).trans ?_
  revert y
  refine fun (y : (⟨3, ![1, 64, 16]⟩ : Shape).Idx) => ?_
  obtain ⟨z, a, j, rfl⟩ : ∃ (z : Fin 1) (a : Fin 64) (j : Fin 16), y = ix3 z a j := ⟨_, _, _, eq_ix3 y⟩
  obtain rfl : z = 0 := Subsingleton.elim _ _
  refine (O7_apply ..).trans (Eq.trans ?_ (congrArg (sU (m (c.tc.loc main_arg0)) (m (c.tc.loc main_arg1)) (m (c.tc.loc main_arg2)) (m (c.tc.loc main_arg3)) (m (c.tc.loc main_arg4)) (by decide)) (emb7 t a j)).symm)
  exact congrArg₂ (· * ·) (congrArg₂ (· * ·) (blk2 m c t a j) (rt_blk m c t a j)) (congrArg (fun f => runMax f j) (funext fun i => rt_blk m c t a i))

theorem algebraic : Cert.algebraic_Kd1Ideal_RefKd1Ideal (hKd1Ideal := Cert.Kd1Ideal.Gen.facts) (hRefKd1Ideal := Cert.RefKd1Ideal.Gen.facts) := by
  intro m g m' g' _ hm
  refine ⟨_, _, _, run_blocks m g, ?_⟩
  refine (θ_run _ _ _).mono (fun r h c => ?_) (Cert.RefKd1Ideal.Value.run m' g')
  obtain ⟨h17, h19, h24, hk⟩ := h c
  obtain ⟨a0, a1, a2, a3, a4⟩ := hm c
  refine ⟨h17.trans ?_, h19.trans ?_, h24.trans ?_, hk⟩
  · rw [Cert.RefKd1Ideal.Read.val_main_v17_eq, v17_eq, final5, a0, a1, a3, a4]
  · rw [Cert.RefKd1Ideal.Read.val_main_v19_eq, v19_eq, final6, a0, a1, a3, a4]
  · rw [Cert.RefKd1Ideal.Read.val_main_v24_eq, v24_eq, final7, a0, a1, a2, a3, a4]

end Cert.Kd1Value
-- ==== Proof.Scan1Pay.lean ====
module

public import proofs.«01_k».proof.Proof.ScanSpec
public import proofs.«01_k».proof.Proof.Gen.Scan1Ideal.Value
public import Idealize.ShloMosaic.Lib.Pipeline.ValueKit
public import Idealize.ShloMosaic.Lib.WholeRead

@[expose] public section

noncomputable section

namespace Cert.Scan1Value

open Idealize.ShloMosaic Idealize.ShloMosaic.TcCoe Idealize.SL.Sem Cert.Rounds Cert.Scan1Ideal Cert.Scan1Ideal.Gen Cert.Scan1Ideal.Value

theorem trips_eq : k0_t1_loop.trips = 15 := by decide +kernel

theorem trip_lt (t : Fin k0_t1_loop.trips) : t.val + 1 < 16 := by
  have h := Nat.lt_of_lt_of_eq t.isLt trips_eq
  omega

/-- The pair that trip `t` decides. -/
def pr (t : Fin k0_t1_loop.trips) : Fin 16 := ⟨t.val + 1, trip_lt t⟩

/-- The row of a bucket of a batch and head, among all of them. -/
def rowN (g : Fin 32) (a : Fin 64) : Fin 2048 := ⟨g.val * 64 + a.val, by have := g.isLt; have := a.isLt; omega⟩

theorem cast_rows (v : Vec Ideal S32x64x16 .f32) (g : Fin 32) (a : Fin 64) (j : Fin 16) :
    shapeCast S2048x16 v shapeCasts_S32x64x16_S2048x16 (ix2 (rowN g a) j) = v (ix3 g a j) :=
  shapeCast_apply v shapeCasts_S32x64x16_S2048x16 (ix2 (rowN g a) j) (ix3 g a j) (by
    rw [Shape.rowMajor_val_two, Shape.rowMajor_val_three]
    rfl)

theorem cast_slab (w : Vec Ideal S32x64x1x16 .f32) (g : Fin 32) (a : Fin 64) (j : Fin 16) :
    shapeCast S2048x16 w shapeCasts_S32x64x1x16_S2048x16 (ix2 (rowN g a) j) = w (ix4 g a 0 j) :=
  shapeCast_apply w shapeCasts_S32x64x1x16_S2048x16 (ix2 (rowN g a) j) (ix4 g a 0 j) (by
    rw [Shape.rowMajor_val_two, Shape.rowMajor_val_four]
    show ((g.val * 64 + a.val) * 1 + 0) * 16 + j.val = (g.val * 64 + a.val) * 16 + j.val
    omega)

/-- The bit that trip `t` decides for row `n`. -/
theorem pay5_row (v4 : Vec Ideal S32x64x16 .f32) (t : Fin k0_t1_loop.trips) (x : FVec Ideal S2048x16 .f32) (n : Fin 2048) :
    k0_pay5 v4 t x (ix2 n 0) = bitF (scBit (fun j => shapeCast S2048x16 v4 shapeCasts_S32x64x16_S2048x16 (ix2 n j)) (fun j => x (ix2 n j)) (pr t)) := by
  have h1 := sum_indicator (n := 16) (by norm_num) (fun j => shapeCast S2048x16 v4 shapeCasts_S32x64x16_S2048x16 (ix2 n j)) (pr t)
  have h2 := sum_indicator (n := 16) (by norm_num) (fun j => x (ix2 n j)) (pr t)
  unfold k0_pay5
  generalize shapeCast S2048x16 v4 shapeCasts_S32x64x16_S2048x16 = U at h1 ⊢
  pointwise [k0_pay4]
  rw [iv_one, sitofp_bit]
  refine congrArg bitF (congrArg BitVec.ofBool (decide_eq_decide.mpr ?_))
  exact iff_of_eq (congrArg₂ (· ≤ ·) h1 h2)

theorem pay5_apply (v4 : Vec Ideal S32x64x16 .f32) (t : Fin k0_t1_loop.trips) (x : FVec Ideal S2048x16 .f32) (g : Fin 32) (a : Fin 64) :
    k0_pay5 v4 t x (ix2 (rowN g a) 0) = bitF (scBit (fun j => v4 (ix3 g a j)) (fun j => x (ix2 (rowN g a) j)) (pr t)) := by
  rw [pay5_row, funext fun j => cast_rows v4 g a j]

theorem pay7_apply (v4 : Vec Ideal S32x64x16 .f32) (t : Fin k0_t1_loop.trips) (x : FVec Ideal S2048x16 .f32) (w : Vec Ideal S32x64x1x16 .f32)
    (K : Fin 16 → Fin 16 → EReal) (g : Fin 32) (a : Fin 64) (hw : ∀ j, w (ix4 g a 0 j) = K (pr t) j) (j : Fin 16) :
    k0_pay7 v4 t x w (ix2 (rowN g a) j) = scStep K (fun j => v4 (ix3 g a j)) (fun j => x (ix2 (rowN g a) j)) (pr t) j := by
  have h5 := pay5_apply v4 t x g a
  have hj := (cast_slab w g a j).trans (hw j)
  generalize rowN g a = n at h5 hj ⊢
  unfold k0_pay7
  generalize shapeCast S2048x16 w shapeCasts_S32x64x1x16_S2048x16 = W at hj ⊢
  pointwise []
  rw [h5, hj]
  rfl

theorem pay6_apply (v0 : Vec Ideal S1x1x1 .f32) (fl : BitVec 1) (h0 : v0 (ix3 0 0 0) = bitF fl) (v4 : Vec Ideal S32x64x16 .f32) (t : Fin k0_t1_loop.trips)
    (x s : FVec Ideal S2048x16 .f32) (g : Fin 32) (a : Fin 64) (j : Fin 16) :
    k0_pay6 v0 v4 t x s (ix2 (rowN g a) j) = s (ix2 (rowN g a) j) + bitF (scBit (fun j => v4 (ix3 g a j)) (fun j => x (ix2 (rowN g a) j)) (pr t) ^^^ fl) * if j.val = t.val + 1 then 1 else 0 := by
  have h5 := pay5_apply v4 t x g a
  have hi := ind_eq (p := j.val) (q := t.val + 1) (by have := j.isLt; omega) (by have := trip_lt t; omega)
  generalize rowN g a = n at h5 ⊢
  pointwise [k0_pay6, k0_pay4, k0_pay1]
  rw [h5, h0, iv_one, hi, abs_sub_bit]

theorem pay3_apply (v0 : Vec Ideal S1x1x1 .f32) (fl : BitVec 1) (h0 : v0 (ix3 0 0 0) = bitF fl) (n : Fin 2048) (j : Fin 16) :
    k0_pay3 v0 (ix2 n j) = if j.val = 0 then bitF fl else 0 := by
  pointwise [k0_pay3, k0_pay1]
  rw [h0]
  by_cases h : j.val = 0
  · rw [h, if_pos rfl]
    rfl
  · rw [if_neg h]
    have hne : (BitVec.ofNat 32 j.val == 0#32) = false := by
      refine beq_eq_false_iff_ne.mpr fun e => h ?_
      have e' := congrArg BitVec.toNat e
      simp only [BitVec.toNat_ofNat] at e'
      rwa [Nat.mod_eq_of_lt (by have := j.isLt; omega)] at e'
    show Scalar.select (BitVec.ofBool (BitVec.ofNat 32 j.val == 0#32)) _ _ = _
    rw [hne]
    rfl

theorem pay2_apply (v2 : Vec Ideal S32x64x16 .f32) (g : Fin 32) (a : Fin 64) (j : Fin 16) : k0_pay2 v2 (ix2 (rowN g a) j) = v2 (ix3 g a j) := cast_rows v2 g a j

theorem pay8_apply (x : FVec Ideal S2048x16 .f32) (g : Fin 32) (a : Fin 64) (j : Fin 16) : k0_pay8 x (ix3 g a j) = x (ix2 (rowN g a) j) :=
  shapeCast_apply x shapeCasts_S2048x16_S32x64x16 (ix3 g a j) (ix2 (rowN g a) j) (by
    rw [Shape.rowMajor_val_two, Shape.rowMajor_val_three]
    rfl)

/-! ## The loop -/

section
variable (c : Dev nD) (bd : Option Variants.none.V) (i : grid0.Coords) (arg1 : Memref sig .tc .vmem S32x64x16x16 .f32) (harg1 : arg1.IsWhole)
  (arg2 : Memref sig .tc .vmem S32x64x16 .f32) (harg2 : arg2.IsWhole) (arg3 : Memref sig .tc .vmem S32x64x16 .f32) (harg3 : arg3.IsWhole)
  (arg4 : Memref sig .tc .vmem S1x1x1 .f32) (harg4 : arg4.IsWhole) (arg5 : Memref sig .tc .vmem S32x64x16 .f32) (harg5 : arg5.IsWhole)
  (x0 : Vec Ideal S32x64x16x16 .f32) (v0 : Vec Ideal S1x1x1 .f32) (v2 v4 : Vec Ideal S32x64x16 .f32)

/-- What a trip loads: one row of every batch and head's differences. -/
def row (x0 : Vec Ideal S32x64x16x16 .f32) (t : Fin k0_t1_loop.trips) : Vec Ideal S32x64x1x16 .f32 := fun y =>
  x0 ((Rect.unit (s := S32x64x16x16) (k0_off1 t) S32x64x1x16.size (k0_off1_inb t)).toLoadRect.idx y)

theorem row_apply (t : Fin k0_t1_loop.trips) (g : Fin 32) (a : Fin 64) (j : Fin 16) : row x0 t (ix4 g a 0 j) = x0 (ix4 g a (pr t) j) := by
  refine congrArg x0 (funext fun q => Fin.ext ?_)
  have := trip_lt t
  have e : (Scf.iv 1#32 1#32 t.val).toNat = t.val + 1 := by
    rw [iv_one, BitVec.toNat_ofNat, Nat.mod_eq_of_lt (by omega)]
  match q with
  | ⟨0, _⟩ => show 0 + 1 * g.val = g.val; omega
  | ⟨1, _⟩ => show 0 + 1 * a.val = a.val; omega
  | ⟨2, _⟩ =>
    show k0_off1 t 2 + 1 * 0 = t.val + 1
    unfold k0_off1
    dsimp
    exact e
  | ⟨3, _⟩ => show 0 + 1 * j.val = j.val; omega

theorem trip_eq (t : Fin k0_t1_loop.trips) (acc : FVec Ideal S2048x16 .f32 × FVec Ideal S2048x16 .f32) :
    tripR_k0_t1 Variants.none c bd i arg1 harg1 arg2 harg2 arg3 harg3 arg4 harg4 arg5 harg5 v0 v4 (harg1.unread x0) t acc
      = (k0_pay7 v4 t acc.1 (row x0 t), k0_pay6 v0 v4 t acc.1 acc.2) := by
  unfold tripR_k0_t1 trip_k0_t1
  dsimp only
  sl_unfold_words
  exact congrArg₂ Prod.mk (congrArg (k0_pay7 v4 t acc.1) (funext fun x => Memref.IsWhole.readAt_unread harg1 x0 _ x)) rfl

/-- The carried values before trip `k`: the cumulative differences, and the bits decided so far. -/
theorem st_spec (fl : BitVec 1) (h0 : v0 (ix3 0 0 0) = bitF fl) (k : Nat) (hk : k ≤ 15) (g : Fin 32) (a : Fin 64) (j : Fin 16) :
    (st_k0_t1 Variants.none c bd i arg1 harg1 arg2 harg2 arg3 harg3 arg4 harg4 arg5 harg5 v0 v4 (harg1.unread x0) (k0_pay2 v2, k0_pay3 v0) k).1 (ix2 (rowN g a) j)
        = scCsd (fun p b => x0 (ix4 g a p b)) (fun b => v2 (ix3 g a b)) (fun b => v4 (ix3 g a b)) k j
    ∧ (st_k0_t1 Variants.none c bd i arg1 harg1 arg2 harg2 arg3 harg3 arg4 harg4 arg5 harg5 v0 v4 (harg1.unread x0) (k0_pay2 v2, k0_pay3 v0) k).2 (ix2 (rowN g a) j)
        = if j.val ≤ k then bitF (scSwap (fun p b => x0 (ix4 g a p b)) (fun b => v2 (ix3 g a b)) (fun b => v4 (ix3 g a b)) j ^^^ fl) else 0 := by
  induction k generalizing j with
  | zero =>
    rw [st_k0_t1_zero]
    refine ⟨pay2_apply v2 g a j, (pay3_apply v0 fl h0 (rowN g a) j).trans ?_⟩
    by_cases h : j.val = 0
    · rw [if_pos h, if_pos (by omega), scSwap, if_pos h]
      simp
    · rw [if_neg h, if_neg (by omega)]
  | succ k ih =>
    have ih := ih (by omega)
    let t : Fin k0_t1_loop.trips := ⟨k, by rw [trips_eq]; omega⟩
    have e := st_k0_t1_succ Variants.none c bd i arg1 harg1 arg2 harg2 arg3 harg3 arg4 harg4 arg5 harg5 v0 v4 (harg1.unread x0) (k0_pay2 v2, k0_pay3 v0) t
    rw [trip_eq] at e
    rw [show k + 1 = t.val + 1 from rfl, e]
    have hx := funext fun b => (ih b).1
    constructor
    · rw [scCsd_succ _ _ _ _ (trip_lt t), ← hx]
      exact pay7_apply v4 t _ (row x0 t) (fun p b => x0 (ix4 g a p b)) g a (fun j => row_apply x0 t g a j) j
    · refine (pay6_apply v0 fl h0 v4 t _ _ g a j).trans ?_
      rw [(ih j).2, hx]
      by_cases h : j.val = t.val + 1
      · have hj : j = pr t := Fin.ext h
        rw [if_pos h, if_pos (Nat.le_of_eq h), if_neg (show ¬ j.val ≤ k from by have : t.val = k := rfl; omega), zero_add, mul_one, scSwap, if_neg (by omega), ← hj, h]
        rfl
      · rw [if_neg h, mul_zero, add_zero]
        by_cases h' : j.val ≤ k
        · rw [if_pos h', if_pos (show j.val ≤ k + 1 by omega)]
        · rw [if_neg h', if_neg (show ¬ j.val ≤ k + 1 from by have : t.val = k := rfl; omega)]

end

end Cert.Scan1Value
-- ==== Proof.Scan1Ref.lean ====
module

public import proofs.«01_k».proof.Proof.ScanSet
public import proofs.«01_k».proof.Proof.Gen.RefScan1Ideal.Run

@[expose] public section

noncomputable section

namespace Cert.Scan1Value

open Idealize.ShloMosaic Idealize.ShloMosaic.TcCoe Idealize.SL.Sem Idealize.ShloMosaic.StableHlo Cert.Rounds Cert.RefScan1Ideal Cert.RefScan1Ideal.Gen Cert.RefScan1Ideal.Value

/-! ## The operations, on arrays of plain types -/

theorem word_of (X : IVec S15 32) (start : Fin 1 → Int) (k : Nat) (hk : k + 1 < 16) (s0 : start 0 = k) (hX : ∀ y, X y = BitVec.ofNat 32 ((y 0).val + 1)) :
    shapeCast S_ (Host.dynamicSlice S1 X start sliceFits_S15_S1) shapeCasts_S1_S_ = fun _ => BitVec.ofNat 32 (k + 1) := by
  refine funext fun y => ?_
  obtain rfl : y = ix0 := Subsingleton.elim _ _
  have h : Host.dynamicSlice S1 X start sliceFits_S15_S1 (ix1 0) = _ := slice1 X start s0 (show k < 15 by omega) sliceFits_S15_S1
  rw [hX] at h
  generalize Host.dynamicSlice S1 X start sliceFits_S15_S1 = X' at h ⊢
  pointwise []
  exact h

theorem cast_bit (X : FVec Ideal S32x64x1 .f32) (g : Fin 32) (a : Fin 64) : shapeCast S32x64 X shapeCasts_S32x64x1_S32x64 (ix2 g a) = X (ix3 g a 0) :=
  shapeCast_apply X shapeCasts_S32x64x1_S32x64 (ix2 g a) (ix3 g a 0) (by
    rw [Shape.rowMajor_val_two, Shape.rowMajor_val_three]
    show (g.val * 64 + a.val) * 1 + 0 = g.val * 64 + a.val
    omega)

theorem cast_row (X : FVec Ideal S32x64x1x16 .f32) (g : Fin 32) (a : Fin 64) (j : Fin 16) : shapeCast S32x64x16 X shapeCasts_S32x64x1x16_S32x64x16 (ix3 g a j) = X (ix4 g a 0 j) :=
  shapeCast_apply X shapeCasts_S32x64x1x16_S32x64x16 (ix3 g a j) (ix4 g a 0 j) (by
    rw [Shape.rowMajor_val_three, Shape.rowMajor_val_four]
    show ((g.val * 64 + a.val) * 1 + 0) * 16 + j.val = (g.val * 64 + a.val) * 16 + j.val
    omega)

theorem bit_of (U C : FVec Ideal S32x64x16 .f32) (start : Fin 3 → Int) (i : Fin 16) (s0 : start 0 = 0) (s1 : start 1 = 0) (s2 : start 2 = i.val) (g : Fin 32) (a : Fin 64) :
    cmpf .ole (shapeCast S32x64 (Host.dynamicSlice S32x64x1 U start sliceFits_S32x64x16_S32x64x1) shapeCasts_S32x64x1_S32x64)
      (shapeCast S32x64 (Host.dynamicSlice S32x64x1 C start sliceFits_S32x64x16_S32x64x1) shapeCasts_S32x64x1_S32x64) (ix2 g a)
      = scBit (fun j => U (ix3 g a j)) (fun j => C (ix3 g a j)) i := by
  have hU : Host.dynamicSlice S32x64x1 U start sliceFits_S32x64x16_S32x64x1 (ix3 g a 0) = _ := slice3 U start s0 s1 s2 i.isLt sliceFits_S32x64x16_S32x64x1 g a
  have hC : Host.dynamicSlice S32x64x1 C start sliceFits_S32x64x16_S32x64x1 (ix3 g a 0) = _ := slice3 C start s0 s1 s2 i.isLt sliceFits_S32x64x16_S32x64x1 g a
  generalize Host.dynamicSlice S32x64x1 U start sliceFits_S32x64x16_S32x64x1 = U' at hU ⊢
  generalize Host.dynamicSlice S32x64x1 C start sliceFits_S32x64x16_S32x64x1 = C' at hC ⊢
  have eU : shapeCast S32x64 U' shapeCasts_S32x64x1_S32x64 (ix2 g a) = U' (ix3 g a 0) := cast_bit U' g a
  have eC : shapeCast S32x64 C' shapeCasts_S32x64x1_S32x64 (ix2 g a) = C' (ix3 g a 0) := cast_bit C' g a
  show BitVec.ofBool (decide (shapeCast S32x64 U' shapeCasts_S32x64x1_S32x64 (ix2 g a) ≤ shapeCast S32x64 C' shapeCasts_S32x64x1_S32x64 (ix2 g a))) = _
  rw [eU, eC, hU, hC]
  rfl

theorem csd_of (K : FVec Ideal S32x64x16x16 .f32) (C : FVec Ideal S32x64x16 .f32) (b : IVec S32x64 1) (start : Fin 4 → Int) (i : Fin 16)
    (s0 : start 0 = 0) (s1 : start 1 = 0) (s2 : start 2 = i.val) (s3 : start 3 = 0) (u : Fin 16 → EReal) (g : Fin 32) (a : Fin 64) (j : Fin 16)
    (hb : b (ix2 g a) = scBit u (fun j => C (ix3 g a j)) i) :
    addf C (mulf (broadcastInDim S32x64x16 ![0, 1, 2] bcast_S32x64x1_S32x64x16_0_1_2 (subf (broadcastInDim S32x64x1 ![] bcast_S_S32x64x1 (constant S_ .f32 0x3F800000#32))
        (mulf (broadcastInDim S32x64x1 ![] bcast_S_S32x64x1 (constant S_ .f32 0x40000000#32)) (uitofp .f32 (broadcastInDim S32x64x1 ![0, 1] bcast_S32x64_S32x64x1_0_1 b)))))
      (shapeCast S32x64x16 (Host.dynamicSlice S32x64x1x16 K start sliceFits_S32x64x16x16_S32x64x1x16) shapeCasts_S32x64x1x16_S32x64x16)) (ix3 g a j)
      = scStep (fun p q => K (ix4 g a p q)) u (fun j => C (ix3 g a j)) i j := by
  have hK : Host.dynamicSlice S32x64x1x16 K start sliceFits_S32x64x16x16_S32x64x1x16 (ix4 g a 0 j) = _ := slice4 K start s0 s1 s2 s3 i.isLt sliceFits_S32x64x16x16_S32x64x1x16 g a j
  generalize Host.dynamicSlice S32x64x1x16 K start sliceFits_S32x64x16x16_S32x64x1x16 = K' at hK ⊢
  rw [← cast_row K' g a j] at hK
  generalize shapeCast S32x64x16 K' shapeCasts_S32x64x1x16_S32x64x16 = K'' at hK ⊢
  pointwise []
  rw [hb, hK]
  rfl

theorem swaps_of (X : IVec S32x64x16 1) (idx : IVec S1 32) (b : IVec S32x64 1) (i : Fin 16) (hi : (idx (ix1 0)).toInt = (i.val : Int)) (g : Fin 32) (a : Fin 64) (j : Fin 16) :
    Host.scatter scatter_S32x64x16_S1_S32x64_01_2_2_0 (fun _ b => b) X idx b (ix3 g a j) = if j = i then b (ix2 g a) else X (ix3 g a j) :=
  scatter_col scatter_S32x64x16_S1_S32x64_01_2_2_0 idx i (fun _ _ => rfl) (fun _ _ => rfl) (fun _ _ => rfl) (fun _ _ => rfl) (fun _ _ => rfl)
    (fun _ _ => hi ▸ congrArg (fun y => (idx y).toInt) (funext fun q => match q with | ⟨0, _⟩ => Subsingleton.elim (α := Fin 1) _ _)) X b g a j

/-! ## One step -/

section
variable (W : Valuation τ sig (Elt Ideal)) (k : Nat) (hk : k + 1 < 16)
  (h3 : W (Proc.devRef .tc main_v4_3) = fun _ => BitVec.ofNat 32 k)
  (h0 : W (Proc.devRef .tc main_v4_0) = fun y => BitVec.ofNat 32 ((y 0).val + 1))

include hk h3 h0 in
/-- The pair that the trip decides. -/
theorem word : res_main_while0b_v9 W = fun _ => BitVec.ofNat 32 (k + 1) := by
  unfold res_main_while0b_v9
  refine word_of (W (Proc.devRef .tc main_v4_0)) _ k hk ?_ (fun y => congrFun h0 y)
  show ((W (Proc.devRef .tc main_v4_3)) (Shape.Idx.first h_S_)).toInt = k
  rw [h3]
  exact toInt_small k (by omega)

include hk h3 h0 in
theorem wordOk : (select (cmpi .slt (res_main_while0b_v9 W) (constantI S_ 32 0#32)) (addi (res_main_while0b_v9 W) (constantI S_ 32 16#32)) (res_main_while0b_v9 W)) = fun _ => BitVec.ofNat 32 (k + 1) := by
  rw [word W k hk h3 h0]
  refine funext fun y => ?_
  show Scalar.select (IntOp.cmpi .slt (BitVec.ofNat 32 (k + 1)) 0#32) _ _ = _
  rw [slt_small (k + 1) (by omega)]
  rfl

include hk h3 h0 in
theorem bit (g : Fin 32) (a : Fin 64) :
    res_main_while0b_v32 W (ix2 g a) = scBit (fun j => W (Proc.devRef .tc main_v4_1) (ix3 g a j)) (fun j => W (Proc.devRef .tc main_v4_4) (ix3 g a j)) ⟨k + 1, hk⟩ := by
  unfold res_main_while0b_v32
  rw [wordOk W k hk h3 h0]
  exact bit_of (W (Proc.devRef .tc main_v4_1)) (W (Proc.devRef .tc main_v4_4)) _ ⟨k + 1, hk⟩ rfl rfl (toInt_small (k + 1) (by omega)) g a

include hk h3 h0 in
theorem csd (g : Fin 32) (a : Fin 64) (j : Fin 16) :
    step_main_v4_4 W (ix3 g a j) = scStep (fun p q => W (Proc.devRef .tc main_v4_2) (ix4 g a p q)) (fun j => W (Proc.devRef .tc main_v4_1) (ix3 g a j)) (fun j => W (Proc.devRef .tc main_v4_4) (ix3 g a j)) ⟨k + 1, hk⟩ j := by
  unfold step_main_v4_4
  rw [wordOk W k hk h3 h0]
  exact csd_of (W (Proc.devRef .tc main_v4_2)) (W (Proc.devRef .tc main_v4_4)) (res_main_while0b_v32 W) _ ⟨k + 1, hk⟩ rfl rfl (toInt_small (k + 1) (by omega)) rfl
    (fun j => W (Proc.devRef .tc main_v4_1) (ix3 g a j)) g a j (bit W k hk h3 h0 g a)

include hk h3 h0 in
theorem swaps (g : Fin 32) (a : Fin 64) (j : Fin 16) :
    step_main_v4_5 W (ix3 g a j) = if j = ⟨k + 1, hk⟩ then res_main_while0b_v32 W (ix2 g a) else W (Proc.devRef .tc main_v4_5) (ix3 g a j) := by
  unfold step_main_v4_5
  rw [wordOk W k hk h3 h0]
  rw [id_eq]
  exact swaps_of (W (Proc.devRef .tc main_v4_5)) _ (res_main_while0b_v32 W) ⟨k + 1, hk⟩ (toInt_small (k + 1) (by omega)) g a j

end

/-! ## The loop -/

section
variable (m : (ℓ : Loc nD τ sig) → Buf (Elt Ideal) ℓ) (c : Dev nD)

theorem entry0 : entryContents preI m c (Proc.devRef .tc main_v4_0) = fun y => BitVec.ofNat 32 ((y 0).val + 1) := by
  simp only [entryContents, afterL_cons, afterL_nil]
  after_reads_simp
  refine funext fun (y : (⟨1, ![15]⟩ : Shape).Idx) => ?_
  show 1#32 + BitVec.ofNat 32 (y 0).val = _
  apply BitVec.eq_of_toNat_eq
  simp [Nat.add_comm]

theorem entry1 : entryContents preI m c (Proc.devRef .tc main_v4_1) = m (c.tc.loc main_arg2) := by
  simp only [entryContents, afterL_cons, afterL_nil]
  after_reads_simp
  rfl

theorem entry2 : entryContents preI m c (Proc.devRef .tc main_v4_2) = m (c.tc.loc main_arg0) := by
  simp only [entryContents, afterL_cons, afterL_nil]
  after_reads_simp
  rfl

theorem entry4 : entryContents preI m c (Proc.devRef .tc main_v4_4) = m (c.tc.loc main_arg1) := by
  simp only [entryContents, afterL_cons, afterL_nil]
  after_reads_simp
  rfl

theorem entry5 : entryContents preI m c (Proc.devRef .tc main_v4_5) = fun _ => 0#1 := by
  simp only [entryContents, afterL_cons, afterL_nil]
  after_reads_simp
  rfl

abbrev At (k : Nat) : Valuation τ sig (Elt Ideal) := STEP^[k] (entryContents preI m c)

theorem at_succ (k : Nat) : At m c (k + 1) = STEP (At m c k) := Function.iterate_succ_apply' _ _ _

theorem at0 (k : Nat) : At m c k (Proc.devRef .tc main_v4_0) = fun y => BitVec.ofNat 32 ((y 0).val + 1) := by
  induction k with
  | zero => exact entry0 m c
  | succ k ih => rw [at_succ, STEP_main_v4_0, ih]

theorem at1 (k : Nat) : At m c k (Proc.devRef .tc main_v4_1) = m (c.tc.loc main_arg2) := by
  induction k with
  | zero => exact entry1 m c
  | succ k ih => rw [at_succ, STEP_main_v4_1, ih]

theorem at2 (k : Nat) : At m c k (Proc.devRef .tc main_v4_2) = m (c.tc.loc main_arg0) := by
  induction k with
  | zero => exact entry2 m c
  | succ k ih => rw [at_succ, STEP_main_v4_2, ih]

theorem at3 (k : Nat) : At m c k (Proc.devRef .tc main_v4_3) = fun _ => BitVec.ofNat 32 k := by
  induction k with
  | zero => exact ctr_entry m c
  | succ k ih =>
    rw [at_succ, STEP_main_v4_3]
    unfold step_main_v4_3
    rw [ih]
    refine funext fun y => ?_
    show BitVec.ofNat 32 k + 1#32 = _
    apply BitVec.eq_of_toNat_eq
    simp

theorem at45 (k : Nat) (hk : k < 16) (g : Fin 32) (a : Fin 64) (j : Fin 16) :
    At m c k (Proc.devRef .tc main_v4_4) (ix3 g a j)
        = scCsd (fun p q => m (c.tc.loc main_arg0) (ix4 g a p q)) (fun q => m (c.tc.loc main_arg1) (ix3 g a q)) (fun q => m (c.tc.loc main_arg2) (ix3 g a q)) k j
    ∧ At m c k (Proc.devRef .tc main_v4_5) (ix3 g a j)
        = if j.val ≤ k then scSwap (fun p q => m (c.tc.loc main_arg0) (ix4 g a p q)) (fun q => m (c.tc.loc main_arg1) (ix3 g a q)) (fun q => m (c.tc.loc main_arg2) (ix3 g a q)) j else 0#1 := by
  induction k generalizing j with
  | zero =>
    refine ⟨congrFun (entry4 m c) _, (congrFun (entry5 m c) _).trans ?_⟩
    by_cases h : j.val = 0
    · rw [if_pos (by omega), scSwap, if_pos h]
    · rw [if_neg (by omega)]
  | succ k ih =>
    have ih := ih (by omega)
    have hx := funext fun q => (ih q).1
    constructor
    · rw [at_succ, STEP_main_v4_4, csd _ k hk (at3 m c k) (at0 m c k), hx, at1, at2, scCsd_succ _ _ _ _ hk]
    · rw [at_succ, STEP_main_v4_5, swaps _ k hk (at3 m c k) (at0 m c k), bit _ k hk (at3 m c k) (at0 m c k), hx, at1, (ih j).2]
      by_cases h : j = ⟨k + 1, hk⟩
      · subst h
        rw [if_pos rfl, if_pos (Nat.le_refl _), scSwap, if_neg (by simp)]
        rfl
      · have h' : j.val ≠ k + 1 := fun e => h (Fin.ext e)
        rw [if_neg h]
        by_cases h'' : j.val ≤ k
        · rw [if_pos h'', if_pos (by omega)]
        · rw [if_neg h'', if_neg (by omega)]

theorem out_of (X : IVec S32x64x16 1) (fl : IVec S1 1) (g : Fin 32) (a : Fin 64) (j : Fin 16) :
    uitofp (F := Ideal) .f32 (xori X (broadcastInDim S32x64x16 ![0, 1, 2] bcast_S1x1x1_S32x64x16_0_1_2 (broadcastInDim S1x1x1 ![2] bcast_S1_S1x1x1_2 fl))) (ix3 g a j)
      = bitF (X (ix3 g a j) ^^^ fl (ix1 0)) := by
  pointwise []
  rfl

theorem out_eq : out_main_v8 (At m c 15) = sScan (A := 64) (m := 16) (m (c.tc.loc main_arg0)) (m (c.tc.loc main_arg1)) (m (c.tc.loc main_arg2)) ((m (c.tc.loc main_arg3)) (ix1 0)) := by
  unfold out_main_v8
  rw [show At m c 15 (Proc.devRef .tc main_arg3) = _ from iter_main_arg3 m c 15]
  refine funext fun (y : (⟨3, ![32, 64, 16]⟩ : Shape).Idx) => ?_
  obtain ⟨g, a, j, rfl⟩ : ∃ (g : Fin 32) (a : Fin 64) (j : Fin 16), y = ix3 g a j := ⟨_, _, _, eq_ix3 y⟩
  refine (out_of _ _ g a j).trans ?_
  rw [(at45 m c 15 (by omega) g a j).2, if_pos (by have := j.isLt; omega)]
  rfl

end

end Cert.Scan1Value
-- ==== Proof.Scan1Value.lean ====
module

public import proofs.«01_k».proof.Proof.Scan1Pay
public import proofs.«01_k».proof.Proof.Scan1Ref
public import proofs.«01_k».proof.Defs
public import Idealize.ShloMosaic.Lib.StableHlo.ReadAt

@[expose] public section

noncomputable section

namespace Cert.Scan1Value

open Idealize.ShloMosaic Idealize.ShloMosaic.TcCoe Idealize.SL.Sem Cert.Rounds Cert.Scan1Ideal Cert.Scan1Ideal.Gen Cert.Scan1Ideal.Value

theorem hz3 : (![0, 0, 0] : Fin 3 → Nat) = fun _ => 0 := by decide

theorem e0 : ∀ t : Fin cfg0.N, win0_0.index t = ![0, 0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)

variable (m : (ℓ : Loc nD τ sig) → Buf (Elt Ideal) ℓ) (c : Dev nD)

theorem blk0 (t : Fin cfg0.N) (n : Fin 32) (a : Fin 64) (p q : Fin 16) :
    iblk m c 0 t (ix4 n a p q) = (m (c.tc.loc main_arg0)) (ix4 n a p q) := by
  blk_simp [iblk, V_main_arg0, e0 t]
  refine congrArg _ (funext fun q => Fin.ext ?_)
  match q with
  | ⟨0, _⟩ => blk_simp [e0 t]
  | ⟨1, _⟩ => blk_simp [e0 t]
  | ⟨2, _⟩ => blk_simp [e0 t]
  | ⟨3, _⟩ => blk_simp [e0 t]

theorem blk1 (t : Fin cfg0.N) (n : Fin 32) (a : Fin 64) (p : Fin 16) :
    iblk m c 1 t (ix3 n a p) = (m (c.tc.loc main_arg1)) (ix3 n a p) := by
  blk_simp [iblk, V_main_arg1, e1 t]
  refine congrArg _ (funext fun q => Fin.ext ?_)
  match q with
  | ⟨0, _⟩ => blk_simp [e1 t]
  | ⟨1, _⟩ => blk_simp [e1 t]
  | ⟨2, _⟩ => blk_simp [e1 t]

theorem blk2 (t : Fin cfg0.N) (n : Fin 32) (a : Fin 64) (p : Fin 16) :
    iblk m c 2 t (ix3 n a p) = (m (c.tc.loc main_arg2)) (ix3 n a p) := by
  blk_simp [iblk, V_main_arg2, e2 t]
  refine congrArg _ (funext fun q => Fin.ext ?_)
  match q with
  | ⟨0, _⟩ => blk_simp [e2 t]
  | ⟨1, _⟩ => blk_simp [e2 t]
  | ⟨2, _⟩ => blk_simp [e2 t]

theorem blk3 (t : Fin cfg0.N) : iblk m c 3 t (ix3 0 0 0) = bitF ((m (c.tc.loc main_arg3)) (ix1 0)) := by
  have hv : V m c main_v1 = fun _ => bitF ((m (c.tc.loc main_arg3)) (ix1 0)) := by
    show StableHlo.after hostOps0 (fun b => m (c, b)) (Proc.tc.devRef main_v1) = _
    refine funext fun (y : (⟨3, ![1, 1, 1]⟩ : Shape).Idx) => ?_
    obtain ⟨a, b, d, rfl⟩ : ∃ (a b d : Fin 1), y = ix3 a b d := ⟨_, _, _, eq_ix3 y⟩
    obtain rfl : a = 0 := Subsingleton.elim _ _
    obtain rfl : b = 0 := Subsingleton.elim _ _
    obtain rfl : d = 0 := Subsingleton.elim _ _
    after_reads_at
    rfl
  exact congrFun hv _

theorem outs_eq (t : Fin cfg0.N) : outsAt0 m c t = k0_pay8 (st_k0_t1 Variants.none c none (grid0.coords t) (ms0_0 t) (hs0_0 t) (ms0_1 t) (hs0_1 t) (ms0_2 t) (hs0_2 t) (ms0_3 t) (hs0_3 t) (ms0_4 t) (hs0_4 t)
    (iblk m c 3 t) (iblk m c 2 t) ((hs0_0 t).unread (iblk m c 0 t)) (k0_pay2 (iblk m c 1 t), k0_pay3 (iblk m c 3 t)) 15).2 := by
  unfold outsAt0 out0_A_4
  dsimp only
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, View.readCov_eq_canon',
    View.ld_unit_zero (S := S32x64x16) hz3, View.ld_unit_zero (S := S1x1x1) hz3, View.canon_unit_zero (S := S32x64x16) hz3]
  rw [show Scf.trips 1#32 (Scalar.addi 1#32 15#32) 1#32 = 15 from trips_eq]

theorem emb4 (t : Fin cfg0.N) (n : Fin 32) (a : Fin 64) (e : Fin 16) : (win0_4.blk t).view.emb (ix3 n a e) = ix3 n a e := by
  refine funext fun q => Fin.ext ?_
  match q with
  | ⟨0, _⟩ => blk_simp [e4 t]
  | ⟨1, _⟩ => blk_simp [e4 t]
  | ⟨2, _⟩ => blk_simp [e4 t]

theorem final4 : (dats m 0 c).arrAt 4 cfg0.N = sScan (A := 64) (m := 16) (m (c.tc.loc main_arg0)) (m (c.tc.loc main_arg1)) (m (c.tc.loc main_arg2)) ((m (c.tc.loc main_arg3)) (ix1 0)) := by
  refine (dats m 0 c).arrAt_eq_of_covers 4 _ (by decide +kernel) fun t hf y => ?_
  blk_simp [e4 t]
  refine (congrFun ((after0_4 m c t).trans (outs_eq m c t)) y).trans ?_
  revert y
  refine fun (y : (⟨3, ![32, 64, 16]⟩ : Shape).Idx) => ?_
  obtain ⟨n, a, j, rfl⟩ : ∃ (n : Fin 32) (a : Fin 64) (j : Fin 16), y = ix3 n a j := ⟨_, _, _, eq_ix3 y⟩
  refine (pay8_apply ..).trans ?_
  refine Eq.trans ?_ (congrArg (sScan (A := 64) (m := 16) (m (c.tc.loc main_arg0)) (m (c.tc.loc main_arg1)) (m (c.tc.loc main_arg2)) ((m (c.tc.loc main_arg3)) (ix1 0))) (emb4 t n a j)).symm
  rw [(st_spec c none _ _ _ _ _ _ _ _ _ _ _ _ _ _ _ _ (blk3 m c t) 15 (Nat.le_refl _) n a j).2, if_pos (by have := j.isLt; omega)]
  simp only [blk0, blk1, blk2]
  rfl

theorem algebraic : Cert.algebraic_Scan1Ideal_RefScan1Ideal (hScan1Ideal := Cert.Scan1Ideal.Gen.facts) (hRefScan1Ideal := Cert.RefScan1Ideal.Gen.facts) := by
  intro m g m' g' _ hm
  refine ⟨_, run_blocks m g, ?_⟩
  refine (θ_run _ _ _).mono (fun r h c => ?_) (Cert.RefScan1Ideal.Value.run m' g')
  obtain ⟨h8, hk⟩ := h c
  obtain ⟨a0, a1, a2, a3⟩ := hm c
  refine ⟨h8.trans ?_, hk⟩
  rw [out_eq, final4, a0, a1, a2, a3]

end Cert.Scan1Value
-- ==== Proof.Sel1IdealRun.lean ====
module

public import proofs.«01_k».proof.Proof.Gen.Sel1Ideal.Frame
public import proofs.«01_k».proof.Proof.Gen.Sel1Ideal.Skeleton
public import Idealize.ShloMosaic.Lib.Claim

@[expose] public section

set_option maxRecDepth 16384

noncomputable section

namespace Cert.Sel1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each window's current staging memref at point `t`, and its wholeness. -/
abbrev ms0_0 (t : Fin cfg0.N) : Memref sig .tc .vmem S1x2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x64 .f32 := win0_4.stage (cfg0.slots t 4)
abbrev hs0_4 (t : Fin cfg0.N) : (ms0_4 t).IsWhole := hstage0_4 ((cfg0.slots t 4).cast nbuf0_4)

set_option maxHeartbeats 4000000 in
/-- The pieces the body stores into each output, and the body's triple. -/
noncomputable def kernelRun0_A (c : Dev nD) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x64x16 .f32) (harg3 : arg3.IsWhole) (arg4 : Memref sig .tc .vmem S1x1024x64 .f32) (harg4 : arg4.IsWhole) (arg5 : Memref sig .tc .vmem S1x1024x64 .f32) (harg5 : arg5.IsWhole)
    (x0 x1 : Vec F S1x2048x64 .f32) (x2 : Vec F S1x64x16 .f32) :
    Σ' (L3 : List (View.Piece (Elt F) S1x1024x64 .f32)), { L4 : List (View.Piece (Elt F) S1x1024x64 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__select_body i arg1 harg1 arg2 harg2 arg3 harg3 arg4 harg4 arg5 harg5) K } := by
  refine ⟨?_, ?_, fun E K => ?run⟩
  case run =>
    simp only [cc0__select_body_eq_skeleton]; unfold cc0__select_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.Sel1Ideal.Gen
-- ==== Proof.Sel1IdealFrame.lean ====
module

public import proofs.«01_k».proof.Proof.Sel1IdealRun
public import Idealize.ShloMosaic.Lib.WholeRead
public import Idealize.ShloMosaic.Lib.Claim

@[expose] public section

set_option maxRecDepth 16384

noncomputable section

namespace Cert.Sel1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The pieces -/

/-- The rows `j`, `j + 16`, … that trip `j` writes, from its column of swaps and the even and odd rows. -/
def sel (f : Vec F S1x64x1 .f32) (x y : Vec F S1x64x64 .f32) : Vec F S1x64x64 .f32 := k0_pay50 f x y
theorem inb_ld (d : Fin 32) : ∀ a, S1x64x64.size a = 0 ∨ (![0, d.val, 0] : Fin 3 → Nat) a + (![1, 32, 1] : Fin 3 → Nat) a * (S1x64x64.size a - 1) < S1x2048x64.size a := by
  revert d; decide
/-- Every 32nd row from row `d`. -/
def rows (d : Fin 32) (x : Vec F S1x2048x64 .f32) : Vec F S1x64x64 .f32 := fun j => x ((⟨![0, d.val, 0], ![1, 64, 64], ![1, 32, 1], inb_ld d⟩ : LoadRect S1x2048x64).idx j)
theorem inb_f (j : Fin 16) : ∀ a, (![0, 0, j.val] : Fin 3 → Nat) a + S1x64x1.size a ≤ S1x64x16.size a := by
  revert j; decide
theorem inb_st (j : Fin 16) : ∀ a, S1x64x64.size a = 0 ∨ (![0, j.val, 0] : Fin 3 → Nat) a + (![1, 16, 1] : Fin 3 → Nat) a * (S1x64x64.size a - 1) < S1x1024x64.size a := by
  revert j; decide
/-- What trip `j` stores, -/
def piece (f : Vec F S1x64x16 .f32) (x : Vec F S1x2048x64 .f32) (j : Fin 16) : View.Piece (Elt F) S1x1024x64 .f32 :=
  ⟨⟨(⟨![0, j.val, 0], ![1, 64, 64], ![1, 16, 1], inb_st j⟩ : LoadRect S1x1024x64), spos_1_16_1⟩,
    sel (View.ld f (Rect.unit ![0, 0, j.val] ![1, 64, 1] (inb_f j))) (rows ⟨2 * j.val, by omega⟩ x) (rows ⟨2 * j.val + 1, by omega⟩ x)⟩
/-- and all stores, the last first. -/
def P (f : Vec F S1x64x16 .f32) (x : Vec F S1x2048x64 .f32) : List (View.Piece (Elt F) S1x1024x64 .f32) := List.ofFn fun n : Fin 16 => piece f x n.rev

/-- Every row is written by the trip of its remainder. -/
theorem cover (f : Vec F S1x64x16 .f32) (x : Vec F S1x2048x64 .f32) (y : S1x1024x64.Idx) : ∃ pc ∈ P f x, y ∈ pc.1.set := by
  have h1 : (y 1).val < 1024 := (y 1).isLt
  refine ⟨piece f x ⟨(y 1).val % 16, by omega⟩, ?_, ?_⟩
  · unfold P
    rw [List.mem_ofFn]
    exact ⟨(⟨(y 1).val % 16, by omega⟩ : Fin 16).rev, by rw [Fin.rev_rev]⟩
  · refine (LoadRect.mem_set _).2 fun a => ?_
    match a with
    | ⟨0, _⟩ => exact ⟨0, Nat.zero_lt_one, by have : (y 0).val < 1 := (y 0).isLt; show (y 0).val = 0 + 1 * 0; omega⟩
    | ⟨1, _⟩ => exact ⟨(y 1).val / 16, by show (y 1).val / 16 < 64; omega, by show (y 1).val = (y 1).val % 16 + 16 * ((y 1).val / 16); omega⟩
    | ⟨2, _⟩ => exact ⟨(y 2).val, (y 2).isLt, by show (y 2).val = 0 + 1 * (y 2).val; omega⟩

section
variable (c : Dev nD) (i : grid0.Coords) (arg1 : Memref sig .tc .vmem S1x2048x64 .f32) (harg1 : arg1.IsWhole) (arg2 : Memref sig .tc .vmem S1x2048x64 .f32) (harg2 : arg2.IsWhole)
  (arg3 : Memref sig .tc .vmem S1x64x16 .f32) (harg3 : arg3.IsWhole) (arg4 : Memref sig .tc .vmem S1x1024x64 .f32) (harg4 : arg4.IsWhole) (arg5 : Memref sig .tc .vmem S1x1024x64 .f32) (harg5 : arg5.IsWhole)
  (x0 x1 : Vec F S1x2048x64 .f32) (x2 : Vec F S1x64x16 .f32)

theorem rows_read (a : Memref sig .tc .vmem S1x2048x64 .f32) (h : a.IsWhole) (x : Vec F S1x2048x64 .f32) (B : LoadRect S1x2048x64) :
    View.readAt (Elt F) a.view B (h.unread x) = fun j => x (B.idx j) := funext fun j => Memref.IsWhole.readAt_unread h x B j

theorem run_eq : (kernelRun0_A c i arg1 harg1 arg2 harg2 arg3 harg3 arg4 harg4 arg5 harg5 x0 x1 x2).1 = P x2 x0 ∧ (kernelRun0_A c i arg1 harg1 arg2 harg2 arg3 harg3 arg4 harg4 arg5 harg5 x0 x1 x2).2.1 = P x2 x1 := by
  unfold kernelRun0_A
  dsimp only
  sl_unfold_words
  simp only [View.readAt_eq_ld, harg3.read_unread, View.readCov_eq_canon', rows_read]
  exact ⟨rfl, rfl⟩

theorem fin3 (f) : arg4.view.read (Elt F) (arg4.view.writes (Elt F) f (kernelRun0_A c i arg1 harg1 arg2 harg2 arg3 harg3 arg4 harg4 arg5 harg5 x0 x1 x2).1) = View.canon (P x2 x0) := by
  rw [(run_eq ..).1]
  exact funext fun y => View.read_writes_apply_eq_canon _ _ y _ (cover x2 x0 y)

theorem fin4 (f) : arg5.view.read (Elt F) (arg5.view.writes (Elt F) f (kernelRun0_A c i arg1 harg1 arg2 harg2 arg3 harg3 arg4 harg4 arg5 harg5 x0 x1 x2).2.1) = View.canon (P x2 x1) := by
  rw [(run_eq ..).2]
  exact funext fun y => View.read_writes_apply_eq_canon _ _ y _ (cover x2 x1 y)
end

/-- What the outputs hold after the body at point `t`. -/
def outsAt0 (c : Dev nD) (t : Fin cfg0.N) : Vec F S1x1024x64 .f32 × Vec F S1x1024x64 .f32 :=
  (View.canon (P (iblk m c 2 t) (iblk m c 0 t)), View.canon (P (iblk m c 2 t) (iblk m c 1 t)))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  dsimp only
  iintro ⟨HΦ, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact fin3 ..
  unfold owns; iexists _; isplitr
  swap; · iexact H4
  ipureintro; exact fin4 ..

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run, with each output array named. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Sel1Ideal.Gen
-- ==== Proof.Sel1Ref.lean ====
module

public import proofs.«01_k».proof.Proof.Common
public import proofs.«01_k».proof.Proof.Gen.RefSel1Ideal.Read
public import Idealize.ShloMosaic.Lib.Pointwise

@[expose] public section

noncomputable section

namespace Cert.Sel1Value

open Idealize.ShloMosaic Cert.RefSel1Ideal.Facts₀ Idealize.ShloMosaic.TcCoe Idealize.SL.Sem Cert.Rounds Cert.RefSel1Ideal Cert.RefSel1Ideal.Value Cert.RefSel1Ideal.Read

variable (x0 x1 : (⟨S32x2048x64, .f32⟩ : BufTy).Contents (Elt Ideal)) (x2 : (⟨S32x64x16, .f32⟩ : BufTy).Contents (Elt Ideal))
    (g : Fin 32) (a : Fin 64) (j : Fin 16) (e : Fin 64)

theorem word_eq : ∀ (b : Bool) (j : Fin 16), (fun w => Scalar.select (IntOp.cmpi CmpIPredicate.slt w 0#32) (IntOp.addi w 32#32) w)
    (IntOp.addi (BitVec.setWidth 32 (BitVec.ofBool b)) (IntOp.addi 0#32 (IntOp.muli 2#32 (BitVec.ofNat 32 j.val)))) = BitVec.ofNat 32 (2 * j.val + b.toNat) := by
  decide +kernel

theorem word_ok : ∀ (b : Bool) (j : Fin 16), IntOp.andi 1#1 (IntOp.andi (IntOp.cmpi CmpIPredicate.sge (BitVec.ofNat 32 (2 * j.val + b.toNat)) 0#32)
    (IntOp.cmpi CmpIPredicate.sle (BitVec.ofNat 32 (2 * j.val + b.toNat)) 31#32)) = 1#1 := by decide +kernel

theorem word_nat : ∀ (b : Bool) (j : Fin 16), min (BitVec.ofNat 32 (2 * j.val + b.toNat)).toInt.toNat 31 = 2 * j.val + b.toNat := by decide +kernel

theorem gather_row (x : FVec Ideal S32x64x32x64 .f32) (k : IVec S32x64x16x64x1 32) (b : Bool) (h : k (ix5 g a j e 0) = BitVec.ofNat 32 (2 * j.val + b.toNat)) :
    Host.gather gather_S32x64x32x64_S32x64x16x64x1_S32x64x16x64_n_2_013_013_2_4_1111 x k (ix4 g a j e)
      = x (ix4 g a ⟨2 * j.val + b.toNat, by have := b.toNat_le; omega⟩ e) := by
  refine congrArg x (funext fun q => Fin.ext ?_)
  match q with
  | ⟨0, _⟩ => show 0 + g.val + 0 = g.val; omega
  | ⟨1, _⟩ => show 0 + a.val + 0 = a.val; omega
  | ⟨2, _⟩ =>
    show min (k _).toInt.toNat (32 - 1) + 0 + 0 = 2 * j.val + b.toNat
    have : k ((gather_S32x64x32x64_S32x64x16x64x1_S32x64x16x64_n_2_013_013_2_4_1111).siIdx (ix4 g a j e) (⟨0, by decide⟩)) = BitVec.ofNat 32 (2 * j.val + b.toNat) := by
      refine Eq.trans (congrArg k (funext fun q => ?_)) h
      match q with
      | ⟨0, _⟩ => rfl
      | ⟨1, _⟩ => rfl
      | ⟨2, _⟩ => rfl
      | ⟨3, _⟩ => rfl
      | ⟨4, _⟩ => rfl
    exact (congrArg (fun z : BitVec 32 => min z.toInt.toNat 31) this).trans (word_nat b j)
  | ⟨3, _⟩ => show 0 + e.val + 0 = e.val; omega

theorem cast_in (x : FVec Ideal S32x2048x64 .f32) (p : Fin 32) :
    shapeCast S32x64x32x64 x shapeCasts_S32x2048x64_S32x64x32x64 (ix4 g a p e) = x (ix3 g ⟨a.val * 32 + p.val, by have := a.isLt; have := p.isLt; omega⟩ e) :=
  shapeCast_apply x _ (ix4 g a p e) (ix3 g ⟨a.val * 32 + p.val, by have := a.isLt; have := p.isLt; omega⟩ e) (by
    rw [Shape.rowMajor_val_three, Shape.rowMajor_val_four]
    show (g.val * 2048 + (a.val * 32 + p.val)) * 64 + e.val = ((g.val * 64 + a.val) * 32 + p.val) * 64 + e.val
    omega)

theorem cast_out (x : FVec Ideal S32x64x16x64 .f32) (p : Fin 1024) (hp : p.val = a.val * 16 + j.val) :
    shapeCast S32x1024x64 x shapeCasts_S32x64x16x64_S32x1024x64 (ix3 g p e) = x (ix4 g a j e) :=
  shapeCast_apply x _ (ix3 g p e) (ix4 g a j e) (by
    rw [Shape.rowMajor_val_three, Shape.rowMajor_val_four]
    show ((g.val * 64 + a.val) * 16 + j.val) * 64 + e.val = (g.val * 1024 + p.val) * 64 + e.val
    omega)

theorem cast_word (x : IVec S32x64x16x64 32) : shapeCast S32x64x16x64x1 x shapeCasts_S32x64x16x64_S32x64x16x64x1 (ix5 g a j e 0) = x (ix4 g a j e) :=
  shapeCast_apply x _ (ix5 g a j e 0) (ix4 g a j e) (by
    rw [Shape.rowMajor_val_five, Shape.rowMajor_val_four]
    show ((g.val * 64 + a.val) * 16 + j.val) * 64 + e.val = (((g.val * 64 + a.val) * 16 + j.val) * 64 + e.val) * 1 + 0
    omega)

/-- The comparison that picks the row. -/
abbrev bit : Bool := decide (Ideal.ofBits FTy.f32 0x3F000000#32 < x2 (ix3 g a j))

theorem v13 (k : Fin 1) : val_main_v13 x2 (ix4 g a j k) = IntOp.addi (BitVec.setWidth 32 (BitVec.ofBool (bit x2 g a j))) (IntOp.addi 0#32 (IntOp.muli 2#32 (BitVec.ofNat 32 j.val))) := by
  pointwise [val_main_v13, val_main_v12, val_main_v11, val_main_v10, val_main_v9, val_main_v8, val_main_v7, val_main_v6, val_main_v5, val_main_v4, val_main_v3, val_main_v2, val_main_c, val_main_c_0, val_main_cst]

theorem call0_v5 : val_main_call0_v5 x2 (ix5 g a j e 0) = BitVec.ofNat 32 (2 * j.val + (bit x2 g a j).toNat) := by
  rw [← word_eq, ← v13 x2 g a j 0]
  refine (cast_word g a j e _).trans ?_
  pointwise [val_main_call0_v4, val_main_call0_v3, val_main_call0_v2, val_main_call0_v1, val_main_call0_v0, val_main_call0_c_0, val_main_call0_c, val_main_v14]

theorem call0_v12 : val_main_call0_v12 x2 (ix4 g a j e) = 1#1 := by
  pointwise [val_main_call0_v12, val_main_call0_v11, val_main_call0_v10, val_main_call0_v9, val_main_call0_v8, val_main_call0_v7, val_main_call0_v6, val_main_call0_c_1, val_main_call0_c_2, val_main_call0_c_3]
  rw [Finset.univ_unique, Finset.fold_singleton]
  refine (Std.Commutative.comm (op := IntOp.andi (w := 1)) _ _).trans (Eq.trans ?_ (word_ok (bit x2 g a j) j))
  rw [← call0_v5 x2 g a j e]
  rfl

theorem call0_v13 : val_main_call0_v13 x0 x2 (ix4 g a j e) = x0 (ix3 g ⟨a.val * 32 + (2 * j.val + (bit x2 g a j).toNat), by have := (bit x2 g a j).toNat_le; omega⟩ e) := by
  refine (gather_row g a j e _ _ _ (call0_v5 x2 g a j e)).trans ?_
  exact cast_in g a e x0 _

theorem v18 (p : Fin 1024) (hp : p.val = a.val * 16 + j.val) : val_main_v18 x0 x2 (ix3 g p e) = sSel (A := 64) (m := 16) rfl rfl x0 x2 (ix3 g p e) := by
  refine Eq.trans ?_ (sSel_apply (A := 64) (m := 16) rfl rfl x0 x2 g p e a j hp).symm
  refine (cast_out g a j e _ p hp).trans ?_
  pointwise [val_main_v15, val_main_call0_v14]
  rw [call0_v12, call0_v13]
  unfold bit
  split <;> rename_i h <;> simp [h, hp] <;> refine congrArg x0 (congrArg (fun r => ix3 g r e) (Fin.ext ?_)) <;> (show _ = _; dsimp only; omega)

theorem v18_eq : val_main_v18 x0 x2 = sSel (A := 64) (m := 16) rfl rfl x0 x2 := by
  funext y
  rw [eq_ix3 y]
  exact v18 x0 x2 _ ⟨(y 1).val / 16, by have : (y 1).val < 1024 := (y 1).isLt; omega⟩ ⟨(y 1).val % 16, by omega⟩ _ _ (by show (y 1).val = (y 1).val / 16 * 16 + (y 1).val % 16; omega)

theorem call1_v5 : val_main_call1_v5 x2 (ix5 g a j e 0) = BitVec.ofNat 32 (2 * j.val + (bit x2 g a j).toNat) := by
  rw [← word_eq, ← v13 x2 g a j 0]
  refine (cast_word g a j e _).trans ?_
  pointwise [val_main_call1_v4, val_main_call1_v3, val_main_call1_v2, val_main_call1_v1, val_main_call1_v0, val_main_call1_c_0, val_main_call1_c, val_main_v16]

theorem call1_v12 : val_main_call1_v12 x2 (ix4 g a j e) = 1#1 := by
  pointwise [val_main_call1_v12, val_main_call1_v11, val_main_call1_v10, val_main_call1_v9, val_main_call1_v8, val_main_call1_v7, val_main_call1_v6, val_main_call1_c_1, val_main_call1_c_2, val_main_call1_c_3]
  rw [Finset.univ_unique, Finset.fold_singleton]
  refine (Std.Commutative.comm (op := IntOp.andi (w := 1)) _ _).trans (Eq.trans ?_ (word_ok (bit x2 g a j) j))
  rw [← call1_v5 x2 g a j e]
  rfl

theorem call1_v13 : val_main_call1_v13 x1 x2 (ix4 g a j e) = x1 (ix3 g ⟨a.val * 32 + (2 * j.val + (bit x2 g a j).toNat), by have := (bit x2 g a j).toNat_le; omega⟩ e) := by
  refine (gather_row g a j e _ _ _ (call1_v5 x2 g a j e)).trans ?_
  exact cast_in g a e x1 _

theorem v19 (p : Fin 1024) (hp : p.val = a.val * 16 + j.val) : val_main_v19 x1 x2 (ix3 g p e) = sSel (A := 64) (m := 16) rfl rfl x1 x2 (ix3 g p e) := by
  refine Eq.trans ?_ (sSel_apply (A := 64) (m := 16) rfl rfl x1 x2 g p e a j hp).symm
  refine (cast_out g a j e _ p hp).trans ?_
  pointwise [val_main_v17, val_main_call1_v14]
  rw [call1_v12, call1_v13]
  unfold bit
  split <;> rename_i h <;> simp [h, hp] <;> refine congrArg x1 (congrArg (fun r => ix3 g r e) (Fin.ext ?_)) <;> (show _ = _; dsimp only; omega)

theorem v19_eq : val_main_v19 x1 x2 = sSel (A := 64) (m := 16) rfl rfl x1 x2 := by
  funext y
  rw [eq_ix3 y]
  exact v19 x1 x2 _ ⟨(y 1).val / 16, by have : (y 1).val < 1024 := (y 1).isLt; omega⟩ ⟨(y 1).val % 16, by omega⟩ _ _ (by show (y 1).val = (y 1).val / 16 * 16 + (y 1).val % 16; omega)

end Cert.Sel1Value
-- ==== Proof.Sel1Value.lean ====
module

public import proofs.«01_k».proof.Proof.Sel1Ref
public import proofs.«01_k».proof.Proof.Sel1IdealFrame
public import proofs.«01_k».proof.Defs
public import Idealize.ShloMosaic.Lib.Pipeline.ValueKit
public import Idealize.ShloMosaic.Lib.WholeRead

@[expose] public section

noncomputable section

namespace Cert.Sel1Value

open Idealize.ShloMosaic Idealize.ShloMosaic.TcCoe Idealize.SL.Sem Cert.Rounds Cert.Sel1Ideal Cert.Sel1Ideal.Gen

/-! ## One trip's rows -/

theorem sel_apply (f : Vec Ideal S1x64x1 .f32) (x y : Vec Ideal S1x64x64 .f32) (a : Fin 64) (e : Fin 64) :
    sel f x y (ix3 0 a e) = if Ideal.ofBits .f32 0x3F000000#32 < f (ix3 0 a 0) then y (ix3 0 a e) else x (ix3 0 a e) := by
  pointwise [sel, k0_pay50]

theorem rows_apply (d : Fin 32) (x : Vec Ideal S1x2048x64 .f32) (a : Fin 64) (e : Fin 64) (p : Fin 2048) (hp : p.val = d.val + 32 * a.val) : rows d x (ix3 0 a e) = x (ix3 0 p e) := by
  refine congrArg x (funext fun q => Fin.ext ?_)
  match q with
  | ⟨0, _⟩ => rfl
  | ⟨1, _⟩ => exact hp.symm
  | ⟨2, _⟩ => show 0 + 1 * e.val = e.val; omega

/-- The selected row of a block. -/
def G (f : Vec Ideal S1x64x16 .f32) (x : Vec Ideal S1x2048x64 .f32) : Vec Ideal S1x1024x64 .f32 := fun y =>
  have h1 : (y 1).val < 1024 := (y 1).isLt
  if Ideal.ofBits .f32 0x3F000000#32 < f (ix3 0 (⟨(y 1).val / 16, by omega⟩ : Fin 64) (⟨(y 1).val % 16, by omega⟩ : Fin 16)) then
    x (ix3 0 (⟨2 * (y 1).val + 1, by omega⟩ : Fin 2048) (y 2)) else x (ix3 0 (⟨2 * (y 1).val, by omega⟩ : Fin 2048) (y 2))

theorem G_apply (f : Vec Ideal S1x64x16 .f32) (x : Vec Ideal S1x2048x64 .f32) (p : Fin 1024) (e : Fin 64) (a : Fin 64) (j : Fin 16) (hp : p.val = a.val * 16 + j.val) :
    G f x (ix3 0 p e) = if Ideal.ofBits .f32 0x3F000000#32 < f (ix3 0 a j) then x (ix3 0 (⟨2 * p.val + 1, by omega⟩ : Fin 2048) e) else x (ix3 0 (⟨2 * p.val, by omega⟩ : Fin 2048) e) := by
  have ea : (⟨p.val / 16, by omega⟩ : Fin 64) = a := Fin.ext (by show p.val / 16 = a.val; omega)
  have ej : (⟨p.val % 16, by omega⟩ : Fin 16) = j := Fin.ext (by show p.val % 16 = j.val; omega)
  have ef : f (ix3 0 (⟨p.val / 16, by omega⟩ : Fin 64) (⟨p.val % 16, by omega⟩ : Fin 16)) = f (ix3 0 a j) := congrArg₂ (fun a j => f (ix3 0 a j)) ea ej
  rw [← ef]
  rfl

theorem piece_ok (f : Vec Ideal S1x64x16 .f32) (x : Vec Ideal S1x2048x64 .f32) (j : Fin 16) (y : (piece f x j).1.shape.Idx) : (piece f x j).2 y = G f x ((piece f x j).1.emb y) := by
  revert y
  refine fun (y : (⟨3, ![1, 64, 64]⟩ : Shape).Idx) => ?_
  obtain ⟨z, a, e, rfl⟩ : ∃ (z : Fin 1) (a : Fin 64) (e : Fin 64), y = ix3 z a e := ⟨_, _, _, eq_ix3 y⟩
  obtain rfl : z = 0 := Subsingleton.elim _ _
  have hj := j.isLt
  have h1 : (piece f x j).1.emb (ix3 0 a e) = (ix3 0 (⟨j.val + 16 * a.val, by omega⟩ : Fin 1024) e : S1x1024x64.Idx) := by
    refine funext fun q => Fin.ext ?_
    match q with
    | ⟨0, _⟩ => rfl
    | ⟨1, _⟩ => rfl
    | ⟨2, _⟩ => show 0 + 1 * e.val = e.val; omega
  have h2 : View.ld f (Rect.unit ![0, 0, j.val] ![1, 64, 1] (inb_f j)) (ix3 0 a 0) = f (ix3 0 a j) := by
    refine congrArg f (funext fun q => Fin.ext ?_)
    match q with
    | ⟨0, _⟩ => rfl
    | ⟨1, _⟩ => show 0 + 1 * a.val = a.val; omega
    | ⟨2, _⟩ => show j.val + 1 * 0 = j.val; omega
  rw [h1, G_apply f x ⟨j.val + 16 * a.val, by omega⟩ e a j (by show j.val + 16 * a.val = a.val * 16 + j.val; omega)]
  refine (sel_apply _ _ _ a e).trans ?_
  rw [h2, rows_apply _ x a e ⟨2 * (j.val + 16 * a.val) + 1, by omega⟩ (by show 2 * (j.val + 16 * a.val) + 1 = 2 * j.val + 1 + 32 * a.val; omega),
    rows_apply _ x a e ⟨2 * (j.val + 16 * a.val), by omega⟩ (by show 2 * (j.val + 16 * a.val) = 2 * j.val + 32 * a.val; omega)]

theorem canon_P (f : Vec Ideal S1x64x16 .f32) (x : Vec Ideal S1x2048x64 .f32) (p : Fin 1024) (e : Fin 64) : View.canon (P f x) (ix3 0 p e) = G f x (ix3 0 p e) := by
  refine View.canon_apply_of_pieces (G f x) (P f x) (fun q hq => ?_) (ix3 0 p e) (cover f x _)
  unfold P at hq
  rw [List.mem_ofFn] at hq
  obtain ⟨n, rfl⟩ := hq
  exact piece_ok f x _

/-! ## The blocks and the arrays -/

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, 0, 0] := (by decide +kernel : ∀ t : Fin grid0.N, _)
theorem e4 : ∀ t : Fin cfg0.N, win0_4.index t = ![(grid0.coords t 0).val, 0, 0] := (by decide +kernel : ∀ t : Fin grid0.N, _)

variable (m : (ℓ : Loc nD τ sig) → Buf (Elt Ideal) ℓ) (c : Dev nD)

theorem blk0 (t : Fin cfg0.N) (p : Fin 2048) (e : Fin 64) :
    iblk m c 0 t (ix3 0 p e) = (m (c.tc.loc main_arg0)) (ix3 (grid0.coords t 0) p e) := by
  blk_simp [iblk, V, e0 t]
  refine congrArg _ (funext fun q => Fin.ext ?_)
  match q with
  | ⟨0, _⟩ => blk_simp [e0 t]; rfl
  | ⟨1, _⟩ => blk_simp [e0 t]
  | ⟨2, _⟩ => blk_simp [e0 t]

theorem blk1 (t : Fin cfg0.N) (p : Fin 2048) (e : Fin 64) :
    iblk m c 1 t (ix3 0 p e) = (m (c.tc.loc main_arg1)) (ix3 (grid0.coords t 0) p e) := by
  blk_simp [iblk, V, e1 t]
  refine congrArg _ (funext fun q => Fin.ext ?_)
  match q with
  | ⟨0, _⟩ => blk_simp [e1 t]; rfl
  | ⟨1, _⟩ => blk_simp [e1 t]
  | ⟨2, _⟩ => blk_simp [e1 t]

theorem blk2 (t : Fin cfg0.N) (p : Fin 64) (e : Fin 16) :
    iblk m c 2 t (ix3 0 p e) = (m (c.tc.loc main_arg2)) (ix3 (grid0.coords t 0) p e) := by
  blk_simp [iblk, V, e2 t]
  refine congrArg _ (funext fun q => Fin.ext ?_)
  match q with
  | ⟨0, _⟩ => blk_simp [e2 t]; rfl
  | ⟨1, _⟩ => blk_simp [e2 t]
  | ⟨2, _⟩ => blk_simp [e2 t]

theorem emb3 (t : Fin cfg0.N) (j : Fin 1024) (e : Fin 64) : (win0_3.blk t).view.emb (ix3 0 j e) = ix3 (grid0.coords t 0) j e := by
  refine funext fun q => Fin.ext ?_
  match q with
  | ⟨0, _⟩ => blk_simp [e3 t]; rfl
  | ⟨1, _⟩ => blk_simp [e3 t]
  | ⟨2, _⟩ => blk_simp [e3 t]

theorem final3 : (dats m 0 c).arrAt 3 cfg0.N = sSel (A := 64) (m := 16) rfl rfl (m (c.tc.loc main_arg0)) (m (c.tc.loc main_arg2)) := by
  refine (dats m 0 c).arrAt_eq_of_covers 3 _ (by decide +kernel) fun t hf y => ?_
  blk_simp [e3 t]
  refine (congrFun ((after0_3 m c t).trans rfl) y).trans ?_
  revert y
  refine fun (y : (⟨3, ![1, 1024, 64]⟩ : Shape).Idx) => ?_
  obtain ⟨a, j, e, rfl⟩ : ∃ (a : Fin 1) (j : Fin 1024) (e : Fin 64), y = ix3 a j e := ⟨_, _, _, eq_ix3 y⟩
  obtain rfl : a = 0 := Subsingleton.elim _ _
  have hj := j.isLt
  have hp : j.val = j.val / 16 * 16 + j.val % 16 := by omega
  refine (canon_P _ _ j e).trans ((G_apply _ _ j e ⟨j.val / 16, by omega⟩ ⟨j.val % 16, by omega⟩ hp).trans (Eq.trans ?_ (congrArg (sSel (A := 64) (m := 16) rfl rfl (m (c.tc.loc main_arg0)) (m (c.tc.loc main_arg2))) (emb3 t j e)).symm))
  refine Eq.trans ?_ (sSel_apply (A := 64) (m := 16) rfl rfl (m (c.tc.loc main_arg0)) (m (c.tc.loc main_arg2)) (grid0.coords t 0) j e ⟨j.val / 16, by omega⟩ ⟨j.val % 16, by omega⟩ hp).symm
  rw [blk2, blk0, blk0]

theorem emb4 (t : Fin cfg0.N) (j : Fin 1024) (e : Fin 64) : (win0_4.blk t).view.emb (ix3 0 j e) = ix3 (grid0.coords t 0) j e := by
  refine funext fun q => Fin.ext ?_
  match q with
  | ⟨0, _⟩ => blk_simp [e4 t]; rfl
  | ⟨1, _⟩ => blk_simp [e4 t]
  | ⟨2, _⟩ => blk_simp [e4 t]

theorem final4 : (dats m 0 c).arrAt 4 cfg0.N = sSel (A := 64) (m := 16) rfl rfl (m (c.tc.loc main_arg1)) (m (c.tc.loc main_arg2)) := by
  refine (dats m 0 c).arrAt_eq_of_covers 4 _ (by decide +kernel) fun t hf y => ?_
  blk_simp [e4 t]
  refine (congrFun ((after0_4 m c t).trans rfl) y).trans ?_
  revert y
  refine fun (y : (⟨3, ![1, 1024, 64]⟩ : Shape).Idx) => ?_
  obtain ⟨a, j, e, rfl⟩ : ∃ (a : Fin 1) (j : Fin 1024) (e : Fin 64), y = ix3 a j e := ⟨_, _, _, eq_ix3 y⟩
  obtain rfl : a = 0 := Subsingleton.elim _ _
  have hj := j.isLt
  have hp : j.val = j.val / 16 * 16 + j.val % 16 := by omega
  refine (canon_P _ _ j e).trans ((G_apply _ _ j e ⟨j.val / 16, by omega⟩ ⟨j.val % 16, by omega⟩ hp).trans (Eq.trans ?_ (congrArg (sSel (A := 64) (m := 16) rfl rfl (m (c.tc.loc main_arg1)) (m (c.tc.loc main_arg2))) (emb4 t j e)).symm))
  refine Eq.trans ?_ (sSel_apply (A := 64) (m := 16) rfl rfl (m (c.tc.loc main_arg1)) (m (c.tc.loc main_arg2)) (grid0.coords t 0) j e ⟨j.val / 16, by omega⟩ ⟨j.val % 16, by omega⟩ hp).symm
  rw [blk2, blk1, blk1]

theorem algebraic : Cert.algebraic_Sel1Ideal_RefSel1Ideal (hSel1Ideal := Cert.Sel1Ideal.Gen.facts) (hRefSel1Ideal := Cert.RefSel1Ideal.Gen.facts) := by
  intro m g m' g' _ hm
  refine ⟨_, _, run_blocks m g, ?_⟩
  refine (θ_run _ _ _).mono (fun r h c => ?_) (Cert.RefSel1Ideal.Value.run m' g')
  obtain ⟨h18, h19, hk⟩ := h c
  obtain ⟨a0, a1, a2⟩ := hm c
  refine ⟨h18.trans ?_, h19.trans ?_, hk⟩
  · rw [Cert.RefSel1Ideal.Read.val_main_v18_eq, v18_eq, final3, a0, a2]
  · rw [Cert.RefSel1Ideal.Read.val_main_v19_eq, v19_eq, final4, a1, a2]

end Cert.Sel1Value
-- ==== Proof.AttnRef.lean ====
module

public import proofs.«01_k».proof.Proof.Common
public import proofs.«01_k».proof.Proof.Gen.RefAttnIdeal.Read
public import Idealize.ShloMosaic.Lib.Pointwise

@[expose] public section

noncomputable section

namespace Cert.AttnValue

open Idealize.ShloMosaic Idealize.ShloMosaic.TcCoe Idealize.SL.Sem Cert.Rounds Cert.RefAttnIdeal.Read

/-- The scale of the queries: the root of the inverse root of 64. -/
def st : EReal := (((Real.sqrt 8)⁻¹ : ℝ) : EReal)

theorem v2 (i : Shape.Idx ⟨0, ![]⟩) : val_main_v2 (F := Ideal) i = st := by
  have h64 : Real.sqrt 64 = 8 := by rw [show (64 : ℝ) = 8 ^ 2 by norm_num]; exact Real.sqrt_sq (by norm_num)
  have h8 : Real.sqrt (1 * (1 / 8)) = (Real.sqrt 8)⁻¹ := by rw [one_mul, one_div, Real.sqrt_inv]
  have c64 : Ideal.ofBits .f32 0x42800000#32 = ((64 : ℝ) : EReal) := by
    simp [Ideal.ofBits, Ideal.ieee, -EReal.coe_mul]; norm_num
  pointwise [val_main_v2, val_main_v1, val_main_v0, val_main_cst, val_main_cst_0]
  rw [c64, Ideal.sqrt_coe, if_neg (by norm_num), h64, Ideal.div_coe (by norm_num), ← EReal.coe_one, ← EReal.coe_mul, Ideal.sqrt_coe, if_neg (by norm_num), h8]
  rfl

def score (q : Fin 64 → EReal) (k : Fin 128 → Fin 64 → EReal) (j : Fin 128) : EReal := ∑ e, q e * st * k j e
def top (s : Fin 128 → EReal) : EReal := Finset.univ.fold max ⊥ s
def wgt (s : Fin 128 → EReal) (j : Fin 128) : EReal := Ideal.exp (s j - top s)
def att (q : Fin 64 → EReal) (k v : Fin 128 → Fin 64 → EReal) (d : Fin 64) : EReal :=
  ∑ j, Ideal.div (wgt (score q k) j) (∑ i, wgt (score q k) i) * v j d

variable (x0 : FVec Ideal ⟨4, ![2, 4096, 16, 64]⟩ .f32) (x1 x2 : FVec Ideal ⟨4, ![2, 16, 128, 64]⟩ .f32) (b : Fin 2) (h : Fin 16) (t : Fin 4096) (d : Fin 64)

abbrev sc : Fin 128 → EReal := score (fun e => x0 (ix4 b t h e)) (fun j e => x1 (ix4 b h j e))

theorem v4 (j : Fin 128) : val_main_v7 (F := Ideal) x0 x1 (ix4 b h t j) = sc x0 x1 b h t j := by
  unfold sc score
  pointwise [val_main_v7, val_main_v5, val_main_v4, val_main_v3]
  rw [v2]

theorem v5 : val_main_v8 (F := Ideal) x0 x1 (ix3 b h t) = top (sc x0 x1 b h t) := by
  unfold top
  pointwise [val_main_v8, val_main_cst_1]
  rw [ofBits_ninf_f32]
  exact congrArg (fun f => Finset.univ.fold max ⊥ f) (funext fun j => v4 x0 x1 b h t j)

theorem v6 : val_main_v9 (F := Ideal) (ix3 b h t) = ⊥ := by
  rw [val_main_v9_apply, val_main_cst_2_apply]
  exact ofBits_ninf_f32

theorem v7 : val_main_v10 (F := Ideal) x0 x1 (ix3 b h t) = top (sc x0 x1 b h t) := by
  rw [val_main_v10_apply, Ideal.maximumf_def, v6, v5, max_bot_left]

theorem v9 (j : Fin 128) : val_main_v12 (F := Ideal) x0 x1 (ix4 b h t j) = top (sc x0 x1 b h t) := by
  refine Eq.trans ?_ (v7 x0 x1 b h t)
  pointwise [val_main_v12, val_main_v11]

theorem v11 (j : Fin 128) : val_main_v14 (F := Ideal) x0 x1 (ix4 b h t j) = wgt (sc x0 x1 b h t) j := by
  unfold wgt
  rw [← v4, ← v9 x0 x1 b h t j]
  pointwise [val_main_v14, val_main_v13]

theorem v12 : val_main_v15 (F := Ideal) x0 x1 (ix3 b h t) = ∑ j, wgt (sc x0 x1 b h t) j := by
  pointwise [val_main_v15, val_main_cst_3]
  exact Finset.sum_congr rfl fun j _ => v11 x0 x1 b h t j

theorem v15 (j : Fin 128) : val_main_v18 (F := Ideal) x0 x1 (ix4 b h t j) = Ideal.div (wgt (sc x0 x1 b h t) j) (∑ i, wgt (sc x0 x1 b h t) i) := by
  rw [← v11, ← v12]
  pointwise [val_main_v18, val_main_v17, val_main_v16]

theorem v17 : val_main_v20 (F := Ideal) x0 x1 x2 (ix4 b t h d) = att (fun e => x0 (ix4 b t h e)) (fun j e => x1 (ix4 b h j e)) (fun j e => x2 (ix4 b h j e)) d := by
  unfold att
  pointwise [val_main_v20, val_main_v19, val_main_v6]
  refine Finset.sum_congr rfl fun j _ => ?_
  refine (mul_comm _ _).trans (congrArg (· * _) (v15 x0 x1 b h t j))

/-- The attention of every query over its 128 keys, head by head. -/
def sAtt : FVec Ideal ⟨4, ![2, 4096, 16, 64]⟩ .f32 := fun y =>
  att (fun e => x0 (ix4 (y 0) (y 1) (y 2) e)) (fun j e => x1 (ix4 (y 0) (y 2) j e)) (fun j e => x2 (ix4 (y 0) (y 2) j e)) (y 3)

theorem v17_eq : val_main_v20 (F := Ideal) x0 x1 x2 = sAtt x0 x1 x2 := by
  funext y
  rw [eq_ix4 y]
  exact v17 ..

end Cert.AttnValue
-- ==== Proof.AttnPay.lean ====
module

public import proofs.«01_k».proof.Proof.AttnRef
public import proofs.«01_k».proof.Proof.Gen.AttnIdeal.Value
public import Idealize.ShloMosaic.Lib.Pointwise
public import Idealize.ShloMosaic.Lib.Pipeline.ValueKit

@[expose] public section

noncomputable section

namespace Cert.AttnValue

open Idealize.ShloMosaic Idealize.ShloMosaic.TcCoe Idealize.SL.Sem Cert.Rounds Cert.AttnIdeal Cert.AttnIdeal.Gen

/-- The kernel's named constant is the scale. -/
theorem named_st : Named.named (F := Ideal) Cert.AttnIdeal.κ "st" (φ := .f32) 0x3EB504F3#32 = st :=
  IdealRules.named_const.ideal_named_scalar _ _ _ _ rfl

theorem pay3_apply (q : Vec Ideal S1x1024x1x64 .f32) (k v : Vec Ideal S1x1x128x64 .f32) (t : Fin 1024) (d : Fin 64) :
    k0_pay3 q k v (ix4 0 t 0 d) = att (fun e => q (ix4 0 t 0 e)) (fun j e => k (ix4 0 0 j e)) (fun j e => v (ix4 0 0 j e)) d := by
  unfold att wgt top score
  rw [← ofBits_ninf_f32, ← named_st]
  pointwise [k0_pay3]

variable (x0 : Vec Ideal S1x1024x16x64 .f32) (x1 x2 : Vec Ideal S1x16x128x64 .f32)

/-- What one block of the result holds. -/
def bAtt (y : S1x1024x16x64.Idx) : EReal :=
  att (fun e => x0 (ix4 0 (y 1) (y 2) e)) (fun j e => x1 (ix4 0 (y 2) j e)) (fun j e => x2 (ix4 0 (y 2) j e)) (y 3)

theorem piece (h : Fin 16) (i0 : ∀ a, ![0, 0, h.val, 0] a + S1x1024x1x64.size a ≤ S1x1024x16x64.size a)
    (i1 : ∀ a, ![0, h.val, 0, 0] a + S1x1x128x64.size a ≤ S1x16x128x64.size a) (x : S1x1024x1x64.Idx) :
    k0_pay3 (View.ld x0 (Rect.unit (s := S1x1024x16x64) ![0, 0, h.val, 0] S1x1024x1x64.size i0))
      (View.ld x1 (Rect.unit (s := S1x16x128x64) ![0, h.val, 0, 0] S1x1x128x64.size i1))
      (View.ld x2 (Rect.unit (s := S1x16x128x64) ![0, h.val, 0, 0] S1x1x128x64.size i1)) x
      = bAtt x0 x1 x2 ((Rect.unit (s := S1x1024x16x64) ![0, 0, h.val, 0] S1x1024x1x64.size i0).emb x) := by
  have e0 (t : Fin 1024) (e : Fin 64) : (Rect.unit (s := S1x1024x16x64) ![0, 0, h.val, 0] S1x1024x1x64.size i0).emb (ix4 0 t 0 e) = ix4 0 t h e := by
    refine funext fun q => Fin.ext ?_
    match q with
    | ⟨0, _⟩ => rfl
    | ⟨1, _⟩ => show 0 + 1 * t.val = t.val; omega
    | ⟨2, _⟩ => show h.val + 1 * 0 = h.val; omega
    | ⟨3, _⟩ => show 0 + 1 * e.val = e.val; omega
  have e1 (j : Fin 128) (e : Fin 64) : (Rect.unit (s := S1x16x128x64) ![0, h.val, 0, 0] S1x1x128x64.size i1).emb (ix4 0 0 j e) = ix4 0 h j e := by
    refine funext fun q => Fin.ext ?_
    match q with
    | ⟨0, _⟩ => rfl
    | ⟨1, _⟩ => show h.val + 1 * 0 = h.val; omega
    | ⟨2, _⟩ => show 0 + 1 * j.val = j.val; omega
    | ⟨3, _⟩ => show 0 + 1 * e.val = e.val; omega
  obtain ⟨a, t, b, d, rfl⟩ : ∃ (a : Fin 1) (t : Fin 1024) (b : Fin 1) (d : Fin 64), x = ix4 a t b d := ⟨_, _, _, _, eq_ix4 x⟩
  obtain rfl : a = 0 := Subsingleton.elim _ _
  obtain rfl : b = 0 := Subsingleton.elim _ _
  refine (pay3_apply _ _ _ t d).trans (Eq.trans ?_ (congrArg (bAtt x0 x1 x2) (e0 t d)).symm)
  have f0 : (fun e => View.ld x0 (Rect.unit (s := S1x1024x16x64) ![0, 0, h.val, 0] S1x1024x1x64.size i0) (ix4 0 t 0 e)) = fun e => x0 (ix4 0 t h e) :=
    funext fun e => congrArg x0 (e0 t e)
  have f1 (x1 : Vec Ideal S1x16x128x64 .f32) : (fun j e => View.ld x1 (Rect.unit (s := S1x16x128x64) ![0, h.val, 0, 0] S1x1x128x64.size i1) (ix4 0 0 j e)) = fun j e => x1 (ix4 0 h j e) :=
    funext fun j => funext fun e => congrArg x1 (e1 j e)
  rw [f0, f1, f1]
  rfl

theorem out_eq : out0_3 x0 x1 x2 = bAtt x0 x1 x2 := by
  funext y
  refine View.canon_apply_of_pieces (Val := Elt Ideal) (e := .f32) (bAtt x0 x1 x2) _ ?_ y (cover0_3 _ _ _ _ _ _ _ _ _ _ _ _ _ _ _ _ y)
  simp only [List.forall_mem_cons]
  refine ⟨?_, ?_, ?_, ?_, ?_, ?_, ?_, ?_, ?_, ?_, ?_, ?_, ?_, ?_, ?_, ?_, by simp⟩
  · exact piece x0 x1 x2 15 _ _
  · exact piece x0 x1 x2 14 _ _
  · exact piece x0 x1 x2 13 _ _
  · exact piece x0 x1 x2 12 _ _
  · exact piece x0 x1 x2 11 _ _
  · exact piece x0 x1 x2 10 _ _
  · exact piece x0 x1 x2 9 _ _
  · exact piece x0 x1 x2 8 _ _
  · exact piece x0 x1 x2 7 _ _
  · exact piece x0 x1 x2 6 _ _
  · exact piece x0 x1 x2 5 _ _
  · exact piece x0 x1 x2 4 _ _
  · exact piece x0 x1 x2 3 _ _
  · exact piece x0 x1 x2 2 _ _
  · exact piece x0 x1 x2 1 _ _
  · exact piece x0 x1 x2 0 _ _

end Cert.AttnValue
-- ==== Proof.AttnValue.lean ====
module

public import proofs.«01_k».proof.Proof.AttnPay
public import proofs.«01_k».proof.Defs

@[expose] public section

noncomputable section

namespace Cert.AttnValue

open Idealize.ShloMosaic Idealize.ShloMosaic.TcCoe Idealize.SL.Sem Cert.Rounds Cert.AttnIdeal Cert.AttnIdeal.Gen Cert.AttnIdeal.Value

theorem e0 : ∀ t : Fin cfg0.N, win0_0.index t = ![(grid0.coords t 0).val, (grid0.coords t 1).val, 0, 0] := (by decide +kernel : ∀ t : Fin grid0.N, _)
theorem e1 : ∀ t : Fin cfg0.N, win0_1.index t = ![(grid0.coords t 0).val, 0, 0, 0] := (by decide +kernel : ∀ t : Fin grid0.N, _)
theorem e2 : ∀ t : Fin cfg0.N, win0_2.index t = ![(grid0.coords t 0).val, 0, 0, 0] := (by decide +kernel : ∀ t : Fin grid0.N, _)
theorem e3 : ∀ t : Fin cfg0.N, win0_3.index t = ![(grid0.coords t 0).val, (grid0.coords t 1).val, 0, 0] := (by decide +kernel : ∀ t : Fin grid0.N, _)

variable (m : (ℓ : Loc nD τ sig) → Buf (Elt Ideal) ℓ) (c : Dev nD)

/-- The place in the whole array of a query of a block. -/
def row (t : Fin cfg0.N) (p : Fin 1024) : Fin 4096 := ⟨(grid0.coords t 1).val * 1024 + p.val, by
  have : (grid0.coords t 1).val < 4 := (grid0.coords t 1).isLt
  omega⟩

theorem blk0 (t : Fin cfg0.N) (p : Fin 1024) (h : Fin 16) (e : Fin 64) :
    iblk m c 0 t (ix4 0 p h e) = (m (c.tc.loc main_arg0)) (ix4 (grid0.coords t 0) (row t p) h e) := by
  blk_simp [iblk, V, e0 t]
  refine congrArg _ (funext fun q => Fin.ext ?_)
  match q with
  | ⟨0, _⟩ => blk_simp [e0 t]; rfl
  | ⟨1, _⟩ => blk_simp [e0 t]; rfl
  | ⟨2, _⟩ => blk_simp [e0 t]
  | ⟨3, _⟩ => blk_simp [e0 t]

theorem blk1 (t : Fin cfg0.N) (h : Fin 16) (j : Fin 128) (e : Fin 64) :
    iblk m c 1 t (ix4 0 h j e) = (m (c.tc.loc main_arg1)) (ix4 (grid0.coords t 0) h j e) := by
  blk_simp [iblk, V, e1 t]
  refine congrArg _ (funext fun q => Fin.ext ?_)
  match q with
  | ⟨0, _⟩ => blk_simp [e1 t]; rfl
  | ⟨1, _⟩ => blk_simp [e1 t]
  | ⟨2, _⟩ => blk_simp [e1 t]
  | ⟨3, _⟩ => blk_simp [e1 t]

theorem blk2 (t : Fin cfg0.N) (h : Fin 16) (j : Fin 128) (e : Fin 64) :
    iblk m c 2 t (ix4 0 h j e) = (m (c.tc.loc main_arg2)) (ix4 (grid0.coords t 0) h j e) := by
  blk_simp [iblk, V, e2 t]
  refine congrArg _ (funext fun q => Fin.ext ?_)
  match q with
  | ⟨0, _⟩ => blk_simp [e2 t]; rfl
  | ⟨1, _⟩ => blk_simp [e2 t]
  | ⟨2, _⟩ => blk_simp [e2 t]
  | ⟨3, _⟩ => blk_simp [e2 t]

theorem emb3 (t : Fin cfg0.N) (p : Fin 1024) (h : Fin 16) (e : Fin 64) :
    (win0_3.blk t).view.emb (ix4 0 p h e) = ix4 (grid0.coords t 0) (row t p) h e := by
  refine funext fun q => Fin.ext ?_
  match q with
  | ⟨0, _⟩ => blk_simp [e3 t]; rfl
  | ⟨1, _⟩ => blk_simp [e3 t]; rfl
  | ⟨2, _⟩ => blk_simp [e3 t]
  | ⟨3, _⟩ => blk_simp [e3 t]

theorem final3 : (dats m 0 c).arrAt 3 cfg0.N = sAtt (m (c.tc.loc main_arg0)) (m (c.tc.loc main_arg1)) (m (c.tc.loc main_arg2)) := by
  refine (dats m 0 c).arrAt_eq_of_covers 3 _ (by decide +kernel) fun t hf y => ?_
  blk_simp [e3 t]
  refine (congrFun ((after0_3 m c t).trans (out_eq ..)) y).trans ?_
  revert y
  refine fun (y : (⟨4, ![1, 1024, 16, 64]⟩ : Shape).Idx) => ?_
  obtain ⟨a, p, h, d, rfl⟩ : ∃ (a : Fin 1) (p : Fin 1024) (h : Fin 16) (d : Fin 64), y = ix4 a p h d := ⟨_, _, _, _, eq_ix4 y⟩
  obtain rfl : a = 0 := Subsingleton.elim _ _
  refine Eq.trans ?_ (congrArg (sAtt (m (c.tc.loc main_arg0)) (m (c.tc.loc main_arg1)) (m (c.tc.loc main_arg2))) (emb3 t p h d)).symm
  have f0 : (fun e => iblk m c 0 t (ix4 0 p h e)) = fun e => (m (c.tc.loc main_arg0)) (ix4 (grid0.coords t 0) (row t p) h e) := funext fun e => blk0 m c t p h e
  have f1 : (fun j e => iblk m c 1 t (ix4 0 h j e)) = fun j e => (m (c.tc.loc main_arg1)) (ix4 (grid0.coords t 0) h j e) := funext fun j => funext fun e => blk1 m c t h j e
  have f2 : (fun j e => iblk m c 2 t (ix4 0 h j e)) = fun j e => (m (c.tc.loc main_arg2)) (ix4 (grid0.coords t 0) h j e) := funext fun j => funext fun e => blk2 m c t h j e
  show att (fun e => iblk m c 0 t (ix4 0 p h e)) (fun j e => iblk m c 1 t (ix4 0 h j e)) (fun j e => iblk m c 2 t (ix4 0 h j e)) d = _
  rw [f0, f1, f2]
  rfl

theorem algebraic : Cert.algebraic_AttnIdeal_RefAttnIdeal (hAttnIdeal := Cert.AttnIdeal.Gen.facts) (hRefAttnIdeal := Cert.RefAttnIdeal.Gen.facts) := by
  intro m g m' g' _ hm
  refine ⟨_, run_blocks m g, ?_⟩
  refine (θ_run _ _ _).mono (fun r h c => ?_) (Cert.RefAttnIdeal.Value.run m' g')
  obtain ⟨h17, hk⟩ := h c
  obtain ⟨a0, a1, a2⟩ := hm c
  refine ⟨h17.trans ?_, hk⟩
  rw [Cert.RefAttnIdeal.Read.val_main_v20_eq, v17_eq, final3, a0, a1, a2]

/-- The one constant the idealized program names: the scale, which its literal rounds. -/
theorem preserves : Cert.preserves_Attn_AttnIdeal :=
  IdealRules.named_const.statement Cert.AttnIdeal.κ "st" .f32 0x3EB504F3#32 (((Real.sqrt 8)⁻¹ : ℝ) : EReal) rfl

end Cert.AttnValue
-- ==== Proof.lean ====
module

public import proofs.«01_k».proof.Defs
public import proofs.«01_k».proof.Proof.Gen.RefKd4Ideal.Read
public import proofs.«01_k».proof.Proof.Gen.Kd4Ideal.Value
public import proofs.«01_k».proof.Proof.Gen.RefKd4Ideal.Run
public import proofs.«01_k».proof.Proof.Gen.Kd4.Frame
public import proofs.«01_k».proof.Proof.Gen.Kd4Ideal.Frame
public import proofs.«01_k».proof.Proof.Kd4Value
public import proofs.«01_k».proof.Proof.Gen.Scan4Ideal.Value
public import proofs.«01_k».proof.Proof.Gen.RefScan4Ideal.Run
public import proofs.«01_k».proof.Proof.Gen.Scan4.Frame
public import proofs.«01_k».proof.Proof.Gen.Scan4Ideal.Frame
public import proofs.«01_k».proof.Proof.Scan4Value
public import proofs.«01_k».proof.Proof.Gen.RefSel4Ideal.Read
public import proofs.«01_k».proof.Proof.Gen.Sel4Ideal.Value
public import proofs.«01_k».proof.Proof.Gen.RefSel4Ideal.Run
public import proofs.«01_k».proof.Proof.Gen.Sel4.Frame
public import proofs.«01_k».proof.Proof.Gen.Sel4Ideal.Frame
public import proofs.«01_k».proof.Proof.Sel4Value
public import proofs.«01_k».proof.Proof.Gen.RefKd3Ideal.Read
public import proofs.«01_k».proof.Proof.Kd3Frame
public import proofs.«01_k».proof.Proof.Kd3IdealFrame
public import proofs.«01_k».proof.Proof.Gen.RefKd3Ideal.Run
public import proofs.«01_k».proof.Proof.Gen.Kd3.Frame
public import proofs.«01_k».proof.Proof.Gen.Kd3Ideal.Frame
public import proofs.«01_k».proof.Proof.Kd3Value
public import proofs.«01_k».proof.Proof.Gen.Scan3Ideal.Value
public import proofs.«01_k».proof.Proof.Gen.RefScan3Ideal.Run
public import proofs.«01_k».proof.Proof.Gen.Scan3.Frame
public import proofs.«01_k».proof.Proof.Gen.Scan3Ideal.Frame
public import proofs.«01_k».proof.Proof.Scan3Value
public import proofs.«01_k».proof.Proof.Gen.RefSel3Ideal.Read
public import proofs.«01_k».proof.Proof.Gen.Sel3Ideal.Value
public import proofs.«01_k».proof.Proof.Gen.RefSel3Ideal.Run
public import proofs.«01_k».proof.Proof.Gen.Sel3.Frame
public import proofs.«01_k».proof.Proof.Gen.Sel3Ideal.Frame
public import proofs.«01_k».proof.Proof.Sel3Value
public import proofs.«01_k».proof.Proof.Gen.RefKd2Ideal.Read
public import proofs.«01_k».proof.Proof.Kd2Frame
public import proofs.«01_k».proof.Proof.Kd2IdealFrame
public import proofs.«01_k».proof.Proof.Gen.RefKd2Ideal.Run
public import proofs.«01_k».proof.Proof.Gen.Kd2.Frame
public import proofs.«01_k».proof.Proof.Gen.Kd2Ideal.Frame
public import proofs.«01_k».proof.Proof.Kd2Value
public import proofs.«01_k».proof.Proof.Gen.Scan2Ideal.Value
public import proofs.«01_k».proof.Proof.Gen.RefScan2Ideal.Run
public import proofs.«01_k».proof.Proof.Gen.Scan2.Frame
public import proofs.«01_k».proof.Proof.Gen.Scan2Ideal.Frame
public import proofs.«01_k».proof.Proof.Scan2Value
public import proofs.«01_k».proof.Proof.Gen.RefSel2Ideal.Read
public import proofs.«01_k».proof.Proof.Gen.Sel2Ideal.Value
public import proofs.«01_k».proof.Proof.Gen.RefSel2Ideal.Run
public import proofs.«01_k».proof.Proof.Gen.Sel2.Frame
public import proofs.«01_k».proof.Proof.Gen.Sel2Ideal.Frame
public import proofs.«01_k».proof.Proof.Sel2Value
public import proofs.«01_k».proof.Proof.Gen.RefKd1Ideal.Read
public import proofs.«01_k».proof.Proof.Kd1Frame
public import proofs.«01_k».proof.Proof.Kd1IdealFrame
public import proofs.«01_k».proof.Proof.Gen.RefKd1Ideal.Run
public import proofs.«01_k».proof.Proof.Gen.Kd1.Frame
public import proofs.«01_k».proof.Proof.Gen.Kd1Ideal.Frame
public import proofs.«01_k».proof.Proof.Kd1Value
public import proofs.«01_k».proof.Proof.Gen.Scan1Ideal.Value
public import proofs.«01_k».proof.Proof.Gen.RefScan1Ideal.Run
public import proofs.«01_k».proof.Proof.Gen.Scan1.Frame
public import proofs.«01_k».proof.Proof.Gen.Scan1Ideal.Frame
public import proofs.«01_k».proof.Proof.Scan1Value
public import proofs.«01_k».proof.Proof.Gen.RefSel1Ideal.Read
public import proofs.«01_k».proof.Proof.Sel1Frame
public import proofs.«01_k».proof.Proof.Sel1IdealFrame
public import proofs.«01_k».proof.Proof.Gen.RefSel1Ideal.Run
public import proofs.«01_k».proof.Proof.Gen.Sel1.Frame
public import proofs.«01_k».proof.Proof.Gen.Sel1Ideal.Frame
public import proofs.«01_k».proof.Proof.Sel1Value
public import proofs.«01_k».proof.Proof.Gen.RefAttnIdeal.Read
public import proofs.«01_k».proof.Proof.Gen.AttnIdeal.Value
public import proofs.«01_k».proof.Proof.Gen.RefAttnIdeal.Run
public import proofs.«01_k».proof.Proof.Gen.Attn.Frame
public import proofs.«01_k».proof.Proof.Gen.AttnIdeal.Frame
public import proofs.«01_k».proof.Proof.AttnValue

@[expose] public section

noncomputable section

namespace Cert.Proof

open Idealize.ShloMosaic Idealize.SL.Sem

/-! The frames of the references: their runs, read at the arguments. -/

theorem frame_refKd4 : Cert.quiescent_RefKd4Ideal (hRefKd4Ideal := Cert.RefKd4Ideal.Gen.facts) := fun m g _ =>
  (θ_run Cert.RefKd4Ideal.defs _ _).mono (fun r h => ⟨fun c => (h c).2.2.2, sem_eq_zero_of_no_sems (by decide) r.2⟩)
    (Cert.RefKd4Ideal.Value.run m g)

theorem frame_refScan4 : Cert.quiescent_RefScan4Ideal (hRefScan4Ideal := Cert.RefScan4Ideal.Gen.facts) := fun m g _ =>
  (θ_run Cert.RefScan4Ideal.defs _ _).mono (fun r h => ⟨fun c => (h c).2, sem_eq_zero_of_no_sems (by decide) r.2⟩)
    (Cert.RefScan4Ideal.Value.run m g)

theorem frame_refSel4 : Cert.quiescent_RefSel4Ideal (hRefSel4Ideal := Cert.RefSel4Ideal.Gen.facts) := fun m g _ =>
  (θ_run Cert.RefSel4Ideal.defs _ _).mono (fun r h => ⟨fun c => (h c).2.2, sem_eq_zero_of_no_sems (by decide) r.2⟩)
    (Cert.RefSel4Ideal.Value.run m g)

theorem frame_refKd3 : Cert.quiescent_RefKd3Ideal (hRefKd3Ideal := Cert.RefKd3Ideal.Gen.facts) := fun m g _ =>
  (θ_run Cert.RefKd3Ideal.defs _ _).mono (fun r h => ⟨fun c => (h c).2.2.2, sem_eq_zero_of_no_sems (by decide) r.2⟩)
    (Cert.RefKd3Ideal.Value.run m g)

theorem frame_refScan3 : Cert.quiescent_RefScan3Ideal (hRefScan3Ideal := Cert.RefScan3Ideal.Gen.facts) := fun m g _ =>
  (θ_run Cert.RefScan3Ideal.defs _ _).mono (fun r h => ⟨fun c => (h c).2, sem_eq_zero_of_no_sems (by decide) r.2⟩)
    (Cert.RefScan3Ideal.Value.run m g)

theorem frame_refSel3 : Cert.quiescent_RefSel3Ideal (hRefSel3Ideal := Cert.RefSel3Ideal.Gen.facts) := fun m g _ =>
  (θ_run Cert.RefSel3Ideal.defs _ _).mono (fun r h => ⟨fun c => (h c).2.2, sem_eq_zero_of_no_sems (by decide) r.2⟩)
    (Cert.RefSel3Ideal.Value.run m g)

theorem frame_refKd2 : Cert.quiescent_RefKd2Ideal (hRefKd2Ideal := Cert.RefKd2Ideal.Gen.facts) := fun m g _ =>
  (θ_run Cert.RefKd2Ideal.defs _ _).mono (fun r h => ⟨fun c => (h c).2.2.2, sem_eq_zero_of_no_sems (by decide) r.2⟩)
    (Cert.RefKd2Ideal.Value.run m g)

theorem frame_refScan2 : Cert.quiescent_RefScan2Ideal (hRefScan2Ideal := Cert.RefScan2Ideal.Gen.facts) := fun m g _ =>
  (θ_run Cert.RefScan2Ideal.defs _ _).mono (fun r h => ⟨fun c => (h c).2, sem_eq_zero_of_no_sems (by decide) r.2⟩)
    (Cert.RefScan2Ideal.Value.run m g)

theorem frame_refSel2 : Cert.quiescent_RefSel2Ideal (hRefSel2Ideal := Cert.RefSel2Ideal.Gen.facts) := fun m g _ =>
  (θ_run Cert.RefSel2Ideal.defs _ _).mono (fun r h => ⟨fun c => (h c).2.2, sem_eq_zero_of_no_sems (by decide) r.2⟩)
    (Cert.RefSel2Ideal.Value.run m g)

theorem frame_refKd1 : Cert.quiescent_RefKd1Ideal (hRefKd1Ideal := Cert.RefKd1Ideal.Gen.facts) := fun m g _ =>
  (θ_run Cert.RefKd1Ideal.defs _ _).mono (fun r h => ⟨fun c => (h c).2.2.2, sem_eq_zero_of_no_sems (by decide) r.2⟩)
    (Cert.RefKd1Ideal.Value.run m g)

theorem frame_refScan1 : Cert.quiescent_RefScan1Ideal (hRefScan1Ideal := Cert.RefScan1Ideal.Gen.facts) := fun m g _ =>
  (θ_run Cert.RefScan1Ideal.defs _ _).mono (fun r h => ⟨fun c => (h c).2, sem_eq_zero_of_no_sems (by decide) r.2⟩)
    (Cert.RefScan1Ideal.Value.run m g)

theorem frame_refSel1 : Cert.quiescent_RefSel1Ideal (hRefSel1Ideal := Cert.RefSel1Ideal.Gen.facts) := fun m g _ =>
  (θ_run Cert.RefSel1Ideal.defs _ _).mono (fun r h => ⟨fun c => (h c).2.2, sem_eq_zero_of_no_sems (by decide) r.2⟩)
    (Cert.RefSel1Ideal.Value.run m g)

theorem frame_refAttn : Cert.quiescent_RefAttnIdeal (hRefAttnIdeal := Cert.RefAttnIdeal.Gen.facts) := fun m g _ =>
  (θ_run Cert.RefAttnIdeal.defs _ _).mono (fun r h => ⟨fun c => (h c).2, sem_eq_zero_of_no_sems (by decide) r.2⟩)
    (Cert.RefAttnIdeal.Value.run m g)

/-- Every claim of the certificate. -/
theorem claim : Cert.Claim :=
  ⟨Cert.Kd4.Gen.facts,
    Cert.Kd4Ideal.Gen.facts,
    Cert.RefKd4Ideal.Gen.facts,
    Cert.Scan4.Gen.facts,
    Cert.Scan4Ideal.Gen.facts,
    Cert.RefScan4Ideal.Gen.facts,
    Cert.Sel4.Gen.facts,
    Cert.Sel4Ideal.Gen.facts,
    Cert.RefSel4Ideal.Gen.facts,
    Cert.Kd3.Gen.facts,
    Cert.Kd3Ideal.Gen.facts,
    Cert.RefKd3Ideal.Gen.facts,
    Cert.Scan3.Gen.facts,
    Cert.Scan3Ideal.Gen.facts,
    Cert.RefScan3Ideal.Gen.facts,
    Cert.Sel3.Gen.facts,
    Cert.Sel3Ideal.Gen.facts,
    Cert.RefSel3Ideal.Gen.facts,
    Cert.Kd2.Gen.facts,
    Cert.Kd2Ideal.Gen.facts,
    Cert.RefKd2Ideal.Gen.facts,
    Cert.Scan2.Gen.facts,
    Cert.Scan2Ideal.Gen.facts,
    Cert.RefScan2Ideal.Gen.facts,
    Cert.Sel2.Gen.facts,
    Cert.Sel2Ideal.Gen.facts,
    Cert.RefSel2Ideal.Gen.facts,
    Cert.Kd1.Gen.facts,
    Cert.Kd1Ideal.Gen.facts,
    Cert.RefKd1Ideal.Gen.facts,
    Cert.Scan1.Gen.facts,
    Cert.Scan1Ideal.Gen.facts,
    Cert.RefScan1Ideal.Gen.facts,
    Cert.Sel1.Gen.facts,
    Cert.Sel1Ideal.Gen.facts,
    Cert.RefSel1Ideal.Gen.facts,
    Cert.Attn.Gen.facts,
    Cert.AttnIdeal.Gen.facts,
    Cert.RefAttnIdeal.Gen.facts,
    fun m ρ _ => Cert.Kd4.Gen.frame m ρ,
    fun m ρ _ => Cert.Kd4Ideal.Gen.frame m ρ,
    frame_refKd4,
    fun m ρ _ => Cert.Scan4.Gen.frame m ρ,
    fun m ρ _ => Cert.Scan4Ideal.Gen.frame m ρ,
    frame_refScan4,
    fun m ρ _ => Cert.Sel4.Gen.frame m ρ,
    fun m ρ _ => Cert.Sel4Ideal.Gen.frame m ρ,
    frame_refSel4,
    fun m ρ _ => Cert.Kd3.Gen.frame m ρ,
    fun m ρ _ => Cert.Kd3Ideal.Gen.frame m ρ,
    frame_refKd3,
    fun m ρ _ => Cert.Scan3.Gen.frame m ρ,
    fun m ρ _ => Cert.Scan3Ideal.Gen.frame m ρ,
    frame_refScan3,
    fun m ρ _ => Cert.Sel3.Gen.frame m ρ,
    fun m ρ _ => Cert.Sel3Ideal.Gen.frame m ρ,
    frame_refSel3,
    fun m ρ _ => Cert.Kd2.Gen.frame m ρ,
    fun m ρ _ => Cert.Kd2Ideal.Gen.frame m ρ,
    frame_refKd2,
    fun m ρ _ => Cert.Scan2.Gen.frame m ρ,
    fun m ρ _ => Cert.Scan2Ideal.Gen.frame m ρ,
    frame_refScan2,
    fun m ρ _ => Cert.Sel2.Gen.frame m ρ,
    fun m ρ _ => Cert.Sel2Ideal.Gen.frame m ρ,
    frame_refSel2,
    fun m ρ _ => Cert.Kd1.Gen.frame m ρ,
    fun m ρ _ => Cert.Kd1Ideal.Gen.frame m ρ,
    frame_refKd1,
    fun m ρ _ => Cert.Scan1.Gen.frame m ρ,
    fun m ρ _ => Cert.Scan1Ideal.Gen.frame m ρ,
    frame_refScan1,
    fun m ρ _ => Cert.Sel1.Gen.frame m ρ,
    fun m ρ _ => Cert.Sel1Ideal.Gen.frame m ρ,
    frame_refSel1,
    fun m ρ _ => Cert.Attn.Gen.frame m ρ,
    fun m ρ _ => Cert.AttnIdeal.Gen.frame m ρ,
    frame_refAttn,
    trivial,
    Cert.Kd4Value.algebraic,
    trivial,
    Cert.Scan4Value.algebraic,
    trivial,
    Cert.Sel4Value.algebraic,
    trivial,
    Cert.Kd3Value.algebraic,
    trivial,
    Cert.Scan3Value.algebraic,
    trivial,
    Cert.Sel3Value.algebraic,
    trivial,
    Cert.Kd2Value.algebraic,
    trivial,
    Cert.Scan2Value.algebraic,
    trivial,
    Cert.Sel2Value.algebraic,
    trivial,
    Cert.Kd1Value.algebraic,
    trivial,
    Cert.Scan1Value.algebraic,
    trivial,
    Cert.Sel1Value.algebraic,
    Cert.AttnValue.preserves,
    Cert.AttnValue.algebraic⟩

end Cert.Proof

end
